-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v21_0)) (v2 : (c : Dev Cert.KernelIdeal.nD) → Buf (Elt Ideal) ((c.tc : Thread Cert.KernelIdeal.nD Cert.KernelIdeal.τ).loc Cert.KernelIdeal.main_v21_1)) (v3 : (c : Dev Cert.KernelIdeal.nD) → Buf (Elt Ideal) ((c.tc : Thread Cert.KernelIdeal.nD Cert.KernelIdeal.τ).loc Cert.KernelIdeal.main_v21_2)) (v4 : (c : Dev Cert.KernelIdeal.nD) → Buf (Elt Ideal) ((c.tc : Thread Cert.KernelIdeal.nD Cert.KernelIdeal.τ).loc Cert.KernelIdeal.main_v17)) (v5 : (c : Dev Cert.KernelIdeal.nD) → Buf (Elt Ideal) ((c.tc : Thread Cert.KernelIdeal.nD Cert.KernelIdeal.τ).loc Cert.KernelIdeal.main_v18)) (v6 : (c : Dev Cert.KernelIdeal.nD) → Buf (Elt Ideal) ((c.tc : Thread Cert.KernelIdeal.nD Cert.KernelIdeal.τ).loc Cert.KernelIdeal.main_v16_2)) (v7 : (c : Dev Cert.KernelIdeal.nD) → Buf (Elt Ideal) ((c.tc : Thread Cert.KernelIdeal.nD Cert.KernelIdeal.τ).loc Cert.KernelIdeal.main_v16_3)) (v8 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v21_0) = v1 c
          ∧ r.2.mem ((c.tc : Thread Cert.KernelIdeal.nD Cert.KernelIdeal.τ).loc Cert.KernelIdeal.main_v21_1) = v2 c
          ∧ r.2.mem ((c.tc : Thread Cert.KernelIdeal.nD Cert.KernelIdeal.τ).loc Cert.KernelIdeal.main_v21_2) = v3 c
          ∧ r.2.mem ((c.tc : Thread Cert.KernelIdeal.nD Cert.KernelIdeal.τ).loc Cert.KernelIdeal.main_v17) = v4 c
          ∧ r.2.mem ((c.tc : Thread Cert.KernelIdeal.nD Cert.KernelIdeal.τ).loc Cert.KernelIdeal.main_v18) = v5 c
          ∧ r.2.mem ((c.tc : Thread Cert.KernelIdeal.nD Cert.KernelIdeal.τ).loc Cert.KernelIdeal.main_v16_2) = v6 c
          ∧ r.2.mem ((c.tc : Thread Cert.KernelIdeal.nD Cert.KernelIdeal.τ).loc Cert.KernelIdeal.main_v16_3) = v7 c
          ∧ r.2.mem ((c.tc : Thread Cert.KernelIdeal.nD Cert.KernelIdeal.τ).loc Cert.KernelIdeal.main_v15) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v110) = v1 c
          ∧ r.2.mem ((c.tc : Thread Cert.ReferenceIdeal.nD Cert.ReferenceIdeal.τ).loc Cert.ReferenceIdeal.main_v111) = v2 c
          ∧ r.2.mem ((c.tc : Thread Cert.ReferenceIdeal.nD Cert.ReferenceIdeal.τ).loc Cert.ReferenceIdeal.main_v112) = v3 c
          ∧ r.2.mem ((c.tc : Thread Cert.ReferenceIdeal.nD Cert.ReferenceIdeal.τ).loc Cert.ReferenceIdeal.main_v115) = v4 c
          ∧ r.2.mem ((c.tc : Thread Cert.ReferenceIdeal.nD Cert.ReferenceIdeal.τ).loc Cert.ReferenceIdeal.main_v118) = v5 c
          ∧ r.2.mem ((c.tc : Thread Cert.ReferenceIdeal.nD Cert.ReferenceIdeal.τ).loc Cert.ReferenceIdeal.main_v119) = v6 c
          ∧ r.2.mem ((c.tc : Thread Cert.ReferenceIdeal.nD Cert.ReferenceIdeal.τ).loc Cert.ReferenceIdeal.main_v120) = v7 c
          ∧ r.2.mem ((c.tc : Thread Cert.ReferenceIdeal.nD Cert.ReferenceIdeal.τ).loc Cert.ReferenceIdeal.main_v121) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  IdealRules.named_const.Statement Cert.Kernel2Ideal.κ "mask" .f32 0xF149F2CA#32 ⊥
  ∧ IdealRules.named_const.Statement Cert.Kernel2Ideal.κ "log2e" .f32 0x3FB8AA3B#32 (((Real.log 2)⁻¹ : ℝ) : EReal)
  ∧ IdealRules.named_const.Statement Cert.Kernel2Ideal.κ "scale" .f32 0x3DD105EC#32 (((Real.sqrt 96)⁻¹ : ℝ) : EReal)
  ∧ IdealRules.named_const.Statement Cert.Kernel2Ideal.κ "ln2" .f32 0x3F317218#32 ((Real.log 2 : ℝ) : EReal)

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v16_0)) (v1 : (c : Dev Cert.Kernel2Ideal.nD) → Buf (Elt Ideal) ((c.tc : Thread Cert.Kernel2Ideal.nD Cert.Kernel2Ideal.τ).loc Cert.Kernel2Ideal.main_v17_0)) (v2 : (c : Dev Cert.Kernel2Ideal.nD) → Buf (Elt Ideal) ((c.tc : Thread Cert.Kernel2Ideal.nD Cert.Kernel2Ideal.τ).loc Cert.Kernel2Ideal.main_v20_0)) (v3 : (c : Dev Cert.Kernel2Ideal.nD) → Buf (Elt Ideal) ((c.tc : Thread Cert.Kernel2Ideal.nD Cert.Kernel2Ideal.τ).loc Cert.Kernel2Ideal.main_v20_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16_0) = v0 c
          ∧ r.2.mem ((c.tc : Thread Cert.Kernel2Ideal.nD Cert.Kernel2Ideal.τ).loc Cert.Kernel2Ideal.main_v17_0) = v1 c
          ∧ r.2.mem ((c.tc : Thread Cert.Kernel2Ideal.nD Cert.Kernel2Ideal.τ).loc Cert.Kernel2Ideal.main_v20_0) = v2 c
          ∧ r.2.mem ((c.tc : Thread Cert.Kernel2Ideal.nD Cert.Kernel2Ideal.τ).loc Cert.Kernel2Ideal.main_v20_1) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v68) = v0 c
          ∧ r.2.mem ((c.tc : Thread Cert.Reference2Ideal.nD Cert.Reference2Ideal.τ).loc Cert.Reference2Ideal.main_v70) = v1 c
          ∧ r.2.mem ((c.tc : Thread Cert.Reference2Ideal.nD Cert.Reference2Ideal.τ).loc Cert.Reference2Ideal.main_v72) = v2 c
          ∧ r.2.mem ((c.tc : Thread Cert.Reference2Ideal.nD Cert.Reference2Ideal.τ).loc Cert.Reference2Ideal.main_v74) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  IdealRules.named_const.Statement Cert.Kernel3Ideal.κ "cubic" .f32 0x3D372713#32 ((8943 / 200000 : ℝ) : EReal)
  ∧ IdealRules.named_const.Statement Cert.Kernel3Ideal.κ "cubic_3" .f32 0x3E095D4F#32 ((26829 / 200000 : ℝ) : EReal)

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)) (v2 : (c : Dev Cert.Kernel3Ideal.nD) → Buf (Elt Ideal) ((c.tc : Thread Cert.Kernel3Ideal.nD Cert.Kernel3Ideal.τ).loc Cert.Kernel3Ideal.main_v12)) (v3 : (c : Dev Cert.Kernel3Ideal.nD) → Buf (Elt Ideal) ((c.tc : Thread Cert.Kernel3Ideal.nD Cert.Kernel3Ideal.τ).loc Cert.Kernel3Ideal.main_v16)) (v4 : (c : Dev Cert.Kernel3Ideal.nD) → Buf (Elt Ideal) ((c.tc : Thread Cert.Kernel3Ideal.nD Cert.Kernel3Ideal.τ).loc Cert.Kernel3Ideal.main_v17)) (v5 : (c : Dev Cert.Kernel3Ideal.nD) → Buf (Elt Ideal) ((c.tc : Thread Cert.Kernel3Ideal.nD Cert.Kernel3Ideal.τ).loc Cert.Kernel3Ideal.main_v18_0)) (v6 : (c : Dev Cert.Kernel3Ideal.nD) → Buf (Elt Ideal) ((c.tc : Thread Cert.Kernel3Ideal.nD Cert.Kernel3Ideal.τ).loc Cert.Kernel3Ideal.main_v18_1)) (v7 : (c : Dev Cert.Kernel3Ideal.nD) → Buf (Elt Ideal) ((c.tc : Thread Cert.Kernel3Ideal.nD Cert.Kernel3Ideal.τ).loc Cert.Kernel3Ideal.main_v18_2)) (v8 : (c : Dev Cert.Kernel3Ideal.nD) → Buf (Elt Ideal) ((c.tc : Thread Cert.Kernel3Ideal.nD Cert.Kernel3Ideal.τ).loc Cert.Kernel3Ideal.main_v21)) (v9 : (c : Dev Cert.Kernel3Ideal.nD) → Buf (Elt Ideal) ((c.tc : Thread Cert.Kernel3Ideal.nD Cert.Kernel3Ideal.τ).loc Cert.Kernel3Ideal.main_v22_0)) (v10 : (c : Dev Cert.Kernel3Ideal.nD) → Buf (Elt Ideal) ((c.tc : Thread Cert.Kernel3Ideal.nD Cert.Kernel3Ideal.τ).loc Cert.Kernel3Ideal.main_v22_1)) (v11 : (c : Dev Cert.Kernel3Ideal.nD) → Buf (Elt Ideal) ((c.tc : Thread Cert.Kernel3Ideal.nD Cert.Kernel3Ideal.τ).loc Cert.Kernel3Ideal.main_v22_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_v12) = v2 c
          ∧ r.2.mem ((c.tc : Thread Cert.Kernel3Ideal.nD Cert.Kernel3Ideal.τ).loc Cert.Kernel3Ideal.main_v16) = v3 c
          ∧ r.2.mem ((c.tc : Thread Cert.Kernel3Ideal.nD Cert.Kernel3Ideal.τ).loc Cert.Kernel3Ideal.main_v17) = v4 c
          ∧ r.2.mem ((c.tc : Thread Cert.Kernel3Ideal.nD Cert.Kernel3Ideal.τ).loc Cert.Kernel3Ideal.main_v18_0) = v5 c
          ∧ r.2.mem ((c.tc : Thread Cert.Kernel3Ideal.nD Cert.Kernel3Ideal.τ).loc Cert.Kernel3Ideal.main_v18_1) = v6 c
          ∧ r.2.mem ((c.tc : Thread Cert.Kernel3Ideal.nD Cert.Kernel3Ideal.τ).loc Cert.Kernel3Ideal.main_v18_2) = v7 c
          ∧ r.2.mem ((c.tc : Thread Cert.Kernel3Ideal.nD Cert.Kernel3Ideal.τ).loc Cert.Kernel3Ideal.main_v21) = v8 c
          ∧ r.2.mem ((c.tc : Thread Cert.Kernel3Ideal.nD Cert.Kernel3Ideal.τ).loc Cert.Kernel3Ideal.main_v22_0) = v9 c
          ∧ r.2.mem ((c.tc : Thread Cert.Kernel3Ideal.nD Cert.Kernel3Ideal.τ).loc Cert.Kernel3Ideal.main_v22_1) = v10 c
          ∧ r.2.mem ((c.tc : Thread Cert.Kernel3Ideal.nD Cert.Kernel3Ideal.τ).loc Cert.Kernel3Ideal.main_v22_2) = v11 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_v107) = v1 c
          ∧ r.2.mem ((c.tc : Thread Cert.Reference3Ideal.nD Cert.Reference3Ideal.τ).loc Cert.Reference3Ideal.main_v56) = v2 c
          ∧ r.2.mem ((c.tc : Thread Cert.Reference3Ideal.nD Cert.Reference3Ideal.τ).loc Cert.Reference3Ideal.main_v110) = v3 c
          ∧ r.2.mem ((c.tc : Thread Cert.Reference3Ideal.nD Cert.Reference3Ideal.τ).loc Cert.Reference3Ideal.main_v113) = v4 c
          ∧ r.2.mem ((c.tc : Thread Cert.Reference3Ideal.nD Cert.Reference3Ideal.τ).loc Cert.Reference3Ideal.main_v114) = v5 c
          ∧ r.2.mem ((c.tc : Thread Cert.Reference3Ideal.nD Cert.Reference3Ideal.τ).loc Cert.Reference3Ideal.main_v78) = v6 c
          ∧ r.2.mem ((c.tc : Thread Cert.Reference3Ideal.nD Cert.Reference3Ideal.τ).loc Cert.Reference3Ideal.main_v115) = v7 c
          ∧ r.2.mem ((c.tc : Thread Cert.Reference3Ideal.nD Cert.Reference3Ideal.τ).loc Cert.Reference3Ideal.main_v116) = v8 c
          ∧ r.2.mem ((c.tc : Thread Cert.Reference3Ideal.nD Cert.Reference3Ideal.τ).loc Cert.Reference3Ideal.main_v106) = v9 c
          ∧ r.2.mem ((c.tc : Thread Cert.Reference3Ideal.nD Cert.Reference3Ideal.τ).loc Cert.Reference3Ideal.main_v117) = v10 c
          ∧ r.2.mem ((c.tc : Thread Cert.Reference3Ideal.nD Cert.Reference3Ideal.τ).loc Cert.Reference3Ideal.main_v118) = v11 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v32)) (v1 : (c : Dev Cert.Kernel4Ideal.nD) → Buf (Elt Ideal) ((c.tc : Thread Cert.Kernel4Ideal.nD Cert.Kernel4Ideal.τ).loc Cert.Kernel4Ideal.main_v36)) (v2 : (c : Dev Cert.Kernel4Ideal.nD) → Buf (Elt Ideal) ((c.tc : Thread Cert.Kernel4Ideal.nD Cert.Kernel4Ideal.τ).loc Cert.Kernel4Ideal.main_v37)) (v3 : (c : Dev Cert.Kernel4Ideal.nD) → Buf (Elt Ideal) ((c.tc : Thread Cert.Kernel4Ideal.nD Cert.Kernel4Ideal.τ).loc Cert.Kernel4Ideal.main_v38)) (v4 : (c : Dev Cert.Kernel4Ideal.nD) → Buf (Elt Ideal) ((c.tc : Thread Cert.Kernel4Ideal.nD Cert.Kernel4Ideal.τ).loc Cert.Kernel4Ideal.main_v39)) (v5 : (c : Dev Cert.Kernel4Ideal.nD) → Buf (Elt Ideal) ((c.tc : Thread Cert.Kernel4Ideal.nD Cert.Kernel4Ideal.τ).loc Cert.Kernel4Ideal.main_v41)) (v6 : (c : Dev Cert.Kernel4Ideal.nD) → Buf (Elt Ideal) ((c.tc : Thread Cert.Kernel4Ideal.nD Cert.Kernel4Ideal.τ).loc Cert.Kernel4Ideal.main_v42_0)) (v7 : (c : Dev Cert.Kernel4Ideal.nD) → Buf (Elt Ideal) ((c.tc : Thread Cert.Kernel4Ideal.nD Cert.Kernel4Ideal.τ).loc Cert.Kernel4Ideal.main_v42_1)) (v8 : (c : Dev Cert.Kernel4Ideal.nD) → Buf (Elt Ideal) ((c.tc : Thread Cert.Kernel4Ideal.nD Cert.Kernel4Ideal.τ).loc Cert.Kernel4Ideal.main_v42_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v32) = v0 c
          ∧ r.2.mem ((c.tc : Thread Cert.Kernel4Ideal.nD Cert.Kernel4Ideal.τ).loc Cert.Kernel4Ideal.main_v36) = v1 c
          ∧ r.2.mem ((c.tc : Thread Cert.Kernel4Ideal.nD Cert.Kernel4Ideal.τ).loc Cert.Kernel4Ideal.main_v37) = v2 c
          ∧ r.2.mem ((c.tc : Thread Cert.Kernel4Ideal.nD Cert.Kernel4Ideal.τ).loc Cert.Kernel4Ideal.main_v38) = v3 c
          ∧ r.2.mem ((c.tc : Thread Cert.Kernel4Ideal.nD Cert.Kernel4Ideal.τ).loc Cert.Kernel4Ideal.main_v39) = v4 c
          ∧ r.2.mem ((c.tc : Thread Cert.Kernel4Ideal.nD Cert.Kernel4Ideal.τ).loc Cert.Kernel4Ideal.main_v41) = v5 c
          ∧ r.2.mem ((c.tc : Thread Cert.Kernel4Ideal.nD Cert.Kernel4Ideal.τ).loc Cert.Kernel4Ideal.main_v42_0) = v6 c
          ∧ r.2.mem ((c.tc : Thread Cert.Kernel4Ideal.nD Cert.Kernel4Ideal.τ).loc Cert.Kernel4Ideal.main_v42_1) = v7 c
          ∧ r.2.mem ((c.tc : Thread Cert.Kernel4Ideal.nD Cert.Kernel4Ideal.τ).loc Cert.Kernel4Ideal.main_v42_2) = v8 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v55) = v0 c
          ∧ r.2.mem ((c.tc : Thread Cert.Reference4Ideal.nD Cert.Reference4Ideal.τ).loc Cert.Reference4Ideal.main_v19) = v1 c
          ∧ r.2.mem ((c.tc : Thread Cert.Reference4Ideal.nD Cert.Reference4Ideal.τ).loc Cert.Reference4Ideal.main_v59) = v2 c
          ∧ r.2.mem ((c.tc : Thread Cert.Reference4Ideal.nD Cert.Reference4Ideal.τ).loc Cert.Reference4Ideal.main_v66) = v3 c
          ∧ r.2.mem ((c.tc : Thread Cert.Reference4Ideal.nD Cert.Reference4Ideal.τ).loc Cert.Reference4Ideal.main_v68) = v4 c
          ∧ r.2.mem ((c.tc : Thread Cert.Reference4Ideal.nD Cert.Reference4Ideal.τ).loc Cert.Reference4Ideal.main_v76) = v5 c
          ∧ r.2.mem ((c.tc : Thread Cert.Reference4Ideal.nD Cert.Reference4Ideal.τ).loc Cert.Reference4Ideal.main_v49) = v6 c
          ∧ r.2.mem ((c.tc : Thread Cert.Reference4Ideal.nD Cert.Reference4Ideal.τ).loc Cert.Reference4Ideal.main_v77) = v7 c
          ∧ r.2.mem ((c.tc : Thread Cert.Reference4Ideal.nD Cert.Reference4Ideal.τ).loc Cert.Reference4Ideal.main_v78) = v8 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v14)) (v1 : (c : Dev Cert.Kernel5Ideal.nD) → Buf (Elt Ideal) ((c.tc : Thread Cert.Kernel5Ideal.nD Cert.Kernel5Ideal.τ).loc Cert.Kernel5Ideal.main_v15)) (v2 : (c : Dev Cert.Kernel5Ideal.nD) → Buf (Elt Ideal) ((c.tc : Thread Cert.Kernel5Ideal.nD Cert.Kernel5Ideal.τ).loc Cert.Kernel5Ideal.main_v16)) (v3 : (c : Dev Cert.Kernel5Ideal.nD) → Buf (Elt Ideal) ((c.tc : Thread Cert.Kernel5Ideal.nD Cert.Kernel5Ideal.τ).loc Cert.Kernel5Ideal.main_v17)) (v4 : (c : Dev Cert.Kernel5Ideal.nD) → Buf (Elt Ideal) ((c.tc : Thread Cert.Kernel5Ideal.nD Cert.Kernel5Ideal.τ).loc Cert.Kernel5Ideal.main_v18)) (v5 : (c : Dev Cert.Kernel5Ideal.nD) → Buf (Elt Ideal) ((c.tc : Thread Cert.Kernel5Ideal.nD Cert.Kernel5Ideal.τ).loc Cert.Kernel5Ideal.main_v19)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v14) = v0 c
          ∧ r.2.mem ((c.tc : Thread Cert.Kernel5Ideal.nD Cert.Kernel5Ideal.τ).loc Cert.Kernel5Ideal.main_v15) = v1 c
          ∧ r.2.mem ((c.tc : Thread Cert.Kernel5Ideal.nD Cert.Kernel5Ideal.τ).loc Cert.Kernel5Ideal.main_v16) = v2 c
          ∧ r.2.mem ((c.tc : Thread Cert.Kernel5Ideal.nD Cert.Kernel5Ideal.τ).loc Cert.Kernel5Ideal.main_v17) = v3 c
          ∧ r.2.mem ((c.tc : Thread Cert.Kernel5Ideal.nD Cert.Kernel5Ideal.τ).loc Cert.Kernel5Ideal.main_v18) = v4 c
          ∧ r.2.mem ((c.tc : Thread Cert.Kernel5Ideal.nD Cert.Kernel5Ideal.τ).loc Cert.Kernel5Ideal.main_v19) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_v1) = v1 c
          ∧ r.2.mem ((c.tc : Thread Cert.Reference5Ideal.nD Cert.Reference5Ideal.τ).loc Cert.Reference5Ideal.main_v7) = v2 c
          ∧ r.2.mem ((c.tc : Thread Cert.Reference5Ideal.nD Cert.Reference5Ideal.τ).loc Cert.Reference5Ideal.main_v15) = v3 c
          ∧ r.2.mem ((c.tc : Thread Cert.Reference5Ideal.nD Cert.Reference5Ideal.τ).loc Cert.Reference5Ideal.main_v4) = v4 c
          ∧ r.2.mem ((c.tc : Thread Cert.Reference5Ideal.nD Cert.Reference5Ideal.τ).loc Cert.Reference5Ideal.main_v17) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite2 : Cert.Pre_finite2.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S4096x1024 : Shape := ⟨2, ![4096, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S3x5632 : S_.BroadcastsInDim S3x5632 (![] : Fin 0 → Fin S3x5632.rank)
  reducesTo_S3x5632_S_d0_1 : S3x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S4096x1024 .f32) (main_v3 : IVec S_ 1) (main_v7 : IVec S_ 1) (main_v11 : IVec S_ 1) (main_v15 : IVec S_ 1) : IVec S_ 1 :=
  let main_v16 : FVec F S2816x1024 .f32 := Host.absf main_arg4
  let main_cst_6 : FVec F S_ .f32 := constant S_ .f32 0x7F800000#32
  let main_v17 : FVec F S2816x1024 .f32 := broadcastInDim S2816x1024 ![] bcast_S_S2816x1024 main_cst_6
  let main_v18 : IVec S2816x1024 1 := cmpf .olt main_v16 main_v17
  let main_c_7 : IVec S_ 1 := constantI S_ 1 1#1
  let main_v19 : IVec S_ 1 := (fun x v => Host.reduce IntOp.andi x v reducesTo_S2816x1024_S_d0_1 h_S_) main_v18 main_c_7
  let main_v20 : FVec F S4096x1024 .f32 := Host.absf main_arg5
  let main_cst_8 : FVec F S_ .f32 := constant S_ .f32 0x7F800000#32
  let main_v21 : FVec F S4096x1024 .f32 := broadcastInDim S4096x1024 ![] bcast_S_S4096x1024 main_cst_8
  let main_v22 : IVec S4096x1024 1 := cmpf .olt main_v20 main_v21
  let main_c_9 : IVec S_ 1 := constantI S_ 1 1#1
  let main_v23 : IVec S_ 1 := (fun x v => Host.reduce IntOp.andi x v reducesTo_S4096x1024_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S4096x1024 .f32) (main_arg1 : FVec F S1024 .f32) (main_arg2 : FVec F S1024x5632 .f32) (main_arg3 : FVec F S3x5632 .f32) (main_arg4 : FVec F S2816x1024 .f32) (main_arg5 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x5632 .f32 := Host.absf main_arg2
  let main_cst_2 : FVec F S_ .f32 := constant S_ .f32 0x7F800000#32
  let main_v9 : FVec F S1024x5632 .f32 := broadcastInDim S1024x5632 ![] bcast_S_S1024x5632 main_cst_2
  let main_v10 : IVec S1024x5632 1 := cmpf .olt main_v8 main_v9
  let main_c_3 : IVec S_ 1 := constantI S_ 1 1#1
  let main_v11 : IVec S_ 1 := (fun x v => Host.reduce IntOp.andi x v reducesTo_S1024x5632_S_d0_1 h_S_) main_v10 main_c_3
  let main_v12 : FVec F S3x5632 .f32 := Host.absf main_arg3
  let main_cst_4 : FVec F S_ .f32 := constant S_ .f32 0x7F800000#32
  let main_v13 : FVec F S3x5632 .f32 := broadcastInDim S3x5632 ![] bcast_S_S3x5632 main_cst_4
  let main_v14 : IVec S3x5632 1 := cmpf .olt main_v12 main_v13
  let main_c_5 : IVec S_ 1 := constantI S_ 1 1#1
  let main_v15 : IVec S_ 1 := (fun x v => Host.reduce IntOp.andi x v reducesTo_S3x5632_S_d0_1 h_S_) main_v14 main_c_5
  fn_part1 (F := F) main_arg4 main_arg5 main_v3 main_v7 main_v11 main_v15
-- ==== Pre_finite2.lean ====
abbrev S4096x8x96 : Shape := ⟨3, ![4096, 8, 96]⟩
abbrev S4096x8x64 : Shape := ⟨3, ![4096, 8, 64]⟩
abbrev S_ : Shape := ⟨0, ![]⟩

class Facts : Prop where
  bcast_S_S4096x8x96 : S_.BroadcastsInDim S4096x8x96 (![] : Fin 0 → Fin S4096x8x96.rank)
  reducesTo_S4096x8x96_S_d0_1_2 : S4096x8x96.ReducesTo [0, 1, 2] S_
  h_S_ : 0 < S_.numel
  bcast_S_S4096x8x64 : S_.BroadcastsInDim S4096x8x64 (![] : Fin 0 → Fin S4096x8x64.rank)
  reducesTo_S4096x8x64_S_d0_1_2 : S4096x8x64.ReducesTo [0, 1, 2] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S4096x8x96 .f32) (main_arg1 : FVec F S4096x8x96 .f32) (main_arg2 : FVec F S4096x8x64 .f32) (main_arg3 : FVec F S4096x8x64 .f32) : IVec S_ 1 :=
  let main_v0 : FVec F S4096x8x96 .f32 := Host.absf main_arg0
  let main_cst : FVec F S_ .f32 := constant S_ .f32 0x7F800000#32
  let main_v1 : FVec F S4096x8x96 .f32 := broadcastInDim S4096x8x96 ![] bcast_S_S4096x8x96 main_cst
  let main_v2 : IVec S4096x8x96 1 := cmpf .olt main_v0 main_v1
  let main_c : IVec S_ 1 := constantI S_ 1 1#1
  let main_v3 : IVec S_ 1 := (fun x v => Host.reduce IntOp.andi x v reducesTo_S4096x8x96_S_d0_1_2 h_S_) main_v2 main_c
  let main_v4 : FVec F S4096x8x96 .f32 := Host.absf main_arg1
  let main_cst_0 : FVec F S_ .f32 := constant S_ .f32 0x7F800000#32
  let main_v5 : FVec F S4096x8x96 .f32 := broadcastInDim S4096x8x96 ![] bcast_S_S4096x8x96 main_cst_0
  let main_v6 : IVec S4096x8x96 1 := cmpf .olt main_v4 main_v5
  let main_c_1 : IVec S_ 1 := constantI S_ 1 1#1
  let main_v7 : IVec S_ 1 := (fun x v => Host.reduce IntOp.andi x v reducesTo_S4096x8x96_S_d0_1_2 h_S_) main_v6 main_c_1
  let main_v8 : FVec F S4096x8x64 .f32 := Host.absf main_arg2
  let main_cst_2 : FVec F S_ .f32 := constant S_ .f32 0x7F800000#32
  let main_v9 : FVec F S4096x8x64 .f32 := broadcastInDim S4096x8x64 ![] bcast_S_S4096x8x64 main_cst_2
  let main_v10 : IVec S4096x8x64 1 := cmpf .olt main_v8 main_v9
  let main_c_3 : IVec S_ 1 := constantI S_ 1 1#1
  let main_v11 : IVec S_ 1 := (fun x v => Host.reduce IntOp.andi x v reducesTo_S4096x8x64_S_d0_1_2 h_S_) main_v10 main_c_3
  let main_v12 : FVec F S4096x8x64 .f32 := Host.absf main_arg3
  let main_cst_4 : FVec F S_ .f32 := constant S_ .f32 0x7F800000#32
  let main_v13 : FVec F S4096x8x64 .f32 := broadcastInDim S4096x8x64 ![] bcast_S_S4096x8x64 main_cst_4
  let main_v14 : IVec S4096x8x64 1 := cmpf .olt main_v12 main_v13
  let main_c_5 : IVec S_ 1 := constantI S_ 1 1#1
  let main_v15 : IVec S_ 1 := (fun x v => Host.reduce IntOp.andi x v reducesTo_S4096x8x64_S_d0_1_2 h_S_) main_v14 main_c_5
  fn_part1 (F := F) main_v3 main_v7 main_v11 main_v15
-- ==== Pre_finite3.lean ====
abbrev S4096x1024 : Shape := ⟨2, ![4096, 1024]⟩
abbrev S1024 : Shape := ⟨1, ![1024]⟩
abbrev S1024x1024 : Shape := ⟨2, ![1024, 1024]⟩
abbrev S1024x2048 : Shape := ⟨2, ![1024, 2048]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x2048 : S_.BroadcastsInDim S1024x2048 (![] : Fin 0 → Fin S1024x2048.rank)
  reducesTo_S1024x2048_S_d0_1 : S1024x2048.ReducesTo [0, 1] S_

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : IVec S_ 1 := andi main_v3 main_v7
  let main_v33 : IVec S_ 1 := andi main_v32 main_v11
  let main_v34 : IVec S_ 1 := andi main_v33 main_v15
  let main_v35 : IVec S_ 1 := andi main_v34 main_v19
  let main_v36 : IVec S_ 1 := andi main_v35 main_v23
  let main_v37 : IVec S_ 1 := andi main_v36 main_v27
  let main_v38 : IVec S_ 1 := andi main_v37 main_v31
  main_v38

def fn_part1 {F : FTy → Type} [FloatOps F] (main_arg4 : FVec F S1024 .f32) (main_arg5 : FVec F S1024x2048 .f32) (main_arg6 : FVec F S4096x1024 .f32) (main_arg7 : FVec F S4096x1024 .f32) (main_v3 : IVec S_ 1) (main_v7 : IVec S_ 1) (main_v11 : IVec S_ 1) (main_v15 : IVec S_ 1) : IVec S_ 1 :=
  let main_v16 : FVec F S1024 .f32 := Host.absf main_arg4
  let main_cst_6 : FVec F S_ .f32 := constant S_ .f32 0x7F800000#32
  let main_v17 : FVec F S1024 .f32 := broadcastInDim S1024 ![] bcast_S_S1024 main_cst_6
  let main_v18 : IVec S1024 1 := cmpf .olt main_v16 main_v17
  let main_c_7 : IVec S_ 1 := constantI S_ 1 1#1
  let main_v19 : IVec S_ 1 := (fun x v => Host.reduce IntOp.andi x v reducesTo_S1024_S_d0 h_S_) main_v18 main_c_7
  let main_v20 : FVec F S1024x2048 .f32 := Host.absf main_arg5
  let main_cst_8 : FVec F S_ .f32 := constant S_ .f32 0x7F800000#32
  let main_v21 : FVec F S1024x2048 .f32 := broadcastInDim S1024x2048 ![] bcast_S_S1024x2048 main_cst_8
  let main_v22 : IVec S1024x2048 1 := cmpf .olt main_v20 main_v21
  let main_c_9 : IVec S_ 1 := constantI S_ 1 1#1
  let main_v23 : IVec S_ 1 := (fun x v => Host.reduce IntOp.andi x v reducesTo_S1024x2048_S_d0_1 h_S_) main_v22 main_c_9
  let main_v24 : FVec F S4096x1024 .f32 := Host.absf main_arg6
  let main_cst_10 : FVec F S_ .f32 := constant S_ .f32 0x7F800000#32
  let main_v25 : FVec F S4096x1024 .f32 := broadcastInDim S4096x1024 ![] bcast_S_S4096x1024 main_cst_10
  let main_v26 : IVec S4096x1024 1 := cmpf .olt main_v24 main_v25
  let main_c_11 : IVec S_ 1 := constantI S_ 1 1#1
  let main_v27 : IVec S_ 1 := (fun x v => Host.reduce IntOp.andi x v reducesTo_S4096x1024_S_d0_1 h_S_) main_v26 main_c_11
  let main_v28 : FVec F S4096x1024 .f32 := Host.absf main_arg7
  let main_cst_12 : FVec F S_ .f32 := constant S_ .f32 0x7F800000#32
  let main_v29 : FVec F S4096x1024 .f32 := broadcastInDim S4096x1024 ![] bcast_S_S4096x1024 main_cst_12
  let main_v30 : IVec S4096x1024 1 := cmpf .olt main_v28 main_v29
  let main_c_13 : IVec S_ 1 := constantI S_ 1 1#1
  let main_v31 : IVec S_ 1 := (fun x v => Host.reduce IntOp.andi x v reducesTo_S4096x1024_S_d0_1 h_S_) main_v30 main_c_13
  fn_part2 (F := F) main_v3 main_v7 main_v11 main_v15 main_v19 main_v23 main_v27 main_v31

def fn {F : FTy → Type} [FloatOps F] (main_arg0 : FVec F S4096x1024 .f32) (main_arg1 : FVec F S1024 .f32) (main_arg2 : FVec F S1024x1024 .f32) (main_arg3 : FVec F S4096x1024 .f32) (main_arg4 : FVec F S1024 .f32) (main_arg5 : FVec F S1024x2048 .f32) (main_arg6 : FVec F S4096x1024 .f32) (main_arg7 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x1024 .f32 := Host.absf main_arg2
  let main_cst_2 : FVec F S_ .f32 := constant S_ .f32 0x7F800000#32
  let main_v9 : FVec F S1024x1024 .f32 := broadcastInDim S1024x1024 ![] bcast_S_S1024x1024 main_cst_2
  let main_v10 : IVec S1024x1024 1 := cmpf .olt main_v8 main_v9
  let main_c_3 : IVec S_ 1 := constantI S_ 1 1#1
  let main_v11 : IVec S_ 1 := (fun x v => Host.reduce IntOp.andi x v reducesTo_S1024x1024_S_d0_1 h_S_) main_v10 main_c_3
  let main_v12 : FVec F S4096x1024 .f32 := Host.absf main_arg3
  let main_cst_4 : FVec F S_ .f32 := constant S_ .f32 0x7F800000#32
  let main_v13 : FVec F S4096x1024 .f32 := broadcastInDim S4096x1024 ![] bcast_S_S4096x1024 main_cst_4
  let main_v14 : IVec S4096x1024 1 := cmpf .olt main_v12 main_v13
  let main_c_5 : IVec S_ 1 := constantI S_ 1 1#1
  let main_v15 : IVec S_ 1 := (fun x v => Host.reduce IntOp.andi x v reducesTo_S4096x1024_S_d0_1 h_S_) main_v14 main_c_5
  fn_part1 (F := F) main_arg4 main_arg5 main_arg6 main_arg7 main_v3 main_v7 main_v11 main_v15
-- ==== Kernel.lean ====
abbrev S4096x1024 : Shape := ⟨2, ![4096, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S5632x1024 : Shape := ⟨2, ![5632, 1024]⟩
abbrev S1x1024 : Shape := ⟨2, ![1, 1024]⟩
abbrev S3x2816 : Shape := ⟨2, ![3, 2816]⟩
abbrev S1024x1024 : Shape := ⟨2, ![1024, 1024]⟩
abbrev S1024x1 : Shape := ⟨2, ![1024, 1]⟩
abbrev S4096x2816 : Shape := ⟨2, ![4096, 2816]⟩
abbrev S1024x2816 : Shape := ⟨2, ![1024, 2816]⟩
abbrev S4096x128 : Shape := ⟨2, ![4096, 128]⟩
abbrev S3x128 : Shape := ⟨2, ![3, 128]⟩
abbrev S1x128 : Shape := ⟨2, ![1, 128]⟩
abbrev S8x128 : Shape := ⟨2, ![8, 128]⟩
abbrev S4088x128 : Shape := ⟨2, ![4088, 128]⟩
abbrev S1408x1024 : Shape := ⟨2, ![1408, 1024]⟩
abbrev S1024x1408 : Shape := ⟨2, ![1024, 1408]⟩
abbrev S4096x256 : Shape := ⟨2, ![4096, 256]⟩
abbrev S256x1024 : Shape := ⟨2, ![256, 1024]⟩
abbrev S128 : Shape := ⟨1, ![128]⟩

abbrev nBuf : Space → Nat
  | .hbm => 33
  | .vmem => 95
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S2816x1024, .f32⟩
  | .hbm, ⟨5, _⟩ => ⟨S4096x1024, .f32⟩
  | .hbm, ⟨6, _⟩ => ⟨S1024x5632, .bf16⟩
  | .hbm, ⟨7, _⟩ => ⟨S5632x1024, .bf16⟩
  | .hbm, ⟨8, _⟩ => ⟨S1x1024, .f32⟩
  | .hbm, ⟨9, _⟩ => ⟨S2816x1024, .bf16⟩
  | .hbm, ⟨10, _⟩ => ⟨S2816x1024, .bf16⟩
  | .hbm, ⟨11, _⟩ => ⟨S3x2816, .f32⟩
  | .hbm, ⟨12, _⟩ => ⟨S3x2816, .f32⟩
  | .hbm, ⟨13, _⟩ => ⟨S2816x1024, .bf16⟩
  | .hbm, ⟨14, _⟩ => ⟨S4096x1024, .bf16⟩
  | .hbm, ⟨15, _⟩ => ⟨S4096x2816, .f32⟩
  | .hbm, ⟨16, _⟩ => ⟨S4096x2816, .f32⟩
  | .hbm, ⟨17, _⟩ => ⟨S4096x2816, .bf16⟩
  | .hbm, ⟨18, _⟩ => ⟨S4096x1024, .f32⟩
  | .hbm, ⟨19, _⟩ => ⟨S4096x1024, .bf16⟩
  | .hbm, ⟨20, _⟩ => ⟨S4096x2816, .bf16⟩
  | .hbm, ⟨21, _⟩ => ⟨S2816x1024, .bf16⟩
  | .hbm, ⟨22, _⟩ => ⟨S4096x2816, .bf16⟩
  | .hbm, ⟨23, _⟩ => ⟨S4096x2816, .bf16⟩
  | .hbm, ⟨24, _⟩ => ⟨S3x2816, .f32⟩
  | .hbm, ⟨25, _⟩ => ⟨S3x2816, .f32⟩
  | .hbm, ⟨26, _⟩ => ⟨S2816x1024, .bf16⟩
  | .hbm, ⟨27, _⟩ => ⟨S2816x1024, .bf16⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .bf16⟩
  | .hbm, ⟨32, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S2816x1024, .bf16⟩
  | .local _ .vmem, ⟨8, _⟩ => ⟨S1024x2816, .f32⟩
  | .local _ .vmem, ⟨9, _⟩ => ⟨S1024x2816, .f32⟩
  | .local _ .vmem, ⟨10, _⟩ => ⟨S1024x1024, .bf16⟩
  | .local _ .vmem, ⟨11, _⟩ => ⟨S1024x1024, .bf16⟩
  | .local _ .vmem, ⟨12, _⟩ => ⟨S2816x1024, .bf16⟩
  | .local _ .vmem, ⟨13, _⟩ => ⟨S1024x2816, .f32⟩
  | .local _ .vmem, ⟨14, _⟩ => ⟨S1024x2816, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | .local _ .vmem, ⟨18, _⟩ => ⟨S4096x128, .f32⟩
  | .local _ .vmem, ⟨19, _⟩ => ⟨S3x128, .f32⟩
  | .local _ .vmem, ⟨20, _⟩ => ⟨S3x128, .f32⟩
  | .local _ .vmem, ⟨21, _⟩ => ⟨S3x128, .f32⟩
  | .local _ .vmem, ⟨22, _⟩ => ⟨S3x128, .f32⟩
  | .local _ .vmem, ⟨23, _⟩ => ⟨S4096x128, .bf16⟩
  | .local _ .vmem, ⟨24, _⟩ => ⟨S4096x128, .bf16⟩
  | .local _ .vmem, ⟨25, _⟩ => ⟨S1024x2816, .bf16⟩
  | .local _ .vmem, ⟨26, _⟩ => ⟨S1024x2816, .bf16⟩
  | .local _ .vmem, ⟨27, _⟩ => ⟨S2816x1024, .bf16⟩
  | .local _ .vmem, ⟨28, _⟩ => ⟨S1024x1024, .f32⟩
  | .local _ .vmem, ⟨29, _⟩ => ⟨S1024x1024, .f32⟩
  | .local _ .vmem, ⟨30, _⟩ => ⟨S1024x1024, .f32⟩
  | .local _ .vmem, ⟨31, _⟩ => ⟨S1024x1024, .f32⟩
  | .local _ .vmem, ⟨32, _⟩ => ⟨S1024x1024, .bf16⟩
  | .local _ .vmem, ⟨33, _⟩ => ⟨S1024x1024, .bf16⟩
  | .local _ .vmem, ⟨34, _⟩ => ⟨S1408x1024, .bf16⟩
  | .local _ .vmem, ⟨35, _⟩ => ⟨S1408x1024, .bf16⟩
  | .local _ .vmem, ⟨36, _⟩ => ⟨S1024x1408, .bf16⟩
  | .local _ .vmem, ⟨37, _⟩ => ⟨S1024x1408, .bf16⟩
  | .local _ .vmem, ⟨38, _⟩ => ⟨S4096x256, .bf16⟩
  | .local _ .vmem, ⟨39, _⟩ => ⟨S4096x256, .bf16⟩
  | .local _ .vmem, ⟨40, _⟩ => ⟨S4096x1024, .bf16⟩
  | .local _ .vmem, ⟨41, _⟩ => ⟨S256x1024, .bf16⟩
  | .local _ .vmem, ⟨42, _⟩ => ⟨S256x1024, .bf16⟩
  | .local _ .vmem, ⟨43, _⟩ => ⟨S4096x128, .bf16⟩
  | .local _ .vmem, ⟨44, _⟩ => ⟨S4096x128, .bf16⟩
  | .local _ .vmem, ⟨45, _⟩ => ⟨S4096x128, .f32⟩
  | .local _ .vmem, ⟨46, _⟩ => ⟨S4096x128, .f32⟩
  | .local _ .vmem, ⟨47, _⟩ => ⟨S4096x128, .f32⟩
  | .local _ .vmem, ⟨48, _⟩ => ⟨S4096x128, .f32⟩
  | .local _ .vmem, ⟨49, _⟩ => ⟨S3x128, .f32⟩
  | .local _ .vmem, ⟨50, _⟩ => ⟨S3x128, .f32⟩
  | .local _ .vmem, ⟨51, _⟩ => ⟨S3x128, .f32⟩
  | .local _ .vmem, ⟨52, _⟩ => ⟨S3x128, .f32⟩
  | .local _ .vmem, ⟨53, _⟩ => ⟨S4096x128, .bf16⟩
  | .local _ .vmem, ⟨54, _⟩ => ⟨S4096x128, .bf16⟩
  | .local _ .vmem, ⟨55, _⟩ => ⟨S4096x128, .bf16⟩
  | .local _ .vmem, ⟨56, _⟩ => ⟨S4096x128, .bf16⟩
  | .local _ .vmem, ⟨57, _⟩ => ⟨S3x128, .f32⟩
  | .local _ .vmem, ⟨58, _⟩ => ⟨S3x128, .f32⟩
  | .local _ .vmem, ⟨59, _⟩ => ⟨S3x128, .f32⟩
  | .local _ .vmem, ⟨60, _⟩ => ⟨S3x128, .f32⟩
  | .local _ .vmem, ⟨61, _⟩ => ⟨S4096x256, .bf16⟩
  | .local _ .vmem, ⟨62, _⟩ => ⟨S4096x256, .bf16⟩
  | .local _ .vmem, ⟨63, _⟩ => ⟨S4096x1024, .bf16⟩
  | .local _ .vmem, ⟨64, _⟩ => ⟨S256x1024, .bf16⟩
  | .local _ .vmem, ⟨65, _⟩ => ⟨S256x1024, .bf16⟩
  | .local _ .vmem, ⟨66, _⟩ => ⟨S4096x256, .bf16⟩
  | .local _ .vmem, ⟨67, _⟩ => ⟨S4096x256, .bf16⟩
  | .local _ .vmem, ⟨68, _⟩ => ⟨S4096x1024, .bf16⟩
  | .local _ .vmem, ⟨69, _⟩ => ⟨S256x1024, .bf16⟩
  | .local _ .vmem, ⟨70, _⟩ => ⟨S256x1024, .bf16⟩
  | .local _ .vmem, ⟨71, _⟩ => ⟨S1024x2816, .bf16⟩
  | .local _ .vmem, ⟨72, _⟩ => ⟨S1024x2816, .bf16⟩
  | .local _ .vmem, ⟨73, _⟩ => ⟨S2816x1024, .bf16⟩
  | .local _ .vmem, ⟨74, _⟩ => ⟨S1024x1024, .f32⟩
  | .local _ .vmem, ⟨75, _⟩ => ⟨S1024x1024, .f32⟩
  | .local _ .vmem, ⟨76, _⟩ => ⟨S1024x2816, .bf16⟩
  | .local _ .vmem, ⟨77, _⟩ => ⟨S1024x2816, .bf16⟩
  | .local _ .vmem, ⟨78, _⟩ => ⟨S2816x1024, .bf16⟩
  | .local _ .vmem, ⟨79, _⟩ => ⟨S1024x1024, .f32⟩
  | .local _ .vmem, ⟨80, _⟩ => ⟨S1024x1024, .f32⟩
  | .local _ .vmem, ⟨81, _⟩ => ⟨S1024x1024, .f32⟩
  | .local _ .vmem, ⟨82, _⟩ => ⟨S1024x1024, .f32⟩
  | .local _ .vmem, ⟨83, _⟩ => ⟨S1024x1024, .f32⟩
  | .local _ .vmem, ⟨84, _⟩ => ⟨S1024x1024, .f32⟩
  | .local _ .vmem, ⟨85, _⟩ => ⟨S1024x1024, .f32⟩
  | .local _ .vmem, ⟨86, _⟩ => ⟨S1024x1024, .f32⟩
  | .local _ .vmem, ⟨87, _⟩ => ⟨S1x1024, .f32⟩
  | .local _ .vmem, ⟨88, _⟩ => ⟨S1024x1024, .f32⟩
  | .local _ .vmem, ⟨89, _⟩ => ⟨S1024x1024, .f32⟩
  | .local _ .vmem, ⟨90, _⟩ => ⟨S1024x1024, .f32⟩
  | .local _ .vmem, ⟨91, _⟩ => ⟨S1024x1024, .f32⟩
  | .local _ .vmem, ⟨92, _⟩ => ⟨S1024x1024, .bf16⟩
  | .local _ .vmem, ⟨93, _⟩ => ⟨S1024x1024, .bf16⟩
  | .local _ .vmem, ⟨94, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | _, _ => false

abbrev semScoped : Fin 0 → Bool
  | ⟨_, h⟩ => absurd h (Nat.not_lt_zero _)

abbrev dmaSemScoped : Fin 95 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | _ => false

abbrev sig : RefSig :=
  ofTc nBuf bufTy 0 95 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16_0 : Ref sig .tc := ⟨.hbm, 22, rfl⟩
abbrev main_v16_1 : Ref sig .tc := ⟨.hbm, 23, rfl⟩
abbrev main_v16_2 : Ref sig .tc := ⟨.hbm, 24, rfl⟩
abbrev main_v16_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev main_v21_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc3_stg4_0 : Ref sig .tc := ⟨.vmem, 23, rfl⟩
abbrev cc3_stg4_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg3_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg2_1 : Ref sig .tc := ⟨.vmem, 42, rfl⟩
abbrev cc7_stg0_0 : Ref sig .tc := ⟨.vmem, 43, rfl⟩
abbrev cc7_stg0_1 : Ref sig .tc := ⟨.vmem, 44, rfl⟩
abbrev cc7_stg1_0 : Ref sig .tc := ⟨.vmem, 45, rfl⟩
abbrev cc7_stg1_1 : Ref sig .tc := ⟨.vmem, 46, rfl⟩
abbrev cc7_stg2_0 : Ref sig .tc := ⟨.vmem, 47, rfl⟩
abbrev cc7_stg2_1 : Ref sig .tc := ⟨.vmem, 48, rfl⟩
abbrev cc7_stg3_0 : Ref sig .tc := ⟨.vmem, 49, rfl⟩
abbrev cc7_stg3_1 : Ref sig .tc := ⟨.vmem, 50, rfl⟩
abbrev cc7_stg4_0 : Ref sig .tc := ⟨.vmem, 51, rfl⟩
abbrev cc7_stg4_1 : Ref sig .tc := ⟨.vmem, 52, rfl⟩
abbrev cc7_stg5_0 : Ref sig .tc := ⟨.vmem, 53, rfl⟩
abbrev cc7_stg5_1 : Ref sig .tc := ⟨.vmem, 54, rfl⟩
abbrev cc7_stg6_0 : Ref sig .tc := ⟨.vmem, 55, rfl⟩
abbrev cc7_stg6_1 : Ref sig .tc := ⟨.vmem, 56, rfl⟩
abbrev cc7_stg7_0 : Ref sig .tc := ⟨.vmem, 57, rfl⟩
abbrev cc7_stg7_1 : Ref sig .tc := ⟨.vmem, 58, rfl⟩
abbrev cc7_stg8_0 : Ref sig .tc := ⟨.vmem, 59, rfl⟩
abbrev cc7_stg8_1 : Ref sig .tc := ⟨.vmem, 60, rfl⟩
abbrev cc8_stg0_0 : Ref sig .tc := ⟨.vmem, 61, rfl⟩
abbrev cc8_stg0_1 : Ref sig .tc := ⟨.vmem, 62, rfl⟩
abbrev cc8_stg1_0 : Ref sig .tc := ⟨.vmem, 63, rfl⟩
abbrev cc8_stg2_0 : Ref sig .tc := ⟨.vmem, 64, rfl⟩
abbrev cc8_stg2_1 : Ref sig .tc := ⟨.vmem, 65, rfl⟩
abbrev cc9_stg0_0 : Ref sig .tc := ⟨.vmem, 66, rfl⟩
abbrev cc9_stg0_1 : Ref sig .tc := ⟨.vmem, 67, rfl⟩
abbrev cc9_stg1_0 : Ref sig .tc := ⟨.vmem, 68, rfl⟩
abbrev cc9_stg2_0 : Ref sig .tc := ⟨.vmem, 69, rfl⟩
abbrev cc9_stg2_1 : Ref sig .tc := ⟨.vmem, 70, rfl⟩
abbrev cc10_stg0_0 : Ref sig .tc := ⟨.vmem, 71, rfl⟩
abbrev cc10_stg0_1 : Ref sig .tc := ⟨.vmem, 72, rfl⟩
abbrev cc10_stg1_0 : Ref sig .tc := ⟨.vmem, 73, rfl⟩
abbrev cc10_stg2_0 : Ref sig .tc := ⟨.vmem, 74, rfl⟩
abbrev cc10_stg2_1 : Ref sig .tc := ⟨.vmem, 75, rfl⟩
abbrev cc11_stg0_0 : Ref sig .tc := ⟨.vmem, 76, rfl⟩
abbrev cc11_stg0_1 : Ref sig .tc := ⟨.vmem, 77, rfl⟩
abbrev cc11_stg1_0 : Ref sig .tc := ⟨.vmem, 78, rfl⟩
abbrev cc11_stg2_0 : Ref sig .tc := ⟨.vmem, 79, rfl⟩
abbrev cc11_stg2_1 : Ref sig .tc := ⟨.vmem, 80, rfl⟩
abbrev cc11_stg3_0 : Ref sig .tc := ⟨.vmem, 81, rfl⟩
abbrev cc11_stg3_1 : Ref sig .tc := ⟨.vmem, 82, rfl⟩
abbrev cc12_stg0_0 : Ref sig .tc := ⟨.vmem, 83, rfl⟩
abbrev cc12_stg0_1 : Ref sig .tc := ⟨.vmem, 84, rfl⟩
abbrev cc12_stg1_0 : Ref sig .tc := ⟨.vmem, 85, rfl⟩
abbrev cc12_stg1_1 : Ref sig .tc := ⟨.vmem, 86, rfl⟩
abbrev cc12_stg2_0 : Ref sig .tc := ⟨.vmem, 87, rfl⟩
abbrev cc12_stg3_0 : Ref sig .tc := ⟨.vmem, 88, rfl⟩
abbrev cc12_stg3_1 : Ref sig .tc := ⟨.vmem, 89, rfl⟩
abbrev cc12_stg4_0 : Ref sig .tc := ⟨.vmem, 90, rfl⟩
abbrev cc12_stg4_1 : Ref sig .tc := ⟨.vmem, 91, rfl⟩
abbrev cc12_stg5_0 : Ref sig .tc := ⟨.vmem, 92, rfl⟩
abbrev cc12_stg5_1 : Ref sig .tc := ⟨.vmem, 93, rfl⟩
abbrev cc12_stg6_0 : Ref sig .tc := ⟨.vmem, 94, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem3_1 : DmaSem sig := 22
abbrev cc3_sem4_0 : DmaSem sig := 23
abbrev cc3_sem4_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem2_1 : DmaSem sig := 29
abbrev cc4_sem3_0 : DmaSem sig := 30
abbrev cc4_sem3_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem2_1 : DmaSem sig := 37
abbrev cc6_sem0_0 : DmaSem sig := 38
abbrev cc6_sem0_1 : DmaSem sig := 39
abbrev cc6_sem1_0 : DmaSem sig := 40
abbrev cc6_sem2_0 : DmaSem sig := 41
abbrev cc6_sem2_1 : DmaSem sig := 42
abbrev cc7_sem0_0 : DmaSem sig := 43
abbrev cc7_sem0_1 : DmaSem sig := 44
abbrev cc7_sem1_0 : DmaSem sig := 45
abbrev cc7_sem1_1 : DmaSem sig := 46
abbrev cc7_sem2_0 : DmaSem sig := 47
abbrev cc7_sem2_1 : DmaSem sig := 48
abbrev cc7_sem3_0 : DmaSem sig := 49
abbrev cc7_sem3_1 : DmaSem sig := 50
abbrev cc7_sem4_0 : DmaSem sig := 51
abbrev cc7_sem4_1 : DmaSem sig := 52
abbrev cc7_sem5_0 : DmaSem sig := 53
abbrev cc7_sem5_1 : DmaSem sig := 54
abbrev cc7_sem6_0 : DmaSem sig := 55
abbrev cc7_sem6_1 : DmaSem sig := 56
abbrev cc7_sem7_0 : DmaSem sig := 57
abbrev cc7_sem7_1 : DmaSem sig := 58
abbrev cc7_sem8_0 : DmaSem sig := 59
abbrev cc7_sem8_1 : DmaSem sig := 60
abbrev cc8_sem0_0 : DmaSem sig := 61
abbrev cc8_sem0_1 : DmaSem sig := 62
abbrev cc8_sem1_0 : DmaSem sig := 63
abbrev cc8_sem2_0 : DmaSem sig := 64
abbrev cc8_sem2_1 : DmaSem sig := 65
abbrev cc9_sem0_0 : DmaSem sig := 66
abbrev cc9_sem0_1 : DmaSem sig := 67
abbrev cc9_sem1_0 : DmaSem sig := 68
abbrev cc9_sem2_0 : DmaSem sig := 69
abbrev cc9_sem2_1 : DmaSem sig := 70
abbrev cc10_sem0_0 : DmaSem sig := 71
abbrev cc10_sem0_1 : DmaSem sig := 72
abbrev cc10_sem1_0 : DmaSem sig := 73
abbrev cc10_sem2_0 : DmaSem sig := 74
abbrev cc10_sem2_1 : DmaSem sig := 75
abbrev cc11_sem0_0 : DmaSem sig := 76
abbrev cc11_sem0_1 : DmaSem sig := 77
abbrev cc11_sem1_0 : DmaSem sig := 78
abbrev cc11_sem2_0 : DmaSem sig := 79
abbrev cc11_sem2_1 : DmaSem sig := 80
abbrev cc11_sem3_0 : DmaSem sig := 81
abbrev cc11_sem3_1 : DmaSem sig := 82
abbrev cc12_sem0_0 : DmaSem sig := 83
abbrev cc12_sem0_1 : DmaSem sig := 84
abbrev cc12_sem1_0 : DmaSem sig := 85
abbrev cc12_sem1_1 : DmaSem sig := 86
abbrev cc12_sem2_0 : DmaSem sig := 87
abbrev cc12_sem3_0 : DmaSem sig := 88
abbrev cc12_sem3_1 : DmaSem sig := 89
abbrev cc12_sem4_0 : DmaSem sig := 90
abbrev cc12_sem4_1 : DmaSem sig := 91
abbrev cc12_sem5_0 : DmaSem sig := 92
abbrev cc12_sem5_1 : DmaSem sig := 93
abbrev cc12_sem6_0 : DmaSem sig := 94

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S2816x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x2816 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S2816x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x2816 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨1, ![22], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S4096x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S3x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S3x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S4096x128 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨3, ![4, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x2816 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S2816x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev stage4_3 : Fin 2 → Memref sig .tc .vmem S1024x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]

abbrev grid5 : Pipeline.Grid := ⟨3, ![4, 2, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1408x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x1408 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![11, 1, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S4096x256 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 1 → Memref sig .tc .vmem S4096x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true, true]

abbrev stage6_2 : Fin 2 → Memref sig .tc .vmem S256x1024 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨1, ![22], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_1 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_8 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage7_0 : Fin 2 → Memref sig .tc .vmem S4096x128 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S4096x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S4096x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S3x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S3x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S4096x128 .bf16 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S4096x128 .bf16 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev stage7_7 : Fin 2 → Memref sig .tc .vmem S3x128 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev stage7_8 : Fin 2 → Memref sig .tc .vmem S3x128 .f32 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true]

abbrev grid8 : Pipeline.Grid := ⟨3, ![11, 1, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S4096x256 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 1 → Memref sig .tc .vmem S4096x1024 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, true, true]

abbrev stage8_2 : Fin 2 → Memref sig .tc .vmem S256x1024 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev grid9 : Pipeline.Grid := ⟨3, ![11, 1, 1], ![false, false, false]⟩

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage9_0 : Fin 2 → Memref sig .tc .vmem S4096x256 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false, true]

abbrev stage9_1 : Fin 1 → Memref sig .tc .vmem S4096x1024 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false, true, true]

abbrev stage9_2 : Fin 2 → Memref sig .tc .vmem S256x1024 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true, false]

abbrev grid10 : Pipeline.Grid := ⟨3, ![4, 1, 1], ![false, false, false]⟩

def cc10_transform_0 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc10_transform_1 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc10_transform_2 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage10_0 : Fin 2 → Memref sig .tc .vmem S1024x2816 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false, true]

abbrev stage10_1 : Fin 1 → Memref sig .tc .vmem S2816x1024 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false, true, true]

abbrev stage10_2 : Fin 2 → Memref sig .tc .vmem S1024x1024 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true, false]

abbrev grid11 : Pipeline.Grid := ⟨3, ![4, 1, 1], ![false, false, false]⟩

def cc11_transform_0 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc11_transform_1 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc11_transform_2 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc11_transform_3 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage11_0 : Fin 2 → Memref sig .tc .vmem S1024x2816 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, false, true]

abbrev stage11_1 : Fin 1 → Memref sig .tc .vmem S2816x1024 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false, true, true]

abbrev stage11_2 : Fin 2 → Memref sig .tc .vmem S1024x1024 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, true, false]

abbrev stage11_3 : Fin 2 → Memref sig .tc .vmem S1024x1024 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true, true, false]

abbrev grid12 : Pipeline.Grid := ⟨1, ![4], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_6 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 2 → Memref sig .tc .vmem S1024x1024 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S1024x1024 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S1x1024 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S1024x1024 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev stage12_4 : Fin 2 → Memref sig .tc .vmem S1024x1024 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev stage12_5 : Fin 2 → Memref sig .tc .vmem S1024x1024 .bf16 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev stage12_6 : Fin 1 → Memref sig .tc .vmem S1x1024 .f32 := fun | 0 => Memref.whole cc12_stg6_0 | ⟨_ + 1, h⟩ => absurd h (Nat.not_lt.2 (Nat.le_add_left _ _))
abbrev sem12_6 : Fin 1 → DmaSem sig := fun | 0 => cc12_sem6_0 | ⟨_ + 1, h⟩ => absurd h (Nat.not_lt.2 (Nat.le_add_left _ _))
abbrev reads12_6 : Fin grid12.rank → Bool := ![false]
-- ==== ReferenceIdeal.lean ====
abbrev S4096x1024 : Shape := ⟨2, ![4096, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S2x5632 : Shape := ⟨2, ![2, 5632]⟩
abbrev S4098x5632 : Shape := ⟨2, ![4098, 5632]⟩
abbrev S1x5632 : Shape := ⟨2, ![1, 5632]⟩
abbrev S5632 : Shape := ⟨1, ![5632]⟩
abbrev S4096x2816 : Shape := ⟨2, ![4096, 2816]⟩
abbrev S1024x2816 : Shape := ⟨2, ![1024, 2816]⟩
abbrev S5632x1024 : Shape := ⟨2, ![5632, 1024]⟩
abbrev S3x2816 : Shape := ⟨2, ![3, 2816]⟩

abbrev nBuf : Space → Nat
  | .hbm => 166
  | .vmem => 0
  | .smem => 0
  | _ => 0

abbrev hbmTy0_0 (i : Nat) : BufTy := match i % 128 with
  | 0 => ⟨S4096x1024, .f32⟩
  | 1 => ⟨S1024, .f32⟩
  | 2 => ⟨S1024x5632, .f32⟩
  | 3 => ⟨S3x5632, .f32⟩
  | 4 => ⟨S2816x1024, .f32⟩
  | 5 => ⟨S4096x1024, .f32⟩
  | 6 => ⟨S4096x1024, .f32⟩
  | 7 => ⟨S_, .f32⟩
  | 8 => ⟨S4096, .f32⟩
  | 9 => ⟨S4096x1, .f32⟩
  | 10 => ⟨S_, .f32⟩
  | 11 => ⟨S4096x1, .f32⟩
  | 12 => ⟨S4096x1, .f32⟩
  | 13 => ⟨S_, .f32⟩
  | 14 => ⟨S4096x1, .f32⟩
  | 15 => ⟨S4096x1, .f32⟩
  | 16 => ⟨S4096x1, .f32⟩
  | 17 => ⟨S4096x1, .f32⟩
  | 18 => ⟨S_, .f32⟩
  | 19 => ⟨S4096x1, .f32⟩
  | 20 => ⟨S4096x1, .f32⟩
  | 21 => ⟨S4096x1024, .f32⟩
  | 22 => ⟨S4096x1024, .f32⟩
  | 23 => ⟨S1x1024, .f32⟩
  | 24 => ⟨S4096x1024, .f32⟩
  | 25 => ⟨S4096x1024, .f32⟩
  | 26 => ⟨S4096x5632, .f32⟩
  | 27 => ⟨S_, .f32⟩
  | 28 => ⟨S2x5632, .f32⟩
  | 29 => ⟨S4098x5632, .f32⟩
  | 30 => ⟨S_, .f32⟩
  | 31 => ⟨S2x5632, .f32⟩
  | 32 => ⟨S1x5632, .f32⟩
  | 33 => ⟨S5632, .f32⟩
  | 34 => ⟨S4096x5632, .f32⟩
  | 35 => ⟨S1x5632, .f32⟩
  | 36 => ⟨S4096x5632, .f32⟩
  | 37 => ⟨S4096x5632, .f32⟩
  | 38 => ⟨S1x5632, .f32⟩
  | 39 => ⟨S5632, .f32⟩
  | 40 => ⟨S4096x5632, .f32⟩
  | 41 => ⟨S1x5632, .f32⟩
  | 42 => ⟨S4096x5632, .f32⟩
  | 43 => ⟨S4096x5632, .f32⟩
  | 44 => ⟨S4096x5632, .f32⟩
  | 45 => ⟨S1x5632, .f32⟩
  | 46 => ⟨S5632, .f32⟩
  | 47 => ⟨S4096x5632, .f32⟩
  | 48 => ⟨S1x5632, .f32⟩
  | 49 => ⟨S4096x5632, .f32⟩
  | 50 => ⟨S4096x5632, .f32⟩
  | 51 => ⟨S4096x5632, .f32⟩
  | 52 => ⟨S4096x2816, .f32⟩
  | 53 => ⟨S4096x2816, .f32⟩
  | 54 => ⟨S4096x2816, .f32⟩
  | 55 => ⟨S4096x2816, .f32⟩
  | 56 => ⟨S_, .f32⟩
  | 57 => ⟨S4096x2816, .f32⟩
  | 58 => ⟨S4096x2816, .f32⟩
  | 59 => ⟨S_, .f32⟩
  | 60 => ⟨S4096x2816, .f32⟩
  | 61 => ⟨S4096x2816, .f32⟩
  | 62 => ⟨S_, .f32⟩
  | 63 => ⟨S4096x2816, .f32⟩
  | 64 => ⟨S4096x2816, .f32⟩
  | 65 => ⟨S4096x2816, .f32⟩
  | 66 => ⟨S4096x2816, .f32⟩
  | 67 => ⟨S4096x2816, .f32⟩
  | 68 => ⟨S4096x1024, .f32⟩
  | 69 => ⟨S4096x1024, .f32⟩
  | 70 => ⟨S4096x1024, .f32⟩
  | 71 => ⟨S1024x2816, .f32⟩
  | 72 => ⟨S2816x1024, .f32⟩
  | 73 => ⟨S4096x2816, .f32⟩
  | 74 => ⟨S4096x2816, .f32⟩
  | 75 => ⟨S4096x2816, .f32⟩
  | 76 => ⟨S4096x2816, .f32⟩
  | 77 => ⟨S4096x2816, .f32⟩
  | 78 => ⟨S4096x2816, .f32⟩
  | 79 => ⟨S4096x2816, .f32⟩
  | 80 => ⟨S4096x5632, .f32⟩
  | 81 => ⟨S4096x5632, .f32⟩
  | 82 => ⟨S4096x5632, .f32⟩
  | 83 => ⟨S4096x5632, .f32⟩
  | 84 => ⟨S_, .f32⟩
  | 85 => ⟨S5632, .f32⟩
  | 86 => ⟨S1x5632, .f32⟩
  | 87 => ⟨S_, .f32⟩
  | 88 => ⟨S5632, .f32⟩
  | 89 => ⟨S_, .f32⟩
  | 90 => ⟨S4098x5632, .f32⟩
  | 91 => ⟨S1x5632, .f32⟩
  | 92 => ⟨S_, .f32⟩
  | 93 => ⟨S3x5632, .f32⟩
  | 94 => ⟨S4096x5632, .f32⟩
  | 95 => ⟨S4096x5632, .f32⟩
  | 96 => ⟨S4096x5632, .f32⟩
  | 97 => ⟨S_, .f32⟩
  | 98 => ⟨S5632, .f32⟩
  | 99 => ⟨S1x5632, .f32⟩
  | 100 => ⟨S_, .f32⟩
  | 101 => ⟨S5632, .f32⟩
  | 102 => ⟨S_, .f32⟩
  | 103 => ⟨S4098x5632, .f32⟩
  | 104 => ⟨S4098x5632, .f32⟩
  | 105 => ⟨S1x5632, .f32⟩
  | 106 => ⟨S_, .f32⟩
  | 107 => ⟨S3x5632, .f32⟩
  | 108 => ⟨S3x5632, .f32⟩
  | 109 => ⟨S4096x5632, .f32⟩
  | 110 => ⟨S4096x5632, .f32⟩
  | 111 => ⟨S4096x5632, .f32⟩
  | 112 => ⟨S_, .f32⟩
  | 113 => ⟨S5632, .f32⟩
  | 114 => ⟨S1x5632, .f32⟩
  | 115 => ⟨S_, .f32⟩
  | 116 => ⟨S5632, .f32⟩
  | 117 => ⟨S_, .f32⟩
  | 118 => ⟨S4098x5632, .f32⟩
  | 119 => ⟨S4098x5632, .f32⟩
  | 120 => ⟨S1x5632, .f32⟩
  | 121 => ⟨S_, .f32⟩
  | 122 => ⟨S3x5632, .f32⟩
  | 123 => ⟨S3x5632, .f32⟩
  | 124 => ⟨S2x5632, .f32⟩
  | 125 => ⟨S4096x5632, .f32⟩
  | 126 => ⟨S5632x1024, .f32⟩
  | 127 => ⟨S1024x5632, .f32⟩
  | _ => ⟨S4096x1024, .f32⟩

abbrev hbmTy0_1 (i : Nat) : BufTy := match i % 128 with
  | 0 => ⟨S4096x1024, .f32⟩
  | 1 => ⟨S4096x1024, .f32⟩
  | 2 => ⟨S_, .f32⟩
  | 3 => ⟨S1024, .f32⟩
  | 4 => ⟨S1x1024, .f32⟩
  | 5 => ⟨S4096x1024, .f32⟩
  | 6 => ⟨S4096x1024, .f32⟩
  | 7 => ⟨S_, .f32⟩
  | 8 => ⟨S1024, .f32⟩
  | 9 => ⟨S4096x1024, .f32⟩
  | 10 => ⟨S_, .f32⟩
  | 11 => ⟨S4096, .f32⟩
  | 12 => ⟨S4096x1, .f32⟩
  | 13 => ⟨S4096x1024, .f32⟩
  | 14 => ⟨S4096x1024, .f32⟩
  | 15 => ⟨S4096x1024, .f32⟩
  | 16 => ⟨S4096x1, .f32⟩
  | 17 => ⟨S_, .f32⟩
  | 18 => ⟨S4096x1, .f32⟩
  | 19 => ⟨S4096x1, .f32⟩
  | 20 => ⟨S_, .f32⟩
  | 21 => ⟨S4096, .f32⟩
  | 22 => ⟨S4096x1024, .f32⟩
  | 23 => ⟨S4096x1024, .f32⟩
  | 24 => ⟨S4096x1024, .f32⟩
  | 25 => ⟨S4096x1024, .f32⟩
  | 26 => ⟨S4096x1024, .f32⟩
  | 27 => ⟨S4096x1024, .bf16⟩
  | 28 => ⟨S1x1024, .f32⟩
  | 29 => ⟨S1024x2816, .f32⟩
  | 30 => ⟨S2816x1024, .f32⟩
  | 31 => ⟨S2816x1024, .bf16⟩
  | 32 => ⟨S1024x2816, .f32⟩
  | 33 => ⟨S2816x1024, .f32⟩
  | 34 => ⟨S2816x1024, .bf16⟩
  | 35 => ⟨S3x2816, .f32⟩
  | 36 => ⟨S3x2816, .f32⟩
  | 37 => ⟨S2816x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_v42_2 : Ref sig .tc := ⟨.hbm, 61, rfl⟩
abbrev main_call0_cst_1 : Ref sig .tc := ⟨.hbm, 62, rfl⟩
abbrev main_call0_v6 : Ref sig .tc := ⟨.hbm, 63, rfl⟩
abbrev main_call0_v7 : Ref sig .tc := ⟨.hbm, 64, rfl⟩
abbrev main_v42_1 : Ref sig .tc := ⟨.hbm, 65, rfl⟩
abbrev main_v42_0 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_5 : Ref sig .tc := ⟨.hbm, 84, rfl⟩
abbrev main_v57 : Ref sig .tc := ⟨.hbm, 85, rfl⟩
abbrev main_v58 : Ref sig .tc := ⟨.hbm, 86, rfl⟩
abbrev main_cst_6 : Ref sig .tc := ⟨.hbm, 87, rfl⟩
abbrev main_v59 : Ref sig .tc := ⟨.hbm, 88, rfl⟩
abbrev main_cst_7 : Ref sig .tc := ⟨.hbm, 89, rfl⟩
abbrev main_v60 : Ref sig .tc := ⟨.hbm, 90, rfl⟩
abbrev main_v61 : Ref sig .tc := ⟨.hbm, 91, rfl⟩
abbrev main_cst_8 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_9 : Ref sig .tc := ⟨.hbm, 97, rfl⟩
abbrev main_v66 : Ref sig .tc := ⟨.hbm, 98, rfl⟩
abbrev main_v67 : Ref sig .tc := ⟨.hbm, 99, rfl⟩
abbrev main_cst_10 : Ref sig .tc := ⟨.hbm, 100, rfl⟩
abbrev main_v68 : Ref sig .tc := ⟨.hbm, 101, rfl⟩
abbrev main_cst_11 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_12 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_13 : Ref sig .tc := ⟨.hbm, 112, rfl⟩
abbrev main_v77 : Ref sig .tc := ⟨.hbm, 113, rfl⟩
abbrev main_v78 : Ref sig .tc := ⟨.hbm, 114, rfl⟩
abbrev main_cst_14 : Ref sig .tc := ⟨.hbm, 115, rfl⟩
abbrev main_v79 : Ref sig .tc := ⟨.hbm, 116, rfl⟩
abbrev main_cst_15 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_16 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_17 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_18 : Ref sig .tc := ⟨.hbm, 135, rfl⟩
abbrev main_v95 : Ref sig .tc := ⟨.hbm, 136, rfl⟩
abbrev main_v96 : Ref sig .tc := ⟨.hbm, 137, rfl⟩
abbrev main_cst_19 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_20 : Ref sig .tc := ⟨.hbm, 145, rfl⟩
abbrev main_v103 : Ref sig .tc := ⟨.hbm, 146, rfl⟩
abbrev main_v104 : Ref sig .tc := ⟨.hbm, 147, rfl⟩
abbrev main_cst_21 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩

abbrev nD : Nat := 1
abbrev τ : Topo := Topo.v7x

variable {F : FTy → Type} [FloatOps F]
-- ==== Kernel2.lean ====
abbrev S4096x8x96 : Shape := ⟨3, ![4096, 8, 96]⟩
abbrev S4096x8x64 : Shape := ⟨3, ![4096, 8, 64]⟩
abbrev S_ : Shape := ⟨0, ![]⟩
abbrev S4096x8x128 : Shape := ⟨3, ![4096, 8, 128]⟩
abbrev S4096x1024 : Shape := ⟨2, ![4096, 1024]⟩
abbrev S8x4096x1 : Shape := ⟨3, ![8, 4096, 1]⟩
abbrev S1024x128 : Shape := ⟨2, ![1024, 128]⟩
abbrev S4096x128 : Shape := ⟨2, ![4096, 128]⟩
abbrev S1x1024x1 : Shape := ⟨3, ![1, 1024, 1]⟩
abbrev S1024x1 : Shape := ⟨2, ![1024, 1]⟩
abbrev S1024x1024 : Shape := ⟨2, ![1024, 1024]⟩
abbrev S1024 : Shape := ⟨1, ![1024]⟩
abbrev S8x1x4096 : Shape := ⟨3, ![8, 1, 4096]⟩
abbrev S1x1x4096 : Shape := ⟨3, ![1, 1, 4096]⟩
abbrev S1x1x1024 : Shape := ⟨3, ![1, 1, 1024]⟩
abbrev S1x1024 : Shape := ⟨2, ![1, 1024]⟩

abbrev nBuf : Space → Nat
  | .hbm => 38
  | .vmem => 42
  | .smem => 0
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S4096x8x64, .f32⟩
  | .hbm, ⟨4, _⟩ => ⟨S_, .i32⟩
  | .hbm, ⟨5, _⟩ => ⟨S_, .f32⟩
  | .hbm, ⟨6, _⟩ => ⟨S4096x8x128, .f32⟩
  | .hbm, ⟨7, _⟩ => ⟨S4096x1024, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .bf16⟩
  | .hbm, ⟨16, _⟩ => ⟨S_, .i32⟩
  | .hbm, ⟨17, _⟩ => ⟨S_, .f32⟩
  | .hbm, ⟨18, _⟩ => ⟨S4096x8x128, .f32⟩
  | .hbm, ⟨19, _⟩ => ⟨S4096x1024, .f32⟩
  | .hbm, ⟨20, _⟩ => ⟨S4096x1024, .bf16⟩
  | .hbm, ⟨21, _⟩ => ⟨S_, .i32⟩
  | .hbm, ⟨22, _⟩ => ⟨S_, .f32⟩
  | .hbm, ⟨23, _⟩ => ⟨S4096x8x128, .f32⟩
  | .hbm, ⟨24, _⟩ => ⟨S4096x1024, .f32⟩
  | .hbm, ⟨25, _⟩ => ⟨S4096x1024, .bf16⟩
  | .hbm, ⟨26, _⟩ => ⟨S_, .i32⟩
  | .hbm, ⟨27, _⟩ => ⟨S_, .f32⟩
  | .hbm, ⟨28, _⟩ => ⟨S4096x8x128, .f32⟩
  | .hbm, ⟨29, _⟩ => ⟨S4096x1024, .f32⟩
  | .hbm, ⟨30, _⟩ => ⟨S4096x1024, .bf16⟩
  | .hbm, ⟨31, _⟩ => ⟨S8x4096x1, .f32⟩
  | .hbm, ⟨32, _⟩ => ⟨S4096x1024, .f32⟩
  | .hbm, ⟨33, _⟩ => ⟨S8x4096x1, .f32⟩
  | .hbm, ⟨34, _⟩ => ⟨S8x1x4096, .f32⟩
  | .hbm, ⟨35, _⟩ => ⟨S8x1x4096, .f32⟩
  | .hbm, ⟨36, _⟩ => ⟨S4096x1024, .f32⟩
  | .hbm, ⟨37, _⟩ => ⟨S4096x1024, .f32⟩
  | .local _ .vmem, ⟨0, _⟩ => ⟨S1024x128, .bf16⟩
  | .local _ .vmem, ⟨1, _⟩ => ⟨S1024x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1024x128, .bf16⟩
  | .local _ .vmem, ⟨7, _⟩ => ⟨S1024x128, .bf16⟩
  | .local _ .vmem, ⟨8, _⟩ => ⟨S1x1024x1, .f32⟩
  | .local _ .vmem, ⟨9, _⟩ => ⟨S1x1024x1, .f32⟩
  | .local _ .vmem, ⟨10, _⟩ => ⟨S1024x128, .bf16⟩
  | .local _ .vmem, ⟨11, _⟩ => ⟨S1024x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S1024x128, .bf16⟩
  | .local _ .vmem, ⟨17, _⟩ => ⟨S1024x128, .bf16⟩
  | .local _ .vmem, ⟨18, _⟩ => ⟨S1024x128, .f32⟩
  | .local _ .vmem, ⟨19, _⟩ => ⟨S1024x128, .f32⟩
  | .local _ .vmem, ⟨20, _⟩ => ⟨S1x1024x1, .f32⟩
  | .local _ .vmem, ⟨21, _⟩ => ⟨S1x1024x1, .f32⟩
  | .local _ .vmem, ⟨22, _⟩ => ⟨S1024x128, .f32⟩
  | .local _ .vmem, ⟨23, _⟩ => ⟨S1024x128, .f32⟩
  | .local _ .vmem, ⟨24, _⟩ => ⟨S1x1024x1, .f32⟩
  | .local _ .vmem, ⟨25, _⟩ => ⟨S1x1024x1, .f32⟩
  | .local _ .vmem, ⟨26, _⟩ => ⟨S4096x128, .bf16⟩
  | .local _ .vmem, ⟨27, _⟩ => ⟨S4096x128, .bf16⟩
  | .local _ .vmem, ⟨28, _⟩ => ⟨S1024x128, .bf16⟩
  | .local _ .vmem, ⟨29, _⟩ => ⟨S1024x128, .bf16⟩
  | .local _ .vmem, ⟨30, _⟩ => ⟨S1024x128, .bf16⟩
  | .local _ .vmem, ⟨31, _⟩ => ⟨S1024x128, .bf16⟩
  | .local _ .vmem, ⟨32, _⟩ => ⟨S4096x128, .f32⟩
  | .local _ .vmem, ⟨33, _⟩ => ⟨S4096x128, .f32⟩
  | .local _ .vmem, ⟨34, _⟩ => ⟨S1x1x4096, .f32⟩
  | .local _ .vmem, ⟨35, _⟩ => ⟨S1x1x4096, .f32⟩
  | .local _ .vmem, ⟨36, _⟩ => ⟨S1x1x4096, .f32⟩
  | .local _ .vmem, ⟨37, _⟩ => ⟨S1x1x4096, .f32⟩
  | .local _ .vmem, ⟨38, _⟩ => ⟨S1024x128, .f32⟩
  | .local _ .vmem, ⟨39, _⟩ => ⟨S1024x128, .f32⟩
  | .local _ .vmem, ⟨40, _⟩ => ⟨S1024x128, .f32⟩
  | .local _ .vmem, ⟨41, _⟩ => ⟨S1024x128, .f32⟩
  | _, _ => ⟨S4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_call2_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_call3_v0 : Ref sig .tc := ⟨.hbm, 27, rfl⟩
abbrev main_v14 : Ref sig .tc := ⟨.hbm, 28, rfl⟩
abbrev main_v15 : Ref sig .tc := ⟨.hbm, 29, rfl⟩
abbrev main_v16_0 : Ref sig .tc := ⟨.hbm, 30, rfl⟩
abbrev main_v16_1 : Ref sig .tc := ⟨.hbm, 31, rfl⟩
abbrev main_v17_0 : Ref sig .tc := ⟨.hbm, 32, rfl⟩
abbrev main_v17_1 : Ref sig .tc := ⟨.hbm, 33, rfl⟩
abbrev main_v18 : Ref sig .tc := ⟨.hbm, 34, rfl⟩
abbrev main_v19 : Ref sig .tc := ⟨.hbm, 35, rfl⟩
abbrev main_v20_0 : Ref sig .tc := ⟨.hbm, 36, rfl⟩
abbrev main_v20_1 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg3_1 : Ref sig .tc := ⟨.vmem, 33, rfl⟩
abbrev cc2_stg4_0 : Ref sig .tc := ⟨.vmem, 34, rfl⟩
abbrev cc2_stg4_1 : Ref sig .tc := ⟨.vmem, 35, rfl⟩
abbrev cc2_stg5_0 : Ref sig .tc := ⟨.vmem, 36, rfl⟩
abbrev cc2_stg5_1 : Ref sig .tc := ⟨.vmem, 37, rfl⟩
abbrev cc2_stg6_0 : Ref sig .tc := ⟨.vmem, 38, rfl⟩
abbrev cc2_stg6_1 : Ref sig .tc := ⟨.vmem, 39, rfl⟩
abbrev cc2_stg7_0 : Ref sig .tc := ⟨.vmem, 40, rfl⟩
abbrev cc2_stg7_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem3_1 : DmaSem sig := 33
abbrev cc2_sem4_0 : DmaSem sig := 34
abbrev cc2_sem4_1 : DmaSem sig := 35
abbrev cc2_sem5_0 : DmaSem sig := 36
abbrev cc2_sem5_1 : DmaSem sig := 37
abbrev cc2_sem6_0 : DmaSem sig := 38
abbrev cc2_sem6_1 : DmaSem sig := 39
abbrev cc2_sem7_0 : DmaSem sig := 40
abbrev cc2_sem7_1 : DmaSem sig := 41

abbrev nD : Nat := 1
abbrev τ : Topo := Topo.v7x

variable {F : FTy → Type} [FloatOps F]

abbrev grid0 : Pipeline.Grid := ⟨2, ![8, 4], ![false, false]⟩

@[reducible] def k0_t1_loop (i : grid0.Coords) : Scf.Loop 32 :=
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_3 : BitVec 32 := 1#32
  ⟨c0_i32, v9, c1_i32_3⟩
def k0_mult1 (i : grid0.Coords) (k0_t1 : Fin (k0_t1_loop i).trips) : BitVec 32 :=
  let c0_i32 : BitVec 32 := 0#32
  let c1_i32_3 : BitVec 32 := 1#32
  let arg7 : BitVec 32 := Scf.iv c0_i32 c1_i32_3 k0_t1
  let c1024_i32_18 : BitVec 32 := 1024#32
  let v54 : BitVec 32 := Scalar.muli arg7 c1024_i32_18
  v54
def k0_off1 (i : grid0.Coords) (k0_t1 : Fin (k0_t1_loop i).trips) : Fin 2 → Nat :=
  let c0_i32 : BitVec 32 := 0#32
  let c1_i32_3 : BitVec 32 := 1#32
  let arg7 : BitVec 32 := Scf.iv c0_i32 c1_i32_3 k0_t1
  let c1024_i32_18 : BitVec 32 := 1024#32
  let v54 : BitVec 32 := Scalar.muli arg7 c1024_i32_18
  let v55 : BitVec 32 := v54
  let v56 : Index := Scalar.indexCast v55
  let c0_19 : Index := 0#32
  ![v56.toNat, 0]
@[reducible] def k0_t2_loop (i : grid0.Coords) : Scf.Loop 32 :=
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let v6 : BitVec 32 := Scalar.addi c0_i32 v5
  let c1_i32_4 : BitVec 32 := 1#32
  ⟨v9, v6, c1_i32_4⟩
def k0_mult2 (i : grid0.Coords) (k0_t2 : Fin (k0_t2_loop i).trips) : BitVec 32 :=
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_4 : BitVec 32 := 1#32
  let arg7 : BitVec 32 := Scf.iv v9 c1_i32_4 k0_t2
  let c1024_i32_18 : BitVec 32 := 1024#32
  let v54 : BitVec 32 := Scalar.muli arg7 c1024_i32_18
  v54
def k0_off2 (i : grid0.Coords) (k0_t2 : Fin (k0_t2_loop i).trips) : Fin 2 → Nat :=
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_4 : BitVec 32 := 1#32
  let arg7 : BitVec 32 := Scf.iv v9 c1_i32_4 k0_t2
  let c1024_i32_18 : BitVec 32 := 1024#32
  let v54 : BitVec 32 := Scalar.muli arg7 c1024_i32_18
  let v55 : BitVec 32 := v54
  let v56 : Index := Scalar.indexCast v55
  let c0_19 : Index := 0#32
  ![v56.toNat, 0]
def k0_mult3 (i : grid0.Coords) : BitVec 32 :=
  let arg1 : BitVec 32 := BitVec.ofNat 32 (i 1).val
  let c1024_i32 : BitVec 32 := 1024#32
  let v12 : BitVec 32 := Scalar.muli arg1 c1024_i32
  v12
def k0_off3 (i : grid0.Coords) : Fin 2 → Nat :=
  let arg1 : BitVec 32 := BitVec.ofNat 32 (i 1).val
  let c1024_i32 : BitVec 32 := 1024#32
  let v12 : BitVec 32 := Scalar.muli arg1 c1024_i32
  let v13 : BitVec 32 := v12
  let v14 : Index := Scalar.indexCast v13
  let c0_5 : Index := 0#32
  ![v14.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![8, 4], ![false, false]⟩

@[reducible] def k1_t1_loop (i : grid1.Coords) : Scf.Loop 32 :=
  let c0_i32 : BitVec 32 := 0#32
  let arg1 : BitVec 32 := BitVec.ofNat 32 (i 1).val
  let v14 : BitVec 32 := Scalar.subi arg1 c0_i32
  let c1_i32 : BitVec 32 := 1#32
  let v16 : BitVec 32 := Scalar.divsi v14 c1_i32
  let v17 : BitVec 32 := Scalar.muli v16 c1_i32
  let v18 : BitVec 32 := Scalar.addi c0_i32 v17
  let c1_i32_9 : BitVec 32 := 1#32
  ⟨c0_i32, v18, c1_i32_9⟩
def k1_mult1 (i : grid1.Coords) (k1_t1 : Fin (k1_t1_loop i).trips) : BitVec 32 :=
  let c0_i32 : BitVec 32 := 0#32
  let c1_i32_9 : BitVec 32 := 1#32
  let arg10 : BitVec 32 := Scf.iv c0_i32 c1_i32_9 k1_t1
  let c1024_i32_23 : BitVec 32 := 1024#32
  let v51 : BitVec 32 := Scalar.muli arg10 c1024_i32_23
  v51
def k1_off1 (i : grid1.Coords) (k1_t1 : Fin (k1_t1_loop i).trips) : Fin 2 → Nat :=
  let c0_i32 : BitVec 32 := 0#32
  let c1_i32_9 : BitVec 32 := 1#32
  let arg10 : BitVec 32 := Scf.iv c0_i32 c1_i32_9 k1_t1
  let c1024_i32_23 : BitVec 32 := 1024#32
  let v51 : BitVec 32 := Scalar.muli arg10 c1024_i32_23
  let v52 : BitVec 32 := v51
  let v53 : Index := Scalar.indexCast v52
  let c0_24 : Index := 0#32
  ![v53.toNat, 0]
@[reducible] def k1_t2_loop (i : grid1.Coords) : Scf.Loop 32 :=
  let c0_i32 : BitVec 32 := 0#32
  let arg1 : BitVec 32 := BitVec.ofNat 32 (i 1).val
  let v14 : BitVec 32 := Scalar.subi arg1 c0_i32
  let c1_i32 : BitVec 32 := 1#32
  let v16 : BitVec 32 := Scalar.divsi v14 c1_i32
  let v17 : BitVec 32 := Scalar.muli v16 c1_i32
  let v18 : BitVec 32 := Scalar.addi c0_i32 v17
  let v15 : BitVec 32 := Scalar.addi c0_i32 v14
  let c1_i32_10 : BitVec 32 := 1#32
  ⟨v18, v15, c1_i32_10⟩
def k1_mult2 (i : grid1.Coords) (k1_t2 : Fin (k1_t2_loop i).trips) : BitVec 32 :=
  let c0_i32 : BitVec 32 := 0#32
  let arg1 : BitVec 32 := BitVec.ofNat 32 (i 1).val
  let v14 : BitVec 32 := Scalar.subi arg1 c0_i32
  let c1_i32 : BitVec 32 := 1#32
  let v16 : BitVec 32 := Scalar.divsi v14 c1_i32
  let v17 : BitVec 32 := Scalar.muli v16 c1_i32
  let v18 : BitVec 32 := Scalar.addi c0_i32 v17
  let c1_i32_10 : BitVec 32 := 1#32
  let arg10 : BitVec 32 := Scf.iv v18 c1_i32_10 k1_t2
  let c1024_i32_23 : BitVec 32 := 1024#32
  let v51 : BitVec 32 := Scalar.muli arg10 c1024_i32_23
  v51
def k1_off2 (i : grid1.Coords) (k1_t2 : Fin (k1_t2_loop i).trips) : Fin 2 → Nat :=
  let c0_i32 : BitVec 32 := 0#32
  let arg1 : BitVec 32 := BitVec.ofNat 32 (i 1).val
  let v14 : BitVec 32 := Scalar.subi arg1 c0_i32
  let c1_i32 : BitVec 32 := 1#32
  let v16 : BitVec 32 := Scalar.divsi v14 c1_i32
  let v17 : BitVec 32 := Scalar.muli v16 c1_i32
  let v18 : BitVec 32 := Scalar.addi c0_i32 v17
  let c1_i32_10 : BitVec 32 := 1#32
  let arg10 : BitVec 32 := Scf.iv v18 c1_i32_10 k1_t2
  let c1024_i32_23 : BitVec 32 := 1024#32
  let v51 : BitVec 32 := Scalar.muli arg10 c1024_i32_23
  let v52 : BitVec 32 := v51
  let v53 : Index := Scalar.indexCast v52
  let c0_24 : Index := 0#32
  ![v53.toNat, 0]
def k1_mult3 (i : grid1.Coords) : BitVec 32 :=
  let arg1 : BitVec 32 := BitVec.ofNat 32 (i 1).val
  let c1024_i32 : BitVec 32 := 1024#32
  let v21 : BitVec 32 := Scalar.muli arg1 c1024_i32
  v21
def k1_off3 (i : grid1.Coords) : Fin 2 → Nat :=
  let arg1 : BitVec 32 := BitVec.ofNat 32 (i 1).val
  let c1024_i32 : BitVec 32 := 1024#32
  let v21 : BitVec 32 := Scalar.muli arg1 c1024_i32
  let v22 : BitVec 32 := v21
  let v23 : Index := Scalar.indexCast v22
  let c0_11 : Index := 0#32
  ![v23.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1024x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1024x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x1024x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨2, ![8, 4], ![false, false]⟩

def k2_mult1 (i : grid2.Coords) : BitVec 32 :=
  let arg1 : BitVec 32 := BitVec.ofNat 32 (i 1).val
  let c1024_i32 : BitVec 32 := 1024#32
  let v5 : BitVec 32 := Scalar.muli arg1 c1024_i32
  v5
def k2_off1 (i : grid2.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_3 : Index := 0#32
  ![v7.toNat, 0]
def k2_off2 (i : grid2.Coords) : Fin 3 → Nat :=
  let c0_5 : Index := 0#32
  let c0_6 : Index := 0#32
  let arg1 : BitVec 32 := BitVec.ofNat 32 (i 1).val
  let c1024_i32 : BitVec 32 := 1024#32
  let v5 : BitVec 32 := Scalar.muli arg1 c1024_i32
  let v6 : BitVec 32 := v5
  let v14 : Index := Scalar.indexCast v6
  ![0, 0, v14.toNat]
@[reducible] def k2_t1_loop (i : grid2.Coords) : Scf.Loop 32 :=
  let arg1 : BitVec 32 := BitVec.ofNat 32 (i 1).val
  let c1_i32 : BitVec 32 := 1#32
  let v39 : BitVec 32 := Scalar.addi arg1 c1_i32
  let c4_i32 : BitVec 32 := 4#32
  let v40 : BitVec 32 := Scalar.subi c4_i32 v39
  let c1_i32_14 : BitVec 32 := 1#32
  let v42 : BitVec 32 := Scalar.divsi v40 c1_i32_14
  let v43 : BitVec 32 := Scalar.muli v42 c1_i32_14
  let v44 : BitVec 32 := Scalar.addi v39 v43
  let c1_i32_15 : BitVec 32 := 1#32
  ⟨v39, v44, c1_i32_15⟩
def k2_mult2 (i : grid2.Coords) (k2_t1 : Fin (k2_t1_loop i).trips) : BitVec 32 :=
  let arg1 : BitVec 32 := BitVec.ofNat 32 (i 1).val
  let c1_i32 : BitVec 32 := 1#32
  let v39 : BitVec 32 := Scalar.addi arg1 c1_i32
  let c1_i32_15 : BitVec 32 := 1#32
  let arg10 : BitVec 32 := Scf.iv v39 c1_i32_15 k2_t1
  let c1024_i32_22 : BitVec 32 := 1024#32
  let v51 : BitVec 32 := Scalar.muli arg10 c1024_i32_22
  v51
def k2_off3 (i : grid2.Coords) (k2_t1 : Fin (k2_t1_loop i).trips) : Fin 2 → Nat :=
  let arg1 : BitVec 32 := BitVec.ofNat 32 (i 1).val
  let c1_i32 : BitVec 32 := 1#32
  let v39 : BitVec 32 := Scalar.addi arg1 c1_i32
  let c1_i32_15 : BitVec 32 := 1#32
  let arg10 : BitVec 32 := Scf.iv v39 c1_i32_15 k2_t1
  let c1024_i32_22 : BitVec 32 := 1024#32
  let v51 : BitVec 32 := Scalar.muli arg10 c1024_i32_22
  let v52 : BitVec 32 := v51
  let v53 : Index := Scalar.indexCast v52
  let c0_23 : Index := 0#32
  ![v53.toNat, 0]
def k2_off4 (i : grid2.Coords) (k2_t1 : Fin (k2_t1_loop i).trips) : Fin 3 → Nat :=
  let c0_25 : Index := 0#32
  let c0_26 : Index := 0#32
  let arg1 : BitVec 32 := BitVec.ofNat 32 (i 1).val
  let c1_i32 : BitVec 32 := 1#32
  let v39 : BitVec 32 := Scalar.addi arg1 c1_i32
  let c1_i32_15 : BitVec 32 := 1#32
  let arg10 : BitVec 32 := Scf.iv v39 c1_i32_15 k2_t1
  let c1024_i32_22 : BitVec 32 := 1024#32
  let v51 : BitVec 32 := Scalar.muli arg10 c1024_i32_22
  let v52 : BitVec 32 := v51
  let v60 : Index := Scalar.indexCast v52
  ![0, 0, v60.toNat]
@[reducible] def k2_t2_loop (i : grid2.Coords) : Scf.Loop 32 :=
  let arg1 : BitVec 32 := BitVec.ofNat 32 (i 1).val
  let c1_i32 : BitVec 32 := 1#32
  let v39 : BitVec 32 := Scalar.addi arg1 c1_i32
  let c4_i32 : BitVec 32 := 4#32
  let v40 : BitVec 32 := Scalar.subi c4_i32 v39
  let c1_i32_14 : BitVec 32 := 1#32
  let v42 : BitVec 32 := Scalar.divsi v40 c1_i32_14
  let v43 : BitVec 32 := Scalar.muli v42 c1_i32_14
  let v44 : BitVec 32 := Scalar.addi v39 v43
  let v41 : BitVec 32 := Scalar.addi v39 v40
  let c1_i32_16 : BitVec 32 := 1#32
  ⟨v44, v41, c1_i32_16⟩
def k2_mult3 (i : grid2.Coords) (k2_t2 : Fin (k2_t2_loop i).trips) : BitVec 32 :=
  let arg1 : BitVec 32 := BitVec.ofNat 32 (i 1).val
  let c1_i32 : BitVec 32 := 1#32
  let v39 : BitVec 32 := Scalar.addi arg1 c1_i32
  let c4_i32 : BitVec 32 := 4#32
  let v40 : BitVec 32 := Scalar.subi c4_i32 v39
  let c1_i32_14 : BitVec 32 := 1#32
  let v42 : BitVec 32 := Scalar.divsi v40 c1_i32_14
  let v43 : BitVec 32 := Scalar.muli v42 c1_i32_14
  let v44 : BitVec 32 := Scalar.addi v39 v43
  let c1_i32_16 : BitVec 32 := 1#32
  let arg10 : BitVec 32 := Scf.iv v44 c1_i32_16 k2_t2
  let c1024_i32_22 : BitVec 32 := 1024#32
  let v51 : BitVec 32 := Scalar.muli arg10 c1024_i32_22
  v51
def k2_off5 (i : grid2.Coords) (k2_t2 : Fin (k2_t2_loop i).trips) : Fin 2 → Nat :=
  let arg1 : BitVec 32 := BitVec.ofNat 32 (i 1).val
  let c1_i32 : BitVec 32 := 1#32
  let v39 : BitVec 32 := Scalar.addi arg1 c1_i32
  let c4_i32 : BitVec 32 := 4#32
  let v40 : BitVec 32 := Scalar.subi c4_i32 v39
  let c1_i32_14 : BitVec 32 := 1#32
  let v42 : BitVec 32 := Scalar.divsi v40 c1_i32_14
  let v43 : BitVec 32 := Scalar.muli v42 c1_i32_14
  let v44 : BitVec 32 := Scalar.addi v39 v43
  let c1_i32_16 : BitVec 32 := 1#32
  let arg10 : BitVec 32 := Scf.iv v44 c1_i32_16 k2_t2
  let c1024_i32_22 : BitVec 32 := 1024#32
  let v51 : BitVec 32 := Scalar.muli arg10 c1024_i32_22
  let v52 : BitVec 32 := v51
  let v53 : Index := Scalar.indexCast v52
  let c0_23 : Index := 0#32
  ![v53.toNat, 0]
def k2_off6 (i : grid2.Coords) (k2_t2 : Fin (k2_t2_loop i).trips) : Fin 3 → Nat :=
  let c0_25 : Index := 0#32
  let c0_26 : Index := 0#32
  let arg1 : BitVec 32 := BitVec.ofNat 32 (i 1).val
  let c1_i32 : BitVec 32 := 1#32
  let v39 : BitVec 32 := Scalar.addi arg1 c1_i32
  let c4_i32 : BitVec 32 := 4#32
  let v40 : BitVec 32 := Scalar.subi c4_i32 v39
  let c1_i32_14 : BitVec 32 := 1#32
  let v42 : BitVec 32 := Scalar.divsi v40 c1_i32_14
  let v43 : BitVec 32 := Scalar.muli v42 c1_i32_14
  let v44 : BitVec 32 := Scalar.addi v39 v43
  let c1_i32_16 : BitVec 32 := 1#32
  let arg10 : BitVec 32 := Scf.iv v44 c1_i32_16 k2_t2
  let c1024_i32_22 : BitVec 32 := 1024#32
  let v51 : BitVec 32 := Scalar.muli arg10 c1024_i32_22
  let v52 : BitVec 32 := v51
  let v60 : Index := Scalar.indexCast v52
  ![0, 0, v60.toNat]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S4096x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1024x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S4096x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x1x4096 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1x1x4096 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S1024x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S1024x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]
-- ==== Kernel2Ideal.lean ====
variable {F : FTy → Type} [FloatOps F] [Named F]
def κ : String → Option EReal := fun
  | "ln2" => some ((Real.log 2 : ℝ) : EReal)
  | "log2e" => some (((Real.log 2)⁻¹ : ℝ) : EReal)
  | "mask" => some ⊥
  | "scale" => some (((Real.sqrt 96)⁻¹ : ℝ) : EReal)
  | _ => none
-- ==== Reference2Ideal.lean ====
abbrev S4096x8x96 : Shape := ⟨3, ![4096, 8, 96]⟩
abbrev S4096x8x64 : Shape := ⟨3, ![4096, 8, 64]⟩
abbrev S_ : Shape := ⟨0, ![]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S8x4096x96 : Shape := ⟨3, ![8, 4096, 96]⟩
abbrev S4096x8x128 : Shape := ⟨3, ![4096, 8, 128]⟩
abbrev S4096x1024 : Shape := ⟨2, ![4096, 1024]⟩

abbrev nBuf : Space → Nat
  | .hbm => 109
  | .vmem => 0
  | .smem => 0
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S4096x8x64, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8x4096x4096, .f32⟩
  | .hbm, ⟨9, _⟩ => ⟨S8x4096x4096, .f32⟩
  | .hbm, ⟨10, _⟩ => ⟨S8x4096x4096, .f32⟩
  | .hbm, ⟨11, _⟩ => ⟨S4096, .i32⟩
  | .hbm, ⟨12, _⟩ => ⟨S1x4096, .i32⟩
  | .hbm, ⟨13, _⟩ => ⟨S4096, .i32⟩
  | .hbm, ⟨14, _⟩ => ⟨S4096x1, .i32⟩
  | .hbm, ⟨15, _⟩ => ⟨S4096x4096, .i32⟩
  | .hbm, ⟨16, _⟩ => ⟨S4096x4096, .i32⟩
  | .hbm, ⟨17, _⟩ => ⟨S4096x4096, .i1⟩
  | .hbm, ⟨18, _⟩ => ⟨S_, .f32⟩
  | .hbm, ⟨19, _⟩ => ⟨S_, .f32⟩
  | .hbm, ⟨20, _⟩ => ⟨S8x4096x4096, .i1⟩
  | .hbm, ⟨21, _⟩ => ⟨S8x4096x4096, .f32⟩
  | .hbm, ⟨22, _⟩ => ⟨S8x4096x4096, .f32⟩
  | .hbm, ⟨23, _⟩ => ⟨S_, .f32⟩
  | .hbm, ⟨24, _⟩ => ⟨S8x4096x4096, .f32⟩
  | .hbm, ⟨25, _⟩ => ⟨S_, .f32⟩
  | .hbm, ⟨26, _⟩ => ⟨S8x4096, .f32⟩
  | .hbm, ⟨27, _⟩ => ⟨S8x4096x1, .f32⟩
  | .hbm, ⟨28, _⟩ => ⟨S8x4096x4096, .f32⟩
  | .hbm, ⟨29, _⟩ => ⟨S8x4096x4096, .i1⟩
  | .hbm, ⟨30, _⟩ => ⟨S8x4096x4096, .f32⟩
  | .hbm, ⟨31, _⟩ => ⟨S_, .f32⟩
  | .hbm, ⟨32, _⟩ => ⟨S8x4096, .f32⟩
  | .hbm, ⟨33, _⟩ => ⟨S_, .f32⟩
  | .hbm, ⟨34, _⟩ => ⟨S8x4096, .f32⟩
  | .hbm, ⟨35, _⟩ => ⟨S8x4096, .f32⟩
  | .hbm, ⟨36, _⟩ => ⟨S_, .f32⟩
  | .hbm, ⟨37, _⟩ => ⟨S8x4096, .f32⟩
  | .hbm, ⟨38, _⟩ => ⟨S8x4096, .i1⟩
  | .hbm, ⟨39, _⟩ => ⟨S_, .f32⟩
  | .hbm, ⟨40, _⟩ => ⟨S8x4096, .f32⟩
  | .hbm, ⟨41, _⟩ => ⟨S8x4096, .i1⟩
  | .hbm, ⟨42, _⟩ => ⟨S_, .f32⟩
  | .hbm, ⟨43, _⟩ => ⟨S8x4096, .f32⟩
  | .hbm, ⟨44, _⟩ => ⟨S_, .f32⟩
  | .hbm, ⟨45, _⟩ => ⟨S8x4096, .f32⟩
  | .hbm, ⟨46, _⟩ => ⟨S_, .f32⟩
  | .hbm, ⟨47, _⟩ => ⟨S8x4096, .f32⟩
  | .hbm, ⟨48, _⟩ => ⟨S8x4096, .f32⟩
  | .hbm, ⟨49, _⟩ => ⟨S8x4096, .f32⟩
  | .hbm, ⟨50, _⟩ => ⟨S8x4096x1, .f32⟩
  | .hbm, ⟨51, _⟩ => ⟨S8x4096x4096, .f32⟩
  | .hbm, ⟨52, _⟩ => ⟨S8x4096x4096, .f32⟩
  | .hbm, ⟨53, _⟩ => ⟨S8x4096x4096, .f32⟩
  | .hbm, ⟨54, _⟩ => ⟨S_, .f32⟩
  | .hbm, ⟨55, _⟩ => ⟨S8x4096, .f32⟩
  | .hbm, ⟨56, _⟩ => ⟨S8x4096x1, .f32⟩
  | .hbm, ⟨57, _⟩ => ⟨S8x4096x4096, .f32⟩
  | .hbm, ⟨58, _⟩ => ⟨S8x4096x4096, .f32⟩
  | .hbm, ⟨59, _⟩ => ⟨S8x4096x1, .f32⟩
  | .hbm, ⟨60, _⟩ => ⟨S_, .f32⟩
  | .hbm, ⟨61, _⟩ => ⟨S8x4096x1, .f32⟩
  | .hbm, ⟨62, _⟩ => ⟨S8x4096x1, .f32⟩
  | .hbm, ⟨63, _⟩ => ⟨S8x64x4096, .f32⟩
  | .hbm, ⟨64, _⟩ => ⟨S4096x8x64, .f32⟩
  | .hbm, ⟨65, _⟩ => ⟨S8x64x4096, .f32⟩
  | .hbm, ⟨66, _⟩ => ⟨S8x4096x4096, .f32⟩
  | .hbm, ⟨67, _⟩ => ⟨S8x64x4096, .f32⟩
  | .hbm, ⟨68, _⟩ => ⟨S4096x8x64, .f32⟩
  | .hbm, ⟨69, _⟩ => ⟨S8x4096x4096, .f32⟩
  | .hbm, ⟨70, _⟩ => ⟨S8x4096x4096, .f32⟩
  | .hbm, ⟨71, _⟩ => ⟨S8x4096x4096, .f32⟩
  | .hbm, ⟨72, _⟩ => ⟨S_, .f32⟩
  | .hbm, ⟨73, _⟩ => ⟨S8x4096, .f32⟩
  | .hbm, ⟨74, _⟩ => ⟨S8x4096x1, .f32⟩
  | .hbm, ⟨75, _⟩ => ⟨S8x4096x1, .f32⟩
  | .hbm, ⟨76, _⟩ => ⟨S8x4096x4096, .f32⟩
  | .hbm, ⟨77, _⟩ => ⟨S8x4096x4096, .f32⟩
  | .hbm, ⟨78, _⟩ => ⟨S_, .f32⟩
  | .hbm, ⟨79, _⟩ => ⟨S8x4096, .f32⟩
  | .hbm, ⟨80, _⟩ => ⟨S8x4096x4096, .f32⟩
  | .hbm, ⟨81, _⟩ => ⟨S8x4096x4096, .f32⟩
  | .hbm, ⟨82, _⟩ => ⟨S8x4096x4096, .f32⟩
  | .hbm, ⟨83, _⟩ => ⟨S_, .f32⟩
  | .hbm, ⟨84, _⟩ => ⟨S8x4096x4096, .f32⟩
  | .hbm, ⟨85, _⟩ => ⟨S8x4096x4096, .f32⟩
  | .hbm, ⟨86, _⟩ => ⟨S8x4096x4096, .f32⟩
  | .hbm, ⟨87, _⟩ => ⟨S8x4096x4096, .f32⟩
  | .hbm, ⟨88, _⟩ => ⟨S8x4096x96, .f32⟩
  | .hbm, ⟨89, _⟩ => ⟨S4096x8x96, .f32⟩
  | .hbm, ⟨90, _⟩ => ⟨S8x4096x96, .f32⟩
  | .hbm, ⟨91, _⟩ => ⟨S4096x8x96, .f32⟩
  | .hbm, ⟨92, _⟩ => ⟨S_, .i32⟩
  | .hbm, ⟨93, _⟩ => ⟨S_, .f32⟩
  | .hbm, ⟨94, _⟩ => ⟨S4096x8x128, .f32⟩
  | .hbm, ⟨95, _⟩ => ⟨S4096x1024, .f32⟩
  | .hbm, ⟨96, _⟩ => ⟨S4096x1024, .bf16⟩
  | .hbm, ⟨97, _⟩ => ⟨S_, .i32⟩
  | .hbm, ⟨98, _⟩ => ⟨S_, .f32⟩
  | .hbm, ⟨99, _⟩ => ⟨S4096x8x128, .f32⟩
  | .hbm, ⟨100, _⟩ => ⟨S4096x1024, .f32⟩
  | .hbm, ⟨101, _⟩ => ⟨S_, .i32⟩
  | .hbm, ⟨102, _⟩ => ⟨S_, .f32⟩
  | .hbm, ⟨103, _⟩ => ⟨S4096x8x128, .f32⟩
  | .hbm, ⟨104, _⟩ => ⟨S4096x1024, .f32⟩
  | .hbm, ⟨105, _⟩ => ⟨S_, .i32⟩
  | .hbm, ⟨106, _⟩ => ⟨S_, .f32⟩
  | .hbm, ⟨107, _⟩ => ⟨S4096x8x128, .f32⟩
  | .hbm, ⟨108, _⟩ => ⟨S4096x1024, .f32⟩
  | _, _ => ⟨S4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_call0_v0 : Ref sig .tc := ⟨.hbm, 19, rfl⟩
abbrev main_v12_1 : Ref sig .tc := ⟨.hbm, 20, rfl⟩
abbrev main_call0_v2 : Ref sig .tc := ⟨.hbm, 21, rfl⟩
abbrev main_v12_0 : Ref sig .tc := ⟨.hbm, 22, rfl⟩
abbrev main_call0_cst : Ref sig .tc := ⟨.hbm, 23, rfl⟩
abbrev main_v12_2 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_cst_9 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_10 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_11 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_12 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_13 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call1_cst : Ref sig .tc := ⟨.hbm, 83, rfl⟩
abbrev main_call1_v0 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c : Ref sig .tc := ⟨.hbm, 92, rfl⟩
abbrev main_call2_v0 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_c_14 : Ref sig .tc := ⟨.hbm, 97, rfl⟩
abbrev main_call3_v0 : Ref sig .tc := ⟨.hbm, 98, rfl⟩
abbrev main_v69 : Ref sig .tc := ⟨.hbm, 99, rfl⟩
abbrev main_v70 : Ref sig .tc := ⟨.hbm, 100, rfl⟩
abbrev main_c_15 : Ref sig .tc := ⟨.hbm, 101, rfl⟩
abbrev main_call4_v0 : Ref sig .tc := ⟨.hbm, 102, rfl⟩
abbrev main_v71 : Ref sig .tc := ⟨.hbm, 103, rfl⟩
abbrev main_v72 : Ref sig .tc := ⟨.hbm, 104, rfl⟩
abbrev main_c_16 : Ref sig .tc := ⟨.hbm, 105, rfl⟩
abbrev main_call5_v0 : Ref sig .tc := ⟨.hbm, 106, rfl⟩
abbrev main_v73 : Ref sig .tc := ⟨.hbm, 107, rfl⟩
abbrev main_v74 : Ref sig .tc := ⟨.hbm, 108, rfl⟩

abbrev nD : Nat := 1
abbrev τ : Topo := Topo.v7x

variable {F : FTy → Type} [FloatOps F]
-- ==== Kernel3.lean ====
abbrev S4096x1024 : Shape := ⟨2, ![4096, 1024]⟩
abbrev S1024 : Shape := ⟨1, ![1024]⟩
abbrev S1024x1024 : Shape := ⟨2, ![1024, 1024]⟩
abbrev S1024x2048 : Shape := ⟨2, ![1024, 2048]⟩
abbrev S2048x1024 : Shape := ⟨2, ![2048, 1024]⟩
abbrev S1x1024 : Shape := ⟨2, ![1, 1024]⟩
abbrev S1024x1 : Shape := ⟨2, ![1024, 1]⟩

abbrev nBuf : Space → Nat
  | .hbm => 37
  | .vmem => 97
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .f32⟩
  | .hbm, ⟨3, _⟩ => ⟨S4096x1024, .f32⟩
  | .hbm, ⟨4, _⟩ => ⟨S1024, .f32⟩
  | .hbm, ⟨5, _⟩ => ⟨S1024x2048, .f32⟩
  | .hbm, ⟨6, _⟩ => ⟨S4096x1024, .f32⟩
  | .hbm, ⟨7, _⟩ => ⟨S4096x1024, .f32⟩
  | .hbm, ⟨8, _⟩ => ⟨S1024x2048, .bf16⟩
  | .hbm, ⟨9, _⟩ => ⟨S2048x1024, .bf16⟩
  | .hbm, ⟨10, _⟩ => ⟨S1x1024, .f32⟩
  | .hbm, ⟨11, _⟩ => ⟨S1024x1024, .bf16⟩
  | .hbm, ⟨12, _⟩ => ⟨S1x1024, .f32⟩
  | .hbm, ⟨13, _⟩ => ⟨S1024x1024, .bf16⟩
  | .hbm, ⟨14, _⟩ => ⟨S1024x1024, .bf16⟩
  | .hbm, ⟨15, _⟩ => ⟨S4096x1024, .bf16⟩
  | .hbm, ⟨16, _⟩ => ⟨S4096x1024, .f32⟩
  | .hbm, ⟨17, _⟩ => ⟨S4096x1024, .bf16⟩
  | .hbm, ⟨18, _⟩ => ⟨S4096x1024, .bf16⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | .hbm, ⟨23, _⟩ => ⟨S4096x1024, .bf16⟩
  | .hbm, ⟨24, _⟩ => ⟨S4096x1024, .f32⟩
  | .hbm, ⟨25, _⟩ => ⟨S4096x1024, .f32⟩
  | .hbm, ⟨26, _⟩ => ⟨S1024x1024, .bf16⟩
  | .hbm, ⟨27, _⟩ => ⟨S1024x1024, .bf16⟩
  | .hbm, ⟨28, _⟩ => ⟨S4096x1024, .bf16⟩
  | .hbm, ⟨29, _⟩ => ⟨S4096x1024, .f32⟩
  | .hbm, ⟨30, _⟩ => ⟨S1x1024, .f32⟩
  | .hbm, ⟨31, _⟩ => ⟨S4096x1024, .bf16⟩
  | .hbm, ⟨32, _⟩ => ⟨S4096x1024, .f32⟩
  | .hbm, ⟨33, _⟩ => ⟨S1024x1024, .bf16⟩
  | .hbm, ⟨34, _⟩ => ⟨S4096x1024, .f32⟩
  | .hbm, ⟨35, _⟩ => ⟨S4096x1024, .bf16⟩
  | .hbm, ⟨36, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1x1024, .f32⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1024x1024, .f32⟩
  | .local _ .vmem, ⟨23, _⟩ => ⟨S1024x1024, .f32⟩
  | .local _ .vmem, ⟨24, _⟩ => ⟨S1024x1024, .bf16⟩
  | .local _ .vmem, ⟨25, _⟩ => ⟨S1024x1024, .bf16⟩
  | .local _ .vmem, ⟨26, _⟩ => ⟨S1024x1024, .bf16⟩
  | .local _ .vmem, ⟨27, _⟩ => ⟨S1024x1024, .f32⟩
  | .local _ .vmem, ⟨28, _⟩ => ⟨S1024x1024, .f32⟩
  | .local _ .vmem, ⟨29, _⟩ => ⟨S1024x1024, .f32⟩
  | .local _ .vmem, ⟨30, _⟩ => ⟨S1024x1024, .f32⟩
  | .local _ .vmem, ⟨31, _⟩ => ⟨S1024x1024, .f32⟩
  | .local _ .vmem, ⟨32, _⟩ => ⟨S1024x1024, .f32⟩
  | .local _ .vmem, ⟨33, _⟩ => ⟨S1024x1024, .f32⟩
  | .local _ .vmem, ⟨34, _⟩ => ⟨S1024x1024, .f32⟩
  | .local _ .vmem, ⟨35, _⟩ => ⟨S1024x1024, .f32⟩
  | .local _ .vmem, ⟨36, _⟩ => ⟨S1024x1024, .f32⟩
  | .local _ .vmem, ⟨37, _⟩ => ⟨S1024x1024, .f32⟩
  | .local _ .vmem, ⟨38, _⟩ => ⟨S1024x1024, .f32⟩
  | .local _ .vmem, ⟨39, _⟩ => ⟨S1024x1024, .f32⟩
  | .local _ .vmem, ⟨40, _⟩ => ⟨S1024x1024, .f32⟩
  | .local _ .vmem, ⟨41, _⟩ => ⟨S1024x1024, .f32⟩
  | .local _ .vmem, ⟨42, _⟩ => ⟨S1024x1024, .f32⟩
  | .local _ .vmem, ⟨43, _⟩ => ⟨S1024x1024, .bf16⟩
  | .local _ .vmem, ⟨44, _⟩ => ⟨S1024x1024, .bf16⟩
  | .local _ .vmem, ⟨45, _⟩ => ⟨S1024x1024, .bf16⟩
  | .local _ .vmem, ⟨46, _⟩ => ⟨S1024x1024, .bf16⟩
  | .local _ .vmem, ⟨47, _⟩ => ⟨S1024x1024, .bf16⟩
  | .local _ .vmem, ⟨48, _⟩ => ⟨S1024x1024, .bf16⟩
  | .local _ .vmem, ⟨49, _⟩ => ⟨S1024x1024, .bf16⟩
  | .local _ .vmem, ⟨50, _⟩ => ⟨S1024x1024, .f32⟩
  | .local _ .vmem, ⟨51, _⟩ => ⟨S1024x1024, .f32⟩
  | .local _ .vmem, ⟨52, _⟩ => ⟨S1024x1024, .bf16⟩
  | .local _ .vmem, ⟨53, _⟩ => ⟨S1024x1024, .bf16⟩
  | .local _ .vmem, ⟨54, _⟩ => ⟨S1024x1024, .bf16⟩
  | .local _ .vmem, ⟨55, _⟩ => ⟨S1024x1024, .f32⟩
  | .local _ .vmem, ⟨56, _⟩ => ⟨S1024x1024, .f32⟩
  | .local _ .vmem, ⟨57, _⟩ => ⟨S1024x1024, .f32⟩
  | .local _ .vmem, ⟨58, _⟩ => ⟨S1024x1024, .f32⟩
  | .local _ .vmem, ⟨59, _⟩ => ⟨S4096x1024, .bf16⟩
  | .local _ .vmem, ⟨60, _⟩ => ⟨S4096x1024, .bf16⟩
  | .local _ .vmem, ⟨61, _⟩ => ⟨S1024x1024, .bf16⟩
  | .local _ .vmem, ⟨62, _⟩ => ⟨S4096x1024, .bf16⟩
  | .local _ .vmem, ⟨63, _⟩ => ⟨S4096x1024, .bf16⟩
  | .local _ .vmem, ⟨64, _⟩ => ⟨S1024x1024, .bf16⟩
  | .local _ .vmem, ⟨65, _⟩ => ⟨S1024x1024, .f32⟩
  | .local _ .vmem, ⟨66, _⟩ => ⟨S1024x1024, .f32⟩
  | .local _ .vmem, ⟨67, _⟩ => ⟨S1024x1024, .f32⟩
  | .local _ .vmem, ⟨68, _⟩ => ⟨S1024x1024, .f32⟩
  | .local _ .vmem, ⟨69, _⟩ => ⟨S1024x1024, .f32⟩
  | .local _ .vmem, ⟨70, _⟩ => ⟨S1024x1024, .f32⟩
  | .local _ .vmem, ⟨71, _⟩ => ⟨S1x1024, .f32⟩
  | .local _ .vmem, ⟨72, _⟩ => ⟨S1024x1024, .bf16⟩
  | .local _ .vmem, ⟨73, _⟩ => ⟨S1024x1024, .bf16⟩
  | .local _ .vmem, ⟨74, _⟩ => ⟨S1024x1024, .f32⟩
  | .local _ .vmem, ⟨75, _⟩ => ⟨S1024x1024, .f32⟩
  | .local _ .vmem, ⟨76, _⟩ => ⟨S1x1024, .f32⟩
  | .local _ .vmem, ⟨77, _⟩ => ⟨S1024x1024, .bf16⟩
  | .local _ .vmem, ⟨78, _⟩ => ⟨S1024x1024, .bf16⟩
  | .local _ .vmem, ⟨79, _⟩ => ⟨S1024x1024, .bf16⟩
  | .local _ .vmem, ⟨80, _⟩ => ⟨S1024x1024, .f32⟩
  | .local _ .vmem, ⟨81, _⟩ => ⟨S1024x1024, .f32⟩
  | .local _ .vmem, ⟨82, _⟩ => ⟨S4096x1024, .bf16⟩
  | .local _ .vmem, ⟨83, _⟩ => ⟨S4096x1024, .bf16⟩
  | .local _ .vmem, ⟨84, _⟩ => ⟨S1024x1024, .bf16⟩
  | .local _ .vmem, ⟨85, _⟩ => ⟨S1024x1024, .f32⟩
  | .local _ .vmem, ⟨86, _⟩ => ⟨S1024x1024, .f32⟩
  | .local _ .vmem, ⟨87, _⟩ => ⟨S1024x1024, .f32⟩
  | .local _ .vmem, ⟨88, _⟩ => ⟨S1024x1024, .f32⟩
  | .local _ .vmem, ⟨89, _⟩ => ⟨S1x1024, .f32⟩
  | .local _ .vmem, ⟨90, _⟩ => ⟨S1024x1024, .f32⟩
  | .local _ .vmem, ⟨91, _⟩ => ⟨S1024x1024, .f32⟩
  | .local _ .vmem, ⟨92, _⟩ => ⟨S1024x1024, .f32⟩
  | .local _ .vmem, ⟨93, _⟩ => ⟨S1024x1024, .f32⟩
  | .local _ .vmem, ⟨94, _⟩ => ⟨S1024x1024, .bf16⟩
  | .local _ .vmem, ⟨95, _⟩ => ⟨S1024x1024, .bf16⟩
  | .local _ .vmem, ⟨96, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | _, _ => false

abbrev semScoped : Fin 0 → Bool
  | ⟨_, h⟩ => absurd h (Nat.not_lt_zero _)

abbrev dmaSemScoped : Fin 97 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | _ => false

abbrev sig : RefSig :=
  ofTc nBuf bufTy 0 97 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev main_v18_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22_0 : Ref sig .tc := ⟨.hbm, 34, rfl⟩
abbrev main_v22_1 : Ref sig .tc := ⟨.hbm, 35, rfl⟩
abbrev main_v22_2 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg2_1 : Ref sig .tc := ⟨.vmem, 34, rfl⟩
abbrev cc5_stg3_0 : Ref sig .tc := ⟨.vmem, 35, rfl⟩
abbrev cc5_stg3_1 : Ref sig .tc := ⟨.vmem, 36, rfl⟩
abbrev cc6_stg0_0 : Ref sig .tc := ⟨.vmem, 37, rfl⟩
abbrev cc6_stg0_1 : Ref sig .tc := ⟨.vmem, 38, rfl⟩
abbrev cc6_stg1_0 : Ref sig .tc := ⟨.vmem, 39, rfl⟩
abbrev cc6_stg1_1 : Ref sig .tc := ⟨.vmem, 40, rfl⟩
abbrev cc6_stg2_0 : Ref sig .tc := ⟨.vmem, 41, rfl⟩
abbrev cc6_stg2_1 : Ref sig .tc := ⟨.vmem, 42, rfl⟩
abbrev cc6_stg3_0 : Ref sig .tc := ⟨.vmem, 43, rfl⟩
abbrev cc6_stg3_1 : Ref sig .tc := ⟨.vmem, 44, rfl⟩
abbrev cc6_stg4_0 : Ref sig .tc := ⟨.vmem, 45, rfl⟩
abbrev cc6_stg4_1 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg2_0 : Ref sig .tc := ⟨.vmem, 50, rfl⟩
abbrev cc7_stg2_1 : Ref sig .tc := ⟨.vmem, 51, rfl⟩
abbrev cc8_stg0_0 : Ref sig .tc := ⟨.vmem, 52, rfl⟩
abbrev cc8_stg0_1 : Ref sig .tc := ⟨.vmem, 53, rfl⟩
abbrev cc8_stg1_0 : Ref sig .tc := ⟨.vmem, 54, rfl⟩
abbrev cc8_stg2_0 : Ref sig .tc := ⟨.vmem, 55, rfl⟩
abbrev cc8_stg2_1 : Ref sig .tc := ⟨.vmem, 56, rfl⟩
abbrev cc8_stg3_0 : Ref sig .tc := ⟨.vmem, 57, rfl⟩
abbrev cc8_stg3_1 : Ref sig .tc := ⟨.vmem, 58, rfl⟩
abbrev cc9_stg0_0 : Ref sig .tc := ⟨.vmem, 59, rfl⟩
abbrev cc9_stg1_0 : Ref sig .tc := ⟨.vmem, 60, rfl⟩
abbrev cc9_stg2_0 : Ref sig .tc := ⟨.vmem, 61, rfl⟩
abbrev cc10_stg0_0 : Ref sig .tc := ⟨.vmem, 62, rfl⟩
abbrev cc10_stg1_0 : Ref sig .tc := ⟨.vmem, 63, rfl⟩
abbrev cc10_stg2_0 : Ref sig .tc := ⟨.vmem, 64, rfl⟩
abbrev cc11_stg0_0 : Ref sig .tc := ⟨.vmem, 65, rfl⟩
abbrev cc11_stg0_1 : Ref sig .tc := ⟨.vmem, 66, rfl⟩
abbrev cc11_stg1_0 : Ref sig .tc := ⟨.vmem, 67, rfl⟩
abbrev cc11_stg1_1 : Ref sig .tc := ⟨.vmem, 68, rfl⟩
abbrev cc11_stg2_0 : Ref sig .tc := ⟨.vmem, 69, rfl⟩
abbrev cc11_stg2_1 : Ref sig .tc := ⟨.vmem, 70, rfl⟩
abbrev cc11_stg3_0 : Ref sig .tc := ⟨.vmem, 71, rfl⟩
abbrev cc11_stg4_0 : Ref sig .tc := ⟨.vmem, 72, rfl⟩
abbrev cc11_stg4_1 : Ref sig .tc := ⟨.vmem, 73, rfl⟩
abbrev cc11_stg5_0 : Ref sig .tc := ⟨.vmem, 74, rfl⟩
abbrev cc11_stg5_1 : Ref sig .tc := ⟨.vmem, 75, rfl⟩
abbrev cc11_stg6_0 : Ref sig .tc := ⟨.vmem, 76, rfl⟩
abbrev cc12_stg0_0 : Ref sig .tc := ⟨.vmem, 77, rfl⟩
abbrev cc12_stg0_1 : Ref sig .tc := ⟨.vmem, 78, rfl⟩
abbrev cc12_stg1_0 : Ref sig .tc := ⟨.vmem, 79, rfl⟩
abbrev cc12_stg2_0 : Ref sig .tc := ⟨.vmem, 80, rfl⟩
abbrev cc12_stg2_1 : Ref sig .tc := ⟨.vmem, 81, rfl⟩
abbrev cc13_stg0_0 : Ref sig .tc := ⟨.vmem, 82, rfl⟩
abbrev cc13_stg1_0 : Ref sig .tc := ⟨.vmem, 83, rfl⟩
abbrev cc13_stg2_0 : Ref sig .tc := ⟨.vmem, 84, rfl⟩
abbrev cc14_stg0_0 : Ref sig .tc := ⟨.vmem, 85, rfl⟩
abbrev cc14_stg0_1 : Ref sig .tc := ⟨.vmem, 86, rfl⟩
abbrev cc14_stg1_0 : Ref sig .tc := ⟨.vmem, 87, rfl⟩
abbrev cc14_stg1_1 : Ref sig .tc := ⟨.vmem, 88, rfl⟩
abbrev cc14_stg2_0 : Ref sig .tc := ⟨.vmem, 89, rfl⟩
abbrev cc14_stg3_0 : Ref sig .tc := ⟨.vmem, 90, rfl⟩
abbrev cc14_stg3_1 : Ref sig .tc := ⟨.vmem, 91, rfl⟩
abbrev cc14_stg4_0 : Ref sig .tc := ⟨.vmem, 92, rfl⟩
abbrev cc14_stg4_1 : Ref sig .tc := ⟨.vmem, 93, rfl⟩
abbrev cc14_stg5_0 : Ref sig .tc := ⟨.vmem, 94, rfl⟩
abbrev cc14_stg5_1 : Ref sig .tc := ⟨.vmem, 95, rfl⟩
abbrev cc14_stg6_0 : Ref sig .tc := ⟨.vmem, 96, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem2_1 : DmaSem sig := 34
abbrev cc5_sem3_0 : DmaSem sig := 35
abbrev cc5_sem3_1 : DmaSem sig := 36
abbrev cc6_sem0_0 : DmaSem sig := 37
abbrev cc6_sem0_1 : DmaSem sig := 38
abbrev cc6_sem1_0 : DmaSem sig := 39
abbrev cc6_sem1_1 : DmaSem sig := 40
abbrev cc6_sem2_0 : DmaSem sig := 41
abbrev cc6_sem2_1 : DmaSem sig := 42
abbrev cc6_sem3_0 : DmaSem sig := 43
abbrev cc6_sem3_1 : DmaSem sig := 44
abbrev cc6_sem4_0 : DmaSem sig := 45
abbrev cc6_sem4_1 : DmaSem sig := 46
abbrev cc7_sem0_0 : DmaSem sig := 47
abbrev cc7_sem0_1 : DmaSem sig := 48
abbrev cc7_sem1_0 : DmaSem sig := 49
abbrev cc7_sem2_0 : DmaSem sig := 50
abbrev cc7_sem2_1 : DmaSem sig := 51
abbrev cc8_sem0_0 : DmaSem sig := 52
abbrev cc8_sem0_1 : DmaSem sig := 53
abbrev cc8_sem1_0 : DmaSem sig := 54
abbrev cc8_sem2_0 : DmaSem sig := 55
abbrev cc8_sem2_1 : DmaSem sig := 56
abbrev cc8_sem3_0 : DmaSem sig := 57
abbrev cc8_sem3_1 : DmaSem sig := 58
abbrev cc9_sem0_0 : DmaSem sig := 59
abbrev cc9_sem1_0 : DmaSem sig := 60
abbrev cc9_sem2_0 : DmaSem sig := 61
abbrev cc10_sem0_0 : DmaSem sig := 62
abbrev cc10_sem1_0 : DmaSem sig := 63
abbrev cc10_sem2_0 : DmaSem sig := 64
abbrev cc11_sem0_0 : DmaSem sig := 65
abbrev cc11_sem0_1 : DmaSem sig := 66
abbrev cc11_sem1_0 : DmaSem sig := 67
abbrev cc11_sem1_1 : DmaSem sig := 68
abbrev cc11_sem2_0 : DmaSem sig := 69
abbrev cc11_sem2_1 : DmaSem sig := 70
abbrev cc11_sem3_0 : DmaSem sig := 71
abbrev cc11_sem4_0 : DmaSem sig := 72
abbrev cc11_sem4_1 : DmaSem sig := 73
abbrev cc11_sem5_0 : DmaSem sig := 74
abbrev cc11_sem5_1 : DmaSem sig := 75
abbrev cc11_sem6_0 : DmaSem sig := 76
abbrev cc12_sem0_0 : DmaSem sig := 77
abbrev cc12_sem0_1 : DmaSem sig := 78
abbrev cc12_sem1_0 : DmaSem sig := 79
abbrev cc12_sem2_0 : DmaSem sig := 80
abbrev cc12_sem2_1 : DmaSem sig := 81
abbrev cc13_sem0_0 : DmaSem sig := 82
abbrev cc13_sem1_0 : DmaSem sig := 83
abbrev cc13_sem2_0 : DmaSem sig := 84
abbrev cc14_sem0_0 : DmaSem sig := 85
abbrev cc14_sem0_1 : DmaSem sig := 86
abbrev cc14_sem1_0 : DmaSem sig := 87
abbrev cc14_sem1_1 : DmaSem sig := 88
abbrev cc14_sem2_0 : DmaSem sig := 89
abbrev cc14_sem3_0 : DmaSem sig := 90
abbrev cc14_sem3_1 : DmaSem sig := 91
abbrev cc14_sem4_0 : DmaSem sig := 92
abbrev cc14_sem4_1 : DmaSem sig := 93
abbrev cc14_sem5_0 : DmaSem sig := 94
abbrev cc14_sem5_1 : DmaSem sig := 95
abbrev cc14_sem6_0 : DmaSem sig := 96

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨3, ![4, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![4, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1024x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1024x1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S1024x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![4], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1024x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1024x1024 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S1024x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S1024x1024 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S1024x1024 .bf16 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨3, ![4, 1, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S1024x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 1 → Memref sig .tc .vmem S1024x1024 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true, true]

abbrev stage7_2 : Fin 2 → Memref sig .tc .vmem S1024x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![4, 1, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc8_transform_3 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S1024x1024 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 1 → Memref sig .tc .vmem S1024x1024 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, true, true]

abbrev stage8_2 : Fin 2 → Memref sig .tc .vmem S1024x1024 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev stage8_3 : Fin 2 → Memref sig .tc .vmem S1024x1024 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, true, false]

abbrev grid9 : Pipeline.Grid := ⟨3, ![1, 1, 1], ![false, false, false]⟩

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage9_0 : Fin 1 → Memref sig .tc .vmem S4096x1024 .bf16 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true, false, true]

abbrev stage9_1 : Fin 1 → Memref sig .tc .vmem S4096x1024 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false, true, true]

abbrev stage9_2 : Fin 1 → Memref sig .tc .vmem S1024x1024 .bf16 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![true, true, false]

abbrev grid10 : Pipeline.Grid := ⟨3, ![1, 1, 1], ![false, false, false]⟩

def cc10_transform_0 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc10_transform_1 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc10_transform_2 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage10_0 : Fin 1 → Memref sig .tc .vmem S4096x1024 .bf16 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![true, false, true]

abbrev stage10_1 : Fin 1 → Memref sig .tc .vmem S4096x1024 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false, true, true]

abbrev stage10_2 : Fin 1 → Memref sig .tc .vmem S1024x1024 .bf16 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![true, true, false]

abbrev grid11 : Pipeline.Grid := ⟨1, ![4], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_6 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 2 → Memref sig .tc .vmem S1024x1024 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S1024x1024 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S1024x1024 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 1 → Memref sig .tc .vmem S1x1024 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 2 → Memref sig .tc .vmem S1024x1024 .bf16 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev stage11_5 : Fin 2 → Memref sig .tc .vmem S1024x1024 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev stage11_6 : Fin 1 → Memref sig .tc .vmem S1x1024 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev grid12 : Pipeline.Grid := ⟨3, ![4, 1, 1], ![false, false, false]⟩

def cc12_transform_0 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc12_transform_1 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc12_transform_2 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage12_0 : Fin 2 → Memref sig .tc .vmem S1024x1024 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true, false, true]

abbrev stage12_1 : Fin 1 → Memref sig .tc .vmem S1024x1024 .bf16 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false, true, true]

abbrev stage12_2 : Fin 2 → Memref sig .tc .vmem S1024x1024 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true, true, false]

abbrev grid13 : Pipeline.Grid := ⟨3, ![1, 1, 1], ![false, false, false]⟩

def cc13_transform_0 (i : grid13.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc13_transform_1 (i : grid13.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc13_transform_2 (i : grid13.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage13_0 : Fin 1 → Memref sig .tc .vmem S4096x1024 .bf16 := fun | 0 => Memref.whole cc13_stg0_0 | ⟨_ + 1, h⟩ => absurd h (Nat.not_lt.2 (Nat.le_add_left _ _))
abbrev sem13_0 : Fin 1 → DmaSem sig := fun | 0 => cc13_sem0_0 | ⟨_ + 1, h⟩ => absurd h (Nat.not_lt.2 (Nat.le_add_left _ _))
abbrev reads13_0 : Fin grid13.rank → Bool := ![true, false, true]

abbrev stage13_1 : Fin 1 → Memref sig .tc .vmem S4096x1024 .bf16 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false, true, true]

abbrev stage13_2 : Fin 1 → Memref sig .tc .vmem S1024x1024 .bf16 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![true, true, false]

abbrev grid14 : Pipeline.Grid := ⟨1, ![4], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_4 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_5 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_6 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage14_0 : Fin 2 → Memref sig .tc .vmem S1024x1024 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S1024x1024 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 1 → Memref sig .tc .vmem S1x1024 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 2 → Memref sig .tc .vmem S1024x1024 .f32 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true]

abbrev stage14_4 : Fin 2 → Memref sig .tc .vmem S1024x1024 .f32 := fun | 0 => Memref.whole cc14_stg4_0 | 1 => Memref.whole cc14_stg4_1 | ⟨_ + 2, h⟩ => absurd h (Nat.not_lt.2 (Nat.le_add_left _ _))
abbrev sem14_4 : Fin 2 → DmaSem sig := fun | 0 => cc14_sem4_0 | 1 => cc14_sem4_1 | ⟨_ + 2, h⟩ => absurd h (Nat.not_lt.2 (Nat.le_add_left _ _))
abbrev reads14_4 : Fin grid14.rank → Bool := ![true]

abbrev stage14_5 : Fin 2 → Memref sig .tc .vmem S1024x1024 .bf16 := fun | 0 => Memref.whole cc14_stg5_0 | 1 => Memref.whole cc14_stg5_1 | ⟨_ + 2, h⟩ => absurd h (Nat.not_lt.2 (Nat.le_add_left _ _))
abbrev sem14_5 : Fin 2 → DmaSem sig := fun | 0 => cc14_sem5_0 | 1 => cc14_sem5_1 | ⟨_ + 2, h⟩ => absurd h (Nat.not_lt.2 (Nat.le_add_left _ _))
abbrev reads14_5 : Fin grid14.rank → Bool := ![true]

abbrev stage14_6 : Fin 1 → Memref sig .tc .vmem S1x1024 .f32 := fun | 0 => Memref.whole cc14_stg6_0 | ⟨_ + 1, h⟩ => absurd h (Nat.not_lt.2 (Nat.le_add_left _ _))
abbrev sem14_6 : Fin 1 → DmaSem sig := fun | 0 => cc14_sem6_0 | ⟨_ + 1, h⟩ => absurd h (Nat.not_lt.2 (Nat.le_add_left _ _))
abbrev reads14_6 : Fin grid14.rank → Bool := ![false]
-- ==== Kernel3Ideal.lean ====
variable {F : FTy → Type} [FloatOps F] [Named F]
def κ : String → Option EReal := fun
  | "cubic" => some ((8943 / 200000 : ℝ) : EReal)
  | "cubic_3" => some ((26829 / 200000 : ℝ) : EReal)
  | _ => none
-- ==== Reference3Ideal.lean ====
abbrev S4096x1024 : Shape := ⟨2, ![4096, 1024]⟩
abbrev S1024 : Shape := ⟨1, ![1024]⟩
abbrev S1024x1024 : Shape := ⟨2, ![1024, 1024]⟩
abbrev S1024x2048 : Shape := ⟨2, ![1024, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2048 : Shape := ⟨2, ![4096, 2048]⟩
abbrev S2048x1024 : Shape := ⟨2, ![2048, 1024]⟩

abbrev nBuf : Space → Nat
  | .hbm => 151
  | .vmem => 0
  | .smem => 0
  | _ => 0

abbrev hbmTy0_0 (i : Nat) : BufTy := match i % 128 with
  | 0 => ⟨S4096x1024, .f32⟩
  | 1 => ⟨S1024, .f32⟩
  | 2 => ⟨S1024x1024, .f32⟩
  | 3 => ⟨S4096x1024, .f32⟩
  | 4 => ⟨S1024, .f32⟩
  | 5 => ⟨S1024x2048, .f32⟩
  | 6 => ⟨S4096x1024, .f32⟩
  | 7 => ⟨S4096x1024, .f32⟩
  | 8 => ⟨S4096x1024, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1024, .f32⟩
  | 24 => ⟨S4096x1024, .f32⟩
  | 25 => ⟨S1x1024, .f32⟩
  | 26 => ⟨S4096x1024, .f32⟩
  | 27 => ⟨S4096x1024, .f32⟩
  | 28 => ⟨S4096x1024, .f32⟩
  | 29 => ⟨S1x1024, .f32⟩
  | 30 => ⟨S4096x1024, .f32⟩
  | 31 => ⟨S4096x1024, .f32⟩
  | 32 => ⟨S4096x1024, .f32⟩
  | 33 => ⟨S_, .f32⟩
  | 34 => ⟨S_, .f32⟩
  | 35 => ⟨S_, .f32⟩
  | 36 => ⟨S4096x1024, .f32⟩
  | 37 => ⟨S4096x1024, .f32⟩
  | 38 => ⟨S4096x1024, .f32⟩
  | 39 => ⟨S_, .f32⟩
  | 40 => ⟨S4096x1024, .f32⟩
  | 41 => ⟨S4096x1024, .f32⟩
  | 42 => ⟨S4096x1024, .f32⟩
  | 43 => ⟨S4096x1024, .f32⟩
  | 44 => ⟨S4096x1024, .f32⟩
  | 45 => ⟨S_, .f32⟩
  | 46 => ⟨S4096x1024, .f32⟩
  | 47 => ⟨S4096x1024, .f32⟩
  | 48 => ⟨S4096x1024, .f32⟩
  | 49 => ⟨S_, .f32⟩
  | 50 => ⟨S4096x1024, .f32⟩
  | 51 => ⟨S4096x1024, .f32⟩
  | 52 => ⟨S_, .f32⟩
  | 53 => ⟨S4096x1024, .f32⟩
  | 54 => ⟨S4096x1024, .f32⟩
  | 55 => ⟨S4096x1024, .f32⟩
  | 56 => ⟨S_, .f32⟩
  | 57 => ⟨S4096x1024, .f32⟩
  | 58 => ⟨S4096x1024, .f32⟩
  | 59 => ⟨S_, .f32⟩
  | 60 => ⟨S4096x1024, .f32⟩
  | 61 => ⟨S4096x1024, .f32⟩
  | 62 => ⟨S4096x1024, .f32⟩
  | 63 => ⟨S4096x2048, .f32⟩
  | 64 => ⟨S4096x1024, .f32⟩
  | 65 => ⟨S4096x1024, .f32⟩
  | 66 => ⟨S4096x1024, .f32⟩
  | 67 => ⟨S4096x1024, .f32⟩
  | 68 => ⟨S_, .f32⟩
  | 69 => ⟨S4096x1024, .f32⟩
  | 70 => ⟨S4096x1024, .f32⟩
  | 71 => ⟨S_, .f32⟩
  | 72 => ⟨S4096x1024, .f32⟩
  | 73 => ⟨S4096x1024, .f32⟩
  | 74 => ⟨S_, .f32⟩
  | 75 => ⟨S4096x1024, .f32⟩
  | 76 => ⟨S4096x1024, .f32⟩
  | 77 => ⟨S4096x1024, .f32⟩
  | 78 => ⟨S4096x1024, .f32⟩
  | 79 => ⟨S4096x1024, .f32⟩
  | 80 => ⟨S4096x1024, .f32⟩
  | 81 => ⟨S4096x1024, .f32⟩
  | 82 => ⟨S4096x1024, .f32⟩
  | 83 => ⟨S4096x1024, .f32⟩
  | 84 => ⟨S4096x2048, .f32⟩
  | 85 => ⟨S2048x1024, .f32⟩
  | 86 => ⟨S1024x2048, .f32⟩
  | 87 => ⟨S4096x1024, .f32⟩
  | 88 => ⟨S4096x1024, .f32⟩
  | 89 => ⟨S4096x1024, .f32⟩
  | 90 => ⟨S_, .f32⟩
  | 91 => ⟨S4096x1024, .f32⟩
  | 92 => ⟨S4096x1024, .f32⟩
  | 93 => ⟨S4096x1024, .f32⟩
  | 94 => ⟨S_, .f32⟩
  | 95 => ⟨S4096x1024, .f32⟩
  | 96 => ⟨S4096x1024, .f32⟩
  | 97 => ⟨S4096x1024, .f32⟩
  | 98 => ⟨S4096x1024, .f32⟩
  | 99 => ⟨S4096x1024, .f32⟩
  | 100 => ⟨S4096x1024, .f32⟩
  | 101 => ⟨S4096x1024, .f32⟩
  | 102 => ⟨S4096x1024, .f32⟩
  | 103 => ⟨S4096x1024, .f32⟩
  | 104 => ⟨S4096x1024, .f32⟩
  | 105 => ⟨S_, .f32⟩
  | 106 => ⟨S1024, .f32⟩
  | 107 => ⟨S1x1024, .f32⟩
  | 108 => ⟨S_, .f32⟩
  | 109 => ⟨S1024, .f32⟩
  | 110 => ⟨S1024x1024, .f32⟩
  | 111 => ⟨S1024x1024, .f32⟩
  | 112 => ⟨S4096x1024, .f32⟩
  | 113 => ⟨S4096x1024, .f32⟩
  | 114 => ⟨S_, .f32⟩
  | 115 => ⟨S1024, .f32⟩
  | 116 => ⟨S1x1024, .f32⟩
  | 117 => ⟨S4096x1024, .f32⟩
  | 118 => ⟨S4096x1024, .f32⟩
  | 119 => ⟨S_, .f32⟩
  | 120 => ⟨S1024, .f32⟩
  | 121 => ⟨S4096x1024, .f32⟩
  | 122 => ⟨S_, .f32⟩
  | 123 => ⟨S4096, .f32⟩
  | 124 => ⟨S4096x1, .f32⟩
  | 125 => ⟨S4096x1024, .f32⟩
  | 126 => ⟨S4096x1024, .f32⟩
  | 127 => ⟨S4096x1, .f32⟩
  | _ => ⟨S4096x1024, .f32⟩

abbrev hbmTy0_1 (i : Nat) : BufTy := match i % 128 with
  | 0 => ⟨S_, .f32⟩
  | 1 => ⟨S4096x1, .f32⟩
  | 2 => ⟨S4096x1, .f32⟩
  | 3 => ⟨S_, .f32⟩
  | 4 => ⟨S4096, .f32⟩
  | 5 => ⟨S4096x1024, .f32⟩
  | 6 => ⟨S4096x1024, .f32⟩
  | 7 => ⟨S4096x1024, .f32⟩
  | 8 => ⟨S4096x1024, .f32⟩
  | 9 => ⟨S4096x1024, .f32⟩
  | 10 => ⟨S4096x1024, .f32⟩
  | 11 => ⟨S4096x1024, .bf16⟩
  | 12 => ⟨S1024x1024, .f32⟩
  | 13 => ⟨S1024x1024, .f32⟩
  | 14 => ⟨S1024x1024, .bf16⟩
  | 15 => ⟨S1024x1024, .f32⟩
  | 16 => ⟨S1024x1024, .f32⟩
  | 17 => ⟨S1024x1024, .bf16⟩
  | 18 => ⟨S4096x1024, .bf16⟩
  | 19 => ⟨S1x1024, .f32⟩
  | 20 => ⟨S1024x1024, .bf16⟩
  | 21 => ⟨S4096x1024, .bf16⟩
  | 22 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_cst_8 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_v39 : Ref sig .tc := ⟨.hbm, 58, rfl⟩
abbrev main_cst_10 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_11 : Ref sig .tc := ⟨.hbm, 68, rfl⟩
abbrev main_v48 : Ref sig .tc := ⟨.hbm, 69, rfl⟩
abbrev main_v49 : Ref sig .tc := ⟨.hbm, 70, rfl⟩
abbrev main_cst_12 : Ref sig .tc := ⟨.hbm, 71, rfl⟩
abbrev main_v50 : Ref sig .tc := ⟨.hbm, 72, rfl⟩
abbrev main_v51 : Ref sig .tc := ⟨.hbm, 73, rfl⟩
abbrev main_cst_13 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_14 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_15 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_16 : Ref sig .tc := ⟨.hbm, 105, rfl⟩
abbrev main_v80 : Ref sig .tc := ⟨.hbm, 106, rfl⟩
abbrev main_v81 : Ref sig .tc := ⟨.hbm, 107, rfl⟩
abbrev main_cst_17 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_18 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_19 : Ref sig .tc := ⟨.hbm, 119, rfl⟩
abbrev main_v91 : Ref sig .tc := ⟨.hbm, 120, rfl⟩
abbrev main_v92 : Ref sig .tc := ⟨.hbm, 121, rfl⟩
abbrev main_cst_20 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_cst_21 : Ref sig .tc := ⟨.hbm, 128, rfl⟩
abbrev main_v98 : Ref sig .tc := ⟨.hbm, 129, rfl⟩
abbrev main_v99 : Ref sig .tc := ⟨.hbm, 130, rfl⟩
abbrev main_cst_22 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩

abbrev nD : Nat := 1
abbrev τ : Topo := Topo.v7x

variable {F : FTy → Type} [FloatOps F]
-- ==== Kernel4.lean ====
abbrev S4096x1024 : Shape := ⟨2, ![4096, 1024]⟩
abbrev S1024 : Shape := ⟨1, ![1024]⟩
abbrev S1024x2080 : Shape := ⟨2, ![1024, 2080]⟩
abbrev S4096x512 : Shape := ⟨2, ![4096, 512]⟩
abbrev S1024x1024 : Shape := ⟨2, ![1024, 1024]⟩
abbrev S4096x2080 : Shape := ⟨2, ![4096, 2080]⟩
abbrev S1x1024 : Shape := ⟨2, ![1, 1024]⟩
abbrev S2080x1024 : Shape := ⟨2, ![2080, 1024]⟩
abbrev S512x1024 : Shape := ⟨2, ![512, 1024]⟩
abbrev S1536x1024 : Shape := ⟨2, ![1536, 1024]⟩
abbrev S_ : Shape := ⟨0, ![]⟩
abbrev S64x1024 : Shape := ⟨2, ![64, 1024]⟩
abbrev S32x1024 : Shape := ⟨2, ![32, 1024]⟩
abbrev S2176x1024 : Shape := ⟨2, ![2176, 1024]⟩
abbrev S8x64x1024 : Shape := ⟨3, ![8, 64, 1024]⟩
abbrev S8x128x1024 : Shape := ⟨3, ![8, 128, 1024]⟩
abbrev S4096x8x64 : Shape := ⟨3, ![4096, 8, 64]⟩
abbrev S4096x8x128 : Shape := ⟨3, ![4096, 8, 128]⟩
abbrev S2080x4096 : Shape := ⟨2, ![2080, 4096]⟩
abbrev S512x4096 : Shape := ⟨2, ![512, 4096]⟩
abbrev S1536x4096 : Shape := ⟨2, ![1536, 4096]⟩
abbrev S64x4096 : Shape := ⟨2, ![64, 4096]⟩
abbrev S32x4096 : Shape := ⟨2, ![32, 4096]⟩
abbrev S2176x4096 : Shape := ⟨2, ![2176, 4096]⟩
abbrev S4096x2176 : Shape := ⟨2, ![4096, 2176]⟩
abbrev S1024x1 : Shape := ⟨2, ![1024, 1]⟩
abbrev S1024x2176 : Shape := ⟨2, ![1024, 2176]⟩
abbrev S1024x512 : Shape := ⟨2, ![1024, 512]⟩
abbrev S4096x1536 : Shape := ⟨2, ![4096, 1536]⟩
abbrev S1024x1536 : Shape := ⟨2, ![1024, 1536]⟩
abbrev S4096x128 : Shape := ⟨2, ![4096, 128]⟩
abbrev S128x1024 : Shape := ⟨2, ![128, 1024]⟩

abbrev nBuf : Space → Nat
  | .hbm => 61
  | .vmem => 57
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2080, .f32⟩
  | .hbm, ⟨3, _⟩ => ⟨S4096x512, .f32⟩
  | .hbm, ⟨4, _⟩ => ⟨S4096x512, .f32⟩
  | .hbm, ⟨5, _⟩ => ⟨S1024x1024, .f32⟩
  | .hbm, ⟨6, _⟩ => ⟨S4096x2080, .f32⟩
  | .hbm, ⟨7, _⟩ => ⟨S4096x1024, .f32⟩
  | .hbm, ⟨8, _⟩ => ⟨S1x1024, .f32⟩
  | .hbm, ⟨9, _⟩ => ⟨S1024x2080, .bf16⟩
  | .hbm, ⟨10, _⟩ => ⟨S2080x1024, .bf16⟩
  | .hbm, ⟨11, _⟩ => ⟨S512x1024, .bf16⟩
  | .hbm, ⟨12, _⟩ => ⟨S1536x1024, .bf16⟩
  | .hbm, ⟨13, _⟩ => ⟨S_, .bf16⟩
  | .hbm, ⟨14, _⟩ => ⟨S64x1024, .bf16⟩
  | .hbm, ⟨15, _⟩ => ⟨S32x1024, .bf16⟩
  | .hbm, ⟨16, _⟩ => ⟨S_, .bf16⟩
  | .hbm, ⟨17, _⟩ => ⟨S32x1024, .bf16⟩
  | .hbm, ⟨18, _⟩ => ⟨S2176x1024, .bf16⟩
  | .hbm, ⟨19, _⟩ => ⟨S1024x1024, .bf16⟩
  | .hbm, ⟨20, _⟩ => ⟨S512x1024, .bf16⟩
  | .hbm, ⟨21, _⟩ => ⟨S8x64x1024, .bf16⟩
  | .hbm, ⟨22, _⟩ => ⟨S_, .i32⟩
  | .hbm, ⟨23, _⟩ => ⟨S_, .bf16⟩
  | .hbm, ⟨24, _⟩ => ⟨S8x128x1024, .bf16⟩
  | .hbm, ⟨25, _⟩ => ⟨S1024x1024, .bf16⟩
  | .hbm, ⟨26, _⟩ => ⟨S512x1024, .bf16⟩
  | .hbm, ⟨27, _⟩ => ⟨S1536x1024, .bf16⟩
  | .hbm, ⟨28, _⟩ => ⟨S4096x512, .bf16⟩
  | .hbm, ⟨29, _⟩ => ⟨S4096x8x64, .bf16⟩
  | .hbm, ⟨30, _⟩ => ⟨S_, .i32⟩
  | .hbm, ⟨31, _⟩ => ⟨S_, .bf16⟩
  | .hbm, ⟨32, _⟩ => ⟨S4096x8x128, .bf16⟩
  | .hbm, ⟨33, _⟩ => ⟨S4096x1024, .bf16⟩
  | .hbm, ⟨34, _⟩ => ⟨S4096x512, .bf16⟩
  | .hbm, ⟨35, _⟩ => ⟨S4096x1024, .bf16⟩
  | .hbm, ⟨36, _⟩ => ⟨S4096x2080, .bf16⟩
  | .hbm, ⟨37, _⟩ => ⟨S2080x4096, .bf16⟩
  | .hbm, ⟨38, _⟩ => ⟨S512x4096, .bf16⟩
  | .hbm, ⟨39, _⟩ => ⟨S1536x4096, .bf16⟩
  | .hbm, ⟨40, _⟩ => ⟨S_, .bf16⟩
  | .hbm, ⟨41, _⟩ => ⟨S64x4096, .bf16⟩
  | .hbm, ⟨42, _⟩ => ⟨S32x4096, .bf16⟩
  | .hbm, ⟨43, _⟩ => ⟨S_, .bf16⟩
  | .hbm, ⟨44, _⟩ => ⟨S32x4096, .bf16⟩
  | .hbm, ⟨45, _⟩ => ⟨S2176x4096, .bf16⟩
  | .hbm, ⟨46, _⟩ => ⟨S4096x2176, .bf16⟩
  | .hbm, ⟨47, _⟩ => ⟨S4096x1024, .bf16⟩
  | .hbm, ⟨48, _⟩ => ⟨S4096x2176, .f32⟩
  | .hbm, ⟨49, _⟩ => ⟨S512x1024, .bf16⟩
  | .hbm, ⟨50, _⟩ => ⟨S4096x1024, .f32⟩
  | .hbm, ⟨51, _⟩ => ⟨S1024x1024, .bf16⟩
  | .hbm, ⟨52, _⟩ => ⟨S4096x1024, .f32⟩
  | .hbm, ⟨53, _⟩ => ⟨S4096x1536, .f32⟩
  | .hbm, ⟨54, _⟩ => ⟨S1024x1024, .bf16⟩
  | .hbm, ⟨55, _⟩ => ⟨S512x1024, .bf16⟩
  | .hbm, ⟨56, _⟩ => ⟨S4096x1024, .f32⟩
  | .hbm, ⟨57, _⟩ => ⟨S2176x1024, .bf16⟩
  | .hbm, ⟨58, _⟩ => ⟨S4096x1024, .f32⟩
  | .hbm, ⟨59, _⟩ => ⟨S4096x1024, .bf16⟩
  | .hbm, ⟨60, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S2176x1024, .bf16⟩
  | .local _ .vmem, ⟨8, _⟩ => ⟨S1024x2176, .f32⟩
  | .local _ .vmem, ⟨9, _⟩ => ⟨S1024x2176, .f32⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .f32⟩
  | .local _ .vmem, ⟨21, _⟩ => ⟨S1024x1024, .f32⟩
  | .local _ .vmem, ⟨22, _⟩ => ⟨S1024x1024, .f32⟩
  | .local _ .vmem, ⟨23, _⟩ => ⟨S1024x1024, .f32⟩
  | .local _ .vmem, ⟨24, _⟩ => ⟨S1024x1024, .bf16⟩
  | .local _ .vmem, ⟨25, _⟩ => ⟨S1024x1024, .bf16⟩
  | .local _ .vmem, ⟨26, _⟩ => ⟨S1536x1024, .bf16⟩
  | .local _ .vmem, ⟨27, _⟩ => ⟨S1024x1536, .f32⟩
  | .local _ .vmem, ⟨28, _⟩ => ⟨S1024x1536, .f32⟩
  | .local _ .vmem, ⟨29, _⟩ => ⟨S4096x1024, .bf16⟩
  | .local _ .vmem, ⟨30, _⟩ => ⟨S4096x1024, .bf16⟩
  | .local _ .vmem, ⟨31, _⟩ => ⟨S1024x1024, .bf16⟩
  | .local _ .vmem, ⟨32, _⟩ => ⟨S4096x512, .bf16⟩
  | .local _ .vmem, ⟨33, _⟩ => ⟨S4096x1024, .bf16⟩
  | .local _ .vmem, ⟨34, _⟩ => ⟨S512x1024, .bf16⟩
  | .local _ .vmem, ⟨35, _⟩ => ⟨S1024x2176, .bf16⟩
  | .local _ .vmem, ⟨36, _⟩ => ⟨S1024x2176, .bf16⟩
  | .local _ .vmem, ⟨37, _⟩ => ⟨S2176x1024, .bf16⟩
  | .local _ .vmem, ⟨38, _⟩ => ⟨S1024x1024, .f32⟩
  | .local _ .vmem, ⟨39, _⟩ => ⟨S1024x1024, .f32⟩
  | .local _ .vmem, ⟨40, _⟩ => ⟨S4096x128, .bf16⟩
  | .local _ .vmem, ⟨41, _⟩ => ⟨S4096x128, .bf16⟩
  | .local _ .vmem, ⟨42, _⟩ => ⟨S4096x1024, .bf16⟩
  | .local _ .vmem, ⟨43, _⟩ => ⟨S128x1024, .bf16⟩
  | .local _ .vmem, ⟨44, _⟩ => ⟨S128x1024, .bf16⟩
  | .local _ .vmem, ⟨45, _⟩ => ⟨S1024x1024, .f32⟩
  | .local _ .vmem, ⟨46, _⟩ => ⟨S1024x1024, .f32⟩
  | .local _ .vmem, ⟨47, _⟩ => ⟨S1024x1024, .f32⟩
  | .local _ .vmem, ⟨48, _⟩ => ⟨S1024x1024, .f32⟩
  | .local _ .vmem, ⟨49, _⟩ => ⟨S1x1024, .f32⟩
  | .local _ .vmem, ⟨50, _⟩ => ⟨S1024x1024, .f32⟩
  | .local _ .vmem, ⟨51, _⟩ => ⟨S1024x1024, .f32⟩
  | .local _ .vmem, ⟨52, _⟩ => ⟨S1024x1024, .f32⟩
  | .local _ .vmem, ⟨53, _⟩ => ⟨S1024x1024, .f32⟩
  | .local _ .vmem, ⟨54, _⟩ => ⟨S1024x1024, .bf16⟩
  | .local _ .vmem, ⟨55, _⟩ => ⟨S1024x1024, .bf16⟩
  | .local _ .vmem, ⟨56, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_call0_v0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_1 : Ref sig .tc := ⟨.hbm, 30, rfl⟩
abbrev main_call1_v0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42_0 : Ref sig .tc := ⟨.hbm, 58, rfl⟩
abbrev main_v42_1 : Ref sig .tc := ⟨.hbm, 59, rfl⟩
abbrev main_v42_2 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg1_0 : Ref sig .tc := ⟨.vmem, 30, rfl⟩
abbrev cc5_stg2_0 : Ref sig .tc := ⟨.vmem, 31, rfl⟩
abbrev cc6_stg0_0 : Ref sig .tc := ⟨.vmem, 32, rfl⟩
abbrev cc6_stg1_0 : Ref sig .tc := ⟨.vmem, 33, rfl⟩
abbrev cc6_stg2_0 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc8_stg0_0 : Ref sig .tc := ⟨.vmem, 40, rfl⟩
abbrev cc8_stg0_1 : Ref sig .tc := ⟨.vmem, 41, rfl⟩
abbrev cc8_stg1_0 : Ref sig .tc := ⟨.vmem, 42, rfl⟩
abbrev cc8_stg2_0 : Ref sig .tc := ⟨.vmem, 43, rfl⟩
abbrev cc8_stg2_1 : Ref sig .tc := ⟨.vmem, 44, rfl⟩
abbrev cc9_stg0_0 : Ref sig .tc := ⟨.vmem, 45, rfl⟩
abbrev cc9_stg0_1 : Ref sig .tc := ⟨.vmem, 46, rfl⟩
abbrev cc9_stg1_0 : Ref sig .tc := ⟨.vmem, 47, rfl⟩
abbrev cc9_stg1_1 : Ref sig .tc := ⟨.vmem, 48, rfl⟩
abbrev cc9_stg2_0 : Ref sig .tc := ⟨.vmem, 49, rfl⟩
abbrev cc9_stg3_0 : Ref sig .tc := ⟨.vmem, 50, rfl⟩
abbrev cc9_stg3_1 : Ref sig .tc := ⟨.vmem, 51, rfl⟩
abbrev cc9_stg4_0 : Ref sig .tc := ⟨.vmem, 52, rfl⟩
abbrev cc9_stg4_1 : Ref sig .tc := ⟨.vmem, 53, rfl⟩
abbrev cc9_stg5_0 : Ref sig .tc := ⟨.vmem, 54, rfl⟩
abbrev cc9_stg5_1 : Ref sig .tc := ⟨.vmem, 55, rfl⟩
abbrev cc9_stg6_0 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem1_0 : DmaSem sig := 30
abbrev cc5_sem2_0 : DmaSem sig := 31
abbrev cc6_sem0_0 : DmaSem sig := 32
abbrev cc6_sem1_0 : DmaSem sig := 33
abbrev cc6_sem2_0 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39
abbrev cc8_sem0_0 : DmaSem sig := 40
abbrev cc8_sem0_1 : DmaSem sig := 41
abbrev cc8_sem1_0 : DmaSem sig := 42
abbrev cc8_sem2_0 : DmaSem sig := 43
abbrev cc8_sem2_1 : DmaSem sig := 44
abbrev cc9_sem0_0 : DmaSem sig := 45
abbrev cc9_sem0_1 : DmaSem sig := 46
abbrev cc9_sem1_0 : DmaSem sig := 47
abbrev cc9_sem1_1 : DmaSem sig := 48
abbrev cc9_sem2_0 : DmaSem sig := 49
abbrev cc9_sem3_0 : DmaSem sig := 50
abbrev cc9_sem3_1 : DmaSem sig := 51
abbrev cc9_sem4_0 : DmaSem sig := 52
abbrev cc9_sem4_1 : DmaSem sig := 53
abbrev cc9_sem5_0 : DmaSem sig := 54
abbrev cc9_sem5_1 : DmaSem sig := 55
abbrev cc9_sem6_0 : DmaSem sig := 56

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S2176x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x2176 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S512x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![4, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1024x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![4, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S1536x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S1024x1536 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![1, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 1 → Memref sig .tc .vmem S4096x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false, true]

abbrev stage5_1 : Fin 1 → Memref sig .tc .vmem S4096x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 1 → Memref sig .tc .vmem S1024x1024 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true, true, false]

abbrev grid6 : Pipeline.Grid := ⟨3, ![1, 1, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 1 → Memref sig .tc .vmem S4096x512 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false, true]

abbrev stage6_1 : Fin 1 → Memref sig .tc .vmem S4096x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true, true]

abbrev stage6_2 : Fin 1 → Memref sig .tc .vmem S512x1024 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true, true, false]

abbrev grid7 : Pipeline.Grid := ⟨3, ![4, 1, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S1024x2176 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 1 → Memref sig .tc .vmem S2176x1024 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true, true]

abbrev stage7_2 : Fin 2 → Memref sig .tc .vmem S1024x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![17, 1, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S4096x128 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 1 → Memref sig .tc .vmem S4096x1024 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, true, true]

abbrev stage8_2 : Fin 2 → Memref sig .tc .vmem S128x1024 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev grid9 : Pipeline.Grid := ⟨1, ![4], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S1024x1024 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S1024x1024 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S1x1024 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S1024x1024 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 2 → Memref sig .tc .vmem S1024x1024 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 2 → Memref sig .tc .vmem S1024x1024 .bf16 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev stage9_6 : Fin 1 → Memref sig .tc .vmem S1x1024 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]
-- ==== Reference4Ideal.lean ====
abbrev S4096x1024 : Shape := ⟨2, ![4096, 1024]⟩
abbrev S1024 : Shape := ⟨1, ![1024]⟩
abbrev S1024x2080 : Shape := ⟨2, ![1024, 2080]⟩
abbrev S4096x512 : Shape := ⟨2, ![4096, 512]⟩
abbrev S1024x1024 : Shape := ⟨2, ![1024, 1024]⟩
abbrev S4096x2080 : Shape := ⟨2, ![4096, 2080]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S2080x1024 : Shape := ⟨2, ![2080, 1024]⟩
abbrev S4096x64 : Shape := ⟨2, ![4096, 64]⟩
abbrev S4096x1536 : Shape := ⟨2, ![4096, 1536]⟩
abbrev S4096x32 : Shape := ⟨2, ![4096, 32]⟩
abbrev S4096x2176 : Shape := ⟨2, ![4096, 2176]⟩
abbrev S4096x8x64 : Shape := ⟨3, ![4096, 8, 64]⟩
abbrev S4096x8x128 : Shape := ⟨3, ![4096, 8, 128]⟩
abbrev S512x1024 : Shape := ⟨2, ![512, 1024]⟩
abbrev S1024x512 : Shape := ⟨2, ![1024, 512]⟩
abbrev S1024x8x64 : Shape := ⟨3, ![1024, 8, 64]⟩
abbrev S1024x8x128 : Shape := ⟨3, ![1024, 8, 128]⟩
abbrev S1024x64 : Shape := ⟨2, ![1024, 64]⟩
abbrev S1024x1536 : Shape := ⟨2, ![1024, 1536]⟩
abbrev S1024x32 : Shape := ⟨2, ![1024, 32]⟩
abbrev S1024x2176 : Shape := ⟨2, ![1024, 2176]⟩
abbrev S2176x1024 : Shape := ⟨2, ![2176, 1024]⟩

abbrev nBuf : Space → Nat
  | .hbm => 102
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2080, .f32⟩
  | .hbm, ⟨3, _⟩ => ⟨S4096x512, .f32⟩
  | .hbm, ⟨4, _⟩ => ⟨S4096x512, .f32⟩
  | .hbm, ⟨5, _⟩ => ⟨S1024x1024, .f32⟩
  | .hbm, ⟨6, _⟩ => ⟨S4096x2080, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x2080, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S1024x1024, .f32⟩
  | .hbm, ⟨34, _⟩ => ⟨S1024x1024, .f32⟩
  | .hbm, ⟨35, _⟩ => ⟨S4096x1024, .f32⟩
  | .hbm, ⟨36, _⟩ => ⟨S4096x512, .f32⟩
  | .hbm, ⟨37, _⟩ => ⟨S4096x512, .f32⟩
  | .hbm, ⟨38, _⟩ => ⟨S2080x1024, .f32⟩
  | .hbm, ⟨39, _⟩ => ⟨S1024x2080, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S4096x1024, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S4096x1024, .f32⟩
  | .hbm, ⟨54, _⟩ => ⟨S4096x1024, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S4096x64, .f32⟩
  | .hbm, ⟨69, _⟩ => ⟨S4096x512, .f32⟩
  | .hbm, ⟨70, _⟩ => ⟨S4096x1536, .f32⟩
  | .hbm, ⟨71, _⟩ => ⟨S4096x32, .f32⟩
  | .hbm, ⟨72, _⟩ => ⟨S4096x32, .f32⟩
  | .hbm, ⟨73, _⟩ => ⟨S4096x2176, .f32⟩
  | .hbm, ⟨74, _⟩ => ⟨S4096x8x64, .f32⟩
  | .hbm, ⟨75, _⟩ => ⟨S_, .i32⟩
  | .hbm, ⟨76, _⟩ => ⟨S_, .f32⟩
  | .hbm, ⟨77, _⟩ => ⟨S4096x8x128, .f32⟩
  | .hbm, ⟨78, _⟩ => ⟨S4096x1024, .f32⟩
  | .hbm, ⟨79, _⟩ => ⟨S4096x1536, .f32⟩
  | .hbm, ⟨80, _⟩ => ⟨S512x1024, .f32⟩
  | .hbm, ⟨81, _⟩ => ⟨S1024x512, .f32⟩
  | .hbm, ⟨82, _⟩ => ⟨S1024x8x64, .f32⟩
  | .hbm, ⟨83, _⟩ => ⟨S_, .i32⟩
  | .hbm, ⟨84, _⟩ => ⟨S_, .f32⟩
  | .hbm, ⟨85, _⟩ => ⟨S1024x8x128, .f32⟩
  | .hbm, ⟨86, _⟩ => ⟨S1024x1024, .f32⟩
  | .hbm, ⟨87, _⟩ => ⟨S1024x1024, .f32⟩
  | .hbm, ⟨88, _⟩ => ⟨S1024x1024, .bf16⟩
  | .hbm, ⟨89, _⟩ => ⟨S512x1024, .f32⟩
  | .hbm, ⟨90, _⟩ => ⟨S512x1024, .bf16⟩
  | .hbm, ⟨91, _⟩ => ⟨S_, .f32⟩
  | .hbm, ⟨92, _⟩ => ⟨S1024x64, .f32⟩
  | .hbm, ⟨93, _⟩ => ⟨S1024x512, .f32⟩
  | .hbm, ⟨94, _⟩ => ⟨S1024x1536, .f32⟩
  | .hbm, ⟨95, _⟩ => ⟨S1024x32, .f32⟩
  | .hbm, ⟨96, _⟩ => ⟨S1024x32, .f32⟩
  | .hbm, ⟨97, _⟩ => ⟨S1024x2176, .f32⟩
  | .hbm, ⟨98, _⟩ => ⟨S2176x1024, .f32⟩
  | .hbm, ⟨99, _⟩ => ⟨S2176x1024, .bf16⟩
  | .hbm, ⟨100, _⟩ => ⟨S4096x1024, .bf16⟩
  | .hbm, ⟨101, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_8 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_c : Ref sig .tc := ⟨.hbm, 75, rfl⟩
abbrev main_call0_v0 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_c_9 : Ref sig .tc := ⟨.hbm, 83, rfl⟩
abbrev main_call1_v0 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_10 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩

abbrev nD : Nat := 1
abbrev τ : Topo := Topo.v7x

variable {F : FTy → Type} [FloatOps F]
-- ==== Kernel5.lean ====
abbrev S4096x256 : Shape := ⟨2, ![4096, 256]⟩
abbrev S256x768 : Shape := ⟨2, ![256, 768]⟩
abbrev S256x1024 : Shape := ⟨2, ![256, 1024]⟩
abbrev S4096x768 : Shape := ⟨2, ![4096, 768]⟩
abbrev S4096x1024 : Shape := ⟨2, ![4096, 1024]⟩
abbrev S768x256 : Shape := ⟨2, ![768, 256]⟩
abbrev S8x96x256 : Shape := ⟨3, ![8, 96, 256]⟩
abbrev S_ : Shape := ⟨0, ![]⟩
abbrev S8x128x256 : Shape := ⟨3, ![8, 128, 256]⟩
abbrev S1024x256 : Shape := ⟨2, ![1024, 256]⟩
abbrev S4096x8x96 : Shape := ⟨3, ![4096, 8, 96]⟩
abbrev S4096x8x128 : Shape := ⟨3, ![4096, 8, 128]⟩
abbrev S1024x1024 : Shape := ⟨2, ![1024, 1024]⟩

abbrev nBuf : Space → Nat
  | .hbm => 30
  | .vmem => 26
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S256x768, .f32⟩
  | .hbm, ⟨3, _⟩ => ⟨S256x1024, .f32⟩
  | .hbm, ⟨4, _⟩ => ⟨S4096x768, .f32⟩
  | .hbm, ⟨5, _⟩ => ⟨S4096x1024, .f32⟩
  | .hbm, ⟨6, _⟩ => ⟨S256x768, .bf16⟩
  | .hbm, ⟨7, _⟩ => ⟨S768x256, .bf16⟩
  | .hbm, ⟨8, _⟩ => ⟨S8x96x256, .bf16⟩
  | .hbm, ⟨9, _⟩ => ⟨S_, .i32⟩
  | .hbm, ⟨10, _⟩ => ⟨S_, .bf16⟩
  | .hbm, ⟨11, _⟩ => ⟨S8x128x256, .bf16⟩
  | .hbm, ⟨12, _⟩ => ⟨S1024x256, .bf16⟩
  | .hbm, ⟨13, _⟩ => ⟨S256x1024, .bf16⟩
  | .hbm, ⟨14, _⟩ => ⟨S1024x256, .bf16⟩
  | .hbm, ⟨15, _⟩ => ⟨S4096x256, .bf16⟩
  | .hbm, ⟨16, _⟩ => ⟨S4096x256, .bf16⟩
  | .hbm, ⟨17, _⟩ => ⟨S4096x1024, .bf16⟩
  | .hbm, ⟨18, _⟩ => ⟨S4096x768, .bf16⟩
  | .hbm, ⟨19, _⟩ => ⟨S4096x8x96, .bf16⟩
  | .hbm, ⟨20, _⟩ => ⟨S_, .i32⟩
  | .hbm, ⟨21, _⟩ => ⟨S_, .bf16⟩
  | .hbm, ⟨22, _⟩ => ⟨S4096x8x128, .bf16⟩
  | .hbm, ⟨23, _⟩ => ⟨S4096x1024, .bf16⟩
  | .hbm, ⟨24, _⟩ => ⟨S4096x1024, .f32⟩
  | .hbm, ⟨25, _⟩ => ⟨S4096x1024, .f32⟩
  | .hbm, ⟨26, _⟩ => ⟨S4096x256, .f32⟩
  | .hbm, ⟨27, _⟩ => ⟨S1024x256, .bf16⟩
  | .hbm, ⟨28, _⟩ => ⟨S4096x256, .f32⟩
  | .hbm, ⟨29, _⟩ => ⟨S1024x256, .bf16⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x1024, .f32⟩
  | .local _ .vmem, ⟨4, _⟩ => ⟨S1024x1024, .f32⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x256, .bf16⟩
  | .local _ .vmem, ⟨13, _⟩ => ⟨S1024x256, .f32⟩
  | .local _ .vmem, ⟨14, _⟩ => ⟨S1024x256, .f32⟩
  | .local _ .vmem, ⟨15, _⟩ => ⟨S4096x1024, .bf16⟩
  | .local _ .vmem, ⟨16, _⟩ => ⟨S4096x256, .bf16⟩
  | .local _ .vmem, ⟨17, _⟩ => ⟨S1024x256, .bf16⟩
  | .local _ .vmem, ⟨18, _⟩ => ⟨S1024x1024, .bf16⟩
  | .local _ .vmem, ⟨19, _⟩ => ⟨S1024x1024, .bf16⟩
  | .local _ .vmem, ⟨20, _⟩ => ⟨S1024x256, .bf16⟩
  | .local _ .vmem, ⟨21, _⟩ => ⟨S1024x256, .f32⟩
  | .local _ .vmem, ⟨22, _⟩ => ⟨S1024x256, .f32⟩
  | .local _ .vmem, ⟨23, _⟩ => ⟨S4096x1024, .bf16⟩
  | .local _ .vmem, ⟨24, _⟩ => ⟨S4096x256, .bf16⟩
  | .local _ .vmem, ⟨25, _⟩ => ⟨S1024x256, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_call1_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg2_0 : Ref sig .tc := ⟨.vmem, 17, rfl⟩
abbrev cc4_stg0_0 : Ref sig .tc := ⟨.vmem, 18, rfl⟩
abbrev cc4_stg0_1 : Ref sig .tc := ⟨.vmem, 19, rfl⟩
abbrev cc4_stg1_0 : Ref sig .tc := ⟨.vmem, 20, rfl⟩
abbrev cc4_stg2_0 : Ref sig .tc := ⟨.vmem, 21, rfl⟩
abbrev cc4_stg2_1 : Ref sig .tc := ⟨.vmem, 22, rfl⟩
abbrev cc5_stg0_0 : Ref sig .tc := ⟨.vmem, 23, rfl⟩
abbrev cc5_stg1_0 : Ref sig .tc := ⟨.vmem, 24, rfl⟩
abbrev cc5_stg2_0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem2_0 : DmaSem sig := 17
abbrev cc4_sem0_0 : DmaSem sig := 18
abbrev cc4_sem0_1 : DmaSem sig := 19
abbrev cc4_sem1_0 : DmaSem sig := 20
abbrev cc4_sem2_0 : DmaSem sig := 21
abbrev cc4_sem2_1 : DmaSem sig := 22
abbrev cc5_sem0_0 : DmaSem sig := 23
abbrev cc5_sem1_0 : DmaSem sig := 24
abbrev cc5_sem2_0 : DmaSem sig := 25

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S1024x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S4096x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 1 → Memref sig .tc .vmem S4096x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 1 → Memref sig .tc .vmem S1024x256 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true, false]

abbrev grid4 : Pipeline.Grid := ⟨3, ![4, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S1024x256 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S1024x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![1, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 1 → Memref sig .tc .vmem S4096x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false, true]

abbrev stage5_1 : Fin 1 → Memref sig .tc .vmem S4096x256 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 1 → Memref sig .tc .vmem S1024x256 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true, true, false]
-- ==== Reference5Ideal.lean ====
abbrev S4096x256 : Shape := ⟨2, ![4096, 256]⟩
abbrev S256x768 : Shape := ⟨2, ![256, 768]⟩
abbrev S256x1024 : Shape := ⟨2, ![256, 1024]⟩
abbrev S4096x768 : Shape := ⟨2, ![4096, 768]⟩
abbrev S4096x1024 : Shape := ⟨2, ![4096, 1024]⟩
abbrev S1024x256 : Shape := ⟨2, ![1024, 256]⟩
abbrev S768x256 : Shape := ⟨2, ![768, 256]⟩
abbrev S4096x8x96 : Shape := ⟨3, ![4096, 8, 96]⟩
abbrev S_ : Shape := ⟨0, ![]⟩
abbrev S4096x8x128 : Shape := ⟨3, ![4096, 8, 128]⟩
abbrev S256x8x96 : Shape := ⟨3, ![256, 8, 96]⟩
abbrev S256x8x128 : Shape := ⟨3, ![256, 8, 128]⟩

abbrev nBuf : Space → Nat
  | .hbm => 28
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S256x768, .f32⟩
  | .hbm, ⟨3, _⟩ => ⟨S256x1024, .f32⟩
  | .hbm, ⟨4, _⟩ => ⟨S4096x768, .f32⟩
  | .hbm, ⟨5, _⟩ => ⟨S4096x1024, .f32⟩
  | .hbm, ⟨6, _⟩ => ⟨S4096x768, .f32⟩
  | .hbm, ⟨7, _⟩ => ⟨S4096x1024, .f32⟩
  | .hbm, ⟨8, _⟩ => ⟨S1024x256, .f32⟩
  | .hbm, ⟨9, _⟩ => ⟨S256x1024, .f32⟩
  | .hbm, ⟨10, _⟩ => ⟨S4096x256, .f32⟩
  | .hbm, ⟨11, _⟩ => ⟨S768x256, .f32⟩
  | .hbm, ⟨12, _⟩ => ⟨S256x768, .f32⟩
  | .hbm, ⟨13, _⟩ => ⟨S4096x256, .f32⟩
  | .hbm, ⟨14, _⟩ => ⟨S4096x8x96, .f32⟩
  | .hbm, ⟨15, _⟩ => ⟨S_, .i32⟩
  | .hbm, ⟨16, _⟩ => ⟨S_, .f32⟩
  | .hbm, ⟨17, _⟩ => ⟨S4096x8x128, .f32⟩
  | .hbm, ⟨18, _⟩ => ⟨S4096x1024, .f32⟩
  | .hbm, ⟨19, _⟩ => ⟨S256x8x96, .f32⟩
  | .hbm, ⟨20, _⟩ => ⟨S_, .i32⟩
  | .hbm, ⟨21, _⟩ => ⟨S_, .f32⟩
  | .hbm, ⟨22, _⟩ => ⟨S256x8x128, .f32⟩
  | .hbm, ⟨23, _⟩ => ⟨S256x1024, .f32⟩
  | .hbm, ⟨24, _⟩ => ⟨S1024x256, .f32⟩
  | .hbm, ⟨25, _⟩ => ⟨S1024x256, .bf16⟩
  | .hbm, ⟨26, _⟩ => ⟨S1024x256, .f32⟩
  | .hbm, ⟨27, _⟩ => ⟨S1024x256, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_call1_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Proof.Layer.lean ====
module

public import Mathlib.Analysis.SpecialFunctions.Exp
public import Mathlib.Analysis.Real.Sqrt

@[expose] public section

/-! # The layer over the real numbers

The gated convolutional feed-forward layer, forward and backward, as formulas over real-valued arrays. An array is
a function of natural-number positions: `X t d` is row `t`, column `d`; positions outside an array are never summed
over. The kernel's buffers and the reference's values are both shown to hold these numbers. -/

noncomputable section

namespace Cert.Layer

/-- The product `A · B` of depth `K`. -/
def mul (K : ℕ) (A B : ℕ → ℕ → ℝ) (i j : ℕ) : ℝ := ∑ k ∈ Finset.range K, A i k * B k j
/-- The product `A · Bᵀ` of depth `K`. -/
def mulT (K : ℕ) (A B : ℕ → ℕ → ℝ) (i j : ℕ) : ℝ := ∑ k ∈ Finset.range K, A i k * B j k
/-- The product `Aᵀ · B` of depth `K`. -/
def tMul (K : ℕ) (A B : ℕ → ℕ → ℝ) (i j : ℕ) : ℝ := ∑ k ∈ Finset.range K, A k i * B k j

/-- `z` moved down by `d` rows, zeros above. -/
def down (d : ℕ) (z : ℕ → ℕ → ℝ) (t j : ℕ) : ℝ := if t < d then 0 else z (t - d) j
/-- The first `s` rows of `z` moved up by `d` rows, zeros below. -/
def up (s d : ℕ) (z : ℕ → ℕ → ℝ) (t j : ℕ) : ℝ := if t + d < s then z (t + d) j else 0
/-- The causal depthwise convolution with the three taps `C 0`, `C 1`, `C 2`. -/
def conv (C z : ℕ → ℕ → ℝ) (t j : ℕ) : ℝ := C 0 j * down 2 z t j + C 1 j * down 1 z t j + C 2 j * z t j
/-- The convolution's transpose over `s` rows. -/
def convT (s : ℕ) (C g : ℕ → ℕ → ℝ) (t j : ℕ) : ℝ := C 2 j * g t j + C 1 j * up s 1 g t j + C 0 j * up s 2 g t j
/-- The gradient of tap `k`. -/
def convW (s : ℕ) (g z : ℕ → ℕ → ℝ) (k j : ℕ) : ℝ := ∑ t ∈ Finset.range s, g t j * down (2 - k) z t j

/-- The logistic function. -/
def sig (x : ℝ) : ℝ := (1 + Real.exp (-x))⁻¹
/-- `x · sig x`. -/
def silu (x : ℝ) : ℝ := x * sig x
/-- The derivative of `silu`. -/
def dsilu (x : ℝ) : ℝ := sig x * (1 + x * (1 - sig x))

/-- What the mean square is raised by before its root is taken: the number the single-precision literal is. -/
def eps : ℝ := 8796093 / 8796093022208

/-- The mean square of row `t`, raised by `eps`. -/
def ms (X : ℕ → ℕ → ℝ) (t : ℕ) : ℝ := (∑ d ∈ Finset.range 1024, X t d * X t d) / 1024 + eps
/-- The reciprocal root of the mean square. -/
def rr (X : ℕ → ℕ → ℝ) (t : ℕ) : ℝ := (Real.sqrt (ms X t))⁻¹
/-- The normalised row times its gain. -/
def norm (X : ℕ → ℕ → ℝ) (N : ℕ → ℝ) (t d : ℕ) : ℝ := X t d * rr X t * N d
/-- The normalisation's gradient in its input. -/
def normX (X : ℕ → ℕ → ℝ) (N : ℕ → ℝ) (H : ℕ → ℕ → ℝ) (t d : ℕ) : ℝ :=
  rr X t * (H t d * N d) - X t d * (rr X t * rr X t * rr X t) * ((∑ e ∈ Finset.range 1024, X t e * (H t e * N e)) / 1024)
/-- The normalisation's gradient in its gain. -/
def normN (X H : ℕ → ℕ → ℝ) (d : ℕ) : ℝ := ∑ t ∈ Finset.range 4096, H t d * X t d * rr X t

/-- The arguments: input, gain, up projection, taps, down projection, cotangent of the output. -/
structure Args where
  X : ℕ → ℕ → ℝ
  N : ℕ → ℝ
  U : ℕ → ℕ → ℝ
  C : ℕ → ℕ → ℝ
  W : ℕ → ℕ → ℝ
  G : ℕ → ℕ → ℝ

namespace Args
variable (p : Args)

/-- The value half of a matrix with both halves side by side. -/
def right (A : ℕ → ℕ → ℝ) (i j : ℕ) : ℝ := A i (2816 + j)

def h : ℕ → ℕ → ℝ := norm p.X p.N
/-- Gate and value before the convolution. -/
def zg : ℕ → ℕ → ℝ := mul 1024 p.h p.U
def zv : ℕ → ℕ → ℝ := mul 1024 p.h (right p.U)
/-- Gate and value after the convolution. -/
def ug : ℕ → ℕ → ℝ := conv p.C p.zg
def uv : ℕ → ℕ → ℝ := conv (right p.C) p.zv
/-- The activation. -/
def a (t j : ℕ) : ℝ := silu (p.ug t j) * p.uv t j
/-- The layer's output. -/
def y (t d : ℕ) : ℝ := mul 2816 p.a p.W t d + p.X t d
/-- The gradient in the activation, in the convolved gate and value, and in what the convolution takes. -/
def da : ℕ → ℕ → ℝ := mulT 1024 p.G p.W
def dug (t j : ℕ) : ℝ := p.da t j * p.uv t j * dsilu (p.ug t j)
def duv (t j : ℕ) : ℝ := p.da t j * silu (p.ug t j)
def dzg : ℕ → ℕ → ℝ := convT 4096 p.C p.dug
def dzv : ℕ → ℕ → ℝ := convT 4096 (right p.C) p.duv
/-- The gradients of the taps, of the down projection and of the (transposed) up projection. -/
def gCg : ℕ → ℕ → ℝ := convW 4096 p.dug p.zg
def gCv : ℕ → ℕ → ℝ := convW 4096 p.duv p.zv
def gW : ℕ → ℕ → ℝ := tMul 4096 p.a p.G
def gUg : ℕ → ℕ → ℝ := tMul 4096 p.dzg p.h
def gUv : ℕ → ℕ → ℝ := tMul 4096 p.dzv p.h
/-- The gradient in the normalised input. -/
def dh (t d : ℕ) : ℝ := mulT 2816 p.dzg p.U t d + mulT 2816 p.dzv (right p.U) t d
/-- The gradients in the input and in the gain. -/
def dx (t d : ℕ) : ℝ := normX p.X p.N p.dh t d + p.G t d
def dn : ℕ → ℝ := normN p.X p.dh

end Args

end Cert.Layer
-- ==== Proof.Reals.lean ====
module

public import Idealize.ShloMosaic.Lib.Pipeline.ValueKit
public import proofs.«01_k».proof.Proof.Layer

@[expose] public section

set_option maxRecDepth 16384

/-! # Arrays that hold real numbers

In the idealized semantics an entry is an extended real. `Is2 X f` says that every entry of the matrix `X` is a real
number, the one `f` gives at its position. The operations of real entries are the real operations. -/

noncomputable section

open Idealize.ShloMosaic

namespace Cert.Layer

/-- Entry `(i, j)` of the matrix `X` is the real number `f i j`. -/
def Is2 {n m : ℕ} (X : (⟨2, ![n, m]⟩ : Shape).Idx → EReal) (f : ℕ → ℕ → ℝ) : Prop :=
  ∀ i, X i = ((f (i 0 : ℕ) (i 1 : ℕ) : ℝ) : EReal)

/-- Entry `i` of the vector `X` is the real number `f i`. -/
def Is1 {n : ℕ} (X : (⟨1, ![n]⟩ : Shape).Idx → EReal) (f : ℕ → ℝ) : Prop :=
  ∀ i, X i = ((f (i 0 : ℕ) : ℝ) : EReal)

/-- The same matrix under another name, and the same reals written otherwise. -/
theorem Is2.of_eq {n m : ℕ} {X Y : (⟨2, ![n, m]⟩ : Shape).Idx → EReal} {f : ℕ → ℕ → ℝ} (e : X = Y) (h : Is2 Y f) : Is2 X f := e ▸ h

theorem Is2.of_fun {n m : ℕ} {X : (⟨2, ![n, m]⟩ : Shape).Idx → EReal} {f g : ℕ → ℕ → ℝ} (h : Is2 X f) (e : ∀ i j, f i j = g i j) :
    Is2 X g := fun i => by rw [h i, e]

/-- A finite sum of reals in the extended reals is the real sum. -/
theorem sum_coe {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A sum over the positions of an axis whose terms are reals given by position. -/
theorem sum_fin {n : ℕ} (F : Fin n → EReal) (f : ℕ → ℝ) (h : ∀ k : Fin n, F k = ((f (k : ℕ) : ℝ) : EReal)) :
    ∑ k : Fin n, F k = ((∑ k ∈ Finset.range n, f k : ℝ) : EReal) := by
  rw [Finset.sum_congr rfl fun k _ => h k, sum_coe, ← Fin.sum_univ_eq_sum_range]

/-- The mean square with its offset is positive. -/
theorem eps_pos : 0 < eps := by norm_num [eps]

theorem ms_pos (X : ℕ → ℕ → ℝ) (t : ℕ) : 0 < ms X t :=
  add_pos_of_nonneg_of_pos (div_nonneg (Finset.sum_nonneg fun _ _ => mul_self_nonneg _) (by norm_num)) eps_pos

/-- The reciprocal root of a row's raised mean square, as the idealized operation takes it. -/
theorem rsqrt_ms (X : ℕ → ℕ → ℝ) (t : ℕ) : Ideal.rsqrt ((ms X t : ℝ) : EReal) = ((rr X t : ℝ) : EReal) := by
  rw [Ideal.rsqrt_coe, if_neg (ms_pos X t).le.not_gt, if_neg (ms_pos X t).ne']; rfl

theorem logistic_real (x : ℝ) : Ideal.logistic (x : EReal) = ((sig x : ℝ) : EReal) := Ideal.logistic_coe x

/-- Division by 1024. -/
theorem div_1024 (x : ℝ) : Ideal.div (x : EReal) ((1024 : ℝ) : EReal) = ((x / 1024 : ℝ) : EReal) := by
  rw [Ideal.div_coe (by norm_num), ← EReal.coe_mul]; congr 1; ring

/-! The literals the programs use, as the numbers they are. -/

theorem lit_zero : (Ideal.ofBits .f32 0x00000000#32 : EReal) = ((0 : ℝ) : EReal) := by
  simp [Ideal.ofBits, Ideal.ieee]

theorem lit_one : (Ideal.ofBits .f32 0x3F800000#32 : EReal) = ((1 : ℝ) : EReal) := by
  simp [Ideal.ofBits, Ideal.ieee, -EReal.coe_mul]; norm_num

theorem lit_1024 : (Ideal.ofBits .f32 0x44800000#32 : EReal) = ((1024 : ℝ) : EReal) := by
  simp [Ideal.ofBits, Ideal.ieee, -EReal.coe_mul]; norm_num

theorem lit_eps : (Ideal.ofBits .f32 0x358637BD#32 : EReal) = ((eps : ℝ) : EReal) := by
  simp [Ideal.ofBits, Ideal.ieee, -EReal.coe_mul, eps]; norm_num

theorem lit_top : (Ideal.ofBits .f32 0x7F800000#32 : EReal) = ⊤ := by
  simp [Ideal.ofBits, Ideal.ieee]

end Cert.Layer
-- ==== Proof.Arrays.lean ====
module

public import proofs.«01_k».proof.Proof.Reals
public import Idealize.ShloMosaic.Lib.Pipeline.ValueKit
public import Idealize.ShloMosaic.Lib.KernelVsHost

@[expose] public section

set_option maxRecDepth 16384

/-! # Arrays of reals through the operations of a host program -/

noncomputable section

open Idealize.ShloMosaic

namespace Cert.Layer

variable {n m n' m' K : ℕ} {f g : ℕ → ℕ → ℝ} {v w : ℕ → ℝ}

section
variable {X A B : (⟨2, ![n, m]⟩ : Shape).Idx → EReal} {F : ℕ → ℕ → ℝ}

/-- The entrywise product of two matrices of reals. -/
theorem Is2.mul (hA : Is2 A f) (hB : Is2 B g) (h : ∀ i, X i = A i * B i)
    (e : ∀ i : (⟨2, ![n, m]⟩ : Shape).Idx, f (i 0 : ℕ) (i 1 : ℕ) * g (i 0 : ℕ) (i 1 : ℕ) = F (i 0 : ℕ) (i 1 : ℕ)) : Is2 X F := fun i => by
  rw [h i, hA i, hB i, ← EReal.coe_mul, e i]

/-- The entrywise sum. -/
theorem Is2.add (hA : Is2 A f) (hB : Is2 B g) (h : ∀ i, X i = A i + B i)
    (e : ∀ i : (⟨2, ![n, m]⟩ : Shape).Idx, f (i 0 : ℕ) (i 1 : ℕ) + g (i 0 : ℕ) (i 1 : ℕ) = F (i 0 : ℕ) (i 1 : ℕ)) : Is2 X F := fun i => by
  rw [h i, hA i, hB i, ← EReal.coe_add, e i]

/-- The same array, its reals written otherwise within its bounds. -/
theorem Is2.within (hA : Is2 A f) (h : ∀ i, X i = A i)
    (e : ∀ i : (⟨2, ![n, m]⟩ : Shape).Idx, f (i 0 : ℕ) (i 1 : ℕ) = F (i 0 : ℕ) (i 1 : ℕ)) : Is2 X F := fun i => by
  rw [h i, hA i, e i]

/-- An array that reads another at places of its own: a slice, a transpose, a row or column repeated. -/
theorem Is2.read {A' : (⟨2, ![n', m']⟩ : Shape).Idx → EReal} (hA : Is2 A' f)
    (idx : (⟨2, ![n, m]⟩ : Shape).Idx → (⟨2, ![n', m']⟩ : Shape).Idx) (h : ∀ i, X i = A' (idx i))
    (e : ∀ i : (⟨2, ![n, m]⟩ : Shape).Idx, f (idx i 0 : ℕ) (idx i 1 : ℕ) = F (i 0 : ℕ) (i 1 : ℕ)) : Is2 X F := fun i => by
  rw [h i, hA (idx i), e i]

/-- A matrix that reads a vector. -/
theorem Is1.read2 {A' : (⟨1, ![n']⟩ : Shape).Idx → EReal} (hA : Is1 A' v)
    (idx : (⟨2, ![n, m]⟩ : Shape).Idx → (⟨1, ![n']⟩ : Shape).Idx) (h : ∀ i, X i = A' (idx i))
    (e : ∀ i : (⟨2, ![n, m]⟩ : Shape).Idx, v (idx i 0 : ℕ) = F (i 0 : ℕ) (i 1 : ℕ)) : Is2 X F := fun i => by
  rw [h i, hA (idx i), e i]

/-- A matrix of sums of products: a matrix product of any orientation. -/
theorem Is2.dot {n₁ m₁ n₂ m₂ : ℕ} {L : (⟨2, ![n₁, m₁]⟩ : Shape).Idx → EReal} {R : (⟨2, ![n₂, m₂]⟩ : Shape).Idx → EReal}
    (hL : Is2 L f) (hR : Is2 R g)
    (l : (⟨2, ![n, m]⟩ : Shape).Idx → Fin K → (⟨2, ![n₁, m₁]⟩ : Shape).Idx)
    (r : (⟨2, ![n, m]⟩ : Shape).Idx → Fin K → (⟨2, ![n₂, m₂]⟩ : Shape).Idx)
    (h : ∀ i, X i = ∑ k : Fin K, L (l i k) * R (r i k)) (T : ℕ → ℕ → ℕ → ℝ)
    (t : ∀ i k, f (l i k 0 : ℕ) (l i k 1 : ℕ) * g (r i k 0 : ℕ) (r i k 1 : ℕ) = T (i 0 : ℕ) (i 1 : ℕ) (k : ℕ))
    (e : ∀ i : (⟨2, ![n, m]⟩ : Shape).Idx, ∑ k ∈ Finset.range K, T (i 0 : ℕ) (i 1 : ℕ) k = F (i 0 : ℕ) (i 1 : ℕ)) : Is2 X F := fun i => by
  rw [h i, sum_fin _ (T (i 0 : ℕ) (i 1 : ℕ)) fun k => by rw [hL, hR, ← EReal.coe_mul, t], e i]

/-- Two arrays of the same reals are one. -/
theorem Is2.ext (hA : Is2 A f) (hB : Is2 B f) : A = B := funext fun i => (hA i).trans (hB i).symm

/-- Rows of zeros above and below a matrix: `a` above. -/
theorem Is2.pad {s a b : ℕ} {A' : (⟨2, ![s, m]⟩ : Shape).Idx → EReal} (hA : Is2 A' f) {u : Shape} {z : u.Idx → EReal}
    (hp : (⟨2, ![s, m]⟩ : Shape).Pads ![a, 0] ![b, 0] ![0, 0] ⟨2, ![n, m]⟩) (hu : 0 < u.numel)
    (hz : z (Shape.Idx.first hu) = ((0 : ℝ) : EReal))
    (h : X = Idealize.ShloMosaic.pad ⟨2, ![n, m]⟩ ![a, 0] ![b, 0] ![0, 0] A' z hp hu) :
    Is2 X (fun t j => if a ≤ t ∧ t - a < s then f (t - a) j else 0) := fun i => by
  subst h
  show _ = ((if a ≤ (i 0 : ℕ) ∧ (i 0 : ℕ) - a < s then f ((i 0 : ℕ) - a) (i 1 : ℕ) else 0 : ℝ) : EReal)
  by_cases hi : a ≤ (i 0 : ℕ) ∧ (i 0 : ℕ) - a < s
  · rw [if_pos hi]
    let k : (⟨2, ![s, m]⟩ : Shape).Idx := fun q => match q with
      | ⟨0, _⟩ => ⟨(i 0 : ℕ) - a, hi.2⟩
      | ⟨1, _⟩ => ⟨(i 1 : ℕ), (i 1).isLt⟩
    rw [pad_apply_of_inside _ _ _ A' z hp hu i k fun q => by
      match q with
      | ⟨0, _⟩ => show (i 0 : ℕ) = a + ((i 0 : ℕ) - a) * 1; omega
      | ⟨1, _⟩ => show (i 1 : ℕ) = 0 + (i 1 : ℕ) * 1; omega]
    exact hA k
  · rw [if_neg hi, pad_apply_of_not_inside _ _ _ A' z hp hu i (0 : Fin 2) fun hq => hi ?_]
    · exact hz
    · have h1 : a ≤ (i 0 : ℕ) := hq.1
      have h2 : ((i 0 : ℕ) - a) / (0 + 1) < s := hq.2.2
      exact ⟨h1, by omega⟩

end

section
variable {X : (⟨1, ![n]⟩ : Shape).Idx → EReal} {V : ℕ → ℝ}

/-- A vector that reads a matrix. -/
theorem Is2.read1 {A' : (⟨2, ![n', m']⟩ : Shape).Idx → EReal} (hA : Is2 A' f)
    (idx : (⟨1, ![n]⟩ : Shape).Idx → (⟨2, ![n', m']⟩ : Shape).Idx) (h : ∀ i, X i = A' (idx i))
    (e : ∀ i : (⟨1, ![n]⟩ : Shape).Idx, f (idx i 0 : ℕ) (idx i 1 : ℕ) = V (i 0 : ℕ)) : Is1 X V := fun i => by
  rw [h i, hA (idx i), e i]

/-- A vector of sums over one axis of a matrix, each begun from zero. -/
theorem Is2.sum {A' : (⟨2, ![n', m']⟩ : Shape).Idx → EReal} (hA : Is2 A' f) (z : EReal) (hz : z = ((0 : ℝ) : EReal))
    (idx : (⟨1, ![n]⟩ : Shape).Idx → Fin K → (⟨2, ![n', m']⟩ : Shape).Idx) (h : ∀ i, X i = z + ∑ k : Fin K, A' (idx i k))
    (T : ℕ → ℕ → ℝ) (t : ∀ i k, f (idx i k 0 : ℕ) (idx i k 1 : ℕ) = T (i 0 : ℕ) (k : ℕ))
    (e : ∀ i : (⟨1, ![n]⟩ : Shape).Idx, ∑ k ∈ Finset.range K, T (i 0 : ℕ) k = V (i 0 : ℕ)) : Is1 X V := fun i => by
  rw [h i, hz, sum_fin _ (T (i 0 : ℕ)) fun k => by rw [hA, t], ← EReal.coe_add, zero_add, e i]

end

/-- One half, negated. -/
theorem lit_neg_half : (Ideal.ofBits .f32 0xBF000000#32 : EReal) = ((-(1 / 2) : ℝ) : EReal) := by
  simp [Ideal.ofBits, Ideal.ieee, -EReal.coe_mul]; norm_num

/-- The square of the reciprocal root is the reciprocal of the raised mean square. -/
theorem rr_sq (X : ℕ → ℕ → ℝ) (t : ℕ) : rr X t * rr X t = 1 / ms X t := by
  unfold rr
  rw [← mul_inv, Real.mul_self_sqrt (ms_pos X t).le, one_div]

end Cert.Layer

end
-- ==== Proof.RefForward.lean ====
module

public import proofs.«01_k».proof.Proof.Gen.ReferenceIdeal.Read
public import proofs.«01_k».proof.Proof.Arrays

@[expose] public section

set_option maxRecDepth 16384

/-! # The reference: the values of the forward lines -/

noncomputable section

open Idealize.ShloMosaic

namespace Cert.ReferenceIdeal.Value
open Cert.ReferenceIdeal Cert.ReferenceIdeal.Read Cert.Layer

/-- The six arguments hold the reals of `p`. -/
structure Given (x0 : (⟨S4096x1024, .f32⟩ : BufTy).Contents (Elt Ideal)) (x1 : (⟨S1024, .f32⟩ : BufTy).Contents (Elt Ideal))
    (x2 : (⟨S1024x5632, .f32⟩ : BufTy).Contents (Elt Ideal)) (x3 : (⟨S3x5632, .f32⟩ : BufTy).Contents (Elt Ideal))
    (x4 : (⟨S2816x1024, .f32⟩ : BufTy).Contents (Elt Ideal)) (x5 : (⟨S4096x1024, .f32⟩ : BufTy).Contents (Elt Ideal)) (p : Args) : Prop where
  hX : Is2 (n := 4096) (m := 1024) x0 p.X
  hN : Is1 (n := 1024) x1 p.N
  hU : Is2 (n := 1024) (m := 5632) x2 p.U
  hC : Is2 (n := 3) (m := 5632) x3 p.C
  hW : Is2 (n := 2816) (m := 1024) x4 p.W
  hG : Is2 (n := 4096) (m := 1024) x5 p.G

theorem shift_one (z : ℕ → ℕ → ℝ) (t j : ℕ) : down 2 z (1 + t) j = down 1 z t j := by
  unfold down
  by_cases h : t < 1
  · rw [if_pos h, if_pos (by omega)]
  · rw [if_neg h, if_neg (by omega)]; congr 1; omega

theorem shift_none (z : ℕ → ℕ → ℝ) (t j : ℕ) : down 2 z (2 + t) j = z t j := by
  unfold down
  rw [if_neg (by omega)]; congr 1; omega

variable {x0 : (⟨S4096x1024, .f32⟩ : BufTy).Contents (Elt Ideal)} {x1 : (⟨S1024, .f32⟩ : BufTy).Contents (Elt Ideal)}
  {x2 : (⟨S1024x5632, .f32⟩ : BufTy).Contents (Elt Ideal)} {x3 : (⟨S3x5632, .f32⟩ : BufTy).Contents (Elt Ideal)}
  {x4 : (⟨S2816x1024, .f32⟩ : BufTy).Contents (Elt Ideal)} {x5 : (⟨S4096x1024, .f32⟩ : BufTy).Contents (Elt Ideal)} {p : Args}

section
variable (L : Given x0 x1 x2 x3 x4 x5 p)
include L
/-- The squares, summed along a row. -/
theorem sq : Is1 (n := 4096) (val_main_v1 (F := Ideal) x0) (fun t => ∑ d ∈ Finset.range 1024, p.X t d * p.X t d) :=
  Is2.sum (L.hX.mul (X := val_main_v0 (F := Ideal) x0) (F := fun t d => p.X t d * p.X t d) L.hX (fun _ => rfl) (fun _ => rfl)) _ lit_zero idx_main_v1 (val_main_v1_apply x0) (fun t d => p.X t d * p.X t d) (fun _ _ => rfl) (fun _ => rfl)

/-- The raised mean square of each row. -/
theorem meanSq : Is2 (n := 4096) (m := 1) (val_main_v6 (F := Ideal) x0) (fun t _ => ms p.X t) := fun i => by
  have h2 : val_main_v2 (F := Ideal) x0 i = ((∑ d ∈ Finset.range 1024, p.X (i 0 : ℕ) d * p.X (i 0 : ℕ) d : ℝ) : EReal) :=
    (val_main_v2_apply x0 i).trans (sq L _)
  have h3 : val_main_v3 (F := Ideal) i = ((1024 : ℝ) : EReal) := (val_main_v3_apply i).trans lit_1024
  have h5 : val_main_v5 (F := Ideal) i = ((eps : ℝ) : EReal) := (val_main_v5_apply i).trans lit_eps
  have h4 : val_main_v4 (F := Ideal) x0 i = (((∑ d ∈ Finset.range 1024, p.X (i 0 : ℕ) d * p.X (i 0 : ℕ) d) / 1024 : ℝ) : EReal) := by
    rw [val_main_v4_apply, h2, h3]; exact div_1024 _
  rw [val_main_v6_apply, h4, h5]
  exact (EReal.coe_add _ _).symm
/-- Its reciprocal root. -/
theorem root : Is2 (n := 4096) (m := 1) (val_main_v7 (F := Ideal) x0) (fun t _ => rr p.X t) := fun i => by
  rw [val_main_v7_apply, meanSq L i]; exact rsqrt_ms _ _
/-- What the root's derivative multiplies by. -/
theorem rootD : Is2 (n := 4096) (m := 1) (val_main_v10 (F := Ideal) x0) (fun t _ => -(1 / 2) * (rr p.X t * (1 / ms p.X t))) := fun i => by
  have h8 : val_main_v8 (F := Ideal) x0 i = ((rr p.X (i 0 : ℕ) * (1 / ms p.X (i 0 : ℕ)) : ℝ) : EReal) := by
    rw [val_main_v8_apply, root L i, meanSq L i, EReal.coe_mul]; exact Ideal.div_coe (ms_pos _ _).ne' _
  have h9 : val_main_v9 (F := Ideal) i = ((-(1 / 2) : ℝ) : EReal) := (val_main_v9_apply i).trans lit_neg_half
  rw [val_main_v10_apply, h8, h9]
  exact (EReal.coe_mul _ _).symm

/-- The input over its root. -/
theorem unit : Is2 (n := 4096) (m := 1024) (val_main_v12 (F := Ideal) x0) (fun t d => p.X t d * rr p.X t) :=
  L.hX.mul ((root L).read (F := fun t _ => rr p.X t) idx_main_v11 (val_main_v11_apply x0) (fun _ => rfl)) (fun _ => rfl) (fun _ => rfl)

/-- The gain as a row, and repeated over the rows. -/
theorem gainRow : Is2 (n := 1) (m := 1024) (val_main_v13 (F := Ideal) x1) (fun _ d => p.N d) :=
  L.hN.read2 idx_main_v13 (val_main_v13_apply x1) (fun _ => rfl)

/-- The normalised input. -/
theorem normed : Is2 (n := 4096) (m := 1024) (val_main_v15 (F := Ideal) x0 x1) p.h :=
  (unit L).mul ((gainRow L).read (F := fun _ d => p.N d) idx_main_v14 (val_main_v14_apply x1) (fun _ => rfl)) (fun _ => rfl) (fun _ => rfl)

/-- The up projection, both halves side by side. -/
theorem upProj : Is2 (n := 4096) (m := 5632) (val_main_v16 (F := Ideal) x0 x1 x2) p.zg :=
  (normed L).dot L.hU lidx_main_v16 ridx_main_v16 (val_main_v16_apply x0 x1 x2) (fun i j k => p.h i k * p.U k j) (fun _ _ => rfl) (fun _ => rfl)

/-- Two rows of zeros above it. -/
theorem padded : Is2 (n := 4098) (m := 5632) (val_main_v18 (F := Ideal) x0 x1 x2) (down 2 p.zg) := fun i => by
  have h17 : ∀ q, val_main_v17 (F := Ideal) q = ((0 : ℝ) : EReal) := fun q => (val_main_v17_apply q).trans lit_zero
  unfold val_main_v18
  rw [concatenate_pair_apply]
  unfold down
  by_cases h : (i 0 : ℕ) < 2
  · rw [if_pos h]; exact (dif_pos h).trans (h17 _)
  · rw [if_neg h]; exact (dif_neg h).trans (upProj L _)

/-- Moved down by two rows. -/
theorem moved_two : Is2 (n := 4096) (m := 5632) (val_main_v22 (F := Ideal) x0 x1 x2) (down 2 p.zg) :=
  (padded L).read idx_main_v22 (val_main_v22_apply x0 x1 x2) (fun _ => rfl)

/-- Moved down by one row. -/
theorem moved_one : Is2 (n := 4096) (m := 5632) (val_main_v28 (F := Ideal) x0 x1 x2) (down 1 p.zg) :=
  (padded L).read idx_main_v28 (val_main_v28_apply x0 x1 x2) (fun i => shift_one p.zg _ _)

/-- Not moved. -/
theorem moved_none : Is2 (n := 4096) (m := 5632) (val_main_v35 (F := Ideal) x0 x1 x2) p.zg :=
  (padded L).read idx_main_v35 (val_main_v35_apply x0 x1 x2) (fun i => shift_none p.zg _ _)

/-- Tap 0 as a row. -/
theorem tapRow0 : Is2 (n := 1) (m := 5632) (val_main_v23 (F := Ideal) x3) (fun _ j => p.C 0 j) :=
  ((L.hC.read (F := fun _ j => p.C 0 j) idx_main_v20 (val_main_v20_apply x3) (fun i => congrArg (fun q => p.C q _) (by have h : (i 0 : ℕ) < 1 := (i 0).isLt; show (i 0 : ℕ) = 0; omega))).read1 (V := p.C 0) idx_main_v21 (val_main_v21_apply x3) (fun i => congrArg (p.C 0) (Nat.mod_eq_of_lt (i 0).isLt))).read2 idx_main_v23 (val_main_v23_apply x3) (fun _ => rfl)

/-- Tap 1 as a row. -/
theorem tapRow1 : Is2 (n := 1) (m := 5632) (val_main_v29 (F := Ideal) x3) (fun _ j => p.C 1 j) :=
  ((L.hC.read (F := fun _ j => p.C 1 j) idx_main_v26 (val_main_v26_apply x3) (fun i => congrArg (fun q => p.C q _) (by have h : (i 0 : ℕ) < 1 := (i 0).isLt; show 1 + (i 0 : ℕ) = 1; omega))).read1 (V := p.C 1) idx_main_v27 (val_main_v27_apply x3) (fun i => congrArg (p.C 1) (Nat.mod_eq_of_lt (i 0).isLt))).read2 idx_main_v29 (val_main_v29_apply x3) (fun _ => rfl)

/-- Tap 2 as a row. -/
theorem tapRow2 : Is2 (n := 1) (m := 5632) (val_main_v36 (F := Ideal) x3) (fun _ j => p.C 2 j) :=
  ((L.hC.read (F := fun _ j => p.C 2 j) idx_main_v33 (val_main_v33_apply x3) (fun i => congrArg (fun q => p.C q _) (by have h : (i 0 : ℕ) < 1 := (i 0).isLt; show 2 + (i 0 : ℕ) = 2; omega))).read1 (V := p.C 2) idx_main_v34 (val_main_v34_apply x3) (fun i => congrArg (p.C 2) (Nat.mod_eq_of_lt (i 0).isLt))).read2 idx_main_v36 (val_main_v36_apply x3) (fun _ => rfl)

/-- Tap 0 over all rows. -/
theorem tap0 : Is2 (n := 4096) (m := 5632) (val_main_v24 (F := Ideal) x3) (fun _ j => p.C 0 j) :=
  (tapRow0 L).read idx_main_v24 (val_main_v24_apply x3) (fun _ => rfl)

/-- Tap 1 over all rows. -/
theorem tap1 : Is2 (n := 4096) (m := 5632) (val_main_v30 (F := Ideal) x3) (fun _ j => p.C 1 j) :=
  (tapRow1 L).read idx_main_v30 (val_main_v30_apply x3) (fun _ => rfl)

/-- Tap 2 over all rows. -/
theorem tap2 : Is2 (n := 4096) (m := 5632) (val_main_v37 (F := Ideal) x3) (fun _ j => p.C 2 j) :=
  (tapRow2 L).read idx_main_v37 (val_main_v37_apply x3) (fun _ => rfl)

/-- The convolution. -/
theorem convolved : Is2 (n := 4096) (m := 5632) (val_main_v39 (F := Ideal) x0 x1 x2 x3) p.ug :=
  (((tap0 L).mul (moved_two L) (X := val_main_v25 (F := Ideal) x0 x1 x2 x3) (F := fun t j => p.C 0 j * down 2 p.zg t j) (fun _ => rfl) (fun _ => rfl)).add
    ((tap1 L).mul (moved_one L) (X := val_main_v31 (F := Ideal) x0 x1 x2 x3) (F := fun t j => p.C 1 j * down 1 p.zg t j) (fun _ => rfl) (fun _ => rfl))
    (X := val_main_v32 (F := Ideal) x0 x1 x2 x3) (F := fun t j => p.C 0 j * down 2 p.zg t j + p.C 1 j * down 1 p.zg t j) (fun _ => rfl) (fun _ => rfl)).add
    ((tap2 L).mul (moved_none L) (X := val_main_v38 (F := Ideal) x0 x1 x2 x3) (F := fun t j => p.C 2 j * p.zg t j) (fun _ => rfl) (fun _ => rfl)) (fun _ => rfl) (fun _ => rfl)

/-- The gate. -/
theorem gate : Is2 (n := 4096) (m := 2816) (val_main_v40 (F := Ideal) x0 x1 x2 x3) p.ug :=
  (convolved L).read idx_main_v40 (val_main_v40_apply x0 x1 x2 x3) (fun _ => rfl)

/-- The value. -/
theorem value : Is2 (n := 4096) (m := 2816) (val_main_v41 (F := Ideal) x0 x1 x2 x3) p.uv :=
  (convolved L).read idx_main_v41 (val_main_v41_apply x0 x1 x2 x3) (fun _ => rfl)

/-- The gate's logistic function. -/
theorem gateSig : Is2 (n := 4096) (m := 2816) (val_main_v42_2 (F := Ideal) x0 x1 x2 x3) (fun t j => Layer.sig (p.ug t j)) := fun i => by
  have h1 : val_main_call0_v1 (F := Ideal) x0 x1 x2 x3 i = ((Real.exp (-(p.ug (i 0 : ℕ) (i 1 : ℕ))) : ℝ) : EReal) := by
    rw [val_main_call0_v1_apply, val_main_call0_v0_apply, gate L i]
    exact congrArg Ideal.exp (EReal.coe_neg _).symm
  have h2 : val_main_call0_v2 (F := Ideal) i = ((1 : ℝ) : EReal) := (val_main_call0_v2_apply i).trans lit_one
  have h4 : val_main_call0_v4 (F := Ideal) i = ((1 : ℝ) : EReal) := (val_main_call0_v4_apply i).trans lit_one
  have h3 : val_main_call0_v3 (F := Ideal) x0 x1 x2 x3 i = ((1 + Real.exp (-(p.ug (i 0 : ℕ) (i 1 : ℕ))) : ℝ) : EReal) := by
    rw [val_main_call0_v3_apply, h1, h2]; exact (EReal.coe_add _ _).symm
  rw [val_main_v42_2_apply, h3, h4]
  refine (Ideal.div_coe (by positivity) _).trans ?_
  rw [← EReal.coe_mul, one_mul, one_div]; rfl
/-- Its complement times itself. -/
theorem gateSigD : Is2 (n := 4096) (m := 2816) (val_main_v42_1 (F := Ideal) x0 x1 x2 x3) (fun t j => Layer.sig (p.ug t j) * (1 - Layer.sig (p.ug t j))) := fun i => by
  have h6 : val_main_call0_v6 (F := Ideal) i = ((1 : ℝ) : EReal) := (val_main_call0_v6_apply i).trans lit_one
  have h7 : val_main_call0_v7 (F := Ideal) x0 x1 x2 x3 i = ((1 - Layer.sig (p.ug (i 0 : ℕ) (i 1 : ℕ)) : ℝ) : EReal) := by
    rw [val_main_call0_v7_apply, h6, gateSig L i]; exact (EReal.coe_sub _ _).symm
  rw [val_main_v42_1_apply, gateSig L i, h7]
  exact (EReal.coe_mul _ _).symm

/-- The gate's silu. -/
theorem gateSilu : Is2 (n := 4096) (m := 2816) (val_main_v42_0 (F := Ideal) x0 x1 x2 x3) (fun t j => silu (p.ug t j)) :=
  (gate L).mul (gateSig L) (fun _ => rfl) (fun _ => rfl)

/-- The activation. -/
theorem act : Is2 (n := 4096) (m := 2816) (val_main_v43 (F := Ideal) x0 x1 x2 x3) p.a :=
  (gateSilu L).mul (value L) (fun _ => rfl) (fun _ => rfl)

/-- The layer's output. -/
theorem output : Is2 (n := 4096) (m := 1024) (val_main_v45 (F := Ideal) x0 x1 x2 x3 x4) p.y :=
  L.hX.add ((act L).dot L.hW lidx_main_v44 ridx_main_v44 (val_main_v44_apply x0 x1 x2 x3 x4) (F := mul 2816 p.a p.W) (fun i j k => p.a i k * p.W k j) (fun _ _ => rfl) (fun _ => rfl)) (fun _ => rfl) (fun _ => add_comm _ _)

end

end Cert.ReferenceIdeal.Value

end
-- ==== Proof.RefBackward.lean ====
module

public import proofs.«01_k».proof.Proof.RefForward

@[expose] public section

set_option maxRecDepth 16384

/-! # The reference: the values of the backward lines -/

noncomputable section

open Idealize.ShloMosaic

namespace Cert.ReferenceIdeal.Value
open Cert.ReferenceIdeal Cert.ReferenceIdeal.Gen Cert.ReferenceIdeal.Read Cert.Layer

/-- The gradient in the convolution's output: the gate's, and beside it the value's. -/
def du (p : Args) (t j : ℕ) : ℝ := if j < 2816 then p.dug t j else p.duv t (j - 2816)

theorem du_left (p : Args) (t : ℕ) {j : ℕ} (h : j < 2816) : du p t j = p.dug t j := if_pos h
theorem du_right (p : Args) (t j : ℕ) : du p t (2816 + j) = p.duv t j := by
  unfold du
  rw [if_neg (by omega), Nat.add_sub_cancel_left]

/-- Column by column, what depends on a column of the gradient alone. -/
theorem convT_left (p : Args) (t : ℕ) {j : ℕ} (h : j < 2816) : convT 4096 p.C (du p) t j = p.dzg t j := by
  simp only [Args.dzg, convT, up, du_left p _ h]
theorem convT_right (p : Args) (t j : ℕ) : convT 4096 p.C (du p) t (2816 + j) = p.dzv t j := by
  simp only [Args.dzv, convT, up, du_right, Args.right]
theorem convW_left (p : Args) (k j : ℕ) (h : j < 2816) : convW 4096 (du p) p.zg k j = p.gCg k j := by
  simp only [Args.gCg, convW, du_left p _ h]
theorem convW_right (p : Args) (k j : ℕ) : convW 4096 (du p) p.zg k (2816 + j) = p.gCv k j := by
  simp only [Args.gCv, convW, du_right]; rfl
theorem tMul_left (p : Args) (d j : ℕ) (h : j < 2816) : tMul 4096 (convT 4096 p.C (du p)) p.h j d = p.gUg j d := by
  simp only [Args.gUg, tMul, convT_left p _ h]
theorem tMul_right (p : Args) (d j : ℕ) : tMul 4096 (convT 4096 p.C (du p)) p.h (2816 + j) d = p.gUv j d := by
  simp only [Args.gUv, tMul, convT_right]

/-- The product over both halves is the sum of the two products. -/
theorem split_dh (p : Args) (t d : ℕ) : ∑ j ∈ Finset.range 5632, convT 4096 p.C (du p) t j * p.U d j = p.dh t d := by
  rw [show 5632 = 2816 + 2816 from rfl, Finset.sum_range_add]
  unfold Args.dh mulT
  refine congrArg₂ (· + ·) (Finset.sum_congr rfl fun j hj => ?_) (Finset.sum_congr rfl fun j _ => ?_)
  · rw [convT_left p t (Finset.mem_range.mp hj)]
  · rw [convT_right]; rfl

/-- The three padded products before the upper rows are cut off. -/
def spreadSum (C g : ℕ → ℕ → ℝ) (t j : ℕ) : ℝ :=
  (if 2 ≤ t ∧ t - 2 < 4096 then C 2 j * g (t - 2) j else 0) + (if 1 ≤ t ∧ t - 1 < 4096 then C 1 j * g (t - 1) j else 0)
    + (if 0 ≤ t ∧ t - 0 < 4096 then C 0 j * g (t - 0) j else 0)

theorem spread_cut (C g : ℕ → ℕ → ℝ) (t j : ℕ) (ht : t < 4096) : spreadSum C g (2 + t) j = convT 4096 C g t j := by
  unfold spreadSum convT up
  rw [if_pos (by omega), show 2 + t - 2 = t by omega, show 2 + t - 1 = t + 1 by omega, show 2 + t - 0 = t + 2 by omega]
  congr 1
  · congr 1
    by_cases h : t + 1 < 4096
    · rw [if_pos (by omega), if_pos h]
    · rw [if_neg (by omega), if_neg h, mul_zero]
  · by_cases h : t + 2 < 4096
    · rw [if_pos (by omega), if_pos h]
    · rw [if_neg (by omega), if_neg h, mul_zero]

theorem taps_sum (g z : ℕ → ℕ → ℝ) (k j : ℕ) (hk : k < 3) :
    (if 2 ≤ k ∧ k - 2 < 1 then ∑ t ∈ Finset.range 4096, g t j * z t j else 0) + (if 1 ≤ k ∧ k - 1 < 1 then ∑ t ∈ Finset.range 4096, g t j * down 1 z t j else 0)
      + (if 0 ≤ k ∧ k - 0 < 1 then ∑ t ∈ Finset.range 4096, g t j * down 2 z t j else 0) = convW 4096 g z k j := by
  unfold convW
  rcases (by omega : k = 0 ∨ k = 1 ∨ k = 2) with rfl | rfl | rfl
  · simp
  · simp
  · simp [down]

theorem oneRow (i : S1x5632.Idx) : (i 0).val * 5632 + (i 1).val = (i 1).val := by
  have h : (i 0).val < 1 := (i 0).isLt
  omega
theorem oneRow' (i : S1x1024.Idx) : (i 0).val * 1024 + (i 1).val = (i 1).val := by
  have h : (i 0).val < 1 := (i 0).isLt
  omega
theorem oneCol (i : S4096x1.Idx) : (i 0).val * 1 + (i 1).val = (i 0).val := by
  have h : (i 1).val < 1 := (i 1).isLt
  omega
theorem sameIdx (i : S4096x1024.Idx) (a : Fin 2) : (idx_main_v46 i a).val = (i a).val := by
  have h : (i 1).val < 1024 := (i 1).isLt
  match a with
  | ⟨0, _⟩ => show ((i 0).val * 1024 + (i 1).val) / 1024 = (i 0).val; omega
  | ⟨1, _⟩ => show ((i 0).val * 1024 + (i 1).val) % 1024 = (i 1).val; omega

variable {x0 : (⟨S4096x1024, .f32⟩ : BufTy).Contents (Elt Ideal)} {x1 : (⟨S1024, .f32⟩ : BufTy).Contents (Elt Ideal)}
  {x2 : (⟨S1024x5632, .f32⟩ : BufTy).Contents (Elt Ideal)} {x3 : (⟨S3x5632, .f32⟩ : BufTy).Contents (Elt Ideal)}
  {x4 : (⟨S2816x1024, .f32⟩ : BufTy).Contents (Elt Ideal)} {x5 : (⟨S4096x1024, .f32⟩ : BufTy).Contents (Elt Ideal)} {p : Args}

section
variable (L : Given x0 x1 x2 x3 x4 x5 p)
include L
/-- The cotangent. -/
theorem cot : Is2 (n := 4096) (m := 1024) (val_main_v46 (F := Ideal) x5) p.G :=
  L.hG.of_eq (funext fun i => (val_main_v46_apply x5 i).trans (congrArg x5 (funext fun a => Fin.ext (sameIdx i a))))

/-- The gradient of the down projection. -/
theorem gradDown : Is2 (n := 2816) (m := 1024) (val_main_v121 (F := Ideal) x0 x1 x2 x3 x5) p.gW :=
  (((cot L).dot (act L) (X := val_main_v47 (F := Ideal) x0 x1 x2 x3 x5) (n := 1024) (m := 2816) (F := fun d j => p.gW j d) lidx_main_v47 ridx_main_v47 (val_main_v47_apply x0 x1 x2 x3 x5)
    (fun d j t => p.G t d * p.a t j) (fun _ _ => rfl) (fun _ => Finset.sum_congr rfl fun _ _ => mul_comm _ _))).read idx_main_v48 (val_main_v48_apply x0 x1 x2 x3 x5) (fun _ => rfl)

/-- The gradient in the activation. -/
theorem gradAct : Is2 (n := 4096) (m := 2816) (val_main_v49 (F := Ideal) x4 x5) p.da :=
  (cot L).dot L.hW lidx_main_v49 ridx_main_v49 (val_main_v49_apply x4 x5) (fun t j d => p.G t d * p.W j d) (fun _ _ => rfl) (fun _ => rfl)

/-- The gradient in the value. -/
theorem gradValue : Is2 (n := 4096) (m := 2816) (val_main_v50 (F := Ideal) x0 x1 x2 x3 x4 x5) p.duv :=
  (gateSilu L).mul (gradAct L) (fun _ => rfl) (fun _ => mul_comm _ _)

theorem gradActValue : Is2 (n := 4096) (m := 2816) (val_main_v51 (F := Ideal) x0 x1 x2 x3 x4 x5) (fun t j => p.da t j * p.uv t j) :=
  (gradAct L).mul (value L) (fun _ => rfl) (fun _ => rfl)

/-- The gradient in the gate. -/
theorem gradGate : Is2 (n := 4096) (m := 2816) (val_main_v52 (F := Ideal) x0 x1 x2 x3 x4 x5) p.dug :=
  ((gradActValue L).mul (gateSig L) (X := val_main_call1_v1 (F := Ideal) x0 x1 x2 x3 x4 x5) (F := fun t j => p.da t j * p.uv t j * Layer.sig (p.ug t j)) (fun _ => rfl) (fun _ => rfl)).add
    (((gate L).mul (gradActValue L) (X := val_main_call1_v0 (F := Ideal) x0 x1 x2 x3 x4 x5) (F := fun t j => p.ug t j * (p.da t j * p.uv t j)) (fun _ => rfl) (fun _ => rfl)).mul (gateSigD L)
      (X := val_main_call1_v2 (F := Ideal) x0 x1 x2 x3 x4 x5) (F := fun t j => p.ug t j * (p.da t j * p.uv t j) * (Layer.sig (p.ug t j) * (1 - Layer.sig (p.ug t j)))) (fun _ => rfl) (fun _ => rfl)) (fun _ => rfl)
    (fun _ => by simp only [Args.dug, dsilu]; ring)

/-- Both side by side. -/
theorem gradConv : Is2 (n := 4096) (m := 5632) (val_main_v53 (F := Ideal) x0 x1 x2 x3 x4 x5) (du p) := fun i => by
  unfold val_main_v53
  rw [concatenate_pair_apply]
  unfold du
  by_cases h : (i 1 : ℕ) < 2816
  · rw [if_pos h]; exact (dif_pos h).trans (gradGate L _)
  · rw [if_neg h]; exact (dif_neg h).trans (gradValue L _)

/-- Tap 2 times the gradient, with rows of zeros above and below. -/
theorem spread2 : Is2 (n := 4098) (m := 5632) (val_main_v60 (F := Ideal) x0 x1 x2 x3 x4 x5) (fun t j => if 2 ≤ t ∧ t - 2 < 4096 then p.C 2 j * du p (t - 2) j else 0) :=
  Is2.pad (f := fun t j => p.C 2 j * du p t j) (((tapRow2 L).read (F := fun _ j => p.C 2 j) idx_main_v54 (val_main_v54_apply x3) (fun _ => rfl)).mul (gradConv L)
    (X := val_main_v55 (F := Ideal) x0 x1 x2 x3 x4 x5) (fun _ => rfl) (fun _ => rfl)) pads_S4096x5632_S4098x5632_200_000 h_S_ lit_zero rfl

/-- Tap 1 times the gradient, with rows of zeros above and below. -/
theorem spread1 : Is2 (n := 4098) (m := 5632) (val_main_v69 (F := Ideal) x0 x1 x2 x3 x4 x5) (fun t j => if 1 ≤ t ∧ t - 1 < 4096 then p.C 1 j * du p (t - 1) j else 0) :=
  Is2.pad (f := fun t j => p.C 1 j * du p t j) (((tapRow1 L).read (F := fun _ j => p.C 1 j) idx_main_v63 (val_main_v63_apply x3) (fun _ => rfl)).mul (gradConv L)
    (X := val_main_v64 (F := Ideal) x0 x1 x2 x3 x4 x5) (fun _ => rfl) (fun _ => rfl)) pads_S4096x5632_S4098x5632_110_000 h_S_ lit_zero rfl

/-- Tap 0 times the gradient, with rows of zeros above and below. -/
theorem spread0 : Is2 (n := 4098) (m := 5632) (val_main_v80 (F := Ideal) x0 x1 x2 x3 x4 x5) (fun t j => if 0 ≤ t ∧ t - 0 < 4096 then p.C 0 j * du p (t - 0) j else 0) :=
  Is2.pad (f := fun t j => p.C 0 j * du p t j) (((tapRow0 L).read (F := fun _ j => p.C 0 j) idx_main_v74 (val_main_v74_apply x3) (fun _ => rfl)).mul (gradConv L)
    (X := val_main_v75 (F := Ideal) x0 x1 x2 x3 x4 x5) (fun _ => rfl) (fun _ => rfl)) pads_S4096x5632_S4098x5632_020_000 h_S_ lit_zero rfl

/-- The gradient in what the convolution takes, with two rows above that are cut off. -/
theorem gradIn : Is2 (n := 4096) (m := 5632) (val_main_v86 (F := Ideal) x0 x1 x2 x3 x4 x5) (convT 4096 p.C (du p)) :=
  (((spread2 L).add (spread1 L) (X := val_main_v70 (F := Ideal) x0 x1 x2 x3 x4 x5) (F := fun t j => (if 2 ≤ t ∧ t - 2 < 4096 then p.C 2 j * du p (t - 2) j else 0) + (if 1 ≤ t ∧ t - 1 < 4096 then p.C 1 j * du p (t - 1) j else 0)) (fun _ => rfl) (fun _ => rfl)).add (spread0 L)
    (X := val_main_v81 (F := Ideal) x0 x1 x2 x3 x4 x5) (F := spreadSum p.C (du p)) (fun _ => rfl) (fun _ => rfl)).read idx_main_v86 (val_main_v86_apply x0 x1 x2 x3 x4 x5) (fun i => spread_cut _ _ _ _ (i 0).isLt)

/-- The gradient of tap 2, in row 2 of three. -/
theorem tapGrad2 : Is2 (n := 3) (m := 5632) (val_main_v62 (F := Ideal) x0 x1 x2 x3 x4 x5) (fun k j => if 2 ≤ k ∧ k - 2 < 1 then ∑ t ∈ Finset.range 4096, du p t j * p.zg t j else 0) :=
  Is2.pad (f := fun _ j => ∑ t ∈ Finset.range 4096, du p t j * p.zg t j)
    (Is1.read2 (v := fun j => ∑ t ∈ Finset.range 4096, du p t j * p.zg t j) (Is2.sum (f := fun _ j => ∑ t ∈ Finset.range 4096, du p t j * p.zg t j) (Is1.read2 (v := fun j => ∑ t ∈ Finset.range 4096, du p t j * p.zg t j)
      (Is2.sum ((gradConv L).mul (moved_none L) (X := val_main_v56 (F := Ideal) x0 x1 x2 x3 x4 x5) (F := fun t j => du p t j * p.zg t j) (fun _ => rfl) (fun _ => rfl)) _ lit_zero idx_main_v57 (val_main_v57_apply x0 x1 x2 x3 x4 x5)
        (fun j t => du p t j * p.zg t j) (fun _ _ => rfl) (fun _ => rfl)) idx_main_v58 (val_main_v58_apply x0 x1 x2 x3 x4 x5)
        (fun i => congrArg (fun j => ∑ t ∈ Finset.range 4096, du p t j * p.zg t j) (oneRow i)))
      _ lit_zero idx_main_v59 (val_main_v59_apply x0 x1 x2 x3 x4 x5) (fun j _ => ∑ t ∈ Finset.range 4096, du p t j * p.zg t j) (fun _ _ => rfl) (fun _ => Finset.sum_range_one _))
      idx_main_v61 (val_main_v61_apply x0 x1 x2 x3 x4 x5) (fun _ => rfl)) pads_S1x5632_S3x5632_200_000 h_S_ lit_zero rfl

/-- The gradient of tap 1, in row 1 of three. -/
theorem tapGrad1 : Is2 (n := 3) (m := 5632) (val_main_v72 (F := Ideal) x0 x1 x2 x3 x4 x5) (fun k j => if 1 ≤ k ∧ k - 1 < 1 then ∑ t ∈ Finset.range 4096, du p t j * (down 1 p.zg) t j else 0) :=
  Is2.pad (f := fun _ j => ∑ t ∈ Finset.range 4096, du p t j * (down 1 p.zg) t j)
    (Is1.read2 (v := fun j => ∑ t ∈ Finset.range 4096, du p t j * (down 1 p.zg) t j) (Is2.sum (f := fun _ j => ∑ t ∈ Finset.range 4096, du p t j * (down 1 p.zg) t j) (Is1.read2 (v := fun j => ∑ t ∈ Finset.range 4096, du p t j * (down 1 p.zg) t j)
      (Is2.sum ((gradConv L).mul (moved_one L) (X := val_main_v65 (F := Ideal) x0 x1 x2 x3 x4 x5) (F := fun t j => du p t j * (down 1 p.zg) t j) (fun _ => rfl) (fun _ => rfl)) _ lit_zero idx_main_v66 (val_main_v66_apply x0 x1 x2 x3 x4 x5)
        (fun j t => du p t j * (down 1 p.zg) t j) (fun _ _ => rfl) (fun _ => rfl)) idx_main_v67 (val_main_v67_apply x0 x1 x2 x3 x4 x5)
        (fun i => congrArg (fun j => ∑ t ∈ Finset.range 4096, du p t j * (down 1 p.zg) t j) (oneRow i)))
      _ lit_zero idx_main_v68 (val_main_v68_apply x0 x1 x2 x3 x4 x5) (fun j _ => ∑ t ∈ Finset.range 4096, du p t j * (down 1 p.zg) t j) (fun _ _ => rfl) (fun _ => Finset.sum_range_one _))
      idx_main_v71 (val_main_v71_apply x0 x1 x2 x3 x4 x5) (fun _ => rfl)) pads_S1x5632_S3x5632_110_000 h_S_ lit_zero rfl

/-- The gradient of tap 0, in row 0 of three. -/
theorem tapGrad0 : Is2 (n := 3) (m := 5632) (val_main_v83 (F := Ideal) x0 x1 x2 x3 x4 x5) (fun k j => if 0 ≤ k ∧ k - 0 < 1 then ∑ t ∈ Finset.range 4096, du p t j * (down 2 p.zg) t j else 0) :=
  Is2.pad (f := fun _ j => ∑ t ∈ Finset.range 4096, du p t j * (down 2 p.zg) t j)
    (Is1.read2 (v := fun j => ∑ t ∈ Finset.range 4096, du p t j * (down 2 p.zg) t j) (Is2.sum (f := fun _ j => ∑ t ∈ Finset.range 4096, du p t j * (down 2 p.zg) t j) (Is1.read2 (v := fun j => ∑ t ∈ Finset.range 4096, du p t j * (down 2 p.zg) t j)
      (Is2.sum ((gradConv L).mul (moved_two L) (X := val_main_v76 (F := Ideal) x0 x1 x2 x3 x4 x5) (F := fun t j => du p t j * (down 2 p.zg) t j) (fun _ => rfl) (fun _ => rfl)) _ lit_zero idx_main_v77 (val_main_v77_apply x0 x1 x2 x3 x4 x5)
        (fun j t => du p t j * (down 2 p.zg) t j) (fun _ _ => rfl) (fun _ => rfl)) idx_main_v78 (val_main_v78_apply x0 x1 x2 x3 x4 x5)
        (fun i => congrArg (fun j => ∑ t ∈ Finset.range 4096, du p t j * (down 2 p.zg) t j) (oneRow i)))
      _ lit_zero idx_main_v79 (val_main_v79_apply x0 x1 x2 x3 x4 x5) (fun j _ => ∑ t ∈ Finset.range 4096, du p t j * (down 2 p.zg) t j) (fun _ _ => rfl) (fun _ => Finset.sum_range_one _))
      idx_main_v82 (val_main_v82_apply x0 x1 x2 x3 x4 x5) (fun _ => rfl)) pads_S1x5632_S3x5632_020_000 h_S_ lit_zero rfl

/-- The gradients of the three taps. -/
theorem gradTaps : Is2 (n := 3) (m := 5632) (val_main_v84 (F := Ideal) x0 x1 x2 x3 x4 x5) (convW 4096 (du p) p.zg) :=
  ((tapGrad2 L).add (tapGrad1 L) (X := val_main_v73 (F := Ideal) x0 x1 x2 x3 x4 x5) (F := fun k j => (if 2 ≤ k ∧ k - 2 < 1 then ∑ t ∈ Finset.range 4096, du p t j * p.zg t j else 0) + (if 1 ≤ k ∧ k - 1 < 1 then ∑ t ∈ Finset.range 4096, du p t j * down 1 p.zg t j else 0)) (fun _ => rfl) (fun _ => rfl)).add (tapGrad0 L) (fun _ => rfl)
    (fun i => taps_sum _ _ _ _ (i 0).isLt)

/-- The gate half of the gradient of the taps. -/
theorem gradTapsGate : Is2 (n := 3) (m := 2816) (val_main_v119 (F := Ideal) x0 x1 x2 x3 x4 x5) p.gCg :=
  (gradTaps L).read idx_main_v119 (val_main_v119_apply x0 x1 x2 x3 x4 x5) (fun i => convW_left _ _ _ (i 1).isLt)

/-- The value half. -/
theorem gradTapsValue : Is2 (n := 3) (m := 2816) (val_main_v120 (F := Ideal) x0 x1 x2 x3 x4 x5) p.gCv :=
  (gradTaps L).read idx_main_v120 (val_main_v120_apply x0 x1 x2 x3 x4 x5) (fun i => convW_right _ _ _)

/-- The gradient of the up projection. -/
theorem gradUp : Is2 (n := 1024) (m := 5632) (val_main_v88 (F := Ideal) x0 x1 x2 x3 x4 x5) (fun d j => tMul 4096 (convT 4096 p.C (du p)) p.h j d) :=
  ((gradIn L).dot (normed L) (X := val_main_v87 (F := Ideal) x0 x1 x2 x3 x4 x5) (n := 5632) (m := 1024) (F := tMul 4096 (convT 4096 p.C (du p)) p.h) lidx_main_v87 ridx_main_v87 (val_main_v87_apply x0 x1 x2 x3 x4 x5)
    (fun j d t => convT 4096 p.C (du p) t j * p.h t d) (fun _ _ => rfl) (fun _ => rfl)).read idx_main_v88 (val_main_v88_apply x0 x1 x2 x3 x4 x5) (fun _ => rfl)

/-- Its gate half, transposed. -/
theorem gradUpGate : Is2 (n := 2816) (m := 1024) (val_main_v115 (F := Ideal) x0 x1 x2 x3 x4 x5) p.gUg :=
  ((gradUp L).read (X := val_main_v113 (F := Ideal) x0 x1 x2 x3 x4 x5) (n := 1024) (m := 2816) (F := fun d j => p.gUg j d) idx_main_v113 (val_main_v113_apply x0 x1 x2 x3 x4 x5) (fun i => tMul_left _ _ _ (i 1).isLt)).read idx_main_v114 (val_main_v114_apply x0 x1 x2 x3 x4 x5) (fun _ => rfl)

/-- Its value half, transposed. -/
theorem gradUpValue : Is2 (n := 2816) (m := 1024) (val_main_v118 (F := Ideal) x0 x1 x2 x3 x4 x5) p.gUv :=
  ((gradUp L).read (X := val_main_v116 (F := Ideal) x0 x1 x2 x3 x4 x5) (n := 1024) (m := 2816) (F := fun d j => p.gUv j d) idx_main_v116 (val_main_v116_apply x0 x1 x2 x3 x4 x5) (fun i => tMul_right _ _ _)).read idx_main_v117 (val_main_v117_apply x0 x1 x2 x3 x4 x5) (fun _ => rfl)

/-- The gradient in the normalised input. -/
theorem gradNormed : Is2 (n := 4096) (m := 1024) (val_main_v89 (F := Ideal) x0 x1 x2 x3 x4 x5) p.dh :=
  (gradIn L).dot L.hU lidx_main_v89 ridx_main_v89 (val_main_v89_apply x0 x1 x2 x3 x4 x5) (fun t d j => convT 4096 p.C (du p) t j * p.U d j) (fun _ _ => rfl) (fun i => split_dh _ _ _)

/-- The gradient of the gain, as a row. -/
theorem gradGain : Is2 (n := 1) (m := 1024) (val_main_v112 (F := Ideal) x0 x1 x2 x3 x4 x5) (fun _ d => p.dn d) :=
  Is1.read2 (v := p.dn) (Is2.sum (f := fun _ d => p.dn d) (Is1.read2 (v := p.dn)
      (Is2.sum ((unit L).mul (gradNormed L) (X := val_main_v90 (F := Ideal) x0 x1 x2 x3 x4 x5) (F := fun t d => p.X t d * rr p.X t * p.dh t d) (fun _ => rfl) (fun _ => rfl)) _ lit_zero idx_main_v91 (val_main_v91_apply x0 x1 x2 x3 x4 x5)
        (fun d t => p.X t d * rr p.X t * p.dh t d) (fun _ _ => rfl) (fun i => show _ = ∑ t ∈ Finset.range 4096, p.dh t (i 0 : ℕ) * p.X t (i 0 : ℕ) * rr p.X t from Finset.sum_congr rfl fun _ _ => by ring)) idx_main_v92 (val_main_v92_apply x0 x1 x2 x3 x4 x5)
        (fun i => congrArg p.dn (oneRow' i)))
      _ lit_zero idx_main_v95 (val_main_v95_apply x0 x1 x2 x3 x4 x5) (fun d _ => p.dn d) (fun _ _ => rfl) (fun _ => Finset.sum_range_one _))
      idx_main_v112 (val_main_v112_apply x0 x1 x2 x3 x4 x5) (fun i => congrArg p.dn (oneRow' i))

/-- The gradient times the gain. -/
theorem gained : Is2 (n := 4096) (m := 1024) (val_main_v94 (F := Ideal) x0 x1 x2 x3 x4 x5) (fun t d => p.dh t d * p.N d) :=
  (gradNormed L).mul ((gainRow L).read (F := fun _ d => p.N d) idx_main_v93 (val_main_v93_apply x1) (fun _ => rfl)) (fun _ => rfl) (fun _ => rfl)

/-- Its product with the input, summed along a row. -/
theorem rowDot : Is2 (n := 4096) (m := 1) (val_main_v98 (F := Ideal) x0 x1 x2 x3 x4 x5) (fun t _ => ∑ d ∈ Finset.range 1024, p.X t d * (p.dh t d * p.N d)) :=
  Is1.read2 (v := fun t => ∑ d ∈ Finset.range 1024, p.X t d * (p.dh t d * p.N d)) (Is2.sum (L.hX.mul (gained L) (X := val_main_v96 (F := Ideal) x0 x1 x2 x3 x4 x5) (F := fun t d => p.X t d * (p.dh t d * p.N d)) (fun _ => rfl) (fun _ => rfl)) _ lit_zero idx_main_v97 (val_main_v97_apply x0 x1 x2 x3 x4 x5)
    (fun t d => p.X t d * (p.dh t d * p.N d)) (fun _ _ => rfl) (fun _ => rfl)) idx_main_v98 (val_main_v98_apply x0 x1 x2 x3 x4 x5) (fun i => congrArg (fun t => ∑ d ∈ Finset.range 1024, p.X t d * (p.dh t d * p.N d)) (oneCol i))

/-- What the input is multiplied by twice in its gradient. -/
theorem rowScale : Is2 (n := 4096) (m := 1024) (val_main_v106 (F := Ideal) x0 x1 x2 x3 x4 x5) (fun t _ => (∑ d ∈ Finset.range 1024, p.X t d * (p.dh t d * p.N d)) * (-(1 / 2) * (rr p.X t * (1 / ms p.X t))) / 1024) := by
  have h102 : Is2 (n := 4096) (m := 1) (val_main_v102 (F := Ideal) x0 x1 x2 x3 x4 x5) (fun t _ => (∑ d ∈ Finset.range 1024, p.X t d * (p.dh t d * p.N d)) * (-(1 / 2) * (rr p.X t * (1 / ms p.X t)))) :=
    (rowDot L).mul (rootD L) (fun _ => rfl) (fun _ => rfl)
  have h104 : Is2 (n := 4096) (m := 1) (val_main_v104 (F := Ideal) x0 x1 x2 x3 x4 x5) (fun t _ => (∑ d ∈ Finset.range 1024, p.X t d * (p.dh t d * p.N d)) * (-(1 / 2) * (rr p.X t * (1 / ms p.X t))) / 1024) := fun i => by
    have h : val_main_v103 (F := Ideal) i = ((1024 : ℝ) : EReal) := (val_main_v103_apply i).trans lit_1024
    rw [val_main_v104_apply, h102 i, h]
    exact div_1024 _
  exact Is1.read2 (v := fun t => (∑ d ∈ Finset.range 1024, p.X t d * (p.dh t d * p.N d)) * (-(1 / 2) * (rr p.X t * (1 / ms p.X t))) / 1024)
    (Is2.sum h104 _ lit_zero idx_main_v105 (val_main_v105_apply x0 x1 x2 x3 x4 x5) (fun t _ => (∑ d ∈ Finset.range 1024, p.X t d * (p.dh t d * p.N d)) * (-(1 / 2) * (rr p.X t * (1 / ms p.X t))) / 1024)
      (fun _ _ => rfl) (fun _ => Finset.sum_range_one _)) idx_main_v106 (val_main_v106_apply x0 x1 x2 x3 x4 x5) (fun _ => rfl)
/-- The gradient in the input. -/
theorem gradX : Is2 (n := 4096) (m := 1024) (val_main_v110 (F := Ideal) x0 x1 x2 x3 x4 x5) p.dx := by
  have h100 : Is2 (n := 4096) (m := 1024) (val_main_v100 (F := Ideal) x0 x1 x2 x3 x4 x5) (fun t d => p.dh t d * p.N d * rr p.X t) :=
    (gained L).mul ((root L).read (F := fun t _ => rr p.X t) idx_main_v99 (val_main_v99_apply x0) (fun _ => rfl)) (fun _ => rfl) (fun _ => rfl)
  have h101 : Is2 (n := 4096) (m := 1024) (val_main_v101 (F := Ideal) x0 x1 x2 x3 x4 x5) (fun t d => p.G t d + p.dh t d * p.N d * rr p.X t) :=
    L.hG.add h100 (fun _ => rfl) (fun _ => rfl)
  have h107 : Is2 (n := 4096) (m := 1024) (val_main_v107 (F := Ideal) x0 x1 x2 x3 x4 x5) (fun t d => p.X t d * ((∑ d ∈ Finset.range 1024, p.X t d * (p.dh t d * p.N d)) * (-(1 / 2) * (rr p.X t * (1 / ms p.X t))) / 1024)) :=
    L.hX.mul (rowScale L) (fun _ => rfl) (fun _ => rfl)
  have h109 : Is2 (n := 4096) (m := 1024) (val_main_v109 (F := Ideal) x0 x1 x2 x3 x4 x5) (fun t d => (∑ d ∈ Finset.range 1024, p.X t d * (p.dh t d * p.N d)) * (-(1 / 2) * (rr p.X t * (1 / ms p.X t))) / 1024 * p.X t d) :=
    (rowScale L).mul L.hX (fun _ => rfl) (fun _ => rfl)
  refine (h101.add h107 (X := val_main_v108 (F := Ideal) x0 x1 x2 x3 x4 x5) (F := fun t d => p.G t d + p.dh t d * p.N d * rr p.X t + p.X t d * ((∑ d ∈ Finset.range 1024, p.X t d * (p.dh t d * p.N d)) * (-(1 / 2) * (rr p.X t * (1 / ms p.X t))) / 1024)) (fun _ => rfl) (fun _ => rfl)).add h109 (fun _ => rfl) fun i => ?_
  rw [← rr_sq]
  simp only [Args.dx, normX]
  ring
/-- The same in the narrow format. -/
theorem gradX' : Is2 (n := 4096) (m := 1024) (val_main_v111 (F := Ideal) x0 x1 x2 x3 x4 x5) p.dx := gradX L

end

end Cert.ReferenceIdeal.Value

end
-- ==== Proof.Host.lean ====
module

public import proofs.«01_k».proof.Proof.Gen.KernelIdeal.Frame.Fold0
public import proofs.«01_k».proof.Proof.Reals
public import Idealize.ShloMosaic.Lib.ValueLayout
public import Idealize.ShloMosaic.Lib.Claim
public import Idealize.ShloMosaic.Lib.Pipeline.ValueKit

@[expose] public section

set_option maxRecDepth 16384

/-! # The launch: what the arguments hold, and what the host's lines make of them -/

noncomputable section

open Idealize.ShloMosaic Idealize.ShloMosaic.TcCoe Idealize.SL.Sem

namespace Cert.KernelIdeal.Value
open Cert.KernelIdeal Cert.KernelIdeal.Gen Cert.Layer

variable (m : (ℓ : Loc nD τ sig) → Buf (Elt Ideal) ℓ) (ρ : Dev nD → PrngReg) (c : Dev nD) (p : Args)

/-- The six arguments hold the reals of `p`. -/
structure Launched : Prop where
  hX : Is2 (n := 4096) (m := 1024) (m ((c : Thread nD τ).loc main_arg0)) p.X
  hN : Is1 (n := 1024) (m ((c : Thread nD τ).loc main_arg1)) p.N
  hU : Is2 (n := 1024) (m := 5632) (m ((c : Thread nD τ).loc main_arg2)) p.U
  hC : Is2 (n := 3) (m := 5632) (m ((c : Thread nD τ).loc main_arg3)) p.C
  hW : Is2 (n := 2816) (m := 1024) (m ((c : Thread nD τ).loc main_arg4)) p.W
  hG : Is2 (n := 4096) (m := 1024) (m ((c : Thread nD τ).loc main_arg5)) p.G

theorem at1_arg0 (h : Launched m c p) : Is2 (n := 4096) (m := 1024) (W1 m ρ c (Proc.devRef .tc main_arg0)) p.X :=
  Is2.of_eq (W1_args m ρ c main_arg0 (by decide)) h.hX
theorem at1_arg5 (h : Launched m c p) : Is2 (n := 4096) (m := 1024) (W1 m ρ c (Proc.devRef .tc main_arg5)) p.G :=
  Is2.of_eq (W1_args m ρ c main_arg5 (by decide)) h.hG
theorem at1_v2 (h : Launched m c p) : Is2 (n := 1) (m := 1024) (W1 m ρ c (Proc.devRef .tc main_v2)) (fun _ d => p.N d) := by
  intro i
  unfold_abbrev_sides
  after_results
  change shapeCast S1x1024 (m ((c : Thread nD τ).loc main_arg1)) shapeCasts_S1024_S1x1024 i = _
  obtain ⟨u, d, rfl⟩ : ∃ u d, i = ValueIdx.ix2 u d := ⟨i 0, i 1, ValueIdx.eq_ix2 i⟩
  exact (ValueIdx.shapeCast_a_1a_apply _ _ _ _).trans (h.hN _)
theorem at1_v3 (h : Launched m c p) : Is2 (n := 2816) (m := 1024) (W1 m ρ c (Proc.devRef .tc main_v3)) (fun j d => p.U d j) := by
  intro i
  unfold_abbrev_sides
  after_results
  pointwise
  refine (h.hU _).trans ?_
  rfl
theorem at1_v4 (h : Launched m c p) : Is2 (n := 2816) (m := 1024) (W1 m ρ c (Proc.devRef .tc main_v4)) (fun j d => Args.right p.U d j) := by
  intro i
  unfold_abbrev_sides
  after_results
  pointwise
  refine (h.hU _).trans ?_
  rfl
theorem at1_v5 (h : Launched m c p) : Is2 (n := 3) (m := 2816) (W1 m ρ c (Proc.devRef .tc main_v5)) p.C := by
  intro i
  unfold_abbrev_sides
  after_results
  pointwise
  refine (h.hC _).trans ?_
  rfl
theorem at1_v6 (h : Launched m c p) : Is2 (n := 3) (m := 2816) (W1 m ρ c (Proc.devRef .tc main_v6)) (Args.right p.C) := by
  intro i
  unfold_abbrev_sides
  after_results
  pointwise
  refine (h.hC _).trans ?_
  rfl
theorem at1_v7 (h : Launched m c p) : Is2 (n := 2816) (m := 1024) (W1 m ρ c (Proc.devRef .tc main_v7)) p.W := by
  intro i
  unfold_abbrev_sides
  after_results
  exact h.hW i
/-- The cotangent in the narrow format. -/
theorem host5 (h : Launched m c p) : Is2 (n := 4096) (m := 1024) (W7 m ρ c (Proc.devRef .tc main_v13)) p.G := by
  intro i
  unfold_abbrev_sides
  after_results
  exact (congrFun (W6_args m ρ c main_arg5 (by decide)) i).trans (h.hG i)

end Cert.KernelIdeal.Value

end
-- ==== Proof.K0.lean ====
module

public import proofs.«01_k».proof.Proof.Gen.KernelIdeal.Frame.Region0
public import proofs.«01_k».proof.Proof.Reals

@[expose] public section

set_option maxRecDepth 16384

/-! # The normalised rows: each point of the grid normalises one block of 1024 rows -/

noncomputable section

open Idealize.ShloMosaic Idealize.ShloMosaic.TcCoe Idealize.SL.Sem
open Idealize.ShloMosaic.Pipeline (Dat)

namespace Cert.KernelIdeal.Value
open Cert.KernelIdeal Cert.KernelIdeal.Gen Cert.Layer

variable (V : (c : Dev nD) → (b : Ref sig .tc) → Buf (Elt Ideal) ((c : Thread nD τ).loc b))

namespace R0

/-- Where each window's block sits. -/
theorem idx : ∀ t : Fin cfg0.N, win0_0.index t = ![t.val, 0] ∧ win0_1.index t = ![0, 0] ∧ win0_2.index t = ![t.val, 0] :=
  (by decide +kernel : ∀ t : Fin grid0.N, _)

/-- The array after the region, from what its operands hold. -/
theorem final (c : Dev nD) (X : ℕ → ℕ → ℝ) (N : ℕ → ℝ)
    (hX : Is2 (n := 4096) (m := 1024) (V c (Pipeline.arrRef spec0 0)) X)
    (hN : Is2 (n := 1) (m := 1024) (V c (Pipeline.arrRef spec0 1)) (fun _ d => N d)) :
    Is2 (n := 4096) (m := 1024) ((dat0 V c).arrAt 2 cfg0.N) (norm X N) := by
  intro i
  refine congrFun ((dat0 V c).arrAt_eq_of_covers 2 (fun i => ((norm X N (i 0 : ℕ) (i 1 : ℕ) : ℝ) : EReal))
    (by decide +kernel) fun t _ y => ?_) i
  blk_simp
  rw [after0_2]; frame_out
  pointwise [k0_pay1]
  have h0 : ∀ x, iblk0 V c 0 t x = ((X (t.val * 1024 + (x 0).val) (x 1).val : ℝ) : EReal) := by
    intro x
    refine (hX (((cfg0.win 0).blk t).view.emb x)).trans ?_
    blk_simp [idx t]
  have h1 : ∀ x, iblk0 V c 1 t x = ((N (x 1).val : ℝ) : EReal) := by
    intro x
    refine (hN (((cfg0.win 1).blk t).view.emb x)).trans ?_
    blk_simp [idx t]
  have hs := sum_fin _ (fun k => X (t.val * 1024 + (y 0).val) k * X (t.val * 1024 + (y 0).val) k) fun k : Fin 1024 =>
    (congrArg₂ (fun a b : EReal => a * b) (h0 (ix2 (y 0) k)) (h0 (ix2 (y 0) k))).trans (EReal.coe_mul _ _).symm
  refine (congrArg₂ (fun a b : EReal => a * b) (congrArg₂ (fun a b : EReal => a * b) (h0 y)
    (congrArg (fun s => Ideal.rsqrt (Ideal.div s (Ideal.ofBits FTy.f32 0x44800000#32) + Ideal.ofBits FTy.f32 0x358637BD#32)) hs)) (h1 _)).trans ?_
  rw [lit_1024, lit_eps, div_1024, ← EReal.coe_add]
  refine (congrArg₂ (fun a b : EReal => a * b) (congrArg₂ (fun a b : EReal => a * b) rfl (rsqrt_ms X _)) rfl).trans ?_
  rw [← EReal.coe_mul, ← EReal.coe_mul]
  blk_simp [idx t]
  rfl

end R0

end Cert.KernelIdeal.Value
-- ==== Proof.K1.lean ====
module

public import proofs.«01_k».proof.Proof.Gen.KernelIdeal.Frame.Region1
public import proofs.«01_k».proof.Proof.Reals

@[expose] public section

set_option maxRecDepth 16384

/-! # The gate half of the up projection: each point of the grid writes one block of the product -/

noncomputable section

open Idealize.ShloMosaic Idealize.ShloMosaic.TcCoe Idealize.SL.Sem
open Idealize.ShloMosaic.Pipeline (Dat)

namespace Cert.KernelIdeal.Value
open Cert.KernelIdeal Cert.KernelIdeal.Gen Cert.Layer

variable (V : (c : Dev nD) → (b : Ref sig .tc) → Buf (Elt Ideal) ((c : Thread nD τ).loc b))

namespace R1

/-- Where each window's block sits. -/
theorem idx : ∀ t : Fin cfg1.N, win1_0.index t = ![t.val, 0] ∧ win1_1.index t = ![0, 0] ∧ win1_2.index t = ![t.val, 0] :=
  (by decide +kernel : ∀ t : Fin grid1.N, _)

/-- The array after the region, from what its operands hold. -/
theorem final (c : Dev nD) (A B : ℕ → ℕ → ℝ)
    (hA : Is2 (n := 4096) (m := 1024) (V c (Pipeline.arrRef spec1 0)) A)
    (hB : Is2 (n := 2816) (m := 1024) (V c (Pipeline.arrRef spec1 1)) B) :
    Is2 (n := 4096) (m := 2816) ((dat1 V c).arrAt 2 cfg1.N) (mulT 1024 A B) := by
  intro i
  refine congrFun ((dat1 V c).arrAt_eq_of_covers 2 (fun i => ((mulT 1024 A B (i 0 : ℕ) (i 1 : ℕ) : ℝ) : EReal))
    (by decide +kernel) fun t _ y => ?_) i
  blk_simp
  rw [after1_2]; frame_out
  pointwise [k1_pay1]
  have h0 : ∀ x, iblk1 V c 0 t x = ((A (t.val * 1024 + (x 0).val) ((x 1).val) : ℝ) : EReal) := by
    intro x
    refine (hA (((cfg1.win 0).blk t).view.emb x)).trans ?_
    blk_simp [idx t]
  have h1 : ∀ x, iblk1 V c 1 t x = ((B ((x 0).val) ((x 1).val) : ℝ) : EReal) := by
    intro x
    refine (hB (((cfg1.win 1).blk t).view.emb x)).trans ?_
    blk_simp [idx t]
  refine (sum_fin _ (fun k => A (t.val * 1024 + (y 0).val) k * B ((y 1).val) k) fun k => ?_).trans ?_
  · rw [h0, h1, ← EReal.coe_mul]; rfl
  · blk_simp [idx t]
    rfl

end R1

end Cert.KernelIdeal.Value
-- ==== Proof.K2.lean ====
module

public import proofs.«01_k».proof.Proof.Gen.KernelIdeal.Frame.Region2
public import proofs.«01_k».proof.Proof.Reals

@[expose] public section

set_option maxRecDepth 16384

/-! # The value half of the up projection: each point of the grid writes one block of the product -/

noncomputable section

open Idealize.ShloMosaic Idealize.ShloMosaic.TcCoe Idealize.SL.Sem
open Idealize.ShloMosaic.Pipeline (Dat)

namespace Cert.KernelIdeal.Value
open Cert.KernelIdeal Cert.KernelIdeal.Gen Cert.Layer

variable (V : (c : Dev nD) → (b : Ref sig .tc) → Buf (Elt Ideal) ((c : Thread nD τ).loc b))

namespace R2

/-- Where each window's block sits. -/
theorem idx : ∀ t : Fin cfg2.N, win2_0.index t = ![t.val, 0] ∧ win2_1.index t = ![0, 0] ∧ win2_2.index t = ![t.val, 0] :=
  (by decide +kernel : ∀ t : Fin grid2.N, _)

/-- The array after the region, from what its operands hold. -/
theorem final (c : Dev nD) (A B : ℕ → ℕ → ℝ)
    (hA : Is2 (n := 4096) (m := 1024) (V c (Pipeline.arrRef spec2 0)) A)
    (hB : Is2 (n := 2816) (m := 1024) (V c (Pipeline.arrRef spec2 1)) B) :
    Is2 (n := 4096) (m := 2816) ((dat2 V c).arrAt 2 cfg2.N) (mulT 1024 A B) := by
  intro i
  refine congrFun ((dat2 V c).arrAt_eq_of_covers 2 (fun i => ((mulT 1024 A B (i 0 : ℕ) (i 1 : ℕ) : ℝ) : EReal))
    (by decide +kernel) fun t _ y => ?_) i
  blk_simp
  rw [after2_2]; frame_out
  pointwise [k2_pay1]
  have h0 : ∀ x, iblk2 V c 0 t x = ((A (t.val * 1024 + (x 0).val) ((x 1).val) : ℝ) : EReal) := by
    intro x
    refine (hA (((cfg2.win 0).blk t).view.emb x)).trans ?_
    blk_simp [idx t]
  have h1 : ∀ x, iblk2 V c 1 t x = ((B ((x 0).val) ((x 1).val) : ℝ) : EReal) := by
    intro x
    refine (hB (((cfg2.win 1).blk t).view.emb x)).trans ?_
    blk_simp [idx t]
  refine (sum_fin _ (fun k => A (t.val * 1024 + (y 0).val) k * B ((y 1).val) k) fun k => ?_).trans ?_
  · rw [h0, h1, ← EReal.coe_mul]; rfl
  · blk_simp [idx t]
    rfl

end R2

end Cert.KernelIdeal.Value
-- ==== Proof.Shift.lean ====
module

public import proofs.«01_k».proof.Proof.Reals

@[expose] public section

set_option maxRecDepth 16384

/-! # Columns moved by one or two rows

The kernel moves a column of 4096 rows down by reading all but its first eight rows at an offset and rotating those
eight; it moves one up by rotating the whole column. Both are `down` and `up` of the layer's formulas. -/

noncomputable section

open Idealize.ShloMosaic

namespace Cert.Layer

theorem down_zero (z : ℕ → ℕ → ℝ) (t j : ℕ) : down 0 z t j = z t j := by simp [down]

theorem down_one (z : ℕ → ℕ → ℝ) (t j : ℕ) :
    (if _ : t < 8 then Scalar.select (IntOp.cmpi CmpIPredicate.slt (BitVec.ofNat 32 t) 1#32) (0 : EReal) ((z ((t + 8 - 1) % 8) j : ℝ) : EReal)
      else ((z (7 + (t - 8)) j : ℝ) : EReal)) = ((down 1 z t j : ℝ) : EReal) := by
  unfold down
  by_cases h : t < 8
  · rw [dif_pos h]
    interval_cases t <;> simp [Scalar.select, IntOp.cmpi]
  · rw [dif_neg h, if_neg (by omega), show 7 + (t - 8) = t - 1 by omega]

theorem down_two (z : ℕ → ℕ → ℝ) (t j : ℕ) :
    (if _ : t < 8 then Scalar.select (IntOp.cmpi CmpIPredicate.slt (BitVec.ofNat 32 t) 2#32) (0 : EReal) ((z ((t + 8 - 2) % 8) j : ℝ) : EReal)
      else ((z (6 + (t - 8)) j : ℝ) : EReal)) = ((down 2 z t j : ℝ) : EReal) := by
  unfold down
  by_cases h : t < 8
  · rw [dif_pos h]
    interval_cases t <;> simp [Scalar.select, IntOp.cmpi]
  · rw [dif_neg h, if_neg (by omega), show 6 + (t - 8) = t - 2 by omega]

theorem up_one (z : ℕ → ℕ → ℝ) (t j : ℕ) (ht : t < 4096) :
    (if _ : t < 4088 then ((z ((t + 4096 - 4095) % 4096) j : ℝ) : EReal)
      else Scalar.select (IntOp.cmpi CmpIPredicate.sge (BitVec.ofNat 32 (t - 4088)) 7#32) (0 : EReal)
        ((z ((4088 + (t - 4088) + 4096 - 4095) % 4096) j : ℝ) : EReal)) = ((up 4096 1 z t j : ℝ) : EReal) := by
  unfold up
  by_cases h : t < 4088
  · rw [dif_pos h, if_pos (by omega), show (t + 4096 - 4095) % 4096 = t + 1 by omega]
  · rw [dif_neg h]
    obtain ⟨s, rfl⟩ : ∃ s, t = 4088 + s := ⟨t - 4088, by omega⟩
    have hs : s < 8 := by omega
    rw [show 4088 + s - 4088 = s by omega]
    interval_cases s <;> simp [Scalar.select, IntOp.cmpi]

theorem up_two (z : ℕ → ℕ → ℝ) (t j : ℕ) (ht : t < 4096) :
    (if _ : t < 4088 then ((z ((t + 4096 - 4094) % 4096) j : ℝ) : EReal)
      else Scalar.select (IntOp.cmpi CmpIPredicate.sge (BitVec.ofNat 32 (t - 4088)) 6#32) (0 : EReal)
        ((z ((4088 + (t - 4088) + 4096 - 4094) % 4096) j : ℝ) : EReal)) = ((up 4096 2 z t j : ℝ) : EReal) := by
  unfold up
  by_cases h : t < 4088
  · rw [dif_pos h, if_pos (by omega), show (t + 4096 - 4094) % 4096 = t + 2 by omega]
  · rw [dif_neg h]
    obtain ⟨s, rfl⟩ : ∃ s, t = 4088 + s := ⟨t - 4088, by omega⟩
    have hs : s < 8 := by omega
    rw [show 4088 + s - 4088 = s by omega]
    interval_cases s <;> simp [Scalar.select, IntOp.cmpi]

/-- A column's products with `z` moved down, summed as the first eight rows and the rest. -/
theorem sum_down_one (g z : ℕ → ℕ → ℝ) (j : ℕ) :
    (∑ k : Fin 8, Scalar.select (IntOp.cmpi CmpIPredicate.slt (BitVec.ofNat 32 k.val) 1#32) (0 : EReal)
        ((g k.val j * z ((k.val + 8 - 1) % 8) j : ℝ) : EReal)
      + ∑ k : Fin 4088, ((g (8 + k.val) j * z (7 + k.val) j : ℝ) : EReal))
      = ((∑ t ∈ Finset.range 4096, g t j * down 1 z t j : ℝ) : EReal) := by
  rw [sum_fin _ (fun t => g t j * down 1 z t j) fun k => ?_, sum_fin _ (fun t => g (8 + t) j * down 1 z (8 + t) j) fun k => ?_,
    ← EReal.coe_add, ← Finset.sum_range_add]
  · unfold down
    rw [if_neg (by omega), show 8 + k.val - 1 = 7 + k.val by omega]
  · unfold down
    fin_cases k <;> simp [Scalar.select, IntOp.cmpi]

/-- A column's products with `z` moved down, summed as the first eight rows and the rest. -/
theorem sum_down_two (g z : ℕ → ℕ → ℝ) (j : ℕ) :
    (∑ k : Fin 8, Scalar.select (IntOp.cmpi CmpIPredicate.slt (BitVec.ofNat 32 k.val) 2#32) (0 : EReal)
        ((g k.val j * z ((k.val + 8 - 2) % 8) j : ℝ) : EReal)
      + ∑ k : Fin 4088, ((g (8 + k.val) j * z (6 + k.val) j : ℝ) : EReal))
      = ((∑ t ∈ Finset.range 4096, g t j * down 2 z t j : ℝ) : EReal) := by
  rw [sum_fin _ (fun t => g t j * down 2 z t j) fun k => ?_, sum_fin _ (fun t => g (8 + t) j * down 2 z (8 + t) j) fun k => ?_,
    ← EReal.coe_add, ← Finset.sum_range_add]
  · unfold down
    rw [if_neg (by omega), show 8 + k.val - 2 = 6 + k.val by omega]
  · unfold down
    fin_cases k <;> simp [Scalar.select, IntOp.cmpi]

end Cert.Layer
-- ==== Proof.K3.lean ====
module

public import proofs.«01_k».proof.Proof.Gen.KernelIdeal.Frame.Region3
public import proofs.«01_k».proof.Proof.Shift

@[expose] public section

set_option maxRecDepth 16384

/-! # The activation: each point of the grid convolves, gates and multiplies 128 columns -/

noncomputable section

open Idealize.ShloMosaic Idealize.ShloMosaic.TcCoe Idealize.SL.Sem
open Idealize.ShloMosaic.Pipeline (Dat)

namespace Cert.KernelIdeal.Value
open Cert.KernelIdeal Cert.KernelIdeal.Gen Cert.Layer

variable (V : (c : Dev nD) → (b : Ref sig .tc) → Buf (Elt Ideal) ((c : Thread nD τ).loc b))

namespace R3

/-- Where each window's block sits. -/
theorem idx : ∀ t : Fin cfg3.N, win3_0.index t = ![0, t.val] ∧ win3_1.index t = ![0, t.val] ∧ win3_2.index t = ![0, t.val]
    ∧ win3_3.index t = ![0, t.val] ∧ win3_4.index t = ![0, t.val] :=
  (by decide +kernel : ∀ t : Fin grid3.N, _)

/-- The array after the region, from what its operands hold. -/
theorem final (c : Dev nD) (Zg Zv Cg Cv : ℕ → ℕ → ℝ)
    (hG : Is2 (n := 4096) (m := 2816) (V c (Pipeline.arrRef spec3 0)) Zg)
    (hV : Is2 (n := 4096) (m := 2816) (V c (Pipeline.arrRef spec3 1)) Zv)
    (hCg : Is2 (n := 3) (m := 2816) (V c (Pipeline.arrRef spec3 2)) Cg)
    (hCv : Is2 (n := 3) (m := 2816) (V c (Pipeline.arrRef spec3 3)) Cv) :
    Is2 (n := 4096) (m := 2816) ((dat3 V c).arrAt 4 cfg3.N) (fun i j => silu (conv Cg Zg i j) * conv Cv Zv i j) := by
  intro i
  refine congrFun ((dat3 V c).arrAt_eq_of_covers 4 (fun i => ((silu (conv Cg Zg (i 0 : ℕ) (i 1 : ℕ)) * conv Cv Zv (i 0 : ℕ) (i 1 : ℕ) : ℝ) : EReal))
    (by decide +kernel) fun t _ y => ?_) i
  blk_simp
  rw [after3_4]; frame_out
  have h0 : ∀ x, iblk3 V c 0 t x = ((Zg (x 0).val (t.val * 128 + (x 1).val) : ℝ) : EReal) := by
    intro x
    refine (hG (((cfg3.win 0).blk t).view.emb x)).trans ?_
    blk_simp [idx t]
  have h1 : ∀ x, iblk3 V c 1 t x = ((Zv (x 0).val (t.val * 128 + (x 1).val) : ℝ) : EReal) := by
    intro x
    refine (hV (((cfg3.win 1).blk t).view.emb x)).trans ?_
    blk_simp [idx t]
  have h2 : ∀ x, iblk3 V c 2 t x = ((Cg (x 0).val (t.val * 128 + (x 1).val) : ℝ) : EReal) := by
    intro x
    refine (hCg (((cfg3.win 2).blk t).view.emb x)).trans ?_
    blk_simp [idx t]
  have h3 : ∀ x, iblk3 V c 3 t x = ((Cv (x 0).val (t.val * 128 + (x 1).val) : ℝ) : EReal) := by
    intro x
    refine (hCv (((cfg3.win 3).blk t).view.emb x)).trans ?_
    blk_simp [idx t]
  pointwise [k3_pay1, k3_pay2, k3_pay3, k3_pay4, k3_pay5, k3_pay6, k3_pay7]
  have g0 : ∀ a b, iblk3 V c 0 t (ix2 a b) = ((Zg a.val (t.val * 128 + b.val) : ℝ) : EReal) := fun a b => h0 _
  have g1 : ∀ a b, iblk3 V c 1 t (ix2 a b) = ((Zv a.val (t.val * 128 + b.val) : ℝ) : EReal) := fun a b => h1 _
  have g2 : ∀ a b, iblk3 V c 2 t (ix2 a b) = ((Cg a.val (t.val * 128 + b.val) : ℝ) : EReal) := fun a b => h2 _
  have g3 : ∀ a b, iblk3 V c 3 t (ix2 a b) = ((Cv a.val (t.val * 128 + b.val) : ℝ) : EReal) := fun a b => h3 _
  set_option backward.isDefEq.respectTransparency false in
  simp only [g0, g1, g2, g3, h0, h1, Fin.isValue, Fin.val_zero, Fin.val_one, Fin.val_two]
  simp only [down_one, down_two]
  simp only [logistic_real, ← EReal.coe_add, ← EReal.coe_mul]
  blk_simp [idx t]
  rfl

end R3

end Cert.KernelIdeal.Value
-- ==== Proof.K4.lean ====
module

public import proofs.«01_k».proof.Proof.Gen.KernelIdeal.Frame.Region4
public import proofs.«01_k».proof.Proof.Reals

@[expose] public section

set_option maxRecDepth 16384

/-! # The down projection with the layer's input added: each point of the grid writes one block of the product -/

noncomputable section

open Idealize.ShloMosaic Idealize.ShloMosaic.TcCoe Idealize.SL.Sem
open Idealize.ShloMosaic.Pipeline (Dat)

namespace Cert.KernelIdeal.Value
open Cert.KernelIdeal Cert.KernelIdeal.Gen Cert.Layer

variable (V : (c : Dev nD) → (b : Ref sig .tc) → Buf (Elt Ideal) ((c : Thread nD τ).loc b))

namespace R4

/-- Where each window's block sits. -/
theorem idx : ∀ t : Fin cfg4.N, win4_0.index t = ![t.val, 0] ∧ win4_1.index t = ![0, 0] ∧ win4_2.index t = ![t.val, 0] ∧ win4_3.index t = ![t.val, 0] :=
  (by decide +kernel : ∀ t : Fin grid4.N, _)

/-- The array after the region, from what its operands hold. -/
theorem final (c : Dev nD) (A B D : ℕ → ℕ → ℝ)
    (hA : Is2 (n := 4096) (m := 2816) (V c (Pipeline.arrRef spec4 0)) A)
    (hB : Is2 (n := 2816) (m := 1024) (V c (Pipeline.arrRef spec4 1)) B)
    (hD : Is2 (n := 4096) (m := 1024) (V c (Pipeline.arrRef spec4 2)) D) :
    Is2 (n := 4096) (m := 1024) ((dat4 V c).arrAt 3 cfg4.N) (fun i j => mul 2816 A B i j + D i j) := by
  intro i
  refine congrFun ((dat4 V c).arrAt_eq_of_covers 3 (fun i => ((mul 2816 A B (i 0 : ℕ) (i 1 : ℕ) + D (i 0 : ℕ) (i 1 : ℕ) : ℝ) : EReal))
    (by decide +kernel) fun t _ y => ?_) i
  blk_simp
  rw [after4_3]; frame_out
  pointwise [k4_pay1]
  have h0 : ∀ x, iblk4 V c 0 t x = ((A (t.val * 1024 + (x 0).val) ((x 1).val) : ℝ) : EReal) := by
    intro x
    refine (hA (((cfg4.win 0).blk t).view.emb x)).trans ?_
    blk_simp [idx t]
  have h1 : ∀ x, iblk4 V c 1 t x = ((B ((x 0).val) ((x 1).val) : ℝ) : EReal) := by
    intro x
    refine (hB (((cfg4.win 1).blk t).view.emb x)).trans ?_
    blk_simp [idx t]
  have h2 : ∀ x, iblk4 V c 2 t x = ((D (t.val * 1024 + (x 0).val) ((x 1).val) : ℝ) : EReal) := by
    intro x
    refine (hD (((cfg4.win 2).blk t).view.emb x)).trans ?_
    blk_simp [idx t]
  refine (congrArg₂ (fun a b : EReal => a + b) (sum_fin _ (fun k => A (t.val * 1024 + (y 0).val) k * B k ((y 1).val)) fun k => ?_) (h2 y)).trans ?_
  · rw [h0, h1, ← EReal.coe_mul]; rfl
  · rw [← EReal.coe_add]
    blk_simp [idx t]
    rfl

end R4

end Cert.KernelIdeal.Value
-- ==== Proof.K5.lean ====
module

public import proofs.«01_k».proof.Proof.Gen.KernelIdeal.Frame.Region5
public import proofs.«01_k».proof.Proof.Reals

@[expose] public section

set_option maxRecDepth 16384

/-! # The gradient in the activation: each point of the grid writes one block of the product -/

noncomputable section

open Idealize.ShloMosaic Idealize.ShloMosaic.TcCoe Idealize.SL.Sem
open Idealize.ShloMosaic.Pipeline (Dat)

namespace Cert.KernelIdeal.Value
open Cert.KernelIdeal Cert.KernelIdeal.Gen Cert.Layer

variable (V : (c : Dev nD) → (b : Ref sig .tc) → Buf (Elt Ideal) ((c : Thread nD τ).loc b))

namespace R5

/-- Where each window's block sits. -/
theorem idx : ∀ t : Fin cfg5.N, win5_0.index t = ![t.val / 2, 0] ∧ win5_1.index t = ![t.val % 2, 0] ∧ win5_2.index t = ![t.val / 2, t.val % 2] :=
  (by decide +kernel : ∀ t : Fin grid5.N, _)

/-- The array after the region, from what its operands hold. -/
theorem final (c : Dev nD) (A B : ℕ → ℕ → ℝ)
    (hA : Is2 (n := 4096) (m := 1024) (V c (Pipeline.arrRef spec5 0)) A)
    (hB : Is2 (n := 2816) (m := 1024) (V c (Pipeline.arrRef spec5 1)) B) :
    Is2 (n := 4096) (m := 2816) ((dat5 V c).arrAt 2 cfg5.N) (mulT 1024 A B) := by
  intro i
  refine congrFun ((dat5 V c).arrAt_eq_of_covers 2 (fun i => ((mulT 1024 A B (i 0 : ℕ) (i 1 : ℕ) : ℝ) : EReal))
    (by decide +kernel) fun t _ y => ?_) i
  blk_simp
  rw [after5_2]; frame_out
  pointwise [k5_pay1]
  have h0 : ∀ x, iblk5 V c 0 t x = ((A ((t.val / 2) * 1024 + (x 0).val) ((x 1).val) : ℝ) : EReal) := by
    intro x
    refine (hA (((cfg5.win 0).blk t).view.emb x)).trans ?_
    blk_simp [idx t]
  have h1 : ∀ x, iblk5 V c 1 t x = ((B ((t.val % 2) * 1408 + (x 0).val) ((x 1).val) : ℝ) : EReal) := by
    intro x
    refine (hB (((cfg5.win 1).blk t).view.emb x)).trans ?_
    blk_simp [idx t]
  refine (sum_fin _ (fun k => A ((t.val / 2) * 1024 + (y 0).val) k * B ((t.val % 2) * 1408 + (y 1).val) k) fun k => ?_).trans ?_
  · rw [h0, h1, ← EReal.coe_mul]; rfl
  · blk_simp [idx t]
    rfl

end R5

end Cert.KernelIdeal.Value
-- ==== Proof.K6.lean ====
module

public import proofs.«01_k».proof.Proof.Gen.KernelIdeal.Frame.Region6
public import proofs.«01_k».proof.Proof.Reals

@[expose] public section

set_option maxRecDepth 16384

/-! # The gradient of the down projection: each point of the grid writes one block of the product -/

noncomputable section

open Idealize.ShloMosaic Idealize.ShloMosaic.TcCoe Idealize.SL.Sem
open Idealize.ShloMosaic.Pipeline (Dat)

namespace Cert.KernelIdeal.Value
open Cert.KernelIdeal Cert.KernelIdeal.Gen Cert.Layer

variable (V : (c : Dev nD) → (b : Ref sig .tc) → Buf (Elt Ideal) ((c : Thread nD τ).loc b))

namespace R6

/-- Where each window's block sits. -/
theorem idx : ∀ t : Fin cfg6.N, win6_0.index t = ![0, t.val] ∧ win6_1.index t = ![0, 0] ∧ win6_2.index t = ![t.val, 0] :=
  (by decide +kernel : ∀ t : Fin grid6.N, _)

/-- The array after the region, from what its operands hold. -/
theorem final (c : Dev nD) (A B : ℕ → ℕ → ℝ)
    (hA : Is2 (n := 4096) (m := 2816) (V c (Pipeline.arrRef spec6 0)) A)
    (hB : Is2 (n := 4096) (m := 1024) (V c (Pipeline.arrRef spec6 1)) B) :
    Is2 (n := 2816) (m := 1024) ((dat6 V c).arrAt 2 cfg6.N) (tMul 4096 A B) := by
  intro i
  refine congrFun ((dat6 V c).arrAt_eq_of_covers 2 (fun i => ((tMul 4096 A B (i 0 : ℕ) (i 1 : ℕ) : ℝ) : EReal))
    (by decide +kernel) fun t _ y => ?_) i
  blk_simp
  rw [after6_2]; frame_out
  pointwise [k6_pay1]
  have h0 : ∀ x, iblk6 V c 0 t x = ((A ((x 0).val) (t.val * 256 + (x 1).val) : ℝ) : EReal) := by
    intro x
    refine (hA (((cfg6.win 0).blk t).view.emb x)).trans ?_
    blk_simp [idx t]
  have h1 : ∀ x, iblk6 V c 1 t x = ((B ((x 0).val) ((x 1).val) : ℝ) : EReal) := by
    intro x
    refine (hB (((cfg6.win 1).blk t).view.emb x)).trans ?_
    blk_simp [idx t]
  refine (sum_fin _ (fun k => A k (t.val * 256 + (y 0).val) * B k ((y 1).val)) fun k => ?_).trans ?_
  · rw [h0, h1, ← EReal.coe_mul]; rfl
  · blk_simp [idx t]
    rfl

end R6

end Cert.KernelIdeal.Value
-- ==== Proof.K7.lean ====
module

public import proofs.«01_k».proof.Proof.Gen.KernelIdeal.Frame.Region7
public import proofs.«01_k».proof.Proof.Shift

@[expose] public section

set_option maxRecDepth 16384

/-! # The activation's backward pass: what one point of the grid leaves of its 128 columns -/

noncomputable section

open Idealize.ShloMosaic Idealize.ShloMosaic.TcCoe Idealize.SL.Sem
open Idealize.ShloMosaic.Pipeline (Dat)

namespace Cert.KernelIdeal.Value
open Cert.KernelIdeal Cert.KernelIdeal.Gen Cert.Layer

namespace R7

section Block
variable (x0 : FVec Ideal S4096x128 .bf16) (x1 x2 : FVec Ideal S4096x128 .f32) (x3 x4 : FVec Ideal S3x128 .f32)
variable (D Zg Zv Cg Cv : ℕ → ℕ → ℝ)
variable (h0 : Is2 (n := 4096) (m := 128) x0 D) (h1 : Is2 (n := 4096) (m := 128) x1 Zg) (h2 : Is2 (n := 4096) (m := 128) x2 Zv)
  (h3 : Is2 (n := 3) (m := 128) x3 Cg) (h4 : Is2 (n := 3) (m := 128) x4 Cv)
include h0 h1 h2 h3 h4

/-- The convolved gate. -/
theorem gate : Is2 (n := 4096) (m := 128) (k7_pay37 (F := Ideal) x0 x1 x2 x3 x4) (conv Cg Zg) := by
  intro i
  have g1 : ∀ a b, x1 (ix2 a b) = ((Zg a.val b.val : ℝ) : EReal) := fun a b => h1 _
  have g3 : ∀ a b, x3 (ix2 a b) = ((Cg a.val b.val : ℝ) : EReal) := fun a b => h3 _
  pointwise [k7_pay37, k7_pay31, k7_pay32, k7_pay14, k7_pay5, k7_pay6, k7_pay11, k7_pay12, k7_pay13, k7_pay4, View.ld]
  set_option backward.isDefEq.respectTransparency false in
  simp only [g1, g3, h1 i, Fin.isValue, Fin.val_zero, Fin.val_one, Fin.val_two]
  simp only [down_one, down_two, logistic_real, ← EReal.coe_add, ← EReal.coe_mul]
  rfl

/-- The gradient in the convolved gate. -/
theorem gradGate' : Is2 (n := 4096) (m := 128) (k7_pay17 (F := Ideal) (k7_pay35 x0 x1 x2 x3 x4) (k7_pay36 x0 x1 x2 x3 x4) (k7_pay37 x0 x1 x2 x3 x4) (k7_pay38 x0 x1 x2 x3 x4) x2)
    (fun i j => D i j * conv Cv Zv i j * dsilu (conv Cg Zg i j)) := by
  intro i
  have g2 : ∀ a b, x2 (ix2 a b) = ((Zv a.val b.val : ℝ) : EReal) := fun a b => h2 _
  have g4 : ∀ a b, x4 (ix2 a b) = ((Cv a.val b.val : ℝ) : EReal) := fun a b => h4 _
  pointwise [k7_pay17, k7_pay16, k7_pay36, k7_pay10, k7_pay38, k7_pay15, k7_pay35, k7_pay33, k7_pay34, k7_pay7, k7_pay8, k7_pay9, View.ld]
  rw [gate x0 x1 x2 x3 x4 D Zg Zv Cg Cv h0 h1 h2 h3 h4 i]
  set_option backward.isDefEq.respectTransparency false in
  simp only [g2, g4, h2 i, h0 i, Fin.isValue, Fin.val_zero, Fin.val_one, Fin.val_two]
  rw [← EReal.coe_one]
  simp only [down_one, down_two, logistic_real, ← EReal.coe_add, ← EReal.coe_mul, ← EReal.coe_sub]
  rfl

theorem gradGate : Is2 (n := 4096) (m := 128) (k7_pay39 (F := Ideal) x0 x1 x2 x3 x4)
    (fun i j => D i j * conv Cv Zv i j * dsilu (conv Cg Zg i j)) := by
  intro i
  unfold k7_pay39
  frame_out
  exact gradGate' x0 x1 x2 x3 x4 D Zg Zv Cg Cv h0 h1 h2 h3 h4 i

/-- The gradient in the convolved value. -/
theorem gradValue : Is2 (n := 4096) (m := 128) (k7_pay40 (F := Ideal) x0 x1 x2 x3 x4)
    (fun i j => D i j * silu (conv Cg Zg i j)) := by
  intro i
  pointwise [k7_pay40, k7_pay18, k7_pay16, k7_pay36, k7_pay10, View.ld]
  rw [gate x0 x1 x2 x3 x4 D Zg Zv Cg Cv h0 h1 h2 h3 h4 i, h0 i]
  simp only [logistic_real, ← EReal.coe_mul]
  rfl

set_option maxRecDepth 65536 in
theorem out5 : Is2 (n := 4096) (m := 128) (out7_5 (F := Ideal) x0 x1 x2 x3 x4)
    (convT 4096 Cg (fun i j => D i j * conv Cv Zv i j * dsilu (conv Cg Zg i j))) := by
  have hg := gradGate' x0 x1 x2 x3 x4 D Zg Zv Cg Cv h0 h1 h2 h3 h4
  have g3 : ∀ a b, x3 (ix2 a b) = ((Cg a.val b.val : ℝ) : EReal) := fun a b => h3 _
  unfold out7_5
  intro i
  frame_out
  unfold k7_pay19
  generalize k7_pay17 (F := Ideal) (k7_pay35 x0 x1 x2 x3 x4) (k7_pay36 x0 x1 x2 x3 x4) (k7_pay37 x0 x1 x2 x3 x4) (k7_pay38 x0 x1 x2 x3 x4) x2 = G at hg ⊢
  have gg : ∀ a b, G (ix2 a b) = ((D a.val b.val * conv Cv Zv a.val b.val * dsilu (conv Cg Zg a.val b.val) : ℝ) : EReal) := fun a b => hg _
  pointwise [k7_pay31, k7_pay32, k7_pay5, k7_pay6, k7_pay4, View.ld]
  set_option backward.isDefEq.respectTransparency false in
  simp only [g3, gg, hg i, Fin.isValue, Fin.val_zero, Fin.val_one, Fin.val_two]
  have e1 := up_one (fun i j => D i j * conv Cv Zv i j * dsilu (conv Cg Zg i j)) (i 0).val (i 1).val (i 0).isLt
  have e2 := up_two (fun i j => D i j * conv Cv Zv i j * dsilu (conv Cg Zg i j)) (i 0).val (i 1).val (i 0).isLt
  simp only [] at e1 e2
  simp only [e1, e2, ← EReal.coe_add, ← EReal.coe_mul]
  rfl

set_option maxRecDepth 65536 in
theorem out6 : Is2 (n := 4096) (m := 128) (out7_6 (F := Ideal) x0 x1 x2 x3 x4)
    (convT 4096 Cv (fun i j => D i j * silu (conv Cg Zg i j))) := by
  have hg := gradValue x0 x1 x2 x3 x4 D Zg Zv Cg Cv h0 h1 h2 h3 h4
  have g4 : ∀ a b, x4 (ix2 a b) = ((Cv a.val b.val : ℝ) : EReal) := fun a b => h4 _
  unfold out7_6
  intro i
  frame_out
  unfold k7_pay22 k7_pay20 k7_pay21
  unfold k7_pay40 at hg ⊢
  generalize k7_pay18 (F := Ideal) (k7_pay36 x0 x1 x2 x3 x4) (k7_pay37 x0 x1 x2 x3 x4) = G at hg ⊢
  have gg : ∀ a b, G (ix2 a b) = ((D a.val b.val * silu (conv Cg Zg a.val b.val) : ℝ) : EReal) := fun a b => hg _
  pointwise [k7_pay33, k7_pay34, k7_pay35, k7_pay7, k7_pay8, k7_pay9, View.ld]
  set_option backward.isDefEq.respectTransparency false in
  simp only [g4, gg, hg i, Fin.isValue, Fin.val_zero, Fin.val_one, Fin.val_two]
  have e1 := up_one (fun i j => D i j * silu (conv Cg Zg i j)) (i 0).val (i 1).val (i 0).isLt
  have e2 := up_two (fun i j => D i j * silu (conv Cg Zg i j)) (i 0).val (i 1).val (i 0).isLt
  simp only [] at e1 e2
  simp only [e1, e2, ← EReal.coe_add, ← EReal.coe_mul]
  rfl

theorem out7 : Is2 (n := 3) (m := 128) (out7_7 (F := Ideal) x0 x1 x2 x3 x4)
    (convW 4096 (fun i j => D i j * conv Cv Zv i j * dsilu (conv Cg Zg i j)) Zg) := by
  have hg := gradGate x0 x1 x2 x3 x4 D Zg Zv Cg Cv h0 h1 h2 h3 h4
  have gz : ∀ a b, x1 (ix2 a b) = ((Zg a.val b.val : ℝ) : EReal) := fun a b => h1 _
  clear h0 h1 h2 h3 h4
  unfold out7_7
  generalize k7_pay39 (F := Ideal) x0 x1 x2 x3 x4 = G at hg ⊢
  have gg : ∀ a b, G (ix2 a b) = ((D a.val b.val * conv Cv Zv a.val b.val * dsilu (conv Cg Zg a.val b.val) : ℝ) : EReal) := fun a b => hg _
  intro i
  frame_out
  canon_tiles x h
  all_goals
    pointwise [k7_pay23, k7_pay24, k7_pay25, k7_pay26, k7_pay27, k7_pay28, View.ld]
    (set_option backward.isDefEq.respectTransparency false in simp only [gz, gg, ← EReal.coe_mul])
    rw [h0, h1, show (x 0 : ℕ) = 0 by omega]
  · exact sum_fin _ (fun k => (fun i j => D i j * conv Cv Zv i j * dsilu (conv Cg Zg i j)) k (x 1).val * down 0 Zg k (x 1).val) fun k => by rw [down_zero]
  · exact sum_down_one (fun i j => D i j * conv Cv Zv i j * dsilu (conv Cg Zg i j)) Zg (x 1).val
  · exact sum_down_two (fun i j => D i j * conv Cv Zv i j * dsilu (conv Cg Zg i j)) Zg (x 1).val

theorem out8 : Is2 (n := 3) (m := 128) (out7_8 (F := Ideal) x0 x1 x2 x3 x4)
    (convW 4096 (fun i j => D i j * silu (conv Cg Zg i j)) Zv) := by
  have hg := gradValue x0 x1 x2 x3 x4 D Zg Zv Cg Cv h0 h1 h2 h3 h4
  have gz : ∀ a b, x2 (ix2 a b) = ((Zv a.val b.val : ℝ) : EReal) := fun a b => h2 _
  clear h0 h1 h2 h3 h4
  unfold out7_8
  generalize k7_pay40 (F := Ideal) x0 x1 x2 x3 x4 = G at hg ⊢
  have gg : ∀ a b, G (ix2 a b) = ((D a.val b.val * silu (conv Cg Zg a.val b.val) : ℝ) : EReal) := fun a b => hg _
  intro i
  frame_out
  canon_tiles x h
  all_goals
    pointwise [k7_pay1, k7_pay2, k7_pay3, k7_pay29, k7_pay30, View.ld]
    (set_option backward.isDefEq.respectTransparency false in simp only [gz, gg, ← EReal.coe_mul])
    rw [h0, h1, show (x 0 : ℕ) = 0 by omega]
  · exact sum_fin _ (fun k => (fun i j => D i j * silu (conv Cg Zg i j)) k (x 1).val * down 0 Zv k (x 1).val) fun k => by rw [down_zero]
  · exact sum_down_one (fun i j => D i j * silu (conv Cg Zg i j)) Zv (x 1).val
  · exact sum_down_two (fun i j => D i j * silu (conv Cg Zg i j)) Zv (x 1).val

end Block

end R7

end Cert.KernelIdeal.Value
-- ==== Proof.K7Final.lean ====
module

public import proofs.«01_k».proof.Proof.K7

@[expose] public section

set_option maxRecDepth 16384

/-! # The activation's backward pass: its four arrays, each written 128 columns at a point -/

noncomputable section

open Idealize.ShloMosaic Idealize.ShloMosaic.TcCoe Idealize.SL.Sem
open Idealize.ShloMosaic.Pipeline (Dat)

namespace Cert.KernelIdeal.Value
open Cert.KernelIdeal Cert.KernelIdeal.Gen Cert.Layer

namespace R7

/-- Where each window's block sits. -/
theorem idx : ∀ t : Fin cfg7.N, win7_0.index t = ![0, t.val] ∧ win7_1.index t = ![0, t.val] ∧ win7_2.index t = ![0, t.val] ∧ win7_3.index t = ![0, t.val] ∧ win7_4.index t = ![0, t.val] ∧ win7_5.index t = ![0, t.val] ∧ win7_6.index t = ![0, t.val] ∧ win7_7.index t = ![0, t.val] ∧ win7_8.index t = ![0, t.val] :=
  (by decide +kernel : ∀ t : Fin grid7.N, _)

/-- `A` from column `o` on. -/
def cols (o : ℕ) (A : ℕ → ℕ → ℝ) (i j : ℕ) : ℝ := A i (o + j)

variable (V : (c : Dev nD) → (b : Ref sig .tc) → Buf (Elt Ideal) ((c : Thread nD τ).loc b))
variable (c : Dev nD) (D Zg Zv Cg Cv : ℕ → ℕ → ℝ)
    (hD : Is2 (n := 4096) (m := 2816) (V c (Pipeline.arrRef spec7 0)) D)
    (hG : Is2 (n := 4096) (m := 2816) (V c (Pipeline.arrRef spec7 1)) Zg)
    (hV : Is2 (n := 4096) (m := 2816) (V c (Pipeline.arrRef spec7 2)) Zv)
    (hCg : Is2 (n := 3) (m := 2816) (V c (Pipeline.arrRef spec7 3)) Cg)
    (hCv : Is2 (n := 3) (m := 2816) (V c (Pipeline.arrRef spec7 4)) Cv)

include hD in
theorem blk0 (t : Fin cfg7.N) : Is2 (n := 4096) (m := 128) (iblk7 V c 0 t) (cols (t.val * 128) D) := by
  intro x
  refine (hD (((cfg7.win 0).blk t).view.emb x)).trans ?_
  blk_simp [idx t]
  rfl

include hG in
theorem blk1 (t : Fin cfg7.N) : Is2 (n := 4096) (m := 128) (iblk7 V c 1 t) (cols (t.val * 128) Zg) := by
  intro x
  refine (hG (((cfg7.win 1).blk t).view.emb x)).trans ?_
  blk_simp [idx t]
  rfl

include hV in
theorem blk2 (t : Fin cfg7.N) : Is2 (n := 4096) (m := 128) (iblk7 V c 2 t) (cols (t.val * 128) Zv) := by
  intro x
  refine (hV (((cfg7.win 2).blk t).view.emb x)).trans ?_
  blk_simp [idx t]
  rfl

include hCg in
theorem blk3 (t : Fin cfg7.N) : Is2 (n := 3) (m := 128) (iblk7 V c 3 t) (cols (t.val * 128) Cg) := by
  intro x
  refine (hCg (((cfg7.win 3).blk t).view.emb x)).trans ?_
  blk_simp [idx t]
  rfl

include hCv in
theorem blk4 (t : Fin cfg7.N) : Is2 (n := 3) (m := 128) (iblk7 V c 4 t) (cols (t.val * 128) Cv) := by
  intro x
  refine (hCv (((cfg7.win 4).blk t).view.emb x)).trans ?_
  blk_simp [idx t]
  rfl

include hD hG hV hCg hCv

/-- The gradient in the gate before the convolution. -/
theorem final5 : Is2 (n := 4096) (m := 2816) ((dat7 V c).arrAt 5 cfg7.N) (convT 4096 Cg (fun i j => D i j * conv Cv Zv i j * dsilu (conv Cg Zg i j))) := by
  intro i
  refine congrFun ((dat7 V c).arrAt_eq_of_covers 5 (fun i => ((convT 4096 Cg (fun i j => D i j * conv Cv Zv i j * dsilu (conv Cg Zg i j)) (i 0 : ℕ) (i 1 : ℕ) : ℝ) : EReal))
    (by decide +kernel) fun t _ y => ?_) i
  blk_simp
  rw [after7_5]
  refine (out5 _ _ _ _ _ (cols (t.val * 128) D) (cols (t.val * 128) Zg) (cols (t.val * 128) Zv) (cols (t.val * 128) Cg) (cols (t.val * 128) Cv)
    (blk0 V c D hD t) (blk1 V c Zg hG t) (blk2 V c Zv hV t) (blk3 V c Cg hCg t) (blk4 V c Cv hCv t) y).trans ?_
  blk_simp [idx t]
  rfl

/-- The gradient in the value before the convolution. -/
theorem final6 : Is2 (n := 4096) (m := 2816) ((dat7 V c).arrAt 6 cfg7.N) (convT 4096 Cv (fun i j => D i j * silu (conv Cg Zg i j))) := by
  intro i
  refine congrFun ((dat7 V c).arrAt_eq_of_covers 6 (fun i => ((convT 4096 Cv (fun i j => D i j * silu (conv Cg Zg i j)) (i 0 : ℕ) (i 1 : ℕ) : ℝ) : EReal))
    (by decide +kernel) fun t _ y => ?_) i
  blk_simp
  rw [after7_6]
  refine (out6 _ _ _ _ _ (cols (t.val * 128) D) (cols (t.val * 128) Zg) (cols (t.val * 128) Zv) (cols (t.val * 128) Cg) (cols (t.val * 128) Cv)
    (blk0 V c D hD t) (blk1 V c Zg hG t) (blk2 V c Zv hV t) (blk3 V c Cg hCg t) (blk4 V c Cv hCv t) y).trans ?_
  blk_simp [idx t]
  rfl

/-- The gradient of the gate's taps. -/
theorem final7 : Is2 (n := 3) (m := 2816) ((dat7 V c).arrAt 7 cfg7.N) (convW 4096 (fun i j => D i j * conv Cv Zv i j * dsilu (conv Cg Zg i j)) Zg) := by
  intro i
  refine congrFun ((dat7 V c).arrAt_eq_of_covers 7 (fun i => ((convW 4096 (fun i j => D i j * conv Cv Zv i j * dsilu (conv Cg Zg i j)) Zg (i 0 : ℕ) (i 1 : ℕ) : ℝ) : EReal))
    (by decide +kernel) fun t _ y => ?_) i
  blk_simp
  rw [after7_7]
  refine (out7 _ _ _ _ _ (cols (t.val * 128) D) (cols (t.val * 128) Zg) (cols (t.val * 128) Zv) (cols (t.val * 128) Cg) (cols (t.val * 128) Cv)
    (blk0 V c D hD t) (blk1 V c Zg hG t) (blk2 V c Zv hV t) (blk3 V c Cg hCg t) (blk4 V c Cv hCv t) y).trans ?_
  blk_simp [idx t]
  rfl

/-- The gradient of the value's taps. -/
theorem final8 : Is2 (n := 3) (m := 2816) ((dat7 V c).arrAt 8 cfg7.N) (convW 4096 (fun i j => D i j * silu (conv Cg Zg i j)) Zv) := by
  intro i
  refine congrFun ((dat7 V c).arrAt_eq_of_covers 8 (fun i => ((convW 4096 (fun i j => D i j * silu (conv Cg Zg i j)) Zv (i 0 : ℕ) (i 1 : ℕ) : ℝ) : EReal))
    (by decide +kernel) fun t _ y => ?_) i
  blk_simp
  rw [after7_8]
  refine (out8 _ _ _ _ _ (cols (t.val * 128) D) (cols (t.val * 128) Zg) (cols (t.val * 128) Zv) (cols (t.val * 128) Cg) (cols (t.val * 128) Cv)
    (blk0 V c D hD t) (blk1 V c Zg hG t) (blk2 V c Zv hV t) (blk3 V c Cg hCg t) (blk4 V c Cv hCv t) y).trans ?_
  blk_simp [idx t]
  rfl

end R7

end Cert.KernelIdeal.Value
-- ==== Proof.K8.lean ====
module

public import proofs.«01_k».proof.Proof.Gen.KernelIdeal.Frame.Region8
public import proofs.«01_k».proof.Proof.Reals

@[expose] public section

set_option maxRecDepth 16384

/-! # The gradient of the up projection's gate half: each point of the grid writes one block of the product -/

noncomputable section

open Idealize.ShloMosaic Idealize.ShloMosaic.TcCoe Idealize.SL.Sem
open Idealize.ShloMosaic.Pipeline (Dat)

namespace Cert.KernelIdeal.Value
open Cert.KernelIdeal Cert.KernelIdeal.Gen Cert.Layer

variable (V : (c : Dev nD) → (b : Ref sig .tc) → Buf (Elt Ideal) ((c : Thread nD τ).loc b))

namespace R8

/-- Where each window's block sits. -/
theorem idx : ∀ t : Fin cfg8.N, win8_0.index t = ![0, t.val] ∧ win8_1.index t = ![0, 0] ∧ win8_2.index t = ![t.val, 0] :=
  (by decide +kernel : ∀ t : Fin grid8.N, _)

/-- The array after the region, from what its operands hold. -/
theorem final (c : Dev nD) (A B : ℕ → ℕ → ℝ)
    (hA : Is2 (n := 4096) (m := 2816) (V c (Pipeline.arrRef spec8 0)) A)
    (hB : Is2 (n := 4096) (m := 1024) (V c (Pipeline.arrRef spec8 1)) B) :
    Is2 (n := 2816) (m := 1024) ((dat8 V c).arrAt 2 cfg8.N) (tMul 4096 A B) := by
  intro i
  refine congrFun ((dat8 V c).arrAt_eq_of_covers 2 (fun i => ((tMul 4096 A B (i 0 : ℕ) (i 1 : ℕ) : ℝ) : EReal))
    (by decide +kernel) fun t _ y => ?_) i
  blk_simp
  rw [after8_2]; frame_out
  pointwise [k8_pay1]
  have h0 : ∀ x, iblk8 V c 0 t x = ((A ((x 0).val) (t.val * 256 + (x 1).val) : ℝ) : EReal) := by
    intro x
    refine (hA (((cfg8.win 0).blk t).view.emb x)).trans ?_
    blk_simp [idx t]
  have h1 : ∀ x, iblk8 V c 1 t x = ((B ((x 0).val) ((x 1).val) : ℝ) : EReal) := by
    intro x
    refine (hB (((cfg8.win 1).blk t).view.emb x)).trans ?_
    blk_simp [idx t]
  refine (sum_fin _ (fun k => A k (t.val * 256 + (y 0).val) * B k ((y 1).val)) fun k => ?_).trans ?_
  · rw [h0, h1, ← EReal.coe_mul]; rfl
  · blk_simp [idx t]
    rfl

end R8

end Cert.KernelIdeal.Value
-- ==== Proof.K9.lean ====
module

public import proofs.«01_k».proof.Proof.Gen.KernelIdeal.Frame.Region9
public import proofs.«01_k».proof.Proof.Reals

@[expose] public section

set_option maxRecDepth 16384

/-! # The gradient of the up projection's value half: each point of the grid writes one block of the product -/

noncomputable section

open Idealize.ShloMosaic Idealize.ShloMosaic.TcCoe Idealize.SL.Sem
open Idealize.ShloMosaic.Pipeline (Dat)

namespace Cert.KernelIdeal.Value
open Cert.KernelIdeal Cert.KernelIdeal.Gen Cert.Layer

variable (V : (c : Dev nD) → (b : Ref sig .tc) → Buf (Elt Ideal) ((c : Thread nD τ).loc b))

namespace R9

/-- Where each window's block sits. -/
theorem idx : ∀ t : Fin cfg9.N, win9_0.index t = ![0, t.val] ∧ win9_1.index t = ![0, 0] ∧ win9_2.index t = ![t.val, 0] :=
  (by decide +kernel : ∀ t : Fin grid9.N, _)

/-- The array after the region, from what its operands hold. -/
theorem final (c : Dev nD) (A B : ℕ → ℕ → ℝ)
    (hA : Is2 (n := 4096) (m := 2816) (V c (Pipeline.arrRef spec9 0)) A)
    (hB : Is2 (n := 4096) (m := 1024) (V c (Pipeline.arrRef spec9 1)) B) :
    Is2 (n := 2816) (m := 1024) ((dat9 V c).arrAt 2 cfg9.N) (tMul 4096 A B) := by
  intro i
  refine congrFun ((dat9 V c).arrAt_eq_of_covers 2 (fun i => ((tMul 4096 A B (i 0 : ℕ) (i 1 : ℕ) : ℝ) : EReal))
    (by decide +kernel) fun t _ y => ?_) i
  blk_simp
  rw [after9_2]; frame_out
  pointwise [k9_pay1]
  have h0 : ∀ x, iblk9 V c 0 t x = ((A ((x 0).val) (t.val * 256 + (x 1).val) : ℝ) : EReal) := by
    intro x
    refine (hA (((cfg9.win 0).blk t).view.emb x)).trans ?_
    blk_simp [idx t]
  have h1 : ∀ x, iblk9 V c 1 t x = ((B ((x 0).val) ((x 1).val) : ℝ) : EReal) := by
    intro x
    refine (hB (((cfg9.win 1).blk t).view.emb x)).trans ?_
    blk_simp [idx t]
  refine (sum_fin _ (fun k => A k (t.val * 256 + (y 0).val) * B k ((y 1).val)) fun k => ?_).trans ?_
  · rw [h0, h1, ← EReal.coe_mul]; rfl
  · blk_simp [idx t]
    rfl

end R9

end Cert.KernelIdeal.Value
-- ==== Proof.K10.lean ====
module

public import proofs.«01_k».proof.Proof.Gen.KernelIdeal.Frame.Region10
public import proofs.«01_k».proof.Proof.Reals

@[expose] public section

set_option maxRecDepth 16384

/-! # The gate half of the gradient in the normalised input: each point of the grid writes one block of the product -/

noncomputable section

open Idealize.ShloMosaic Idealize.ShloMosaic.TcCoe Idealize.SL.Sem
open Idealize.ShloMosaic.Pipeline (Dat)

namespace Cert.KernelIdeal.Value
open Cert.KernelIdeal Cert.KernelIdeal.Gen Cert.Layer

variable (V : (c : Dev nD) → (b : Ref sig .tc) → Buf (Elt Ideal) ((c : Thread nD τ).loc b))

namespace R10

/-- Where each window's block sits. -/
theorem idx : ∀ t : Fin cfg10.N, win10_0.index t = ![t.val, 0] ∧ win10_1.index t = ![0, 0] ∧ win10_2.index t = ![t.val, 0] :=
  (by decide +kernel : ∀ t : Fin grid10.N, _)

/-- The array after the region, from what its operands hold. -/
theorem final (c : Dev nD) (A B : ℕ → ℕ → ℝ)
    (hA : Is2 (n := 4096) (m := 2816) (V c (Pipeline.arrRef spec10 0)) A)
    (hB : Is2 (n := 2816) (m := 1024) (V c (Pipeline.arrRef spec10 1)) B) :
    Is2 (n := 4096) (m := 1024) ((dat10 V c).arrAt 2 cfg10.N) (mul 2816 A B) := by
  intro i
  refine congrFun ((dat10 V c).arrAt_eq_of_covers 2 (fun i => ((mul 2816 A B (i 0 : ℕ) (i 1 : ℕ) : ℝ) : EReal))
    (by decide +kernel) fun t _ y => ?_) i
  blk_simp
  rw [after10_2]; frame_out
  pointwise [k10_pay1]
  have h0 : ∀ x, iblk10 V c 0 t x = ((A (t.val * 1024 + (x 0).val) ((x 1).val) : ℝ) : EReal) := by
    intro x
    refine (hA (((cfg10.win 0).blk t).view.emb x)).trans ?_
    blk_simp [idx t]
  have h1 : ∀ x, iblk10 V c 1 t x = ((B ((x 0).val) ((x 1).val) : ℝ) : EReal) := by
    intro x
    refine (hB (((cfg10.win 1).blk t).view.emb x)).trans ?_
    blk_simp [idx t]
  refine (sum_fin _ (fun k => A (t.val * 1024 + (y 0).val) k * B k ((y 1).val)) fun k => ?_).trans ?_
  · rw [h0, h1, ← EReal.coe_mul]; rfl
  · blk_simp [idx t]
    rfl

end R10

end Cert.KernelIdeal.Value
-- ==== Proof.K11.lean ====
module

public import proofs.«01_k».proof.Proof.Gen.KernelIdeal.Frame.Region11
public import proofs.«01_k».proof.Proof.Reals

@[expose] public section

set_option maxRecDepth 16384

/-! # The gradient in the normalised input, the gate half added to the value half: each point of the grid writes one block of the product -/

noncomputable section

open Idealize.ShloMosaic Idealize.ShloMosaic.TcCoe Idealize.SL.Sem
open Idealize.ShloMosaic.Pipeline (Dat)

namespace Cert.KernelIdeal.Value
open Cert.KernelIdeal Cert.KernelIdeal.Gen Cert.Layer

variable (V : (c : Dev nD) → (b : Ref sig .tc) → Buf (Elt Ideal) ((c : Thread nD τ).loc b))

namespace R11

/-- Where each window's block sits. -/
theorem idx : ∀ t : Fin cfg11.N, win11_0.index t = ![t.val, 0] ∧ win11_1.index t = ![0, 0] ∧ win11_2.index t = ![t.val, 0] ∧ win11_3.index t = ![t.val, 0] :=
  (by decide +kernel : ∀ t : Fin grid11.N, _)

/-- The array after the region, from what its operands hold. -/
theorem final (c : Dev nD) (A B D : ℕ → ℕ → ℝ)
    (hA : Is2 (n := 4096) (m := 2816) (V c (Pipeline.arrRef spec11 0)) A)
    (hB : Is2 (n := 2816) (m := 1024) (V c (Pipeline.arrRef spec11 1)) B)
    (hD : Is2 (n := 4096) (m := 1024) (V c (Pipeline.arrRef spec11 2)) D) :
    Is2 (n := 4096) (m := 1024) ((dat11 V c).arrAt 3 cfg11.N) (fun i j => mul 2816 A B i j + D i j) := by
  intro i
  refine congrFun ((dat11 V c).arrAt_eq_of_covers 3 (fun i => ((mul 2816 A B (i 0 : ℕ) (i 1 : ℕ) + D (i 0 : ℕ) (i 1 : ℕ) : ℝ) : EReal))
    (by decide +kernel) fun t _ y => ?_) i
  blk_simp
  rw [after11_3]; frame_out
  pointwise [k11_pay1]
  have h0 : ∀ x, iblk11 V c 0 t x = ((A (t.val * 1024 + (x 0).val) ((x 1).val) : ℝ) : EReal) := by
    intro x
    refine (hA (((cfg11.win 0).blk t).view.emb x)).trans ?_
    blk_simp [idx t]
  have h1 : ∀ x, iblk11 V c 1 t x = ((B ((x 0).val) ((x 1).val) : ℝ) : EReal) := by
    intro x
    refine (hB (((cfg11.win 1).blk t).view.emb x)).trans ?_
    blk_simp [idx t]
  have h2 : ∀ x, iblk11 V c 2 t x = ((D (t.val * 1024 + (x 0).val) ((x 1).val) : ℝ) : EReal) := by
    intro x
    refine (hD (((cfg11.win 2).blk t).view.emb x)).trans ?_
    blk_simp [idx t]
  refine (congrArg₂ (fun a b : EReal => a + b) (sum_fin _ (fun k => A (t.val * 1024 + (y 0).val) k * B k ((y 1).val)) fun k => ?_) (h2 y)).trans ?_
  · rw [h0, h1, ← EReal.coe_mul]; rfl
  · rw [← EReal.coe_add]
    blk_simp [idx t]
    rfl

end R11

end Cert.KernelIdeal.Value
-- ==== Proof.K12.lean ====
module

public import proofs.«01_k».proof.Proof.Gen.KernelIdeal.Frame.Region12
public import proofs.«01_k».proof.Proof.Reals

@[expose] public section

set_option maxRecDepth 16384

/-! # The normalisation's backward pass

Each point of the grid takes 1024 rows: it writes its rows of the input's gradient (twice, the second time in the
narrow format) and adds its rows' share to the gain's gradient, which the first point zeroes. -/

noncomputable section

open Idealize.ShloMosaic Idealize.ShloMosaic.TcCoe Idealize.SL.Sem
open Idealize.ShloMosaic.Pipeline (Dat)

namespace Cert.KernelIdeal.Value
open Cert.KernelIdeal Cert.KernelIdeal.Gen Cert.Layer

namespace R12

/-- `A` from row `o` on. -/
def rows (o : ℕ) (A : ℕ → ℕ → ℝ) (i j : ℕ) : ℝ := A (o + i) j

section Block
variable (x h r : FVec Ideal S1024x1024 .f32) (g : FVec Ideal S1x1024 .f32) (X H R : ℕ → ℕ → ℝ) (N : ℕ → ℝ)
variable (hX : Is2 (n := 1024) (m := 1024) x X) (hH : Is2 (n := 1024) (m := 1024) h H)
include hX

/-- The reciprocal root of each row's mean square. -/
theorem root (i : Fin 1024) : k12_pay4 (F := Ideal) x (ix2 i 0) = ((rr X i.val : ℝ) : EReal) := by
  have gx : ∀ a b, x (ix2 a b) = ((X a.val b.val : ℝ) : EReal) := fun a b => hX _
  pointwise [k12_pay4]
  have hs := sum_fin _ (fun k => X i.val k * X i.val k) fun k : Fin 1024 =>
    (congrArg₂ (fun a b : EReal => a * b) (gx i k) (gx i k)).trans (EReal.coe_mul _ _).symm
  rw [hs, lit_1024, lit_eps, div_1024, ← EReal.coe_add]
  exact rsqrt_ms X _

include hH

theorem rowGrad (hN : Is2 (n := 1) (m := 1024) g (fun _ d => N d)) (hR : Is2 (n := 1024) (m := 1024) r R) :
    Is2 (n := 1024) (m := 1024) (k12_pay5 (F := Ideal) x h g r) (fun t d => normX X N H t d + R t d) := by
  have gx : ∀ a b, x (ix2 a b) = ((X a.val b.val : ℝ) : EReal) := fun a b => hX _
  have gh : ∀ a b, h (ix2 a b) = ((H a.val b.val : ℝ) : EReal) := fun a b => hH _
  have gn : ∀ a b, g (ix2 a b) = ((N b.val : ℝ) : EReal) := fun a b => hN _
  have gr := root x X hX
  intro i
  pointwise [k12_pay5, k12_pay3]
  have hs := sum_fin _ (fun k => X (i 0).val k * (H (i 0).val k * N k)) fun k : Fin 1024 =>
    show x (ix2 (i 0) k) * (h (ix2 (i 0) k) * g (ix2 0 k)) = _ by
      refine (congrArg₂ (fun a b : EReal => a * b) (gx (i 0) k) (congrArg₂ (fun a b : EReal => a * b) (gh (i 0) k) (gn 0 k))).trans ?_
      rw [← EReal.coe_mul, ← EReal.coe_mul]
  set_option backward.isDefEq.respectTransparency false in
  simp only [hs]
  set_option backward.isDefEq.respectTransparency false in
  simp only [gr, gn, hX i, hH i, hR i]
  rw [lit_1024, div_1024]
  simp only [← EReal.coe_mul, ← EReal.coe_sub, ← EReal.coe_add]
  rfl

theorem gainPart (a : FVec Ideal S1x1024 .f32) (i : S1x1024.Idx) :
    k12_pay1 (F := Ideal) x (k12_pay3 h) (k12_pay4 x) a i
      = a i + ((∑ t ∈ Finset.range 1024, H t (i 1).val * X t (i 1).val * rr X t : ℝ) : EReal) := by
  have gx : ∀ a b, x (ix2 a b) = ((X a.val b.val : ℝ) : EReal) := fun a b => hX _
  have gh : ∀ a b, h (ix2 a b) = ((H a.val b.val : ℝ) : EReal) := fun a b => hH _
  have gr := root x X hX
  pointwise [k12_pay1, k12_pay3]
  refine congrArg (fun b : EReal => a i + b) (sum_fin _ (fun t => H t (i 1).val * X t (i 1).val * rr X t) fun k => ?_)
  refine (congrArg₂ (fun a b : EReal => a * b) (congrArg₂ (fun a b : EReal => a * b) (gh k (i 1)) (gx k (i 1))) (gr k)).trans ?_
  rw [← EReal.coe_mul, ← EReal.coe_mul]

end Block

/-- Where each window's block sits. -/
theorem idx : ∀ t : Fin cfg12.N, win12_0.index t = ![t.val, 0] ∧ win12_1.index t = ![t.val, 0] ∧ win12_2.index t = ![0, 0]
    ∧ win12_3.index t = ![t.val, 0] ∧ win12_4.index t = ![t.val, 0] ∧ win12_5.index t = ![t.val, 0] ∧ win12_6.index t = ![0, 0] :=
  (by decide +kernel : ∀ t : Fin grid12.N, _)

variable (V : (c : Dev nD) → (b : Ref sig .tc) → Buf (Elt Ideal) ((c : Thread nD τ).loc b))
variable (c : Dev nD) (X H R : ℕ → ℕ → ℝ) (N : ℕ → ℝ)
    (hH : Is2 (n := 4096) (m := 1024) (V c (Pipeline.arrRef spec12 0)) H)
    (hX : Is2 (n := 4096) (m := 1024) (V c (Pipeline.arrRef spec12 1)) X)
    (hN : Is2 (n := 1) (m := 1024) (V c (Pipeline.arrRef spec12 2)) (fun _ d => N d))
    (hR : Is2 (n := 4096) (m := 1024) (V c (Pipeline.arrRef spec12 3)) R)

include hH in
theorem blk0 (t : Fin cfg12.N) : Is2 (n := 1024) (m := 1024) (iblk12 V c 0 t) (rows (t.val * 1024) H) := by
  intro x
  refine (hH (((cfg12.win 0).blk t).view.emb x)).trans ?_
  blk_simp [idx t]
  rfl

include hX in
theorem blk1 (t : Fin cfg12.N) : Is2 (n := 1024) (m := 1024) (iblk12 V c 1 t) (rows (t.val * 1024) X) := by
  intro x
  refine (hX (((cfg12.win 1).blk t).view.emb x)).trans ?_
  blk_simp [idx t]
  rfl

include hN in
theorem blk2 (t : Fin cfg12.N) : Is2 (n := 1) (m := 1024) (iblk12 V c 2 t) (fun _ d => N d) := by
  intro x
  refine (hN (((cfg12.win 2).blk t).view.emb x)).trans ?_
  blk_simp [idx t]

include hR in
theorem blk3 (t : Fin cfg12.N) : Is2 (n := 1024) (m := 1024) (iblk12 V c 3 t) (rows (t.val * 1024) R) := by
  intro x
  refine (hR (((cfg12.win 3).blk t).view.emb x)).trans ?_
  blk_simp [idx t]
  rfl

include hH hX in
/-- The gain's gradient after point `n`: the rows taken so far. -/
theorem gain : ∀ (n : ℕ) (hn : n < cfg12.N), Is2 (n := 1) (m := 1024) (outsAt12 V c n hn).2.2
    (fun _ d => ∑ t ∈ Finset.range (n * 1024 + 1024), H t d * X t d * rr X t) := by
  intro n
  induction n with
  | zero =>
    intro hn i
    rw [show outsAt12 V c 0 hn = _ from outsAt12_A V c ⟨0, hn⟩ rfl]
    frame_out
    refine (gainPart _ _ (rows (0 * 1024) X) (rows (0 * 1024) H) (blk1 V c X hX ⟨0, hn⟩) (blk0 V c H hH ⟨0, hn⟩) _ i).trans ?_
    rw [show k12_pay2 (F := Ideal) i = 0 by pointwise [k12_pay2], zero_add]
    have e : ∀ A : ℕ → ℕ → ℝ, rows (0 * 1024) A = A := fun A => by funext i j; simp [rows]
    simp only [e, Nat.zero_mul, Nat.zero_add]
  | succ n ih =>
    intro hn i
    have h4 : n + 1 < 4 := lt_of_lt_of_eq hn N_12
    rw [show outsAt12 V c (n + 1) hn = _ from outsAt12_B V c ⟨n + 1, hn⟩ (by show ¬ (n + 1) % 4 = 0; omega)]
    frame_out
    refine (gainPart _ _ (rows ((n + 1) * 1024) X) (rows ((n + 1) * 1024) H) (blk1 V c X hX ⟨n + 1, hn⟩) (blk0 V c H hH ⟨n + 1, hn⟩) _ i).trans ?_
    refine (congrArg (fun b : EReal => b + _) (ih (by omega) i)).trans ?_
    rw [← EReal.coe_add, show n * 1024 + 1024 = (n + 1) * 1024 by ring]
    exact congrArg _ (Finset.sum_range_add (fun t => H t (i 1).val * X t (i 1).val * rr X t) ((n + 1) * 1024) 1024).symm

include hH hX in
/-- The gradient of the gain. -/
theorem final6 : Is2 (n := 1) (m := 1024) ((dat12 V c).arrAt 6 cfg12.N) (fun _ d => normN X H d) := by
  intro i
  refine (congrFun ((dat12 V c).arrAt_eq_of_covers 6 (fun i => ((normN X H (i 1 : ℕ) : ℝ) : EReal))
    (by decide +kernel) fun t hf y => ?_) i)
  blk_simp
  rw [after12_6]
  have h3 : t.val = 3 := by
    have h := (flush12_6 t).mp hf
    have := lt_of_lt_of_eq t.isLt N_12
    omega
  refine (gain V c X H hH hX t.val t.isLt y).trans ?_
  rw [h3]
  blk_simp [idx t]
  rfl

section Rows
include hH hX hN hR

/-- What the body leaves of the rows of point `t`, in either format. -/
theorem rowsLeft (t : Fin cfg12.N) :
    Is2 (n := 1024) (m := 1024) (outsAt12 V c t.val t.isLt).1
      (fun i d => normX (rows (t.val * 1024) X) N (rows (t.val * 1024) H) i d + rows (t.val * 1024) R i d)
    ∧ Is2 (n := 1024) (m := 1024) (outsAt12 V c t.val t.isLt).2.1
      (fun i d => normX (rows (t.val * 1024) X) N (rows (t.val * 1024) H) i d + rows (t.val * 1024) R i d) := by
  have h := rowGrad _ _ _ _ (rows (t.val * 1024) X) (rows (t.val * 1024) H) (rows (t.val * 1024) R) N
    (blk1 V c X hX t) (blk0 V c H hH t) (blk2 V c N hN t) (blk3 V c R hR t)
  by_cases h0 : t.val % 4 = 0
  · rw [outsAt12_A V c t h0]
    constructor
    · intro i
      frame_out
      exact h i
    · intro i
      frame_out
      exact h i
  · rw [outsAt12_B V c t h0]
    constructor
    · intro i
      frame_out
      exact h i
    · intro i
      frame_out
      exact h i

/-- The gradient in the input, with the cotangent the layer passes through added. -/
theorem final4 : Is2 (n := 4096) (m := 1024) ((dat12 V c).arrAt 4 cfg12.N) (fun t d => normX X N H t d + R t d) := by
  intro i
  refine (congrFun ((dat12 V c).arrAt_eq_of_covers 4 (fun i => ((normX X N H (i 0 : ℕ) (i 1 : ℕ) + R (i 0 : ℕ) (i 1 : ℕ) : ℝ) : EReal))
    (by decide +kernel) fun t hf y => ?_) i)
  blk_simp
  rw [after12_4]
  refine ((rowsLeft V c X H R N hH hX hN hR t).1 y).trans ?_
  blk_simp [idx t]
  rfl

/-- The same in the narrow format. -/
theorem final5 : Is2 (n := 4096) (m := 1024) ((dat12 V c).arrAt 5 cfg12.N) (fun t d => normX X N H t d + R t d) := by
  intro i
  refine (congrFun ((dat12 V c).arrAt_eq_of_covers 5 (fun i => ((normX X N H (i 0 : ℕ) (i 1 : ℕ) + R (i 0 : ℕ) (i 1 : ℕ) : ℝ) : EReal))
    (by decide +kernel) fun t hf y => ?_) i)
  blk_simp
  rw [after12_5]
  refine ((rowsLeft V c X H R N hH hX hN hR t).2 y).trans ?_
  blk_simp [idx t]
  rfl

end Rows

end R12

end Cert.KernelIdeal.Value
-- ==== Proof.Chain.lean ====
module

public import proofs.«01_k».proof.Proof.Host
public import proofs.«01_k».proof.Proof.K0
public import proofs.«01_k».proof.Proof.K1
public import proofs.«01_k».proof.Proof.K2
public import proofs.«01_k».proof.Proof.K3
public import proofs.«01_k».proof.Proof.K4
public import proofs.«01_k».proof.Proof.K5
public import proofs.«01_k».proof.Proof.K6
public import proofs.«01_k».proof.Proof.K7Final
public import proofs.«01_k».proof.Proof.K8
public import proofs.«01_k».proof.Proof.K9
public import proofs.«01_k».proof.Proof.K10
public import proofs.«01_k».proof.Proof.K11
public import proofs.«01_k».proof.Proof.K12

@[expose] public section

set_option maxRecDepth 16384

/-! # What each buffer holds at each boundary between two regions -/

noncomputable section

open Idealize.ShloMosaic Idealize.ShloMosaic.TcCoe Idealize.SL.Sem

namespace Cert.KernelIdeal.Value
open Cert.KernelIdeal Cert.KernelIdeal.Gen Cert.Layer

variable (m : (ℓ : Loc nD τ sig) → Buf (Elt Ideal) ℓ) (ρ : Dev nD → PrngReg) (c : Dev nD) (p : Args)

/-! ## Boundary 2 -/

theorem at2_v8 (h : Launched m c p) : Is2 (n := 4096) (m := 1024) (W2 m ρ c (Proc.devRef .tc main_v8)) p.h :=
  Is2.of_eq (W2_arr m ρ c 2) (R0.final (V1 m ρ) c p.X p.N (at1_arg0 m ρ c p h) (at1_v2 m ρ c p h))
theorem at2_arg0 (h : Launched m c p) : Is2 (n := 4096) (m := 1024) (W2 m ρ c (Proc.devRef .tc main_arg0)) p.X :=
  Is2.of_eq (W2_of m ρ c main_arg0 (by decide +kernel)) (at1_arg0 m ρ c p h)
theorem at2_arg5 (h : Launched m c p) : Is2 (n := 4096) (m := 1024) (W2 m ρ c (Proc.devRef .tc main_arg5)) p.G :=
  Is2.of_eq (W2_of m ρ c main_arg5 (by decide +kernel)) (at1_arg5 m ρ c p h)
theorem at2_v2 (h : Launched m c p) : Is2 (n := 1) (m := 1024) (W2 m ρ c (Proc.devRef .tc main_v2)) (fun _ d => p.N d) :=
  Is2.of_eq (W2_of m ρ c main_v2 (by decide +kernel)) (at1_v2 m ρ c p h)
theorem at2_v3 (h : Launched m c p) : Is2 (n := 2816) (m := 1024) (W2 m ρ c (Proc.devRef .tc main_v3)) (fun j d => p.U d j) :=
  Is2.of_eq (W2_of m ρ c main_v3 (by decide +kernel)) (at1_v3 m ρ c p h)
theorem at2_v4 (h : Launched m c p) : Is2 (n := 2816) (m := 1024) (W2 m ρ c (Proc.devRef .tc main_v4)) (fun j d => Args.right p.U d j) :=
  Is2.of_eq (W2_of m ρ c main_v4 (by decide +kernel)) (at1_v4 m ρ c p h)
theorem at2_v5 (h : Launched m c p) : Is2 (n := 3) (m := 2816) (W2 m ρ c (Proc.devRef .tc main_v5)) p.C :=
  Is2.of_eq (W2_of m ρ c main_v5 (by decide +kernel)) (at1_v5 m ρ c p h)
theorem at2_v6 (h : Launched m c p) : Is2 (n := 3) (m := 2816) (W2 m ρ c (Proc.devRef .tc main_v6)) (Args.right p.C) :=
  Is2.of_eq (W2_of m ρ c main_v6 (by decide +kernel)) (at1_v6 m ρ c p h)
theorem at2_v7 (h : Launched m c p) : Is2 (n := 2816) (m := 1024) (W2 m ρ c (Proc.devRef .tc main_v7)) p.W :=
  Is2.of_eq (W2_of m ρ c main_v7 (by decide +kernel)) (at1_v7 m ρ c p h)
/-! ## Boundary 3 -/

theorem at3_v9 (h : Launched m c p) : Is2 (n := 4096) (m := 2816) (W3 m ρ c (Proc.devRef .tc main_v9)) p.zg :=
  Is2.of_eq (W3_arr m ρ c 2) (R1.final (V2 m ρ) c p.h _ (at2_v8 m ρ c p h) (at2_v3 m ρ c p h))
theorem at3_arg0 (h : Launched m c p) : Is2 (n := 4096) (m := 1024) (W3 m ρ c (Proc.devRef .tc main_arg0)) p.X :=
  Is2.of_eq (W3_of m ρ c main_arg0 (by decide +kernel)) (at2_arg0 m ρ c p h)
theorem at3_arg5 (h : Launched m c p) : Is2 (n := 4096) (m := 1024) (W3 m ρ c (Proc.devRef .tc main_arg5)) p.G :=
  Is2.of_eq (W3_of m ρ c main_arg5 (by decide +kernel)) (at2_arg5 m ρ c p h)
theorem at3_v2 (h : Launched m c p) : Is2 (n := 1) (m := 1024) (W3 m ρ c (Proc.devRef .tc main_v2)) (fun _ d => p.N d) :=
  Is2.of_eq (W3_of m ρ c main_v2 (by decide +kernel)) (at2_v2 m ρ c p h)
theorem at3_v3 (h : Launched m c p) : Is2 (n := 2816) (m := 1024) (W3 m ρ c (Proc.devRef .tc main_v3)) (fun j d => p.U d j) :=
  Is2.of_eq (W3_of m ρ c main_v3 (by decide +kernel)) (at2_v3 m ρ c p h)
theorem at3_v4 (h : Launched m c p) : Is2 (n := 2816) (m := 1024) (W3 m ρ c (Proc.devRef .tc main_v4)) (fun j d => Args.right p.U d j) :=
  Is2.of_eq (W3_of m ρ c main_v4 (by decide +kernel)) (at2_v4 m ρ c p h)
theorem at3_v5 (h : Launched m c p) : Is2 (n := 3) (m := 2816) (W3 m ρ c (Proc.devRef .tc main_v5)) p.C :=
  Is2.of_eq (W3_of m ρ c main_v5 (by decide +kernel)) (at2_v5 m ρ c p h)
theorem at3_v6 (h : Launched m c p) : Is2 (n := 3) (m := 2816) (W3 m ρ c (Proc.devRef .tc main_v6)) (Args.right p.C) :=
  Is2.of_eq (W3_of m ρ c main_v6 (by decide +kernel)) (at2_v6 m ρ c p h)
theorem at3_v7 (h : Launched m c p) : Is2 (n := 2816) (m := 1024) (W3 m ρ c (Proc.devRef .tc main_v7)) p.W :=
  Is2.of_eq (W3_of m ρ c main_v7 (by decide +kernel)) (at2_v7 m ρ c p h)
theorem at3_v8 (h : Launched m c p) : Is2 (n := 4096) (m := 1024) (W3 m ρ c (Proc.devRef .tc main_v8)) p.h :=
  Is2.of_eq (W3_of m ρ c main_v8 (by decide +kernel)) (at2_v8 m ρ c p h)
/-! ## Boundary 4 -/

theorem at4_v10 (h : Launched m c p) : Is2 (n := 4096) (m := 2816) (W4 m ρ c (Proc.devRef .tc main_v10)) p.zv :=
  Is2.of_eq (W4_arr m ρ c 2) (R2.final (V3 m ρ) c p.h _ (at3_v8 m ρ c p h) (at3_v4 m ρ c p h))
theorem at4_arg0 (h : Launched m c p) : Is2 (n := 4096) (m := 1024) (W4 m ρ c (Proc.devRef .tc main_arg0)) p.X :=
  Is2.of_eq (W4_of m ρ c main_arg0 (by decide +kernel)) (at3_arg0 m ρ c p h)
theorem at4_arg5 (h : Launched m c p) : Is2 (n := 4096) (m := 1024) (W4 m ρ c (Proc.devRef .tc main_arg5)) p.G :=
  Is2.of_eq (W4_of m ρ c main_arg5 (by decide +kernel)) (at3_arg5 m ρ c p h)
theorem at4_v2 (h : Launched m c p) : Is2 (n := 1) (m := 1024) (W4 m ρ c (Proc.devRef .tc main_v2)) (fun _ d => p.N d) :=
  Is2.of_eq (W4_of m ρ c main_v2 (by decide +kernel)) (at3_v2 m ρ c p h)
theorem at4_v3 (h : Launched m c p) : Is2 (n := 2816) (m := 1024) (W4 m ρ c (Proc.devRef .tc main_v3)) (fun j d => p.U d j) :=
  Is2.of_eq (W4_of m ρ c main_v3 (by decide +kernel)) (at3_v3 m ρ c p h)
theorem at4_v4 (h : Launched m c p) : Is2 (n := 2816) (m := 1024) (W4 m ρ c (Proc.devRef .tc main_v4)) (fun j d => Args.right p.U d j) :=
  Is2.of_eq (W4_of m ρ c main_v4 (by decide +kernel)) (at3_v4 m ρ c p h)
theorem at4_v5 (h : Launched m c p) : Is2 (n := 3) (m := 2816) (W4 m ρ c (Proc.devRef .tc main_v5)) p.C :=
  Is2.of_eq (W4_of m ρ c main_v5 (by decide +kernel)) (at3_v5 m ρ c p h)
theorem at4_v6 (h : Launched m c p) : Is2 (n := 3) (m := 2816) (W4 m ρ c (Proc.devRef .tc main_v6)) (Args.right p.C) :=
  Is2.of_eq (W4_of m ρ c main_v6 (by decide +kernel)) (at3_v6 m ρ c p h)
theorem at4_v7 (h : Launched m c p) : Is2 (n := 2816) (m := 1024) (W4 m ρ c (Proc.devRef .tc main_v7)) p.W :=
  Is2.of_eq (W4_of m ρ c main_v7 (by decide +kernel)) (at3_v7 m ρ c p h)
theorem at4_v8 (h : Launched m c p) : Is2 (n := 4096) (m := 1024) (W4 m ρ c (Proc.devRef .tc main_v8)) p.h :=
  Is2.of_eq (W4_of m ρ c main_v8 (by decide +kernel)) (at3_v8 m ρ c p h)
theorem at4_v9 (h : Launched m c p) : Is2 (n := 4096) (m := 2816) (W4 m ρ c (Proc.devRef .tc main_v9)) p.zg :=
  Is2.of_eq (W4_of m ρ c main_v9 (by decide +kernel)) (at3_v9 m ρ c p h)
/-! ## Boundary 5 -/

theorem at5_v11 (h : Launched m c p) : Is2 (n := 4096) (m := 2816) (W5 m ρ c (Proc.devRef .tc main_v11)) p.a :=
  Is2.of_eq (W5_arr m ρ c 4) (R3.final (V4 m ρ) c p.zg p.zv p.C (Args.right p.C) (at4_v9 m ρ c p h) (at4_v10 m ρ c p h) (at4_v5 m ρ c p h) (at4_v6 m ρ c p h))
theorem at5_arg0 (h : Launched m c p) : Is2 (n := 4096) (m := 1024) (W5 m ρ c (Proc.devRef .tc main_arg0)) p.X :=
  Is2.of_eq (W5_of m ρ c main_arg0 (by decide +kernel)) (at4_arg0 m ρ c p h)
theorem at5_arg5 (h : Launched m c p) : Is2 (n := 4096) (m := 1024) (W5 m ρ c (Proc.devRef .tc main_arg5)) p.G :=
  Is2.of_eq (W5_of m ρ c main_arg5 (by decide +kernel)) (at4_arg5 m ρ c p h)
theorem at5_v2 (h : Launched m c p) : Is2 (n := 1) (m := 1024) (W5 m ρ c (Proc.devRef .tc main_v2)) (fun _ d => p.N d) :=
  Is2.of_eq (W5_of m ρ c main_v2 (by decide +kernel)) (at4_v2 m ρ c p h)
theorem at5_v3 (h : Launched m c p) : Is2 (n := 2816) (m := 1024) (W5 m ρ c (Proc.devRef .tc main_v3)) (fun j d => p.U d j) :=
  Is2.of_eq (W5_of m ρ c main_v3 (by decide +kernel)) (at4_v3 m ρ c p h)
theorem at5_v4 (h : Launched m c p) : Is2 (n := 2816) (m := 1024) (W5 m ρ c (Proc.devRef .tc main_v4)) (fun j d => Args.right p.U d j) :=
  Is2.of_eq (W5_of m ρ c main_v4 (by decide +kernel)) (at4_v4 m ρ c p h)
theorem at5_v5 (h : Launched m c p) : Is2 (n := 3) (m := 2816) (W5 m ρ c (Proc.devRef .tc main_v5)) p.C :=
  Is2.of_eq (W5_of m ρ c main_v5 (by decide +kernel)) (at4_v5 m ρ c p h)
theorem at5_v6 (h : Launched m c p) : Is2 (n := 3) (m := 2816) (W5 m ρ c (Proc.devRef .tc main_v6)) (Args.right p.C) :=
  Is2.of_eq (W5_of m ρ c main_v6 (by decide +kernel)) (at4_v6 m ρ c p h)
theorem at5_v7 (h : Launched m c p) : Is2 (n := 2816) (m := 1024) (W5 m ρ c (Proc.devRef .tc main_v7)) p.W :=
  Is2.of_eq (W5_of m ρ c main_v7 (by decide +kernel)) (at4_v7 m ρ c p h)
theorem at5_v8 (h : Launched m c p) : Is2 (n := 4096) (m := 1024) (W5 m ρ c (Proc.devRef .tc main_v8)) p.h :=
  Is2.of_eq (W5_of m ρ c main_v8 (by decide +kernel)) (at4_v8 m ρ c p h)
theorem at5_v9 (h : Launched m c p) : Is2 (n := 4096) (m := 2816) (W5 m ρ c (Proc.devRef .tc main_v9)) p.zg :=
  Is2.of_eq (W5_of m ρ c main_v9 (by decide +kernel)) (at4_v9 m ρ c p h)
theorem at5_v10 (h : Launched m c p) : Is2 (n := 4096) (m := 2816) (W5 m ρ c (Proc.devRef .tc main_v10)) p.zv :=
  Is2.of_eq (W5_of m ρ c main_v10 (by decide +kernel)) (at4_v10 m ρ c p h)
/-! ## Boundary 6 -/

theorem at6_v12 (h : Launched m c p) : Is2 (n := 4096) (m := 1024) (W6 m ρ c (Proc.devRef .tc main_v12)) p.y :=
  Is2.of_eq (W6_arr m ρ c 3) (R4.final (V5 m ρ) c p.a p.W p.X (at5_v11 m ρ c p h) (at5_v7 m ρ c p h) (at5_arg0 m ρ c p h))
theorem at6_arg0 (h : Launched m c p) : Is2 (n := 4096) (m := 1024) (W6 m ρ c (Proc.devRef .tc main_arg0)) p.X :=
  Is2.of_eq (W6_of m ρ c main_arg0 (by decide +kernel)) (at5_arg0 m ρ c p h)
theorem at6_arg5 (h : Launched m c p) : Is2 (n := 4096) (m := 1024) (W6 m ρ c (Proc.devRef .tc main_arg5)) p.G :=
  Is2.of_eq (W6_of m ρ c main_arg5 (by decide +kernel)) (at5_arg5 m ρ c p h)
theorem at6_v2 (h : Launched m c p) : Is2 (n := 1) (m := 1024) (W6 m ρ c (Proc.devRef .tc main_v2)) (fun _ d => p.N d) :=
  Is2.of_eq (W6_of m ρ c main_v2 (by decide +kernel)) (at5_v2 m ρ c p h)
theorem at6_v3 (h : Launched m c p) : Is2 (n := 2816) (m := 1024) (W6 m ρ c (Proc.devRef .tc main_v3)) (fun j d => p.U d j) :=
  Is2.of_eq (W6_of m ρ c main_v3 (by decide +kernel)) (at5_v3 m ρ c p h)
theorem at6_v4 (h : Launched m c p) : Is2 (n := 2816) (m := 1024) (W6 m ρ c (Proc.devRef .tc main_v4)) (fun j d => Args.right p.U d j) :=
  Is2.of_eq (W6_of m ρ c main_v4 (by decide +kernel)) (at5_v4 m ρ c p h)
theorem at6_v5 (h : Launched m c p) : Is2 (n := 3) (m := 2816) (W6 m ρ c (Proc.devRef .tc main_v5)) p.C :=
  Is2.of_eq (W6_of m ρ c main_v5 (by decide +kernel)) (at5_v5 m ρ c p h)
theorem at6_v6 (h : Launched m c p) : Is2 (n := 3) (m := 2816) (W6 m ρ c (Proc.devRef .tc main_v6)) (Args.right p.C) :=
  Is2.of_eq (W6_of m ρ c main_v6 (by decide +kernel)) (at5_v6 m ρ c p h)
theorem at6_v7 (h : Launched m c p) : Is2 (n := 2816) (m := 1024) (W6 m ρ c (Proc.devRef .tc main_v7)) p.W :=
  Is2.of_eq (W6_of m ρ c main_v7 (by decide +kernel)) (at5_v7 m ρ c p h)
theorem at6_v8 (h : Launched m c p) : Is2 (n := 4096) (m := 1024) (W6 m ρ c (Proc.devRef .tc main_v8)) p.h :=
  Is2.of_eq (W6_of m ρ c main_v8 (by decide +kernel)) (at5_v8 m ρ c p h)
theorem at6_v9 (h : Launched m c p) : Is2 (n := 4096) (m := 2816) (W6 m ρ c (Proc.devRef .tc main_v9)) p.zg :=
  Is2.of_eq (W6_of m ρ c main_v9 (by decide +kernel)) (at5_v9 m ρ c p h)
theorem at6_v10 (h : Launched m c p) : Is2 (n := 4096) (m := 2816) (W6 m ρ c (Proc.devRef .tc main_v10)) p.zv :=
  Is2.of_eq (W6_of m ρ c main_v10 (by decide +kernel)) (at5_v10 m ρ c p h)
theorem at6_v11 (h : Launched m c p) : Is2 (n := 4096) (m := 2816) (W6 m ρ c (Proc.devRef .tc main_v11)) p.a :=
  Is2.of_eq (W6_of m ρ c main_v11 (by decide +kernel)) (at5_v11 m ρ c p h)
/-! ## Boundary 7 -/

theorem at7_v13 (h : Launched m c p) : Is2 (n := 4096) (m := 1024) (W7 m ρ c (Proc.devRef .tc main_v13)) p.G :=
  host5 m ρ c p h
theorem at7_arg0 (h : Launched m c p) : Is2 (n := 4096) (m := 1024) (W7 m ρ c (Proc.devRef .tc main_arg0)) p.X :=
  Is2.of_eq (W7_of m ρ c main_arg0 (by decide)) (at6_arg0 m ρ c p h)
theorem at7_arg5 (h : Launched m c p) : Is2 (n := 4096) (m := 1024) (W7 m ρ c (Proc.devRef .tc main_arg5)) p.G :=
  Is2.of_eq (W7_of m ρ c main_arg5 (by decide)) (at6_arg5 m ρ c p h)
theorem at7_v2 (h : Launched m c p) : Is2 (n := 1) (m := 1024) (W7 m ρ c (Proc.devRef .tc main_v2)) (fun _ d => p.N d) :=
  Is2.of_eq (W7_of m ρ c main_v2 (by decide)) (at6_v2 m ρ c p h)
theorem at7_v3 (h : Launched m c p) : Is2 (n := 2816) (m := 1024) (W7 m ρ c (Proc.devRef .tc main_v3)) (fun j d => p.U d j) :=
  Is2.of_eq (W7_of m ρ c main_v3 (by decide)) (at6_v3 m ρ c p h)
theorem at7_v4 (h : Launched m c p) : Is2 (n := 2816) (m := 1024) (W7 m ρ c (Proc.devRef .tc main_v4)) (fun j d => Args.right p.U d j) :=
  Is2.of_eq (W7_of m ρ c main_v4 (by decide)) (at6_v4 m ρ c p h)
theorem at7_v5 (h : Launched m c p) : Is2 (n := 3) (m := 2816) (W7 m ρ c (Proc.devRef .tc main_v5)) p.C :=
  Is2.of_eq (W7_of m ρ c main_v5 (by decide)) (at6_v5 m ρ c p h)
theorem at7_v6 (h : Launched m c p) : Is2 (n := 3) (m := 2816) (W7 m ρ c (Proc.devRef .tc main_v6)) (Args.right p.C) :=
  Is2.of_eq (W7_of m ρ c main_v6 (by decide)) (at6_v6 m ρ c p h)
theorem at7_v7 (h : Launched m c p) : Is2 (n := 2816) (m := 1024) (W7 m ρ c (Proc.devRef .tc main_v7)) p.W :=
  Is2.of_eq (W7_of m ρ c main_v7 (by decide)) (at6_v7 m ρ c p h)
theorem at7_v8 (h : Launched m c p) : Is2 (n := 4096) (m := 1024) (W7 m ρ c (Proc.devRef .tc main_v8)) p.h :=
  Is2.of_eq (W7_of m ρ c main_v8 (by decide)) (at6_v8 m ρ c p h)
theorem at7_v9 (h : Launched m c p) : Is2 (n := 4096) (m := 2816) (W7 m ρ c (Proc.devRef .tc main_v9)) p.zg :=
  Is2.of_eq (W7_of m ρ c main_v9 (by decide)) (at6_v9 m ρ c p h)
theorem at7_v10 (h : Launched m c p) : Is2 (n := 4096) (m := 2816) (W7 m ρ c (Proc.devRef .tc main_v10)) p.zv :=
  Is2.of_eq (W7_of m ρ c main_v10 (by decide)) (at6_v10 m ρ c p h)
theorem at7_v11 (h : Launched m c p) : Is2 (n := 4096) (m := 2816) (W7 m ρ c (Proc.devRef .tc main_v11)) p.a :=
  Is2.of_eq (W7_of m ρ c main_v11 (by decide)) (at6_v11 m ρ c p h)
theorem at7_v12 (h : Launched m c p) : Is2 (n := 4096) (m := 1024) (W7 m ρ c (Proc.devRef .tc main_v12)) p.y :=
  Is2.of_eq (W7_of m ρ c main_v12 (by decide)) (at6_v12 m ρ c p h)
/-! ## Boundary 8 -/

theorem at8_v14 (h : Launched m c p) : Is2 (n := 4096) (m := 2816) (W8 m ρ c (Proc.devRef .tc main_v14)) p.da :=
  Is2.of_eq (W8_arr m ρ c 2) (R5.final (V7 m ρ) c p.G p.W (at7_v13 m ρ c p h) (at7_v7 m ρ c p h))
theorem at8_arg0 (h : Launched m c p) : Is2 (n := 4096) (m := 1024) (W8 m ρ c (Proc.devRef .tc main_arg0)) p.X :=
  Is2.of_eq (W8_of m ρ c main_arg0 (by decide +kernel)) (at7_arg0 m ρ c p h)
theorem at8_arg5 (h : Launched m c p) : Is2 (n := 4096) (m := 1024) (W8 m ρ c (Proc.devRef .tc main_arg5)) p.G :=
  Is2.of_eq (W8_of m ρ c main_arg5 (by decide +kernel)) (at7_arg5 m ρ c p h)
theorem at8_v2 (h : Launched m c p) : Is2 (n := 1) (m := 1024) (W8 m ρ c (Proc.devRef .tc main_v2)) (fun _ d => p.N d) :=
  Is2.of_eq (W8_of m ρ c main_v2 (by decide +kernel)) (at7_v2 m ρ c p h)
theorem at8_v3 (h : Launched m c p) : Is2 (n := 2816) (m := 1024) (W8 m ρ c (Proc.devRef .tc main_v3)) (fun j d => p.U d j) :=
  Is2.of_eq (W8_of m ρ c main_v3 (by decide +kernel)) (at7_v3 m ρ c p h)
theorem at8_v4 (h : Launched m c p) : Is2 (n := 2816) (m := 1024) (W8 m ρ c (Proc.devRef .tc main_v4)) (fun j d => Args.right p.U d j) :=
  Is2.of_eq (W8_of m ρ c main_v4 (by decide +kernel)) (at7_v4 m ρ c p h)
theorem at8_v5 (h : Launched m c p) : Is2 (n := 3) (m := 2816) (W8 m ρ c (Proc.devRef .tc main_v5)) p.C :=
  Is2.of_eq (W8_of m ρ c main_v5 (by decide +kernel)) (at7_v5 m ρ c p h)
theorem at8_v6 (h : Launched m c p) : Is2 (n := 3) (m := 2816) (W8 m ρ c (Proc.devRef .tc main_v6)) (Args.right p.C) :=
  Is2.of_eq (W8_of m ρ c main_v6 (by decide +kernel)) (at7_v6 m ρ c p h)
theorem at8_v8 (h : Launched m c p) : Is2 (n := 4096) (m := 1024) (W8 m ρ c (Proc.devRef .tc main_v8)) p.h :=
  Is2.of_eq (W8_of m ρ c main_v8 (by decide +kernel)) (at7_v8 m ρ c p h)
theorem at8_v9 (h : Launched m c p) : Is2 (n := 4096) (m := 2816) (W8 m ρ c (Proc.devRef .tc main_v9)) p.zg :=
  Is2.of_eq (W8_of m ρ c main_v9 (by decide +kernel)) (at7_v9 m ρ c p h)
theorem at8_v10 (h : Launched m c p) : Is2 (n := 4096) (m := 2816) (W8 m ρ c (Proc.devRef .tc main_v10)) p.zv :=
  Is2.of_eq (W8_of m ρ c main_v10 (by decide +kernel)) (at7_v10 m ρ c p h)
theorem at8_v11 (h : Launched m c p) : Is2 (n := 4096) (m := 2816) (W8 m ρ c (Proc.devRef .tc main_v11)) p.a :=
  Is2.of_eq (W8_of m ρ c main_v11 (by decide +kernel)) (at7_v11 m ρ c p h)
theorem at8_v12 (h : Launched m c p) : Is2 (n := 4096) (m := 1024) (W8 m ρ c (Proc.devRef .tc main_v12)) p.y :=
  Is2.of_eq (W8_of m ρ c main_v12 (by decide +kernel)) (at7_v12 m ρ c p h)
theorem at8_v13 (h : Launched m c p) : Is2 (n := 4096) (m := 1024) (W8 m ρ c (Proc.devRef .tc main_v13)) p.G :=
  Is2.of_eq (W8_of m ρ c main_v13 (by decide +kernel)) (at7_v13 m ρ c p h)
/-! ## Boundary 9 -/

theorem at9_v15 (h : Launched m c p) : Is2 (n := 2816) (m := 1024) (W9 m ρ c (Proc.devRef .tc main_v15)) p.gW :=
  Is2.of_eq (W9_arr m ρ c 2) (R6.final (V8 m ρ) c p.a p.G (at8_v11 m ρ c p h) (at8_v13 m ρ c p h))
theorem at9_arg0 (h : Launched m c p) : Is2 (n := 4096) (m := 1024) (W9 m ρ c (Proc.devRef .tc main_arg0)) p.X :=
  Is2.of_eq (W9_of m ρ c main_arg0 (by decide +kernel)) (at8_arg0 m ρ c p h)
theorem at9_arg5 (h : Launched m c p) : Is2 (n := 4096) (m := 1024) (W9 m ρ c (Proc.devRef .tc main_arg5)) p.G :=
  Is2.of_eq (W9_of m ρ c main_arg5 (by decide +kernel)) (at8_arg5 m ρ c p h)
theorem at9_v2 (h : Launched m c p) : Is2 (n := 1) (m := 1024) (W9 m ρ c (Proc.devRef .tc main_v2)) (fun _ d => p.N d) :=
  Is2.of_eq (W9_of m ρ c main_v2 (by decide +kernel)) (at8_v2 m ρ c p h)
theorem at9_v3 (h : Launched m c p) : Is2 (n := 2816) (m := 1024) (W9 m ρ c (Proc.devRef .tc main_v3)) (fun j d => p.U d j) :=
  Is2.of_eq (W9_of m ρ c main_v3 (by decide +kernel)) (at8_v3 m ρ c p h)
theorem at9_v4 (h : Launched m c p) : Is2 (n := 2816) (m := 1024) (W9 m ρ c (Proc.devRef .tc main_v4)) (fun j d => Args.right p.U d j) :=
  Is2.of_eq (W9_of m ρ c main_v4 (by decide +kernel)) (at8_v4 m ρ c p h)
theorem at9_v5 (h : Launched m c p) : Is2 (n := 3) (m := 2816) (W9 m ρ c (Proc.devRef .tc main_v5)) p.C :=
  Is2.of_eq (W9_of m ρ c main_v5 (by decide +kernel)) (at8_v5 m ρ c p h)
theorem at9_v6 (h : Launched m c p) : Is2 (n := 3) (m := 2816) (W9 m ρ c (Proc.devRef .tc main_v6)) (Args.right p.C) :=
  Is2.of_eq (W9_of m ρ c main_v6 (by decide +kernel)) (at8_v6 m ρ c p h)
theorem at9_v8 (h : Launched m c p) : Is2 (n := 4096) (m := 1024) (W9 m ρ c (Proc.devRef .tc main_v8)) p.h :=
  Is2.of_eq (W9_of m ρ c main_v8 (by decide +kernel)) (at8_v8 m ρ c p h)
theorem at9_v9 (h : Launched m c p) : Is2 (n := 4096) (m := 2816) (W9 m ρ c (Proc.devRef .tc main_v9)) p.zg :=
  Is2.of_eq (W9_of m ρ c main_v9 (by decide +kernel)) (at8_v9 m ρ c p h)
theorem at9_v10 (h : Launched m c p) : Is2 (n := 4096) (m := 2816) (W9 m ρ c (Proc.devRef .tc main_v10)) p.zv :=
  Is2.of_eq (W9_of m ρ c main_v10 (by decide +kernel)) (at8_v10 m ρ c p h)
theorem at9_v12 (h : Launched m c p) : Is2 (n := 4096) (m := 1024) (W9 m ρ c (Proc.devRef .tc main_v12)) p.y :=
  Is2.of_eq (W9_of m ρ c main_v12 (by decide +kernel)) (at8_v12 m ρ c p h)
theorem at9_v14 (h : Launched m c p) : Is2 (n := 4096) (m := 2816) (W9 m ρ c (Proc.devRef .tc main_v14)) p.da :=
  Is2.of_eq (W9_of m ρ c main_v14 (by decide +kernel)) (at8_v14 m ρ c p h)
/-! ## Boundary 10 -/

theorem at10_v16_0 (h : Launched m c p) : Is2 (n := 4096) (m := 2816) (W10 m ρ c (Proc.devRef .tc main_v16_0)) p.dzg :=
  Is2.of_eq (W10_arr m ρ c 5) (R7.final5 (V9 m ρ) c p.da p.zg p.zv p.C (Args.right p.C) (at9_v14 m ρ c p h) (at9_v9 m ρ c p h) (at9_v10 m ρ c p h) (at9_v5 m ρ c p h) (at9_v6 m ρ c p h))
theorem at10_v16_1 (h : Launched m c p) : Is2 (n := 4096) (m := 2816) (W10 m ρ c (Proc.devRef .tc main_v16_1)) p.dzv :=
  Is2.of_eq (W10_arr m ρ c 6) (R7.final6 (V9 m ρ) c p.da p.zg p.zv p.C (Args.right p.C) (at9_v14 m ρ c p h) (at9_v9 m ρ c p h) (at9_v10 m ρ c p h) (at9_v5 m ρ c p h) (at9_v6 m ρ c p h))
theorem at10_v16_2 (h : Launched m c p) : Is2 (n := 3) (m := 2816) (W10 m ρ c (Proc.devRef .tc main_v16_2)) p.gCg :=
  Is2.of_eq (W10_arr m ρ c 7) (R7.final7 (V9 m ρ) c p.da p.zg p.zv p.C (Args.right p.C) (at9_v14 m ρ c p h) (at9_v9 m ρ c p h) (at9_v10 m ρ c p h) (at9_v5 m ρ c p h) (at9_v6 m ρ c p h))
theorem at10_v16_3 (h : Launched m c p) : Is2 (n := 3) (m := 2816) (W10 m ρ c (Proc.devRef .tc main_v16_3)) p.gCv :=
  Is2.of_eq (W10_arr m ρ c 8) (R7.final8 (V9 m ρ) c p.da p.zg p.zv p.C (Args.right p.C) (at9_v14 m ρ c p h) (at9_v9 m ρ c p h) (at9_v10 m ρ c p h) (at9_v5 m ρ c p h) (at9_v6 m ρ c p h))
theorem at10_arg0 (h : Launched m c p) : Is2 (n := 4096) (m := 1024) (W10 m ρ c (Proc.devRef .tc main_arg0)) p.X :=
  Is2.of_eq (W10_of m ρ c main_arg0 (by decide +kernel)) (at9_arg0 m ρ c p h)
theorem at10_arg5 (h : Launched m c p) : Is2 (n := 4096) (m := 1024) (W10 m ρ c (Proc.devRef .tc main_arg5)) p.G :=
  Is2.of_eq (W10_of m ρ c main_arg5 (by decide +kernel)) (at9_arg5 m ρ c p h)
theorem at10_v2 (h : Launched m c p) : Is2 (n := 1) (m := 1024) (W10 m ρ c (Proc.devRef .tc main_v2)) (fun _ d => p.N d) :=
  Is2.of_eq (W10_of m ρ c main_v2 (by decide +kernel)) (at9_v2 m ρ c p h)
theorem at10_v3 (h : Launched m c p) : Is2 (n := 2816) (m := 1024) (W10 m ρ c (Proc.devRef .tc main_v3)) (fun j d => p.U d j) :=
  Is2.of_eq (W10_of m ρ c main_v3 (by decide +kernel)) (at9_v3 m ρ c p h)
theorem at10_v4 (h : Launched m c p) : Is2 (n := 2816) (m := 1024) (W10 m ρ c (Proc.devRef .tc main_v4)) (fun j d => Args.right p.U d j) :=
  Is2.of_eq (W10_of m ρ c main_v4 (by decide +kernel)) (at9_v4 m ρ c p h)
theorem at10_v8 (h : Launched m c p) : Is2 (n := 4096) (m := 1024) (W10 m ρ c (Proc.devRef .tc main_v8)) p.h :=
  Is2.of_eq (W10_of m ρ c main_v8 (by decide +kernel)) (at9_v8 m ρ c p h)
theorem at10_v12 (h : Launched m c p) : Is2 (n := 4096) (m := 1024) (W10 m ρ c (Proc.devRef .tc main_v12)) p.y :=
  Is2.of_eq (W10_of m ρ c main_v12 (by decide +kernel)) (at9_v12 m ρ c p h)
theorem at10_v15 (h : Launched m c p) : Is2 (n := 2816) (m := 1024) (W10 m ρ c (Proc.devRef .tc main_v15)) p.gW :=
  Is2.of_eq (W10_of m ρ c main_v15 (by decide +kernel)) (at9_v15 m ρ c p h)
/-! ## Boundary 11 -/

theorem at11_v17 (h : Launched m c p) : Is2 (n := 2816) (m := 1024) (W11 m ρ c (Proc.devRef .tc main_v17)) p.gUg :=
  Is2.of_eq (W11_arr m ρ c 2) (R8.final (V10 m ρ) c p.dzg p.h (at10_v16_0 m ρ c p h) (at10_v8 m ρ c p h))
theorem at11_arg0 (h : Launched m c p) : Is2 (n := 4096) (m := 1024) (W11 m ρ c (Proc.devRef .tc main_arg0)) p.X :=
  Is2.of_eq (W11_of m ρ c main_arg0 (by decide +kernel)) (at10_arg0 m ρ c p h)
theorem at11_arg5 (h : Launched m c p) : Is2 (n := 4096) (m := 1024) (W11 m ρ c (Proc.devRef .tc main_arg5)) p.G :=
  Is2.of_eq (W11_of m ρ c main_arg5 (by decide +kernel)) (at10_arg5 m ρ c p h)
theorem at11_v2 (h : Launched m c p) : Is2 (n := 1) (m := 1024) (W11 m ρ c (Proc.devRef .tc main_v2)) (fun _ d => p.N d) :=
  Is2.of_eq (W11_of m ρ c main_v2 (by decide +kernel)) (at10_v2 m ρ c p h)
theorem at11_v3 (h : Launched m c p) : Is2 (n := 2816) (m := 1024) (W11 m ρ c (Proc.devRef .tc main_v3)) (fun j d => p.U d j) :=
  Is2.of_eq (W11_of m ρ c main_v3 (by decide +kernel)) (at10_v3 m ρ c p h)
theorem at11_v4 (h : Launched m c p) : Is2 (n := 2816) (m := 1024) (W11 m ρ c (Proc.devRef .tc main_v4)) (fun j d => Args.right p.U d j) :=
  Is2.of_eq (W11_of m ρ c main_v4 (by decide +kernel)) (at10_v4 m ρ c p h)
theorem at11_v8 (h : Launched m c p) : Is2 (n := 4096) (m := 1024) (W11 m ρ c (Proc.devRef .tc main_v8)) p.h :=
  Is2.of_eq (W11_of m ρ c main_v8 (by decide +kernel)) (at10_v8 m ρ c p h)
theorem at11_v12 (h : Launched m c p) : Is2 (n := 4096) (m := 1024) (W11 m ρ c (Proc.devRef .tc main_v12)) p.y :=
  Is2.of_eq (W11_of m ρ c main_v12 (by decide +kernel)) (at10_v12 m ρ c p h)
theorem at11_v15 (h : Launched m c p) : Is2 (n := 2816) (m := 1024) (W11 m ρ c (Proc.devRef .tc main_v15)) p.gW :=
  Is2.of_eq (W11_of m ρ c main_v15 (by decide +kernel)) (at10_v15 m ρ c p h)
theorem at11_v16_0 (h : Launched m c p) : Is2 (n := 4096) (m := 2816) (W11 m ρ c (Proc.devRef .tc main_v16_0)) p.dzg :=
  Is2.of_eq (W11_of m ρ c main_v16_0 (by decide +kernel)) (at10_v16_0 m ρ c p h)
theorem at11_v16_1 (h : Launched m c p) : Is2 (n := 4096) (m := 2816) (W11 m ρ c (Proc.devRef .tc main_v16_1)) p.dzv :=
  Is2.of_eq (W11_of m ρ c main_v16_1 (by decide +kernel)) (at10_v16_1 m ρ c p h)
theorem at11_v16_2 (h : Launched m c p) : Is2 (n := 3) (m := 2816) (W11 m ρ c (Proc.devRef .tc main_v16_2)) p.gCg :=
  Is2.of_eq (W11_of m ρ c main_v16_2 (by decide +kernel)) (at10_v16_2 m ρ c p h)
theorem at11_v16_3 (h : Launched m c p) : Is2 (n := 3) (m := 2816) (W11 m ρ c (Proc.devRef .tc main_v16_3)) p.gCv :=
  Is2.of_eq (W11_of m ρ c main_v16_3 (by decide +kernel)) (at10_v16_3 m ρ c p h)
/-! ## Boundary 12 -/

theorem at12_v18 (h : Launched m c p) : Is2 (n := 2816) (m := 1024) (W12 m ρ c (Proc.devRef .tc main_v18)) p.gUv :=
  Is2.of_eq (W12_arr m ρ c 2) (R9.final (V11 m ρ) c p.dzv p.h (at11_v16_1 m ρ c p h) (at11_v8 m ρ c p h))
theorem at12_arg0 (h : Launched m c p) : Is2 (n := 4096) (m := 1024) (W12 m ρ c (Proc.devRef .tc main_arg0)) p.X :=
  Is2.of_eq (W12_of m ρ c main_arg0 (by decide +kernel)) (at11_arg0 m ρ c p h)
theorem at12_arg5 (h : Launched m c p) : Is2 (n := 4096) (m := 1024) (W12 m ρ c (Proc.devRef .tc main_arg5)) p.G :=
  Is2.of_eq (W12_of m ρ c main_arg5 (by decide +kernel)) (at11_arg5 m ρ c p h)
theorem at12_v2 (h : Launched m c p) : Is2 (n := 1) (m := 1024) (W12 m ρ c (Proc.devRef .tc main_v2)) (fun _ d => p.N d) :=
  Is2.of_eq (W12_of m ρ c main_v2 (by decide +kernel)) (at11_v2 m ρ c p h)
theorem at12_v3 (h : Launched m c p) : Is2 (n := 2816) (m := 1024) (W12 m ρ c (Proc.devRef .tc main_v3)) (fun j d => p.U d j) :=
  Is2.of_eq (W12_of m ρ c main_v3 (by decide +kernel)) (at11_v3 m ρ c p h)
theorem at12_v4 (h : Launched m c p) : Is2 (n := 2816) (m := 1024) (W12 m ρ c (Proc.devRef .tc main_v4)) (fun j d => Args.right p.U d j) :=
  Is2.of_eq (W12_of m ρ c main_v4 (by decide +kernel)) (at11_v4 m ρ c p h)
theorem at12_v12 (h : Launched m c p) : Is2 (n := 4096) (m := 1024) (W12 m ρ c (Proc.devRef .tc main_v12)) p.y :=
  Is2.of_eq (W12_of m ρ c main_v12 (by decide +kernel)) (at11_v12 m ρ c p h)
theorem at12_v15 (h : Launched m c p) : Is2 (n := 2816) (m := 1024) (W12 m ρ c (Proc.devRef .tc main_v15)) p.gW :=
  Is2.of_eq (W12_of m ρ c main_v15 (by decide +kernel)) (at11_v15 m ρ c p h)
theorem at12_v16_0 (h : Launched m c p) : Is2 (n := 4096) (m := 2816) (W12 m ρ c (Proc.devRef .tc main_v16_0)) p.dzg :=
  Is2.of_eq (W12_of m ρ c main_v16_0 (by decide +kernel)) (at11_v16_0 m ρ c p h)
theorem at12_v16_1 (h : Launched m c p) : Is2 (n := 4096) (m := 2816) (W12 m ρ c (Proc.devRef .tc main_v16_1)) p.dzv :=
  Is2.of_eq (W12_of m ρ c main_v16_1 (by decide +kernel)) (at11_v16_1 m ρ c p h)
theorem at12_v16_2 (h : Launched m c p) : Is2 (n := 3) (m := 2816) (W12 m ρ c (Proc.devRef .tc main_v16_2)) p.gCg :=
  Is2.of_eq (W12_of m ρ c main_v16_2 (by decide +kernel)) (at11_v16_2 m ρ c p h)
theorem at12_v16_3 (h : Launched m c p) : Is2 (n := 3) (m := 2816) (W12 m ρ c (Proc.devRef .tc main_v16_3)) p.gCv :=
  Is2.of_eq (W12_of m ρ c main_v16_3 (by decide +kernel)) (at11_v16_3 m ρ c p h)
theorem at12_v17 (h : Launched m c p) : Is2 (n := 2816) (m := 1024) (W12 m ρ c (Proc.devRef .tc main_v17)) p.gUg :=
  Is2.of_eq (W12_of m ρ c main_v17 (by decide +kernel)) (at11_v17 m ρ c p h)
/-! ## Boundary 13 -/

theorem at13_v19 (h : Launched m c p) : Is2 (n := 4096) (m := 1024) (W13 m ρ c (Proc.devRef .tc main_v19)) (mulT 2816 p.dzg p.U) :=
  Is2.of_eq (W13_arr m ρ c 2) (R10.final (V12 m ρ) c p.dzg _ (at12_v16_0 m ρ c p h) (at12_v3 m ρ c p h))
theorem at13_arg0 (h : Launched m c p) : Is2 (n := 4096) (m := 1024) (W13 m ρ c (Proc.devRef .tc main_arg0)) p.X :=
  Is2.of_eq (W13_of m ρ c main_arg0 (by decide +kernel)) (at12_arg0 m ρ c p h)
theorem at13_arg5 (h : Launched m c p) : Is2 (n := 4096) (m := 1024) (W13 m ρ c (Proc.devRef .tc main_arg5)) p.G :=
  Is2.of_eq (W13_of m ρ c main_arg5 (by decide +kernel)) (at12_arg5 m ρ c p h)
theorem at13_v2 (h : Launched m c p) : Is2 (n := 1) (m := 1024) (W13 m ρ c (Proc.devRef .tc main_v2)) (fun _ d => p.N d) :=
  Is2.of_eq (W13_of m ρ c main_v2 (by decide +kernel)) (at12_v2 m ρ c p h)
theorem at13_v4 (h : Launched m c p) : Is2 (n := 2816) (m := 1024) (W13 m ρ c (Proc.devRef .tc main_v4)) (fun j d => Args.right p.U d j) :=
  Is2.of_eq (W13_of m ρ c main_v4 (by decide +kernel)) (at12_v4 m ρ c p h)
theorem at13_v12 (h : Launched m c p) : Is2 (n := 4096) (m := 1024) (W13 m ρ c (Proc.devRef .tc main_v12)) p.y :=
  Is2.of_eq (W13_of m ρ c main_v12 (by decide +kernel)) (at12_v12 m ρ c p h)
theorem at13_v15 (h : Launched m c p) : Is2 (n := 2816) (m := 1024) (W13 m ρ c (Proc.devRef .tc main_v15)) p.gW :=
  Is2.of_eq (W13_of m ρ c main_v15 (by decide +kernel)) (at12_v15 m ρ c p h)
theorem at13_v16_1 (h : Launched m c p) : Is2 (n := 4096) (m := 2816) (W13 m ρ c (Proc.devRef .tc main_v16_1)) p.dzv :=
  Is2.of_eq (W13_of m ρ c main_v16_1 (by decide +kernel)) (at12_v16_1 m ρ c p h)
theorem at13_v16_2 (h : Launched m c p) : Is2 (n := 3) (m := 2816) (W13 m ρ c (Proc.devRef .tc main_v16_2)) p.gCg :=
  Is2.of_eq (W13_of m ρ c main_v16_2 (by decide +kernel)) (at12_v16_2 m ρ c p h)
theorem at13_v16_3 (h : Launched m c p) : Is2 (n := 3) (m := 2816) (W13 m ρ c (Proc.devRef .tc main_v16_3)) p.gCv :=
  Is2.of_eq (W13_of m ρ c main_v16_3 (by decide +kernel)) (at12_v16_3 m ρ c p h)
theorem at13_v17 (h : Launched m c p) : Is2 (n := 2816) (m := 1024) (W13 m ρ c (Proc.devRef .tc main_v17)) p.gUg :=
  Is2.of_eq (W13_of m ρ c main_v17 (by decide +kernel)) (at12_v17 m ρ c p h)
theorem at13_v18 (h : Launched m c p) : Is2 (n := 2816) (m := 1024) (W13 m ρ c (Proc.devRef .tc main_v18)) p.gUv :=
  Is2.of_eq (W13_of m ρ c main_v18 (by decide +kernel)) (at12_v18 m ρ c p h)
/-! ## Boundary 14 -/

theorem at14_v20 (h : Launched m c p) : Is2 (n := 4096) (m := 1024) (W14 m ρ c (Proc.devRef .tc main_v20)) p.dh :=
  Is2.of_fun (Is2.of_eq (W14_arr m ρ c 3) (R11.final (V13 m ρ) c p.dzv _ (mulT 2816 p.dzg p.U) (at13_v16_1 m ρ c p h) (at13_v4 m ρ c p h) (at13_v19 m ρ c p h))) (fun _ _ => add_comm _ _)
theorem at14_arg0 (h : Launched m c p) : Is2 (n := 4096) (m := 1024) (W14 m ρ c (Proc.devRef .tc main_arg0)) p.X :=
  Is2.of_eq (W14_of m ρ c main_arg0 (by decide +kernel)) (at13_arg0 m ρ c p h)
theorem at14_arg5 (h : Launched m c p) : Is2 (n := 4096) (m := 1024) (W14 m ρ c (Proc.devRef .tc main_arg5)) p.G :=
  Is2.of_eq (W14_of m ρ c main_arg5 (by decide +kernel)) (at13_arg5 m ρ c p h)
theorem at14_v2 (h : Launched m c p) : Is2 (n := 1) (m := 1024) (W14 m ρ c (Proc.devRef .tc main_v2)) (fun _ d => p.N d) :=
  Is2.of_eq (W14_of m ρ c main_v2 (by decide +kernel)) (at13_v2 m ρ c p h)
theorem at14_v12 (h : Launched m c p) : Is2 (n := 4096) (m := 1024) (W14 m ρ c (Proc.devRef .tc main_v12)) p.y :=
  Is2.of_eq (W14_of m ρ c main_v12 (by decide +kernel)) (at13_v12 m ρ c p h)
theorem at14_v15 (h : Launched m c p) : Is2 (n := 2816) (m := 1024) (W14 m ρ c (Proc.devRef .tc main_v15)) p.gW :=
  Is2.of_eq (W14_of m ρ c main_v15 (by decide +kernel)) (at13_v15 m ρ c p h)
theorem at14_v16_2 (h : Launched m c p) : Is2 (n := 3) (m := 2816) (W14 m ρ c (Proc.devRef .tc main_v16_2)) p.gCg :=
  Is2.of_eq (W14_of m ρ c main_v16_2 (by decide +kernel)) (at13_v16_2 m ρ c p h)
theorem at14_v16_3 (h : Launched m c p) : Is2 (n := 3) (m := 2816) (W14 m ρ c (Proc.devRef .tc main_v16_3)) p.gCv :=
  Is2.of_eq (W14_of m ρ c main_v16_3 (by decide +kernel)) (at13_v16_3 m ρ c p h)
theorem at14_v17 (h : Launched m c p) : Is2 (n := 2816) (m := 1024) (W14 m ρ c (Proc.devRef .tc main_v17)) p.gUg :=
  Is2.of_eq (W14_of m ρ c main_v17 (by decide +kernel)) (at13_v17 m ρ c p h)
theorem at14_v18 (h : Launched m c p) : Is2 (n := 2816) (m := 1024) (W14 m ρ c (Proc.devRef .tc main_v18)) p.gUv :=
  Is2.of_eq (W14_of m ρ c main_v18 (by decide +kernel)) (at13_v18 m ρ c p h)
/-! ## Boundary 15 -/

theorem at15_v21_0 (h : Launched m c p) : Is2 (n := 4096) (m := 1024) (W15 m ρ c (Proc.devRef .tc main_v21_0)) p.dx :=
  Is2.of_eq (W15_arr m ρ c 4) (R12.final4 (V14 m ρ) c p.X p.dh p.G p.N (at14_v20 m ρ c p h) (at14_arg0 m ρ c p h) (at14_v2 m ρ c p h) (at14_arg5 m ρ c p h))
theorem at15_v21_1 (h : Launched m c p) : Is2 (n := 4096) (m := 1024) (W15 m ρ c (Proc.devRef .tc main_v21_1)) p.dx :=
  Is2.of_eq (W15_arr m ρ c 5) (R12.final5 (V14 m ρ) c p.X p.dh p.G p.N (at14_v20 m ρ c p h) (at14_arg0 m ρ c p h) (at14_v2 m ρ c p h) (at14_arg5 m ρ c p h))
theorem at15_v21_2 (h : Launched m c p) : Is2 (n := 1) (m := 1024) (W15 m ρ c (Proc.devRef .tc main_v21_2)) (fun _ d => p.dn d) :=
  Is2.of_eq (W15_arr m ρ c 6) (R12.final6 (V14 m ρ) c p.X p.dh (at14_v20 m ρ c p h) (at14_arg0 m ρ c p h))
theorem at15_v12 (h : Launched m c p) : Is2 (n := 4096) (m := 1024) (W15 m ρ c (Proc.devRef .tc main_v12)) p.y :=
  Is2.of_eq (W15_of m ρ c main_v12 (by decide +kernel)) (at14_v12 m ρ c p h)
theorem at15_v15 (h : Launched m c p) : Is2 (n := 2816) (m := 1024) (W15 m ρ c (Proc.devRef .tc main_v15)) p.gW :=
  Is2.of_eq (W15_of m ρ c main_v15 (by decide +kernel)) (at14_v15 m ρ c p h)
theorem at15_v16_2 (h : Launched m c p) : Is2 (n := 3) (m := 2816) (W15 m ρ c (Proc.devRef .tc main_v16_2)) p.gCg :=
  Is2.of_eq (W15_of m ρ c main_v16_2 (by decide +kernel)) (at14_v16_2 m ρ c p h)
theorem at15_v16_3 (h : Launched m c p) : Is2 (n := 3) (m := 2816) (W15 m ρ c (Proc.devRef .tc main_v16_3)) p.gCv :=
  Is2.of_eq (W15_of m ρ c main_v16_3 (by decide +kernel)) (at14_v16_3 m ρ c p h)
theorem at15_v17 (h : Launched m c p) : Is2 (n := 2816) (m := 1024) (W15 m ρ c (Proc.devRef .tc main_v17)) p.gUg :=
  Is2.of_eq (W15_of m ρ c main_v17 (by decide +kernel)) (at14_v17 m ρ c p h)
theorem at15_v18 (h : Launched m c p) : Is2 (n := 2816) (m := 1024) (W15 m ρ c (Proc.devRef .tc main_v18)) p.gUv :=
  Is2.of_eq (W15_of m ρ c main_v18 (by decide +kernel)) (at14_v18 m ρ c p h)

end Cert.KernelIdeal.Value

end
-- ==== Proof.KRun.lean ====
module

public import proofs.«01_k».proof.Proof.Gen.KernelIdeal.Frame

@[expose] public section

set_option maxRecDepth 16384

/-! # The run of the kernel program, with its nine results at the contents the last region leaves -/

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends, with each result at the contents of the last boundary and every argument as launched. -/
theorem run : θ_run defs (onTc (τ := τ) (main (F := F))) ⟨m, fun _ => 0, ρ⟩ (fun r => ∀ c : Dev nD,
      r.2.mem ((c.tc : Thread nD τ).loc main_v12) = W15 m ρ c (Proc.devRef .tc main_v12)
      ∧ r.2.mem ((c.tc : Thread nD τ).loc main_v21_0) = W15 m ρ c (Proc.devRef .tc main_v21_0)
      ∧ r.2.mem ((c.tc : Thread nD τ).loc main_v21_1) = W15 m ρ c (Proc.devRef .tc main_v21_1)
      ∧ r.2.mem ((c.tc : Thread nD τ).loc main_v21_2) = W15 m ρ c (Proc.devRef .tc main_v21_2)
      ∧ r.2.mem ((c.tc : Thread nD τ).loc main_v17) = W15 m ρ c (Proc.devRef .tc main_v17)
      ∧ r.2.mem ((c.tc : Thread nD τ).loc main_v18) = W15 m ρ c (Proc.devRef .tc main_v18)
      ∧ r.2.mem ((c.tc : Thread nD τ).loc main_v16_2) = W15 m ρ c (Proc.devRef .tc main_v16_2)
      ∧ r.2.mem ((c.tc : Thread nD τ).loc main_v16_3) = W15 m ρ c (Proc.devRef .tc main_v16_3)
      ∧ r.2.mem ((c.tc : Thread nD τ).loc main_v15) = W15 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h _ => fun c =>
      ⟨h c _ (mem_uc main_v12 (by decide)),
       h c _ (mem_uc main_v21_0 (by decide)),
       h c _ (mem_uc main_v21_1 (by decide)),
       h c _ (mem_uc main_v21_2 (by decide)),
       h c _ (mem_uc main_v17 (by decide)),
       h c _ (mem_uc main_v18 (by decide)),
       h c _ (mem_uc main_v16_2 (by decide)),
       h c _ (mem_uc main_v16_3 (by decide)),
       h c _ (mem_uc main_v15 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c)⟩)

end Cert.KernelIdeal.Value

end
-- ==== Proof.Finite.lean ====
module

public import proofs.«01_k».proof.Defs
public import proofs.«01_k».proof.Proof.Host
public import Idealize.ShloMosaic.Lib.ReduceAll

@[expose] public section

set_option maxRecDepth 16384

/-! # The precondition: every element of the six arguments is a real -/

noncomputable section

open Idealize.ShloMosaic

namespace Cert.Finite
open Cert.Layer Cert.Pre_finite

theorem h_S_ : 0 < S_.numel := by decide

/-- The side conditions of the precondition's operations. -/
instance facts : Cert.Pre_finite.Facts where
  bcast_S_S4096x1024 := by decide
  reducesTo_S4096x1024_S_d0_1 := by decide
  h_S_ := h_S_
  bcast_S_S1024 := by decide
  reducesTo_S1024_S_d0 := by decide
  bcast_S_S1024x5632 := by decide
  reducesTo_S1024x5632_S_d0_1 := by decide
  bcast_S_S3x5632 := by decide
  reducesTo_S3x5632_S_d0_1 := by decide
  bcast_S_S2816x1024 := by decide
  reducesTo_S2816x1024_S_d0_1 := by decide

/-- An extended real whose absolute value is under the top is a real. -/
theorem real_of_lt (x : EReal) (h : Ideal.cmp .olt (max x (-x)) (Ideal.ofBits .f32 0x7F800000#32) = 1#1) : x = ((x.toReal : ℝ) : EReal) := by
  rw [lit_top] at h
  have h' : max x (-x) < ⊤ := by
    by_contra hn
    simp [Ideal.cmp, hn] at h
  refine (EReal.coe_toReal ?_ ?_).symm
  · rintro rfl; simp at h'
  · rintro rfl; simp at h'

/-- A matrix's elements as reals. -/
def real2 {n m : ℕ} (A : (⟨2, ![n, m]⟩ : Shape).Idx → EReal) (i j : ℕ) : ℝ :=
  if h : i < n ∧ j < m then (A (ValueIdx.ix2 ⟨i, h.1⟩ ⟨j, h.2⟩)).toReal else 0
/-- A vector's. -/
def real1 {n : ℕ} (A : (⟨1, ![n]⟩ : Shape).Idx → EReal) (i : ℕ) : ℝ :=
  if h : i < n then (A fun a => match a with | ⟨0, _⟩ => ⟨i, h⟩).toReal else 0

theorem is2 {n m : ℕ} (A : (⟨2, ![n, m]⟩ : Shape).Idx → EReal) (h : ∀ i, A i = (((A i).toReal : ℝ) : EReal)) : Is2 A (real2 A) := fun i => by
  have hi : (i 0 : ℕ) < n ∧ (i 1 : ℕ) < m := ⟨(i 0).isLt, (i 1).isLt⟩
  unfold real2
  rw [dif_pos hi]
  exact (h i).trans (congrArg (fun q => (((A q).toReal : ℝ) : EReal)) (ValueIdx.eq_ix2 i))
theorem is1 {n : ℕ} (A : (⟨1, ![n]⟩ : Shape).Idx → EReal) (h : ∀ i, A i = (((A i).toReal : ℝ) : EReal)) : Is1 A (real1 A) := fun i => by
  have hi : (i 0 : ℕ) < n := (i 0).isLt
  unfold real1
  rw [dif_pos hi]
  refine (h i).trans (congrArg (fun q => (((A q).toReal : ℝ) : EReal)) (funext fun a => ?_))
  match a with
  | ⟨0, _⟩ => rfl

/-- What the conjunction says of one argument. -/
theorem reals {s : Shape} {axes : List (Fin s.rank)} (A : FVec Ideal s .f32) (hb : S_.BroadcastsInDim s (![] : Fin 0 → Fin s.rank)) (hr : s.ReducesTo axes S_)
    (j : S_.Idx) (e : Host.reduce IntOp.andi (cmpf .olt (Host.absf A) (broadcastInDim s ![] hb (constant S_ .f32 0x7F800000#32))) (constantI S_ 1 1#1) hr h_S_ j = 1#1)
    (i : s.Idx) : A i = (((EReal.toReal (A i)) : ℝ) : EReal) :=
  haveI : Subsingleton S_.Idx := ⟨fun a b => funext fun q => q.elim0⟩
  real_of_lt _ (Host.reduce_andi_all _ _ hr h_S_ j e i)

open Cert.KernelIdeal in
/-- Under the precondition every device's arguments hold reals. -/
theorem launched (m : (ℓ : Loc nD τ sig) → Buf (Elt Ideal) ℓ) (h : Cert.Pre_KernelIdeal_finite m) (c : Dev nD) : ∃ p : Args, Cert.KernelIdeal.Value.Launched m c p := by
  have e : ∀ x y : BitVec 1, IntOp.andi x y = 1#1 → x = 1#1 ∧ y = 1#1 := by decide
  have hc := congrFun (h c) (Shape.Idx.first h_S_)
  simp only [Cert.Pre_finite.fn, Cert.Pre_finite.fn_part1] at hc
  obtain ⟨hc, h5⟩ := e _ _ hc
  obtain ⟨hc, h4⟩ := e _ _ hc
  obtain ⟨hc, h3⟩ := e _ _ hc
  obtain ⟨hc, h2⟩ := e _ _ hc
  obtain ⟨h0, h1⟩ := e _ _ hc
  exact ⟨⟨real2 (n := 4096) (m := 1024) _, real1 (n := 1024) _, real2 (n := 1024) (m := 5632) _, real2 (n := 3) (m := 5632) _, real2 (n := 2816) (m := 1024) _, real2 (n := 4096) (m := 1024) _⟩,
    is2 _ (reals _ _ _ _ h0), is1 _ (reals _ _ _ _ h1), is2 _ (reals _ _ _ _ h2), is2 _ (reals _ _ _ _ h3), is2 _ (reals _ _ _ _ h4), is2 _ (reals _ _ _ _ h5)⟩

end Cert.Finite

end
-- ==== Proof.Softmax.lean ====
module

public import proofs.«01_k».proof.Proof.Reals

@[expose] public section

/-! # Causal attention over the reals, and one row of it taken block by block

A matrix holds eight heads side by side, 128 columns each. `A` is the queries with the score's scale and the base-two
logarithm's factor already multiplied in, `K` the keys, `V` the values and `D` the gradient that reaches the output. -/

noncomputable section

open Idealize.ShloMosaic Cert.Layer

namespace Cert.Attn

/-- The weight of column `c` in row `r`, its score taken relative to `μ`: nothing beyond the diagonal. -/
def wt (s : ℕ → ℝ) (r : ℕ) (μ : ℝ) (c : ℕ) : ℝ := if c ≤ r then (2 : ℝ) ^ (s c - μ) else 0

/-- The score of key `c` for query `r` in head `h`, as a base-two exponent. -/
def score (A K : ℕ → ℕ → ℝ) (h r c : ℕ) : ℝ := ∑ d ∈ Finset.range 128, A r (h * 128 + d) * K c (h * 128 + d)

/-- The total weight of a row. -/
def tot (A K : ℕ → ℕ → ℝ) (h r : ℕ) : ℝ := ∑ c ∈ Finset.range 4096, wt (score A K h r) r 0 c

/-- The attention probability. -/
def prob (A K : ℕ → ℕ → ℝ) (h r c : ℕ) : ℝ := wt (score A K h r) r 0 c / tot A K h r

/-- The attention's output. -/
def out (A K V : ℕ → ℕ → ℝ) (r j : ℕ) : ℝ := ∑ c ∈ Finset.range 4096, prob A K (j / 128) r c * V c j

/-- The base-two logarithm of a row's total weight. -/
def lse (A K : ℕ → ℕ → ℝ) (h r : ℕ) : ℝ := Real.log (tot A K h r) * (Real.log 2)⁻¹

/-- The gradient that reaches a probability. -/
def dprob (V D : ℕ → ℕ → ℝ) (h r c : ℕ) : ℝ := ∑ d ∈ Finset.range 128, D r (h * 128 + d) * V c (h * 128 + d)

/-- A row's output against its gradient. -/
def delta (A K V D : ℕ → ℕ → ℝ) (h r : ℕ) : ℝ :=
  ∑ d ∈ Finset.range 128, D r (h * 128 + d) * out A K V r (h * 128 + d)

/-- The gradient that reaches a score. -/
def dscore (A K V D : ℕ → ℕ → ℝ) (h r c : ℕ) : ℝ := prob A K h r c * (dprob V D h r c - delta A K V D h r)

/-- The gradients of queries, keys and values. -/
def dq (A K V D : ℕ → ℕ → ℝ) (r j : ℕ) : ℝ :=
  (∑ c ∈ Finset.range 4096, dscore A K V D (j / 128) r c * K c j) * (Real.sqrt 96)⁻¹

def dk (A K V D : ℕ → ℕ → ℝ) (c j : ℕ) : ℝ :=
  (∑ r ∈ Finset.range 4096, dscore A K V D (j / 128) r c * A r j) * Real.log 2

def dv (A K D : ℕ → ℕ → ℝ) (c j : ℕ) : ℝ := ∑ r ∈ Finset.range 4096, prob A K (j / 128) r c * D r j

theorem lit_bot : (Ideal.ofBits .f32 0xFF800000#32 : EReal) = ⊥ := by
  simp [Ideal.ofBits, Ideal.ieee]

/-! ## Weights -/

theorem wt_nonneg (s : ℕ → ℝ) (r : ℕ) (μ : ℝ) (c : ℕ) : 0 ≤ wt s r μ c := by
  unfold wt; split
  · exact (Real.rpow_pos_of_pos two_pos _).le
  · exact le_rfl

theorem wt_of_lt {s : ℕ → ℝ} {r : ℕ} {μ : ℝ} {c : ℕ} (h : r < c) : wt s r μ c = 0 := if_neg h.not_ge

/-- Moving the reference point multiplies every weight alike. -/
theorem wt_shift (s : ℕ → ℝ) (r : ℕ) (μ ν : ℝ) (c : ℕ) : wt s r ν c = (2 : ℝ) ^ (μ - ν) * wt s r μ c := by
  unfold wt; split
  · rw [← Real.rpow_add two_pos]; congr 1; ring
  · rw [mul_zero]

/-- A sum against the weights stops at any bound past the diagonal. -/
theorem wt_sum (s f : ℕ → ℝ) {r N M : ℕ} (μ : ℝ) (hr : r < N) (h : N ≤ M) :
    ∑ c ∈ Finset.range N, wt s r μ c * f c = ∑ c ∈ Finset.range M, wt s r μ c * f c :=
  Finset.sum_subset (Finset.range_mono h) fun c _ hc => by
    rw [wt_of_lt (hr.trans_le (not_lt.1 fun hh => hc (Finset.mem_range.2 hh))), zero_mul]

theorem wt_sum_pos (s : ℕ → ℝ) {r N : ℕ} (μ : ℝ) (hN : 0 < N) : 0 < ∑ c ∈ Finset.range N, wt s r μ c :=
  Finset.sum_pos' (fun c _ => wt_nonneg s r μ c)
    ⟨0, Finset.mem_range.2 hN, by rw [wt, if_pos (Nat.zero_le _)]; exact Real.rpow_pos_of_pos two_pos _⟩

theorem tot_pos (A K : ℕ → ℕ → ℝ) (h r : ℕ) : 0 < tot A K h r := wt_sum_pos _ 0 (by norm_num)

/-- The probability as the power of the score less the row's logarithm. -/
theorem prob_eq (A K : ℕ → ℕ → ℝ) (h r c : ℕ) :
    prob A K h r c = if c ≤ r then (2 : ℝ) ^ (score A K h r c - lse A K h r) else 0 := by
  unfold prob wt; split
  · have hl : Real.log 2 ≠ 0 := (Real.log_pos (by norm_num)).ne'
    have e : tot A K h r = (2 : ℝ) ^ lse A K h r := by
      rw [Real.rpow_def_of_pos two_pos, lse, mul_comm, mul_assoc, inv_mul_cancel₀ hl, mul_one, Real.exp_log (tot_pos A K h r)]
    rw [sub_zero, Real.rpow_sub two_pos, ← e]
  · exact zero_div _

/-! ## One row, block by block -/

/-- What a row carries when its first `N` columns are done: nothing, or a reference point with the total weight and the
    weighted values relative to it. -/
def Soft {ι : Type} (s : ℕ → ℝ) (v : ℕ → ι → ℝ) (r N : ℕ) (m l : EReal) (a : ι → EReal) : Prop :=
  (N = 0 ∧ m = ⊥ ∧ l = 0 ∧ ∀ d, a d = 0) ∨
    ∃ μ : ℝ, m = (μ : EReal) ∧ l = ((∑ c ∈ Finset.range N, wt s r μ c : ℝ) : EReal) ∧
      ∀ d, a d = ((∑ c ∈ Finset.range N, wt s r μ c * v c d : ℝ) : EReal)

/-- The larger of a row's reference point and a block's greatest score is a real number. -/
theorem fold_real {n : ℕ} (m : EReal) (hm : m ≠ ⊤) (x : Fin n → EReal) (hx : ∀ k, x k ≠ ⊤) (k₀ : Fin n) (h₀ : x k₀ ≠ ⊥) :
    ∃ μ : ℝ, max m (Finset.univ.fold max ⊥ x) = (μ : EReal) := by
  refine ⟨EReal.toReal _, (EReal.coe_toReal ?_ ?_).symm⟩
  · refine (max_lt hm.lt_top ?_).ne
    rw [Finset.fold_max_lt]
    exact ⟨bot_lt_top, fun k _ => (hx k).lt_top⟩
  · refine (lt_max_of_lt_right ?_).ne'
    rw [Finset.lt_fold_max]
    exact Or.inr ⟨k₀, Finset.mem_univ _, h₀.bot_lt⟩

/-- One more block: the reference point raised to the block's greatest score, what was carried rescaled, the block added. -/
theorem Soft.step {ι : Type} {s : ℕ → ℝ} {v : ℕ → ι → ℝ} {r N n : ℕ} {m l : EReal} {a : ι → EReal} (h : Soft s v r N m l a)
    (hn : 0 < n) (hN : N ≤ r) (x : Fin n → EReal)
    (hx : ∀ k : Fin n, x k = if N + (k : ℕ) ≤ r then ((s (N + (k : ℕ)) : ℝ) : EReal) else ⊥)
    {m' : EReal} (hm : m' = max m (Finset.univ.fold max ⊥ x)) :
    Soft s v r (N + n) m' (Ideal.exp2 (m - m') * l + ∑ k : Fin n, Ideal.exp2 (x k - m'))
      (fun d => Ideal.exp2 (m - m') * a d + ∑ k : Fin n, Ideal.exp2 (x k - m') * ((v (N + (k : ℕ)) d : ℝ) : EReal)) := by
  have hxt : ∀ k, x k ≠ ⊤ := fun k => by rw [hx]; split <;> simp
  have hmt : m ≠ ⊤ := by
    rcases h with ⟨-, h, -⟩ | ⟨μ, h, -⟩ <;> simp [h]
  obtain ⟨μ', hμ⟩ := fold_real m hmt x hxt ⟨0, hn⟩ (by rw [hx]; simp [hN])
  rw [hμ] at hm
  subst hm
  have e : ∀ k : Fin n, Ideal.exp2 (x k - (μ' : EReal)) = ((wt s r μ' (N + (k : ℕ)) : ℝ) : EReal) := by
    intro k; rw [hx, wt]; split
    · rw [← EReal.coe_sub, Ideal.exp2_coe]; rfl
    · rw [EReal.bot_sub, Ideal.exp2_bot]; rfl
  have hl : ∑ k : Fin n, Ideal.exp2 (x k - (μ' : EReal)) = ((∑ k ∈ Finset.range n, wt s r μ' (N + k) : ℝ) : EReal) :=
    sum_fin _ (fun k => wt s r μ' (N + k)) e
  have ha : ∀ d, ∑ k : Fin n, Ideal.exp2 (x k - (μ' : EReal)) * ((v (N + (k : ℕ)) d : ℝ) : EReal)
      = ((∑ k ∈ Finset.range n, wt s r μ' (N + k) * v (N + k) d : ℝ) : EReal) := fun d =>
    sum_fin _ (fun k => wt s r μ' (N + k) * v (N + k) d) fun k => by rw [e, EReal.coe_mul]
  refine Or.inr ⟨μ', rfl, ?_, fun d => ?_⟩
  · rw [hl, Finset.sum_range_add]
    rcases h with ⟨hN0, -, h, -⟩ | ⟨μ, h, h', -⟩
    · subst hN0; rw [h]; simp
    · rw [h, h', ← EReal.coe_sub, Ideal.exp2_coe, ← EReal.coe_mul, ← EReal.coe_add]
      congr 2
      rw [Finset.mul_sum]
      exact Finset.sum_congr rfl fun c _ => (wt_shift s r μ μ' c).symm
  · dsimp only
    rw [ha, Finset.sum_range_add]
    rcases h with ⟨hN0, -, -, h⟩ | ⟨μ, h, -, h'⟩
    · subst hN0; rw [h]; simp
    · rw [h, h', ← EReal.coe_sub, Ideal.exp2_coe, ← EReal.coe_mul, ← EReal.coe_add]
      congr 2
      rw [Finset.mul_sum]
      refine Finset.sum_congr rfl fun c _ => ?_
      rw [← mul_assoc]
      exact congrArg (· * v c d) (wt_shift s r μ μ' c).symm

/-- A row past its diagonal gives the weighted mean of the values. -/
theorem Soft.mean {ι : Type} {s : ℕ → ℝ} {v : ℕ → ι → ℝ} {r N : ℕ} {m l : EReal} {a : ι → EReal} (h : Soft s v r N m l a)
    (hr : r < N) (hN : N ≤ 4096) (d : ι) :
    Ideal.div (a d) l = ((∑ c ∈ Finset.range 4096, wt s r 0 c / (∑ c ∈ Finset.range 4096, wt s r 0 c) * v c d : ℝ) : EReal) := by
  rcases h with ⟨hN0, -⟩ | ⟨μ, -, hl, ha⟩
  · omega
  have hp := wt_sum_pos s (r := r) μ (N := N) (by omega)
  rw [ha, hl, Ideal.div_coe hp.ne', ← EReal.coe_mul]
  congr 1
  have e1 : ∑ c ∈ Finset.range N, wt s r μ c = (2 : ℝ) ^ (0 - μ) * ∑ c ∈ Finset.range 4096, wt s r 0 c := by
    have := wt_sum s (fun _ => 1) μ hr hN
    simp only [mul_one] at this
    rw [this, Finset.mul_sum]
    exact Finset.sum_congr rfl fun c _ => wt_shift s r 0 μ c
  have e2 : ∑ c ∈ Finset.range N, wt s r μ c * v c d = (2 : ℝ) ^ (0 - μ) * ∑ c ∈ Finset.range 4096, wt s r 0 c * v c d := by
    rw [wt_sum s (fun c => v c d) μ hr hN, Finset.mul_sum]
    exact Finset.sum_congr rfl fun c _ => by rw [wt_shift s r 0 μ c]; ring
  have hq := wt_sum_pos s (r := r) 0 (N := 4096) (by norm_num)
  have h2 : (2 : ℝ) ^ (0 - μ) ≠ 0 := (Real.rpow_pos_of_pos two_pos _).ne'
  rw [e1, e2]
  have e3 : ∑ c ∈ Finset.range 4096, wt s r 0 c / (∑ c ∈ Finset.range 4096, wt s r 0 c) * v c d
      = (∑ c ∈ Finset.range 4096, wt s r 0 c * v c d) / (∑ c ∈ Finset.range 4096, wt s r 0 c) := by
    rw [Finset.sum_div]; exact Finset.sum_congr rfl fun c _ => by ring
  rw [e3]
  field_simp

/-- A row past its diagonal gives the logarithm of its total weight. -/
theorem Soft.lse {ι : Type} {s : ℕ → ℝ} {v : ℕ → ι → ℝ} {r N : ℕ} {m l : EReal} {a : ι → EReal} (h : Soft s v r N m l a)
    (hr : r < N) (hN : N ≤ 4096) :
    m + Ideal.log l * (((Real.log 2)⁻¹ : ℝ) : EReal)
      = ((Real.log (∑ c ∈ Finset.range 4096, wt s r 0 c) * (Real.log 2)⁻¹ : ℝ) : EReal) := by
  rcases h with ⟨hN0, -⟩ | ⟨μ, hm, hl, -⟩
  · omega
  have hp := wt_sum_pos s (r := r) μ (N := N) (by omega)
  have e1 : ∑ c ∈ Finset.range N, wt s r μ c = (2 : ℝ) ^ (0 - μ) * ∑ c ∈ Finset.range 4096, wt s r 0 c := by
    have := wt_sum s (fun _ => 1) μ hr hN
    simp only [mul_one] at this
    rw [this, Finset.mul_sum]
    exact Finset.sum_congr rfl fun c _ => wt_shift s r 0 μ c
  have hq := wt_sum_pos s (r := r) 0 (N := 4096) (by norm_num)
  have h2 : (0 : ℝ) < (2 : ℝ) ^ (0 - μ) := Real.rpow_pos_of_pos two_pos _
  have hl2 : Real.log 2 ≠ 0 := (Real.log_pos (by norm_num)).ne'
  rw [hm, hl, Ideal.log_coe, if_neg hp.not_ge, ← EReal.coe_mul, ← EReal.coe_add]
  congr 1
  rw [e1, Real.log_mul h2.ne' hq.ne', Real.log_rpow two_pos]
  field_simp
  ring

end Cert.Attn
-- ==== Proof.Heads.lean ====
module

public import proofs.«01_k».proof.Proof.Softmax
public import proofs.«01_k».proof.Proof.Arrays
public import Idealize.ShloMosaic.Lib.ValueLayout

@[expose] public section

/-! # Arrays of heads

An array of rows, heads and a head's columns, and the matrix that holds it with each head's columns widened to 128. -/

noncomputable section

open Idealize.ShloMosaic Cert.Layer

namespace Cert.Attn

/-- Entry `(i, j, k)` of the array `X` is the real number `f i j k`. -/
def Is3 {a b c : ℕ} (X : (⟨3, ![a, b, c]⟩ : Shape).Idx → EReal) (f : ℕ → ℕ → ℕ → ℝ) : Prop :=
  ∀ i, X i = ((f (i 0 : ℕ) (i 1 : ℕ) (i 2 : ℕ) : ℝ) : EReal)

/-- Each head's `w` columns from column `lo` of its 128 on, zeros elsewhere. -/
def wide (lo w : ℕ) (f : ℕ → ℕ → ℕ → ℝ) (r j : ℕ) : ℝ := if lo ≤ j % 128 ∧ j % 128 - lo < w then f r (j / 128) (j % 128 - lo) else 0

variable {n lo w hi : ℕ} {f : ℕ → ℕ → ℕ → ℝ}

/-- A widened array. -/
theorem Is3.pad {A : (⟨3, ![n, 8, w]⟩ : Shape).Idx → EReal} (hA : Is3 A f) {u : Shape} {z : u.Idx → EReal}
    (hp : (⟨3, ![n, 8, w]⟩ : Shape).Pads ![0, 0, lo] ![0, 0, hi] ![0, 0, 0] ⟨3, ![n, 8, 128]⟩) (hu : 0 < u.numel)
    (hz : z (Shape.Idx.first hu) = ((0 : ℝ) : EReal)) :
    Is3 (Idealize.ShloMosaic.pad ⟨3, ![n, 8, 128]⟩ ![0, 0, lo] ![0, 0, hi] ![0, 0, 0] A z hp hu)
      (fun r h d => if lo ≤ d ∧ d - lo < w then f r h (d - lo) else 0) := fun i => by
  show _ = ((if lo ≤ (i 2 : ℕ) ∧ (i 2 : ℕ) - lo < w then f (i 0 : ℕ) (i 1 : ℕ) ((i 2 : ℕ) - lo) else 0 : ℝ) : EReal)
  by_cases hi : lo ≤ (i 2 : ℕ) ∧ (i 2 : ℕ) - lo < w
  · rw [if_pos hi]
    let k : (⟨3, ![n, 8, w]⟩ : Shape).Idx := fun q => match q with
      | ⟨0, _⟩ => ⟨(i 0 : ℕ), (i 0).isLt⟩
      | ⟨1, _⟩ => ⟨(i 1 : ℕ), (i 1).isLt⟩
      | ⟨2, _⟩ => ⟨(i 2 : ℕ) - lo, hi.2⟩
    rw [pad_apply_of_inside _ _ _ A z hp hu i k fun q => by
      match q with
      | ⟨0, _⟩ => show (i 0 : ℕ) = 0 + (i 0 : ℕ) * 1; omega
      | ⟨1, _⟩ => show (i 1 : ℕ) = 0 + (i 1 : ℕ) * 1; omega
      | ⟨2, _⟩ => show (i 2 : ℕ) = lo + ((i 2 : ℕ) - lo) * 1; omega]
    exact hA k
  · rw [if_neg hi, pad_apply_of_not_inside _ _ _ A z hp hu i (2 : Fin 3) fun hq => hi ?_]
    · exact hz
    · have h1 : lo ≤ (i 2 : ℕ) := hq.1
      have h2 : ((i 2 : ℕ) - lo) / (0 + 1) < w := hq.2.2
      exact ⟨h1, by omega⟩

/-- The heads' columns side by side. -/
theorem Is3.flat {X : (⟨3, ![n, 8, 128]⟩ : Shape).Idx → EReal} (hX : Is3 X f) (hc : (⟨3, ![n, 8, 128]⟩ : Shape).ShapeCasts ⟨2, ![n, 1024]⟩) :
    Is2 (shapeCast ⟨2, ![n, 1024]⟩ X hc) (fun r j => f r (j / 128) (j % 128)) := fun i => by
  have h1 : (i 1 : ℕ) < 1024 := (i 1).isLt
  let k : (⟨3, ![n, 8, 128]⟩ : Shape).Idx := fun q => match q with
    | ⟨0, _⟩ => ⟨(i 0 : ℕ), (i 0).isLt⟩
    | ⟨1, _⟩ => ⟨(i 1 : ℕ) / 128, by show (i 1 : ℕ) / 128 < 8; omega⟩
    | ⟨2, _⟩ => ⟨(i 1 : ℕ) % 128, by show (i 1 : ℕ) % 128 < 128; omega⟩
  rw [shapeCast_apply X hc i k (by
    rw [Shape.rowMajor_val_three, Shape.rowMajor_val_two]
    show ((i 0 : ℕ) * 8 + (i 1 : ℕ) / 128) * 128 + (i 1 : ℕ) % 128 = (i 0 : ℕ) * 1024 + (i 1 : ℕ)
    omega)]
  exact hX k

/-- The matrix of a widened array. -/
theorem Is3.wide {A : (⟨3, ![n, 8, w]⟩ : Shape).Idx → EReal} (hA : Is3 A f) {u : Shape} {z : u.Idx → EReal}
    (hp : (⟨3, ![n, 8, w]⟩ : Shape).Pads ![0, 0, lo] ![0, 0, hi] ![0, 0, 0] ⟨3, ![n, 8, 128]⟩) (hu : 0 < u.numel)
    (hz : z (Shape.Idx.first hu) = ((0 : ℝ) : EReal)) (hc : (⟨3, ![n, 8, 128]⟩ : Shape).ShapeCasts ⟨2, ![n, 1024]⟩) :
    Is2 (shapeCast ⟨2, ![n, 1024]⟩ (Idealize.ShloMosaic.pad ⟨3, ![n, 8, 128]⟩ ![0, 0, lo] ![0, 0, hi] ![0, 0, 0] A z hp hu) hc) (Attn.wide lo w f) :=
  (hA.pad hp hu hz).flat hc

/-- A head's column of numbers laid out as a row. -/
theorem turn {X : (⟨3, ![8, n, 1]⟩ : Shape).Idx → EReal} {g : ℕ → ℕ → ℝ} (hX : ∀ i, X i = ((g (i 0 : ℕ) (i 1 : ℕ) : ℝ) : EReal))
    (hc : (⟨3, ![8, n, 1]⟩ : Shape).ShapeCasts ⟨3, ![8, 1, n]⟩) (i : (⟨3, ![8, 1, n]⟩ : Shape).Idx) :
    shapeCast ⟨3, ![8, 1, n]⟩ X hc i = ((g (i 0 : ℕ) (i 2 : ℕ) : ℝ) : EReal) := by
  have h1 : (i 1 : ℕ) < 1 := (i 1).isLt
  let k : (⟨3, ![8, n, 1]⟩ : Shape).Idx := fun q => match q with
    | ⟨0, _⟩ => ⟨(i 0 : ℕ), (i 0).isLt⟩
    | ⟨1, _⟩ => ⟨(i 2 : ℕ), (i 2).isLt⟩
    | ⟨2, _⟩ => ⟨0, Nat.one_pos⟩
  rw [shapeCast_apply X hc i k (by
    rw [Shape.rowMajor_val_three, Shape.rowMajor_val_three]
    show ((i 0 : ℕ) * n + (i 2 : ℕ)) * 1 + 0 = ((i 0 : ℕ) * 1 + (i 1 : ℕ)) * n + (i 2 : ℕ)
    rw [Nat.lt_one_iff.1 h1]; ring)]
  exact hX k

/-- Inside a head's columns. -/
theorem wide_at (lo w : ℕ) (f : ℕ → ℕ → ℕ → ℝ) (r h d : ℕ) (hd : d < 128) :
    Attn.wide lo w f r (h * 128 + d) = if lo ≤ d ∧ d - lo < w then f r h (d - lo) else 0 := by
  unfold Attn.wide
  rw [show (h * 128 + d) / 128 = h by omega, show (h * 128 + d) % 128 = d by omega]

end Cert.Attn
-- ==== Proof.FHost.lean ====
module

public import proofs.«01_k».proof.Proof.Gen.Kernel2Ideal.Frame
public import proofs.«01_k».proof.Proof.Heads

@[expose] public section

set_option maxRecDepth 16384

/-! # The attention's launch: what the arguments hold, and what the host's lines make of them -/

noncomputable section

open Idealize.ShloMosaic Idealize.ShloMosaic.TcCoe Idealize.SL.Sem

namespace Cert.Attn

/-- The four arguments' real numbers: queries, keys, values and the output's gradient. -/
structure Heads where
  q : ℕ → ℕ → ℕ → ℝ
  k : ℕ → ℕ → ℕ → ℝ
  v : ℕ → ℕ → ℕ → ℝ
  g : ℕ → ℕ → ℕ → ℝ

namespace Heads
variable (p : Heads)

/-- The queries as the kernel takes them, scaled. -/
def A (r j : ℕ) : ℝ := wide 0 96 p.q r j * (1 / (Real.sqrt 96 * Real.log 2))
def K : ℕ → ℕ → ℝ := wide 0 96 p.k
def U : ℕ → ℕ → ℝ := wide 64 64 p.v
def D : ℕ → ℕ → ℝ := wide 64 64 p.g

end Heads
end Cert.Attn

namespace Cert.Kernel2Ideal.Value
open Cert.Kernel2Ideal Cert.Kernel2Ideal.Gen Cert.Layer Cert.Attn

theorem lit_96 : (Ideal.ofBits .f32 0x42C00000#32 : EReal) = ((96 : ℝ) : EReal) := by
  simp [Ideal.ofBits, Ideal.ieee, -EReal.coe_mul]; norm_num

theorem lit_two : (Ideal.ofBits .f32 0x40000000#32 : EReal) = ((2 : ℝ) : EReal) := by
  simp [Ideal.ofBits, Ideal.ieee, -EReal.coe_mul]; norm_num

variable (m : (ℓ : Loc nD τ sig) → Buf (Elt Ideal) ℓ) (ρ : Dev nD → PrngReg) (c : Dev nD) (p : Heads)

/-- The four arguments hold the reals of `p`. -/
structure Launched : Prop where
  hq : Is3 (a := 4096) (b := 8) (c := 96) (m ((c : Thread nD τ).loc main_arg0)) p.q
  hk : Is3 (a := 4096) (b := 8) (c := 96) (m ((c : Thread nD τ).loc main_arg1)) p.k
  hv : Is3 (a := 4096) (b := 8) (c := 64) (m ((c : Thread nD τ).loc main_arg2)) p.v
  hg : Is3 (a := 4096) (b := 8) (c := 64) (m ((c : Thread nD τ).loc main_arg3)) p.g

/-- The padding value. -/
theorem pad_zero (x : (⟨S_, .i32⟩ : BufTy).Contents (Elt Ideal)) (hx : x = constantI S_ 32 0#32) (i : S_.Idx) :
    (sitofp (F := Ideal) .f32 x : S_.Idx → EReal) i = ((0 : ℝ) : EReal) := by
  subst hx
  show ((((0#32 : BitVec 32).toInt : ℤ) : ℝ) : EReal) = _
  simp

/-! ## The arguments widened -/

theorem at2_v0 (h : Launched m c p) : Is3 (a := 4096) (b := 8) (c := 128) (W2 m ρ c (Proc.devRef .tc main_v0))
    (fun r h d => if 0 ≤ d ∧ d - 0 < 96 then p.q r h (d - 0) else 0) := by
  intro i
  unfold_abbrev_sides
  after_results
  exact h.hq.pad pads_S4096x8x96_S4096x8x128_000_000_0320 h_S_ (pad_zero _ rfl _) i

theorem at4_v8 (h : Launched m c p) : Is3 (a := 4096) (b := 8) (c := 128) (W4 m ρ c (Proc.devRef .tc main_v8))
    (fun r h d => if 0 ≤ d ∧ d - 0 < 96 then p.k r h (d - 0) else 0) := by
  intro i
  unfold_abbrev_sides
  after_results
  exact h.hk.pad pads_S4096x8x96_S4096x8x128_000_000_0320 h_S_ (pad_zero _ rfl _) i

theorem at6_v11 (h : Launched m c p) : Is3 (a := 4096) (b := 8) (c := 128) (W6 m ρ c (Proc.devRef .tc main_v11))
    (fun r h d => if 64 ≤ d ∧ d - 64 < 64 then p.v r h (d - 64) else 0) := by
  intro i
  unfold_abbrev_sides
  after_results
  exact h.hv.pad pads_S4096x8x64_S4096x8x128_000_000_6400 h_S_ (pad_zero _ rfl _) i

theorem at8_v14 (h : Launched m c p) : Is3 (a := 4096) (b := 8) (c := 128) (W8 m ρ c (Proc.devRef .tc main_v14))
    (fun r h d => if 64 ≤ d ∧ d - 64 < 64 then p.g r h (d - 64) else 0) := by
  intro i
  unfold_abbrev_sides
  after_results
  exact h.hg.pad pads_S4096x8x64_S4096x8x128_000_000_6400 h_S_ (pad_zero _ rfl _) i

/-! ## The matrices the calls take -/

theorem at3_v7 (h : Launched m c p) : Is2 (n := 4096) (m := 1024) (W3 m ρ c (Proc.devRef .tc main_v7)) p.A := by
  have e := at2_v0 m ρ c p h
  revert e
  unfold W3
  generalize W2 m ρ c = w
  intro e i
  after_results
  pointwise
  refine (congrArg₂ Ideal.div (e (ix3 _ _ _)) (congrArg₂ (fun a b : EReal => a * b)
    ((congrArg Ideal.sqrt lit_96).trans ((Ideal.sqrt_coe 96).trans (if_neg (by norm_num))))
    ((congrArg Ideal.log lit_two).trans ((Ideal.log_coe 2).trans (if_neg (by norm_num)))))).trans ?_
  rw [← EReal.coe_mul, Ideal.div_coe (mul_ne_zero (Real.sqrt_ne_zero'.2 (by norm_num)) (Real.log_pos (by norm_num)).ne'), ← EReal.coe_mul]
  rfl

theorem at5_v10 (h : Launched m c p) : Is2 (n := 4096) (m := 1024) (W5 m ρ c (Proc.devRef .tc main_v10)) p.K := by
  have e := at4_v8 m ρ c p h
  revert e
  unfold W5
  generalize W4 m ρ c = w
  intro e i
  after_results
  pointwise
  exact e (ix3 _ _ _)

theorem at7_v13 (h : Launched m c p) : Is2 (n := 4096) (m := 1024) (W7 m ρ c (Proc.devRef .tc main_v13)) p.U := by
  have e := at6_v11 m ρ c p h
  revert e
  unfold W7
  generalize W6 m ρ c = w
  intro e i
  after_results
  pointwise
  exact e (ix3 _ _ _)

theorem at9_v15 (h : Launched m c p) : Is2 (n := 4096) (m := 1024) (W9 m ρ c (Proc.devRef .tc main_v15)) p.D := by
  have e := at8_v14 m ρ c p h
  revert e
  unfold W9
  generalize W8 m ρ c = w
  intro e i
  after_results
  pointwise
  exact e (ix3 _ _ _)

/-! ## The same matrices at the first call -/

theorem at9_v7 (h : Launched m c p) : Is2 (n := 4096) (m := 1024) (W9 m ρ c (Proc.devRef .tc main_v7)) p.A :=
  Is2.of_eq (W9_of m ρ c main_v7 (by decide)) (Is2.of_eq (W8_of m ρ c main_v7 (by decide)) (Is2.of_eq (W7_of m ρ c main_v7 (by decide)) (Is2.of_eq (W6_of m ρ c main_v7 (by decide)) (Is2.of_eq (W5_of m ρ c main_v7 (by decide)) (Is2.of_eq (W4_of m ρ c main_v7 (by decide)) (at3_v7 m ρ c p h))))))

theorem at9_v10 (h : Launched m c p) : Is2 (n := 4096) (m := 1024) (W9 m ρ c (Proc.devRef .tc main_v10)) p.K :=
  Is2.of_eq (W9_of m ρ c main_v10 (by decide)) (Is2.of_eq (W8_of m ρ c main_v10 (by decide)) (Is2.of_eq (W7_of m ρ c main_v10 (by decide)) (Is2.of_eq (W6_of m ρ c main_v10 (by decide)) (at5_v10 m ρ c p h))))

theorem at9_v13 (h : Launched m c p) : Is2 (n := 4096) (m := 1024) (W9 m ρ c (Proc.devRef .tc main_v13)) p.U :=
  Is2.of_eq (W9_of m ρ c main_v13 (by decide)) (Is2.of_eq (W8_of m ρ c main_v13 (by decide)) (at7_v13 m ρ c p h))

end Cert.Kernel2Ideal.Value
-- ==== Proof.RefReal.lean ====
module

public import proofs.«01_k».proof.Proof.FHost

@[expose] public section

/-! # The reference's attention in reals, and that it is the kernel's -/

noncomputable section

namespace Cert.Attn.Heads
variable (p : Heads)

/-- The reference's score of key `c` for query `r`. -/
def sig (h r c : ℕ) : ℝ := (∑ d ∈ Finset.range 96, p.q r h d * p.k c h d) * (1 / Real.sqrt 96)

/-- What the reference exponentiates a row to, its scores taken relative to `μ`, and the row's sum. -/
def num (μ : ℝ) (h r c : ℕ) : ℝ := if c ≤ r then Real.exp (p.sig h r c - μ) else 0
def den (μ : ℝ) (h r : ℕ) : ℝ := ∑ c ∈ Finset.range 4096, p.num μ h r c

/-- The probabilities, the gradient that reaches them, and the gradient that reaches the scores. -/
def P (h r c : ℕ) : ℝ := prob p.A p.K h r c
def dP (h r c : ℕ) : ℝ := ∑ d ∈ Finset.range 64, p.g r h d * p.v c h d
def dS (h r c : ℕ) : ℝ := p.P h r c * (p.dP h r c - ∑ e ∈ Finset.range 4096, p.dP h r e * p.P h r e)

/-- The reference's output and its gradients, by row, head and column. -/
def ro (r h d : ℕ) : ℝ := ∑ c ∈ Finset.range 4096, p.v c h d * p.P h r c
def rq (r h d : ℕ) : ℝ := ∑ c ∈ Finset.range 4096, p.dS h r c * (1 / Real.sqrt 96) * p.k c h d
def rk (c h d : ℕ) : ℝ := ∑ r ∈ Finset.range 4096, p.dS h r c * (1 / Real.sqrt 96) * p.q r h d
def rv (c h d : ℕ) : ℝ := ∑ r ∈ Finset.range 4096, p.g r h d * p.P h r c

theorem sqrt_pos : 0 < Real.sqrt 96 := Real.sqrt_pos.2 (by norm_num)
theorem log_pos : 0 < Real.log 2 := Real.log_pos (by norm_num)

/-- A sum over a head's 128 columns of what two widened arrays hold is the sum over the columns they had. -/
theorem sum_wide {lo w : ℕ} (hw : lo + w ≤ 128) (f g : ℕ → ℕ → ℕ → ℝ) (r c h : ℕ) :
    ∑ d ∈ Finset.range 128, wide lo w f r (h * 128 + d) * wide lo w g c (h * 128 + d) = ∑ d ∈ Finset.range w, f r h d * g c h d := by
  obtain ⟨t, ht⟩ := Nat.exists_eq_add_of_le hw
  have e : ∀ d ∈ Finset.range 128, wide lo w f r (h * 128 + d) * wide lo w g c (h * 128 + d)
      = if lo ≤ d ∧ d - lo < w then f r h (d - lo) * g c h (d - lo) else 0 := fun d hd => by
    rw [wide_at lo w f r h d (Finset.mem_range.1 hd), wide_at lo w g c h d (Finset.mem_range.1 hd)]
    split
    · rfl
    · rw [mul_zero]
  rw [Finset.sum_congr rfl e, ht, Finset.sum_range_add, Finset.sum_range_add,
    Finset.sum_eq_zero (s := Finset.range t) fun d _ => if_neg (by omega),
    Finset.sum_eq_zero (s := Finset.range lo) fun d hd => if_neg (by have := Finset.mem_range.1 hd; omega), add_zero, zero_add]
  exact Finset.sum_congr rfl fun d hd => by
    rw [if_pos ⟨by omega, by have := Finset.mem_range.1 hd; omega⟩, Nat.add_sub_cancel_left]

theorem score_eq (h r c : ℕ) : score p.A p.K h r c = p.sig h r c / Real.log 2 := by
  have e : score p.A p.K h r c
      = (∑ d ∈ Finset.range 128, wide 0 96 p.q r (h * 128 + d) * wide 0 96 p.k c (h * 128 + d)) * (1 / (Real.sqrt 96 * Real.log 2)) := by
    unfold score A K
    rw [Finset.sum_mul]
    exact Finset.sum_congr rfl fun d _ => by ring
  rw [e, sum_wide (by norm_num), sig]
  ring

/-- The reference's weights are the kernel's, all of a row times one number. -/
theorem num_eq (μ : ℝ) (h r c : ℕ) : p.num μ h r c = wt (score p.A p.K h r) r 0 c * Real.exp (-μ) := by
  unfold num wt
  split
  · rw [Real.rpow_def_of_pos two_pos, ← Real.exp_add, score_eq, sub_zero, mul_div_cancel₀ _ log_pos.ne']
    rfl
  · rw [zero_mul]

theorem den_eq (μ : ℝ) (h r : ℕ) : p.den μ h r = tot p.A p.K h r * Real.exp (-μ) := by
  unfold den tot
  rw [Finset.sum_mul]
  exact Finset.sum_congr rfl fun c _ => p.num_eq μ h r c

theorem den_pos (μ : ℝ) (h r : ℕ) : 0 < p.den μ h r := by
  rw [den_eq]; exact mul_pos (tot_pos _ _ _ _) (Real.exp_pos _)

theorem P_eq (μ : ℝ) (h r c : ℕ) : p.num μ h r c * (1 / p.den μ h r) = p.P h r c := by
  rw [mul_one_div, num_eq, den_eq, mul_div_mul_right _ _ (Real.exp_pos _).ne']
  rfl

theorem P_of_lt {h r c : ℕ} (hc : ¬c ≤ r) : p.P h r c = 0 := by
  unfold P prob
  rw [wt_of_lt (not_le.1 hc), zero_div]

/-- The gradient of the scores as the reference's backward lines compute it from the weights and their sum. -/
theorem dS_eq (μ : ℝ) (h r c : ℕ) :
    (p.dP h r c * (1 / p.den μ h r)
        + -(∑ e ∈ Finset.range 4096, p.dP h r e * (1 * (1 / (p.den μ h r * p.den μ h r))) * p.num μ h r e)) * p.num μ h r c = p.dS h r c := by
  have hd := (p.den_pos μ h r).ne'
  have e : ∑ e ∈ Finset.range 4096, p.dP h r e * (1 * (1 / (p.den μ h r * p.den μ h r))) * p.num μ h r e
      = (∑ e ∈ Finset.range 4096, p.dP h r e * p.P h r e) * (1 / p.den μ h r) := by
    rw [Finset.sum_mul]
    exact Finset.sum_congr rfl fun e _ => by rw [← p.P_eq μ]; field_simp
  rw [e, dS, ← p.P_eq μ h r c]
  ring

/-! ## The kernel's results -/

theorem dprob_eq (h r c : ℕ) : dprob p.U p.D h r c = p.dP h r c := sum_wide (by norm_num) p.g p.v r c h

theorem delta_eq (h r : ℕ) : delta p.A p.K p.U p.D h r = ∑ e ∈ Finset.range 4096, p.dP h r e * p.P h r e := by
  have e : ∀ d ∈ Finset.range 128, p.D r (h * 128 + d) * out p.A p.K p.U r (h * 128 + d)
      = ∑ c ∈ Finset.range 4096, p.D r (h * 128 + d) * p.U c (h * 128 + d) * p.P h r c := fun d hd => by
    unfold out P
    rw [Finset.mul_sum, show (h * 128 + d) / 128 = h by have := Finset.mem_range.1 hd; omega]
    exact Finset.sum_congr rfl fun c _ => by ring
  unfold delta
  rw [Finset.sum_congr rfl e, Finset.sum_comm]
  exact Finset.sum_congr rfl fun c _ => by rw [← Finset.sum_mul, ← p.dprob_eq]; rfl

theorem dscore_eq (h r c : ℕ) : dscore p.A p.K p.U p.D h r c = p.dS h r c := by
  unfold dscore dS
  rw [delta_eq, dprob_eq]
  rfl

theorem out_eq (r j : ℕ) : wide 64 64 p.ro r j = out p.A p.K p.U r j := by
  unfold out U wide
  split
  · exact Finset.sum_congr rfl fun c _ => mul_comm _ _
  · simp

theorem dv_eq (c j : ℕ) : wide 64 64 p.rv c j = dv p.A p.K p.D c j := by
  unfold dv D wide
  split
  · exact Finset.sum_congr rfl fun r _ => mul_comm _ _
  · simp

theorem dq_eq (r j : ℕ) : wide 0 96 p.rq r j = dq p.A p.K p.U p.D r j := by
  unfold dq
  simp only [dscore_eq]
  unfold K wide
  split
  · rw [Finset.sum_mul]
    exact Finset.sum_congr rfl fun c _ => by rw [one_div]; ring
  · simp

theorem dk_eq (c j : ℕ) : wide 0 96 p.rk c j = dk p.A p.K p.U p.D c j := by
  have hl := log_pos.ne'
  have hs := sqrt_pos.ne'
  unfold dk wide
  simp only [dscore_eq]
  unfold A wide
  split
  · rw [Finset.sum_mul]
    exact Finset.sum_congr rfl fun r _ => by field_simp
  · simp

end Cert.Attn.Heads
-- ==== Proof.Ref2.lean ====
module

public import proofs.«01_k».proof.Proof.Gen.Reference2Ideal.Run
public import proofs.«01_k».proof.Proof.Gen.Reference2Ideal.Read
public import proofs.«01_k».proof.Proof.RefReal

@[expose] public section

set_option maxRecDepth 16384

/-! # The reference's attention, line by line -/

noncomputable section

open Idealize.ShloMosaic Idealize.SL.Sem

namespace Cert.Reference2Ideal.Value
open Cert.Reference2Ideal Cert.Reference2Ideal.Gen Cert.Reference2Ideal.Read Cert.Layer Cert.Attn Cert.Kernel2Ideal.Value

variable (x0 x1 : (⟨S4096x8x96, .f32⟩ : BufTy).Contents (Elt Ideal)) (x2 x3 : (⟨S4096x8x64, .f32⟩ : BufTy).Contents (Elt Ideal)) (p : Heads)

/-- The four arguments hold the reals of `p`. -/
structure Given : Prop where
  hq : Is3 (a := 4096) (b := 8) (c := 96) x0 p.q
  hk : Is3 (a := 4096) (b := 8) (c := 96) x1 p.k
  hv : Is3 (a := 4096) (b := 8) (c := 64) x2 p.v
  hg : Is3 (a := 4096) (b := 8) (c := 64) x3 p.g

variable {x0 x1 x2 x3 p} (G : Given x0 x1 x2 x3 p)

/-- Products, sums and quotients of reals. -/
theorem mul_of {x y : EReal} {a b : ℝ} (hx : x = (a : EReal)) (hy : y = (b : EReal)) : x * y = ((a * b : ℝ) : EReal) := by
  rw [hx, hy, ← EReal.coe_mul]
theorem add_of {x y : EReal} {a b : ℝ} (hx : x = (a : EReal)) (hy : y = (b : EReal)) : x + y = ((a + b : ℝ) : EReal) := by
  rw [hx, hy, ← EReal.coe_add]
theorem div_of {x y : EReal} {a b : ℝ} (hx : x = (a : EReal)) (hy : y = (b : EReal)) (hb : b ≠ 0) : Ideal.div x y = ((a * (1 / b) : ℝ) : EReal) := by
  rw [hx, hy, Ideal.div_coe hb, ← EReal.coe_mul]
theorem sum_from {z s : EReal} {a : ℝ} (hz : z = 0) (hs : s = (a : EReal)) : z + s = (a : EReal) := by rw [hz, zero_add, hs]

theorem scale (i : S_.Idx) : val_main_v1 (F := Ideal) i = ((1 / Real.sqrt 96 : ℝ) : EReal) := by
  have h : val_main_v0 (F := Ideal) i = ((Real.sqrt 96 : ℝ) : EReal) := by
    show Ideal.sqrt (Ideal.ofBits .f32 0x42C00000#32) = _
    rw [lit_96, Ideal.sqrt_coe, if_neg (by norm_num)]
  have := div_of (x := val_main_cst_0 (F := Ideal) i) (a := 1) (lit_one.trans EReal.coe_one.symm) h Heads.sqrt_pos.ne'
  rw [one_mul] at this
  exact this

/-- The column is within the row's reach. -/
theorem reach (i : S8x4096x4096.Idx) : val_main_v12_1 (F := Ideal) i = BitVec.ofBool (decide ((i 2 : ℕ) ≤ (i 1 : ℕ))) := by
  rw [val_main_v12_1_apply, val_main_v11_apply, val_main_v9_apply, val_main_v6_apply, val_main_v5_apply, val_main_v10_apply,
    val_main_v8_apply, val_main_v7_apply]
  have h1 : (i 1 : ℕ) < 4096 := (i 1).isLt
  have h2 : (i 2 : ℕ) < 4096 := (i 2).isLt
  exact WordCmp.cmpi_sle_ofNat (by show (i 2 : ℕ) < _; omega) (by show (i 1 : ℕ) < _; omega)

include G in
theorem scores (i : S8x4096x4096.Idx) : val_main_v12_0 (F := Ideal) x0 x1 i = if (i 2 : ℕ) ≤ (i 1 : ℕ) then ((p.sig (i 0) (i 1) (i 2) : ℝ) : EReal) else ⊥ := by
  have h4 : val_main_v4 (F := Ideal) x0 x1 i = ((p.sig (i 0) (i 1) (i 2) : ℝ) : EReal) := by
    rw [val_main_v4_apply, val_main_v2_apply, val_main_v3_apply]
    exact mul_of (sum_fin _ (fun d => p.q (i 1) (i 0) d * p.k (i 2) (i 0) d) fun d => mul_of (G.hq _) (G.hk _)) (scale _)
  have hb : val_main_call0_v2 (F := Ideal) i = ⊥ := by
    rw [val_main_call0_v2_apply]
    exact lit_bot
  rw [val_main_v12_0_apply, reach, WordCmp.select_ofBool, h4, hb]
  simp

include G in
/-- The greatest score of a row is a real number. -/
theorem greatest (i : S8x4096.Idx) : ∃ μ : ℝ, val_main_v20 (F := Ideal) x0 x1 i = (μ : EReal) := by
  have h : S8x4096x4096.Reduces [2] S8x4096 := by decide
  have e : val_main_v13 (F := Ideal) x0 x1 i = Finset.univ.fold max ⊥ (fun k : Fin 4096 => val_main_v12_0 (F := Ideal) x0 x1 (idx_main_v34 i k)) := by
    unfold val_main_v13
    generalize val_main_v12_0 (F := Ideal) x0 x1 = y
    refine (Host.reduce_eq_fold_single (α := EReal) (FloatOps.maximumf (F := Ideal) (φ := .f32)) y _ reducesTo_S8x4096x4096_S8x4096_d2 h h_S_ i).trans ?_
    have e : ∀ k : Fin 4096, h.lift i k = idx_main_v34 i k := fun k => by
      funext a; match a with | ⟨0, _⟩ => rfl | ⟨1, _⟩ => rfl | ⟨2, _⟩ => rfl
    have e' : y ∘ h.lift i = fun k : Fin 4096 => y (idx_main_v34 i k) := funext fun k => congrArg y (e k)
    exact congrArg₂ (fun b (f : Fin 4096 → EReal) => Finset.univ.fold max b f) lit_bot e'
  rw [val_main_v20_apply, e, val_main_v19_apply]
  have hb : val_main_cst_4 (F := Ideal) (idx_main_v19 i) = (⊥ : EReal) := lit_bot
  rw [hb]
  refine fold_real ⊥ bot_ne_top _ (fun k => ?_) (i 1) ?_
  · rw [scores G]; split <;> simp
  · rw [scores G, if_pos (le_refl (i 1 : ℕ))]; simp

/-- That number. -/
def top (x0 x1 : (⟨S4096x8x96, .f32⟩ : BufTy).Contents (Elt Ideal)) (h r : ℕ) : ℝ :=
  if e : h < 8 ∧ r < 4096 then (val_main_v20 (F := Ideal) x0 x1 (fun a => match a with | ⟨0, _⟩ => ⟨h, e.1⟩ | ⟨1, _⟩ => ⟨r, e.2⟩)).toReal else 0

include G in
theorem top_eq (i : S8x4096.Idx) : val_main_v20 (F := Ideal) x0 x1 i = ((top x0 x1 (i 0) (i 1) : ℝ) : EReal) := by
  have e : (i 0 : ℕ) < 8 ∧ (i 1 : ℕ) < 4096 := ⟨(i 0).isLt, (i 1).isLt⟩
  unfold top
  rw [dif_pos e]
  obtain ⟨μ, h⟩ := greatest G i
  refine (show _ = (((val_main_v20 (F := Ideal) x0 x1 i).toReal : ℝ) : EReal) by rw [h, EReal.toReal_coe]).trans
    (congrArg (fun q => (((val_main_v20 (F := Ideal) x0 x1 q).toReal : ℝ) : EReal)) (funext fun a => ?_))
  match a with
  | ⟨0, _⟩ => rfl
  | ⟨1, _⟩ => rfl

include G in
theorem weights (i : S8x4096x4096.Idx) : val_main_v33 (F := Ideal) x0 x1 i = ((p.num (top x0 x1 (i 0) (i 1)) (i 0) (i 1) (i 2) : ℝ) : EReal) := by
  rw [val_main_v33_apply, val_main_v32_apply, val_main_v31_apply, val_main_v30_apply, scores G, top_eq G]
  show Ideal.exp (_ - ((top x0 x1 (i 0) (i 1) : ℝ) : EReal)) = _
  unfold Heads.num
  split
  · rw [← EReal.coe_sub, Ideal.exp_coe]
  · rw [EReal.bot_sub, Ideal.exp_bot]; rfl

include G in
theorem total (i : S8x4096.Idx) : val_main_v34 (F := Ideal) x0 x1 i = ((p.den (top x0 x1 (i 0) (i 1)) (i 0) (i 1) : ℝ) : EReal) := by
  rw [val_main_v34_apply]
  exact sum_from lit_zero (sum_fin _ (fun c => p.num (top x0 x1 (i 0) (i 1)) (i 0) (i 1) c) fun k => weights G _)

include G in
theorem probability : Is3 (a := 8) (b := 4096) (c := 4096) (val_main_v37 (F := Ideal) x0 x1) p.P := fun i => by
  rw [val_main_v37_apply, val_main_v36_apply, val_main_v35_apply]
  exact (div_of (weights G i) (total G _) (p.den_pos _ _ _).ne').trans (congrArg _ (p.P_eq _ _ _ _))

include G in
theorem output : Is3 (a := 4096) (b := 8) (c := 64) (val_main_v42 (F := Ideal) x0 x1 x2) p.ro := fun i => by
  rw [val_main_v42_apply, val_main_v41_apply]
  exact sum_fin _ (fun c => p.v c (i 1) (i 2) * p.P (i 1) (i 0) c) fun c => mul_of (G.hv _) (probability G _)

include G in
theorem gradValue : Is3 (a := 4096) (b := 8) (c := 64) (val_main_v46 (F := Ideal) x0 x1 x3) p.rv := fun i => by
  rw [val_main_v46_apply, val_main_v45_apply]
  refine sum_fin _ (fun r => p.g r (i 1) (i 2) * p.P (i 1) r (i 0)) fun r => mul_of ?_ (probability G _)
  rw [val_main_v43_apply]
  exact G.hg _

include G in
theorem gradProbability : Is3 (a := 8) (b := 4096) (c := 4096) (val_main_v44 (F := Ideal) x2 x3) p.dP := fun i => by
  rw [val_main_v44_apply]
  refine sum_fin _ (fun d => p.g (i 1) (i 0) d * p.v (i 2) (i 0) d) fun d => mul_of ?_ (G.hv _)
  rw [val_main_v43_apply]
  exact G.hg _

include G in
theorem rowTerm (i : S8x4096x4096.Idx) : val_main_v49 (F := Ideal) x0 x1 x2 x3 i
    = ((p.dP (i 0) (i 1) (i 2) * (1 * (1 / (p.den (top x0 x1 (i 0) (i 1)) (i 0) (i 1) * p.den (top x0 x1 (i 0) (i 1)) (i 0) (i 1))))
        * p.num (top x0 x1 (i 0) (i 1)) (i 0) (i 1) (i 2) : ℝ) : EReal) := by
  rw [val_main_v49_apply, val_main_v48_apply, val_main_v47_apply, val_main_v40_apply, val_main_v39_apply, val_main_v38_apply, val_main_v35_apply]
  have hd : p.den (top x0 x1 (i 0) (i 1)) (i 0) (i 1) ≠ 0 := (p.den_pos _ _ _).ne'
  exact mul_of (mul_of (gradProbability G i) (div_of (lit_one.trans EReal.coe_one.symm) (mul_of (total G _) (total G _)) (mul_ne_zero hd hd))) (weights G i)

include G in
theorem gradScore : Is3 (a := 8) (b := 4096) (c := 4096) (val_main_v59 (F := Ideal) x0 x1 x2 x3) p.dS := fun i => by
  have hz : val_main_call1_v0 (F := Ideal) i = ((0 : ℝ) : EReal) := by
    rw [val_main_call1_v0_apply]
    exact lit_zero
  have hr : ∀ j : S8x4096.Idx, val_main_v50 (F := Ideal) x0 x1 x2 x3 j = ((∑ e ∈ Finset.range 4096, p.dP (j 0) (j 1) e * (1 * (1 / (p.den (top x0 x1 (j 0) (j 1)) (j 0) (j 1) * p.den (top x0 x1 (j 0) (j 1)) (j 0) (j 1))))
        * p.num (top x0 x1 (j 0) (j 1)) (j 0) (j 1) e : ℝ) : EReal) := fun j => by
    rw [val_main_v50_apply]
    exact sum_from lit_zero (sum_fin _ (fun e => p.dP (j 0) (j 1) e * (1 * (1 / (p.den (top x0 x1 (j 0) (j 1)) (j 0) (j 1) * p.den (top x0 x1 (j 0) (j 1)) (j 0) (j 1))))
        * p.num (top x0 x1 (j 0) (j 1)) (j 0) (j 1) e) fun k => rowTerm G _)
  have hn : ∀ j : S8x4096.Idx, val_main_v55 (F := Ideal) x0 x1 x2 x3 j = -val_main_v50 (F := Ideal) x0 x1 x2 x3 j := fun j => by
    have ej : ∀ k : Fin 1, idx_main_v51 (idx_main_v55 j k) = j := fun k => by
      have h1 : (j 1 : ℕ) < 4096 := (j 1).isLt
      have hk : (k : ℕ) < 1 := k.isLt
      funext a
      match a with
      | ⟨0, _⟩ => exact Fin.ext (by show (((j 0 : ℕ) * 4096 + (j 1 : ℕ)) * 1 + (k : ℕ)) / 4096 = (j 0 : ℕ); omega)
      | ⟨1, _⟩ => exact Fin.ext (by show (((j 0 : ℕ) * 4096 + (j 1 : ℕ)) * 1 + (k : ℕ)) % 4096 = (j 1 : ℕ); omega)
    rw [val_main_v55_apply, Fin.sum_univ_one, val_main_v52_apply, val_main_v51_apply, ej]
    exact (congrArg (fun z : EReal => z + _) lit_zero).trans (zero_add _)
  have hv : val_main_v58 (F := Ideal) x0 x1 x2 x3 i = ((p.dS (i 0) (i 1) (i 2) : ℝ) : EReal) := by
    rw [val_main_v58_apply, val_main_v57_apply, val_main_v54_apply, val_main_v53_apply, val_main_v35_apply, val_main_v56_apply, hn, hr, ← EReal.coe_neg]
    exact (mul_of (add_of (div_of (gradProbability G i) (total G _) (p.den_pos _ _ _).ne') rfl) (weights G i)).trans (congrArg _ (p.dS_eq _ _ _ _))
  rw [val_main_v59_apply, reach, WordCmp.select_ofBool, hv, hz]
  by_cases h : (i 2 : ℕ) ≤ (i 1 : ℕ)
  · simp [h]
  · have : p.dS (i 0) (i 1) (i 2) = 0 := by unfold Heads.dS; rw [p.P_of_lt h, zero_mul]
    simp [h, this]

include G in
theorem gradScaled (i : S8x4096x4096.Idx) : val_main_v61 (F := Ideal) x0 x1 x2 x3 i = ((p.dS (i 0) (i 1) (i 2) * (1 / Real.sqrt 96) : ℝ) : EReal) := by
  rw [val_main_v61_apply, val_main_v60_apply]
  exact mul_of (gradScore G i) (scale _)

include G in
theorem gradKey : Is3 (a := 4096) (b := 8) (c := 96) (val_main_v63 (F := Ideal) x0 x1 x2 x3) p.rk := fun i => by
  rw [val_main_v63_apply, val_main_v62_apply]
  exact sum_fin _ (fun r => p.dS (i 1) r (i 0) * (1 / Real.sqrt 96) * p.q r (i 1) (i 2)) fun r => mul_of (gradScaled G _) (G.hq _)

include G in
theorem gradQuery : Is3 (a := 4096) (b := 8) (c := 96) (val_main_v65 (F := Ideal) x0 x1 x2 x3) p.rq := fun i => by
  rw [val_main_v65_apply, val_main_v64_apply]
  exact sum_fin _ (fun c => p.dS (i 1) (i 0) c * (1 / Real.sqrt 96) * p.k c (i 1) (i 2)) fun c => mul_of (gradScaled G _) (G.hk _)

/-! ## The results -/

include G in
theorem result_o : Is2 (n := 4096) (m := 1024) (val_main_v68 (F := Ideal) x0 x1 x2) (out p.A p.K p.U) :=
  Is2.of_fun (f := wide 64 64 p.ro) (fun i => by
    rw [val_main_v68_apply]
    exact (output G).wide pads_S4096x8x64_S4096x8x128_000_000_6400 h_S_ (pad_zero _ rfl _) shapeCasts_S4096x8x128_S4096x1024 i) p.out_eq

include G in
theorem result_dq : Is2 (n := 4096) (m := 1024) (val_main_v70 (F := Ideal) x0 x1 x2 x3) (dq p.A p.K p.U p.D) :=
  Is2.of_fun ((gradQuery G).wide pads_S4096x8x96_S4096x8x128_000_000_0320 h_S_ (pad_zero _ rfl _) shapeCasts_S4096x8x128_S4096x1024) p.dq_eq

include G in
theorem result_dk : Is2 (n := 4096) (m := 1024) (val_main_v72 (F := Ideal) x0 x1 x2 x3) (dk p.A p.K p.U p.D) :=
  Is2.of_fun ((gradKey G).wide pads_S4096x8x96_S4096x8x128_000_000_0320 h_S_ (pad_zero _ rfl _) shapeCasts_S4096x8x128_S4096x1024) p.dk_eq

include G in
theorem result_dv : Is2 (n := 4096) (m := 1024) (val_main_v74 (F := Ideal) x0 x1 x3) (dv p.A p.K p.D) :=
  Is2.of_fun ((gradValue G).wide pads_S4096x8x64_S4096x8x128_000_000_6400 h_S_ (pad_zero _ rfl _) shapeCasts_S4096x8x128_S4096x1024) p.dv_eq

end Cert.Reference2Ideal.Value
-- ==== Proof.F0.lean ====
module

public import proofs.«01_k».proof.Proof.Gen.Kernel2Ideal.Frame
public import proofs.«01_k».proof.Proof.Softmax

@[expose] public section

set_option maxRecDepth 16384

/-! # The forward call of the attention: its output and each row's logarithm -/

noncomputable section

open Idealize.ShloMosaic Idealize.ShloMosaic.TcCoe Idealize.SL.Sem
open Cert.Kernel2Ideal Cert.Kernel2Ideal.Gen Cert.Layer Cert.Attn

namespace Cert.Kernel2Ideal.Value

variable (V : (c : Dev nD) → (b : Ref sig .tc) → Buf (Elt Ideal) ((c : Thread nD τ).loc b))

namespace F0

theorem named_mask : (Named.named (F := Ideal) κ "mask" (φ := .f32) 0xF149F2CA#32 : EReal) = ⊥ := rfl

theorem named_log2e : (Named.named (F := Ideal) κ "log2e" (φ := .f32) 0x3FB8AA3B#32 : EReal) = (((Real.log 2)⁻¹ : ℝ) : EReal) := rfl

/-- A choice by the comparison of two small words. -/
theorem select_le {k y : ℕ} (hk : k < 1024) (hy : y < 1024) (a b : EReal) :
    Scalar.select (IntOp.cmpi CmpIPredicate.sle (BitVec.ofNat 32 k) (BitVec.ofNat 32 y)) a b = if k ≤ y then a else b := by
  rw [WordCmp.cmpi_sle_ofNat (by omega) (by omega), WordCmp.select_ofBool]
  simp

/-- Where each window's block sits. -/
theorem idx : ∀ t : Fin cfg0.N, win0_0.index t = ![(grid0.coords t 1).val, (grid0.coords t 0).val] ∧
    win0_1.index t = ![0, (grid0.coords t 0).val] ∧ win0_2.index t = ![0, (grid0.coords t 0).val] ∧
    win0_3.index t = ![(grid0.coords t 1).val, (grid0.coords t 0).val] ∧
    win0_4.index t = ![(grid0.coords t 0).val, (grid0.coords t 1).val, 0] :=
  (by decide +kernel : ∀ t : Fin grid0.N, _)

/-- The first loop runs over the blocks before the diagonal one, the second not at all. -/
theorem words : ∀ n : Fin 4,
    (⟨0#32, Scalar.addi 0#32 (Scalar.muli (Scalar.divsi (Scalar.subi (BitVec.ofNat 32 n.val) 0#32) 1#32) 1#32), 1#32⟩ : Scf.Loop 32).trips = n.val ∧
    (⟨Scalar.addi 0#32 (Scalar.muli (Scalar.divsi (Scalar.subi (BitVec.ofNat 32 n.val) 0#32) 1#32) 1#32),
      Scalar.addi 0#32 (Scalar.subi (BitVec.ofNat 32 n.val) 0#32), 1#32⟩ : Scf.Loop 32).trips = 0 ∧
    (Scalar.indexCast (Scalar.muli (Scf.iv 0#32 1#32 n.val) 1024#32)).toNat = n.val * 1024 ∧
    (Scalar.indexCast (Scalar.muli (BitVec.ofNat 32 n.val) 1024#32)).toNat = n.val * 1024 := by
  decide +kernel

theorem trips (i : grid0.Coords) : (k0_t1_loop i).trips = (i 1).val ∧ (k0_t2_loop i).trips = 0 :=
  ⟨(words (i 1)).1, (words (i 1)).2.1⟩

theorem off1 (i : grid0.Coords) (k : Fin (k0_t1_loop i).trips) : k0_off1 i k = ![k.val * 1024, 0] :=
  congrArg (fun n => ![n, 0]) (words ⟨k.val, lt_of_lt_of_le k.isLt ((trips i).1.trans_le (i 1).isLt.le)⟩).2.2.1

theorem off3 (i : grid0.Coords) : k0_off3 i = ![(i 1).val * 1024, 0] :=
  congrArg (fun n => ![n, 0]) (words (i 1)).2.2.2

/-- A block of rows read out of a head's columns. -/
theorem rows {n m N : ℕ} {off : Fin 2 → ℕ} {b : ℕ} (ho : off = ![b, 0]) (inb : ∀ a, off a + (![n, m] : Fin 2 → ℕ) a ≤ (![N, m] : Fin 2 → ℕ) a)
    (X : (⟨2, ![N, m]⟩ : Shape).Idx → EReal) (f : ℕ → ℕ → ℝ) (hX : Is2 X f) (x : (⟨2, ![n, m]⟩ : Shape).Idx) :
    X ((Rect.unit (s := ⟨2, ![N, m]⟩) off ![n, m] inb).idx x) = ((f (b + (x 0).val) (x 1).val : ℝ) : EReal) := by
  subst ho
  refine (hX _).trans ?_
  have e0 := Rect.idx_unit_val (s := ⟨2, ![N, m]⟩) ![b, 0] ![n, m] inb x 0
  have e1 := Rect.idx_unit_val (s := ⟨2, ![N, m]⟩) ![b, 0] ![n, m] inb x 1
  have h0 : (((Rect.unit (s := ⟨2, ![N, m]⟩) ![b, 0] ![n, m] inb).idx x 0 : Fin _) : ℕ) = b + (x 0).val := e0
  have h1 : (((Rect.unit (s := ⟨2, ![N, m]⟩) ![b, 0] ![n, m] inb).idx x 1 : Fin _) : ℕ) = (x 1).val := e1.trans (Nat.zero_add _)
  rw [h0, h1]

/-- The greatest entry of a row. -/
theorem rowmax {n m : ℕ} (h : (⟨2, ![n, m]⟩ : Shape).Reduces [1] ⟨1, ![n]⟩) (src : (⟨2, ![n, m]⟩ : Shape).Idx → EReal) (hφ : FKind.Formats .f32)
    (hacc : (0xFF800000#32 : BitVec 32) = FKind.maximumf.neutral .f32 hφ) (j : (⟨1, ![n]⟩ : Shape).Idx) :
    multiReduction (F := Ideal) (φ := .f32) .maximumf [1] ⟨1, ![n]⟩ src 0xFF800000#32 h hφ hacc j
      = Finset.univ.fold max ⊥ (fun k : Fin m => src (ix2 (j 0) k)) := by
  rw [Idealize.ShloMosaic.Ideal.multiReduction_maximumf_single]
  have e : ∀ k : Fin m, h.lift j k = ix2 (j 0) k := fun k => by
    funext a; match a with | ⟨0, _⟩ => rfl | ⟨1, _⟩ => rfl
  have e' : src ∘ h.lift j = fun k : Fin m => src (ix2 (j 0) k) := funext fun k => congrArg src (e k)
  exact congrArg₂ (fun b (f : Fin m → EReal) => Finset.univ.fold max b f) lit_bot e'

theorem rowmax_column (src : S1024x1024.Idx → EReal) (y : Fin 1024) :
    shapeCast S1024x1 (multiReduction (F := Ideal) (φ := .f32) .maximumf [1] S1024 src 0xFF800000#32 reduces_S1024x1024_S1024 (.inl rfl) rfl)
      shapeCasts_S1024_S1024x1 (ix2 y 0) = Finset.univ.fold max ⊥ (fun k : Fin 1024 => src (ix2 y k)) := by
  have hc : ∀ R : S1024.Idx → EReal, shapeCast S1024x1 R shapeCasts_S1024_S1024x1 (ix2 y 0) = R (ix1 y) := by
    intro R; pointwise []
  exact (hc _).trans (rowmax _ _ _ _ _)

/-- The scores of a block, and its weighted values, one row at a time. -/
theorem block {A K U : ℕ → ℕ → ℝ} {h q N : ℕ}
    (v0 : S1024x128.Idx → EReal) (h0 : Is2 (n := 1024) (m := 128) v0 (fun r d => A (q * 1024 + r) (h * 128 + d)))
    (w1 w2 : S1024x128.Idx → EReal) (h1 : Is2 (n := 1024) (m := 128) w1 (fun r d => K (N + r) (h * 128 + d)))
    (h2 : Is2 (n := 1024) (m := 128) w2 (fun r d => U (N + r) (h * 128 + d)))
    (y : Fin 1024) (a1 a2 : S1024x1.Idx → EReal) (a3 : S1024x128.Idx → EReal)
    (hs : Soft (score A K h (q * 1024 + y)) (fun c (d : Fin 128) => U c (h * 128 + d)) (q * 1024 + y) N
      (a1 (ix2 y 0)) (a2 (ix2 y 0)) (fun d => a3 (ix2 y d))) (hq : N + 1024 ≤ q * 1024) :
    Soft (score A K h (q * 1024 + y)) (fun c (d : Fin 128) => U c (h * 128 + d)) (q * 1024 + y) (N + 1024)
      (k0_pay8 (F := Ideal) v0 a1 w1 (ix2 y 0)) (k0_pay11 (F := Ideal) v0 a1 a2 w1 (ix2 y 0))
      (fun d => k0_pay12 (F := Ideal) v0 a1 a3 w1 w2 (ix2 y d)) := by
  have e7 : ∀ k : Fin 1024, k0_pay7 (F := Ideal) v0 w1 (ix2 y k) = ((score A K h (q * 1024 + y) (N + k) : ℝ) : EReal) := by
    intro k
    pointwise [k0_pay7, k0_pay3]
    exact sum_fin _ (fun d => A (q * 1024 + y) (h * 128 + d) * K (N + k) (h * 128 + d)) fun d =>
      (congrArg₂ (fun a b : EReal => a * b) (h0 (ix2 y d)) (h1 (ix2 k d))).trans (EReal.coe_mul _ _).symm
  have e8 : k0_pay8 (F := Ideal) v0 a1 w1 (ix2 y 0) = max (a1 (ix2 y 0)) (Finset.univ.fold max ⊥ fun k : Fin 1024 => k0_pay7 (F := Ideal) v0 w1 (ix2 y k)) := by
    exact congrArg (max (a1 (ix2 y 0))) (rowmax_column _ y)
  have e9 : ∀ k : Fin 1024, k0_pay9 (F := Ideal) v0 a1 w1 (ix2 y k) = Ideal.exp2 (k0_pay7 (F := Ideal) v0 w1 (ix2 y k) - k0_pay8 (F := Ideal) v0 a1 w1 (ix2 y 0)) := by
    intro k
    pointwise [k0_pay9]
    rfl
  have e10 : k0_pay10 (F := Ideal) v0 a1 w1 (ix2 y 0) = Ideal.exp2 (a1 (ix2 y 0) - k0_pay8 (F := Ideal) v0 a1 w1 (ix2 y 0)) := by
    pointwise [k0_pay10]
    rfl
  have := hs.step (n := 1024) (by norm_num) (by omega) (fun k => k0_pay7 (F := Ideal) v0 w1 (ix2 y k))
    (fun k => by rw [if_pos (by omega)]; exact e7 k) e8
  have e11 : k0_pay11 (F := Ideal) v0 a1 a2 w1 (ix2 y 0) = Ideal.exp2 (a1 (ix2 y 0) - k0_pay8 (F := Ideal) v0 a1 w1 (ix2 y 0)) * a2 (ix2 y 0)
     + ∑ k : Fin 1024, Ideal.exp2 (k0_pay7 (F := Ideal) v0 w1 (ix2 y k) - k0_pay8 (F := Ideal) v0 a1 w1 (ix2 y 0)) := by
    pointwise [k0_pay11]
    rw [← e10]
    exact congrArg₂ (fun a b : EReal => a + b) rfl (Finset.sum_congr rfl fun k _ => e9 k)
  have e12 : ∀ d : Fin 128, k0_pay12 (F := Ideal) v0 a1 a3 w1 w2 (ix2 y d) = Ideal.exp2 (a1 (ix2 y 0) - k0_pay8 (F := Ideal) v0 a1 w1 (ix2 y 0)) * a3 (ix2 y d)
     + ∑ k : Fin 1024, Ideal.exp2 (k0_pay7 (F := Ideal) v0 w1 (ix2 y k) - k0_pay8 (F := Ideal) v0 a1 w1 (ix2 y 0)) * ((U (N + k) (h * 128 + d) : ℝ) : EReal) := by
    intro d
    pointwise [k0_pay12]
    rw [← e10]
    exact congrArg₂ (fun a b : EReal => a + b) rfl (Finset.sum_congr rfl fun k _ => congrArg₂ (fun a b : EReal => a * b) (e9 k) (h2 (ix2 k d)))
  rw [e11]; simp only [e12]
  exact this

/-- The diagonal block, and with it the row's results. -/
theorem diag {A K U : ℕ → ℕ → ℝ} {h q : ℕ} (hq : q < 4)
    (v0 : S1024x128.Idx → EReal) (h0 : Is2 (n := 1024) (m := 128) v0 (fun r d => A (q * 1024 + r) (h * 128 + d)))
    (w1 w2 : S1024x128.Idx → EReal) (h1 : Is2 (n := 1024) (m := 128) w1 (fun r d => K (q * 1024 + r) (h * 128 + d)))
    (h2 : Is2 (n := 1024) (m := 128) w2 (fun r d => U (q * 1024 + r) (h * 128 + d)))
    (y : Fin 1024) (a1 a2 : S1024x1.Idx → EReal) (a3 : S1024x128.Idx → EReal)
    (hs : Soft (score A K h (q * 1024 + y)) (fun c (d : Fin 128) => U c (h * 128 + d)) (q * 1024 + y) (q * 1024)
      (a1 (ix2 y 0)) (a2 (ix2 y 0)) (fun d => a3 (ix2 y d))) :
    (∀ d : Fin 128, k0_pay1 (F := Ideal) (k0_pay19 w2) (k0_pay24 v0 a1 a2 w1) (k0_pay25 v0 a1 a3 w1) (k0_pay26 v0 a1 w1)
      (constant S1024x128 FTy.f32 0x00000000#32) (ix2 y d) = ((out A K U (q * 1024 + y) (h * 128 + d) : ℝ) : EReal)) ∧
    ∀ j : S1x1024x1.Idx, (j 1).val = y.val →
      k0_pay2 (F := Ideal) (k0_pay21 v0 a1 w1) (k0_pay24 v0 a1 a2 w1) j = ((lse A K h (q * 1024 + y) : ℝ) : EReal) := by
  have e7 : ∀ k : Fin 1024, k0_pay20 (F := Ideal) v0 w1 (ix2 y k) = if q * 1024 + (k : ℕ) ≤ q * 1024 + y then ((score A K h (q * 1024 + y) (q * 1024 + k) : ℝ) : EReal) else ⊥ := by
    intro k
    pointwise [k0_pay20, k0_pay3]
    rw [select_le (by omega) (by omega), named_mask]
    refine if_congr (by omega) ?_ rfl
    exact sum_fin _ (fun d => A (q * 1024 + y) (h * 128 + d) * K (q * 1024 + k) (h * 128 + d)) fun d =>
      (congrArg₂ (fun a b : EReal => a * b) (h0 (ix2 y d)) (h1 (ix2 k d))).trans (EReal.coe_mul _ _).symm
  have e8 : k0_pay21 (F := Ideal) v0 a1 w1 (ix2 y 0) = max (a1 (ix2 y 0)) (Finset.univ.fold max ⊥ fun k : Fin 1024 => k0_pay20 (F := Ideal) v0 w1 (ix2 y k)) := by
    exact congrArg (max (a1 (ix2 y 0))) (rowmax_column _ y)
  have e9 : ∀ k : Fin 1024, k0_pay22 (F := Ideal) v0 a1 w1 (ix2 y k) = Ideal.exp2 (k0_pay20 (F := Ideal) v0 w1 (ix2 y k) - k0_pay21 (F := Ideal) v0 a1 w1 (ix2 y 0)) := by
    intro k
    pointwise [k0_pay22]
    rfl
  have e10 : k0_pay23 (F := Ideal) v0 a1 w1 (ix2 y 0) = Ideal.exp2 (a1 (ix2 y 0) - k0_pay21 (F := Ideal) v0 a1 w1 (ix2 y 0)) := by
    pointwise [k0_pay23]
    rfl
  have e11 : k0_pay24 (F := Ideal) v0 a1 a2 w1 (ix2 y 0) = Ideal.exp2 (a1 (ix2 y 0) - k0_pay21 (F := Ideal) v0 a1 w1 (ix2 y 0)) * a2 (ix2 y 0)
     + ∑ k : Fin 1024, Ideal.exp2 (k0_pay20 (F := Ideal) v0 w1 (ix2 y k) - k0_pay21 (F := Ideal) v0 a1 w1 (ix2 y 0)) := by
    pointwise [k0_pay24]
    rw [← e10]
    exact congrArg₂ (fun a b : EReal => a + b) rfl (Finset.sum_congr rfl fun k _ => e9 k)
  have e12 : ∀ d : Fin 128, k0_pay25 (F := Ideal) v0 a1 a3 w1 (ix2 y d) + ∑ k : Fin 1024, k0_pay26 (F := Ideal) v0 a1 w1 (ix2 y k) * w2 (ix2 k d)
      = Ideal.exp2 (a1 (ix2 y 0) - k0_pay21 (F := Ideal) v0 a1 w1 (ix2 y 0)) * a3 (ix2 y d)
     + ∑ k : Fin 1024, Ideal.exp2 (k0_pay20 (F := Ideal) v0 w1 (ix2 y k) - k0_pay21 (F := Ideal) v0 a1 w1 (ix2 y 0)) * ((U (q * 1024 + k) (h * 128 + d) : ℝ) : EReal) := by
    intro d
    pointwise [k0_pay25, k0_pay26]
    rw [← e10]
    exact congrArg₂ (fun a b : EReal => a + b) rfl (Finset.sum_congr rfl fun k _ => congrArg₂ (fun a b : EReal => a * b) (e9 k) (h2 (ix2 k d)))
  have hf := hs.step (n := 1024) (by norm_num) (by omega) (fun k => k0_pay20 (F := Ideal) v0 w1 (ix2 y k)) e7 e8
  rw [← e11] at hf
  simp only [← e12] at hf
  constructor
  · intro d
    pointwise [k0_pay1, k0_pay19]
    refine (hf.mean (by omega) (by omega) d).trans ?_
    unfold out prob tot
    rw [show (h * 128 + (d : ℕ)) / 128 = h by omega]
  · intro j hj
    have hy : j 1 = y := Fin.ext hj
    pointwise [k0_pay2]
    rw [hy]
    exact hf.lse (by omega) (by omega)

/-- What the loop carries before block `k`. -/
theorem carry (c : Dev nD) (i : grid0.Coords) (arg2 : Memref sig .tc .vmem S1024x128 .bf16) (harg2 : arg2.IsWhole) (arg3 : Memref sig .tc .vmem S4096x128 .bf16)
    (harg3 : arg3.IsWhole) (arg4 : Memref sig .tc .vmem S4096x128 .bf16) (harg4 : arg4.IsWhole) (arg5 : Memref sig .tc .vmem S1024x128 .bf16)
    (harg5 : arg5.IsWhole) (arg6 : Memref sig .tc .vmem S1x1024x1 .f32) (harg6 : arg6.IsWhole) {A K U : ℕ → ℕ → ℝ} {h : ℕ}
    (v0 : Vec Ideal S1024x128 .bf16) (x1 x2 : Vec Ideal S4096x128 .bf16)
    (h0 : Is2 (n := 1024) (m := 128) v0 (fun r d => A ((i 1).val * 1024 + r) (h * 128 + d)))
    (h1 : Is2 (n := 4096) (m := 128) x1 (fun r d => K r (h * 128 + d)))
    (h2 : Is2 (n := 4096) (m := 128) x2 (fun r d => U r (h * 128 + d))) (y : Fin 1024) (k : ℕ) (hk : k ≤ (i 1).val) :
    Soft (score A K h ((i 1).val * 1024 + y)) (fun c (d : Fin 128) => U c (h * 128 + d)) ((i 1).val * 1024 + y) (k * 1024)
      ((st_k0_t1 (F := Ideal) Variants.none c none i arg2 harg2 arg3 harg3 arg4 harg4 arg5 harg5 arg6 harg6 v0 (harg3.unread x1) (harg4.unread x2) (k0_pay4, k0_pay5, k0_pay6) k).1 (ix2 y 0))
      ((st_k0_t1 (F := Ideal) Variants.none c none i arg2 harg2 arg3 harg3 arg4 harg4 arg5 harg5 arg6 harg6 v0 (harg3.unread x1) (harg4.unread x2) (k0_pay4, k0_pay5, k0_pay6) k).2.1 (ix2 y 0))
      (fun d => (st_k0_t1 (F := Ideal) Variants.none c none i arg2 harg2 arg3 harg3 arg4 harg4 arg5 harg5 arg6 harg6 v0 (harg3.unread x1) (harg4.unread x2) (k0_pay4, k0_pay5, k0_pay6) k).2.2 (ix2 y d)) := by
  induction k with
  | zero =>
    refine Or.inl ⟨by simp, ?_, ?_, fun d => ?_⟩
    · rw [st_k0_t1_zero]
      pointwise [k0_pay4]
      exact named_mask
    · rw [st_k0_t1_zero]
      pointwise [k0_pay5]
    · rw [st_k0_t1_zero]
      pointwise [k0_pay6]
  | succ k ih =>
    have hk' : k < (k0_t1_loop i).trips := by rw [(trips i).1]; exact hk
    rw [st_k0_t1_succ Variants.none c none i arg2 harg2 arg3 harg3 arg4 harg4 arg5 harg5 arg6 harg6 v0 (harg3.unread x1) (harg4.unread x2) _ ⟨k, hk'⟩]
    unfold tripR_k0_t1 trip_k0_t1
    dsimp only
    rw [Nat.add_mul, Nat.one_mul]
    simp only [View.readAt_eq_ld, Memref.IsWhole.read_unread]
    exact block v0 h0 _ _ (fun x => rows (off1 i ⟨k, hk'⟩) _ x1 _ h1 x) (fun x => rows (off1 i ⟨k, hk'⟩) _ x2 _ h2 x) y _ _ _ (ih (Nat.le_of_succ_le hk))
      ((Nat.succ_mul k 1024).symm.trans_le (Nat.mul_le_mul_right 1024 hk))

/-- The block of the output and of the logarithms, at each point. -/
theorem point (c : Dev nD) (t : Fin cfg0.N) {A K U : ℕ → ℕ → ℝ}
    (hA : Is2 (n := 4096) (m := 1024) (V c (Pipeline.arrRef spec0 0)) A) (hK : Is2 (n := 4096) (m := 1024) (V c (Pipeline.arrRef spec0 1)) K)
    (hU : Is2 (n := 4096) (m := 1024) (V c (Pipeline.arrRef spec0 2)) U) :
    (∀ y : S1024x128.Idx, (outsAt0 V c t).1 y
      = ((out A K U ((grid0.coords t 1).val * 1024 + (y 0).val) ((grid0.coords t 0).val * 128 + (y 1).val) : ℝ) : EReal)) ∧
    ∀ y : S1x1024x1.Idx, (outsAt0 V c t).2 y = ((lse A K (grid0.coords t 0).val ((grid0.coords t 1).val * 1024 + (y 1).val) : ℝ) : EReal) := by
  have h0 : Is2 (n := 1024) (m := 128) (iblk0 V c 0 t) (fun r d => A ((grid0.coords t 1).val * 1024 + r) ((grid0.coords t 0).val * 128 + d)) := by
    intro x
    refine (hA (((cfg0.win 0).blk t).view.emb x)).trans ?_
    blk_simp [idx t]
  have h1 : Is2 (n := 4096) (m := 128) (iblk0 V c 1 t) (fun r d => K r ((grid0.coords t 0).val * 128 + d)) := by
    intro x
    refine (hK (((cfg0.win 1).blk t).view.emb x)).trans ?_
    blk_simp [idx t]
  have h2 : Is2 (n := 4096) (m := 128) (iblk0 V c 2 t) (fun r d => U r ((grid0.coords t 0).val * 128 + d)) := by
    intro x
    refine (hU (((cfg0.win 2).blk t).view.emb x)).trans ?_
    blk_simp [idx t]
  have hc := fun y => carry c (grid0.coords t) (ms0_0 t) (hs0_0 t) (ms0_1 t) (hs0_1 t) (ms0_2 t) (hs0_2 t) (ms0_3 t) (hs0_3 t) (ms0_4 t) (hs0_4 t)
    _ _ _ h0 h1 h2 y _ le_rfl
  have hd := fun y => diag (A := A) (K := K) (U := U) (grid0.coords t 1).isLt _ h0
    (View.ld (iblk0 V c 1 t) (Rect.unit (k0_off3 (grid0.coords t)) ![1024, 128] (k0_off3_inb _)))
    (View.ld (iblk0 V c 2 t) (Rect.unit (k0_off3 (grid0.coords t)) ![1024, 128] (k0_off3_inb _))) (fun x => rows (off3 (grid0.coords t)) (k0_off3_inb _) _ _ h1 x)
    (fun x => rows (off3 (grid0.coords t)) (k0_off3_inb _) _ _ h2 x) y _ _ _ (hc y)
  have e1 : Scf.trips 0#32 (Scalar.addi 0#32 (Scalar.muli (Scalar.divsi (Scalar.subi (BitVec.ofNat 32 (grid0.coords t 1).val) 0#32) 1#32) 1#32)) 1#32
      = (grid0.coords t 1).val := (words _).1
  have e2 : Scf.trips (Scalar.addi 0#32 (Scalar.muli (Scalar.divsi (Scalar.subi (BitVec.ofNat 32 (grid0.coords t 1).val) 0#32) 1#32) 1#32))
      (Scalar.addi 0#32 (Scalar.subi (BitVec.ofNat 32 (grid0.coords t 1).val) 0#32)) 1#32 = 0 := (words _).2.1
  unfold outsAt0
  dsimp only
  constructor
  · intro y
    frame_out
    rw [e1, e2]
    simp only [st_k0_t2_zero]
    have hy : y = ix2 (y 0) (y 1) := ValueIdx.eq_ix2 y
    rw [hy]
    exact (hd (y 0)).1 (y 1)
  · intro y
    frame_out
    rw [e1, e2]
    simp only [st_k0_t2_zero]
    exact (hd (y 1)).2 y rfl

/-- The output after the call, and the rows' logarithms. -/
theorem final (c : Dev nD) {A K U : ℕ → ℕ → ℝ}
    (hA : Is2 (n := 4096) (m := 1024) (V c (Pipeline.arrRef spec0 0)) A) (hK : Is2 (n := 4096) (m := 1024) (V c (Pipeline.arrRef spec0 1)) K)
    (hU : Is2 (n := 4096) (m := 1024) (V c (Pipeline.arrRef spec0 2)) U) :
    Is2 (n := 4096) (m := 1024) ((dat0 V c).arrAt 3 cfg0.N) (out A K U) ∧
    ∀ i : S8x4096x1.Idx, (dat0 V c).arrAt 4 cfg0.N i = ((lse A K (i 0).val (i 1).val : ℝ) : EReal) := by
  constructor
  · intro i
    refine congrFun ((dat0 V c).arrAt_eq_of_covers 3 (fun i => ((out A K U (i 0 : ℕ) (i 1 : ℕ) : ℝ) : EReal)) (by decide +kernel) fun t _ y => ?_) i
    blk_simp
    rw [after0_3]
    refine ((point V c t hA hK hU).1 y).trans ?_
    blk_simp [idx t]
  · intro i
    refine congrFun ((dat0 V c).arrAt_eq_of_covers 4 (fun i : S8x4096x1.Idx => ((lse A K (i 0 : ℕ) (i 1 : ℕ) : ℝ) : EReal)) (by decide +kernel) fun t _ y => ?_) i
    blk_simp
    rw [after0_4]
    refine ((point V c t hA hK hU).2 y).trans ?_
    blk_simp [idx t]

end F0
end Cert.Kernel2Ideal.Value
-- ==== Proof.F1.lean ====
module

public import proofs.«01_k».proof.Proof.F0

@[expose] public section

set_option maxRecDepth 16384

/-! # The backward call for the queries: their gradient, and each row's output against its gradient -/

noncomputable section

open Idealize.ShloMosaic Idealize.ShloMosaic.TcCoe Idealize.SL.Sem
open Cert.Kernel2Ideal Cert.Kernel2Ideal.Gen Cert.Layer Cert.Attn

namespace Cert.Kernel2Ideal.Value

variable (V : (c : Dev nD) → (b : Ref sig .tc) → Buf (Elt Ideal) ((c : Thread nD τ).loc b))

namespace F1

open F0 (rows select_le)

theorem named_scale : (Named.named (F := Ideal) κ "scale" (φ := .f32) 0x3DD105EC#32 : EReal) = (((Real.sqrt 96)⁻¹ : ℝ) : EReal) := rfl

/-- Where each window's block sits. -/
theorem idx : ∀ t : Fin cfg1.N, win1_0.index t = ![(grid1.coords t 1).val, (grid1.coords t 0).val] ∧
    win1_1.index t = ![0, (grid1.coords t 0).val] ∧ win1_2.index t = ![0, (grid1.coords t 0).val] ∧
    win1_3.index t = ![(grid1.coords t 1).val, (grid1.coords t 0).val] ∧
    win1_4.index t = ![(grid1.coords t 1).val, (grid1.coords t 0).val] ∧
    win1_5.index t = ![(grid1.coords t 0).val, (grid1.coords t 1).val, 0] ∧
    win1_6.index t = ![(grid1.coords t 1).val, (grid1.coords t 0).val] ∧
    win1_7.index t = ![(grid1.coords t 0).val, (grid1.coords t 1).val, 0] :=
  (by decide +kernel : ∀ t : Fin grid1.N, _)

theorem trips (i : grid1.Coords) : (k1_t1_loop i).trips = (i 1).val ∧ (k1_t2_loop i).trips = 0 :=
  ⟨(F0.words (i 1)).1, (F0.words (i 1)).2.1⟩

theorem off1 (i : grid1.Coords) (k : Fin (k1_t1_loop i).trips) : k1_off1 i k = ![k.val * 1024, 0] :=
  congrArg (fun n => ![n, 0]) (F0.words ⟨k.val, lt_of_lt_of_le k.isLt ((trips i).1.trans_le (i 1).isLt.le)⟩).2.2.1

theorem off3 (i : grid1.Coords) : k1_off3 i = ![(i 1).val * 1024, 0] :=
  congrArg (fun n => ![n, 0]) (F0.words (i 1)).2.2.2

/-- The gradient of a score as the kernel takes it, before the mask. -/
def raw (A K U D : ℕ → ℕ → ℝ) (h r c : ℕ) : ℝ := (2 : ℝ) ^ (score A K h r c - lse A K h r) * (dprob U D h r c - delta A K U D h r)

theorem dscore_eq (A K U D : ℕ → ℕ → ℝ) (h r c : ℕ) : dscore A K U D h r c = if c ≤ r then raw A K U D h r c else 0 := by
  unfold dscore raw; rw [prob_eq]; split
  · rfl
  · rw [zero_mul]

/-- What a row of queries is read with: its queries, output, gradient and logarithm. -/
structure Row (A K U D : ℕ → ℕ → ℝ) (h q : ℕ) (v0 v2 v4 : S1024x128.Idx → EReal) (v11 : S1x1024x1.Idx → EReal) : Prop where
  hq : Is2 (n := 1024) (m := 128) v0 (fun r d => A (q * 1024 + r) (h * 128 + d))
  hd : Is2 (n := 1024) (m := 128) v2 (fun r d => D (q * 1024 + r) (h * 128 + d))
  ho : Is2 (n := 1024) (m := 128) v4 (fun r d => out A K U (q * 1024 + r) (h * 128 + d))
  hl : ∀ i : S1x1024x1.Idx, v11 i = ((lse A K h (q * 1024 + (i 1).val) : ℝ) : EReal)

variable {A K U D : ℕ → ℕ → ℝ} {h q N : ℕ} {v0 v2 v4 : S1024x128.Idx → EReal} {v11 : S1x1024x1.Idx → EReal}

theorem Row.delta (H : Row A K U D h q v0 v2 v4 v11) (y : Fin 1024) :
    k1_pay5 (F := Ideal) v2 v4 (ix2 y 0) = ((delta A K U D h (q * 1024 + y) : ℝ) : EReal) := by
  pointwise [k1_pay5, k1_pay4]
  exact sum_fin _ (fun d => D (q * 1024 + y) (h * 128 + d) * out A K U (q * 1024 + y) (h * 128 + d)) fun d =>
    (congrArg₂ (fun a b : EReal => a * b) (H.hd (ix2 y d)) (H.ho (ix2 y d))).trans (EReal.coe_mul _ _).symm

theorem Row.delta_out (H : Row A K U D h q v0 v2 v4 v11) (y : S1x1024x1.Idx) :
    k1_pay2 (F := Ideal) (k1_pay5 v2 v4) y = ((Attn.delta A K U D h (q * 1024 + (y 1).val) : ℝ) : EReal) := by
  pointwise [k1_pay2]
  exact H.delta (y 1)

theorem Row.lse (H : Row A K U D h q v0 v2 v4 v11) (y : Fin 1024) :
    k1_pay7 (F := Ideal) v11 (ix2 y 0) = ((lse A K h (q * 1024 + y) : ℝ) : EReal) := by
  pointwise [k1_pay7]
  exact H.hl _

/-- One block of keys. -/
theorem Row.block (H : Row A K U D h q v0 v2 v4 v11) (w1 w2 : S1024x128.Idx → EReal)
    (h1 : Is2 (n := 1024) (m := 128) w1 (fun r d => K (N + r) (h * 128 + d)))
    (h2 : Is2 (n := 1024) (m := 128) w2 (fun r d => U (N + r) (h * 128 + d))) (y : Fin 1024) (d : Fin 128)
    (a : S1024x128.Idx → EReal)
    (ha : a (ix2 y d) = ((∑ c ∈ Finset.range N, raw A K U D h (q * 1024 + y) c * K c (h * 128 + d) : ℝ) : EReal)) :
    k1_pay9 (F := Ideal) v0 v2 v4 v11 a w1 w2 (ix2 y d)
      = ((∑ c ∈ Finset.range (N + 1024), raw A K U D h (q * 1024 + y) c * K c (h * 128 + d) : ℝ) : EReal) := by
  have e1 : ∀ k : Fin 1024, ∑ x : Fin 128, v0 (ix2 y x) * w1 (ix2 k x) = ((score A K h (q * 1024 + y) (N + k) : ℝ) : EReal) := fun k =>
    sum_fin _ (fun d => A (q * 1024 + y) (h * 128 + d) * K (N + k) (h * 128 + d)) fun d =>
      (congrArg₂ (fun a b : EReal => a * b) (H.hq (ix2 y d)) (h1 (ix2 k d))).trans (EReal.coe_mul _ _).symm
  have e2 : ∀ k : Fin 1024, ∑ x : Fin 128, v2 (ix2 y x) * w2 (ix2 k x) = ((dprob U D h (q * 1024 + y) (N + k) : ℝ) : EReal) := fun k =>
    sum_fin _ (fun d => D (q * 1024 + y) (h * 128 + d) * U (N + k) (h * 128 + d)) fun d =>
      (congrArg₂ (fun a b : EReal => a * b) (H.hd (ix2 y d)) (h2 (ix2 k d))).trans (EReal.coe_mul _ _).symm
  pointwise [k1_pay9, k1_pay3, k1_pay6, k1_pay4]
  rw [ha, Finset.sum_range_add, EReal.coe_add]
  refine congrArg₂ (fun a b : EReal => a + b) rfl (sum_fin _ (fun k => raw A K U D h (q * 1024 + y) (N + k) * K (N + k) (h * 128 + d)) fun k => ?_)
  refine (congrArg₂ (fun a b : EReal => a * b) (congrArg₂ (fun a b : EReal => a * b) (congrArg Ideal.exp2
    (congrArg₂ (fun a b : EReal => a - b) (e1 k) (H.lse y))) (congrArg₂ (fun a b : EReal => a - b) (e2 k) (H.delta y))) (h1 (ix2 k d))).trans ?_
  rw [← EReal.coe_sub, Ideal.exp2_coe, ← EReal.coe_sub, ← EReal.coe_mul, ← EReal.coe_mul]
  rfl

/-- The diagonal block, and with it the gradient. -/
theorem Row.diag (hq : q < 4) (H : Row A K U D h q v0 v2 v4 v11) (w1 w2 : S1024x128.Idx → EReal)
    (h1 : Is2 (n := 1024) (m := 128) w1 (fun r d => K (q * 1024 + r) (h * 128 + d)))
    (h2 : Is2 (n := 1024) (m := 128) w2 (fun r d => U (q * 1024 + r) (h * 128 + d))) (y : Fin 1024) (d : Fin 128)
    (a : S1024x128.Idx → EReal)
    (ha : a (ix2 y d) = ((∑ c ∈ Finset.range (q * 1024), raw A K U D h (q * 1024 + y) c * K c (h * 128 + d) : ℝ) : EReal)) :
    k1_pay1 (F := Ideal) (k1_pay5 v2 v4) (k1_pay6 v2) a (k1_pay11 w1) (k1_pay12 w2) (k1_pay13 v0 v11 w1) (ix2 y d)
      = ((dq A K U D (q * 1024 + y) (h * 128 + d) : ℝ) : EReal) := by
  have e1 : ∀ k : Fin 1024, ∑ x : Fin 128, v0 (ix2 y x) * w1 (ix2 k x) = ((score A K h (q * 1024 + y) (q * 1024 + k) : ℝ) : EReal) := fun k =>
    sum_fin _ (fun d => A (q * 1024 + y) (h * 128 + d) * K (q * 1024 + k) (h * 128 + d)) fun d =>
      (congrArg₂ (fun a b : EReal => a * b) (H.hq (ix2 y d)) (h1 (ix2 k d))).trans (EReal.coe_mul _ _).symm
  have e2 : ∀ k : Fin 1024, ∑ x : Fin 128, v2 (ix2 y x) * w2 (ix2 k x) = ((dprob U D h (q * 1024 + y) (q * 1024 + k) : ℝ) : EReal) := fun k =>
    sum_fin _ (fun d => D (q * 1024 + y) (h * 128 + d) * U (q * 1024 + k) (h * 128 + d)) fun d =>
      (congrArg₂ (fun a b : EReal => a * b) (H.hd (ix2 y d)) (h2 (ix2 k d))).trans (EReal.coe_mul _ _).symm
  have e3 : ∀ k : Fin 1024, k1_pay13 (F := Ideal) v0 v11 w1 (ix2 y k) = ((prob A K h (q * 1024 + y) (q * 1024 + k) : ℝ) : EReal) := by
    intro k
    pointwise [k1_pay13, k1_pay3, k1_pay11]
    rw [select_le (by omega) (by omega), prob_eq]
    by_cases hk : (k : ℕ) ≤ y
    · rw [if_pos hk, if_pos (by omega)]
      refine (congrArg Ideal.exp2 (congrArg₂ (fun a b : EReal => a - b) (e1 k) (H.lse y))).trans ?_
      rw [← EReal.coe_sub, Ideal.exp2_coe]; rfl
    · rw [if_neg hk, if_neg (by omega)]; rfl
  have e4 : ∑ k : Fin 1024, k1_pay13 (F := Ideal) v0 v11 w1 (ix2 y k) * (∑ x : Fin 128, v2 (ix2 y x) * w2 (ix2 k x) - k1_pay5 (F := Ideal) v2 v4 (ix2 y 0)) * w1 (ix2 k d)
      = ((∑ k ∈ Finset.range 1024, dscore A K U D h (q * 1024 + y) (q * 1024 + k) * K (q * 1024 + k) (h * 128 + d) : ℝ) : EReal) := by
    refine sum_fin _ (fun k => dscore A K U D h (q * 1024 + y) (q * 1024 + k) * K (q * 1024 + k) (h * 128 + d)) fun k => ?_
    rw [e3, e2, H.delta, h1 (ix2 k d), ← EReal.coe_sub, ← EReal.coe_mul, ← EReal.coe_mul]
    rfl
  have e5 : ∑ c ∈ Finset.range 4096, dscore A K U D h (q * 1024 + y) c * K c (h * 128 + d)
      = ∑ c ∈ Finset.range (q * 1024), raw A K U D h (q * 1024 + y) c * K c (h * 128 + d)
        + ∑ k ∈ Finset.range 1024, dscore A K U D h (q * 1024 + y) (q * 1024 + k) * K (q * 1024 + k) (h * 128 + d) := by
    have a1 : ∑ c ∈ Finset.range (q * 1024), raw A K U D h (q * 1024 + y) c * K c (h * 128 + d)
        = ∑ c ∈ Finset.range (q * 1024), dscore A K U D h (q * 1024 + y) c * K c (h * 128 + d) :=
      Finset.sum_congr rfl fun c hc => by
        rw [dscore_eq, if_pos (by have := Finset.mem_range.1 hc; omega)]
    rw [a1, ← Finset.sum_range_add]
    refine (Finset.sum_subset (Finset.range_mono (by omega)) fun c _ hc => ?_).symm
    have hc' : ¬c < q * 1024 + 1024 := fun hh => hc (Finset.mem_range.2 hh)
    rw [dscore_eq, if_neg (by omega), zero_mul]
  pointwise [k1_pay1, k1_pay11, k1_pay12, k1_pay6, k1_pay4]
  refine (congrArg₂ (fun a b : EReal => a * b) (congrArg₂ (fun a b : EReal => a + b) ha e4) named_scale).trans ?_
  rw [← EReal.coe_add, ← EReal.coe_mul, ← e5]
  unfold dq
  rw [show (h * 128 + (d : ℕ)) / 128 = h by omega]

/-- What the loop carries before block `k`. -/
theorem carry (c : Dev nD) (i : grid1.Coords) (arg2 : Memref sig .tc .vmem S1024x128 .bf16) (harg2 : arg2.IsWhole) (arg3 : Memref sig .tc .vmem S4096x128 .bf16)
    (harg3 : arg3.IsWhole) (arg4 : Memref sig .tc .vmem S4096x128 .bf16) (harg4 : arg4.IsWhole) (arg5 : Memref sig .tc .vmem S1024x128 .bf16)
    (harg5 : arg5.IsWhole) (arg6 : Memref sig .tc .vmem S1024x128 .f32) (harg6 : arg6.IsWhole) (arg7 : Memref sig .tc .vmem S1x1024x1 .f32)
    (harg7 : arg7.IsWhole) (arg8 : Memref sig .tc .vmem S1024x128 .f32) (harg8 : arg8.IsWhole) (arg9 : Memref sig .tc .vmem S1x1024x1 .f32)
    (harg9 : arg9.IsWhole) (v0 : Vec Ideal S1024x128 .bf16) (v2 : Vec Ideal S1024x128 .f32) (v4 : Vec Ideal S1024x128 .bf16) (v11 : Vec Ideal S1x1024x1 .f32)
    (x1 x2 : Vec Ideal S4096x128 .bf16) (H : Row A K U D h (i 1).val v0 v2 v4 v11)
    (h1 : Is2 (n := 4096) (m := 128) x1 (fun r d => K r (h * 128 + d)))
    (h2 : Is2 (n := 4096) (m := 128) x2 (fun r d => U r (h * 128 + d))) (y : Fin 1024) (d : Fin 128) (k : ℕ) (hk : k ≤ (i 1).val) :
    st_k1_t1 (F := Ideal) Variants.none c none i arg2 harg2 arg3 harg3 arg4 harg4 arg5 harg5 arg6 harg6 arg7 harg7 arg8 harg8 arg9 harg9 v0 v2 v4 v11
      (harg3.unread x1) (harg4.unread x2) k1_pay8 k (ix2 y d)
      = ((∑ c ∈ Finset.range (k * 1024), raw A K U D h ((i 1).val * 1024 + y) c * K c (h * 128 + d) : ℝ) : EReal) := by
  induction k with
  | zero =>
    rw [st_k1_t1_zero, Nat.zero_mul, Finset.sum_range_zero]
    pointwise [k1_pay8]
    rfl
  | succ k ih =>
    have hk' : k < (k1_t1_loop i).trips := by rw [(trips i).1]; exact hk
    rw [st_k1_t1_succ Variants.none c none i arg2 harg2 arg3 harg3 arg4 harg4 arg5 harg5 arg6 harg6 arg7 harg7 arg8 harg8 arg9 harg9 v0 v2 v4 v11
      (harg3.unread x1) (harg4.unread x2) _ ⟨k, hk'⟩]
    unfold tripR_k1_t1 trip_k1_t1
    dsimp only
    rw [Nat.add_mul, Nat.one_mul]
    simp only [View.readAt_eq_ld, Memref.IsWhole.read_unread]
    exact H.block _ _ (fun x => rows (off1 i ⟨k, hk'⟩) _ x1 _ h1 x) (fun x => rows (off1 i ⟨k, hk'⟩) _ x2 _ h2 x) y d _ (ih (Nat.le_of_succ_le hk))

/-- One grid point's outputs: a block of the queries' gradient, and its rows' deltas. -/
theorem point (c : Dev nD) (t : Fin cfg1.N) {A K U D : ℕ → ℕ → ℝ}
    (hA : Is2 (n := 4096) (m := 1024) (V c (Pipeline.arrRef spec1 0)) A) (hK : Is2 (n := 4096) (m := 1024) (V c (Pipeline.arrRef spec1 1)) K)
    (hU : Is2 (n := 4096) (m := 1024) (V c (Pipeline.arrRef spec1 2)) U) (hO : Is2 (n := 4096) (m := 1024) (V c (Pipeline.arrRef spec1 3)) (out A K U))
    (hD : Is2 (n := 4096) (m := 1024) (V c (Pipeline.arrRef spec1 4)) D)
    (hL : ∀ i : S8x4096x1.Idx, V c (Pipeline.arrRef spec1 5) i = ((lse A K (i 0).val (i 1).val : ℝ) : EReal)) :
    (∀ y : S1024x128.Idx, (outsAt1 V c t).1 y
      = ((dq A K U D ((grid1.coords t 1).val * 1024 + (y 0).val) ((grid1.coords t 0).val * 128 + (y 1).val) : ℝ) : EReal)) ∧
    ∀ y : S1x1024x1.Idx, (outsAt1 V c t).2 y = ((delta A K U D (grid1.coords t 0).val ((grid1.coords t 1).val * 1024 + (y 1).val) : ℝ) : EReal) := by
  have H : Row A K U D (grid1.coords t 0).val (grid1.coords t 1).val (iblk1 V c 0 t) (iblk1 V c 4 t) (iblk1 V c 3 t) (iblk1 V c 5 t) := by
    refine ⟨fun x => (hA (((cfg1.win 0).blk t).view.emb x)).trans ?_, fun x => (hD (((cfg1.win 4).blk t).view.emb x)).trans ?_,
      fun x => (hO (((cfg1.win 3).blk t).view.emb x)).trans ?_, fun x => (hL (((cfg1.win 5).blk t).view.emb x)).trans ?_⟩ <;>
    blk_simp [idx t]
  have h1 : Is2 (n := 4096) (m := 128) (iblk1 V c 1 t) (fun r d => K r ((grid1.coords t 0).val * 128 + d)) := by
    intro x
    refine (hK (((cfg1.win 1).blk t).view.emb x)).trans ?_
    blk_simp [idx t]
  have h2 : Is2 (n := 4096) (m := 128) (iblk1 V c 2 t) (fun r d => U r ((grid1.coords t 0).val * 128 + d)) := by
    intro x
    refine (hU (((cfg1.win 2).blk t).view.emb x)).trans ?_
    blk_simp [idx t]
  have hd := fun y d => H.diag (grid1.coords t 1).isLt
    (View.ld (iblk1 V c 1 t) (Rect.unit (k1_off3 (grid1.coords t)) ![1024, 128] (k1_off3_inb _)))
    (View.ld (iblk1 V c 2 t) (Rect.unit (k1_off3 (grid1.coords t)) ![1024, 128] (k1_off3_inb _))) (fun x => rows (off3 (grid1.coords t)) (k1_off3_inb _) _ _ h1 x)
    (fun x => rows (off3 (grid1.coords t)) (k1_off3_inb _) _ _ h2 x) y d _
    (carry c (grid1.coords t) (ms1_0 t) (hs1_0 t) (ms1_1 t) (hs1_1 t) (ms1_2 t) (hs1_2 t) (ms1_3 t) (hs1_3 t) (ms1_4 t) (hs1_4 t)
      (ms1_5 t) (hs1_5 t) (ms1_6 t) (hs1_6 t) (ms1_7 t) (hs1_7 t) _ _ _ _ _ _ H h1 h2 y d _ le_rfl)
  have e1 : Scf.trips 0#32 (Scalar.addi 0#32 (Scalar.muli (Scalar.divsi (Scalar.subi (BitVec.ofNat 32 (grid1.coords t 1).val) 0#32) 1#32) 1#32)) 1#32
      = (grid1.coords t 1).val := (F0.words _).1
  have e2 : Scf.trips (Scalar.addi 0#32 (Scalar.muli (Scalar.divsi (Scalar.subi (BitVec.ofNat 32 (grid1.coords t 1).val) 0#32) 1#32) 1#32))
      (Scalar.addi 0#32 (Scalar.subi (BitVec.ofNat 32 (grid1.coords t 1).val) 0#32)) 1#32 = 0 := (F0.words _).2.1
  unfold outsAt1
  dsimp only
  constructor
  · intro y
    frame_out
    rw [e1, e2]
    simp only [st_k1_t2_zero]
    have hy : y = ix2 (y 0) (y 1) := ValueIdx.eq_ix2 y
    rw [hy]
    exact hd (y 0) (y 1)
  · intro y
    frame_out
    exact H.delta_out y

/-- The queries' gradient after the call, and the rows' deltas. -/
theorem final (c : Dev nD) {A K U D : ℕ → ℕ → ℝ}
    (hA : Is2 (n := 4096) (m := 1024) (V c (Pipeline.arrRef spec1 0)) A) (hK : Is2 (n := 4096) (m := 1024) (V c (Pipeline.arrRef spec1 1)) K)
    (hU : Is2 (n := 4096) (m := 1024) (V c (Pipeline.arrRef spec1 2)) U) (hO : Is2 (n := 4096) (m := 1024) (V c (Pipeline.arrRef spec1 3)) (out A K U))
    (hD : Is2 (n := 4096) (m := 1024) (V c (Pipeline.arrRef spec1 4)) D)
    (hL : ∀ i : S8x4096x1.Idx, V c (Pipeline.arrRef spec1 5) i = ((lse A K (i 0).val (i 1).val : ℝ) : EReal)) :
    Is2 (n := 4096) (m := 1024) ((dat1 V c).arrAt 6 cfg1.N) (dq A K U D) ∧
    ∀ i : S8x4096x1.Idx, (dat1 V c).arrAt 7 cfg1.N i = ((delta A K U D (i 0).val (i 1).val : ℝ) : EReal) := by
  constructor
  · intro i
    refine congrFun ((dat1 V c).arrAt_eq_of_covers 6 (fun i => ((dq A K U D (i 0 : ℕ) (i 1 : ℕ) : ℝ) : EReal)) (by decide +kernel) fun t _ y => ?_) i
    blk_simp
    rw [after1_6]
    refine ((point V c t hA hK hU hO hD hL).1 y).trans ?_
    blk_simp [idx t]
  · intro i
    refine congrFun ((dat1 V c).arrAt_eq_of_covers 7 (fun i : S8x4096x1.Idx => ((delta A K U D (i 0 : ℕ) (i 1 : ℕ) : ℝ) : EReal)) (by decide +kernel) fun t _ y => ?_) i
    blk_simp
    rw [after1_7]
    refine ((point V c t hA hK hU hO hD hL).2 y).trans ?_
    blk_simp [idx t]

end F1

end Cert.Kernel2Ideal.Value
-- ==== Proof.F2.lean ====
module

public import proofs.«01_k».proof.Proof.F0

@[expose] public section

set_option maxRecDepth 16384

/-! # The backward call for the keys and values: their gradients -/

noncomputable section

open Idealize.ShloMosaic Idealize.ShloMosaic.TcCoe Idealize.SL.Sem
open Cert.Kernel2Ideal Cert.Kernel2Ideal.Gen Cert.Layer Cert.Attn

namespace Cert.Kernel2Ideal.Value

variable (V : (c : Dev nD) → (b : Ref sig .tc) → Buf (Elt Ideal) ((c : Thread nD τ).loc b))

namespace F2

open F0 (rows select_le)

theorem named_ln2 : (Named.named (F := Ideal) κ "ln2" (φ := .f32) 0x3F317218#32 : EReal) = ((Real.log 2 : ℝ) : EReal) := rfl

/-- Where each window's block sits. -/
theorem idx : ∀ t : Fin cfg2.N, win2_0.index t = ![0, (grid2.coords t 0).val] ∧
    win2_1.index t = ![(grid2.coords t 1).val, (grid2.coords t 0).val] ∧ win2_2.index t = ![(grid2.coords t 1).val, (grid2.coords t 0).val] ∧
    win2_3.index t = ![0, (grid2.coords t 0).val] ∧
    win2_4.index t = ![(grid2.coords t 0).val, 0, 0] ∧ win2_5.index t = ![(grid2.coords t 0).val, 0, 0] ∧
    win2_6.index t = ![(grid2.coords t 1).val, (grid2.coords t 0).val] ∧ win2_7.index t = ![(grid2.coords t 1).val, (grid2.coords t 0).val] :=
  (by decide +kernel : ∀ t : Fin grid2.N, _)

/-- The first loop runs over the blocks after the diagonal one, the second not at all. -/
theorem words : ∀ n : Fin 4,
    (⟨Scalar.addi (BitVec.ofNat 32 n.val) 1#32, Scalar.addi (Scalar.addi (BitVec.ofNat 32 n.val) 1#32)
      (Scalar.muli (Scalar.divsi (Scalar.subi 4#32 (Scalar.addi (BitVec.ofNat 32 n.val) 1#32)) 1#32) 1#32), 1#32⟩ : Scf.Loop 32).trips = 3 - n.val ∧
    (⟨Scalar.addi (Scalar.addi (BitVec.ofNat 32 n.val) 1#32)
      (Scalar.muli (Scalar.divsi (Scalar.subi 4#32 (Scalar.addi (BitVec.ofNat 32 n.val) 1#32)) 1#32) 1#32),
      Scalar.addi (Scalar.addi (BitVec.ofNat 32 n.val) 1#32) (Scalar.subi 4#32 (Scalar.addi (BitVec.ofNat 32 n.val) 1#32)), 1#32⟩ : Scf.Loop 32).trips = 0 ∧
    (Scalar.indexCast (Scalar.muli (BitVec.ofNat 32 n.val) 1024#32)).toNat = n.val * 1024 ∧
    ∀ k : Fin 4, (Scalar.indexCast (Scalar.muli (Scf.iv (Scalar.addi (BitVec.ofNat 32 n.val) 1#32) 1#32 k.val) 1024#32)).toNat = (n.val + 1 + k.val) * 1024 := by
  decide +kernel

theorem trips (i : grid2.Coords) : (k2_t1_loop i).trips = 3 - (i 1).val ∧ (k2_t2_loop i).trips = 0 :=
  ⟨(words (i 1)).1, (words (i 1)).2.1⟩

theorem off1 (i : grid2.Coords) : k2_off1 i = ![(i 1).val * 1024, 0] :=
  congrArg (fun n => ![n, 0]) (words (i 1)).2.2.1

theorem off2 (i : grid2.Coords) : k2_off2 i = ![0, 0, (i 1).val * 1024] :=
  congrArg (fun n => ![0, 0, n]) (words (i 1)).2.2.1

theorem lt_four (i : grid2.Coords) (k : Fin (k2_t1_loop i).trips) : k.val < 4 :=
  lt_of_lt_of_le k.isLt ((trips i).1.trans_le ((Nat.sub_le _ _).trans (by decide)))

theorem off3 (i : grid2.Coords) (k : Fin (k2_t1_loop i).trips) : k2_off3 i k = ![((i 1).val + 1 + k.val) * 1024, 0] :=
  congrArg (fun n => ![n, 0]) ((words (i 1)).2.2.2 ⟨k.val, lt_four i k⟩)

theorem off4 (i : grid2.Coords) (k : Fin (k2_t1_loop i).trips) : k2_off4 i k = ![0, 0, ((i 1).val + 1 + k.val) * 1024] :=
  congrArg (fun n => ![0, 0, n]) ((words (i 1)).2.2.2 ⟨k.val, lt_four i k⟩)

/-- A block of a head's row of numbers. -/
theorem cells {off : Fin 3 → ℕ} {b : ℕ} (ho : off = ![0, 0, b]) (inb : ∀ a, off a + (![1, 1, 1024] : Fin 3 → ℕ) a ≤ S1x1x4096.size a)
    (X : S1x1x4096.Idx → EReal) (f : ℕ → ℝ) (hX : ∀ i : S1x1x4096.Idx, X i = ((f (i 2).val : ℝ) : EReal)) (x : S1x1x1024.Idx) :
    X ((Rect.unit (s := S1x1x4096) off ![1, 1, 1024] inb).idx x) = ((f (b + (x 2).val) : ℝ) : EReal) := by
  subst ho
  refine (hX _).trans ?_
  have e2 := Rect.idx_unit_val (s := S1x1x4096) ![0, 0, b] ![1, 1, 1024] inb x 2
  have h2 : (((Rect.unit (s := S1x1x4096) ![0, 0, b] ![1, 1, 1024] inb).idx x 2 : Fin _) : ℕ) = b + (x 2).val := e2
  rw [h2]

/-- A block of rows as the kernel reads it: queries, gradients, logarithms and deltas. -/
structure Rows (A K U D : ℕ → ℕ → ℝ) (h N : ℕ) (w1 w2 : S1024x128.Idx → EReal) (w3 w4 : S1x1x1024.Idx → EReal) : Prop where
  hq : Is2 (n := 1024) (m := 128) w1 (fun r d => A (N + r) (h * 128 + d))
  hd : Is2 (n := 1024) (m := 128) w2 (fun r d => D (N + r) (h * 128 + d))
  hl : ∀ x : S1x1x1024.Idx, w3 x = ((lse A K h (N + (x 2).val) : ℝ) : EReal)
  ht : ∀ x : S1x1x1024.Idx, w4 x = ((delta A K U D h (N + (x 2).val) : ℝ) : EReal)

variable {A K U D : ℕ → ℕ → ℝ} {h q N : ℕ} {w1 w2 : S1024x128.Idx → EReal} {w3 w4 : S1x1x1024.Idx → EReal} {v1 v3 : S1024x128.Idx → EReal}

theorem Rows.score (R : Rows A K U D h N w1 w2 w3 w4) (h1 : Is2 (n := 1024) (m := 128) v1 (fun r d => K (q * 1024 + r) (h * 128 + d)))
    (y k : Fin 1024) : ∑ x : Fin 128, v1 (ix2 y x) * w1 (ix2 k x) = ((score A K h (N + k) (q * 1024 + y) : ℝ) : EReal) :=
  sum_fin _ (fun d => A (N + k) (h * 128 + d) * K (q * 1024 + y) (h * 128 + d)) fun d =>
    (congrArg₂ (fun a b : EReal => a * b) (h1 (ix2 y d)) (R.hq (ix2 k d))).trans ((mul_comm _ _).trans (EReal.coe_mul _ _).symm)

theorem Rows.dprob (R : Rows A K U D h N w1 w2 w3 w4) (h3 : Is2 (n := 1024) (m := 128) v3 (fun r d => U (q * 1024 + r) (h * 128 + d)))
    (y k : Fin 1024) : ∑ x : Fin 128, v3 (ix2 y x) * w2 (ix2 k x) = ((dprob U D h (N + k) (q * 1024 + y) : ℝ) : EReal) :=
  sum_fin _ (fun d => D (N + k) (h * 128 + d) * U (q * 1024 + y) (h * 128 + d)) fun d =>
    (congrArg₂ (fun a b : EReal => a * b) (h3 (ix2 y d)) (R.hd (ix2 k d))).trans ((mul_comm _ _).trans (EReal.coe_mul _ _).symm)

/-- A column's gradient sums grow by one block of rows. -/
theorem Rows.sums (R : Rows A K U D h N w1 w2 w3 w4) (h3 : Is2 (n := 1024) (m := 128) v3 (fun r d => U (q * 1024 + r) (h * 128 + d)))
    (P : S1024x1024.Idx → EReal) (y : Fin 1024) (hP : ∀ k : Fin 1024, P (ix2 y k) = ((prob A K h (N + k) (q * 1024 + y) : ℝ) : EReal)) (d : Fin 128) :
    (∑ k : Fin 1024, P (ix2 y k) * w2 (ix2 k d) = ((∑ k ∈ Finset.range 1024, prob A K h (N + k) (q * 1024 + y) * D (N + k) (h * 128 + d) : ℝ) : EReal)) ∧
    ∑ k : Fin 1024, P (ix2 y k) * (∑ x : Fin 128, v3 (ix2 y x) * w2 (ix2 k x) - w4 (ix3 0 0 k)) * w1 (ix2 k d)
      = ((∑ k ∈ Finset.range 1024, dscore A K U D h (N + k) (q * 1024 + y) * A (N + k) (h * 128 + d) : ℝ) : EReal) := by
  constructor
  · exact sum_fin _ (fun k => prob A K h (N + k) (q * 1024 + y) * D (N + k) (h * 128 + d)) fun k =>
      (congrArg₂ (fun a b : EReal => a * b) (hP k) (R.hd (ix2 k d))).trans (EReal.coe_mul _ _).symm
  · refine sum_fin _ (fun k => dscore A K U D h (N + k) (q * 1024 + y) * A (N + k) (h * 128 + d)) fun k => ?_
    rw [hP, R.dprob h3, R.ht, R.hq (ix2 k d), ← EReal.coe_sub, ← EReal.coe_mul, ← EReal.coe_mul]
    rfl

/-- A block of rows below the diagonal. -/
theorem Rows.block (R : Rows A K U D h N w1 w2 w3 w4) (hN : q * 1024 + 1024 ≤ N)
    (h1 : Is2 (n := 1024) (m := 128) v1 (fun r d => K (q * 1024 + r) (h * 128 + d)))
    (h3 : Is2 (n := 1024) (m := 128) v3 (fun r d => U (q * 1024 + r) (h * 128 + d))) (y : Fin 1024) (d : Fin 128) (a b : S1024x128.Idx → EReal)
    (ha : a (ix2 y d) = ((∑ r ∈ Finset.range N, dscore A K U D h r (q * 1024 + y) * A r (h * 128 + d) : ℝ) : EReal))
    (hb : b (ix2 y d) = ((∑ r ∈ Finset.range N, prob A K h r (q * 1024 + y) * D r (h * 128 + d) : ℝ) : EReal)) :
    k2_pay5 (F := Ideal) v1 v3 a w1 w2 w3 w4 (ix2 y d) = ((∑ r ∈ Finset.range (N + 1024), dscore A K U D h r (q * 1024 + y) * A r (h * 128 + d) : ℝ) : EReal) ∧
    k2_pay4 (F := Ideal) v1 b w1 w2 w3 (ix2 y d) = ((∑ r ∈ Finset.range (N + 1024), prob A K h r (q * 1024 + y) * D r (h * 128 + d) : ℝ) : EReal) := by
  have e3 : ∀ k : Fin 1024, k2_pay3 (F := Ideal) v1 w1 w3 (ix2 y k) = ((prob A K h (N + k) (q * 1024 + y) : ℝ) : EReal) := by
    intro k
    pointwise [k2_pay3, k2_pay1]
    rw [prob_eq, if_pos (by omega)]
    refine (congrArg Ideal.exp2 (congrArg₂ (fun a b : EReal => a - b) (R.score h1 y k) (R.hl _))).trans ?_
    rw [← EReal.coe_sub, Ideal.exp2_coe]; rfl
  have e := R.sums h3 _ y e3 d
  constructor
  · pointwise [k2_pay5, k2_pay1, k2_pay2]
    rw [ha, Finset.sum_range_add, EReal.coe_add]
    exact congrArg₂ (fun a b : EReal => a + b) rfl e.2
  · pointwise [k2_pay4, k2_pay2]
    rw [hb, Finset.sum_range_add, EReal.coe_add]
    exact congrArg₂ (fun a b : EReal => a + b) rfl e.1

theorem dscore_of_lt {r c : ℕ} (hrc : r < c) : prob A K h r c = 0 ∧ dscore A K U D h r c = 0 := by
  have e : prob A K h r c = 0 := by rw [prob_eq, if_neg (by omega)]
  exact ⟨e, by unfold dscore; rw [e, zero_mul]⟩

/-- The diagonal block. -/
theorem Rows.diag (R : Rows A K U D h (q * 1024) w1 w2 w3 w4)
    (h1 : Is2 (n := 1024) (m := 128) v1 (fun r d => K (q * 1024 + r) (h * 128 + d)))
    (h3 : Is2 (n := 1024) (m := 128) v3 (fun r d => U (q * 1024 + r) (h * 128 + d))) (y : Fin 1024) (d : Fin 128) :
    k2_pay19 (F := Ideal) v1 v3 w1 w2 w3 w4 (ix2 y d) = ((∑ r ∈ Finset.range ((q + 1) * 1024), dscore A K U D h r (q * 1024 + y) * A r (h * 128 + d) : ℝ) : EReal) ∧
    k2_pay18 (F := Ideal) v1 w1 w2 w3 (ix2 y d) = ((∑ r ∈ Finset.range ((q + 1) * 1024), prob A K h r (q * 1024 + y) * D r (h * 128 + d) : ℝ) : EReal) := by
  have e3 : ∀ k : Fin 1024, k2_pay17 (F := Ideal) v1 w1 w3 (ix2 y k) = ((prob A K h (q * 1024 + k) (q * 1024 + y) : ℝ) : EReal) := by
    intro k
    pointwise [k2_pay17, k2_pay12, k2_pay15]
    rw [select_le (by omega) (by omega), prob_eq]
    by_cases hk : (y : ℕ) ≤ k
    · rw [if_pos hk, if_pos (by omega)]
      refine (congrArg Ideal.exp2 (congrArg₂ (fun a b : EReal => a - b) (R.score h1 y k) (R.hl _))).trans ?_
      rw [← EReal.coe_sub, Ideal.exp2_coe]; rfl
    · rw [if_neg hk, if_neg (by omega)]; rfl
  have e := R.sums h3 _ y e3 d
  have z1 : ∑ r ∈ Finset.range (q * 1024), dscore A K U D h r (q * 1024 + y) * A r (h * 128 + d) = 0 :=
    Finset.sum_eq_zero fun r hr => by
      have := Finset.mem_range.1 hr
      rw [(dscore_of_lt (by omega)).2, zero_mul]
  have z2 : ∑ r ∈ Finset.range (q * 1024), prob A K h r (q * 1024 + y) * D r (h * 128 + d) = 0 :=
    Finset.sum_eq_zero fun r hr => by
      have := Finset.mem_range.1 hr
      rw [(dscore_of_lt (U := U) (D := D) (by omega)).1, zero_mul]
  rw [Nat.add_mul, Nat.one_mul, Finset.sum_range_add, Finset.sum_range_add, z1, z2, zero_add, zero_add]
  constructor
  · pointwise [k2_pay19, k2_pay13, k2_pay14, k2_pay15, k2_pay16]
    exact e.2
  · pointwise [k2_pay18, k2_pay14, k2_pay16]
    exact e.1

/-- What the loop carries before block `k`. -/
theorem carry (c : Dev nD) (i : grid2.Coords) (arg2 : Memref sig .tc .vmem S4096x128 .bf16) (harg2 : arg2.IsWhole) (arg3 : Memref sig .tc .vmem S1024x128 .bf16)
    (harg3 : arg3.IsWhole) (arg4 : Memref sig .tc .vmem S1024x128 .bf16) (harg4 : arg4.IsWhole) (arg5 : Memref sig .tc .vmem S4096x128 .f32)
    (harg5 : arg5.IsWhole) (arg6 : Memref sig .tc .vmem S1x1x4096 .f32) (harg6 : arg6.IsWhole) (arg7 : Memref sig .tc .vmem S1x1x4096 .f32)
    (harg7 : arg7.IsWhole) (arg8 : Memref sig .tc .vmem S1024x128 .f32) (harg8 : arg8.IsWhole) (arg9 : Memref sig .tc .vmem S1024x128 .f32)
    (harg9 : arg9.IsWhole) (v1 v3 : FVec Ideal S1024x128 .bf16) (x0 : Vec Ideal S4096x128 .bf16) (x3 : Vec Ideal S4096x128 .f32) (x4 x5 : Vec Ideal S1x1x4096 .f32)
    (h1 : Is2 (n := 1024) (m := 128) v1 (fun r d => K ((i 1).val * 1024 + r) (h * 128 + d)))
    (h3 : Is2 (n := 1024) (m := 128) v3 (fun r d => U ((i 1).val * 1024 + r) (h * 128 + d)))
    (hA : Is2 (n := 4096) (m := 128) x0 (fun r d => A r (h * 128 + d))) (hD : Is2 (n := 4096) (m := 128) x3 (fun r d => D r (h * 128 + d)))
    (hL : ∀ x : S1x1x4096.Idx, x4 x = ((lse A K h (x 2).val : ℝ) : EReal)) (hT : ∀ x : S1x1x4096.Idx, x5 x = ((delta A K U D h (x 2).val : ℝ) : EReal))
    (y : Fin 1024) (d : Fin 128) (init : FVec Ideal S1024x128 .f32 × FVec Ideal S1024x128 .f32)
    (hi : init.1 (ix2 y d) = ((∑ r ∈ Finset.range (((i 1).val + 1) * 1024), dscore A K U D h r ((i 1).val * 1024 + y) * A r (h * 128 + d) : ℝ) : EReal) ∧
      init.2 (ix2 y d) = ((∑ r ∈ Finset.range (((i 1).val + 1) * 1024), prob A K h r ((i 1).val * 1024 + y) * D r (h * 128 + d) : ℝ) : EReal))
    (k : ℕ) (hk : k ≤ 3 - (i 1).val) :
    (st_k2_t1 (F := Ideal) Variants.none c none i arg2 harg2 arg3 harg3 arg4 harg4 arg5 harg5 arg6 harg6 arg7 harg7 arg8 harg8 arg9 harg9 v1 v3
      (harg2.unread x0) (harg5.unread x3) (harg6.unread x4) (harg7.unread x5) init k).1 (ix2 y d)
      = ((∑ r ∈ Finset.range (((i 1).val + 1 + k) * 1024), dscore A K U D h r ((i 1).val * 1024 + y) * A r (h * 128 + d) : ℝ) : EReal) ∧
    (st_k2_t1 (F := Ideal) Variants.none c none i arg2 harg2 arg3 harg3 arg4 harg4 arg5 harg5 arg6 harg6 arg7 harg7 arg8 harg8 arg9 harg9 v1 v3
      (harg2.unread x0) (harg5.unread x3) (harg6.unread x4) (harg7.unread x5) init k).2 (ix2 y d)
      = ((∑ r ∈ Finset.range (((i 1).val + 1 + k) * 1024), prob A K h r ((i 1).val * 1024 + y) * D r (h * 128 + d) : ℝ) : EReal) := by
  induction k with
  | zero => rw [st_k2_t1_zero]; exact hi
  | succ k ih =>
    have hk' : k < (k2_t1_loop i).trips := by rw [(trips i).1]; exact hk
    rw [st_k2_t1_succ Variants.none c none i arg2 harg2 arg3 harg3 arg4 harg4 arg5 harg5 arg6 harg6 arg7 harg7 arg8 harg8 arg9 harg9 v1 v3
      (harg2.unread x0) (harg5.unread x3) (harg6.unread x4) (harg7.unread x5) _ ⟨k, hk'⟩]
    unfold tripR_k2_t1 trip_k2_t1
    dsimp only
    rw [← Nat.add_assoc, Nat.add_mul _ 1, Nat.one_mul]
    simp only [View.readAt_eq_ld, Memref.IsWhole.read_unread]
    have R : Rows A K U D h (((i 1).val + 1 + k) * 1024) (View.ld x0 (Rect.unit (k2_off3 i ⟨k, hk'⟩) ![1024, 128] (k2_off3_inb _ _)))
        (View.ld x3 (Rect.unit (k2_off3 i ⟨k, hk'⟩) ![1024, 128] (k2_off3_inb _ _)))
        (View.ld x4 (Rect.unit (k2_off4 i ⟨k, hk'⟩) ![1, 1, 1024] (k2_off4_inb _ _)))
        (View.ld x5 (Rect.unit (k2_off4 i ⟨k, hk'⟩) ![1, 1, 1024] (k2_off4_inb _ _))) :=
      ⟨fun x => rows (off3 i ⟨k, hk'⟩) _ x0 _ hA x, fun x => rows (off3 i ⟨k, hk'⟩) _ x3 _ hD x,
        fun x => cells (off4 i ⟨k, hk'⟩) _ x4 _ hL x, fun x => cells (off4 i ⟨k, hk'⟩) _ x5 _ hT x⟩
    have ih' := ih (Nat.le_of_succ_le hk)
    exact R.block (by omega) h1 h3 y d _ _ ih'.1 ih'.2

/-- All rows. -/
theorem total {i : ℕ} (hi : i < 4) (f : ℕ → ℝ) : ∑ r ∈ Finset.range ((i + 1 + (3 - i)) * 1024), f r = ∑ r ∈ Finset.range 4096, f r := by
  rw [show (i + 1 + (3 - i)) * 1024 = 4096 by omega]

/-- The keys' gradient is stored scaled. -/
theorem scaled (q : ℕ) (y : Fin 1024) (d : Fin 128) {a : S1024x128.Idx → EReal}
    (ha : a (ix2 y d) = ((∑ r ∈ Finset.range 4096, dscore A K U D h r (q * 1024 + y) * A r (h * 128 + d) : ℝ) : EReal)) :
    k2_pay11 (F := Ideal) a (ix2 y d) = ((dk A K U D (q * 1024 + y) (h * 128 + d) : ℝ) : EReal) := by
  pointwise [k2_pay11]
  refine (congrArg₂ (fun a b : EReal => a * b) ha named_ln2).trans ?_
  rw [← EReal.coe_mul]
  unfold dk
  rw [show (h * 128 + (d : ℕ)) / 128 = h by omega]

/-- The values' gradient is stored as summed. -/
theorem whole (q : ℕ) (y : Fin 1024) (d : Fin 128) {a : EReal}
    (ha : a = ((∑ r ∈ Finset.range 4096, prob A K h r (q * 1024 + y) * D r (h * 128 + d) : ℝ) : EReal)) :
    a = ((dv A K D (q * 1024 + y) (h * 128 + d) : ℝ) : EReal) := by
  rw [ha]
  unfold dv
  rw [show (h * 128 + (d : ℕ)) / 128 = h by omega]

/-- One grid point's outputs: a block of the keys' gradient and one of the values'. -/
theorem point (c : Dev nD) (t : Fin cfg2.N) {A K U D : ℕ → ℕ → ℝ}
    (hA : Is2 (n := 4096) (m := 1024) (V c (Pipeline.arrRef spec2 0)) A) (hK : Is2 (n := 4096) (m := 1024) (V c (Pipeline.arrRef spec2 1)) K)
    (hU : Is2 (n := 4096) (m := 1024) (V c (Pipeline.arrRef spec2 2)) U) (hD : Is2 (n := 4096) (m := 1024) (V c (Pipeline.arrRef spec2 3)) D)
    (hL : ∀ i : S8x1x4096.Idx, V c (Pipeline.arrRef spec2 4) i = ((lse A K (i 0).val (i 2).val : ℝ) : EReal))
    (hT : ∀ i : S8x1x4096.Idx, V c (Pipeline.arrRef spec2 5) i = ((delta A K U D (i 0).val (i 2).val : ℝ) : EReal)) :
    (∀ y : S1024x128.Idx, (outsAt2 V c t).1 y
      = ((dk A K U D ((grid2.coords t 1).val * 1024 + (y 0).val) ((grid2.coords t 0).val * 128 + (y 1).val) : ℝ) : EReal)) ∧
    ∀ y : S1024x128.Idx, (outsAt2 V c t).2 y
      = ((dv A K D ((grid2.coords t 1).val * 1024 + (y 0).val) ((grid2.coords t 0).val * 128 + (y 1).val) : ℝ) : EReal) := by
  have h0 : Is2 (n := 4096) (m := 128) (iblk2 V c 0 t) (fun r d => A r ((grid2.coords t 0).val * 128 + d)) := by
    intro x
    refine (hA (((cfg2.win 0).blk t).view.emb x)).trans ?_
    blk_simp [idx t]
  have h1 : Is2 (n := 1024) (m := 128) (k2_pay12 (F := Ideal) (iblk2 V c 1 t)) (fun r d => K ((grid2.coords t 1).val * 1024 + r) ((grid2.coords t 0).val * 128 + d)) := by
    intro x
    pointwise [k2_pay12]
    refine (hK (((cfg2.win 1).blk t).view.emb _)).trans ?_
    blk_simp [idx t]
  have h3 : Is2 (n := 1024) (m := 128) (k2_pay13 (F := Ideal) (iblk2 V c 2 t)) (fun r d => U ((grid2.coords t 1).val * 1024 + r) ((grid2.coords t 0).val * 128 + d)) := by
    intro x
    pointwise [k2_pay13]
    refine (hU (((cfg2.win 2).blk t).view.emb _)).trans ?_
    blk_simp [idx t]
  have h1' : Is2 (n := 1024) (m := 128) (iblk2 V c 1 t) (fun r d => K ((grid2.coords t 1).val * 1024 + r) ((grid2.coords t 0).val * 128 + d)) := by
    intro x
    refine (hK (((cfg2.win 1).blk t).view.emb x)).trans ?_
    blk_simp [idx t]
  have h3' : Is2 (n := 1024) (m := 128) (iblk2 V c 2 t) (fun r d => U ((grid2.coords t 1).val * 1024 + r) ((grid2.coords t 0).val * 128 + d)) := by
    intro x
    refine (hU (((cfg2.win 2).blk t).view.emb x)).trans ?_
    blk_simp [idx t]
  have h4 : Is2 (n := 4096) (m := 128) (iblk2 V c 3 t) (fun r d => D r ((grid2.coords t 0).val * 128 + d)) := by
    intro x
    refine (hD (((cfg2.win 3).blk t).view.emb x)).trans ?_
    blk_simp [idx t]
  have h5 : ∀ x : S1x1x4096.Idx, iblk2 V c 4 t x = ((lse A K (grid2.coords t 0).val (x 2).val : ℝ) : EReal) := by
    intro x
    refine (hL (((cfg2.win 4).blk t).view.emb x)).trans ?_
    blk_simp [idx t]
  have h6 : ∀ x : S1x1x4096.Idx, iblk2 V c 5 t x = ((delta A K U D (grid2.coords t 0).val (x 2).val : ℝ) : EReal) := by
    intro x
    refine (hT (((cfg2.win 5).blk t).view.emb x)).trans ?_
    blk_simp [idx t]
  have R : Rows A K U D (grid2.coords t 0).val ((grid2.coords t 1).val * 1024)
      (View.ld (iblk2 V c 0 t) (Rect.unit (k2_off1 (grid2.coords t)) ![1024, 128] (k2_off1_inb _)))
      (View.ld (iblk2 V c 3 t) (Rect.unit (k2_off1 (grid2.coords t)) ![1024, 128] (k2_off1_inb _)))
      (View.ld (iblk2 V c 4 t) (Rect.unit (k2_off2 (grid2.coords t)) ![1, 1, 1024] (k2_off2_inb _)))
      (View.ld (iblk2 V c 5 t) (Rect.unit (k2_off2 (grid2.coords t)) ![1, 1, 1024] (k2_off2_inb _))) :=
    ⟨fun x => rows (off1 (grid2.coords t)) _ _ _ h0 x, fun x => rows (off1 (grid2.coords t)) _ _ _ h4 x,
      fun x => cells (off2 (grid2.coords t)) _ _ _ h5 x, fun x => cells (off2 (grid2.coords t)) _ _ _ h6 x⟩
  have hd := fun y d => carry (A := A) (K := K) (U := U) (D := D) c (grid2.coords t) (ms2_0 t) (hs2_0 t) (ms2_1 t) (hs2_1 t) (ms2_2 t) (hs2_2 t)
    (ms2_3 t) (hs2_3 t) (ms2_4 t) (hs2_4 t) (ms2_5 t) (hs2_5 t) (ms2_6 t) (hs2_6 t) (ms2_7 t) (hs2_7 t) _ _ _ _ _ _ h1 h3 h0 h4 h5 h6 y d
    (k2_pay19 (F := Ideal) (iblk2 V c 1 t) (iblk2 V c 2 t) _ _ _ _, k2_pay18 (F := Ideal) (iblk2 V c 1 t) _ _ _) (R.diag h1' h3' y d) _ le_rfl
  have e1 : Scf.trips (Scalar.addi (BitVec.ofNat 32 (grid2.coords t 1).val) 1#32) (Scalar.addi (Scalar.addi (BitVec.ofNat 32 (grid2.coords t 1).val) 1#32)
      (Scalar.muli (Scalar.divsi (Scalar.subi 4#32 (Scalar.addi (BitVec.ofNat 32 (grid2.coords t 1).val) 1#32)) 1#32) 1#32)) 1#32
      = 3 - (grid2.coords t 1).val := (words _).1
  have e2 : Scf.trips (Scalar.addi (Scalar.addi (BitVec.ofNat 32 (grid2.coords t 1).val) 1#32)
      (Scalar.muli (Scalar.divsi (Scalar.subi 4#32 (Scalar.addi (BitVec.ofNat 32 (grid2.coords t 1).val) 1#32)) 1#32) 1#32))
      (Scalar.addi (Scalar.addi (BitVec.ofNat 32 (grid2.coords t 1).val) 1#32) (Scalar.subi 4#32 (Scalar.addi (BitVec.ofNat 32 (grid2.coords t 1).val) 1#32))) 1#32
      = 0 := (words _).2.1
  have hlt : (grid2.coords t 1).val < 4 := (grid2.coords t 1).isLt
  unfold outsAt2
  dsimp only
  constructor
  · intro y
    frame_out
    rw [e1, e2]
    simp only [st_k2_t2_zero]
    have hy : y = ix2 (y 0) (y 1) := ValueIdx.eq_ix2 y
    rw [hy]
    exact scaled _ _ _ ((hd (y 0) (y 1)).1.trans (congrArg _ (total hlt _)))
  · intro y
    frame_out
    rw [e1, e2]
    simp only [st_k2_t2_zero]
    have hy : y = ix2 (y 0) (y 1) := ValueIdx.eq_ix2 y
    rw [hy]
    exact whole _ _ _ ((hd (y 0) (y 1)).2.trans (congrArg _ (total hlt _)))

/-- The keys' and the values' gradient after the call. -/
theorem final (c : Dev nD) {A K U D : ℕ → ℕ → ℝ}
    (hA : Is2 (n := 4096) (m := 1024) (V c (Pipeline.arrRef spec2 0)) A) (hK : Is2 (n := 4096) (m := 1024) (V c (Pipeline.arrRef spec2 1)) K)
    (hU : Is2 (n := 4096) (m := 1024) (V c (Pipeline.arrRef spec2 2)) U) (hD : Is2 (n := 4096) (m := 1024) (V c (Pipeline.arrRef spec2 3)) D)
    (hL : ∀ i : S8x1x4096.Idx, V c (Pipeline.arrRef spec2 4) i = ((lse A K (i 0).val (i 2).val : ℝ) : EReal))
    (hT : ∀ i : S8x1x4096.Idx, V c (Pipeline.arrRef spec2 5) i = ((delta A K U D (i 0).val (i 2).val : ℝ) : EReal)) :
    Is2 (n := 4096) (m := 1024) ((dat2 V c).arrAt 6 cfg2.N) (dk A K U D) ∧ Is2 (n := 4096) (m := 1024) ((dat2 V c).arrAt 7 cfg2.N) (dv A K D) := by
  constructor
  · intro i
    refine congrFun ((dat2 V c).arrAt_eq_of_covers 6 (fun i => ((dk A K U D (i 0 : ℕ) (i 1 : ℕ) : ℝ) : EReal)) (by decide +kernel) fun t _ y => ?_) i
    blk_simp
    rw [after2_6]
    refine ((point V c t hA hK hU hD hL hT).1 y).trans ?_
    blk_simp [idx t]
  · intro i
    refine congrFun ((dat2 V c).arrAt_eq_of_covers 7 (fun i => ((dv A K D (i 0 : ℕ) (i 1 : ℕ) : ℝ) : EReal)) (by decide +kernel) fun t _ y => ?_) i
    blk_simp
    rw [after2_7]
    refine ((point V c t hA hK hU hD hL hT).2 y).trans ?_
    blk_simp [idx t]

end F2

end Cert.Kernel2Ideal.Value
-- ==== Proof.FChain.lean ====
module

public import proofs.«01_k».proof.Proof.FHost
public import proofs.«01_k».proof.Proof.F1
public import proofs.«01_k».proof.Proof.F2

@[expose] public section

set_option maxRecDepth 16384

/-! # What the attention's buffers hold after each call -/

noncomputable section

open Idealize.ShloMosaic Idealize.ShloMosaic.TcCoe Idealize.SL.Sem

namespace Cert.Kernel2Ideal.Value
open Cert.Kernel2Ideal Cert.Kernel2Ideal.Gen Cert.Layer Cert.Attn

variable (m : (ℓ : Loc nD τ sig) → Buf (Elt Ideal) ℓ) (ρ : Dev nD → PrngReg) (c : Dev nD) (p : Heads)

/-! ## After the forward call -/

theorem forward (h : Launched m c p) :
    Is2 (n := 4096) (m := 1024) (W10 m ρ c (Proc.devRef .tc main_v16_0)) (out p.A p.K p.U) ∧
    ∀ i : S8x4096x1.Idx, (W10 m ρ c (Proc.devRef .tc main_v16_1) : S8x4096x1.Idx → EReal) i = ((lse p.A p.K (i 0).val (i 1).val : ℝ) : EReal) := by
  have e := F0.final (V9 m ρ) c (at9_v7 m ρ c p h) (at9_v10 m ρ c p h) (at9_v13 m ρ c p h)
  exact ⟨Is2.of_eq (W10_arr m ρ c 3) e.1, fun i => (congrFun (W10_arr m ρ c 4) i).trans (e.2 i)⟩

theorem at10_v7 (h : Launched m c p) : Is2 (n := 4096) (m := 1024) (W10 m ρ c (Proc.devRef .tc main_v7)) p.A :=
  Is2.of_eq (W10_of m ρ c main_v7 (by decide +kernel)) (at9_v7 m ρ c p h)
theorem at10_v10 (h : Launched m c p) : Is2 (n := 4096) (m := 1024) (W10 m ρ c (Proc.devRef .tc main_v10)) p.K :=
  Is2.of_eq (W10_of m ρ c main_v10 (by decide +kernel)) (at9_v10 m ρ c p h)
theorem at10_v13 (h : Launched m c p) : Is2 (n := 4096) (m := 1024) (W10 m ρ c (Proc.devRef .tc main_v13)) p.U :=
  Is2.of_eq (W10_of m ρ c main_v13 (by decide +kernel)) (at9_v13 m ρ c p h)
theorem at10_v15 (h : Launched m c p) : Is2 (n := 4096) (m := 1024) (W10 m ρ c (Proc.devRef .tc main_v15)) p.D :=
  Is2.of_eq (W10_of m ρ c main_v15 (by decide +kernel)) (at9_v15 m ρ c p h)

/-! ## After the queries' backward call -/

theorem queries (h : Launched m c p) :
    Is2 (n := 4096) (m := 1024) (W11 m ρ c (Proc.devRef .tc main_v17_0)) (dq p.A p.K p.U p.D) ∧
    ∀ i : S8x4096x1.Idx, (W11 m ρ c (Proc.devRef .tc main_v17_1) : S8x4096x1.Idx → EReal) i = ((delta p.A p.K p.U p.D (i 0).val (i 1).val : ℝ) : EReal) := by
  have f := forward m ρ c p h
  have e := F1.final (V10 m ρ) c (at10_v7 m ρ c p h) (at10_v10 m ρ c p h) (at10_v13 m ρ c p h) f.1 (at10_v15 m ρ c p h) f.2
  exact ⟨Is2.of_eq (W11_arr m ρ c 6) e.1, fun i => (congrFun (W11_arr m ρ c 7) i).trans (e.2 i)⟩

theorem at11_out (h : Launched m c p) : Is2 (n := 4096) (m := 1024) (W11 m ρ c (Proc.devRef .tc main_v16_0)) (out p.A p.K p.U) :=
  Is2.of_eq (W11_of m ρ c main_v16_0 (by decide +kernel)) (forward m ρ c p h).1
theorem at11_lse (h : Launched m c p) (i : S8x4096x1.Idx) :
    (W11 m ρ c (Proc.devRef .tc main_v16_1) : S8x4096x1.Idx → EReal) i = ((lse p.A p.K (i 0).val (i 1).val : ℝ) : EReal) :=
  (congrFun (W11_of m ρ c main_v16_1 (by decide +kernel)) i).trans ((forward m ρ c p h).2 i)

theorem at12_v7 (h : Launched m c p) : Is2 (n := 4096) (m := 1024) (W12 m ρ c (Proc.devRef .tc main_v7)) p.A :=
  Is2.of_eq (W12_of m ρ c main_v7 (by decide)) (Is2.of_eq (W11_of m ρ c main_v7 (by decide +kernel)) (at10_v7 m ρ c p h))
theorem at12_v10 (h : Launched m c p) : Is2 (n := 4096) (m := 1024) (W12 m ρ c (Proc.devRef .tc main_v10)) p.K :=
  Is2.of_eq (W12_of m ρ c main_v10 (by decide)) (Is2.of_eq (W11_of m ρ c main_v10 (by decide +kernel)) (at10_v10 m ρ c p h))
theorem at12_v13 (h : Launched m c p) : Is2 (n := 4096) (m := 1024) (W12 m ρ c (Proc.devRef .tc main_v13)) p.U :=
  Is2.of_eq (W12_of m ρ c main_v13 (by decide)) (Is2.of_eq (W11_of m ρ c main_v13 (by decide +kernel)) (at10_v13 m ρ c p h))
theorem at12_v15 (h : Launched m c p) : Is2 (n := 4096) (m := 1024) (W12 m ρ c (Proc.devRef .tc main_v15)) p.D :=
  Is2.of_eq (W12_of m ρ c main_v15 (by decide)) (Is2.of_eq (W11_of m ρ c main_v15 (by decide +kernel)) (at10_v15 m ρ c p h))

/-- The rows' logarithms and deltas, laid out as rows. -/
theorem at12_rows (h : Launched m c p) :
    (∀ i : S8x1x4096.Idx, (W12 m ρ c (Proc.devRef .tc main_v18) : S8x1x4096.Idx → EReal) i = ((lse p.A p.K (i 0).val (i 2).val : ℝ) : EReal)) ∧
    ∀ i : S8x1x4096.Idx, (W12 m ρ c (Proc.devRef .tc main_v19) : S8x1x4096.Idx → EReal) i = ((delta p.A p.K p.U p.D (i 0).val (i 2).val : ℝ) : EReal) := by
  have e1 := at11_lse m ρ c p h
  have e2 := (queries m ρ c p h).2
  revert e1 e2
  unfold W12
  generalize W11 m ρ c = w
  intro e1 e2
  constructor
  · intro i
    after_results
    exact turn e1 shapeCasts_S8x4096x1_S8x1x4096 i
  · intro i
    after_results
    exact turn e2 shapeCasts_S8x4096x1_S8x1x4096 i

/-! ## The four results -/

theorem result_o (h : Launched m c p) : Is2 (n := 4096) (m := 1024) (W13 m ρ c (Proc.devRef .tc main_v16_0)) (out p.A p.K p.U) :=
  Is2.of_eq (W13_of m ρ c main_v16_0 (by decide +kernel)) (Is2.of_eq (W12_of m ρ c main_v16_0 (by decide)) (at11_out m ρ c p h))

theorem result_dq (h : Launched m c p) : Is2 (n := 4096) (m := 1024) (W13 m ρ c (Proc.devRef .tc main_v17_0)) (dq p.A p.K p.U p.D) :=
  Is2.of_eq (W13_of m ρ c main_v17_0 (by decide +kernel)) (Is2.of_eq (W12_of m ρ c main_v17_0 (by decide)) (queries m ρ c p h).1)

theorem result_kv (h : Launched m c p) :
    Is2 (n := 4096) (m := 1024) (W13 m ρ c (Proc.devRef .tc main_v20_0)) (dk p.A p.K p.U p.D) ∧
    Is2 (n := 4096) (m := 1024) (W13 m ρ c (Proc.devRef .tc main_v20_1)) (dv p.A p.K p.D) := by
  have f := at12_rows m ρ c p h
  have e := F2.final (V12 m ρ) c (at12_v7 m ρ c p h) (at12_v10 m ρ c p h) (at12_v13 m ρ c p h) (at12_v15 m ρ c p h) f.1 f.2
  exact ⟨Is2.of_eq (W13_arr m ρ c 6) e.1, Is2.of_eq (W13_arr m ρ c 7) e.2⟩

end Cert.Kernel2Ideal.Value
-- ==== Proof.FRun.lean ====
module

public import proofs.«01_k».proof.Proof.Gen.Kernel2Ideal.Frame

@[expose] public section

set_option maxRecDepth 16384

/-! # The run of the attention program, with its four results at the contents the last region leaves -/

noncomputable section

namespace Cert.Kernel2Ideal.Value

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends, with each result at the contents of the last boundary and every argument as launched. -/
theorem run : θ_run defs (onTc (τ := τ) (main (F := F))) ⟨m, fun _ => 0, ρ⟩ (fun r => ∀ c : Dev nD,
      r.2.mem ((c.tc : Thread nD τ).loc main_v16_0) = W13 m ρ c (Proc.devRef .tc main_v16_0)
      ∧ r.2.mem ((c.tc : Thread nD τ).loc main_v17_0) = W13 m ρ c (Proc.devRef .tc main_v17_0)
      ∧ r.2.mem ((c.tc : Thread nD τ).loc main_v20_0) = W13 m ρ c (Proc.devRef .tc main_v20_0)
      ∧ r.2.mem ((c.tc : Thread nD τ).loc main_v20_1) = W13 m ρ c (Proc.devRef .tc main_v20_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h _ => fun c =>
      ⟨h c _ (mem_uc main_v16_0 (by decide)),
       h c _ (mem_uc main_v17_0 (by decide)),
       h c _ (mem_uc main_v20_0 (by decide)),
       h c _ (mem_uc main_v20_1 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c)⟩)

end Cert.Kernel2Ideal.Value

end
-- ==== Proof.Finite2.lean ====
module

public import proofs.«01_k».proof.Defs
public import proofs.«01_k».proof.Proof.FHost
public import proofs.«01_k».proof.Proof.Finite
public import proofs.«01_k».proof.Proof.Gen.Pre_finite2

@[expose] public section

set_option maxRecDepth 16384

/-! # The attention's precondition: every element of the four arguments is a real -/

noncomputable section

open Idealize.ShloMosaic

namespace Cert.Finite
open Cert.Layer Cert.Attn

/-- A three-axis array's elements as reals. -/
def real3 {a b c : ℕ} (A : (⟨3, ![a, b, c]⟩ : Shape).Idx → EReal) (i j k : ℕ) : ℝ :=
  if h : i < a ∧ j < b ∧ k < c then (A fun q => match q with | ⟨0, _⟩ => ⟨i, h.1⟩ | ⟨1, _⟩ => ⟨j, h.2.1⟩ | ⟨2, _⟩ => ⟨k, h.2.2⟩).toReal else 0

theorem is3 {a b c : ℕ} (A : (⟨3, ![a, b, c]⟩ : Shape).Idx → EReal) (h : ∀ i, A i = (((A i).toReal : ℝ) : EReal)) : Is3 A (real3 A) := fun i => by
  have hi : (i 0 : ℕ) < a ∧ (i 1 : ℕ) < b ∧ (i 2 : ℕ) < c := ⟨(i 0).isLt, (i 1).isLt, (i 2).isLt⟩
  unfold real3
  rw [dif_pos hi]
  refine (h i).trans (congrArg (fun q => (((A q).toReal : ℝ) : EReal)) (funext fun q => ?_))
  match q with
  | ⟨0, _⟩ => rfl
  | ⟨1, _⟩ => rfl
  | ⟨2, _⟩ => rfl

open Cert.Kernel2Ideal in
theorem launched2 (m : (ℓ : Loc nD τ sig) → Buf (Elt Ideal) ℓ) (h : Cert.Pre_Kernel2Ideal_finite2 m) (c : Dev nD) : ∃ p : Heads, Cert.Kernel2Ideal.Value.Launched m c p := by
  have e : ∀ x y : BitVec 1, IntOp.andi x y = 1#1 → x = 1#1 ∧ y = 1#1 := by decide
  have hc := congrFun (h c) (Shape.Idx.first h_S_)
  simp only [Cert.Pre_finite2.fn, Cert.Pre_finite2.fn_part1] at hc
  obtain ⟨hc, h3⟩ := e _ _ hc
  obtain ⟨hc, h2⟩ := e _ _ hc
  obtain ⟨h0, h1⟩ := e _ _ hc
  exact ⟨⟨real3 (a := 4096) (b := 8) (c := 96) _, real3 (a := 4096) (b := 8) (c := 96) _, real3 (a := 4096) (b := 8) (c := 64) _, real3 (a := 4096) (b := 8) (c := 64) _⟩,
    is3 _ (reals _ _ _ _ h0), is3 _ (reals _ _ _ _ h1), is3 _ (reals _ _ _ _ h2), is3 _ (reals _ _ _ _ h3)⟩

end Cert.Finite

end
-- ==== Proof.Glu.lean ====
module

public import proofs.«01_k».proof.Proof.Arrays

@[expose] public section

set_option maxRecDepth 16384

/-! # The gated layer around the recurrence, over the reals

`u` is the normalised input's projection, `z = y + d · u` the recurrence's output with the skip's share, `gelu z` the
activation in its `tanh` form, and the output adds to the input `a · sig b`, `a` and `b` the two halves of a projection
of the activation. The literals are the numbers the programs use. -/

noncomputable section

open Idealize.ShloMosaic

namespace Cert.Layer

/-- The cubic term's factor. -/
def cub : ℝ := 8943 / 200000
/-- The single-precision literal nearest to the root of `2 / π`. -/
def gC : ℝ := 13386282 / 16777216
/-- The hyperbolic tangent the activation takes. -/
def gth (z : ℝ) : ℝ := Real.tanh (gC * (z + cub * (z * (z * z))))
/-- The activation. -/
def gelu (z : ℝ) : ℝ := z * (1 / 2 * (1 + gth z))
/-- Its derivative. -/
def dgelu (z : ℝ) : ℝ := 1 / 2 * (1 + gth z) + 1 / 2 * z * (1 - gth z * gth z) * gC * (1 + 3 * cub * z * z)

/-- The arguments: input, gain, projection, the recurrence's output, the skip's factors, the gate's projection, the
gradient of the recurrence's input, the cotangent of the output. -/
structure Gated where
  X : ℕ → ℕ → ℝ
  N : ℕ → ℝ
  W : ℕ → ℕ → ℝ
  Y : ℕ → ℕ → ℝ
  D : ℕ → ℝ
  P : ℕ → ℕ → ℝ
  U : ℕ → ℕ → ℝ
  G : ℕ → ℕ → ℝ

namespace Gated
variable (p : Gated)

/-- The gate's half of a matrix with both halves side by side. -/
def half (A : ℕ → ℕ → ℝ) (i j : ℕ) : ℝ := A i (1024 + j)

def h : ℕ → ℕ → ℝ := norm p.X p.N
def u : ℕ → ℕ → ℝ := mul 1024 p.h p.W
def z (t j : ℕ) : ℝ := p.Y t j + p.D j * p.u t j
def g (t j : ℕ) : ℝ := gelu (p.z t j)
/-- The two halves of the projection. -/
def a : ℕ → ℕ → ℝ := mul 1024 p.g p.P
def b : ℕ → ℕ → ℝ := mul 1024 p.g (half p.P)
/-- The output. -/
def out (t j : ℕ) : ℝ := p.X t j + p.a t j * sig (p.b t j)
/-- The gradients in the halves and in the activation. -/
def da (t j : ℕ) : ℝ := p.G t j * sig (p.b t j)
def db (t j : ℕ) : ℝ := p.G t j * p.a t j * sig (p.b t j) * (1 - sig (p.b t j))
def dg (t j : ℕ) : ℝ := mulT 1024 p.db (half p.P) t j + mulT 1024 p.da p.P t j
/-- The (transposed) gradients of the halves of the gate's projection. -/
def gPa : ℕ → ℕ → ℝ := tMul 4096 p.da p.g
def gPb : ℕ → ℕ → ℝ := tMul 4096 p.db p.g
/-- The gradient in the recurrence's output, the skip's share of the gradient in `u`, and the skip's gradient. -/
def dz (t j : ℕ) : ℝ := p.dg t j * dgelu (p.z t j)
def du (t j : ℕ) : ℝ := p.dz t j * p.D j
def gD (j : ℕ) : ℝ := ∑ t ∈ Finset.range 4096, p.dz t j * p.u t j
/-- The gradient of the projection, of the normalised input, of the input and of the gain. -/
def gW : ℕ → ℕ → ℝ := tMul 4096 p.h p.U
def dh : ℕ → ℕ → ℝ := mulT 1024 p.U p.W
def dx (t d : ℕ) : ℝ := normX p.X p.N p.dh t d + p.G t d
def dn : ℕ → ℝ := normN p.X p.dh

end Gated

theorem tanh_real (x : ℝ) : Ideal.tanh (x : EReal) = ((Real.tanh x : ℝ) : EReal) := Ideal.tanh_coe x

theorem lit_half : (Ideal.ofBits .f32 0x3F000000#32 : EReal) = ((1 / 2 : ℝ) : EReal) := by
  simp [Ideal.ofBits, Ideal.ieee, -EReal.coe_mul]; norm_num

theorem lit_gC : (Ideal.ofBits .f32 0x3F4C422A#32 : EReal) = ((gC : ℝ) : EReal) := by
  simp [Ideal.ofBits, Ideal.ieee, -EReal.coe_mul, gC]; norm_num

end Cert.Layer
-- ==== Proof.Ref3.lean ====
module

public import proofs.«01_k».proof.Proof.Gen.Reference3Ideal.Run
public import proofs.«01_k».proof.Proof.Gen.Reference3Ideal.Read
public import proofs.«01_k».proof.Proof.RefBackward
public import proofs.«01_k».proof.Proof.Glu
public import proofs.«01_k».proof.Proof.Ref2

@[expose] public section

set_option maxRecDepth 16384

/-! # The reference of the gated layer, line by line

The norm's lines are those of the feed-forward layer's reference, and so are their values. -/

noncomputable section

open Idealize.ShloMosaic

namespace Cert.Reference3Ideal.Value
open Cert.Reference3Ideal Cert.Reference3Ideal.Gen Cert.Reference3Ideal.Read Cert.Layer Cert.Reference2Ideal.Value

/-- The eight arguments hold the reals of `p`. -/
structure Given (x0 : (⟨S4096x1024, .f32⟩ : BufTy).Contents (Elt Ideal)) (x1 : (⟨S1024, .f32⟩ : BufTy).Contents (Elt Ideal))
    (x2 : (⟨S1024x1024, .f32⟩ : BufTy).Contents (Elt Ideal)) (x3 : (⟨S4096x1024, .f32⟩ : BufTy).Contents (Elt Ideal))
    (x4 : (⟨S1024, .f32⟩ : BufTy).Contents (Elt Ideal)) (x5 : (⟨S1024x2048, .f32⟩ : BufTy).Contents (Elt Ideal))
    (x6 x7 : (⟨S4096x1024, .f32⟩ : BufTy).Contents (Elt Ideal)) (p : Gated) : Prop where
  hX : Is2 (n := 4096) (m := 1024) x0 p.X
  hN : Is1 (n := 1024) x1 p.N
  hW : Is2 (n := 1024) (m := 1024) x2 p.W
  hY : Is2 (n := 4096) (m := 1024) x3 p.Y
  hD : Is1 (n := 1024) x4 p.D
  hP : Is2 (n := 1024) (m := 2048) x5 p.P
  hU : Is2 (n := 4096) (m := 1024) x6 p.U
  hG : Is2 (n := 4096) (m := 1024) x7 p.G

theorem lit_three : (Ideal.ofBits .f32 0x40400000#32 : EReal) = ((3 : ℝ) : EReal) := by
  simp [Ideal.ofBits, Ideal.ieee, -EReal.coe_mul]; norm_num
theorem lit_44715 : (Ideal.ofBits .f32 0x472EAB00#32 : EReal) = ((44715 : ℝ) : EReal) := by
  simp [Ideal.ofBits, Ideal.ieee, -EReal.coe_mul]; norm_num
theorem lit_million : (Ideal.ofBits .f32 0x49742400#32 : EReal) = ((1000000 : ℝ) : EReal) := by
  simp [Ideal.ofBits, Ideal.ieee, -EReal.coe_mul]; norm_num

/-- The cubic term's factor, a quotient. -/
theorem factor (i : S_.Idx) : val_main_v21 (F := Ideal) i = ((cub : ℝ) : EReal) := by
  refine (div_of lit_44715 lit_million (by norm_num)).trans ?_
  rw [show (44715 : ℝ) * (1 / 1000000) = cub by norm_num [cub]]

/-- The gradients of the two halves side by side. -/
def dab (p : Gated) (t j : ℕ) : ℝ := if j < 1024 then p.da t j else p.db t (j - 1024)

theorem dab_left (p : Gated) (t : ℕ) {j : ℕ} (h : j < 1024) : dab p t j = p.da t j := if_pos h
theorem dab_right (p : Gated) (t j : ℕ) : dab p t (1024 + j) = p.db t j := by
  unfold dab
  rw [if_neg (by omega), Nat.add_sub_cancel_left]
theorem part_left (p : Gated) (d j : ℕ) (h : j < 1024) : tMul 4096 (dab p) p.g j d = p.gPa j d := by
  simp only [Gated.gPa, tMul, dab_left p _ h]
theorem part_right (p : Gated) (d j : ℕ) : tMul 4096 (dab p) p.g (1024 + j) d = p.gPb j d := by
  simp only [Gated.gPb, tMul, dab_right]
/-- The product over both halves is the sum of the two products. -/
theorem both (p : Gated) (t d : ℕ) : ∑ j ∈ Finset.range 2048, dab p t j * p.P d j = p.dg t d := by
  rw [show 2048 = 1024 + 1024 from rfl, Finset.sum_range_add, add_comm]
  unfold Gated.dg mulT
  refine congrArg₂ (· + ·) (Finset.sum_congr rfl fun j _ => ?_) (Finset.sum_congr rfl fun j hj => ?_)
  · rw [dab_right]; rfl
  · rw [dab_left p t (Finset.mem_range.mp hj)]

variable {x0 : (⟨S4096x1024, .f32⟩ : BufTy).Contents (Elt Ideal)} {x1 : (⟨S1024, .f32⟩ : BufTy).Contents (Elt Ideal)}
  {x2 : (⟨S1024x1024, .f32⟩ : BufTy).Contents (Elt Ideal)} {x3 : (⟨S4096x1024, .f32⟩ : BufTy).Contents (Elt Ideal)}
  {x4 : (⟨S1024, .f32⟩ : BufTy).Contents (Elt Ideal)} {x5 : (⟨S1024x2048, .f32⟩ : BufTy).Contents (Elt Ideal)}
  {x6 x7 : (⟨S4096x1024, .f32⟩ : BufTy).Contents (Elt Ideal)} {p : Gated}

section
variable (L : Given x0 x1 x2 x3 x4 x5 x6 x7 p)
include L

/-- The input and the gain among the feed-forward layer's arguments, the others zero. -/
theorem likeFfn : Cert.ReferenceIdeal.Value.Given x0 x1 (fun _ => ((0 : ℝ) : EReal)) (fun _ => ((0 : ℝ) : EReal)) (fun _ => ((0 : ℝ) : EReal))
    (fun _ => ((0 : ℝ) : EReal)) ⟨p.X, p.N, fun _ _ => 0, fun _ _ => 0, fun _ _ => 0, fun _ _ => 0⟩ :=
  ⟨L.hX, L.hN, fun _ => rfl, fun _ => rfl, fun _ => rfl, fun _ => rfl⟩

theorem root : Is2 (n := 4096) (m := 1) (val_main_v7 (F := Ideal) x0) (fun t _ => rr p.X t) := Cert.ReferenceIdeal.Value.root (likeFfn L)
theorem rootD : Is2 (n := 4096) (m := 1) (val_main_v10 (F := Ideal) x0) (fun t _ => -(1 / 2) * (rr p.X t * (1 / ms p.X t))) := fun i => by
  have h6 : val_main_v6 (F := Ideal) x0 i = ((ms p.X (i 0 : ℕ) : ℝ) : EReal) := Cert.ReferenceIdeal.Value.meanSq (likeFfn L) i
  have h9 : val_main_v9 (F := Ideal) i = ((-(1 / 2) : ℝ) : EReal) := (val_main_v9_apply i).trans lit_neg_half
  exact mul_of h9 (div_of (root L i) h6 (ms_pos _ _).ne')
theorem unit : Is2 (n := 4096) (m := 1024) (val_main_v12 (F := Ideal) x0) (fun t d => p.X t d * rr p.X t) := Cert.ReferenceIdeal.Value.unit (likeFfn L)
theorem gainRow : Is2 (n := 1) (m := 1024) (val_main_v13 (F := Ideal) x1) (fun _ d => p.N d) := Cert.ReferenceIdeal.Value.gainRow (likeFfn L)
theorem normed : Is2 (n := 4096) (m := 1024) (val_main_v15 (F := Ideal) x0 x1) p.h := Cert.ReferenceIdeal.Value.normed (likeFfn L)

/-- The projection. -/
theorem proj : Is2 (n := 4096) (m := 1024) (val_main_v16 (F := Ideal) x0 x1 x2) p.u :=
  (normed L).dot L.hW lidx_main_v16 ridx_main_v16 (val_main_v16_apply x0 x1 x2) (fun i j k => p.h i k * p.W k j) (fun _ _ => rfl) (fun _ => rfl)
/-- The same in the narrow format. -/
theorem proj' : Is2 (n := 4096) (m := 1024) (val_main_v107 (F := Ideal) x0 x1 x2) p.u := proj L

/-- The skip's factors as a row. -/
theorem skipRow : Is2 (n := 1) (m := 1024) (val_main_v17 (F := Ideal) x4) (fun _ d => p.D d) :=
  L.hD.read2 idx_main_v17 (val_main_v17_apply x4) (fun _ => rfl)

/-- The recurrence's output with the skip's share. -/
theorem skipped : Is2 (n := 4096) (m := 1024) (val_main_v20 (F := Ideal) x0 x1 x2 x3 x4) p.z :=
  L.hY.add (((skipRow L).read (F := fun _ d => p.D d) idx_main_v18 (val_main_v18_apply x4) (fun _ => rfl)).mul (proj L)
    (X := val_main_v19 (F := Ideal) x0 x1 x2 x4) (F := fun t j => p.D j * p.u t j) (fun _ => rfl) (fun _ => rfl)) (fun _ => rfl) (fun _ => rfl)

/-- The activation's hyperbolic tangent. -/
theorem th : Is2 (n := 4096) (m := 1024) (val_main_v32 (F := Ideal) x0 x1 x2 x3 x4) (fun t j => gth (p.z t j)) := fun i => by
  have hz := skipped L i
  have h27 : val_main_v27 (F := Ideal) i = ((cub : ℝ) : EReal) := (val_main_v27_apply i).trans (factor _)
  have h30 : val_main_v30 (F := Ideal) i = ((gC : ℝ) : EReal) := (val_main_v30_apply i).trans lit_gC
  have h31 := mul_of h30 (add_of hz (mul_of h27 (mul_of (mul_of hz hz) hz)))
  refine ((congrArg Ideal.tanh h31).trans (tanh_real _)).trans ?_
  refine congrArg (fun r : ℝ => ((Real.tanh r : ℝ) : EReal)) ?_
  ring

/-- What the activation multiplies by. -/
theorem share : Is2 (n := 4096) (m := 1024) (val_main_v41 (F := Ideal) x0 x1 x2 x3 x4) (fun t j => 1 / 2 * (1 + gth (p.z t j))) := fun i =>
  mul_of ((val_main_v40_apply i).trans lit_half) (add_of ((val_main_v38_apply i).trans lit_one) (th L i))

/-- The activation. -/
theorem act : Is2 (n := 4096) (m := 1024) (val_main_v42 (F := Ideal) x0 x1 x2 x3 x4) p.g :=
  (skipped L).mul (share L) (fun _ => rfl) (fun _ => rfl)

/-- The gate's projection, both halves side by side. -/
theorem wide : Is2 (n := 4096) (m := 2048) (val_main_v43 (F := Ideal) x0 x1 x2 x3 x4 x5) (mul 1024 p.g p.P) :=
  (act L).dot L.hP lidx_main_v43 ridx_main_v43 (val_main_v43_apply x0 x1 x2 x3 x4 x5) (fun i j k => p.g i k * p.P k j) (fun _ _ => rfl) (fun _ => rfl)
theorem halfA : Is2 (n := 4096) (m := 1024) (val_main_v44 (F := Ideal) x0 x1 x2 x3 x4 x5) p.a :=
  (wide L).read idx_main_v44 (val_main_v44_apply x0 x1 x2 x3 x4 x5) (fun _ => rfl)
theorem halfB : Is2 (n := 4096) (m := 1024) (val_main_v45 (F := Ideal) x0 x1 x2 x3 x4 x5) p.b :=
  (wide L).read idx_main_v45 (val_main_v45_apply x0 x1 x2 x3 x4 x5) (fun _ => rfl)

/-- The gate's logistic function. -/
theorem gate : Is2 (n := 4096) (m := 1024) (val_main_v51 (F := Ideal) x0 x1 x2 x3 x4 x5) (fun t j => Layer.sig (p.b t j)) := fun i => by
  have h1 : val_main_v47 (F := Ideal) x0 x1 x2 x3 x4 x5 i = ((Real.exp (-(p.b (i 0 : ℕ) (i 1 : ℕ))) : ℝ) : EReal) := by
    rw [val_main_v47_apply, val_main_v46_apply, halfB L i]
    exact congrArg Ideal.exp (EReal.coe_neg _).symm
  have h2 : val_main_v49 (F := Ideal) x0 x1 x2 x3 x4 x5 i = _ := add_of ((val_main_v48_apply i).trans lit_one) h1
  have h50 : val_main_v50 (F := Ideal) i = ((1 : ℝ) : EReal) := (val_main_v50_apply i).trans lit_one
  refine (div_of h50 h2 (by positivity)).trans ?_
  rw [one_mul, one_div]; rfl
/-- Its complement times itself. -/
theorem gateD : Is2 (n := 4096) (m := 1024) (val_main_v54 (F := Ideal) x0 x1 x2 x3 x4 x5) (fun t j => Layer.sig (p.b t j) * (1 - Layer.sig (p.b t j))) := fun i => by
  have h : val_main_v53 (F := Ideal) x0 x1 x2 x3 x4 x5 i = ((1 - Layer.sig (p.b (i 0 : ℕ) (i 1 : ℕ)) : ℝ) : EReal) := by
    rw [val_main_v53_apply, val_main_v52_apply, gate L i, EReal.coe_sub]
    exact congrArg (· - _) lit_one
  exact mul_of (gate L i) h

/-- The layer's output. -/
theorem output : Is2 (n := 4096) (m := 1024) (val_main_v56 (F := Ideal) x0 x1 x2 x3 x4 x5) p.out :=
  L.hX.add ((halfA L).mul (gate L) (X := val_main_v55 (F := Ideal) x0 x1 x2 x3 x4 x5) (F := fun t j => p.a t j * Layer.sig (p.b t j)) (fun _ => rfl) (fun _ => rfl))
    (fun _ => rfl) (fun _ => rfl)

theorem sameIdx (i : S4096x1024.Idx) (a : Fin 2) : (idx_main_v57 i a).val = (i a).val := by
  have h : (i 1).val < 1024 := (i 1).isLt
  match a with
  | ⟨0, _⟩ => show ((i 0).val * 1024 + (i 1).val) / 1024 = (i 0).val; omega
  | ⟨1, _⟩ => show ((i 0).val * 1024 + (i 1).val) % 1024 = (i 1).val; omega
/-- The cotangent. -/
theorem cot : Is2 (n := 4096) (m := 1024) (val_main_v57 (F := Ideal) x7) p.G :=
  L.hG.of_eq (funext fun i => (val_main_v57_apply x7 i).trans (congrArg x7 (funext fun a => Fin.ext (sameIdx L i a))))

/-- The gradients in the two halves, and both side by side. -/
theorem gradA : Is2 (n := 4096) (m := 1024) (val_main_v59 (F := Ideal) x0 x1 x2 x3 x4 x5 x7) p.da :=
  (cot L).mul (gate L) (fun _ => rfl) (fun _ => rfl)
theorem gradB : Is2 (n := 4096) (m := 1024) (val_main_v60 (F := Ideal) x0 x1 x2 x3 x4 x5 x7) p.db :=
  ((halfA L).mul (cot L) (X := val_main_v58 (F := Ideal) x0 x1 x2 x3 x4 x5 x7) (F := fun t j => p.a t j * p.G t j) (fun _ => rfl) (fun _ => rfl)).mul (gateD L)
    (fun _ => rfl) (fun _ => by simp only [Gated.db]; ring)
theorem gradWide : Is2 (n := 4096) (m := 2048) (val_main_v61 (F := Ideal) x0 x1 x2 x3 x4 x5 x7) (dab p) := fun i => by
  unfold val_main_v61
  rw [concatenate_pair_apply]
  unfold dab
  by_cases h : (i 1 : ℕ) < 1024
  · rw [if_pos h]; exact (dif_pos h).trans (gradA L _)
  · rw [if_neg h]; exact (dif_neg h).trans (gradB L _)

/-- The gradient of the gate's projection, and its halves transposed. -/
theorem gradP : Is2 (n := 1024) (m := 2048) (val_main_v63 (F := Ideal) x0 x1 x2 x3 x4 x5 x7) (fun d j => tMul 4096 (dab p) p.g j d) :=
  ((gradWide L).dot (act L) (X := val_main_v62 (F := Ideal) x0 x1 x2 x3 x4 x5 x7) (n := 2048) (m := 1024) (F := tMul 4096 (dab p) p.g) lidx_main_v62 ridx_main_v62
    (val_main_v62_apply x0 x1 x2 x3 x4 x5 x7) (fun j d t => dab p t j * p.g t d) (fun _ _ => rfl) (fun _ => rfl)).read idx_main_v63 (val_main_v63_apply x0 x1 x2 x3 x4 x5 x7) (fun _ => rfl)
theorem gradPa : Is2 (n := 1024) (m := 1024) (val_main_v110 (F := Ideal) x0 x1 x2 x3 x4 x5 x7) p.gPa :=
  ((gradP L).read (X := val_main_v108 (F := Ideal) x0 x1 x2 x3 x4 x5 x7) (n := 1024) (m := 1024) (F := fun d j => p.gPa j d) idx_main_v108 (val_main_v108_apply x0 x1 x2 x3 x4 x5 x7)
    (fun i => part_left _ _ _ (i 1).isLt)).read idx_main_v109 (val_main_v109_apply x0 x1 x2 x3 x4 x5 x7) (fun _ => rfl)
theorem gradPb : Is2 (n := 1024) (m := 1024) (val_main_v113 (F := Ideal) x0 x1 x2 x3 x4 x5 x7) p.gPb :=
  ((gradP L).read (X := val_main_v111 (F := Ideal) x0 x1 x2 x3 x4 x5 x7) (n := 1024) (m := 1024) (F := fun d j => p.gPb j d) idx_main_v111 (val_main_v111_apply x0 x1 x2 x3 x4 x5 x7)
    (fun i => part_right _ _ _)).read idx_main_v112 (val_main_v112_apply x0 x1 x2 x3 x4 x5 x7) (fun _ => rfl)

/-- The gradient in the activation. -/
theorem gradAct : Is2 (n := 4096) (m := 1024) (val_main_v64 (F := Ideal) x0 x1 x2 x3 x4 x5 x7) p.dg :=
  (gradWide L).dot L.hP lidx_main_v64 ridx_main_v64 (val_main_v64_apply x0 x1 x2 x3 x4 x5 x7) (fun t d j => dab p t j * p.P d j) (fun _ _ => rfl) (fun i => both _ _ _)

/-- The gradient in the recurrence's output. -/
theorem gradZ : Is2 (n := 4096) (m := 1024) (val_main_v76 (F := Ideal) x0 x1 x2 x3 x4 x5 x7) p.dz := fun i => by
  have hz := skipped L i
  have hg := gradAct L i
  have ht := th L i
  have h36 : val_main_v36 (F := Ideal) x0 x1 x2 x3 x4 i = ((1 - gth (p.z (i 0 : ℕ) (i 1 : ℕ)) : ℝ) : EReal) := by
    rw [val_main_v36_apply, val_main_v35_apply, ht, EReal.coe_sub]
    exact congrArg (· - _) lit_one
  have h33 : val_main_v33 (F := Ideal) i = ((1 : ℝ) : EReal) := (val_main_v33_apply i).trans lit_one
  have h37 := mul_of (add_of h33 ht) h36
  have h67 : val_main_v67 (F := Ideal) i = ((1 / 2 : ℝ) : EReal) := (val_main_v67_apply i).trans lit_half
  have h68 := mul_of h67 (mul_of hz hg)
  have h71 : val_main_v71 (F := Ideal) x0 x1 x2 x3 x4 x5 x7 i = _ := mul_of ((val_main_v70_apply i).trans lit_gC) (mul_of h68 h37)
  have h72 : val_main_v72 (F := Ideal) x0 x1 x2 x3 x4 x5 x7 i = _ := add_of (mul_of hg (share L i)) h71
  have h26 : val_main_v26 (F := Ideal) x0 x1 x2 x3 x4 i = _ := mul_of ((val_main_v25_apply i).trans lit_three) (mul_of hz hz)
  have h73 : val_main_v73 (F := Ideal) i = ((cub : ℝ) : EReal) := (val_main_v73_apply i).trans (factor _)
  refine (add_of h72 (mul_of (mul_of h73 h71) h26)).trans ?_
  refine congrArg (fun r : ℝ => (r : EReal)) ?_
  simp only [Gated.dz, dgelu]
  ring
/-- The same in the narrow format. -/
theorem gradZ' : Is2 (n := 4096) (m := 1024) (val_main_v114 (F := Ideal) x0 x1 x2 x3 x4 x5 x7) p.dz := gradZ L

/-- The skip's share of the gradient in the projection. -/
theorem gradSkip : Is2 (n := 4096) (m := 1024) (val_main_v78 (F := Ideal) x0 x1 x2 x3 x4 x5 x7) p.du :=
  ((skipRow L).read (F := fun _ d => p.D d) idx_main_v77 (val_main_v77_apply x4) (fun _ => rfl)).mul (gradZ L) (fun _ => rfl) (fun _ => mul_comm _ _)

/-- The gradient of the skip's factors, as a row. -/
theorem gradD : Is2 (n := 1) (m := 1024) (val_main_v115 (F := Ideal) x0 x1 x2 x3 x4 x5 x7) (fun _ d => p.gD d) :=
  Is1.read2 (v := p.gD) (Is2.sum (f := fun _ d => p.gD d) (Is1.read2 (v := p.gD)
      (Is2.sum ((gradZ L).mul (proj L) (X := val_main_v79 (F := Ideal) x0 x1 x2 x3 x4 x5 x7) (F := fun t d => p.dz t d * p.u t d) (fun _ => rfl) (fun _ => rfl)) _ lit_zero idx_main_v80
        (val_main_v80_apply x0 x1 x2 x3 x4 x5 x7) (fun d t => p.dz t d * p.u t d) (fun _ _ => rfl) (fun _ => rfl)) idx_main_v81 (val_main_v81_apply x0 x1 x2 x3 x4 x5 x7)
        (fun i => congrArg p.gD (Cert.ReferenceIdeal.Value.oneRow' i)))
      _ lit_zero idx_main_v82 (val_main_v82_apply x0 x1 x2 x3 x4 x5 x7) (fun d _ => p.gD d) (fun _ _ => rfl) (fun _ => Finset.sum_range_one _))
      idx_main_v115 (val_main_v115_apply x0 x1 x2 x3 x4 x5 x7) (fun i => congrArg p.gD (Cert.ReferenceIdeal.Value.oneRow' i))

/-- The gradient of the projection. -/
theorem gradW : Is2 (n := 1024) (m := 1024) (val_main_v116 (F := Ideal) x0 x1 x6) p.gW :=
  (L.hU.dot (normed L) (X := val_main_v83 (F := Ideal) x0 x1 x6) (n := 1024) (m := 1024) (F := fun j d => p.gW d j) lidx_main_v83 ridx_main_v83 (val_main_v83_apply x0 x1 x6)
    (fun j d t => p.U t j * p.h t d) (fun _ _ => rfl) (fun _ => Finset.sum_congr rfl fun _ _ => mul_comm _ _)).read idx_main_v84 (val_main_v84_apply x0 x1 x6) (fun _ => rfl)

/-- The gradient in the normalised input. -/
theorem gradNormed : Is2 (n := 4096) (m := 1024) (val_main_v85 (F := Ideal) x2 x6) p.dh :=
  L.hU.dot L.hW lidx_main_v85 ridx_main_v85 (val_main_v85_apply x2 x6) (fun t d j => p.U t j * p.W d j) (fun _ _ => rfl) (fun _ => rfl)

/-- The gradient of the gain, as a row. -/
theorem gradGain : Is2 (n := 1) (m := 1024) (val_main_v118 (F := Ideal) x0 x2 x6) (fun _ d => p.dn d) :=
  Is1.read2 (v := p.dn) (Is2.sum (f := fun _ d => p.dn d) (Is1.read2 (v := p.dn)
      (Is2.sum ((unit L).mul (gradNormed L) (X := val_main_v86 (F := Ideal) x0 x2 x6) (F := fun t d => p.X t d * rr p.X t * p.dh t d) (fun _ => rfl) (fun _ => rfl)) _ lit_zero idx_main_v87
        (val_main_v87_apply x0 x2 x6) (fun d t => p.X t d * rr p.X t * p.dh t d) (fun _ _ => rfl)
        (fun i => show _ = ∑ t ∈ Finset.range 4096, p.dh t (i 0 : ℕ) * p.X t (i 0 : ℕ) * rr p.X t from Finset.sum_congr rfl fun _ _ => by ring)) idx_main_v88 (val_main_v88_apply x0 x2 x6)
        (fun i => congrArg p.dn (Cert.ReferenceIdeal.Value.oneRow' i)))
      _ lit_zero idx_main_v91 (val_main_v91_apply x0 x2 x6) (fun d _ => p.dn d) (fun _ _ => rfl) (fun _ => Finset.sum_range_one _))
      idx_main_v118 (val_main_v118_apply x0 x2 x6) (fun i => congrArg p.dn (Cert.ReferenceIdeal.Value.oneRow' i))

/-- The gradient times the gain. -/
theorem gained : Is2 (n := 4096) (m := 1024) (val_main_v90 (F := Ideal) x1 x2 x6) (fun t d => p.dh t d * p.N d) :=
  (gradNormed L).mul ((gainRow L).read (F := fun _ d => p.N d) idx_main_v89 (val_main_v89_apply x1) (fun _ => rfl)) (fun _ => rfl) (fun _ => rfl)

/-- What the input is multiplied by twice in its gradient. -/
theorem rowScale : Is2 (n := 4096) (m := 1024) (val_main_v101 (F := Ideal) x0 x1 x2 x6)
    (fun t _ => (∑ d ∈ Finset.range 1024, p.X t d * (p.dh t d * p.N d)) * (-(1 / 2) * (rr p.X t * (1 / ms p.X t))) / 1024) := by
  have h94 : Is2 (n := 4096) (m := 1) (val_main_v94 (F := Ideal) x0 x1 x2 x6) (fun t _ => ∑ d ∈ Finset.range 1024, p.X t d * (p.dh t d * p.N d)) :=
    Is1.read2 (v := fun t => ∑ d ∈ Finset.range 1024, p.X t d * (p.dh t d * p.N d)) (Is2.sum (L.hX.mul (gained L) (X := val_main_v92 (F := Ideal) x0 x1 x2 x6)
      (F := fun t d => p.X t d * (p.dh t d * p.N d)) (fun _ => rfl) (fun _ => rfl)) _ lit_zero idx_main_v93 (val_main_v93_apply x0 x1 x2 x6)
      (fun t d => p.X t d * (p.dh t d * p.N d)) (fun _ _ => rfl) (fun _ => rfl)) idx_main_v94 (val_main_v94_apply x0 x1 x2 x6)
      (fun i => congrArg (fun t => ∑ d ∈ Finset.range 1024, p.X t d * (p.dh t d * p.N d)) (Cert.ReferenceIdeal.Value.oneCol i))
  have h97 : Is2 (n := 4096) (m := 1) (val_main_v97 (F := Ideal) x0 x1 x2 x6) (fun t _ => (∑ d ∈ Finset.range 1024, p.X t d * (p.dh t d * p.N d)) * (-(1 / 2) * (rr p.X t * (1 / ms p.X t)))) :=
    h94.mul (rootD L) (fun _ => rfl) (fun _ => rfl)
  have h99 : Is2 (n := 4096) (m := 1) (val_main_v99 (F := Ideal) x0 x1 x2 x6) (fun t _ => (∑ d ∈ Finset.range 1024, p.X t d * (p.dh t d * p.N d)) * (-(1 / 2) * (rr p.X t * (1 / ms p.X t))) / 1024) := fun i => by
    have h : val_main_v98 (F := Ideal) i = ((1024 : ℝ) : EReal) := (val_main_v98_apply i).trans lit_1024
    rw [val_main_v99_apply, h97 i, h]
    exact div_1024 _
  exact Is1.read2 (v := fun t => (∑ d ∈ Finset.range 1024, p.X t d * (p.dh t d * p.N d)) * (-(1 / 2) * (rr p.X t * (1 / ms p.X t))) / 1024)
    (Is2.sum h99 _ lit_zero idx_main_v100 (val_main_v100_apply x0 x1 x2 x6) (fun t _ => (∑ d ∈ Finset.range 1024, p.X t d * (p.dh t d * p.N d)) * (-(1 / 2) * (rr p.X t * (1 / ms p.X t))) / 1024)
      (fun _ _ => rfl) (fun _ => Finset.sum_range_one _)) idx_main_v101 (val_main_v101_apply x0 x1 x2 x6) (fun _ => rfl)

/-- The gradient in the input. -/
theorem gradX : Is2 (n := 4096) (m := 1024) (val_main_v106 (F := Ideal) x0 x1 x2 x6 x7) p.dx := fun i => by
  have hs := rowScale L i
  have h95 : val_main_v95 (F := Ideal) x0 i = ((rr p.X (i 0 : ℕ) : ℝ) : EReal) := (val_main_v95_apply x0 i).trans (root L _)
  refine (add_of (add_of (add_of (mul_of (gained L i) h95) (mul_of (L.hX i) hs)) (mul_of hs (L.hX i))) (L.hG i)).trans ?_
  refine congrArg (fun r : ℝ => (r : EReal)) ?_
  beta_reduce
  rw [← rr_sq]
  simp only [Gated.dx, normX]
  ring
/-- The same in the narrow format. -/
theorem gradX' : Is2 (n := 4096) (m := 1024) (val_main_v117 (F := Ideal) x0 x1 x2 x6 x7) p.dx := gradX L

end

end Cert.Reference3Ideal.Value

end
-- ==== Proof.SHost.lean ====
module

public import proofs.«01_k».proof.Proof.Gen.Kernel3Ideal.Frame
public import proofs.«01_k».proof.Proof.Glu
public import Idealize.ShloMosaic.Lib.ValueLayout
public import Idealize.ShloMosaic.Lib.Claim
public import Idealize.ShloMosaic.Lib.Pipeline.ValueKit

@[expose] public section

set_option maxRecDepth 16384

/-! # The gated layer's launch: what the arguments hold, and what the host's lines make of them -/

noncomputable section

open Idealize.ShloMosaic Idealize.ShloMosaic.TcCoe Idealize.SL.Sem

namespace Cert.Kernel3Ideal.Value
open Cert.Kernel3Ideal Cert.Kernel3Ideal.Gen Cert.Layer

variable (m : (ℓ : Loc nD τ sig) → Buf (Elt Ideal) ℓ) (ρ : Dev nD → PrngReg) (c : Dev nD) (p : Gated)

/-- The eight arguments hold the reals of `p`. -/
structure Launched : Prop where
  hX : Is2 (n := 4096) (m := 1024) (m ((c : Thread nD τ).loc main_arg0)) p.X
  hN : Is1 (n := 1024) (m ((c : Thread nD τ).loc main_arg1)) p.N
  hW : Is2 (n := 1024) (m := 1024) (m ((c : Thread nD τ).loc main_arg2)) p.W
  hY : Is2 (n := 4096) (m := 1024) (m ((c : Thread nD τ).loc main_arg3)) p.Y
  hD : Is1 (n := 1024) (m ((c : Thread nD τ).loc main_arg4)) p.D
  hP : Is2 (n := 1024) (m := 2048) (m ((c : Thread nD τ).loc main_arg5)) p.P
  hU : Is2 (n := 4096) (m := 1024) (m ((c : Thread nD τ).loc main_arg6)) p.U
  hG : Is2 (n := 4096) (m := 1024) (m ((c : Thread nD τ).loc main_arg7)) p.G

theorem at1_arg0 (h : Launched m c p) : Is2 (n := 4096) (m := 1024) (W1 m ρ c (Proc.devRef .tc main_arg0)) p.X :=
  Is2.of_eq (W1_args m ρ c main_arg0 (by decide)) h.hX
theorem at1_arg3 (h : Launched m c p) : Is2 (n := 4096) (m := 1024) (W1 m ρ c (Proc.devRef .tc main_arg3)) p.Y :=
  Is2.of_eq (W1_args m ρ c main_arg3 (by decide)) h.hY
theorem at1_arg7 (h : Launched m c p) : Is2 (n := 4096) (m := 1024) (W1 m ρ c (Proc.devRef .tc main_arg7)) p.G :=
  Is2.of_eq (W1_args m ρ c main_arg7 (by decide)) h.hG
theorem at1_v2 (h : Launched m c p) : Is2 (n := 1) (m := 1024) (W1 m ρ c (Proc.devRef .tc main_v2)) (fun _ d => p.N d) := by
  intro i
  unfold_abbrev_sides
  after_results
  change shapeCast S1x1024 (m ((c : Thread nD τ).loc main_arg1)) shapeCasts_S1024_S1x1024 i = _
  obtain ⟨u, d, rfl⟩ : ∃ u d, i = ValueIdx.ix2 u d := ⟨i 0, i 1, ValueIdx.eq_ix2 i⟩
  exact (ValueIdx.shapeCast_a_1a_apply _ _ _ _).trans (h.hN _)
theorem at1_v4 (h : Launched m c p) : Is2 (n := 1) (m := 1024) (W1 m ρ c (Proc.devRef .tc main_v4)) (fun _ d => p.D d) := by
  intro i
  unfold_abbrev_sides
  after_results
  change shapeCast S1x1024 (m ((c : Thread nD τ).loc main_arg4)) shapeCasts_S1024_S1x1024 i = _
  obtain ⟨u, d, rfl⟩ : ∃ u d, i = ValueIdx.ix2 u d := ⟨i 0, i 1, ValueIdx.eq_ix2 i⟩
  exact (ValueIdx.shapeCast_a_1a_apply _ _ _ _).trans (h.hD _)
theorem at1_v3 (h : Launched m c p) : Is2 (n := 1024) (m := 1024) (W1 m ρ c (Proc.devRef .tc main_v3)) p.W := by
  intro i
  unfold_abbrev_sides
  after_results
  exact h.hW i
theorem at1_v5 (h : Launched m c p) : Is2 (n := 1024) (m := 1024) (W1 m ρ c (Proc.devRef .tc main_v5)) (fun j d => p.P d j) := by
  intro i
  unfold_abbrev_sides
  after_results
  pointwise
  refine (h.hP _).trans ?_
  rfl
theorem at1_v6 (h : Launched m c p) : Is2 (n := 1024) (m := 1024) (W1 m ρ c (Proc.devRef .tc main_v6)) (fun j d => Gated.half p.P d j) := by
  intro i
  unfold_abbrev_sides
  after_results
  pointwise
  refine (h.hP _).trans ?_
  rfl
/-- The gradient of the recurrence's input in the narrow format. -/
theorem at14_v19 (h : Launched m c p) : Is2 (n := 4096) (m := 1024) (W14 m ρ c (Proc.devRef .tc main_v19)) p.U := by
  intro i
  unfold_abbrev_sides
  after_results
  exact (congrFun (W13_args m ρ c main_arg6 (by decide)) i).trans (h.hU i)

end Cert.Kernel3Ideal.Value

end
-- ==== Proof.S0.lean ====
module

public import proofs.«01_k».proof.Proof.Gen.Kernel3Ideal.Frame.Region0
public import proofs.«01_k».proof.Proof.Reals

@[expose] public section

set_option maxRecDepth 16384

/-! # The normalised rows: each point of the grid normalises one block of 1024 rows -/

noncomputable section

open Idealize.ShloMosaic Idealize.ShloMosaic.TcCoe Idealize.SL.Sem
open Idealize.ShloMosaic.Pipeline (Dat)

namespace Cert.Kernel3Ideal.Value
open Cert.Kernel3Ideal Cert.Kernel3Ideal.Gen Cert.Layer

variable (V : (c : Dev nD) → (b : Ref sig .tc) → Buf (Elt Ideal) ((c : Thread nD τ).loc b))

namespace R0

/-- Where each window's block sits. -/
theorem idx : ∀ t : Fin cfg0.N, win0_0.index t = ![t.val, 0] ∧ win0_1.index t = ![0, 0] ∧ win0_2.index t = ![t.val, 0] :=
  (by decide +kernel : ∀ t : Fin grid0.N, _)

/-- The array after the region, from what its operands hold. -/
theorem final (c : Dev nD) (X : ℕ → ℕ → ℝ) (N : ℕ → ℝ)
    (hX : Is2 (n := 4096) (m := 1024) (V c (Pipeline.arrRef spec0 0)) X)
    (hN : Is2 (n := 1) (m := 1024) (V c (Pipeline.arrRef spec0 1)) (fun _ d => N d)) :
    Is2 (n := 4096) (m := 1024) ((dat0 V c).arrAt 2 cfg0.N) (norm X N) := by
  intro i
  refine congrFun ((dat0 V c).arrAt_eq_of_covers 2 (fun i => ((norm X N (i 0 : ℕ) (i 1 : ℕ) : ℝ) : EReal))
    (by decide +kernel) fun t _ y => ?_) i
  blk_simp
  rw [after0_2]; frame_out
  pointwise [k0_pay1]
  have h0 : ∀ x, iblk0 V c 0 t x = ((X (t.val * 1024 + (x 0).val) (x 1).val : ℝ) : EReal) := by
    intro x
    refine (hX (((cfg0.win 0).blk t).view.emb x)).trans ?_
    blk_simp [idx t]
  have h1 : ∀ x, iblk0 V c 1 t x = ((N (x 1).val : ℝ) : EReal) := by
    intro x
    refine (hN (((cfg0.win 1).blk t).view.emb x)).trans ?_
    blk_simp [idx t]
  have hs := sum_fin _ (fun k => X (t.val * 1024 + (y 0).val) k * X (t.val * 1024 + (y 0).val) k) fun k : Fin 1024 =>
    (congrArg₂ (fun a b : EReal => a * b) (h0 (ix2 (y 0) k)) (h0 (ix2 (y 0) k))).trans (EReal.coe_mul _ _).symm
  refine (congrArg₂ (fun a b : EReal => a * b) (congrArg₂ (fun a b : EReal => a * b) (h0 y)
    (congrArg (fun s => Ideal.rsqrt (Ideal.div s (Ideal.ofBits FTy.f32 0x44800000#32) + Ideal.ofBits FTy.f32 0x358637BD#32)) hs)) (h1 _)).trans ?_
  rw [lit_1024, lit_eps, div_1024, ← EReal.coe_add]
  refine (congrArg₂ (fun a b : EReal => a * b) (congrArg₂ (fun a b : EReal => a * b) rfl (rsqrt_ms X _)) rfl).trans ?_
  rw [← EReal.coe_mul, ← EReal.coe_mul]
  blk_simp [idx t]
  rfl

end R0

end Cert.Kernel3Ideal.Value
-- ==== Proof.S1.lean ====
module

public import proofs.«01_k».proof.Proof.Gen.Kernel3Ideal.Frame.Region1
public import proofs.«01_k».proof.Proof.Reals

@[expose] public section

set_option maxRecDepth 16384

/-! # The projection of the normalised rows, in both formats -/

noncomputable section

open Idealize.ShloMosaic Idealize.ShloMosaic.TcCoe Idealize.SL.Sem
open Idealize.ShloMosaic.Pipeline (Dat)

namespace Cert.Kernel3Ideal.Value
open Cert.Kernel3Ideal Cert.Kernel3Ideal.Gen Cert.Layer

variable (V : (c : Dev nD) → (b : Ref sig .tc) → Buf (Elt Ideal) ((c : Thread nD τ).loc b))

namespace R1

/-- Where each window's block sits. -/
theorem idx : ∀ t : Fin cfg1.N, win1_0.index t = ![t.val, 0] ∧ win1_1.index t = ![0, 0] ∧ win1_2.index t = ![t.val, 0] ∧ win1_3.index t = ![t.val, 0] :=
  (by decide +kernel : ∀ t : Fin grid1.N, _)

/-- The array after the region, from what its operands hold. -/
theorem final2 (c : Dev nD) (A B : ℕ → ℕ → ℝ)
    (hA : Is2 (n := 4096) (m := 1024) (V c (Pipeline.arrRef spec1 0)) A)
    (hB : Is2 (n := 1024) (m := 1024) (V c (Pipeline.arrRef spec1 1)) B) :
    Is2 (n := 4096) (m := 1024) ((dat1 V c).arrAt 2 cfg1.N) (mul 1024 A B) := by
  intro i
  refine congrFun ((dat1 V c).arrAt_eq_of_covers 2 (fun i => ((mul 1024 A B (i 0 : ℕ) (i 1 : ℕ) : ℝ) : EReal))
    (by decide +kernel) fun t _ y => ?_) i
  blk_simp
  rw [after1_2]; frame_out
  pointwise [k1_pay1]
  have h0 : ∀ x, iblk1 V c 0 t x = ((A (t.val * 1024 + (x 0).val) ((x 1).val) : ℝ) : EReal) := by
    intro x
    refine (hA (((cfg1.win 0).blk t).view.emb x)).trans ?_
    blk_simp [idx t]
  have h1 : ∀ x, iblk1 V c 1 t x = ((B ((x 0).val) ((x 1).val) : ℝ) : EReal) := by
    intro x
    refine (hB (((cfg1.win 1).blk t).view.emb x)).trans ?_
    blk_simp [idx t]
  refine (sum_fin _ (fun k => A (t.val * 1024 + (y 0).val) k * B k ((y 1).val)) fun k => ?_).trans ?_
  · rw [h0, h1, ← EReal.coe_mul]; rfl
  · blk_simp [idx t]
    rfl

/-- The array after the region, from what its operands hold. -/
theorem final3 (c : Dev nD) (A B : ℕ → ℕ → ℝ)
    (hA : Is2 (n := 4096) (m := 1024) (V c (Pipeline.arrRef spec1 0)) A)
    (hB : Is2 (n := 1024) (m := 1024) (V c (Pipeline.arrRef spec1 1)) B) :
    Is2 (n := 4096) (m := 1024) ((dat1 V c).arrAt 3 cfg1.N) (mul 1024 A B) := by
  intro i
  refine congrFun ((dat1 V c).arrAt_eq_of_covers 3 (fun i => ((mul 1024 A B (i 0 : ℕ) (i 1 : ℕ) : ℝ) : EReal))
    (by decide +kernel) fun t _ y => ?_) i
  blk_simp
  rw [after1_3]; frame_out
  pointwise [k1_pay2, k1_pay1]
  have h0 : ∀ x, iblk1 V c 0 t x = ((A (t.val * 1024 + (x 0).val) ((x 1).val) : ℝ) : EReal) := by
    intro x
    refine (hA (((cfg1.win 0).blk t).view.emb x)).trans ?_
    blk_simp [idx t]
  have h1 : ∀ x, iblk1 V c 1 t x = ((B ((x 0).val) ((x 1).val) : ℝ) : EReal) := by
    intro x
    refine (hB (((cfg1.win 1).blk t).view.emb x)).trans ?_
    blk_simp [idx t]
  refine (sum_fin _ (fun k => A (t.val * 1024 + (y 0).val) k * B k ((y 1).val)) fun k => ?_).trans ?_
  · rw [h0, h1, ← EReal.coe_mul]; rfl
  · blk_simp [idx t]
    rfl

end R1

end Cert.Kernel3Ideal.Value
-- ==== Proof.S2.lean ====
module

public import proofs.«01_k».proof.Proof.Gen.Kernel3Ideal.Frame.Region2
public import proofs.«01_k».proof.Proof.Glu

@[expose] public section

set_option maxRecDepth 16384

/-! # The activation -/

noncomputable section

open Idealize.ShloMosaic Idealize.ShloMosaic.TcCoe Idealize.SL.Sem
open Idealize.ShloMosaic.Pipeline (Dat)

namespace Cert.Kernel3Ideal.Value
open Cert.Kernel3Ideal Cert.Kernel3Ideal.Gen Cert.Layer

theorem named_cubic : (Named.named (F := Ideal) κ "cubic" (φ := .f32) 0x3D372713#32 : EReal) = ((cub : ℝ) : EReal) := rfl

theorem named_cubic_3 : (Named.named (F := Ideal) κ "cubic_3" (φ := .f32) 0x3E095D4F#32 : EReal) = ((3 * cub : ℝ) : EReal) :=
  congrArg (fun x : ℝ => (x : EReal)) (by norm_num [cub] : (26829 / 200000 : ℝ) = 3 * cub)

variable (V : (c : Dev nD) → (b : Ref sig .tc) → Buf (Elt Ideal) ((c : Thread nD τ).loc b))

namespace R2

/-- Where each window's block sits. -/
theorem idx : ∀ t : Fin cfg2.N, win2_0.index t = ![t.val, 0] ∧ win2_1.index t = ![t.val, 0] ∧ win2_2.index t = ![0, 0] ∧ win2_3.index t = ![t.val, 0] :=
  (by decide +kernel : ∀ t : Fin grid2.N, _)

theorem final (c : Dev nD) (Y U : ℕ → ℕ → ℝ) (D : ℕ → ℝ)
    (hY : Is2 (n := 4096) (m := 1024) (V c (Pipeline.arrRef spec2 0)) Y)
    (hU : Is2 (n := 4096) (m := 1024) (V c (Pipeline.arrRef spec2 1)) U)
    (hD : Is2 (n := 1) (m := 1024) (V c (Pipeline.arrRef spec2 2)) (fun _ d => D d)) :
    Is2 (n := 4096) (m := 1024) ((dat2 V c).arrAt 3 cfg2.N) (fun i j => gelu (Y i j + D j * U i j)) := by
  intro i
  refine congrFun ((dat2 V c).arrAt_eq_of_covers 3 (fun i => ((gelu (Y (i 0 : ℕ) (i 1 : ℕ) + D (i 1 : ℕ) * U (i 0 : ℕ) (i 1 : ℕ)) : ℝ) : EReal))
    (by decide +kernel) fun t _ y => ?_) i
  blk_simp
  rw [after2_3]; frame_out
  have h0 : ∀ x, iblk2 V c 0 t x = ((Y (t.val * 1024 + (x 0).val) ((x 1).val) : ℝ) : EReal) := by
    intro x
    refine (hY (((cfg2.win 0).blk t).view.emb x)).trans ?_
    blk_simp [idx t]
  have h1 : ∀ x, iblk2 V c 1 t x = ((U (t.val * 1024 + (x 0).val) ((x 1).val) : ℝ) : EReal) := by
    intro x
    refine (hU (((cfg2.win 1).blk t).view.emb x)).trans ?_
    blk_simp [idx t]
  have h2 : ∀ x, iblk2 V c 2 t x = ((D ((x 1).val) : ℝ) : EReal) := by
    intro x
    refine (hD (((cfg2.win 2).blk t).view.emb x)).trans ?_
    blk_simp [idx t]
  pointwise [k2_pay1]
  set_option backward.isDefEq.respectTransparency false in
  simp only [h0, h1, h2]
  simp only [named_cubic, lit_gC, lit_half, lit_one, tanh_real, ← EReal.coe_add, ← EReal.coe_sub, ← EReal.coe_mul]
  blk_simp [idx t]
  rfl

end R2

end Cert.Kernel3Ideal.Value
-- ==== Proof.S3.lean ====
module

public import proofs.«01_k».proof.Proof.Gen.Kernel3Ideal.Frame.Region3
public import proofs.«01_k».proof.Proof.Reals

@[expose] public section

set_option maxRecDepth 16384

/-! # The first half of the gate's projection -/

noncomputable section

open Idealize.ShloMosaic Idealize.ShloMosaic.TcCoe Idealize.SL.Sem
open Idealize.ShloMosaic.Pipeline (Dat)

namespace Cert.Kernel3Ideal.Value
open Cert.Kernel3Ideal Cert.Kernel3Ideal.Gen Cert.Layer

variable (V : (c : Dev nD) → (b : Ref sig .tc) → Buf (Elt Ideal) ((c : Thread nD τ).loc b))

namespace R3

/-- Where each window's block sits. -/
theorem idx : ∀ t : Fin cfg3.N, win3_0.index t = ![t.val, 0] ∧ win3_1.index t = ![0, 0] ∧ win3_2.index t = ![t.val, 0] :=
  (by decide +kernel : ∀ t : Fin grid3.N, _)

/-- The array after the region, from what its operands hold. -/
theorem final (c : Dev nD) (A B : ℕ → ℕ → ℝ)
    (hA : Is2 (n := 4096) (m := 1024) (V c (Pipeline.arrRef spec3 0)) A)
    (hB : Is2 (n := 1024) (m := 1024) (V c (Pipeline.arrRef spec3 1)) B) :
    Is2 (n := 4096) (m := 1024) ((dat3 V c).arrAt 2 cfg3.N) (mulT 1024 A B) := by
  intro i
  refine congrFun ((dat3 V c).arrAt_eq_of_covers 2 (fun i => ((mulT 1024 A B (i 0 : ℕ) (i 1 : ℕ) : ℝ) : EReal))
    (by decide +kernel) fun t _ y => ?_) i
  blk_simp
  rw [after3_2]; frame_out
  pointwise [k3_pay1]
  have h0 : ∀ x, iblk3 V c 0 t x = ((A (t.val * 1024 + (x 0).val) ((x 1).val) : ℝ) : EReal) := by
    intro x
    refine (hA (((cfg3.win 0).blk t).view.emb x)).trans ?_
    blk_simp [idx t]
  have h1 : ∀ x, iblk3 V c 1 t x = ((B ((x 0).val) ((x 1).val) : ℝ) : EReal) := by
    intro x
    refine (hB (((cfg3.win 1).blk t).view.emb x)).trans ?_
    blk_simp [idx t]
  refine (sum_fin _ (fun k => A (t.val * 1024 + (y 0).val) k * B ((y 1).val) k) fun k => ?_).trans ?_
  · rw [h0, h1, ← EReal.coe_mul]; rfl
  · blk_simp [idx t]
    rfl

end R3

end Cert.Kernel3Ideal.Value
-- ==== Proof.S4.lean ====
module

public import proofs.«01_k».proof.Proof.Gen.Kernel3Ideal.Frame.Region4
public import proofs.«01_k».proof.Proof.Reals

@[expose] public section

set_option maxRecDepth 16384

/-! # The second half of the gate's projection -/

noncomputable section

open Idealize.ShloMosaic Idealize.ShloMosaic.TcCoe Idealize.SL.Sem
open Idealize.ShloMosaic.Pipeline (Dat)

namespace Cert.Kernel3Ideal.Value
open Cert.Kernel3Ideal Cert.Kernel3Ideal.Gen Cert.Layer

variable (V : (c : Dev nD) → (b : Ref sig .tc) → Buf (Elt Ideal) ((c : Thread nD τ).loc b))

namespace R4

/-- Where each window's block sits. -/
theorem idx : ∀ t : Fin cfg4.N, win4_0.index t = ![t.val, 0] ∧ win4_1.index t = ![0, 0] ∧ win4_2.index t = ![t.val, 0] :=
  (by decide +kernel : ∀ t : Fin grid4.N, _)

/-- The array after the region, from what its operands hold. -/
theorem final (c : Dev nD) (A B : ℕ → ℕ → ℝ)
    (hA : Is2 (n := 4096) (m := 1024) (V c (Pipeline.arrRef spec4 0)) A)
    (hB : Is2 (n := 1024) (m := 1024) (V c (Pipeline.arrRef spec4 1)) B) :
    Is2 (n := 4096) (m := 1024) ((dat4 V c).arrAt 2 cfg4.N) (mulT 1024 A B) := by
  intro i
  refine congrFun ((dat4 V c).arrAt_eq_of_covers 2 (fun i => ((mulT 1024 A B (i 0 : ℕ) (i 1 : ℕ) : ℝ) : EReal))
    (by decide +kernel) fun t _ y => ?_) i
  blk_simp
  rw [after4_2]; frame_out
  pointwise [k4_pay1]
  have h0 : ∀ x, iblk4 V c 0 t x = ((A (t.val * 1024 + (x 0).val) ((x 1).val) : ℝ) : EReal) := by
    intro x
    refine (hA (((cfg4.win 0).blk t).view.emb x)).trans ?_
    blk_simp [idx t]
  have h1 : ∀ x, iblk4 V c 1 t x = ((B ((x 0).val) ((x 1).val) : ℝ) : EReal) := by
    intro x
    refine (hB (((cfg4.win 1).blk t).view.emb x)).trans ?_
    blk_simp [idx t]
  refine (sum_fin _ (fun k => A (t.val * 1024 + (y 0).val) k * B ((y 1).val) k) fun k => ?_).trans ?_
  · rw [h0, h1, ← EReal.coe_mul]; rfl
  · blk_simp [idx t]
    rfl

end R4

end Cert.Kernel3Ideal.Value
-- ==== Proof.S5.lean ====
module

public import proofs.«01_k».proof.Proof.Gen.Kernel3Ideal.Frame.Region5
public import proofs.«01_k».proof.Proof.Glu

@[expose] public section

set_option maxRecDepth 16384

/-! # The output -/

noncomputable section

open Idealize.ShloMosaic Idealize.ShloMosaic.TcCoe Idealize.SL.Sem
open Idealize.ShloMosaic.Pipeline (Dat)

namespace Cert.Kernel3Ideal.Value
open Cert.Kernel3Ideal Cert.Kernel3Ideal.Gen Cert.Layer

variable (V : (c : Dev nD) → (b : Ref sig .tc) → Buf (Elt Ideal) ((c : Thread nD τ).loc b))

namespace R5

/-- Where each window's block sits. -/
theorem idx : ∀ t : Fin cfg5.N, win5_0.index t = ![t.val, 0] ∧ win5_1.index t = ![t.val, 0] ∧ win5_2.index t = ![t.val, 0] ∧ win5_3.index t = ![t.val, 0] :=
  (by decide +kernel : ∀ t : Fin grid5.N, _)

theorem final (c : Dev nD) (X A B : ℕ → ℕ → ℝ)
    (hX : Is2 (n := 4096) (m := 1024) (V c (Pipeline.arrRef spec5 0)) X)
    (hA : Is2 (n := 4096) (m := 1024) (V c (Pipeline.arrRef spec5 1)) A)
    (hB : Is2 (n := 4096) (m := 1024) (V c (Pipeline.arrRef spec5 2)) B) :
    Is2 (n := 4096) (m := 1024) ((dat5 V c).arrAt 3 cfg5.N) (fun i j => X i j + A i j * Layer.sig (B i j)) := by
  intro i
  refine congrFun ((dat5 V c).arrAt_eq_of_covers 3 (fun i => ((X (i 0 : ℕ) (i 1 : ℕ) + A (i 0 : ℕ) (i 1 : ℕ) * Layer.sig (B (i 0 : ℕ) (i 1 : ℕ)) : ℝ) : EReal))
    (by decide +kernel) fun t _ y => ?_) i
  blk_simp
  rw [after5_3]; frame_out
  have h0 : ∀ x, iblk5 V c 0 t x = ((X (t.val * 1024 + (x 0).val) ((x 1).val) : ℝ) : EReal) := by
    intro x
    refine (hX (((cfg5.win 0).blk t).view.emb x)).trans ?_
    blk_simp [idx t]
  have h1 : ∀ x, iblk5 V c 1 t x = ((A (t.val * 1024 + (x 0).val) ((x 1).val) : ℝ) : EReal) := by
    intro x
    refine (hA (((cfg5.win 1).blk t).view.emb x)).trans ?_
    blk_simp [idx t]
  have h2 : ∀ x, iblk5 V c 2 t x = ((B (t.val * 1024 + (x 0).val) ((x 1).val) : ℝ) : EReal) := by
    intro x
    refine (hB (((cfg5.win 2).blk t).view.emb x)).trans ?_
    blk_simp [idx t]
  pointwise [k5_pay1]
  set_option backward.isDefEq.respectTransparency false in
  simp only [h0, h1, h2]
  simp only [logistic_real, ← EReal.coe_add, ← EReal.coe_sub, ← EReal.coe_mul]
  blk_simp [idx t]

end R5

end Cert.Kernel3Ideal.Value
-- ==== Proof.S6.lean ====
module

public import proofs.«01_k».proof.Proof.Gen.Kernel3Ideal.Frame.Region6
public import proofs.«01_k».proof.Proof.Glu

@[expose] public section

set_option maxRecDepth 16384

/-! # The gradients in the two halves of the gate's projection -/

noncomputable section

open Idealize.ShloMosaic Idealize.ShloMosaic.TcCoe Idealize.SL.Sem
open Idealize.ShloMosaic.Pipeline (Dat)

namespace Cert.Kernel3Ideal.Value
open Cert.Kernel3Ideal Cert.Kernel3Ideal.Gen Cert.Layer

variable (V : (c : Dev nD) → (b : Ref sig .tc) → Buf (Elt Ideal) ((c : Thread nD τ).loc b))

namespace R6

/-- Where each window's block sits. -/
theorem idx : ∀ t : Fin cfg6.N, win6_0.index t = ![t.val, 0] ∧ win6_1.index t = ![t.val, 0] ∧ win6_2.index t = ![t.val, 0] ∧ win6_3.index t = ![t.val, 0] ∧ win6_4.index t = ![t.val, 0] :=
  (by decide +kernel : ∀ t : Fin grid6.N, _)

theorem final3 (c : Dev nD) (G A B : ℕ → ℕ → ℝ)
    (hG : Is2 (n := 4096) (m := 1024) (V c (Pipeline.arrRef spec6 0)) G)
    (hA : Is2 (n := 4096) (m := 1024) (V c (Pipeline.arrRef spec6 1)) A)
    (hB : Is2 (n := 4096) (m := 1024) (V c (Pipeline.arrRef spec6 2)) B) :
    Is2 (n := 4096) (m := 1024) ((dat6 V c).arrAt 3 cfg6.N) (fun i j => G i j * Layer.sig (B i j)) := by
  intro i
  refine congrFun ((dat6 V c).arrAt_eq_of_covers 3 (fun i => ((G (i 0 : ℕ) (i 1 : ℕ) * Layer.sig (B (i 0 : ℕ) (i 1 : ℕ)) : ℝ) : EReal))
    (by decide +kernel) fun t _ y => ?_) i
  blk_simp
  rw [after6_3]; frame_out
  have h0 : ∀ x, iblk6 V c 0 t x = ((G (t.val * 1024 + (x 0).val) ((x 1).val) : ℝ) : EReal) := by
    intro x
    refine (hG (((cfg6.win 0).blk t).view.emb x)).trans ?_
    blk_simp [idx t]
  have h1 : ∀ x, iblk6 V c 1 t x = ((A (t.val * 1024 + (x 0).val) ((x 1).val) : ℝ) : EReal) := by
    intro x
    refine (hA (((cfg6.win 1).blk t).view.emb x)).trans ?_
    blk_simp [idx t]
  have h2 : ∀ x, iblk6 V c 2 t x = ((B (t.val * 1024 + (x 0).val) ((x 1).val) : ℝ) : EReal) := by
    intro x
    refine (hB (((cfg6.win 2).blk t).view.emb x)).trans ?_
    blk_simp [idx t]
  pointwise [k6_pay2, k6_pay1]
  set_option backward.isDefEq.respectTransparency false in
  simp only [h0, h1, h2]
  simp only [logistic_real, ← EReal.coe_add, ← EReal.coe_sub, ← EReal.coe_mul]
  blk_simp [idx t]

theorem final4 (c : Dev nD) (G A B : ℕ → ℕ → ℝ)
    (hG : Is2 (n := 4096) (m := 1024) (V c (Pipeline.arrRef spec6 0)) G)
    (hA : Is2 (n := 4096) (m := 1024) (V c (Pipeline.arrRef spec6 1)) A)
    (hB : Is2 (n := 4096) (m := 1024) (V c (Pipeline.arrRef spec6 2)) B) :
    Is2 (n := 4096) (m := 1024) ((dat6 V c).arrAt 4 cfg6.N) (fun i j => G i j * A i j * Layer.sig (B i j) * (1 - Layer.sig (B i j))) := by
  intro i
  refine congrFun ((dat6 V c).arrAt_eq_of_covers 4 (fun i => ((G (i 0 : ℕ) (i 1 : ℕ) * A (i 0 : ℕ) (i 1 : ℕ) * Layer.sig (B (i 0 : ℕ) (i 1 : ℕ)) * (1 - Layer.sig (B (i 0 : ℕ) (i 1 : ℕ))) : ℝ) : EReal))
    (by decide +kernel) fun t _ y => ?_) i
  blk_simp
  rw [after6_4]; frame_out
  have h0 : ∀ x, iblk6 V c 0 t x = ((G (t.val * 1024 + (x 0).val) ((x 1).val) : ℝ) : EReal) := by
    intro x
    refine (hG (((cfg6.win 0).blk t).view.emb x)).trans ?_
    blk_simp [idx t]
  have h1 : ∀ x, iblk6 V c 1 t x = ((A (t.val * 1024 + (x 0).val) ((x 1).val) : ℝ) : EReal) := by
    intro x
    refine (hA (((cfg6.win 1).blk t).view.emb x)).trans ?_
    blk_simp [idx t]
  have h2 : ∀ x, iblk6 V c 2 t x = ((B (t.val * 1024 + (x 0).val) ((x 1).val) : ℝ) : EReal) := by
    intro x
    refine (hB (((cfg6.win 2).blk t).view.emb x)).trans ?_
    blk_simp [idx t]
  pointwise [k6_pay3, k6_pay1]
  set_option backward.isDefEq.respectTransparency false in
  simp only [h0, h1, h2]
  simp only [lit_one, logistic_real, ← EReal.coe_add, ← EReal.coe_sub, ← EReal.coe_mul]
  blk_simp [idx t]
  rfl

end R6

end Cert.Kernel3Ideal.Value
-- ==== Proof.S7.lean ====
module

public import proofs.«01_k».proof.Proof.Gen.Kernel3Ideal.Frame.Region7
public import proofs.«01_k».proof.Proof.Reals

@[expose] public section

set_option maxRecDepth 16384

/-! # The gradient in the activation: the first half's share -/

noncomputable section

open Idealize.ShloMosaic Idealize.ShloMosaic.TcCoe Idealize.SL.Sem
open Idealize.ShloMosaic.Pipeline (Dat)

namespace Cert.Kernel3Ideal.Value
open Cert.Kernel3Ideal Cert.Kernel3Ideal.Gen Cert.Layer

variable (V : (c : Dev nD) → (b : Ref sig .tc) → Buf (Elt Ideal) ((c : Thread nD τ).loc b))

namespace R7

/-- Where each window's block sits. -/
theorem idx : ∀ t : Fin cfg7.N, win7_0.index t = ![t.val, 0] ∧ win7_1.index t = ![0, 0] ∧ win7_2.index t = ![t.val, 0] :=
  (by decide +kernel : ∀ t : Fin grid7.N, _)

/-- The array after the region, from what its operands hold. -/
theorem final (c : Dev nD) (A B : ℕ → ℕ → ℝ)
    (hA : Is2 (n := 4096) (m := 1024) (V c (Pipeline.arrRef spec7 0)) A)
    (hB : Is2 (n := 1024) (m := 1024) (V c (Pipeline.arrRef spec7 1)) B) :
    Is2 (n := 4096) (m := 1024) ((dat7 V c).arrAt 2 cfg7.N) (mul 1024 A B) := by
  intro i
  refine congrFun ((dat7 V c).arrAt_eq_of_covers 2 (fun i => ((mul 1024 A B (i 0 : ℕ) (i 1 : ℕ) : ℝ) : EReal))
    (by decide +kernel) fun t _ y => ?_) i
  blk_simp
  rw [after7_2]; frame_out
  pointwise [k7_pay1]
  have h0 : ∀ x, iblk7 V c 0 t x = ((A (t.val * 1024 + (x 0).val) ((x 1).val) : ℝ) : EReal) := by
    intro x
    refine (hA (((cfg7.win 0).blk t).view.emb x)).trans ?_
    blk_simp [idx t]
  have h1 : ∀ x, iblk7 V c 1 t x = ((B ((x 0).val) ((x 1).val) : ℝ) : EReal) := by
    intro x
    refine (hB (((cfg7.win 1).blk t).view.emb x)).trans ?_
    blk_simp [idx t]
  refine (sum_fin _ (fun k => A (t.val * 1024 + (y 0).val) k * B k ((y 1).val)) fun k => ?_).trans ?_
  · rw [h0, h1, ← EReal.coe_mul]; rfl
  · blk_simp [idx t]
    rfl

end R7

end Cert.Kernel3Ideal.Value
-- ==== Proof.S8.lean ====
module

public import proofs.«01_k».proof.Proof.Gen.Kernel3Ideal.Frame.Region8
public import proofs.«01_k».proof.Proof.Reals

@[expose] public section

set_option maxRecDepth 16384

/-! # The gradient in the activation: the second half's share added -/

noncomputable section

open Idealize.ShloMosaic Idealize.ShloMosaic.TcCoe Idealize.SL.Sem
open Idealize.ShloMosaic.Pipeline (Dat)

namespace Cert.Kernel3Ideal.Value
open Cert.Kernel3Ideal Cert.Kernel3Ideal.Gen Cert.Layer

variable (V : (c : Dev nD) → (b : Ref sig .tc) → Buf (Elt Ideal) ((c : Thread nD τ).loc b))

namespace R8

/-- Where each window's block sits. -/
theorem idx : ∀ t : Fin cfg8.N, win8_0.index t = ![t.val, 0] ∧ win8_1.index t = ![0, 0] ∧ win8_2.index t = ![t.val, 0] ∧ win8_3.index t = ![t.val, 0] :=
  (by decide +kernel : ∀ t : Fin grid8.N, _)

/-- The array after the region, from what its operands hold. -/
theorem final (c : Dev nD) (A B E : ℕ → ℕ → ℝ)
    (hA : Is2 (n := 4096) (m := 1024) (V c (Pipeline.arrRef spec8 0)) A)
    (hB : Is2 (n := 1024) (m := 1024) (V c (Pipeline.arrRef spec8 1)) B)
    (hE : Is2 (n := 4096) (m := 1024) (V c (Pipeline.arrRef spec8 2)) E) :
    Is2 (n := 4096) (m := 1024) ((dat8 V c).arrAt 3 cfg8.N) (fun i j => mul 1024 A B i j + E i j) := by
  intro i
  refine congrFun ((dat8 V c).arrAt_eq_of_covers 3 (fun i => ((mul 1024 A B (i 0 : ℕ) (i 1 : ℕ) + E (i 0 : ℕ) (i 1 : ℕ) : ℝ) : EReal))
    (by decide +kernel) fun t _ y => ?_) i
  blk_simp
  rw [after8_3]; frame_out
  pointwise [k8_pay1]
  have h0 : ∀ x, iblk8 V c 0 t x = ((A (t.val * 1024 + (x 0).val) ((x 1).val) : ℝ) : EReal) := by
    intro x
    refine (hA (((cfg8.win 0).blk t).view.emb x)).trans ?_
    blk_simp [idx t]
  have h1 : ∀ x, iblk8 V c 1 t x = ((B ((x 0).val) ((x 1).val) : ℝ) : EReal) := by
    intro x
    refine (hB (((cfg8.win 1).blk t).view.emb x)).trans ?_
    blk_simp [idx t]
  have h2 : ∀ x, iblk8 V c 2 t x = ((E (t.val * 1024 + (x 0).val) ((x 1).val) : ℝ) : EReal) := by
    intro x
    refine (hE (((cfg8.win 2).blk t).view.emb x)).trans ?_
    blk_simp [idx t]
  refine (congrArg₂ (fun a b : EReal => a + b) (sum_fin _ (fun k => A (t.val * 1024 + (y 0).val) k * B k ((y 1).val)) fun k => ?_) (h2 y)).trans ?_
  · rw [h0, h1, ← EReal.coe_mul]; rfl
  · rw [← EReal.coe_add]; blk_simp [idx t]; rfl

end R8

end Cert.Kernel3Ideal.Value
-- ==== Proof.S9.lean ====
module

public import proofs.«01_k».proof.Proof.Gen.Kernel3Ideal.Frame.Region9
public import proofs.«01_k».proof.Proof.Reals

@[expose] public section

set_option maxRecDepth 16384

/-! # The gradient of the first half of the gate's projection -/

noncomputable section

open Idealize.ShloMosaic Idealize.ShloMosaic.TcCoe Idealize.SL.Sem
open Idealize.ShloMosaic.Pipeline (Dat)

namespace Cert.Kernel3Ideal.Value
open Cert.Kernel3Ideal Cert.Kernel3Ideal.Gen Cert.Layer

variable (V : (c : Dev nD) → (b : Ref sig .tc) → Buf (Elt Ideal) ((c : Thread nD τ).loc b))

namespace R9

/-- Where each window's block sits. -/
theorem idx : ∀ t : Fin cfg9.N, win9_0.index t = ![0, 0] ∧ win9_1.index t = ![0, 0] ∧ win9_2.index t = ![0, 0] :=
  (by decide +kernel : ∀ t : Fin grid9.N, _)

/-- The array after the region, from what its operands hold. -/
theorem final (c : Dev nD) (A B : ℕ → ℕ → ℝ)
    (hA : Is2 (n := 4096) (m := 1024) (V c (Pipeline.arrRef spec9 0)) A)
    (hB : Is2 (n := 4096) (m := 1024) (V c (Pipeline.arrRef spec9 1)) B) :
    Is2 (n := 1024) (m := 1024) ((dat9 V c).arrAt 2 cfg9.N) (tMul 4096 A B) := by
  intro i
  refine congrFun ((dat9 V c).arrAt_eq_of_covers 2 (fun i => ((tMul 4096 A B (i 0 : ℕ) (i 1 : ℕ) : ℝ) : EReal))
    (by decide +kernel) fun t _ y => ?_) i
  blk_simp
  rw [after9_2]; frame_out
  pointwise [k9_pay1]
  have h0 : ∀ x, iblk9 V c 0 t x = ((A ((x 0).val) ((x 1).val) : ℝ) : EReal) := by
    intro x
    refine (hA (((cfg9.win 0).blk t).view.emb x)).trans ?_
    blk_simp [idx t]
  have h1 : ∀ x, iblk9 V c 1 t x = ((B ((x 0).val) ((x 1).val) : ℝ) : EReal) := by
    intro x
    refine (hB (((cfg9.win 1).blk t).view.emb x)).trans ?_
    blk_simp [idx t]
  refine (sum_fin _ (fun k => A k ((y 0).val) * B k ((y 1).val)) fun k => ?_).trans ?_
  · rw [h0, h1, ← EReal.coe_mul]; rfl
  · blk_simp [idx t]
    rfl

end R9

end Cert.Kernel3Ideal.Value
-- ==== Proof.S10.lean ====
module

public import proofs.«01_k».proof.Proof.Gen.Kernel3Ideal.Frame.Region10
public import proofs.«01_k».proof.Proof.Reals

@[expose] public section

set_option maxRecDepth 16384

/-! # The gradient of the second half of the gate's projection -/

noncomputable section

open Idealize.ShloMosaic Idealize.ShloMosaic.TcCoe Idealize.SL.Sem
open Idealize.ShloMosaic.Pipeline (Dat)

namespace Cert.Kernel3Ideal.Value
open Cert.Kernel3Ideal Cert.Kernel3Ideal.Gen Cert.Layer

variable (V : (c : Dev nD) → (b : Ref sig .tc) → Buf (Elt Ideal) ((c : Thread nD τ).loc b))

namespace R10

/-- Where each window's block sits. -/
theorem idx : ∀ t : Fin cfg10.N, win10_0.index t = ![0, 0] ∧ win10_1.index t = ![0, 0] ∧ win10_2.index t = ![0, 0] :=
  (by decide +kernel : ∀ t : Fin grid10.N, _)

/-- The array after the region, from what its operands hold. -/
theorem final (c : Dev nD) (A B : ℕ → ℕ → ℝ)
    (hA : Is2 (n := 4096) (m := 1024) (V c (Pipeline.arrRef spec10 0)) A)
    (hB : Is2 (n := 4096) (m := 1024) (V c (Pipeline.arrRef spec10 1)) B) :
    Is2 (n := 1024) (m := 1024) ((dat10 V c).arrAt 2 cfg10.N) (tMul 4096 A B) := by
  intro i
  refine congrFun ((dat10 V c).arrAt_eq_of_covers 2 (fun i => ((tMul 4096 A B (i 0 : ℕ) (i 1 : ℕ) : ℝ) : EReal))
    (by decide +kernel) fun t _ y => ?_) i
  blk_simp
  rw [after10_2]; frame_out
  pointwise [k10_pay1]
  have h0 : ∀ x, iblk10 V c 0 t x = ((A ((x 0).val) ((x 1).val) : ℝ) : EReal) := by
    intro x
    refine (hA (((cfg10.win 0).blk t).view.emb x)).trans ?_
    blk_simp [idx t]
  have h1 : ∀ x, iblk10 V c 1 t x = ((B ((x 0).val) ((x 1).val) : ℝ) : EReal) := by
    intro x
    refine (hB (((cfg10.win 1).blk t).view.emb x)).trans ?_
    blk_simp [idx t]
  refine (sum_fin _ (fun k => A k ((y 0).val) * B k ((y 1).val)) fun k => ?_).trans ?_
  · rw [h0, h1, ← EReal.coe_mul]; rfl
  · blk_simp [idx t]
    rfl

end R10

end Cert.Kernel3Ideal.Value
-- ==== Proof.S11.lean ====
module

public import proofs.«01_k».proof.Proof.Gen.Kernel3Ideal.Frame.Region11
public import proofs.«01_k».proof.Proof.S2

@[expose] public section

set_option maxRecDepth 16384

/-! # The activation's backward pass

Each point of the grid takes 1024 rows: it writes its rows of the gradient in the recurrence's output and of the skip's
share of the gradient in `u`, and adds its rows' share to the skip's gradient, which the first point zeroes. -/

noncomputable section

open Idealize.ShloMosaic Idealize.ShloMosaic.TcCoe Idealize.SL.Sem
open Idealize.ShloMosaic.Pipeline (Dat)

namespace Cert.Kernel3Ideal.Value
open Cert.Kernel3Ideal Cert.Kernel3Ideal.Gen Cert.Layer

namespace R11

/-- `A` from row `o` on. -/
def rows (o : ℕ) (A : ℕ → ℕ → ℝ) (i j : ℕ) : ℝ := A (o + i) j

/-- The activation's gradient at one entry. -/
def grad (Q Y U : ℕ → ℕ → ℝ) (D : ℕ → ℝ) (i j : ℕ) : ℝ := Q i j * dgelu (Y i j + D j * U i j)

section Block
variable (q y u : FVec Ideal S1024x1024 .f32) (d : FVec Ideal S1x1024 .f32) (Q Y U : ℕ → ℕ → ℝ) (D : ℕ → ℝ)
variable (hQ : Is2 (n := 1024) (m := 1024) q Q) (hY : Is2 (n := 1024) (m := 1024) y Y)
  (hU : Is2 (n := 1024) (m := 1024) u U) (hD : Is2 (n := 1) (m := 1024) d (fun _ j => D j))

include hY hU hD

theorem arg (i : S1024x1024.Idx) : k11_pay8 (F := Ideal) u d y i
    = ((Y (i 0).val (i 1).val + D (i 1).val * U (i 0).val (i 1).val : ℝ) : EReal) := by
  have gd : ∀ a b, d (ix2 a b) = ((D b.val : ℝ) : EReal) := fun a b => hD _
  pointwise [k11_pay8, k11_pay7, k11_pay6]
  set_option backward.isDefEq.respectTransparency false in
  simp only [gd, hD _, hY i, hU i]
  rw [← EReal.coe_mul, ← EReal.coe_add]

theorem tangent (i : S1024x1024.Idx) : k11_pay9 (F := Ideal) u d y i
    = ((gth (Y (i 0).val (i 1).val + D (i 1).val * U (i 0).val (i 1).val) : ℝ) : EReal) := by
  pointwise [k11_pay9]
  simp only [arg y u d Y U D hY hU hD i, named_cubic, lit_gC, ← EReal.coe_mul, ← EReal.coe_add, tanh_real]
  congr 2
  ring

include hQ

theorem whole (i : S1024x1024.Idx) :
    k11_pay1 (F := Ideal) (k11_pay10 q) (k11_pay11 u d y) (k11_pay12 u d y) i = ((grad Q Y U D (i 0).val (i 1).val : ℝ) : EReal) := by
  pointwise [k11_pay1, k11_pay10, k11_pay11, k11_pay12]
  simp only [arg y u d Y U D hY hU hD i, tangent y u d Y U D hY hU hD i, hQ i, named_cubic_3, lit_gC, lit_half, lit_one,
    ← EReal.coe_mul, ← EReal.coe_add, ← EReal.coe_sub]
  rfl

theorem toY : Is2 (n := 1024) (m := 1024) (k11_pay2 (F := Ideal) (k11_pay10 q) (k11_pay11 u d y) (k11_pay12 u d y)) (grad Q Y U D) := by
  intro i
  pointwise [k11_pay2]
  exact whole q y u d Q Y U D hQ hY hU hD i

theorem toU : Is2 (n := 1024) (m := 1024)
    (k11_pay3 (F := Ideal) (k11_pay7 d) (k11_pay10 q) (k11_pay11 u d y) (k11_pay12 u d y)) (fun i j => grad Q Y U D i j * D j) := by
  intro i
  have gd : ∀ a b, d (ix2 a b) = ((D b.val : ℝ) : EReal) := fun a b => hD _
  pointwise [k11_pay3, k11_pay7]
  refine (congrArg₂ (fun a b : EReal => a * b) (whole q y u d Q Y U D hQ hY hU hD i) (gd _ _)).trans ?_
  rw [← EReal.coe_mul]

theorem skipPart (a : FVec Ideal S1x1024 .f32) (i : S1x1024.Idx) :
    k11_pay4 (F := Ideal) (k11_pay6 u) (k11_pay10 q) (k11_pay11 u d y) (k11_pay12 u d y) a i
      = a i + ((∑ t ∈ Finset.range 1024, grad Q Y U D t (i 1).val * U t (i 1).val : ℝ) : EReal) := by
  pointwise [k11_pay4, k11_pay6]
  refine congrArg (fun b : EReal => a i + b) (sum_fin _ (fun t => grad Q Y U D t (i 1).val * U t (i 1).val) fun k => ?_)
  refine (congrArg₂ (fun a b : EReal => a * b) (whole q y u d Q Y U D hQ hY hU hD (ix2 k (i 1))) (hU (ix2 k (i 1)))).trans ?_
  rw [← EReal.coe_mul]
  rfl

end Block

/-- Where each window's block sits. -/
theorem idx : ∀ t : Fin cfg11.N, win11_0.index t = ![t.val, 0] ∧ win11_1.index t = ![t.val, 0] ∧ win11_2.index t = ![t.val, 0]
    ∧ win11_3.index t = ![0, 0] ∧ win11_4.index t = ![t.val, 0] ∧ win11_5.index t = ![t.val, 0] ∧ win11_6.index t = ![0, 0] :=
  (by decide +kernel : ∀ t : Fin grid11.N, _)

variable (V : (c : Dev nD) → (b : Ref sig .tc) → Buf (Elt Ideal) ((c : Thread nD τ).loc b))
variable (c : Dev nD) (Q Y U : ℕ → ℕ → ℝ) (D : ℕ → ℝ)
    (hQ : Is2 (n := 4096) (m := 1024) (V c (Pipeline.arrRef spec11 0)) Q)
    (hY : Is2 (n := 4096) (m := 1024) (V c (Pipeline.arrRef spec11 1)) Y)
    (hU : Is2 (n := 4096) (m := 1024) (V c (Pipeline.arrRef spec11 2)) U)
    (hD : Is2 (n := 1) (m := 1024) (V c (Pipeline.arrRef spec11 3)) (fun _ j => D j))

include hQ in
theorem blk0 (t : Fin cfg11.N) : Is2 (n := 1024) (m := 1024) (iblk11 V c 0 t) (rows (t.val * 1024) Q) := by
  intro x
  refine (hQ (((cfg11.win 0).blk t).view.emb x)).trans ?_
  blk_simp [idx t]
  rfl

include hY in
theorem blk1 (t : Fin cfg11.N) : Is2 (n := 1024) (m := 1024) (iblk11 V c 1 t) (rows (t.val * 1024) Y) := by
  intro x
  refine (hY (((cfg11.win 1).blk t).view.emb x)).trans ?_
  blk_simp [idx t]
  rfl

include hU in
theorem blk2 (t : Fin cfg11.N) : Is2 (n := 1024) (m := 1024) (iblk11 V c 2 t) (rows (t.val * 1024) U) := by
  intro x
  refine (hU (((cfg11.win 2).blk t).view.emb x)).trans ?_
  blk_simp [idx t]
  rfl

include hD in
theorem blk3 (t : Fin cfg11.N) : Is2 (n := 1) (m := 1024) (iblk11 V c 3 t) (fun _ j => D j) := by
  intro x
  refine (hD (((cfg11.win 3).blk t).view.emb x)).trans ?_
  blk_simp [idx t]

include hQ hY hU hD

/-- The skip's share of point `t`'s rows. -/
theorem part (t : Fin cfg11.N) (a : FVec Ideal S1x1024 .f32) (i : S1x1024.Idx) :
    k11_pay4 (F := Ideal) (k11_pay6 (iblk11 V c 2 t)) (k11_pay10 (iblk11 V c 0 t))
      (k11_pay11 (iblk11 V c 2 t) (iblk11 V c 3 t) (iblk11 V c 1 t)) (k11_pay12 (iblk11 V c 2 t) (iblk11 V c 3 t) (iblk11 V c 1 t)) a i
      = a i + ((∑ k ∈ Finset.range 1024, grad Q Y U D (t.val * 1024 + k) (i 1).val * U (t.val * 1024 + k) (i 1).val : ℝ) : EReal) :=
  skipPart _ _ _ _ (rows (t.val * 1024) Q) (rows (t.val * 1024) Y) (rows (t.val * 1024) U) D
    (blk0 V c Q hQ t) (blk1 V c Y hY t) (blk2 V c U hU t) (blk3 V c D hD t) a i

/-- The skip's gradient after point `n`: the rows taken so far. -/
theorem skip : ∀ (n : ℕ) (hn : n < cfg11.N), Is2 (n := 1) (m := 1024) (outsAt11 V c n hn).2.2
    (fun _ j => ∑ t ∈ Finset.range (n * 1024 + 1024), grad Q Y U D t j * U t j) := by
  intro n
  induction n with
  | zero =>
    intro hn i
    rw [show outsAt11 V c 0 hn = _ from outsAt11_A V c ⟨0, hn⟩ rfl]
    frame_out
    refine (part V c Q Y U D hQ hY hU hD ⟨0, hn⟩ _ i).trans ?_
    rw [show k11_pay5 (F := Ideal) i = 0 by pointwise [k11_pay5], zero_add]
    simp only [Nat.zero_mul, Nat.zero_add]
  | succ n ih =>
    intro hn i
    have h4 : n + 1 < 4 := lt_of_lt_of_eq hn N_11
    rw [show outsAt11 V c (n + 1) hn = _ from outsAt11_B V c ⟨n + 1, hn⟩ (by show ¬ (n + 1) % 4 = 0; omega)]
    frame_out
    refine (part V c Q Y U D hQ hY hU hD ⟨n + 1, hn⟩ _ i).trans ?_
    refine (congrArg (fun b : EReal => b + _) (ih (by omega) i)).trans ?_
    rw [← EReal.coe_add, show n * 1024 + 1024 = (n + 1) * 1024 by ring]
    exact congrArg _ (Finset.sum_range_add (fun t => grad Q Y U D t (i 1).val * U t (i 1).val) ((n + 1) * 1024) 1024).symm

/-- The gradient of the skip's factors. -/
theorem final6 : Is2 (n := 1) (m := 1024) ((dat11 V c).arrAt 6 cfg11.N)
    (fun _ j => ∑ t ∈ Finset.range 4096, grad Q Y U D t j * U t j) := by
  intro i
  refine (congrFun ((dat11 V c).arrAt_eq_of_covers 6
    (fun i => ((∑ t ∈ Finset.range 4096, grad Q Y U D t (i 1 : ℕ) * U t (i 1 : ℕ) : ℝ) : EReal))
    (by decide +kernel) fun t hf y => ?_) i)
  blk_simp
  rw [after11_6]
  have h3 : t.val = 3 := by
    have h := (flush11_6 t).mp hf
    have := lt_of_lt_of_eq t.isLt N_11
    omega
  refine (skip V c Q Y U D hQ hY hU hD t.val t.isLt y).trans ?_
  rw [h3]
  blk_simp [idx t]

/-- What the body leaves of the rows of point `t`. -/
theorem rowsLeft (t : Fin cfg11.N) :
    Is2 (n := 1024) (m := 1024) (outsAt11 V c t.val t.isLt).1 (fun i j => grad Q Y U D (t.val * 1024 + i) j)
    ∧ Is2 (n := 1024) (m := 1024) (outsAt11 V c t.val t.isLt).2.1 (fun i j => grad Q Y U D (t.val * 1024 + i) j * D j) := by
  have h1 := toY _ _ _ _ (rows (t.val * 1024) Q) (rows (t.val * 1024) Y) (rows (t.val * 1024) U) D
    (blk0 V c Q hQ t) (blk1 V c Y hY t) (blk2 V c U hU t) (blk3 V c D hD t)
  have h2 := toU _ _ _ _ (rows (t.val * 1024) Q) (rows (t.val * 1024) Y) (rows (t.val * 1024) U) D
    (blk0 V c Q hQ t) (blk1 V c Y hY t) (blk2 V c U hU t) (blk3 V c D hD t)
  by_cases h0 : t.val % 4 = 0
  · rw [outsAt11_A V c t h0]
    constructor
    · intro i
      frame_out
      exact h1 i
    · intro i
      frame_out
      exact h2 i
  · rw [outsAt11_B V c t h0]
    constructor
    · intro i
      frame_out
      exact h1 i
    · intro i
      frame_out
      exact h2 i

/-- The gradient in the recurrence's output. -/
theorem final4 : Is2 (n := 4096) (m := 1024) ((dat11 V c).arrAt 4 cfg11.N) (grad Q Y U D) := by
  intro i
  refine (congrFun ((dat11 V c).arrAt_eq_of_covers 4 (fun i => ((grad Q Y U D (i 0 : ℕ) (i 1 : ℕ) : ℝ) : EReal))
    (by decide +kernel) fun t hf y => ?_) i)
  blk_simp
  rw [after11_4]
  refine ((rowsLeft V c Q Y U D hQ hY hU hD t).1 y).trans ?_
  blk_simp [idx t]

/-- The skip's share of the gradient in `u`. -/
theorem final5 : Is2 (n := 4096) (m := 1024) ((dat11 V c).arrAt 5 cfg11.N) (fun i j => grad Q Y U D i j * D j) := by
  intro i
  refine (congrFun ((dat11 V c).arrAt_eq_of_covers 5 (fun i => ((grad Q Y U D (i 0 : ℕ) (i 1 : ℕ) * D (i 1 : ℕ) : ℝ) : EReal))
    (by decide +kernel) fun t hf y => ?_) i)
  blk_simp
  rw [after11_5]
  refine ((rowsLeft V c Q Y U D hQ hY hU hD t).2 y).trans ?_
  blk_simp [idx t]

end R11

end Cert.Kernel3Ideal.Value
-- ==== Proof.S12.lean ====
module

public import proofs.«01_k».proof.Proof.Gen.Kernel3Ideal.Frame.Region12
public import proofs.«01_k».proof.Proof.Reals

@[expose] public section

set_option maxRecDepth 16384

/-! # The gradient in the normalised rows -/

noncomputable section

open Idealize.ShloMosaic Idealize.ShloMosaic.TcCoe Idealize.SL.Sem
open Idealize.ShloMosaic.Pipeline (Dat)

namespace Cert.Kernel3Ideal.Value
open Cert.Kernel3Ideal Cert.Kernel3Ideal.Gen Cert.Layer

variable (V : (c : Dev nD) → (b : Ref sig .tc) → Buf (Elt Ideal) ((c : Thread nD τ).loc b))

namespace R12

/-- Where each window's block sits. -/
theorem idx : ∀ t : Fin cfg12.N, win12_0.index t = ![t.val, 0] ∧ win12_1.index t = ![0, 0] ∧ win12_2.index t = ![t.val, 0] :=
  (by decide +kernel : ∀ t : Fin grid12.N, _)

/-- The array after the region, from what its operands hold. -/
theorem final (c : Dev nD) (A B : ℕ → ℕ → ℝ)
    (hA : Is2 (n := 4096) (m := 1024) (V c (Pipeline.arrRef spec12 0)) A)
    (hB : Is2 (n := 1024) (m := 1024) (V c (Pipeline.arrRef spec12 1)) B) :
    Is2 (n := 4096) (m := 1024) ((dat12 V c).arrAt 2 cfg12.N) (mulT 1024 A B) := by
  intro i
  refine congrFun ((dat12 V c).arrAt_eq_of_covers 2 (fun i => ((mulT 1024 A B (i 0 : ℕ) (i 1 : ℕ) : ℝ) : EReal))
    (by decide +kernel) fun t _ y => ?_) i
  blk_simp
  rw [after12_2]; frame_out
  pointwise [k12_pay1]
  have h0 : ∀ x, iblk12 V c 0 t x = ((A (t.val * 1024 + (x 0).val) ((x 1).val) : ℝ) : EReal) := by
    intro x
    refine (hA (((cfg12.win 0).blk t).view.emb x)).trans ?_
    blk_simp [idx t]
  have h1 : ∀ x, iblk12 V c 1 t x = ((B ((x 0).val) ((x 1).val) : ℝ) : EReal) := by
    intro x
    refine (hB (((cfg12.win 1).blk t).view.emb x)).trans ?_
    blk_simp [idx t]
  refine (sum_fin _ (fun k => A (t.val * 1024 + (y 0).val) k * B ((y 1).val) k) fun k => ?_).trans ?_
  · rw [h0, h1, ← EReal.coe_mul]; rfl
  · blk_simp [idx t]
    rfl

end R12

end Cert.Kernel3Ideal.Value
-- ==== Proof.S13.lean ====
module

public import proofs.«01_k».proof.Proof.Gen.Kernel3Ideal.Frame.Region13
public import proofs.«01_k».proof.Proof.Reals

@[expose] public section

set_option maxRecDepth 16384

/-! # The gradient of the projection -/

noncomputable section

open Idealize.ShloMosaic Idealize.ShloMosaic.TcCoe Idealize.SL.Sem
open Idealize.ShloMosaic.Pipeline (Dat)

namespace Cert.Kernel3Ideal.Value
open Cert.Kernel3Ideal Cert.Kernel3Ideal.Gen Cert.Layer

variable (V : (c : Dev nD) → (b : Ref sig .tc) → Buf (Elt Ideal) ((c : Thread nD τ).loc b))

namespace R13

/-- Where each window's block sits. -/
theorem idx : ∀ t : Fin cfg13.N, win13_0.index t = ![0, 0] ∧ win13_1.index t = ![0, 0] ∧ win13_2.index t = ![0, 0] :=
  (by decide +kernel : ∀ t : Fin grid13.N, _)

/-- The array after the region, from what its operands hold. -/
theorem final (c : Dev nD) (A B : ℕ → ℕ → ℝ)
    (hA : Is2 (n := 4096) (m := 1024) (V c (Pipeline.arrRef spec13 0)) A)
    (hB : Is2 (n := 4096) (m := 1024) (V c (Pipeline.arrRef spec13 1)) B) :
    Is2 (n := 1024) (m := 1024) ((dat13 V c).arrAt 2 cfg13.N) (tMul 4096 A B) := by
  intro i
  refine congrFun ((dat13 V c).arrAt_eq_of_covers 2 (fun i => ((tMul 4096 A B (i 0 : ℕ) (i 1 : ℕ) : ℝ) : EReal))
    (by decide +kernel) fun t _ y => ?_) i
  blk_simp
  rw [after13_2]; frame_out
  pointwise [k13_pay1]
  have h0 : ∀ x, iblk13 V c 0 t x = ((A ((x 0).val) ((x 1).val) : ℝ) : EReal) := by
    intro x
    refine (hA (((cfg13.win 0).blk t).view.emb x)).trans ?_
    blk_simp [idx t]
  have h1 : ∀ x, iblk13 V c 1 t x = ((B ((x 0).val) ((x 1).val) : ℝ) : EReal) := by
    intro x
    refine (hB (((cfg13.win 1).blk t).view.emb x)).trans ?_
    blk_simp [idx t]
  refine (sum_fin _ (fun k => A k ((y 0).val) * B k ((y 1).val)) fun k => ?_).trans ?_
  · rw [h0, h1, ← EReal.coe_mul]; rfl
  · blk_simp [idx t]
    rfl

end R13

end Cert.Kernel3Ideal.Value
-- ==== Proof.S14.lean ====
module

public import proofs.«01_k».proof.Proof.Gen.Kernel3Ideal.Frame.Region14
public import proofs.«01_k».proof.Proof.K12

@[expose] public section

set_option maxRecDepth 16384

/-! # The normalisation's backward pass

Each point of the grid takes 1024 rows: it writes its rows of the input's gradient (twice, the second time in the
narrow format) and adds its rows' share to the gain's gradient, which the first point zeroes. -/

noncomputable section

open Idealize.ShloMosaic Idealize.ShloMosaic.TcCoe Idealize.SL.Sem
open Idealize.ShloMosaic.Pipeline (Dat)

namespace Cert.Kernel3Ideal.Value
open Cert.Kernel3Ideal Cert.Kernel3Ideal.Gen Cert.Layer

namespace R14

open Cert.KernelIdeal.Value.R12 (rows)

section Block
variable (x h r : FVec Ideal S1024x1024 .f32) (g : FVec Ideal S1x1024 .f32) (X H R : ℕ → ℕ → ℝ) (N : ℕ → ℝ)
variable (hX : Is2 (n := 1024) (m := 1024) x X) (hH : Is2 (n := 1024) (m := 1024) h H)
include hX hH

/-- One block of rows is computed as in the other layer. -/
theorem rowGrad (hN : Is2 (n := 1) (m := 1024) g (fun _ d => N d)) (hR : Is2 (n := 1024) (m := 1024) r R) :
    Is2 (n := 1024) (m := 1024) (k14_pay5 (F := Ideal) x h g r) (fun t d => normX X N H t d + R t d) :=
  Cert.KernelIdeal.Value.R12.rowGrad x h r g X H R N hX hH hN hR

theorem gainPart (a : FVec Ideal S1x1024 .f32) (i : S1x1024.Idx) :
    k14_pay1 (F := Ideal) x (k14_pay3 h) (k14_pay4 x) a i
      = a i + ((∑ t ∈ Finset.range 1024, H t (i 1).val * X t (i 1).val * rr X t : ℝ) : EReal) :=
  Cert.KernelIdeal.Value.R12.gainPart x h X H hX hH a i

end Block

/-- Where each window's block sits. -/
theorem idx : ∀ t : Fin cfg14.N, win14_0.index t = ![t.val, 0] ∧ win14_1.index t = ![t.val, 0] ∧ win14_2.index t = ![0, 0]
    ∧ win14_3.index t = ![t.val, 0] ∧ win14_4.index t = ![t.val, 0] ∧ win14_5.index t = ![t.val, 0] ∧ win14_6.index t = ![0, 0] :=
  (by decide +kernel : ∀ t : Fin grid14.N, _)

variable (V : (c : Dev nD) → (b : Ref sig .tc) → Buf (Elt Ideal) ((c : Thread nD τ).loc b))
variable (c : Dev nD) (X H R : ℕ → ℕ → ℝ) (N : ℕ → ℝ)
    (hH : Is2 (n := 4096) (m := 1024) (V c (Pipeline.arrRef spec14 0)) H)
    (hX : Is2 (n := 4096) (m := 1024) (V c (Pipeline.arrRef spec14 1)) X)
    (hN : Is2 (n := 1) (m := 1024) (V c (Pipeline.arrRef spec14 2)) (fun _ d => N d))
    (hR : Is2 (n := 4096) (m := 1024) (V c (Pipeline.arrRef spec14 3)) R)

include hH in
theorem blk0 (t : Fin cfg14.N) : Is2 (n := 1024) (m := 1024) (iblk14 V c 0 t) (rows (t.val * 1024) H) := by
  intro x
  refine (hH (((cfg14.win 0).blk t).view.emb x)).trans ?_
  blk_simp [idx t]
  rfl

include hX in
theorem blk1 (t : Fin cfg14.N) : Is2 (n := 1024) (m := 1024) (iblk14 V c 1 t) (rows (t.val * 1024) X) := by
  intro x
  refine (hX (((cfg14.win 1).blk t).view.emb x)).trans ?_
  blk_simp [idx t]
  rfl

include hN in
theorem blk2 (t : Fin cfg14.N) : Is2 (n := 1) (m := 1024) (iblk14 V c 2 t) (fun _ d => N d) := by
  intro x
  refine (hN (((cfg14.win 2).blk t).view.emb x)).trans ?_
  blk_simp [idx t]

include hR in
theorem blk3 (t : Fin cfg14.N) : Is2 (n := 1024) (m := 1024) (iblk14 V c 3 t) (rows (t.val * 1024) R) := by
  intro x
  refine (hR (((cfg14.win 3).blk t).view.emb x)).trans ?_
  blk_simp [idx t]
  rfl

include hH hX in
/-- The gain's gradient after point `n`: the rows taken so far. -/
theorem gain : ∀ (n : ℕ) (hn : n < cfg14.N), Is2 (n := 1) (m := 1024) (outsAt14 V c n hn).2.2
    (fun _ d => ∑ t ∈ Finset.range (n * 1024 + 1024), H t d * X t d * rr X t) := by
  intro n
  induction n with
  | zero =>
    intro hn i
    rw [show outsAt14 V c 0 hn = _ from outsAt14_A V c ⟨0, hn⟩ rfl]
    frame_out
    refine (gainPart _ _ (rows (0 * 1024) X) (rows (0 * 1024) H) (blk1 V c X hX ⟨0, hn⟩) (blk0 V c H hH ⟨0, hn⟩) _ i).trans ?_
    rw [show k14_pay2 (F := Ideal) i = 0 by pointwise [k14_pay2], zero_add]
    have e : ∀ A : ℕ → ℕ → ℝ, rows (0 * 1024) A = A := fun A => by funext i j; simp [rows]
    simp only [e, Nat.zero_mul, Nat.zero_add]
  | succ n ih =>
    intro hn i
    have h4 : n + 1 < 4 := lt_of_lt_of_eq hn N_14
    rw [show outsAt14 V c (n + 1) hn = _ from outsAt14_B V c ⟨n + 1, hn⟩ (by show ¬ (n + 1) % 4 = 0; omega)]
    frame_out
    refine (gainPart _ _ (rows ((n + 1) * 1024) X) (rows ((n + 1) * 1024) H) (blk1 V c X hX ⟨n + 1, hn⟩) (blk0 V c H hH ⟨n + 1, hn⟩) _ i).trans ?_
    refine (congrArg (fun b : EReal => b + _) (ih (by omega) i)).trans ?_
    rw [← EReal.coe_add, show n * 1024 + 1024 = (n + 1) * 1024 by ring]
    exact congrArg _ (Finset.sum_range_add (fun t => H t (i 1).val * X t (i 1).val * rr X t) ((n + 1) * 1024) 1024).symm

include hH hX in
/-- The gradient of the gain. -/
theorem final6 : Is2 (n := 1) (m := 1024) ((dat14 V c).arrAt 6 cfg14.N) (fun _ d => normN X H d) := by
  intro i
  refine (congrFun ((dat14 V c).arrAt_eq_of_covers 6 (fun i => ((normN X H (i 1 : ℕ) : ℝ) : EReal))
    (by decide +kernel) fun t hf y => ?_) i)
  blk_simp
  rw [after14_6]
  have h3 : t.val = 3 := by
    have h := (flush14_6 t).mp hf
    have := lt_of_lt_of_eq t.isLt N_14
    omega
  refine (gain V c X H hH hX t.val t.isLt y).trans ?_
  rw [h3]
  blk_simp [idx t]
  rfl

section Rows
include hH hX hN hR

/-- What the body leaves of the rows of point `t`, in either format. -/
theorem rowsLeft (t : Fin cfg14.N) :
    Is2 (n := 1024) (m := 1024) (outsAt14 V c t.val t.isLt).1
      (fun i d => normX (rows (t.val * 1024) X) N (rows (t.val * 1024) H) i d + rows (t.val * 1024) R i d)
    ∧ Is2 (n := 1024) (m := 1024) (outsAt14 V c t.val t.isLt).2.1
      (fun i d => normX (rows (t.val * 1024) X) N (rows (t.val * 1024) H) i d + rows (t.val * 1024) R i d) := by
  have h := rowGrad _ _ _ _ (rows (t.val * 1024) X) (rows (t.val * 1024) H) (rows (t.val * 1024) R) N
    (blk1 V c X hX t) (blk0 V c H hH t) (blk2 V c N hN t) (blk3 V c R hR t)
  by_cases h0 : t.val % 4 = 0
  · rw [outsAt14_A V c t h0]
    constructor
    · intro i
      frame_out
      exact h i
    · intro i
      frame_out
      exact h i
  · rw [outsAt14_B V c t h0]
    constructor
    · intro i
      frame_out
      exact h i
    · intro i
      frame_out
      exact h i

/-- The gradient in the input, with the cotangent the layer passes through added. -/
theorem final4 : Is2 (n := 4096) (m := 1024) ((dat14 V c).arrAt 4 cfg14.N) (fun t d => normX X N H t d + R t d) := by
  intro i
  refine (congrFun ((dat14 V c).arrAt_eq_of_covers 4 (fun i => ((normX X N H (i 0 : ℕ) (i 1 : ℕ) + R (i 0 : ℕ) (i 1 : ℕ) : ℝ) : EReal))
    (by decide +kernel) fun t hf y => ?_) i)
  blk_simp
  rw [after14_4]
  refine ((rowsLeft V c X H R N hH hX hN hR t).1 y).trans ?_
  blk_simp [idx t]
  rfl

/-- The same in the narrow format. -/
theorem final5 : Is2 (n := 4096) (m := 1024) ((dat14 V c).arrAt 5 cfg14.N) (fun t d => normX X N H t d + R t d) := by
  intro i
  refine (congrFun ((dat14 V c).arrAt_eq_of_covers 5 (fun i => ((normX X N H (i 0 : ℕ) (i 1 : ℕ) + R (i 0 : ℕ) (i 1 : ℕ) : ℝ) : EReal))
    (by decide +kernel) fun t hf y => ?_) i)
  blk_simp
  rw [after14_5]
  refine ((rowsLeft V c X H R N hH hX hN hR t).2 y).trans ?_
  blk_simp [idx t]
  rfl

end Rows

end R14

end Cert.Kernel3Ideal.Value
-- ==== Proof.SChain.lean ====
module

public import proofs.«01_k».proof.Proof.SHost
public import proofs.«01_k».proof.Proof.S0
public import proofs.«01_k».proof.Proof.S1
public import proofs.«01_k».proof.Proof.S2
public import proofs.«01_k».proof.Proof.S3
public import proofs.«01_k».proof.Proof.S4
public import proofs.«01_k».proof.Proof.S5
public import proofs.«01_k».proof.Proof.S6
public import proofs.«01_k».proof.Proof.S7
public import proofs.«01_k».proof.Proof.S8
public import proofs.«01_k».proof.Proof.S9
public import proofs.«01_k».proof.Proof.S10
public import proofs.«01_k».proof.Proof.S11
public import proofs.«01_k».proof.Proof.S12
public import proofs.«01_k».proof.Proof.S13
public import proofs.«01_k».proof.Proof.S14

@[expose] public section

set_option maxRecDepth 16384

/-! # What each buffer of the gated layer holds where a region reads it, and at the end -/

noncomputable section

open Idealize.ShloMosaic Idealize.ShloMosaic.TcCoe Idealize.SL.Sem

namespace Cert.Kernel3Ideal.Value
open Cert.Kernel3Ideal Cert.Kernel3Ideal.Gen Cert.Layer

variable (m : (ℓ : Loc nD τ sig) → Buf (Elt Ideal) ℓ) (ρ : Dev nD → PrngReg) (c : Dev nD) (p : Gated)

/-! ## Region 0 -/

theorem at2_v7 (h : Launched m c p) : Is2 (n := 4096) (m := 1024) (W2 m ρ c (Proc.devRef .tc main_v7)) p.h :=
  Is2.of_eq (W2_arr m ρ c 2) (R0.final (V1 m ρ) c p.X p.N (at1_arg0 m ρ c p h) (at1_v2 m ρ c p h))

/-! ## Region 1 -/

theorem at2_v3 (h : Launched m c p) : Is2 (n := 1024) (m := 1024) (W2 m ρ c (Proc.devRef .tc main_v3)) p.W :=
  Is2.of_eq (W2_of m ρ c main_v3 (by decide +kernel)) (at1_v3 m ρ c p h)
theorem at3_v8_0 (h : Launched m c p) : Is2 (n := 4096) (m := 1024) (W3 m ρ c (Proc.devRef .tc main_v8_0)) p.u :=
  Is2.of_eq (W3_arr m ρ c 2) (R1.final2 (V2 m ρ) c p.h p.W (at2_v7 m ρ c p h) (at2_v3 m ρ c p h))
theorem at3_v8_1 (h : Launched m c p) : Is2 (n := 4096) (m := 1024) (W3 m ρ c (Proc.devRef .tc main_v8_1)) p.u :=
  Is2.of_eq (W3_arr m ρ c 3) (R1.final3 (V2 m ρ) c p.h p.W (at2_v7 m ρ c p h) (at2_v3 m ρ c p h))

/-! ## Region 2 -/

theorem at3_arg3 (h : Launched m c p) : Is2 (n := 4096) (m := 1024) (W3 m ρ c (Proc.devRef .tc main_arg3)) p.Y :=
  Is2.of_eq (W3_of m ρ c main_arg3 (by decide +kernel)) (Is2.of_eq (W2_of m ρ c main_arg3 (by decide +kernel)) (at1_arg3 m ρ c p h))
theorem at3_v4 (h : Launched m c p) : Is2 (n := 1) (m := 1024) (W3 m ρ c (Proc.devRef .tc main_v4)) (fun _ d => p.D d) :=
  Is2.of_eq (W3_of m ρ c main_v4 (by decide +kernel)) (Is2.of_eq (W2_of m ρ c main_v4 (by decide +kernel)) (at1_v4 m ρ c p h))
theorem at4_v9 (h : Launched m c p) : Is2 (n := 4096) (m := 1024) (W4 m ρ c (Proc.devRef .tc main_v9)) p.g :=
  Is2.of_eq (W4_arr m ρ c 3) (R2.final (V3 m ρ) c p.Y p.u p.D (at3_arg3 m ρ c p h) (at3_v8_0 m ρ c p h) (at3_v4 m ρ c p h))

/-! ## Region 3 -/

theorem at4_v5 (h : Launched m c p) : Is2 (n := 1024) (m := 1024) (W4 m ρ c (Proc.devRef .tc main_v5)) (fun j d => p.P d j) :=
  Is2.of_eq (W4_of m ρ c main_v5 (by decide +kernel)) (Is2.of_eq (W3_of m ρ c main_v5 (by decide +kernel)) (Is2.of_eq (W2_of m ρ c main_v5 (by decide +kernel)) (at1_v5 m ρ c p h)))
theorem at5_v10 (h : Launched m c p) : Is2 (n := 4096) (m := 1024) (W5 m ρ c (Proc.devRef .tc main_v10)) p.a :=
  Is2.of_eq (W5_arr m ρ c 2) (R3.final (V4 m ρ) c p.g _ (at4_v9 m ρ c p h) (at4_v5 m ρ c p h))

/-! ## Region 4 -/

theorem at5_v9 (h : Launched m c p) : Is2 (n := 4096) (m := 1024) (W5 m ρ c (Proc.devRef .tc main_v9)) p.g :=
  Is2.of_eq (W5_of m ρ c main_v9 (by decide +kernel)) (at4_v9 m ρ c p h)
theorem at5_v6 (h : Launched m c p) : Is2 (n := 1024) (m := 1024) (W5 m ρ c (Proc.devRef .tc main_v6)) (fun j d => Gated.half p.P d j) :=
  Is2.of_eq (W5_of m ρ c main_v6 (by decide +kernel)) (Is2.of_eq (W4_of m ρ c main_v6 (by decide +kernel)) (Is2.of_eq (W3_of m ρ c main_v6 (by decide +kernel)) (Is2.of_eq (W2_of m ρ c main_v6 (by decide +kernel)) (at1_v6 m ρ c p h))))
theorem at6_v11 (h : Launched m c p) : Is2 (n := 4096) (m := 1024) (W6 m ρ c (Proc.devRef .tc main_v11)) p.b :=
  Is2.of_eq (W6_arr m ρ c 2) (R4.final (V5 m ρ) c p.g _ (at5_v9 m ρ c p h) (at5_v6 m ρ c p h))

/-! ## Region 5 -/

theorem at6_arg0 (h : Launched m c p) : Is2 (n := 4096) (m := 1024) (W6 m ρ c (Proc.devRef .tc main_arg0)) p.X :=
  Is2.of_eq (W6_of m ρ c main_arg0 (by decide +kernel)) (Is2.of_eq (W5_of m ρ c main_arg0 (by decide +kernel)) (Is2.of_eq (W4_of m ρ c main_arg0 (by decide +kernel)) (Is2.of_eq (W3_of m ρ c main_arg0 (by decide +kernel)) (Is2.of_eq (W2_of m ρ c main_arg0 (by decide +kernel)) (at1_arg0 m ρ c p h)))))
theorem at6_v10 (h : Launched m c p) : Is2 (n := 4096) (m := 1024) (W6 m ρ c (Proc.devRef .tc main_v10)) p.a :=
  Is2.of_eq (W6_of m ρ c main_v10 (by decide +kernel)) (at5_v10 m ρ c p h)
theorem at7_v12 (h : Launched m c p) : Is2 (n := 4096) (m := 1024) (W7 m ρ c (Proc.devRef .tc main_v12)) p.out :=
  Is2.of_eq (W7_arr m ρ c 3) (R5.final (V6 m ρ) c p.X p.a p.b (at6_arg0 m ρ c p h) (at6_v10 m ρ c p h) (at6_v11 m ρ c p h))

/-! ## Region 6 -/

theorem at7_arg7 (h : Launched m c p) : Is2 (n := 4096) (m := 1024) (W7 m ρ c (Proc.devRef .tc main_arg7)) p.G :=
  Is2.of_eq (W7_of m ρ c main_arg7 (by decide +kernel)) (Is2.of_eq (W6_of m ρ c main_arg7 (by decide +kernel)) (Is2.of_eq (W5_of m ρ c main_arg7 (by decide +kernel)) (Is2.of_eq (W4_of m ρ c main_arg7 (by decide +kernel)) (Is2.of_eq (W3_of m ρ c main_arg7 (by decide +kernel)) (Is2.of_eq (W2_of m ρ c main_arg7 (by decide +kernel)) (at1_arg7 m ρ c p h))))))
theorem at7_v10 (h : Launched m c p) : Is2 (n := 4096) (m := 1024) (W7 m ρ c (Proc.devRef .tc main_v10)) p.a :=
  Is2.of_eq (W7_of m ρ c main_v10 (by decide +kernel)) (at6_v10 m ρ c p h)
theorem at7_v11 (h : Launched m c p) : Is2 (n := 4096) (m := 1024) (W7 m ρ c (Proc.devRef .tc main_v11)) p.b :=
  Is2.of_eq (W7_of m ρ c main_v11 (by decide +kernel)) (at6_v11 m ρ c p h)
theorem at8_v13_0 (h : Launched m c p) : Is2 (n := 4096) (m := 1024) (W8 m ρ c (Proc.devRef .tc main_v13_0)) p.da :=
  Is2.of_eq (W8_arr m ρ c 3) (R6.final3 (V7 m ρ) c p.G p.a p.b (at7_arg7 m ρ c p h) (at7_v10 m ρ c p h) (at7_v11 m ρ c p h))
theorem at8_v13_1 (h : Launched m c p) : Is2 (n := 4096) (m := 1024) (W8 m ρ c (Proc.devRef .tc main_v13_1)) p.db :=
  Is2.of_eq (W8_arr m ρ c 4) (R6.final4 (V7 m ρ) c p.G p.a p.b (at7_arg7 m ρ c p h) (at7_v10 m ρ c p h) (at7_v11 m ρ c p h))

/-! ## Region 7 -/

theorem at8_v5 (h : Launched m c p) : Is2 (n := 1024) (m := 1024) (W8 m ρ c (Proc.devRef .tc main_v5)) (fun j d => p.P d j) :=
  Is2.of_eq (W8_of m ρ c main_v5 (by decide +kernel)) (Is2.of_eq (W7_of m ρ c main_v5 (by decide +kernel)) (Is2.of_eq (W6_of m ρ c main_v5 (by decide +kernel)) (Is2.of_eq (W5_of m ρ c main_v5 (by decide +kernel)) (at4_v5 m ρ c p h))))
theorem at9_v14 (h : Launched m c p) : Is2 (n := 4096) (m := 1024) (W9 m ρ c (Proc.devRef .tc main_v14)) (mulT 1024 p.da p.P) :=
  Is2.of_eq (W9_arr m ρ c 2) (R7.final (V8 m ρ) c p.da _ (at8_v13_0 m ρ c p h) (at8_v5 m ρ c p h))

/-! ## Region 8 -/

theorem at9_v13_1 (h : Launched m c p) : Is2 (n := 4096) (m := 1024) (W9 m ρ c (Proc.devRef .tc main_v13_1)) p.db :=
  Is2.of_eq (W9_of m ρ c main_v13_1 (by decide +kernel)) (at8_v13_1 m ρ c p h)
theorem at9_v6 (h : Launched m c p) : Is2 (n := 1024) (m := 1024) (W9 m ρ c (Proc.devRef .tc main_v6)) (fun j d => Gated.half p.P d j) :=
  Is2.of_eq (W9_of m ρ c main_v6 (by decide +kernel)) (Is2.of_eq (W8_of m ρ c main_v6 (by decide +kernel)) (Is2.of_eq (W7_of m ρ c main_v6 (by decide +kernel)) (Is2.of_eq (W6_of m ρ c main_v6 (by decide +kernel)) (at5_v6 m ρ c p h))))
theorem at10_v15 (h : Launched m c p) : Is2 (n := 4096) (m := 1024) (W10 m ρ c (Proc.devRef .tc main_v15)) p.dg :=
  Is2.of_eq (W10_arr m ρ c 3) (R8.final (V9 m ρ) c p.db _ _ (at9_v13_1 m ρ c p h) (at9_v6 m ρ c p h) (at9_v14 m ρ c p h))

/-! ## Region 9 -/

theorem at10_v13_0 (h : Launched m c p) : Is2 (n := 4096) (m := 1024) (W10 m ρ c (Proc.devRef .tc main_v13_0)) p.da :=
  Is2.of_eq (W10_of m ρ c main_v13_0 (by decide +kernel)) (Is2.of_eq (W9_of m ρ c main_v13_0 (by decide +kernel)) (at8_v13_0 m ρ c p h))
theorem at10_v9 (h : Launched m c p) : Is2 (n := 4096) (m := 1024) (W10 m ρ c (Proc.devRef .tc main_v9)) p.g :=
  Is2.of_eq (W10_of m ρ c main_v9 (by decide +kernel)) (Is2.of_eq (W9_of m ρ c main_v9 (by decide +kernel)) (Is2.of_eq (W8_of m ρ c main_v9 (by decide +kernel)) (Is2.of_eq (W7_of m ρ c main_v9 (by decide +kernel)) (Is2.of_eq (W6_of m ρ c main_v9 (by decide +kernel)) (at5_v9 m ρ c p h)))))
theorem at11_v16 (h : Launched m c p) : Is2 (n := 1024) (m := 1024) (W11 m ρ c (Proc.devRef .tc main_v16)) p.gPa :=
  Is2.of_eq (W11_arr m ρ c 2) (R9.final (V10 m ρ) c p.da p.g (at10_v13_0 m ρ c p h) (at10_v9 m ρ c p h))

/-! ## Region 10 -/

theorem at11_v13_1 (h : Launched m c p) : Is2 (n := 4096) (m := 1024) (W11 m ρ c (Proc.devRef .tc main_v13_1)) p.db :=
  Is2.of_eq (W11_of m ρ c main_v13_1 (by decide +kernel)) (Is2.of_eq (W10_of m ρ c main_v13_1 (by decide +kernel)) (at9_v13_1 m ρ c p h))
theorem at11_v9 (h : Launched m c p) : Is2 (n := 4096) (m := 1024) (W11 m ρ c (Proc.devRef .tc main_v9)) p.g :=
  Is2.of_eq (W11_of m ρ c main_v9 (by decide +kernel)) (at10_v9 m ρ c p h)
theorem at12_v17 (h : Launched m c p) : Is2 (n := 1024) (m := 1024) (W12 m ρ c (Proc.devRef .tc main_v17)) p.gPb :=
  Is2.of_eq (W12_arr m ρ c 2) (R10.final (V11 m ρ) c p.db p.g (at11_v13_1 m ρ c p h) (at11_v9 m ρ c p h))

/-! ## Region 11 -/

theorem at12_v15 (h : Launched m c p) : Is2 (n := 4096) (m := 1024) (W12 m ρ c (Proc.devRef .tc main_v15)) p.dg :=
  Is2.of_eq (W12_of m ρ c main_v15 (by decide +kernel)) (Is2.of_eq (W11_of m ρ c main_v15 (by decide +kernel)) (at10_v15 m ρ c p h))
theorem at12_arg3 (h : Launched m c p) : Is2 (n := 4096) (m := 1024) (W12 m ρ c (Proc.devRef .tc main_arg3)) p.Y :=
  Is2.of_eq (W12_of m ρ c main_arg3 (by decide +kernel)) (Is2.of_eq (W11_of m ρ c main_arg3 (by decide +kernel)) (Is2.of_eq (W10_of m ρ c main_arg3 (by decide +kernel)) (Is2.of_eq (W9_of m ρ c main_arg3 (by decide +kernel)) (Is2.of_eq (W8_of m ρ c main_arg3 (by decide +kernel)) (Is2.of_eq (W7_of m ρ c main_arg3 (by decide +kernel)) (Is2.of_eq (W6_of m ρ c main_arg3 (by decide +kernel)) (Is2.of_eq (W5_of m ρ c main_arg3 (by decide +kernel)) (Is2.of_eq (W4_of m ρ c main_arg3 (by decide +kernel)) (at3_arg3 m ρ c p h)))))))))
theorem at12_v8_0 (h : Launched m c p) : Is2 (n := 4096) (m := 1024) (W12 m ρ c (Proc.devRef .tc main_v8_0)) p.u :=
  Is2.of_eq (W12_of m ρ c main_v8_0 (by decide +kernel)) (Is2.of_eq (W11_of m ρ c main_v8_0 (by decide +kernel)) (Is2.of_eq (W10_of m ρ c main_v8_0 (by decide +kernel)) (Is2.of_eq (W9_of m ρ c main_v8_0 (by decide +kernel)) (Is2.of_eq (W8_of m ρ c main_v8_0 (by decide +kernel)) (Is2.of_eq (W7_of m ρ c main_v8_0 (by decide +kernel)) (Is2.of_eq (W6_of m ρ c main_v8_0 (by decide +kernel)) (Is2.of_eq (W5_of m ρ c main_v8_0 (by decide +kernel)) (Is2.of_eq (W4_of m ρ c main_v8_0 (by decide +kernel)) (at3_v8_0 m ρ c p h)))))))))
theorem at12_v4 (h : Launched m c p) : Is2 (n := 1) (m := 1024) (W12 m ρ c (Proc.devRef .tc main_v4)) (fun _ d => p.D d) :=
  Is2.of_eq (W12_of m ρ c main_v4 (by decide +kernel)) (Is2.of_eq (W11_of m ρ c main_v4 (by decide +kernel)) (Is2.of_eq (W10_of m ρ c main_v4 (by decide +kernel)) (Is2.of_eq (W9_of m ρ c main_v4 (by decide +kernel)) (Is2.of_eq (W8_of m ρ c main_v4 (by decide +kernel)) (Is2.of_eq (W7_of m ρ c main_v4 (by decide +kernel)) (Is2.of_eq (W6_of m ρ c main_v4 (by decide +kernel)) (Is2.of_eq (W5_of m ρ c main_v4 (by decide +kernel)) (Is2.of_eq (W4_of m ρ c main_v4 (by decide +kernel)) (at3_v4 m ρ c p h)))))))))
theorem at13_v18_0 (h : Launched m c p) : Is2 (n := 4096) (m := 1024) (W13 m ρ c (Proc.devRef .tc main_v18_0)) p.dz :=
  Is2.of_eq (W13_arr m ρ c 4) (R11.final4 (V12 m ρ) c p.dg p.Y p.u p.D (at12_v15 m ρ c p h) (at12_arg3 m ρ c p h) (at12_v8_0 m ρ c p h) (at12_v4 m ρ c p h))
theorem at13_v18_1 (h : Launched m c p) : Is2 (n := 4096) (m := 1024) (W13 m ρ c (Proc.devRef .tc main_v18_1)) p.du :=
  Is2.of_eq (W13_arr m ρ c 5) (R11.final5 (V12 m ρ) c p.dg p.Y p.u p.D (at12_v15 m ρ c p h) (at12_arg3 m ρ c p h) (at12_v8_0 m ρ c p h) (at12_v4 m ρ c p h))
theorem at13_v18_2 (h : Launched m c p) : Is2 (n := 1) (m := 1024) (W13 m ρ c (Proc.devRef .tc main_v18_2)) (fun _ d => p.gD d) :=
  Is2.of_eq (W13_arr m ρ c 6) (R11.final6 (V12 m ρ) c p.dg p.Y p.u p.D (at12_v15 m ρ c p h) (at12_arg3 m ρ c p h) (at12_v8_0 m ρ c p h) (at12_v4 m ρ c p h))

/-! ## Region 12 -/

theorem at14_v3 (h : Launched m c p) : Is2 (n := 1024) (m := 1024) (W14 m ρ c (Proc.devRef .tc main_v3)) p.W :=
  Is2.of_eq (W14_of m ρ c main_v3 (by decide)) (Is2.of_eq (W13_of m ρ c main_v3 (by decide +kernel)) (Is2.of_eq (W12_of m ρ c main_v3 (by decide +kernel)) (Is2.of_eq (W11_of m ρ c main_v3 (by decide +kernel)) (Is2.of_eq (W10_of m ρ c main_v3 (by decide +kernel)) (Is2.of_eq (W9_of m ρ c main_v3 (by decide +kernel)) (Is2.of_eq (W8_of m ρ c main_v3 (by decide +kernel)) (Is2.of_eq (W7_of m ρ c main_v3 (by decide +kernel)) (Is2.of_eq (W6_of m ρ c main_v3 (by decide +kernel)) (Is2.of_eq (W5_of m ρ c main_v3 (by decide +kernel)) (Is2.of_eq (W4_of m ρ c main_v3 (by decide +kernel)) (Is2.of_eq (W3_of m ρ c main_v3 (by decide +kernel)) (at2_v3 m ρ c p h))))))))))))
theorem at15_v20 (h : Launched m c p) : Is2 (n := 4096) (m := 1024) (W15 m ρ c (Proc.devRef .tc main_v20)) p.dh :=
  Is2.of_eq (W15_arr m ρ c 2) (R12.final (V14 m ρ) c p.U p.W (at14_v19 m ρ c p h) (at14_v3 m ρ c p h))

/-! ## Region 13 -/

theorem at15_v7 (h : Launched m c p) : Is2 (n := 4096) (m := 1024) (W15 m ρ c (Proc.devRef .tc main_v7)) p.h :=
  Is2.of_eq (W15_of m ρ c main_v7 (by decide +kernel)) (Is2.of_eq (W14_of m ρ c main_v7 (by decide)) (Is2.of_eq (W13_of m ρ c main_v7 (by decide +kernel)) (Is2.of_eq (W12_of m ρ c main_v7 (by decide +kernel)) (Is2.of_eq (W11_of m ρ c main_v7 (by decide +kernel)) (Is2.of_eq (W10_of m ρ c main_v7 (by decide +kernel)) (Is2.of_eq (W9_of m ρ c main_v7 (by decide +kernel)) (Is2.of_eq (W8_of m ρ c main_v7 (by decide +kernel)) (Is2.of_eq (W7_of m ρ c main_v7 (by decide +kernel)) (Is2.of_eq (W6_of m ρ c main_v7 (by decide +kernel)) (Is2.of_eq (W5_of m ρ c main_v7 (by decide +kernel)) (Is2.of_eq (W4_of m ρ c main_v7 (by decide +kernel)) (Is2.of_eq (W3_of m ρ c main_v7 (by decide +kernel)) (at2_v7 m ρ c p h)))))))))))))
theorem at15_v19 (h : Launched m c p) : Is2 (n := 4096) (m := 1024) (W15 m ρ c (Proc.devRef .tc main_v19)) p.U :=
  Is2.of_eq (W15_of m ρ c main_v19 (by decide +kernel)) (at14_v19 m ρ c p h)
theorem at16_v21 (h : Launched m c p) : Is2 (n := 1024) (m := 1024) (W16 m ρ c (Proc.devRef .tc main_v21)) p.gW :=
  Is2.of_eq (W16_arr m ρ c 2) (R13.final (V15 m ρ) c p.h p.U (at15_v7 m ρ c p h) (at15_v19 m ρ c p h))

/-! ## Region 14 -/

theorem at16_v20 (h : Launched m c p) : Is2 (n := 4096) (m := 1024) (W16 m ρ c (Proc.devRef .tc main_v20)) p.dh :=
  Is2.of_eq (W16_of m ρ c main_v20 (by decide +kernel)) (at15_v20 m ρ c p h)
theorem at16_arg0 (h : Launched m c p) : Is2 (n := 4096) (m := 1024) (W16 m ρ c (Proc.devRef .tc main_arg0)) p.X :=
  Is2.of_eq (W16_of m ρ c main_arg0 (by decide +kernel)) (Is2.of_eq (W15_of m ρ c main_arg0 (by decide +kernel)) (Is2.of_eq (W14_of m ρ c main_arg0 (by decide)) (Is2.of_eq (W13_of m ρ c main_arg0 (by decide +kernel)) (Is2.of_eq (W12_of m ρ c main_arg0 (by decide +kernel)) (Is2.of_eq (W11_of m ρ c main_arg0 (by decide +kernel)) (Is2.of_eq (W10_of m ρ c main_arg0 (by decide +kernel)) (Is2.of_eq (W9_of m ρ c main_arg0 (by decide +kernel)) (Is2.of_eq (W8_of m ρ c main_arg0 (by decide +kernel)) (Is2.of_eq (W7_of m ρ c main_arg0 (by decide +kernel)) (at6_arg0 m ρ c p h))))))))))
theorem at16_v2 (h : Launched m c p) : Is2 (n := 1) (m := 1024) (W16 m ρ c (Proc.devRef .tc main_v2)) (fun _ d => p.N d) :=
  Is2.of_eq (W16_of m ρ c main_v2 (by decide +kernel)) (Is2.of_eq (W15_of m ρ c main_v2 (by decide +kernel)) (Is2.of_eq (W14_of m ρ c main_v2 (by decide)) (Is2.of_eq (W13_of m ρ c main_v2 (by decide +kernel)) (Is2.of_eq (W12_of m ρ c main_v2 (by decide +kernel)) (Is2.of_eq (W11_of m ρ c main_v2 (by decide +kernel)) (Is2.of_eq (W10_of m ρ c main_v2 (by decide +kernel)) (Is2.of_eq (W9_of m ρ c main_v2 (by decide +kernel)) (Is2.of_eq (W8_of m ρ c main_v2 (by decide +kernel)) (Is2.of_eq (W7_of m ρ c main_v2 (by decide +kernel)) (Is2.of_eq (W6_of m ρ c main_v2 (by decide +kernel)) (Is2.of_eq (W5_of m ρ c main_v2 (by decide +kernel)) (Is2.of_eq (W4_of m ρ c main_v2 (by decide +kernel)) (Is2.of_eq (W3_of m ρ c main_v2 (by decide +kernel)) (Is2.of_eq (W2_of m ρ c main_v2 (by decide +kernel)) (at1_v2 m ρ c p h)))))))))))))))
theorem at16_arg7 (h : Launched m c p) : Is2 (n := 4096) (m := 1024) (W16 m ρ c (Proc.devRef .tc main_arg7)) p.G :=
  Is2.of_eq (W16_of m ρ c main_arg7 (by decide +kernel)) (Is2.of_eq (W15_of m ρ c main_arg7 (by decide +kernel)) (Is2.of_eq (W14_of m ρ c main_arg7 (by decide)) (Is2.of_eq (W13_of m ρ c main_arg7 (by decide +kernel)) (Is2.of_eq (W12_of m ρ c main_arg7 (by decide +kernel)) (Is2.of_eq (W11_of m ρ c main_arg7 (by decide +kernel)) (Is2.of_eq (W10_of m ρ c main_arg7 (by decide +kernel)) (Is2.of_eq (W9_of m ρ c main_arg7 (by decide +kernel)) (Is2.of_eq (W8_of m ρ c main_arg7 (by decide +kernel)) (at7_arg7 m ρ c p h)))))))))
theorem at17_v22_0 (h : Launched m c p) : Is2 (n := 4096) (m := 1024) (W17 m ρ c (Proc.devRef .tc main_v22_0)) p.dx :=
  Is2.of_eq (W17_arr m ρ c 4) (R14.final4 (V16 m ρ) c p.X p.dh p.G p.N (at16_v20 m ρ c p h) (at16_arg0 m ρ c p h) (at16_v2 m ρ c p h) (at16_arg7 m ρ c p h))
theorem at17_v22_1 (h : Launched m c p) : Is2 (n := 4096) (m := 1024) (W17 m ρ c (Proc.devRef .tc main_v22_1)) p.dx :=
  Is2.of_eq (W17_arr m ρ c 5) (R14.final5 (V16 m ρ) c p.X p.dh p.G p.N (at16_v20 m ρ c p h) (at16_arg0 m ρ c p h) (at16_v2 m ρ c p h) (at16_arg7 m ρ c p h))
theorem at17_v22_2 (h : Launched m c p) : Is2 (n := 1) (m := 1024) (W17 m ρ c (Proc.devRef .tc main_v22_2)) (fun _ d => p.dn d) :=
  Is2.of_eq (W17_arr m ρ c 6) (R14.final6 (V16 m ρ) c p.X p.dh (at16_v20 m ρ c p h) (at16_arg0 m ρ c p h))

/-! ## The end -/

theorem at17_v8_0 (h : Launched m c p) : Is2 (n := 4096) (m := 1024) (W17 m ρ c (Proc.devRef .tc main_v8_0)) p.u :=
  Is2.of_eq (W17_of m ρ c main_v8_0 (by decide +kernel)) (Is2.of_eq (W16_of m ρ c main_v8_0 (by decide +kernel)) (Is2.of_eq (W15_of m ρ c main_v8_0 (by decide +kernel)) (Is2.of_eq (W14_of m ρ c main_v8_0 (by decide)) (Is2.of_eq (W13_of m ρ c main_v8_0 (by decide +kernel)) (at12_v8_0 m ρ c p h)))))
theorem at17_v8_1 (h : Launched m c p) : Is2 (n := 4096) (m := 1024) (W17 m ρ c (Proc.devRef .tc main_v8_1)) p.u :=
  Is2.of_eq (W17_of m ρ c main_v8_1 (by decide +kernel)) (Is2.of_eq (W16_of m ρ c main_v8_1 (by decide +kernel)) (Is2.of_eq (W15_of m ρ c main_v8_1 (by decide +kernel)) (Is2.of_eq (W14_of m ρ c main_v8_1 (by decide)) (Is2.of_eq (W13_of m ρ c main_v8_1 (by decide +kernel)) (Is2.of_eq (W12_of m ρ c main_v8_1 (by decide +kernel)) (Is2.of_eq (W11_of m ρ c main_v8_1 (by decide +kernel)) (Is2.of_eq (W10_of m ρ c main_v8_1 (by decide +kernel)) (Is2.of_eq (W9_of m ρ c main_v8_1 (by decide +kernel)) (Is2.of_eq (W8_of m ρ c main_v8_1 (by decide +kernel)) (Is2.of_eq (W7_of m ρ c main_v8_1 (by decide +kernel)) (Is2.of_eq (W6_of m ρ c main_v8_1 (by decide +kernel)) (Is2.of_eq (W5_of m ρ c main_v8_1 (by decide +kernel)) (Is2.of_eq (W4_of m ρ c main_v8_1 (by decide +kernel)) (at3_v8_1 m ρ c p h))))))))))))))
theorem at17_v12 (h : Launched m c p) : Is2 (n := 4096) (m := 1024) (W17 m ρ c (Proc.devRef .tc main_v12)) p.out :=
  Is2.of_eq (W17_of m ρ c main_v12 (by decide +kernel)) (Is2.of_eq (W16_of m ρ c main_v12 (by decide +kernel)) (Is2.of_eq (W15_of m ρ c main_v12 (by decide +kernel)) (Is2.of_eq (W14_of m ρ c main_v12 (by decide)) (Is2.of_eq (W13_of m ρ c main_v12 (by decide +kernel)) (Is2.of_eq (W12_of m ρ c main_v12 (by decide +kernel)) (Is2.of_eq (W11_of m ρ c main_v12 (by decide +kernel)) (Is2.of_eq (W10_of m ρ c main_v12 (by decide +kernel)) (Is2.of_eq (W9_of m ρ c main_v12 (by decide +kernel)) (Is2.of_eq (W8_of m ρ c main_v12 (by decide +kernel)) (at7_v12 m ρ c p h))))))))))
theorem at17_v16 (h : Launched m c p) : Is2 (n := 1024) (m := 1024) (W17 m ρ c (Proc.devRef .tc main_v16)) p.gPa :=
  Is2.of_eq (W17_of m ρ c main_v16 (by decide +kernel)) (Is2.of_eq (W16_of m ρ c main_v16 (by decide +kernel)) (Is2.of_eq (W15_of m ρ c main_v16 (by decide +kernel)) (Is2.of_eq (W14_of m ρ c main_v16 (by decide)) (Is2.of_eq (W13_of m ρ c main_v16 (by decide +kernel)) (Is2.of_eq (W12_of m ρ c main_v16 (by decide +kernel)) (at11_v16 m ρ c p h))))))
theorem at17_v17 (h : Launched m c p) : Is2 (n := 1024) (m := 1024) (W17 m ρ c (Proc.devRef .tc main_v17)) p.gPb :=
  Is2.of_eq (W17_of m ρ c main_v17 (by decide +kernel)) (Is2.of_eq (W16_of m ρ c main_v17 (by decide +kernel)) (Is2.of_eq (W15_of m ρ c main_v17 (by decide +kernel)) (Is2.of_eq (W14_of m ρ c main_v17 (by decide)) (Is2.of_eq (W13_of m ρ c main_v17 (by decide +kernel)) (at12_v17 m ρ c p h)))))
theorem at17_v18_0 (h : Launched m c p) : Is2 (n := 4096) (m := 1024) (W17 m ρ c (Proc.devRef .tc main_v18_0)) p.dz :=
  Is2.of_eq (W17_of m ρ c main_v18_0 (by decide +kernel)) (Is2.of_eq (W16_of m ρ c main_v18_0 (by decide +kernel)) (Is2.of_eq (W15_of m ρ c main_v18_0 (by decide +kernel)) (Is2.of_eq (W14_of m ρ c main_v18_0 (by decide)) (at13_v18_0 m ρ c p h))))
theorem at17_v18_1 (h : Launched m c p) : Is2 (n := 4096) (m := 1024) (W17 m ρ c (Proc.devRef .tc main_v18_1)) p.du :=
  Is2.of_eq (W17_of m ρ c main_v18_1 (by decide +kernel)) (Is2.of_eq (W16_of m ρ c main_v18_1 (by decide +kernel)) (Is2.of_eq (W15_of m ρ c main_v18_1 (by decide +kernel)) (Is2.of_eq (W14_of m ρ c main_v18_1 (by decide)) (at13_v18_1 m ρ c p h))))
theorem at17_v18_2 (h : Launched m c p) : Is2 (n := 1) (m := 1024) (W17 m ρ c (Proc.devRef .tc main_v18_2)) (fun _ d => p.gD d) :=
  Is2.of_eq (W17_of m ρ c main_v18_2 (by decide +kernel)) (Is2.of_eq (W16_of m ρ c main_v18_2 (by decide +kernel)) (Is2.of_eq (W15_of m ρ c main_v18_2 (by decide +kernel)) (Is2.of_eq (W14_of m ρ c main_v18_2 (by decide)) (at13_v18_2 m ρ c p h))))
theorem at17_v21 (h : Launched m c p) : Is2 (n := 1024) (m := 1024) (W17 m ρ c (Proc.devRef .tc main_v21)) p.gW :=
  Is2.of_eq (W17_of m ρ c main_v21 (by decide +kernel)) (at16_v21 m ρ c p h)

end Cert.Kernel3Ideal.Value

end
-- ==== Proof.SRun.lean ====
module

public import proofs.«01_k».proof.Proof.Gen.Kernel3Ideal.Frame

@[expose] public section

set_option maxRecDepth 16384

/-! # The run of the gated layer, with its twelve results at the contents the last region leaves -/

noncomputable section

namespace Cert.Kernel3Ideal.Value

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends, with each result at the contents of the last boundary and every argument as launched. -/
theorem run : θ_run defs (onTc (τ := τ) (main (F := F))) ⟨m, fun _ => 0, ρ⟩ (fun r => ∀ c : Dev nD,
      r.2.mem ((c.tc : Thread nD τ).loc main_v8_0) = W17 m ρ c (Proc.devRef .tc main_v8_0)
      ∧ r.2.mem ((c.tc : Thread nD τ).loc main_v8_1) = W17 m ρ c (Proc.devRef .tc main_v8_1)
      ∧ r.2.mem ((c.tc : Thread nD τ).loc main_v12) = W17 m ρ c (Proc.devRef .tc main_v12)
      ∧ r.2.mem ((c.tc : Thread nD τ).loc main_v16) = W17 m ρ c (Proc.devRef .tc main_v16)
      ∧ r.2.mem ((c.tc : Thread nD τ).loc main_v17) = W17 m ρ c (Proc.devRef .tc main_v17)
      ∧ r.2.mem ((c.tc : Thread nD τ).loc main_v18_0) = W17 m ρ c (Proc.devRef .tc main_v18_0)
      ∧ r.2.mem ((c.tc : Thread nD τ).loc main_v18_1) = W17 m ρ c (Proc.devRef .tc main_v18_1)
      ∧ r.2.mem ((c.tc : Thread nD τ).loc main_v18_2) = W17 m ρ c (Proc.devRef .tc main_v18_2)
      ∧ r.2.mem ((c.tc : Thread nD τ).loc main_v21) = W17 m ρ c (Proc.devRef .tc main_v21)
      ∧ r.2.mem ((c.tc : Thread nD τ).loc main_v22_0) = W17 m ρ c (Proc.devRef .tc main_v22_0)
      ∧ r.2.mem ((c.tc : Thread nD τ).loc main_v22_1) = W17 m ρ c (Proc.devRef .tc main_v22_1)
      ∧ r.2.mem ((c.tc : Thread nD τ).loc main_v22_2) = W17 m ρ c (Proc.devRef .tc main_v22_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h _ => fun c =>
      ⟨h c _ (mem_uc main_v8_0 (by decide)),
       h c _ (mem_uc main_v8_1 (by decide)),
       h c _ (mem_uc main_v12 (by decide)),
       h c _ (mem_uc main_v16 (by decide)),
       h c _ (mem_uc main_v17 (by decide)),
       h c _ (mem_uc main_v18_0 (by decide)),
       h c _ (mem_uc main_v18_1 (by decide)),
       h c _ (mem_uc main_v18_2 (by decide)),
       h c _ (mem_uc main_v21 (by decide)),
       h c _ (mem_uc main_v22_0 (by decide)),
       h c _ (mem_uc main_v22_1 (by decide)),
       h c _ (mem_uc main_v22_2 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c)⟩)

end Cert.Kernel3Ideal.Value

end
-- ==== Proof.Finite3.lean ====
module

public import proofs.«01_k».proof.Defs
public import proofs.«01_k».proof.Proof.SHost
public import proofs.«01_k».proof.Proof.Finite
public import proofs.«01_k».proof.Proof.Gen.Pre_finite3

@[expose] public section

set_option maxRecDepth 16384

/-! # The gated layer's precondition: every element of the eight arguments is a real -/

noncomputable section

open Idealize.ShloMosaic

namespace Cert.Finite
open Cert.Layer

open Cert.Kernel3Ideal in
theorem launched3 (m : (ℓ : Loc nD τ sig) → Buf (Elt Ideal) ℓ) (h : Cert.Pre_Kernel3Ideal_finite3 m) (c : Dev nD) : ∃ p : Gated, Cert.Kernel3Ideal.Value.Launched m c p := by
  have e : ∀ x y : BitVec 1, IntOp.andi x y = 1#1 → x = 1#1 ∧ y = 1#1 := by decide
  have hc := congrFun (h c) (Shape.Idx.first h_S_)
  simp only [Cert.Pre_finite3.fn, Cert.Pre_finite3.fn_part1, Cert.Pre_finite3.fn_part2] at hc
  obtain ⟨hc, h7⟩ := e _ _ hc
  obtain ⟨hc, h6⟩ := e _ _ hc
  obtain ⟨hc, h5⟩ := e _ _ hc
  obtain ⟨hc, h4⟩ := e _ _ hc
  obtain ⟨hc, h3⟩ := e _ _ hc
  obtain ⟨hc, h2⟩ := e _ _ hc
  obtain ⟨h0, h1⟩ := e _ _ hc
  exact ⟨⟨real2 (n := 4096) (m := 1024) _, real1 (n := 1024) _, real2 (n := 1024) (m := 1024) _, real2 (n := 4096) (m := 1024) _, real1 (n := 1024) _,
      real2 (n := 1024) (m := 2048) _, real2 (n := 4096) (m := 1024) _, real2 (n := 4096) (m := 1024) _⟩,
    is2 _ (reals _ _ _ _ h0), is1 _ (reals _ _ _ _ h1), is2 _ (reals _ _ _ _ h2), is2 _ (reals _ _ _ _ h3), is1 _ (reals _ _ _ _ h4),
    is2 _ (reals _ _ _ _ h5), is2 _ (reals _ _ _ _ h6), is2 _ (reals _ _ _ _ h7)⟩

end Cert.Finite

end
-- ==== Proof.Extended.lean ====
module

public import Idealize.ShloMosaic.Lib.Pipeline.ValueKit
public import Idealize.ShloMosaic.Lib.KernelVsHost
public import proofs.«01_k».proof.Proof.Arrays

@[expose] public section

set_option maxRecDepth 16384

/-! # Arrays of extended reals by position

Where no operation needs its operands to be real, an array is a function of natural-number positions into the extended
reals, and nothing is asked of its entries: `Is2 X f` only names the function. Products and sums are those of the
extended reals, whose addition and multiplication are commutative and associative and in which zero times anything is
zero; only at the gradient of the norm (`grad_eq`) is more needed, and there a row is real or its reciprocal root zero. -/

noncomputable section

open Idealize.ShloMosaic

namespace Cert.Ext

/-- Entry `(i, j)` of the matrix `X` is `f i j`. -/
def Is2 {n m : ℕ} (X : (⟨2, ![n, m]⟩ : Shape).Idx → EReal) (f : ℕ → ℕ → EReal) : Prop := ∀ i, X i = f (i 0 : ℕ) (i 1 : ℕ)
/-- Entry `i` of the vector `X` is `f i`. -/
def Is1 {n : ℕ} (X : (⟨1, ![n]⟩ : Shape).Idx → EReal) (f : ℕ → EReal) : Prop := ∀ i, X i = f (i 0 : ℕ)
/-- Entry `(i, j, k)` of the array `X` is `f i j k`. -/
def Is3 {a b c : ℕ} (X : (⟨3, ![a, b, c]⟩ : Shape).Idx → EReal) (f : ℕ → ℕ → ℕ → EReal) : Prop :=
  ∀ i, X i = f (i 0 : ℕ) (i 1 : ℕ) (i 2 : ℕ)

/-- The function of a matrix, zero outside it. -/
def fun2 {n m : ℕ} (X : (⟨2, ![n, m]⟩ : Shape).Idx → EReal) (a b : ℕ) : EReal :=
  if h : a < n ∧ b < m then X (ValueIdx.ix2 ⟨a, h.1⟩ ⟨b, h.2⟩) else 0
theorem is_fun2 {n m : ℕ} (X : (⟨2, ![n, m]⟩ : Shape).Idx → EReal) : Is2 X (fun2 X) := fun i => by
  unfold fun2
  rw [dif_pos ⟨(i 0).isLt, (i 1).isLt⟩]
  exact congrArg X (ValueIdx.eq_ix2 i)
/-- The function of a vector. -/
def fun1 {n : ℕ} (X : (⟨1, ![n]⟩ : Shape).Idx → EReal) (a : ℕ) : EReal := if h : a < n then X (ValueIdx.ix1 ⟨a, h⟩) else 0
theorem is_fun1 {n : ℕ} (X : (⟨1, ![n]⟩ : Shape).Idx → EReal) : Is1 X (fun1 X) := fun i => by
  unfold fun1
  rw [dif_pos (show (i 0 : ℕ) < n from (i 0).isLt)]
  exact congrArg X (ValueIdx.eq_ix1 i)

/-- The product `A · B` of depth `K`. -/
def mul (K : ℕ) (A B : ℕ → ℕ → EReal) (i j : ℕ) : EReal := ∑ k ∈ Finset.range K, A i k * B k j
/-- The product `A · Bᵀ` of depth `K`. -/
def mulT (K : ℕ) (A B : ℕ → ℕ → EReal) (i j : ℕ) : EReal := ∑ k ∈ Finset.range K, A i k * B j k
/-- The product `Aᵀ · B` of depth `K`. -/
def tMul (K : ℕ) (A B : ℕ → ℕ → EReal) (i j : ℕ) : EReal := ∑ k ∈ Finset.range K, A k i * B k j

/-- The mean square of row `t`, raised. -/
def ms (X : ℕ → ℕ → EReal) (t : ℕ) : EReal :=
  Ideal.div (∑ d ∈ Finset.range 1024, X t d * X t d) (Ideal.ofBits .f32 0x44800000#32) + Ideal.ofBits .f32 0x358637BD#32
/-- Its reciprocal root. -/
def rr (X : ℕ → ℕ → EReal) (t : ℕ) : EReal := Ideal.rsqrt (ms X t)
/-- The normalised row times its gain. -/
def norm (X : ℕ → ℕ → EReal) (N : ℕ → EReal) (t d : ℕ) : EReal := X t d * rr X t * N d
/-- The row's inner product with the gradient times the gain. -/
def inner (X : ℕ → ℕ → EReal) (N : ℕ → EReal) (H : ℕ → ℕ → EReal) (t : ℕ) : EReal := ∑ e ∈ Finset.range 1024, X t e * (H t e * N e)
/-- The normalisation's gradient in its input. -/
def normX (X : ℕ → ℕ → EReal) (N : ℕ → EReal) (H : ℕ → ℕ → EReal) (t d : ℕ) : EReal :=
  rr X t * (H t d * N d) - X t d * (rr X t * rr X t * rr X t) * Ideal.div (inner X N H t) (Ideal.ofBits .f32 0x44800000#32)
/-- The normalisation's gradient in its gain. -/
def normN (X H : ℕ → ℕ → EReal) (d : ℕ) : EReal := ∑ t ∈ Finset.range 4096, H t d * X t d * rr X t

/-- A sum over the positions of an axis. -/
theorem sum_fin {n : ℕ} (F : Fin n → EReal) (f : ℕ → EReal) (h : ∀ k : Fin n, F k = f (k : ℕ)) : ∑ k : Fin n, F k = ∑ k ∈ Finset.range n, f k := by
  rw [Finset.sum_congr rfl fun k _ => h k, ← Fin.sum_univ_eq_sum_range]

theorem lit_zero : (Ideal.ofBits .f32 0x00000000#32 : EReal) = 0 := Layer.lit_zero

/-! ## Through the operations of a program -/

theorem Is2.of_eq {n m : ℕ} {X Y : (⟨2, ![n, m]⟩ : Shape).Idx → EReal} {f : ℕ → ℕ → EReal} (e : X = Y) (h : Is2 Y f) : Is2 X f := e ▸ h
theorem Is2.of_fun {n m : ℕ} {X : (⟨2, ![n, m]⟩ : Shape).Idx → EReal} {f g : ℕ → ℕ → EReal} (h : Is2 X f) (e : ∀ i j, f i j = g i j) :
    Is2 X g := fun i => (h i).trans (e _ _)

variable {n m n' m' K : ℕ} {f g : ℕ → ℕ → EReal} {v w : ℕ → EReal}

section
variable {X A B : (⟨2, ![n, m]⟩ : Shape).Idx → EReal} {F : ℕ → ℕ → EReal}

/-- The entrywise product of two matrices of extended reals. -/
theorem Is2.mul (hA : Is2 A f) (hB : Is2 B g) (h : ∀ i, X i = A i * B i)
    (e : ∀ i : (⟨2, ![n, m]⟩ : Shape).Idx, f (i 0 : ℕ) (i 1 : ℕ) * g (i 0 : ℕ) (i 1 : ℕ) = F (i 0 : ℕ) (i 1 : ℕ)) : Is2 X F := fun i => by
  rw [h i, hA i, hB i, e i]

/-- The entrywise sum. -/
theorem Is2.add (hA : Is2 A f) (hB : Is2 B g) (h : ∀ i, X i = A i + B i)
    (e : ∀ i : (⟨2, ![n, m]⟩ : Shape).Idx, f (i 0 : ℕ) (i 1 : ℕ) + g (i 0 : ℕ) (i 1 : ℕ) = F (i 0 : ℕ) (i 1 : ℕ)) : Is2 X F := fun i => by
  rw [h i, hA i, hB i, e i]

/-- The same array, its entries written otherwise within its bounds. -/
theorem Is2.within (hA : Is2 A f) (h : ∀ i, X i = A i)
    (e : ∀ i : (⟨2, ![n, m]⟩ : Shape).Idx, f (i 0 : ℕ) (i 1 : ℕ) = F (i 0 : ℕ) (i 1 : ℕ)) : Is2 X F := fun i => by
  rw [h i, hA i, e i]

/-- An array that reads another at places of its own: a slice, a transpose, a row or column repeated. -/
theorem Is2.read {A' : (⟨2, ![n', m']⟩ : Shape).Idx → EReal} (hA : Is2 A' f)
    (idx : (⟨2, ![n, m]⟩ : Shape).Idx → (⟨2, ![n', m']⟩ : Shape).Idx) (h : ∀ i, X i = A' (idx i))
    (e : ∀ i : (⟨2, ![n, m]⟩ : Shape).Idx, f (idx i 0 : ℕ) (idx i 1 : ℕ) = F (i 0 : ℕ) (i 1 : ℕ)) : Is2 X F := fun i => by
  rw [h i, hA (idx i), e i]

/-- A matrix that reads a vector. -/
theorem Is1.read2 {A' : (⟨1, ![n']⟩ : Shape).Idx → EReal} (hA : Is1 A' v)
    (idx : (⟨2, ![n, m]⟩ : Shape).Idx → (⟨1, ![n']⟩ : Shape).Idx) (h : ∀ i, X i = A' (idx i))
    (e : ∀ i : (⟨2, ![n, m]⟩ : Shape).Idx, v (idx i 0 : ℕ) = F (i 0 : ℕ) (i 1 : ℕ)) : Is2 X F := fun i => by
  rw [h i, hA (idx i), e i]

/-- A matrix of sums of products: a matrix product of any orientation. -/
theorem Is2.dot {n₁ m₁ n₂ m₂ : ℕ} {L : (⟨2, ![n₁, m₁]⟩ : Shape).Idx → EReal} {R : (⟨2, ![n₂, m₂]⟩ : Shape).Idx → EReal}
    (hL : Is2 L f) (hR : Is2 R g)
    (l : (⟨2, ![n, m]⟩ : Shape).Idx → Fin K → (⟨2, ![n₁, m₁]⟩ : Shape).Idx)
    (r : (⟨2, ![n, m]⟩ : Shape).Idx → Fin K → (⟨2, ![n₂, m₂]⟩ : Shape).Idx)
    (h : ∀ i, X i = ∑ k : Fin K, L (l i k) * R (r i k)) (T : ℕ → ℕ → ℕ → EReal)
    (t : ∀ i k, f (l i k 0 : ℕ) (l i k 1 : ℕ) * g (r i k 0 : ℕ) (r i k 1 : ℕ) = T (i 0 : ℕ) (i 1 : ℕ) (k : ℕ))
    (e : ∀ i : (⟨2, ![n, m]⟩ : Shape).Idx, ∑ k ∈ Finset.range K, T (i 0 : ℕ) (i 1 : ℕ) k = F (i 0 : ℕ) (i 1 : ℕ)) : Is2 X F := fun i => by
  rw [h i, sum_fin _ (T (i 0 : ℕ) (i 1 : ℕ)) fun k => by rw [hL, hR, t], e i]

/-- Two arrays of the same entries are one. -/
theorem Is2.ext (hA : Is2 A f) (hB : Is2 B f) : A = B := funext fun i => (hA i).trans (hB i).symm

end

section
variable {X : (⟨1, ![n]⟩ : Shape).Idx → EReal} {V : ℕ → EReal}

/-- A vector that reads a matrix. -/
theorem Is2.read1 {A' : (⟨2, ![n', m']⟩ : Shape).Idx → EReal} (hA : Is2 A' f)
    (idx : (⟨1, ![n]⟩ : Shape).Idx → (⟨2, ![n', m']⟩ : Shape).Idx) (h : ∀ i, X i = A' (idx i))
    (e : ∀ i : (⟨1, ![n]⟩ : Shape).Idx, f (idx i 0 : ℕ) (idx i 1 : ℕ) = V (i 0 : ℕ)) : Is1 X V := fun i => by
  rw [h i, hA (idx i), e i]

/-- A vector of sums over one axis of a matrix, each begun from zero. -/
theorem Is2.sum {A' : (⟨2, ![n', m']⟩ : Shape).Idx → EReal} (hA : Is2 A' f) (z : EReal) (hz : z = 0)
    (idx : (⟨1, ![n]⟩ : Shape).Idx → Fin K → (⟨2, ![n', m']⟩ : Shape).Idx) (h : ∀ i, X i = z + ∑ k : Fin K, A' (idx i k))
    (T : ℕ → ℕ → EReal) (t : ∀ i k, f (idx i k 0 : ℕ) (idx i k 1 : ℕ) = T (i 0 : ℕ) (k : ℕ))
    (e : ∀ i : (⟨1, ![n]⟩ : Shape).Idx, ∑ k ∈ Finset.range K, T (i 0 : ℕ) k = V (i 0 : ℕ)) : Is1 X V := fun i => by
  rw [h i, hz, sum_fin _ (T (i 0 : ℕ)) fun k => by rw [hA, t], zero_add, e i]

end

/-! ## Heads -/

/-- Each head's `w` columns from column `lo` of its 128 on, zeros elsewhere. -/
def wide (lo w : ℕ) (f : ℕ → ℕ → ℕ → EReal) (r j : ℕ) : EReal := if lo ≤ j % 128 ∧ j % 128 - lo < w then f r (j / 128) (j % 128 - lo) else 0

section
variable {n lo w hi : ℕ} {f : ℕ → ℕ → ℕ → EReal}

/-- A widened array. -/
theorem Is3.pad {A : (⟨3, ![n, 8, w]⟩ : Shape).Idx → EReal} (hA : Is3 A f) {u : Shape} {z : u.Idx → EReal}
    (hp : (⟨3, ![n, 8, w]⟩ : Shape).Pads ![0, 0, lo] ![0, 0, hi] ![0, 0, 0] ⟨3, ![n, 8, 128]⟩) (hu : 0 < u.numel)
    (hz : z (Shape.Idx.first hu) = 0) :
    Is3 (Idealize.ShloMosaic.pad ⟨3, ![n, 8, 128]⟩ ![0, 0, lo] ![0, 0, hi] ![0, 0, 0] A z hp hu)
      (fun r h d => if lo ≤ d ∧ d - lo < w then f r h (d - lo) else 0) := fun i => by
  show _ = ((if lo ≤ (i 2 : ℕ) ∧ (i 2 : ℕ) - lo < w then f (i 0 : ℕ) (i 1 : ℕ) ((i 2 : ℕ) - lo) else 0 : EReal) : EReal)
  by_cases hi : lo ≤ (i 2 : ℕ) ∧ (i 2 : ℕ) - lo < w
  · rw [if_pos hi]
    let k : (⟨3, ![n, 8, w]⟩ : Shape).Idx := fun q => match q with
      | ⟨0, _⟩ => ⟨(i 0 : ℕ), (i 0).isLt⟩
      | ⟨1, _⟩ => ⟨(i 1 : ℕ), (i 1).isLt⟩
      | ⟨2, _⟩ => ⟨(i 2 : ℕ) - lo, hi.2⟩
    rw [pad_apply_of_inside _ _ _ A z hp hu i k fun q => by
      match q with
      | ⟨0, _⟩ => show (i 0 : ℕ) = 0 + (i 0 : ℕ) * 1; omega
      | ⟨1, _⟩ => show (i 1 : ℕ) = 0 + (i 1 : ℕ) * 1; omega
      | ⟨2, _⟩ => show (i 2 : ℕ) = lo + ((i 2 : ℕ) - lo) * 1; omega]
    exact hA k
  · rw [if_neg hi, pad_apply_of_not_inside _ _ _ A z hp hu i (2 : Fin 3) fun hq => hi ?_]
    · exact hz
    · have h1 : lo ≤ (i 2 : ℕ) := hq.1
      have h2 : ((i 2 : ℕ) - lo) / (0 + 1) < w := hq.2.2
      exact ⟨h1, by omega⟩

/-- The heads' columns side by side. -/
theorem Is3.flat {X : (⟨3, ![n, 8, 128]⟩ : Shape).Idx → EReal} (hX : Is3 X f) (hc : (⟨3, ![n, 8, 128]⟩ : Shape).ShapeCasts ⟨2, ![n, 1024]⟩) :
    Is2 (shapeCast ⟨2, ![n, 1024]⟩ X hc) (fun r j => f r (j / 128) (j % 128)) := fun i => by
  have h1 : (i 1 : ℕ) < 1024 := (i 1).isLt
  let k : (⟨3, ![n, 8, 128]⟩ : Shape).Idx := fun q => match q with
    | ⟨0, _⟩ => ⟨(i 0 : ℕ), (i 0).isLt⟩
    | ⟨1, _⟩ => ⟨(i 1 : ℕ) / 128, by show (i 1 : ℕ) / 128 < 8; omega⟩
    | ⟨2, _⟩ => ⟨(i 1 : ℕ) % 128, by show (i 1 : ℕ) % 128 < 128; omega⟩
  rw [shapeCast_apply X hc i k (by
    rw [Shape.rowMajor_val_three, Shape.rowMajor_val_two]
    show ((i 0 : ℕ) * 8 + (i 1 : ℕ) / 128) * 128 + (i 1 : ℕ) % 128 = (i 0 : ℕ) * 1024 + (i 1 : ℕ)
    omega)]
  exact hX k

/-- The matrix of a widened array. -/
theorem Is3.wide {A : (⟨3, ![n, 8, w]⟩ : Shape).Idx → EReal} (hA : Is3 A f) {u : Shape} {z : u.Idx → EReal}
    (hp : (⟨3, ![n, 8, w]⟩ : Shape).Pads ![0, 0, lo] ![0, 0, hi] ![0, 0, 0] ⟨3, ![n, 8, 128]⟩) (hu : 0 < u.numel)
    (hz : z (Shape.Idx.first hu) = 0) (hc : (⟨3, ![n, 8, 128]⟩ : Shape).ShapeCasts ⟨2, ![n, 1024]⟩) :
    Is2 (shapeCast ⟨2, ![n, 1024]⟩ (Idealize.ShloMosaic.pad ⟨3, ![n, 8, 128]⟩ ![0, 0, lo] ![0, 0, hi] ![0, 0, 0] A z hp hu) hc) (Ext.wide lo w f) :=
  (hA.pad hp hu hz).flat hc

end

/-- Inside a head's columns. -/
theorem wide_at (lo w : ℕ) (f : ℕ → ℕ → ℕ → EReal) (r h d : ℕ) (hd : d < 128) :
    Ext.wide lo w f r (h * 128 + d) = if lo ≤ d ∧ d - lo < w then f r h (d - lo) else 0 := by
  unfold Ext.wide
  rw [show (h * 128 + d) / 128 = h by omega, show (h * 128 + d) % 128 = d by omega]

/-! ## The gradient of the norm in its input -/

/-- A row of reals, as the real functions see it. -/
theorem ms_real (X : ℕ → ℕ → EReal) (Y : ℕ → ℕ → ℝ) (t : ℕ) (h : ∀ d < 1024, X t d = ((Y t d : ℝ) : EReal)) :
    ms X t = ((Layer.ms Y t : ℝ) : EReal) := by
  have hs : ∑ d ∈ Finset.range 1024, X t d * X t d = ((∑ d ∈ Finset.range 1024, Y t d * Y t d : ℝ) : EReal) := by
    rw [← Layer.sum_coe]
    exact Finset.sum_congr rfl fun d hd => by rw [h d (Finset.mem_range.mp hd), EReal.coe_mul]
  unfold ms
  rw [hs, Layer.lit_1024, Layer.lit_eps, Layer.div_1024, ← EReal.coe_add]
  rfl

/-- A square is not negative. -/
theorem square_nonneg (x : EReal) : 0 ≤ x * x := by
  induction x with
  | bot => simp
  | top => simp
  | coe r => rw [← EReal.coe_mul]; exact_mod_cast mul_self_nonneg r

/-- A row with an infinite entry has an infinite mean square. -/
theorem ms_top (X : ℕ → ℕ → EReal) (t d : ℕ) (hd : d < 1024) (h : X t d = ⊤ ∨ X t d = ⊥) : ms X t = ⊤ := by
  have hsq : X t d * X t d = ⊤ := by rcases h with h | h <;> simp [h]
  have hs : ∑ d ∈ Finset.range 1024, X t d * X t d = ⊤ :=
    top_le_iff.mp (hsq ▸ Finset.single_le_sum (f := fun d => X t d * X t d) (fun _ _ => square_nonneg _) (Finset.mem_range.mpr hd))
  unfold ms
  rw [hs, Layer.lit_1024, Layer.lit_eps, Ideal.div_coe (by norm_num), EReal.top_mul_coe_of_pos (by norm_num)]
  exact EReal.top_add_coe _

/-- Twice a number. -/
theorem twice (y : EReal) : y + y = y * ((2 : ℝ) : EReal) := by
  induction y with
  | bot => rw [EReal.bot_mul_coe_of_pos (by norm_num)]; rfl
  | top => rw [EReal.top_mul_coe_of_pos (by norm_num)]; rfl
  | coe r => rw [← EReal.coe_add, ← EReal.coe_mul, mul_two]

/-- The derivative's three summands are the gradient. -/
theorem grad_eq (X : ℕ → ℕ → EReal) (N : ℕ → EReal) (H : ℕ → ℕ → EReal) (t d : ℕ) (hd : d < 1024) :
    H t d * N d * rr X t
      + X t d * Ideal.div (inner X N H t * (Ideal.ofBits .f32 0xBF000000#32 * Ideal.div (rr X t) (ms X t))) (Ideal.ofBits .f32 0x44800000#32)
      + Ideal.div (inner X N H t * (Ideal.ofBits .f32 0xBF000000#32 * Ideal.div (rr X t) (ms X t))) (Ideal.ofBits .f32 0x44800000#32) * X t d
      = normX X N H t d := by
  by_cases hX : ∃ e < 1024, X t e = ⊤ ∨ X t e = ⊥
  · obtain ⟨e, he, h⟩ := hX
    have hm := ms_top X t e he h
    have hr : rr X t = 0 := by unfold rr; rw [hm]; rfl
    unfold normX
    rw [hr, hm, Layer.lit_1024, Ideal.div_coe (by norm_num), Ideal.div_coe (by norm_num)]
    simp [Ideal.div]
  · have hY : ∀ e < 1024, X t e = (((fun t e => (X t e).toReal) t e : ℝ) : EReal) := fun e he =>
      (EReal.coe_toReal (fun h => hX ⟨e, he, Or.inl h⟩) (fun h => hX ⟨e, he, Or.inr h⟩)).symm
    generalize (fun t e => (X t e).toReal) = Y at hY
    have hm := ms_real X Y t hY
    have hr : rr X t = ((Layer.rr Y t : ℝ) : EReal) := by unfold rr; rw [hm]; exact Layer.rsqrt_ms Y t
    have hx := hY d hd
    have hq := Layer.rr_sq Y t
    unfold normX
    rw [hr, hm, hx, Layer.lit_1024, Layer.lit_neg_half, Ideal.div_coe (by norm_num), Ideal.div_coe (Layer.ms_pos Y t).ne', Ideal.div_coe (by norm_num)]
    generalize Layer.rr Y t = r at hq
    generalize Layer.ms Y t = μ at hq
    generalize inner X N H t = S
    generalize Y t d = x
    have e1 : ((x : ℝ) : EReal) * (S * (((-(1 / 2) : ℝ) : EReal) * ((r : EReal) * ((1 / μ : ℝ) : EReal))) * ((1 / 1024 : ℝ) : EReal))
        = S * ((x * (-(1 / 2) * (r * (1 / μ))) * (1 / 1024) : ℝ) : EReal) := by
      simp only [EReal.coe_mul]
      ac_rfl
    have e2 : ((x : ℝ) : EReal) * ((r : EReal) * (r : EReal) * (r : EReal)) * (S * ((1 / 1024 : ℝ) : EReal)) = S * ((x * (r * r * r) * (1 / 1024) : ℝ) : EReal) := by
      simp only [EReal.coe_mul]
      ac_rfl
    rw [add_assoc, mul_comm _ ((x : ℝ) : EReal), e1, e2, twice, mul_assoc S, ← EReal.coe_mul, sub_eq_add_neg, ← mul_neg, ← EReal.coe_neg,
      mul_comm (r : EReal) (H t d * N d), ← hq]
    refine congrArg (fun z : ℝ => H t d * N d * (r : EReal) + S * (z : EReal)) ?_
    ring

end Cert.Ext

end
-- ==== Proof.Mixed.lean ====
module

public import proofs.«01_k».proof.Proof.Extended

@[expose] public section

set_option maxRecDepth 16384

/-! # The ends of a mixing layer

The projection of the normalised rows has 2080 columns: 512 of the two low ranks, 32 rotated, 1536 of the convolution.
The output adds to the input the product of the heads' and the convolution's columns, side by side, with one matrix. The
calls take and give the rotated columns last, between zeros (`parts`), and each head's 64 columns behind 64 of zeros
(`spread`). -/

noncomputable section

open Idealize.ShloMosaic

namespace Cert.Ext

/-- 2080 entries in the order of the calls: the rotated ones last, 64 zeros before them and 32 after them. -/
def parts (v : ℕ → EReal) (j : ℕ) : EReal :=
  if j < 512 then v j else if j - 512 < 1536 then v (544 + (j - 512)) else if j - 512 - 1536 < 64 then 0
  else if j - 512 - 1536 - 64 < 32 then v (512 + (j - 512 - 1536 - 64)) else 0
/-- The columns of head `h`. -/
def cut (f : ℕ → ℕ → EReal) (r h d : ℕ) : EReal := f r (h * 64 + d)
/-- Each head's 64 columns behind 64 zeros. -/
def spread (f : ℕ → ℕ → EReal) : ℕ → ℕ → EReal := wide 64 64 (cut f)
/-- The transposed matrix. -/
def across (f : ℕ → ℕ → EReal) (i j : ℕ) : EReal := f j i

/-- A weighted sum of rows in the calls' order. -/
theorem parts_sum (K : ℕ) (c : ℕ → EReal) (v : ℕ → ℕ → EReal) (j : ℕ) :
    ∑ k ∈ Finset.range K, c k * parts (v k) j = parts (fun j => ∑ k ∈ Finset.range K, c k * v k j) j := by
  unfold parts
  split_ifs <;> simp

/-- The inner product does not depend on the order. -/
theorem parts_dot (u v : ℕ → EReal) :
    ∑ j ∈ Finset.range 2176, parts u j * parts v j = ∑ j ∈ Finset.range 2080, u j * v j := by
  have e1 : ∀ j ∈ Finset.range 512, parts u j * parts v j = u j * v j := fun j hj => by
    have h := Finset.mem_range.mp hj
    simp only [parts, if_pos h]
  have e2 : ∀ j ∈ Finset.range 1536, parts u (512 + j) * parts v (512 + j) = u (512 + 32 + j) * v (512 + 32 + j) := fun j hj => by
    have h := Finset.mem_range.mp hj
    simp only [parts, if_neg (show ¬ 512 + j < 512 by omega), Nat.add_sub_cancel_left, if_pos h]
  have e3 : ∀ j ∈ Finset.range 64, parts u (512 + 1536 + j) * parts v (512 + 1536 + j) = 0 := fun j hj => by
    have h := Finset.mem_range.mp hj
    simp only [parts, if_neg (show ¬ 512 + 1536 + j < 512 by omega), if_neg (show ¬ 512 + 1536 + j - 512 < 1536 by omega),
      if_pos (show 512 + 1536 + j - 512 - 1536 < 64 by omega), mul_zero]
  have e4 : ∀ j ∈ Finset.range 32, parts u (512 + 1536 + 64 + j) * parts v (512 + 1536 + 64 + j) = u (512 + j) * v (512 + j) := fun j hj => by
    have h := Finset.mem_range.mp hj
    simp only [parts, if_neg (show ¬ 512 + 1536 + 64 + j < 512 by omega), if_neg (show ¬ 512 + 1536 + 64 + j - 512 < 1536 by omega),
      if_neg (show ¬ 512 + 1536 + 64 + j - 512 - 1536 < 64 by omega), if_pos (show 512 + 1536 + 64 + j - 512 - 1536 - 64 < 32 by omega),
      show 512 + 1536 + 64 + j - 512 - 1536 - 64 = j by omega, if_pos h]
  have e5 : ∀ j ∈ Finset.range 32, parts u (512 + 1536 + 64 + 32 + j) * parts v (512 + 1536 + 64 + 32 + j) = 0 := fun j hj => by
    simp only [parts, if_neg (show ¬ 512 + 1536 + 64 + 32 + j < 512 by omega), if_neg (show ¬ 512 + 1536 + 64 + 32 + j - 512 < 1536 by omega),
      if_neg (show ¬ 512 + 1536 + 64 + 32 + j - 512 - 1536 < 64 by omega), if_neg (show ¬ 512 + 1536 + 64 + 32 + j - 512 - 1536 - 64 < 32 by omega), mul_zero]
  rw [show 2176 = 512 + 1536 + 64 + 32 + 32 from rfl, show 2080 = 512 + 32 + 1536 from rfl]
  simp only [Finset.sum_range_add]
  rw [Finset.sum_congr rfl e1, Finset.sum_congr rfl e2, Finset.sum_congr rfl e3, Finset.sum_congr rfl e4, Finset.sum_congr rfl e5]
  simp only [Finset.sum_const_zero, add_zero]
  abel

/-- A weighted sum of rows spread. -/
theorem spread_sum (K : ℕ) (c : ℕ → EReal) (f : ℕ → ℕ → EReal) (j : ℕ) :
    ∑ k ∈ Finset.range K, c k * spread f k j = spread (fun _ j => ∑ k ∈ Finset.range K, c k * f k j) 0 j := by
  unfold spread wide cut
  split_ifs <;> simp

/-- Two spread rows agree where the rows do. -/
theorem spread_congr {f g : ℕ → ℕ → EReal} {r s j : ℕ} (hj : j < 1024) (h : ∀ k < 512, f r k = g s k) : spread f r j = spread g s j := by
  unfold spread wide cut
  split_ifs with hc
  · exact h _ (by omega)
  · rfl

/-- The inner product of spread rows. -/
theorem spread_dot (f g : ℕ → ℕ → EReal) (r s : ℕ) :
    ∑ j ∈ Finset.range 1024, spread f r j * spread g s j = ∑ j ∈ Finset.range 512, f r j * g s j := by
  have key : ∀ n : ℕ, ∑ j ∈ Finset.range (n * 128), spread f r j * spread g s j = ∑ j ∈ Finset.range (n * 64), f r j * g s j := by
    intro n
    induction n with
    | zero => simp
    | succ n ih =>
      have z : ∀ j ∈ Finset.range 64, spread f r (n * 128 + j) * spread g s (n * 128 + j) = 0 := fun j hj => by
        have h := Finset.mem_range.mp hj
        unfold spread
        rw [wide_at _ _ _ _ _ _ (by omega), wide_at _ _ _ _ _ _ (by omega), if_neg (by omega), if_neg (by omega), mul_zero]
      have w : ∀ j ∈ Finset.range 64, spread f r (n * 128 + 64 + j) * spread g s (n * 128 + 64 + j) = f r (n * 64 + j) * g s (n * 64 + j) := fun j hj => by
        have h := Finset.mem_range.mp hj
        unfold spread
        rw [Nat.add_assoc, wide_at _ _ _ _ _ _ (by omega), wide_at _ _ _ _ _ _ (by omega), if_pos (by omega), if_pos (by omega), Nat.add_sub_cancel_left]
        rfl
      rw [show (n + 1) * 128 = n * 128 + 64 + 64 by ring, show (n + 1) * 64 = n * 64 + 64 by ring]
      simp only [Finset.sum_range_add]
      rw [ih, Finset.sum_congr rfl z, Finset.sum_congr rfl w, Finset.sum_const_zero, add_zero]
  exact key 8

/-- The arguments: input, gain, projection, the heads' and the convolution's outputs, the output's matrix, the gradient of
the projection, the cotangent of the output. -/
structure Mixing where
  X : ℕ → ℕ → EReal
  N : ℕ → EReal
  W : ℕ → ℕ → EReal
  A : ℕ → ℕ → EReal
  B : ℕ → ℕ → EReal
  O : ℕ → ℕ → EReal
  P : ℕ → ℕ → EReal
  G : ℕ → ℕ → EReal

namespace Mixing
variable (p : Mixing)

def h : ℕ → ℕ → EReal := norm p.X p.N
/-- The matrices as the calls take them. -/
def w (j d : ℕ) : EReal := parts (p.W d) j
def dp (t j : ℕ) : EReal := parts (p.P t) j
def o : ℕ → ℕ → EReal := spread p.A
def woA (j d : ℕ) : EReal := spread (across p.O) d j
def woB (j d : ℕ) : EReal := p.O (512 + j) d
def wo (j d : ℕ) : EReal := if j < 1024 then p.woA j d else p.woB (j - 1024) d
/-- The projection. -/
def proj (t j : ℕ) : EReal := parts (mul 1024 p.h p.W t) j
/-- The heads' and the convolution's outputs side by side. -/
def cat (t j : ℕ) : EReal := if j < 512 then p.A t j else p.B t (j - 512)
/-- The output. -/
def y (t d : ℕ) : EReal := p.X t d + mul 1024 p.cat p.O t d
/-- The gradients in the heads' and the convolution's outputs, side by side. -/
def dcat : ℕ → ℕ → EReal := mulT 1024 p.G p.O
def dmix (t j : ℕ) : EReal := if j < 1024 then spread p.dcat t j else p.dcat t (512 + (j - 1024))
/-- The gradient of the output's matrix, and its two parts as the calls give them. -/
def dO : ℕ → ℕ → EReal := tMul 4096 p.cat p.G
def dOa (j d : ℕ) : EReal := spread (across p.dO) d j
def dOb (j d : ℕ) : EReal := p.dO (512 + j) d
/-- The gradient of the projection's matrix, of the normalised input, of the input and of the gain. -/
def gW (j d : ℕ) : EReal := parts (fun k => tMul 4096 p.P p.h k d) j
def dh : ℕ → ℕ → EReal := mulT 2080 p.P p.W
def dx (t d : ℕ) : EReal := normX p.X p.N p.dh t d + p.G t d
def dn : ℕ → EReal := normN p.X p.dh
/-- What the derivative multiplies the input by. -/
def scale (t : ℕ) : EReal :=
  Ideal.div (inner p.X p.N p.dh t * (Ideal.ofBits .f32 0xBF000000#32 * Ideal.div (rr p.X t) (ms p.X t))) (Ideal.ofBits .f32 0x44800000#32)

theorem cat_left {t j : ℕ} (hj : j < 512) : p.cat t j = p.A t j := if_pos hj
theorem cat_right (t j : ℕ) : p.cat t (512 + j) = p.B t j := by
  unfold cat
  rw [if_neg (by omega), Nat.add_sub_cancel_left]

theorem call_proj (t j : ℕ) : mulT 1024 p.h p.w t j = p.proj t j := parts_sum _ _ _ _

theorem call_y (t d : ℕ) : mul 1024 p.o p.woA t d + (mul 512 p.B p.woB t d + p.X t d) = p.y t d := by
  have h1 : mul 1024 p.o p.woA t d = ∑ j ∈ Finset.range 512, p.A t j * p.O j d := spread_dot _ _ _ _
  have h2 : mul 1024 p.cat p.O t d = (∑ j ∈ Finset.range 512, p.A t j * p.O j d) + mul 512 p.B p.woB t d := by
    unfold mul
    rw [show 1024 = 512 + 512 from rfl, Finset.sum_range_add]
    exact congrArg₂ (· + ·) (Finset.sum_congr rfl fun j hj => by rw [p.cat_left (Finset.mem_range.mp hj)])
      (Finset.sum_congr rfl fun j _ => by rw [p.cat_right]; rfl)
  unfold y
  rw [h1, h2]
  abel

theorem call_dmix (t j : ℕ) : mulT 1024 p.G p.wo t j = p.dmix t j := by
  unfold mulT wo dmix
  by_cases hj : j < 1024
  · simp only [if_pos hj, woA]
    rw [spread_sum]
    exact spread_congr hj fun _ _ => rfl
  · simp only [if_neg hj, woB]
    rfl

theorem call_dOa (j d : ℕ) (hj : j < 1024) : tMul 4096 p.o p.G j d = p.dOa j d := by
  have e : tMul 4096 p.o p.G j d = ∑ t ∈ Finset.range 4096, p.G t d * spread p.A t j := Finset.sum_congr rfl fun _ _ => mul_comm _ _
  rw [e, spread_sum]
  refine spread_congr hj fun k hk => ?_
  show ∑ t ∈ Finset.range 4096, p.G t d * p.A t k = ∑ t ∈ Finset.range 4096, p.cat t k * p.G t d
  exact Finset.sum_congr rfl fun t _ => by rw [p.cat_left hk, mul_comm]

theorem call_dOb (j d : ℕ) : tMul 4096 p.B p.G j d = p.dOb j d := by
  show ∑ t ∈ Finset.range 4096, p.B t j * p.G t d = ∑ t ∈ Finset.range 4096, p.cat t (512 + j) * p.G t d
  exact Finset.sum_congr rfl fun t _ => by rw [p.cat_right]

theorem call_dh (t d : ℕ) : mul 2176 p.dp p.w t d = p.dh t d := parts_dot _ _

theorem call_gW (j d : ℕ) : tMul 4096 p.dp p.h j d = p.gW j d := by
  have e : tMul 4096 p.dp p.h j d = ∑ t ∈ Finset.range 4096, p.h t d * parts (p.P t) j := Finset.sum_congr rfl fun _ _ => mul_comm _ _
  rw [e, parts_sum]
  exact congrArg (fun v => parts v j) (funext fun k => Finset.sum_congr rfl fun _ _ => mul_comm _ _)

end Mixing

/-! ## Arrays in the calls' layout -/

section
variable {m : ℕ} {f : ℕ → ℕ → EReal}

/-- Rows put in the calls' order. -/
theorem rowParts {A1 : (⟨2, ![512, m]⟩ : Shape).Idx → EReal} {A2 : (⟨2, ![1536, m]⟩ : Shape).Idx → EReal} {Z1 : (⟨2, ![64, m]⟩ : Shape).Idx → EReal}
    {A3 Z2 : (⟨2, ![32, m]⟩ : Shape).Idx → EReal} (h1 : Is2 A1 f) (h2 : Is2 A2 (fun j d => f (544 + j) d)) (hz1 : Is2 Z1 (fun _ _ => 0))
    (h3 : Is2 A3 (fun j d => f (512 + j) d)) (hz2 : Is2 Z2 (fun _ _ => 0))
    (hc : Shape.Concatenates [⟨2, ![512, m]⟩, ⟨2, ![1536, m]⟩, ⟨2, ![64, m]⟩, ⟨2, ![32, m]⟩, ⟨2, ![32, m]⟩] ⟨2, ![2176, m]⟩ 0) :
    Is2 (concatenate ⟨2, ![2176, m]⟩ 0 [⟨_, A1⟩, ⟨_, A2⟩, ⟨_, Z1⟩, ⟨_, A3⟩, ⟨_, Z2⟩] hc) (fun j d => parts (fun k => f k d) j) := fun i => by
  rw [concatenate_cons_apply]
  unfold parts
  beta_reduce
  rw [concatenateAt_cons]
  by_cases c1 : (i 0 : ℕ) < 512
  · rw [if_pos c1]; exact (dif_pos c1).trans (h1 _)
  rw [if_neg c1]; refine (dif_neg c1).trans ?_
  rw [concatenateAt_cons]
  by_cases c2 : (i 0 : ℕ) - 512 < 1536
  · rw [if_pos c2]; exact (dif_pos c2).trans (h2 _)
  rw [if_neg c2]; refine (dif_neg c2).trans ?_
  rw [concatenateAt_cons]
  by_cases c3 : (i 0 : ℕ) - 512 - 1536 < 64
  · rw [if_pos c3]; exact (dif_pos c3).trans (hz1 _)
  rw [if_neg c3]; refine (dif_neg c3).trans ?_
  rw [concatenateAt_cons]
  by_cases c4 : (i 0 : ℕ) - 512 - 1536 - 64 < 32
  · rw [if_pos c4]; exact (dif_pos c4).trans (h3 _)
  rw [if_neg c4]; refine (dif_neg c4).trans ?_
  rw [concatenateAt_singleton]
  exact hz2 _

/-- Columns put in the calls' order. -/
theorem colParts {A1 : (⟨2, ![m, 512]⟩ : Shape).Idx → EReal} {A2 : (⟨2, ![m, 1536]⟩ : Shape).Idx → EReal} {Z1 : (⟨2, ![m, 64]⟩ : Shape).Idx → EReal}
    {A3 Z2 : (⟨2, ![m, 32]⟩ : Shape).Idx → EReal} (h1 : Is2 A1 f) (h2 : Is2 A2 (fun t j => f t (544 + j))) (hz1 : Is2 Z1 (fun _ _ => 0))
    (h3 : Is2 A3 (fun t j => f t (512 + j))) (hz2 : Is2 Z2 (fun _ _ => 0))
    (hc : Shape.Concatenates [⟨2, ![m, 512]⟩, ⟨2, ![m, 1536]⟩, ⟨2, ![m, 64]⟩, ⟨2, ![m, 32]⟩, ⟨2, ![m, 32]⟩] ⟨2, ![m, 2176]⟩ 1) :
    Is2 (concatenate ⟨2, ![m, 2176]⟩ 1 [⟨_, A1⟩, ⟨_, A2⟩, ⟨_, Z1⟩, ⟨_, A3⟩, ⟨_, Z2⟩] hc) (fun t j => parts (f t) j) := fun i => by
  rw [concatenate_cons_apply]
  unfold parts
  beta_reduce
  rw [concatenateAt_cons]
  by_cases c1 : (i 1 : ℕ) < 512
  · rw [if_pos c1]; exact (dif_pos c1).trans (h1 _)
  rw [if_neg c1]; refine (dif_neg c1).trans ?_
  rw [concatenateAt_cons]
  by_cases c2 : (i 1 : ℕ) - 512 < 1536
  · rw [if_pos c2]; exact (dif_pos c2).trans (h2 _)
  rw [if_neg c2]; refine (dif_neg c2).trans ?_
  rw [concatenateAt_cons]
  by_cases c3 : (i 1 : ℕ) - 512 - 1536 < 64
  · rw [if_pos c3]; exact (dif_pos c3).trans (hz1 _)
  rw [if_neg c3]; refine (dif_neg c3).trans ?_
  rw [concatenateAt_cons]
  by_cases c4 : (i 1 : ℕ) - 512 - 1536 - 64 < 32
  · rw [if_pos c4]; exact (dif_pos c4).trans (h3 _)
  rw [if_neg c4]; refine (dif_neg c4).trans ?_
  rw [concatenateAt_singleton]
  exact hz2 _

/-- A transposed matrix. -/
theorem turned {n : ℕ} {A : (⟨2, ![n, m]⟩ : Shape).Idx → EReal} (hA : Is2 A f) (ht : (⟨2, ![n, m]⟩ : Shape).Transposes [1, 0] ⟨2, ![m, n]⟩) :
    Is2 (transpose ⟨2, ![m, n]⟩ [1, 0] A ht) (across f) := fun i => by
  pointwise
  exact hA _

/-- A matrix of 512 columns as eight heads. -/
theorem heads {A : (⟨2, ![m, 512]⟩ : Shape).Idx → EReal} (hA : Is2 A f) (hc : (⟨2, ![m, 512]⟩ : Shape).ShapeCasts ⟨3, ![m, 8, 64]⟩) :
    Is3 (shapeCast ⟨3, ![m, 8, 64]⟩ A hc) (cut f) := fun i => by
  have h1 : (i 1 : ℕ) < 8 := (i 1).isLt
  have h2 : (i 2 : ℕ) < 64 := (i 2).isLt
  let k : (⟨2, ![m, 512]⟩ : Shape).Idx := fun q => match q with
    | ⟨0, _⟩ => ⟨(i 0 : ℕ), (i 0).isLt⟩
    | ⟨1, _⟩ => ⟨(i 1 : ℕ) * 64 + (i 2 : ℕ), by show (i 1 : ℕ) * 64 + (i 2 : ℕ) < 512; omega⟩
  rw [shapeCast_apply A hc i k (by
    rw [Shape.rowMajor_val_three, Shape.rowMajor_val_two]
    show (i 0 : ℕ) * 512 + ((i 1 : ℕ) * 64 + (i 2 : ℕ)) = ((i 0 : ℕ) * 8 + (i 1 : ℕ)) * 64 + (i 2 : ℕ)
    omega)]
  exact hA k

/-- A matrix of 512 rows as eight heads. -/
theorem rowHeads {A : (⟨2, ![512, m]⟩ : Shape).Idx → EReal} (hA : Is2 A f) (hc : (⟨2, ![512, m]⟩ : Shape).ShapeCasts ⟨3, ![8, 64, m]⟩) :
    Is3 (shapeCast ⟨3, ![8, 64, m]⟩ A hc) (fun h d j => f (h * 64 + d) j) := fun i => by
  have h0 : (i 0 : ℕ) < 8 := (i 0).isLt
  have h1 : (i 1 : ℕ) < 64 := (i 1).isLt
  let k : (⟨2, ![512, m]⟩ : Shape).Idx := fun q => match q with
    | ⟨0, _⟩ => ⟨(i 0 : ℕ) * 64 + (i 1 : ℕ), by show (i 0 : ℕ) * 64 + (i 1 : ℕ) < 512; omega⟩
    | ⟨1, _⟩ => ⟨(i 2 : ℕ), (i 2).isLt⟩
  rw [shapeCast_apply A hc i k (by
    rw [Shape.rowMajor_val_three, Shape.rowMajor_val_two]
    rfl)]
  exact hA k

/-- Each head's rows behind 64 rows of zeros. -/
theorem rowPad {A : (⟨3, ![8, 64, m]⟩ : Shape).Idx → EReal} {g : ℕ → ℕ → ℕ → EReal} (hA : Is3 A g) {u : Shape} {z : u.Idx → EReal}
    (hp : (⟨3, ![8, 64, m]⟩ : Shape).Pads ![0, 64, 0] ![0, 0, 0] ![0, 0, 0] ⟨3, ![8, 128, m]⟩) (hu : 0 < u.numel)
    (hz : z (Shape.Idx.first hu) = 0) :
    Is3 (Idealize.ShloMosaic.pad ⟨3, ![8, 128, m]⟩ ![0, 64, 0] ![0, 0, 0] ![0, 0, 0] A z hp hu)
      (fun h d j => if 64 ≤ d ∧ d - 64 < 64 then g h (d - 64) j else 0) := fun i => by
  show _ = ((if 64 ≤ (i 1 : ℕ) ∧ (i 1 : ℕ) - 64 < 64 then g (i 0 : ℕ) ((i 1 : ℕ) - 64) (i 2 : ℕ) else 0 : EReal) : EReal)
  by_cases hi : 64 ≤ (i 1 : ℕ) ∧ (i 1 : ℕ) - 64 < 64
  · rw [if_pos hi]
    let k : (⟨3, ![8, 64, m]⟩ : Shape).Idx := fun q => match q with
      | ⟨0, _⟩ => ⟨(i 0 : ℕ), (i 0).isLt⟩
      | ⟨1, _⟩ => ⟨(i 1 : ℕ) - 64, hi.2⟩
      | ⟨2, _⟩ => ⟨(i 2 : ℕ), (i 2).isLt⟩
    rw [pad_apply_of_inside _ _ _ A z hp hu i k fun q => by
      match q with
      | ⟨0, _⟩ => show (i 0 : ℕ) = 0 + (i 0 : ℕ) * 1; omega
      | ⟨1, _⟩ => show (i 1 : ℕ) = 64 + ((i 1 : ℕ) - 64) * 1; omega
      | ⟨2, _⟩ => show (i 2 : ℕ) = 0 + (i 2 : ℕ) * 1; omega]
    exact hA k
  · rw [if_neg hi, pad_apply_of_not_inside _ _ _ A z hp hu i (1 : Fin 3) fun hq => hi ?_]
    · exact hz
    · have h1 : 64 ≤ (i 1 : ℕ) := hq.1
      have h2 : ((i 1 : ℕ) - 64) / (0 + 1) < 64 := hq.2.2
      exact ⟨h1, by omega⟩

/-- The heads' rows one below the other. -/
theorem rowFlat {X : (⟨3, ![8, 128, m]⟩ : Shape).Idx → EReal} {g : ℕ → ℕ → ℕ → EReal} (hX : Is3 X g)
    (hc : (⟨3, ![8, 128, m]⟩ : Shape).ShapeCasts ⟨2, ![1024, m]⟩) :
    Is2 (shapeCast ⟨2, ![1024, m]⟩ X hc) (fun r j => g (r / 128) (r % 128) j) := fun i => by
  have h0 : (i 0 : ℕ) < 1024 := (i 0).isLt
  let k : (⟨3, ![8, 128, m]⟩ : Shape).Idx := fun q => match q with
    | ⟨0, _⟩ => ⟨(i 0 : ℕ) / 128, by show (i 0 : ℕ) / 128 < 8; omega⟩
    | ⟨1, _⟩ => ⟨(i 0 : ℕ) % 128, by show (i 0 : ℕ) % 128 < 128; omega⟩
    | ⟨2, _⟩ => ⟨(i 1 : ℕ), (i 1).isLt⟩
  rw [shapeCast_apply X hc i k (by
    rw [Shape.rowMajor_val_three, Shape.rowMajor_val_two]
    show ((i 0 : ℕ) / 128 * 128 + (i 0 : ℕ) % 128) * m + (i 1 : ℕ) = (i 0 : ℕ) * m + (i 1 : ℕ)
    rw [show (i 0 : ℕ) / 128 * 128 + (i 0 : ℕ) % 128 = (i 0 : ℕ) by omega])]
  exact hX k

/-- Two matrices one below the other. -/
theorem below {n a b : ℕ} {A : (⟨2, ![a, m]⟩ : Shape).Idx → EReal} {B : (⟨2, ![b, m]⟩ : Shape).Idx → EReal} {g : ℕ → ℕ → EReal} (hA : Is2 A f) (hB : Is2 B g)
    (hc : Shape.Concatenates [⟨2, ![a, m]⟩, ⟨2, ![b, m]⟩] ⟨2, ![n, m]⟩ 0) :
    Is2 (concatenate ⟨2, ![n, m]⟩ 0 [⟨_, A⟩, ⟨_, B⟩] hc) (fun j d => if j < a then f j d else g (j - a) d) := fun i => by
  rw [concatenate_pair_apply]
  beta_reduce
  by_cases h : (i 0 : ℕ) < a
  · rw [if_pos h]; exact (dif_pos h).trans (hA _)
  · rw [if_neg h]; exact (dif_neg h).trans (hB _)

/-- Two matrices side by side. -/
theorem beside {n a b : ℕ} {A : (⟨2, ![m, a]⟩ : Shape).Idx → EReal} {B : (⟨2, ![m, b]⟩ : Shape).Idx → EReal} {g : ℕ → ℕ → EReal} (hA : Is2 A f) (hB : Is2 B g)
    (hc : Shape.Concatenates [⟨2, ![m, a]⟩, ⟨2, ![m, b]⟩] ⟨2, ![m, n]⟩ 1) :
    Is2 (concatenate ⟨2, ![m, n]⟩ 1 [⟨_, A⟩, ⟨_, B⟩] hc) (fun t j => if j < a then f t j else g t (j - a)) := fun i => by
  rw [concatenate_pair_apply]
  beta_reduce
  by_cases h : (i 1 : ℕ) < a
  · rw [if_pos h]; exact (dif_pos h).trans (hA _)
  · rw [if_neg h]; exact (dif_neg h).trans (hB _)

end

/-- The narrow format's zero. -/
theorem lit_zero16 : (Ideal.ofBits .bf16 0x0000#16 : EReal) = 0 := by
  simp [Ideal.ofBits, Ideal.ieee]

/-- The padding value in the narrow format. -/
theorem pad_zero16 (x : (⟨⟨0, ![]⟩, .i32⟩ : BufTy).Contents (Elt Ideal)) (hx : x = constantI ⟨0, ![]⟩ 32 0#32) (i : (⟨0, ![]⟩ : Shape).Idx) :
    (sitofp (F := Ideal) .bf16 x : (⟨0, ![]⟩ : Shape).Idx → EReal) i = 0 := by
  subst hx
  show ((((0#32 : BitVec 32).toInt : ℤ) : ℝ) : EReal) = _
  simp

/-- The padding value in the wide format. -/
theorem pad_zero32 (x : (⟨⟨0, ![]⟩, .i32⟩ : BufTy).Contents (Elt Ideal)) (hx : x = constantI ⟨0, ![]⟩ 32 0#32) (i : (⟨0, ![]⟩ : Shape).Idx) :
    (sitofp (F := Ideal) .f32 x : (⟨0, ![]⟩ : Shape).Idx → EReal) i = 0 := by
  subst hx
  show ((((0#32 : BitVec 32).toInt : ℤ) : ℝ) : EReal) = _
  simp

end Cert.Ext

end
-- ==== Proof.Ref4.lean ====
module

public import proofs.«01_k».proof.Proof.Gen.Reference4Ideal.Run
public import proofs.«01_k».proof.Proof.Gen.Reference4Ideal.Read
public import proofs.«01_k».proof.Proof.RefBackward
public import proofs.«01_k».proof.Proof.Mixed
public import proofs.«01_k».proof.Proof.Ref2

@[expose] public section

set_option maxRecDepth 16384

/-! # The reference of the mixing layer's ends, line by line

Its lines are followed over the extended reals; the three summands of the norm's gradient are gathered by `grad_eq`. -/

noncomputable section

open Idealize.ShloMosaic

namespace Cert.Reference4Ideal.Value
open Cert.Reference4Ideal Cert.Reference4Ideal.Gen Cert.Reference4Ideal.Read Cert.Ext Cert.Reference2Ideal.Value

/-- The eight arguments hold the functions of `p`. -/
structure Given (x0 : (⟨S4096x1024, .f32⟩ : BufTy).Contents (Elt Ideal)) (x1 : (⟨S1024, .f32⟩ : BufTy).Contents (Elt Ideal))
    (x2 : (⟨S1024x2080, .f32⟩ : BufTy).Contents (Elt Ideal)) (x3 x4 : (⟨S4096x512, .f32⟩ : BufTy).Contents (Elt Ideal))
    (x5 : (⟨S1024x1024, .f32⟩ : BufTy).Contents (Elt Ideal)) (x6 : (⟨S4096x2080, .f32⟩ : BufTy).Contents (Elt Ideal))
    (x7 : (⟨S4096x1024, .f32⟩ : BufTy).Contents (Elt Ideal)) (p : Mixing) : Prop where
  hX : Is2 (n := 4096) (m := 1024) x0 p.X
  hN : Is1 (n := 1024) x1 p.N
  hW : Is2 (n := 1024) (m := 2080) x2 p.W
  hA : Is2 (n := 4096) (m := 512) x3 p.A
  hB : Is2 (n := 4096) (m := 512) x4 p.B
  hO : Is2 (n := 1024) (m := 1024) x5 p.O
  hP : Is2 (n := 4096) (m := 2080) x6 p.P
  hG : Is2 (n := 4096) (m := 1024) x7 p.G

variable {x0 : (⟨S4096x1024, .f32⟩ : BufTy).Contents (Elt Ideal)} {x1 : (⟨S1024, .f32⟩ : BufTy).Contents (Elt Ideal)}
  {x2 : (⟨S1024x2080, .f32⟩ : BufTy).Contents (Elt Ideal)} {x3 x4 : (⟨S4096x512, .f32⟩ : BufTy).Contents (Elt Ideal)}
  {x5 : (⟨S1024x1024, .f32⟩ : BufTy).Contents (Elt Ideal)} {x6 : (⟨S4096x2080, .f32⟩ : BufTy).Contents (Elt Ideal)}
  {x7 : (⟨S4096x1024, .f32⟩ : BufTy).Contents (Elt Ideal)} {p : Mixing}

section
variable (L : Given x0 x1 x2 x3 x4 x5 x6 x7 p)
include L

/-- The squares, summed along a row. -/
theorem sq : Is1 (n := 4096) (val_main_v1 (F := Ideal) x0) (fun t => ∑ d ∈ Finset.range 1024, p.X t d * p.X t d) :=
  Is2.sum (L.hX.mul (X := val_main_v0 (F := Ideal) x0) (F := fun t d => p.X t d * p.X t d) L.hX (fun _ => rfl) (fun _ => rfl)) _ lit_zero
    idx_main_v1 (val_main_v1_apply x0) (fun t d => p.X t d * p.X t d) (fun _ _ => rfl) (fun _ => rfl)
/-- The raised mean square of each row. -/
theorem meanSq : Is2 (n := 4096) (m := 1) (val_main_v6 (F := Ideal) x0) (fun t _ => ms p.X t) := fun i => by
  have h2 : val_main_v2 (F := Ideal) x0 i = ∑ d ∈ Finset.range 1024, p.X (i 0 : ℕ) d * p.X (i 0 : ℕ) d := (val_main_v2_apply x0 i).trans (sq L _)
  have h3 : val_main_v3 (F := Ideal) i = Ideal.ofBits .f32 0x44800000#32 := val_main_v3_apply i
  have h5 : val_main_v5 (F := Ideal) i = Ideal.ofBits .f32 0x358637BD#32 := val_main_v5_apply i
  rw [val_main_v6_apply, val_main_v4_apply, h2, h3, h5]
  rfl
/-- Its reciprocal root, and what the root's derivative multiplies by. -/
theorem root : Is2 (n := 4096) (m := 1) (val_main_v7 (F := Ideal) x0) (fun t _ => rr p.X t) := fun i => by
  rw [val_main_v7_apply, meanSq L i]; rfl
theorem rootD : Is2 (n := 4096) (m := 1) (val_main_v10 (F := Ideal) x0)
    (fun t _ => Ideal.ofBits .f32 0xBF000000#32 * Ideal.div (rr p.X t) (ms p.X t)) := fun i => by
  have h9 : val_main_v9 (F := Ideal) i = Ideal.ofBits .f32 0xBF000000#32 := val_main_v9_apply i
  rw [val_main_v10_apply, val_main_v8_apply, root L i, meanSq L i, h9]
  rfl
/-- The input over its root, the gain as a row, and the normalised input. -/
theorem unit : Is2 (n := 4096) (m := 1024) (val_main_v12 (F := Ideal) x0) (fun t d => p.X t d * rr p.X t) :=
  L.hX.mul ((root L).read (F := fun t _ => rr p.X t) idx_main_v11 (val_main_v11_apply x0) (fun _ => rfl)) (fun _ => rfl) (fun _ => rfl)
theorem gainRow : Is2 (n := 1) (m := 1024) (val_main_v13 (F := Ideal) x1) (fun _ d => p.N d) :=
  L.hN.read2 idx_main_v13 (val_main_v13_apply x1) (fun _ => rfl)
theorem normed : Is2 (n := 4096) (m := 1024) (val_main_v15 (F := Ideal) x0 x1) p.h :=
  (unit L).mul ((gainRow L).read (F := fun _ d => p.N d) idx_main_v14 (val_main_v14_apply x1) (fun _ => rfl)) (fun _ => rfl) (fun _ => rfl)

/-- The projection, and its columns in the calls' order. -/
theorem proj : Is2 (n := 4096) (m := 2080) (val_main_v16 (F := Ideal) x0 x1 x2) (mul 1024 p.h p.W) :=
  (normed L).dot L.hW lidx_main_v16 ridx_main_v16 (val_main_v16_apply x0 x1 x2) (fun i j k => p.h i k * p.W k j) (fun _ _ => rfl) (fun _ => rfl)
theorem zeros : Is2 (n := 4096) (m := 64) (val_main_v50 (F := Ideal)) (fun _ _ => 0) := fun i => (val_main_v50_apply i).trans lit_zero
theorem projParts : Is2 (n := 4096) (m := 2176) (val_main_v55 (F := Ideal) x0 x1 x2) p.proj := fun i => by
  unfold val_main_v55
  exact colParts (f := mul 1024 p.h p.W) ((proj L).read idx_main_v51 (val_main_v51_apply x0 x1 x2) (fun _ => rfl))
    ((proj L).read idx_main_v52 (val_main_v52_apply x0 x1 x2) (fun _ => rfl)) (zeros L)
    ((proj L).read idx_main_v53 (val_main_v53_apply x0 x1 x2) (fun _ => rfl))
    ((zeros L).read idx_main_v54 val_main_v54_apply (fun _ => rfl)) _ i

/-- The heads' and the convolution's outputs side by side, and the output. -/
theorem both : Is2 (n := 4096) (m := 1024) (val_main_v17 (F := Ideal) x3 x4) p.cat := fun i => by
  unfold val_main_v17
  exact beside L.hA L.hB _ i
theorem output : Is2 (n := 4096) (m := 1024) (val_main_v19 (F := Ideal) x0 x3 x4 x5) p.y :=
  L.hX.add ((both L).dot L.hO (X := val_main_v18 (F := Ideal) x3 x4 x5) (n := 4096) (m := 1024) (F := mul 1024 p.cat p.O) lidx_main_v18 ridx_main_v18
    (val_main_v18_apply x3 x4 x5) (fun i j k => p.cat i k * p.O k j) (fun _ _ => rfl) (fun _ => rfl)) (fun _ => rfl) (fun _ => rfl)

theorem sameIdx (i : S4096x1024.Idx) (a : Fin 2) : (idx_main_v20 i a).val = (i a).val := by
  have h : (i 1).val < 1024 := (i 1).isLt
  match a with
  | ⟨0, _⟩ => show ((i 0).val * 1024 + (i 1).val) / 1024 = (i 0).val; omega
  | ⟨1, _⟩ => show ((i 0).val * 1024 + (i 1).val) % 1024 = (i 1).val; omega
/-- The cotangent. -/
theorem cot : Is2 (n := 4096) (m := 1024) (val_main_v20 (F := Ideal) x7) p.G :=
  L.hG.of_eq (funext fun i => (val_main_v20_apply x7 i).trans (congrArg x7 (funext fun a => Fin.ext (sameIdx L i a))))

/-- The gradient of the output's matrix. -/
theorem gradO : Is2 (n := 1024) (m := 1024) (val_main_v22 (F := Ideal) x3 x4 x7) p.dO :=
  ((cot L).dot (both L) (X := val_main_v21 (F := Ideal) x3 x4 x7) (n := 1024) (m := 1024) (F := fun d j => p.dO j d) lidx_main_v21 ridx_main_v21
    (val_main_v21_apply x3 x4 x7) (fun d j t => p.G t d * p.cat t j) (fun _ _ => rfl) (fun _ => Finset.sum_congr rfl fun _ _ => mul_comm _ _)).read idx_main_v22
    (val_main_v22_apply x3 x4 x7) (fun _ => rfl)
theorem gradOa : Is2 (n := 1024) (m := 1024) (val_main_v66 (F := Ideal) x3 x4 x7) p.dOa := by
  have h61 : Is2 (n := 1024) (m := 512) (val_main_v61 (F := Ideal) x3 x4 x7) (across p.dO) :=
    ((gradO L).read (X := val_main_v60 (F := Ideal) x3 x4 x7) (n := 512) (m := 1024) (F := p.dO) idx_main_v60 (val_main_v60_apply x3 x4 x7) (fun _ => rfl)).read
      idx_main_v61 (val_main_v61_apply x3 x4 x7) (fun _ => rfl)
  have h64 : Is2 (n := 1024) (m := 1024) (val_main_v64 (F := Ideal) x3 x4 x7) (spread (across p.dO)) :=
    (heads h61 _).wide pads_S1024x8x64_S1024x8x128_000_000_6400 h_S_ (pad_zero32 _ rfl _) shapeCasts_S1024x8x128_S1024x1024
  exact h64.read idx_main_v65 (val_main_v65_apply x3 x4 x7) (fun _ => rfl)
theorem gradOb : Is2 (n := 512) (m := 1024) (val_main_v68 (F := Ideal) x3 x4 x7) p.dOb :=
  (gradO L).read idx_main_v67 (val_main_v67_apply x3 x4 x7) (fun _ => rfl)

/-- The gradients in the heads' and the convolution's outputs. -/
theorem gradBoth : Is2 (n := 4096) (m := 1024) (val_main_v23 (F := Ideal) x5 x7) p.dcat :=
  (cot L).dot L.hO lidx_main_v23 ridx_main_v23 (val_main_v23_apply x5 x7) (fun t j d => p.G t d * p.O j d) (fun _ _ => rfl) (fun _ => rfl)
theorem gradMix : Is2 (n := 4096) (m := 1536) (val_main_v59 (F := Ideal) x5 x7) p.dmix := fun i => by
  have h24 : Is2 (n := 4096) (m := 512) (val_main_v24 (F := Ideal) x5 x7) p.dcat := (gradBoth L).read idx_main_v24 (val_main_v24_apply x5 x7) (fun _ => rfl)
  have h25 : Is2 (n := 4096) (m := 512) (val_main_v25 (F := Ideal) x5 x7) (fun t j => p.dcat t (512 + j)) :=
    (gradBoth L).read idx_main_v25 (val_main_v25_apply x5 x7) (fun _ => rfl)
  have h58 : Is2 (n := 4096) (m := 1024) (val_main_v58 (F := Ideal) x5 x7) (spread p.dcat) :=
    (heads h24 _).wide pads_S4096x8x64_S4096x8x128_000_000_6400 h_S_ (pad_zero32 _ rfl _) shapeCasts_S4096x8x128_S4096x1024
  unfold val_main_v59
  exact beside h58 h25 _ i

/-- The gradient of the projection's matrix, its columns in the calls' order, transposed. -/
theorem gradW : Is2 (n := 1024) (m := 2080) (val_main_v27 (F := Ideal) x0 x1 x6) (fun d k => tMul 4096 p.P p.h k d) :=
  (L.hP.dot (normed L) (X := val_main_v26 (F := Ideal) x0 x1 x6) (n := 2080) (m := 1024) (F := tMul 4096 p.P p.h) lidx_main_v26 ridx_main_v26
    (val_main_v26_apply x0 x1 x6) (fun j d t => p.P t j * p.h t d) (fun _ _ => rfl) (fun _ => rfl)).read idx_main_v27 (val_main_v27_apply x0 x1 x6) (fun _ => rfl)
theorem zeros' : Is2 (n := 1024) (m := 64) (val_main_v69 (F := Ideal)) (fun _ _ => 0) := fun i => (val_main_v69_apply i).trans lit_zero
theorem gradWParts : Is2 (n := 2176) (m := 1024) (val_main_v76 (F := Ideal) x0 x1 x6) p.gW := by
  have h74 : Is2 (n := 1024) (m := 2176) (val_main_v74 (F := Ideal) x0 x1 x6) (fun d j => p.gW j d) := fun i => by
    unfold val_main_v74
    exact colParts (f := fun d k => tMul 4096 p.P p.h k d) ((gradW L).read idx_main_v70 (val_main_v70_apply x0 x1 x6) (fun _ => rfl))
      ((gradW L).read idx_main_v71 (val_main_v71_apply x0 x1 x6) (fun _ => rfl)) (zeros' L)
      ((gradW L).read idx_main_v72 (val_main_v72_apply x0 x1 x6) (fun _ => rfl))
      ((zeros' L).read idx_main_v73 val_main_v73_apply (fun _ => rfl)) _ i
  exact h74.read idx_main_v75 (val_main_v75_apply x0 x1 x6) (fun _ => rfl)

/-- The gradient in the normalised input. -/
theorem gradNormed : Is2 (n := 4096) (m := 1024) (val_main_v28 (F := Ideal) x2 x6) p.dh :=
  L.hP.dot L.hW lidx_main_v28 ridx_main_v28 (val_main_v28_apply x2 x6) (fun t d j => p.P t j * p.W d j) (fun _ _ => rfl) (fun _ => rfl)

/-- The gradient of the gain, as a row. -/
theorem gradGain : Is2 (n := 1) (m := 1024) (val_main_v78 (F := Ideal) x0 x2 x6) (fun _ d => p.dn d) :=
  Is1.read2 (v := p.dn) (Is2.sum (f := fun _ d => p.dn d) (Is1.read2 (v := p.dn)
      (Is2.sum ((unit L).mul (gradNormed L) (X := val_main_v29 (F := Ideal) x0 x2 x6) (F := fun t d => p.X t d * rr p.X t * p.dh t d) (fun _ => rfl) (fun _ => rfl)) _ lit_zero idx_main_v30
        (val_main_v30_apply x0 x2 x6) (fun d t => p.X t d * rr p.X t * p.dh t d) (fun _ _ => rfl)
        (fun i => show _ = ∑ t ∈ Finset.range 4096, p.dh t (i 0 : ℕ) * p.X t (i 0 : ℕ) * rr p.X t from Finset.sum_congr rfl fun _ _ => by rw [mul_comm, mul_assoc])) idx_main_v31 (val_main_v31_apply x0 x2 x6)
        (fun i => congrArg p.dn (Cert.ReferenceIdeal.Value.oneRow' i)))
      _ lit_zero idx_main_v34 (val_main_v34_apply x0 x2 x6) (fun d _ => p.dn d) (fun _ _ => rfl) (fun _ => Finset.sum_range_one _))
      idx_main_v78 (val_main_v78_apply x0 x2 x6) (fun i => congrArg p.dn (Cert.ReferenceIdeal.Value.oneRow' i))

/-- The gradient times the gain. -/
theorem gained : Is2 (n := 4096) (m := 1024) (val_main_v33 (F := Ideal) x1 x2 x6) (fun t d => p.dh t d * p.N d) :=
  (gradNormed L).mul ((gainRow L).read (F := fun _ d => p.N d) idx_main_v32 (val_main_v32_apply x1) (fun _ => rfl)) (fun _ => rfl) (fun _ => rfl)

/-- What the input is multiplied by twice in its gradient. -/
theorem rowScale : Is2 (n := 4096) (m := 1024) (val_main_v44 (F := Ideal) x0 x1 x2 x6) (fun t _ => p.scale t) := by
  have h37 : Is2 (n := 4096) (m := 1) (val_main_v37 (F := Ideal) x0 x1 x2 x6) (fun t _ => inner p.X p.N p.dh t) :=
    Is1.read2 (v := inner p.X p.N p.dh) (Is2.sum (L.hX.mul (gained L) (X := val_main_v35 (F := Ideal) x0 x1 x2 x6)
      (F := fun t d => p.X t d * (p.dh t d * p.N d)) (fun _ => rfl) (fun _ => rfl)) _ lit_zero idx_main_v36 (val_main_v36_apply x0 x1 x2 x6)
      (fun t d => p.X t d * (p.dh t d * p.N d)) (fun _ _ => rfl) (fun _ => rfl)) idx_main_v37 (val_main_v37_apply x0 x1 x2 x6)
      (fun i => congrArg (inner p.X p.N p.dh) (Cert.ReferenceIdeal.Value.oneCol i))
  have h42 : Is2 (n := 4096) (m := 1) (val_main_v42 (F := Ideal) x0 x1 x2 x6) (fun t _ => p.scale t) := fun i => by
    have h : val_main_v41 (F := Ideal) i = Ideal.ofBits .f32 0x44800000#32 := val_main_v41_apply i
    rw [val_main_v42_apply, val_main_v40_apply, h37 i, rootD L i, h]
    rfl
  exact Is1.read2 (v := p.scale) (Is2.sum h42 _ lit_zero idx_main_v43 (val_main_v43_apply x0 x1 x2 x6) (fun t _ => p.scale t)
      (fun _ _ => rfl) (fun _ => Finset.sum_range_one _)) idx_main_v44 (val_main_v44_apply x0 x1 x2 x6) (fun _ => rfl)

/-- The gradient in the input. -/
theorem gradX : Is2 (n := 4096) (m := 1024) (val_main_v49 (F := Ideal) x0 x1 x2 x6 x7) p.dx := fun i => by
  have hs := rowScale L i
  have h38 : val_main_v38 (F := Ideal) x0 i = rr p.X (i 0 : ℕ) := (val_main_v38_apply x0 i).trans (root L _)
  have h : val_main_v49 (F := Ideal) x0 x1 x2 x6 x7 i
      = val_main_v33 (F := Ideal) x1 x2 x6 i * val_main_v38 (F := Ideal) x0 i + x0 i * val_main_v44 (F := Ideal) x0 x1 x2 x6 i
        + val_main_v44 (F := Ideal) x0 x1 x2 x6 i * x0 i + x7 i := rfl
  rw [h, gained L i, h38, L.hX i, hs, L.hG i]
  exact congrArg (fun z => z + p.G (i 0 : ℕ) (i 1 : ℕ)) (grad_eq p.X p.N p.dh (i 0 : ℕ) (i 1 : ℕ) (i 1).isLt)
/-- The same in the narrow format. -/
theorem gradX' : Is2 (n := 4096) (m := 1024) (val_main_v77 (F := Ideal) x0 x1 x2 x6 x7) p.dx := gradX L

end

end Cert.Reference4Ideal.Value

end
-- ==== Proof.MHost.lean ====
module

public import proofs.«01_k».proof.Proof.Gen.Kernel4Ideal.Frame
public import proofs.«01_k».proof.Proof.Mixed
public import Idealize.ShloMosaic.Lib.ValueLayout
public import Idealize.ShloMosaic.Lib.Claim
public import Idealize.ShloMosaic.Lib.Pipeline.ValueKit

@[expose] public section

set_option maxRecDepth 16384

/-! # The mixing layer's launch: what the arguments hold, and what the host's lines make of them -/

noncomputable section

open Idealize.ShloMosaic Idealize.ShloMosaic.TcCoe Idealize.SL.Sem

namespace Cert.Kernel4Ideal.Value
open Cert.Kernel4Ideal Cert.Kernel4Ideal.Gen Cert.Ext

variable (m : (ℓ : Loc nD τ sig) → Buf (Elt Ideal) ℓ) (ρ : Dev nD → PrngReg) (c : Dev nD) (p : Mixing)

/-- Equal places hold the same. -/
theorem cell {f : ℕ → ℕ → EReal} {a b a' b' : ℕ} (ha : a = a') (hb : b = b') : (f a b) = (f a' b') := by
  rw [ha, hb]

/-- The eight arguments hold the functions of `p`. -/
structure Launched : Prop where
  hX : Is2 (n := 4096) (m := 1024) (m ((c : Thread nD τ).loc main_arg0)) p.X
  hN : Is1 (n := 1024) (m ((c : Thread nD τ).loc main_arg1)) p.N
  hW : Is2 (n := 1024) (m := 2080) (m ((c : Thread nD τ).loc main_arg2)) p.W
  hA : Is2 (n := 4096) (m := 512) (m ((c : Thread nD τ).loc main_arg3)) p.A
  hB : Is2 (n := 4096) (m := 512) (m ((c : Thread nD τ).loc main_arg4)) p.B
  hO : Is2 (n := 1024) (m := 1024) (m ((c : Thread nD τ).loc main_arg5)) p.O
  hP : Is2 (n := 4096) (m := 2080) (m ((c : Thread nD τ).loc main_arg6)) p.P
  hG : Is2 (n := 4096) (m := 1024) (m ((c : Thread nD τ).loc main_arg7)) p.G

theorem at5_arg0 (h : Launched m c p) : Is2 (n := 4096) (m := 1024) (W5 m ρ c (Proc.devRef .tc main_arg0)) p.X :=
  Is2.of_eq (W5_args m ρ c main_arg0 (by decide)) h.hX
theorem at5_arg7 (h : Launched m c p) : Is2 (n := 4096) (m := 1024) (W5 m ρ c (Proc.devRef .tc main_arg7)) p.G :=
  Is2.of_eq (W5_args m ρ c main_arg7 (by decide)) h.hG
theorem at1_v0 (h : Launched m c p) : Is2 (n := 1) (m := 1024) (W1 m ρ c (Proc.devRef .tc main_v0)) (fun _ d => p.N d) := by
  intro i
  unfold_abbrev_sides
  after_results
  change shapeCast S1x1024 (m ((c : Thread nD τ).loc main_arg1)) shapeCasts_S1024_S1x1024 i = _
  obtain ⟨u, d, rfl⟩ : ∃ u d, i = ValueIdx.ix2 u d := ⟨i 0, i 1, ValueIdx.eq_ix2 i⟩
  exact (ValueIdx.shapeCast_a_1a_apply _ _ _ _).trans (h.hN _)
/-- The projection's matrix, transposed and in the calls' order. -/
theorem at1_v8 (h : Launched m c p) : Is2 (n := 2176) (m := 1024) (W1 m ρ c (Proc.devRef .tc main_v8)) p.w := by
  intro i
  unfold_abbrev_sides
  after_results
  refine rowParts (f := across p.W) (fun i => ?_) (fun i => ?_) (fun i => ?_) (fun i => ?_) (fun i => ?_) _ i
  · pointwise
    exact (h.hW _).trans (cell (Nat.zero_add _) (Nat.zero_add _))
  · pointwise
    exact (h.hW _).trans (cell (Nat.zero_add _) (rfl))
  · pointwise
    exact lit_zero16
  · pointwise
    exact (h.hW _).trans (cell (Nat.zero_add _) (rfl))
  · pointwise
    exact lit_zero16
/-- The output's matrix, its heads' rows behind rows of zeros. -/
theorem at3_v15 (h : Launched m c p) : Is2 (n := 1536) (m := 1024) (W3 m ρ c (Proc.devRef .tc main_v15)) p.wo := by
  intro i
  unfold_abbrev_sides
  after_results
  refine below (f := p.woA) (g := p.woB) (fun i => ?_) (fun i => ?_) _ i
  · change shapeCast S1024x1024 (pad S8x128x1024 ![0, 64, 0] ![0, 0, 0] ![0, 0, 0]
      (shapeCast S8x64x1024 (extractStridedSlice S512x1024 ![0, 0] (truncf (F := Ideal) .bf16 (m ((c : Thread nD τ).loc main_arg5)) bitsLt_bf16_f32)
        slices_S1024x1024_S512x1024_0_0) shapeCasts_S512x1024_S8x64x1024)
      (sitofp (F := Ideal) .bf16 (constantI S_ 32 0#32)) pads_S8x64x1024_S8x128x1024_000_6400_000 h_S_) shapeCasts_S8x128x1024_S1024x1024 i = _
    refine (rowFlat (rowPad (rowHeads (f := p.O) (fun i => ?_) _) pads_S8x64x1024_S8x128x1024_000_6400_000 h_S_ (pad_zero16 _ rfl _)) _ i).trans ?_
    · pointwise
      refine (h.hO _).trans (cell ?_ ?_)
      · rfl
      · rfl
    · rfl
  · pointwise
    refine (h.hO _).trans (cell ?_ ?_)
    · rfl
    · rfl
/-- The heads' outputs, each behind zeros. -/
theorem at5_v19 (h : Launched m c p) : Is2 (n := 4096) (m := 1024) (W5 m ρ c (Proc.devRef .tc main_v19)) p.o := by
  intro i
  unfold_abbrev_sides
  after_results
  exact (heads (f := p.A) h.hA _).wide pads_S4096x8x64_S4096x8x128_000_000_6400 h_S_ (pad_zero16 _ rfl _) _ i
theorem at5_v20 (h : Launched m c p) : Is2 (n := 4096) (m := 512) (W5 m ρ c (Proc.devRef .tc main_v20)) p.B := by
  intro i
  unfold_abbrev_sides
  after_results
  exact h.hB i
theorem at5_v21 (h : Launched m c p) : Is2 (n := 4096) (m := 1024) (W5 m ρ c (Proc.devRef .tc main_v21)) p.G := by
  intro i
  unfold_abbrev_sides
  after_results
  exact h.hG i
/-- The gradient of the projection in the calls' order. -/
theorem at5_v30 (h : Launched m c p) : Is2 (n := 4096) (m := 2176) (W5 m ρ c (Proc.devRef .tc main_v30)) p.dp := by
  intro i
  unfold_abbrev_sides
  after_results
  refine turned (rowParts (f := across p.P) (fun i => ?_) (fun i => ?_) (fun i => ?_) (fun i => ?_) (fun i => ?_) _) _ i
  · pointwise
    exact (h.hP _).trans (cell (Nat.zero_add _) (Nat.zero_add _))
  · pointwise
    exact (h.hP _).trans (cell (Nat.zero_add _) (rfl))
  · pointwise
    exact lit_zero16
  · pointwise
    exact (h.hP _).trans (cell (Nat.zero_add _) (rfl))
  · pointwise
    exact lit_zero16

end Cert.Kernel4Ideal.Value

end
-- ==== Proof.M0.lean ====
module

public import proofs.«01_k».proof.Proof.Gen.Kernel4Ideal.Frame.Region0
public import proofs.«01_k».proof.Proof.Extended

@[expose] public section

set_option maxRecDepth 16384

/-! # The normalised rows: each point of the grid normalises one block of 1024 rows -/

noncomputable section

open Idealize.ShloMosaic Idealize.ShloMosaic.TcCoe Idealize.SL.Sem
open Idealize.ShloMosaic.Pipeline (Dat)

namespace Cert.Kernel4Ideal.Value
open Cert.Kernel4Ideal Cert.Kernel4Ideal.Gen Cert.Ext

variable (V : (c : Dev nD) → (b : Ref sig .tc) → Buf (Elt Ideal) ((c : Thread nD τ).loc b))

namespace R0

/-- Where each window's block sits. -/
theorem idx : ∀ t : Fin cfg0.N, win0_0.index t = ![t.val, 0] ∧ win0_1.index t = ![0, 0] ∧ win0_2.index t = ![t.val, 0] :=
  (by decide +kernel : ∀ t : Fin grid0.N, _)

/-- The array after the region, from what its operands hold. -/
theorem final (c : Dev nD) (X : ℕ → ℕ → EReal) (N : ℕ → EReal)
    (hX : Is2 (n := 4096) (m := 1024) (V c (Pipeline.arrRef spec0 0)) X)
    (hN : Is2 (n := 1) (m := 1024) (V c (Pipeline.arrRef spec0 1)) (fun _ d => N d)) :
    Is2 (n := 4096) (m := 1024) ((dat0 V c).arrAt 2 cfg0.N) (norm X N) := by
  intro i
  refine congrFun ((dat0 V c).arrAt_eq_of_covers 2 (fun i => ((norm X N (i 0 : ℕ) (i 1 : ℕ) : EReal)))
    (by decide +kernel) fun t _ y => ?_) i
  blk_simp
  rw [after0_2]; frame_out
  pointwise [k0_pay1]
  have h0 : ∀ x, iblk0 V c 0 t x = (X (t.val * 1024 + (x 0).val) (x 1).val) := by
    intro x
    refine (hX (((cfg0.win 0).blk t).view.emb x)).trans ?_
    blk_simp [idx t]
  have h1 : ∀ x, iblk0 V c 1 t x = (N (x 1).val) := by
    intro x
    refine (hN (((cfg0.win 1).blk t).view.emb x)).trans ?_
    blk_simp [idx t]
  have hs := sum_fin _ (fun k => X (t.val * 1024 + (y 0).val) k * X (t.val * 1024 + (y 0).val) k) fun k : Fin 1024 =>
    congrArg₂ (fun a b : EReal => a * b) (h0 (ix2 (y 0) k)) (h0 (ix2 (y 0) k))
  refine (congrArg₂ (fun a b : EReal => a * b) (congrArg₂ (fun a b : EReal => a * b) (h0 y)
    (congrArg (fun s => Ideal.rsqrt (Ideal.div s (Ideal.ofBits FTy.f32 0x44800000#32) + Ideal.ofBits FTy.f32 0x358637BD#32)) hs)) (h1 _)).trans ?_
  blk_simp [idx t]
  rfl

end R0

end Cert.Kernel4Ideal.Value
-- ==== Proof.M1.lean ====
module

public import proofs.«01_k».proof.Proof.Gen.Kernel4Ideal.Frame.Region1
public import proofs.«01_k».proof.Proof.Extended

@[expose] public section

set_option maxRecDepth 16384

/-! # The projection of the normalised rows -/

noncomputable section

open Idealize.ShloMosaic Idealize.ShloMosaic.TcCoe Idealize.SL.Sem
open Idealize.ShloMosaic.Pipeline (Dat)

namespace Cert.Kernel4Ideal.Value
open Cert.Kernel4Ideal Cert.Kernel4Ideal.Gen Cert.Ext

variable (V : (c : Dev nD) → (b : Ref sig .tc) → Buf (Elt Ideal) ((c : Thread nD τ).loc b))

namespace R1

/-- Where each window's block sits. -/
theorem idx : ∀ t : Fin cfg1.N, win1_0.index t = ![t.val, 0] ∧ win1_1.index t = ![0, 0] ∧ win1_2.index t = ![t.val, 0] :=
  (by decide +kernel : ∀ t : Fin grid1.N, _)

/-- The array after the region, from what its operands hold. -/
theorem final (c : Dev nD) (A B : ℕ → ℕ → EReal)
    (hA : Is2 (n := 4096) (m := 1024) (V c (Pipeline.arrRef spec1 0)) A)
    (hB : Is2 (n := 2176) (m := 1024) (V c (Pipeline.arrRef spec1 1)) B) :
    Is2 (n := 4096) (m := 2176) ((dat1 V c).arrAt 2 cfg1.N) (mulT 1024 A B) := by
  intro i
  refine congrFun ((dat1 V c).arrAt_eq_of_covers 2 (fun i => ((mulT 1024 A B (i 0 : ℕ) (i 1 : ℕ) : EReal)))
    (by decide +kernel) fun t _ y => ?_) i
  blk_simp
  rw [after1_2]; frame_out
  pointwise [k1_pay1]
  have h0 : ∀ x, iblk1 V c 0 t x = (A (t.val * 1024 + (x 0).val) ((x 1).val)) := by
    intro x
    refine (hA (((cfg1.win 0).blk t).view.emb x)).trans ?_
    blk_simp [idx t]
  have h1 : ∀ x, iblk1 V c 1 t x = (B ((x 0).val) ((x 1).val)) := by
    intro x
    refine (hB (((cfg1.win 1).blk t).view.emb x)).trans ?_
    blk_simp [idx t]
  refine (sum_fin _ (fun k => A (t.val * 1024 + (y 0).val) k * B ((y 1).val) k) fun k => ?_).trans ?_
  · rw [h0, h1]; rfl
  · blk_simp [idx t]
    rfl

end R1

end Cert.Kernel4Ideal.Value
-- ==== Proof.M2.lean ====
module

public import proofs.«01_k».proof.Proof.Gen.Kernel4Ideal.Frame.Region2
public import proofs.«01_k».proof.Proof.Extended

@[expose] public section

set_option maxRecDepth 16384

/-! # The output: the convolution's product added to the input -/

noncomputable section

open Idealize.ShloMosaic Idealize.ShloMosaic.TcCoe Idealize.SL.Sem
open Idealize.ShloMosaic.Pipeline (Dat)

namespace Cert.Kernel4Ideal.Value
open Cert.Kernel4Ideal Cert.Kernel4Ideal.Gen Cert.Ext

variable (V : (c : Dev nD) → (b : Ref sig .tc) → Buf (Elt Ideal) ((c : Thread nD τ).loc b))

namespace R2

/-- Where each window's block sits. -/
theorem idx : ∀ t : Fin cfg2.N, win2_0.index t = ![t.val, 0] ∧ win2_1.index t = ![0, 0] ∧ win2_2.index t = ![t.val, 0] ∧ win2_3.index t = ![t.val, 0] :=
  (by decide +kernel : ∀ t : Fin grid2.N, _)

/-- The array after the region, from what its operands hold. -/
theorem final (c : Dev nD) (A B E : ℕ → ℕ → EReal)
    (hA : Is2 (n := 4096) (m := 512) (V c (Pipeline.arrRef spec2 0)) A)
    (hB : Is2 (n := 512) (m := 1024) (V c (Pipeline.arrRef spec2 1)) B)
    (hE : Is2 (n := 4096) (m := 1024) (V c (Pipeline.arrRef spec2 2)) E) :
    Is2 (n := 4096) (m := 1024) ((dat2 V c).arrAt 3 cfg2.N) (fun i j => mul 512 A B i j + E i j) := by
  intro i
  refine congrFun ((dat2 V c).arrAt_eq_of_covers 3 (fun i => ((mul 512 A B (i 0 : ℕ) (i 1 : ℕ) + E (i 0 : ℕ) (i 1 : ℕ) : EReal)))
    (by decide +kernel) fun t _ y => ?_) i
  blk_simp
  rw [after2_3]; frame_out
  pointwise [k2_pay1]
  have h0 : ∀ x, iblk2 V c 0 t x = (A (t.val * 1024 + (x 0).val) ((x 1).val)) := by
    intro x
    refine (hA (((cfg2.win 0).blk t).view.emb x)).trans ?_
    blk_simp [idx t]
  have h1 : ∀ x, iblk2 V c 1 t x = (B ((x 0).val) ((x 1).val)) := by
    intro x
    refine (hB (((cfg2.win 1).blk t).view.emb x)).trans ?_
    blk_simp [idx t]
  have h2 : ∀ x, iblk2 V c 2 t x = (E (t.val * 1024 + (x 0).val) ((x 1).val)) := by
    intro x
    refine (hE (((cfg2.win 2).blk t).view.emb x)).trans ?_
    blk_simp [idx t]
  refine (congrArg₂ (fun a b : EReal => a + b) (sum_fin _ (fun k => A (t.val * 1024 + (y 0).val) k * B k ((y 1).val)) fun k => ?_) (h2 y)).trans ?_
  · rw [h0, h1]; rfl
  · blk_simp [idx t]; rfl

end R2

end Cert.Kernel4Ideal.Value
-- ==== Proof.M3.lean ====
module

public import proofs.«01_k».proof.Proof.Gen.Kernel4Ideal.Frame.Region3
public import proofs.«01_k».proof.Proof.Extended

@[expose] public section

set_option maxRecDepth 16384

/-! # The output: the heads' product added -/

noncomputable section

open Idealize.ShloMosaic Idealize.ShloMosaic.TcCoe Idealize.SL.Sem
open Idealize.ShloMosaic.Pipeline (Dat)

namespace Cert.Kernel4Ideal.Value
open Cert.Kernel4Ideal Cert.Kernel4Ideal.Gen Cert.Ext

variable (V : (c : Dev nD) → (b : Ref sig .tc) → Buf (Elt Ideal) ((c : Thread nD τ).loc b))

namespace R3

/-- Where each window's block sits. -/
theorem idx : ∀ t : Fin cfg3.N, win3_0.index t = ![t.val, 0] ∧ win3_1.index t = ![0, 0] ∧ win3_2.index t = ![t.val, 0] ∧ win3_3.index t = ![t.val, 0] :=
  (by decide +kernel : ∀ t : Fin grid3.N, _)

/-- The array after the region, from what its operands hold. -/
theorem final (c : Dev nD) (A B E : ℕ → ℕ → EReal)
    (hA : Is2 (n := 4096) (m := 1024) (V c (Pipeline.arrRef spec3 0)) A)
    (hB : Is2 (n := 1024) (m := 1024) (V c (Pipeline.arrRef spec3 1)) B)
    (hE : Is2 (n := 4096) (m := 1024) (V c (Pipeline.arrRef spec3 2)) E) :
    Is2 (n := 4096) (m := 1024) ((dat3 V c).arrAt 3 cfg3.N) (fun i j => mul 1024 A B i j + E i j) := by
  intro i
  refine congrFun ((dat3 V c).arrAt_eq_of_covers 3 (fun i => ((mul 1024 A B (i 0 : ℕ) (i 1 : ℕ) + E (i 0 : ℕ) (i 1 : ℕ) : EReal)))
    (by decide +kernel) fun t _ y => ?_) i
  blk_simp
  rw [after3_3]; frame_out
  pointwise [k3_pay1]
  have h0 : ∀ x, iblk3 V c 0 t x = (A (t.val * 1024 + (x 0).val) ((x 1).val)) := by
    intro x
    refine (hA (((cfg3.win 0).blk t).view.emb x)).trans ?_
    blk_simp [idx t]
  have h1 : ∀ x, iblk3 V c 1 t x = (B ((x 0).val) ((x 1).val)) := by
    intro x
    refine (hB (((cfg3.win 1).blk t).view.emb x)).trans ?_
    blk_simp [idx t]
  have h2 : ∀ x, iblk3 V c 2 t x = (E (t.val * 1024 + (x 0).val) ((x 1).val)) := by
    intro x
    refine (hE (((cfg3.win 2).blk t).view.emb x)).trans ?_
    blk_simp [idx t]
  refine (congrArg₂ (fun a b : EReal => a + b) (sum_fin _ (fun k => A (t.val * 1024 + (y 0).val) k * B k ((y 1).val)) fun k => ?_) (h2 y)).trans ?_
  · rw [h0, h1]; rfl
  · blk_simp [idx t]; rfl

end R3

end Cert.Kernel4Ideal.Value
-- ==== Proof.M4.lean ====
module

public import proofs.«01_k».proof.Proof.Gen.Kernel4Ideal.Frame.Region4
public import proofs.«01_k».proof.Proof.Extended

@[expose] public section

set_option maxRecDepth 16384

/-! # The gradient in the heads' and the convolution's outputs -/

noncomputable section

open Idealize.ShloMosaic Idealize.ShloMosaic.TcCoe Idealize.SL.Sem
open Idealize.ShloMosaic.Pipeline (Dat)

namespace Cert.Kernel4Ideal.Value
open Cert.Kernel4Ideal Cert.Kernel4Ideal.Gen Cert.Ext

variable (V : (c : Dev nD) → (b : Ref sig .tc) → Buf (Elt Ideal) ((c : Thread nD τ).loc b))

namespace R4

/-- Where each window's block sits. -/
theorem idx : ∀ t : Fin cfg4.N, win4_0.index t = ![t.val, 0] ∧ win4_1.index t = ![0, 0] ∧ win4_2.index t = ![t.val, 0] :=
  (by decide +kernel : ∀ t : Fin grid4.N, _)

/-- The array after the region, from what its operands hold. -/
theorem final (c : Dev nD) (A B : ℕ → ℕ → EReal)
    (hA : Is2 (n := 4096) (m := 1024) (V c (Pipeline.arrRef spec4 0)) A)
    (hB : Is2 (n := 1536) (m := 1024) (V c (Pipeline.arrRef spec4 1)) B) :
    Is2 (n := 4096) (m := 1536) ((dat4 V c).arrAt 2 cfg4.N) (mulT 1024 A B) := by
  intro i
  refine congrFun ((dat4 V c).arrAt_eq_of_covers 2 (fun i => ((mulT 1024 A B (i 0 : ℕ) (i 1 : ℕ) : EReal)))
    (by decide +kernel) fun t _ y => ?_) i
  blk_simp
  rw [after4_2]; frame_out
  pointwise [k4_pay1]
  have h0 : ∀ x, iblk4 V c 0 t x = (A (t.val * 1024 + (x 0).val) ((x 1).val)) := by
    intro x
    refine (hA (((cfg4.win 0).blk t).view.emb x)).trans ?_
    blk_simp [idx t]
  have h1 : ∀ x, iblk4 V c 1 t x = (B ((x 0).val) ((x 1).val)) := by
    intro x
    refine (hB (((cfg4.win 1).blk t).view.emb x)).trans ?_
    blk_simp [idx t]
  refine (sum_fin _ (fun k => A (t.val * 1024 + (y 0).val) k * B ((y 1).val) k) fun k => ?_).trans ?_
  · rw [h0, h1]; rfl
  · blk_simp [idx t]
    rfl

end R4

end Cert.Kernel4Ideal.Value
-- ==== Proof.M5.lean ====
module

public import proofs.«01_k».proof.Proof.Gen.Kernel4Ideal.Frame.Region5
public import proofs.«01_k».proof.Proof.Extended

@[expose] public section

set_option maxRecDepth 16384

/-! # The gradient of the output's product over the heads -/

noncomputable section

open Idealize.ShloMosaic Idealize.ShloMosaic.TcCoe Idealize.SL.Sem
open Idealize.ShloMosaic.Pipeline (Dat)

namespace Cert.Kernel4Ideal.Value
open Cert.Kernel4Ideal Cert.Kernel4Ideal.Gen Cert.Ext

variable (V : (c : Dev nD) → (b : Ref sig .tc) → Buf (Elt Ideal) ((c : Thread nD τ).loc b))

namespace R5

/-- Where each window's block sits. -/
theorem idx : ∀ t : Fin cfg5.N, win5_0.index t = ![0, 0] ∧ win5_1.index t = ![0, 0] ∧ win5_2.index t = ![0, 0] :=
  (by decide +kernel : ∀ t : Fin grid5.N, _)

/-- The array after the region, from what its operands hold. -/
theorem final (c : Dev nD) (A B : ℕ → ℕ → EReal)
    (hA : Is2 (n := 4096) (m := 1024) (V c (Pipeline.arrRef spec5 0)) A)
    (hB : Is2 (n := 4096) (m := 1024) (V c (Pipeline.arrRef spec5 1)) B) :
    Is2 (n := 1024) (m := 1024) ((dat5 V c).arrAt 2 cfg5.N) (tMul 4096 A B) := by
  intro i
  refine congrFun ((dat5 V c).arrAt_eq_of_covers 2 (fun i => ((tMul 4096 A B (i 0 : ℕ) (i 1 : ℕ) : EReal)))
    (by decide +kernel) fun t _ y => ?_) i
  blk_simp
  rw [after5_2]; frame_out
  pointwise [k5_pay1]
  have h0 : ∀ x, iblk5 V c 0 t x = (A ((x 0).val) ((x 1).val)) := by
    intro x
    refine (hA (((cfg5.win 0).blk t).view.emb x)).trans ?_
    blk_simp [idx t]
  have h1 : ∀ x, iblk5 V c 1 t x = (B ((x 0).val) ((x 1).val)) := by
    intro x
    refine (hB (((cfg5.win 1).blk t).view.emb x)).trans ?_
    blk_simp [idx t]
  refine (sum_fin _ (fun k => A k ((y 0).val) * B k ((y 1).val)) fun k => ?_).trans ?_
  · rw [h0, h1]; rfl
  · blk_simp [idx t]
    rfl

end R5

end Cert.Kernel4Ideal.Value
-- ==== Proof.M6.lean ====
module

public import proofs.«01_k».proof.Proof.Gen.Kernel4Ideal.Frame.Region6
public import proofs.«01_k».proof.Proof.Extended

@[expose] public section

set_option maxRecDepth 16384

/-! # The gradient of the output's product over the convolution -/

noncomputable section

open Idealize.ShloMosaic Idealize.ShloMosaic.TcCoe Idealize.SL.Sem
open Idealize.ShloMosaic.Pipeline (Dat)

namespace Cert.Kernel4Ideal.Value
open Cert.Kernel4Ideal Cert.Kernel4Ideal.Gen Cert.Ext

variable (V : (c : Dev nD) → (b : Ref sig .tc) → Buf (Elt Ideal) ((c : Thread nD τ).loc b))

namespace R6

/-- Where each window's block sits. -/
theorem idx : ∀ t : Fin cfg6.N, win6_0.index t = ![0, 0] ∧ win6_1.index t = ![0, 0] ∧ win6_2.index t = ![0, 0] :=
  (by decide +kernel : ∀ t : Fin grid6.N, _)

/-- The array after the region, from what its operands hold. -/
theorem final (c : Dev nD) (A B : ℕ → ℕ → EReal)
    (hA : Is2 (n := 4096) (m := 512) (V c (Pipeline.arrRef spec6 0)) A)
    (hB : Is2 (n := 4096) (m := 1024) (V c (Pipeline.arrRef spec6 1)) B) :
    Is2 (n := 512) (m := 1024) ((dat6 V c).arrAt 2 cfg6.N) (tMul 4096 A B) := by
  intro i
  refine congrFun ((dat6 V c).arrAt_eq_of_covers 2 (fun i => ((tMul 4096 A B (i 0 : ℕ) (i 1 : ℕ) : EReal)))
    (by decide +kernel) fun t _ y => ?_) i
  blk_simp
  rw [after6_2]; frame_out
  pointwise [k6_pay1]
  have h0 : ∀ x, iblk6 V c 0 t x = (A ((x 0).val) ((x 1).val)) := by
    intro x
    refine (hA (((cfg6.win 0).blk t).view.emb x)).trans ?_
    blk_simp [idx t]
  have h1 : ∀ x, iblk6 V c 1 t x = (B ((x 0).val) ((x 1).val)) := by
    intro x
    refine (hB (((cfg6.win 1).blk t).view.emb x)).trans ?_
    blk_simp [idx t]
  refine (sum_fin _ (fun k => A k ((y 0).val) * B k ((y 1).val)) fun k => ?_).trans ?_
  · rw [h0, h1]; rfl
  · blk_simp [idx t]
    rfl

end R6

end Cert.Kernel4Ideal.Value
-- ==== Proof.M7.lean ====
module

public import proofs.«01_k».proof.Proof.Gen.Kernel4Ideal.Frame.Region7
public import proofs.«01_k».proof.Proof.Extended

@[expose] public section

set_option maxRecDepth 16384

/-! # The gradient in the normalised rows -/

noncomputable section

open Idealize.ShloMosaic Idealize.ShloMosaic.TcCoe Idealize.SL.Sem
open Idealize.ShloMosaic.Pipeline (Dat)

namespace Cert.Kernel4Ideal.Value
open Cert.Kernel4Ideal Cert.Kernel4Ideal.Gen Cert.Ext

variable (V : (c : Dev nD) → (b : Ref sig .tc) → Buf (Elt Ideal) ((c : Thread nD τ).loc b))

namespace R7

/-- Where each window's block sits. -/
theorem idx : ∀ t : Fin cfg7.N, win7_0.index t = ![t.val, 0] ∧ win7_1.index t = ![0, 0] ∧ win7_2.index t = ![t.val, 0] :=
  (by decide +kernel : ∀ t : Fin grid7.N, _)

/-- The array after the region, from what its operands hold. -/
theorem final (c : Dev nD) (A B : ℕ → ℕ → EReal)
    (hA : Is2 (n := 4096) (m := 2176) (V c (Pipeline.arrRef spec7 0)) A)
    (hB : Is2 (n := 2176) (m := 1024) (V c (Pipeline.arrRef spec7 1)) B) :
    Is2 (n := 4096) (m := 1024) ((dat7 V c).arrAt 2 cfg7.N) (mul 2176 A B) := by
  intro i
  refine congrFun ((dat7 V c).arrAt_eq_of_covers 2 (fun i => ((mul 2176 A B (i 0 : ℕ) (i 1 : ℕ) : EReal)))
    (by decide +kernel) fun t _ y => ?_) i
  blk_simp
  rw [after7_2]; frame_out
  pointwise [k7_pay1]
  have h0 : ∀ x, iblk7 V c 0 t x = (A (t.val * 1024 + (x 0).val) ((x 1).val)) := by
    intro x
    refine (hA (((cfg7.win 0).blk t).view.emb x)).trans ?_
    blk_simp [idx t]
  have h1 : ∀ x, iblk7 V c 1 t x = (B ((x 0).val) ((x 1).val)) := by
    intro x
    refine (hB (((cfg7.win 1).blk t).view.emb x)).trans ?_
    blk_simp [idx t]
  refine (sum_fin _ (fun k => A (t.val * 1024 + (y 0).val) k * B k ((y 1).val)) fun k => ?_).trans ?_
  · rw [h0, h1]; rfl
  · blk_simp [idx t]
    rfl

end R7

end Cert.Kernel4Ideal.Value
-- ==== Proof.M8.lean ====
module

public import proofs.«01_k».proof.Proof.Gen.Kernel4Ideal.Frame.Region8
public import proofs.«01_k».proof.Proof.Extended

@[expose] public section

set_option maxRecDepth 16384

/-! # The gradient of the projection, 128 of its rows a point -/

noncomputable section

open Idealize.ShloMosaic Idealize.ShloMosaic.TcCoe Idealize.SL.Sem
open Idealize.ShloMosaic.Pipeline (Dat)

namespace Cert.Kernel4Ideal.Value
open Cert.Kernel4Ideal Cert.Kernel4Ideal.Gen Cert.Ext

variable (V : (c : Dev nD) → (b : Ref sig .tc) → Buf (Elt Ideal) ((c : Thread nD τ).loc b))

namespace R8

/-- Where each window's block sits. -/
theorem idx : ∀ t : Fin cfg8.N, win8_0.index t = ![0, t.val] ∧ win8_1.index t = ![0, 0] ∧ win8_2.index t = ![t.val, 0] :=
  (by decide +kernel : ∀ t : Fin grid8.N, _)

/-- The array after the region, from what its operands hold. -/
theorem final (c : Dev nD) (A B : ℕ → ℕ → EReal)
    (hA : Is2 (n := 4096) (m := 2176) (V c (Pipeline.arrRef spec8 0)) A)
    (hB : Is2 (n := 4096) (m := 1024) (V c (Pipeline.arrRef spec8 1)) B) :
    Is2 (n := 2176) (m := 1024) ((dat8 V c).arrAt 2 cfg8.N) (tMul 4096 A B) := by
  intro i
  refine congrFun ((dat8 V c).arrAt_eq_of_covers 2 (fun i => ((tMul 4096 A B (i 0 : ℕ) (i 1 : ℕ) : EReal)))
    (by decide +kernel) fun t _ y => ?_) i
  blk_simp
  rw [after8_2]; frame_out
  pointwise [k8_pay1]
  have h0 : ∀ x, iblk8 V c 0 t x = (A ((x 0).val) (t.val * 128 + (x 1).val)) := by
    intro x
    refine (hA (((cfg8.win 0).blk t).view.emb x)).trans ?_
    blk_simp [idx t]
  have h1 : ∀ x, iblk8 V c 1 t x = (B ((x 0).val) ((x 1).val)) := by
    intro x
    refine (hB (((cfg8.win 1).blk t).view.emb x)).trans ?_
    blk_simp [idx t]
  refine (sum_fin _ (fun k => A k (t.val * 128 + (y 0).val) * B k ((y 1).val)) fun k => ?_).trans ?_
  · rw [h0, h1]; rfl
  · blk_simp [idx t]
    rfl

end R8

end Cert.Kernel4Ideal.Value
-- ==== Proof.M9.lean ====
module

public import proofs.«01_k».proof.Proof.Gen.Kernel4Ideal.Frame.Region9
public import proofs.«01_k».proof.Proof.Extended

@[expose] public section

set_option maxRecDepth 16384

/-! # The normalisation's backward pass

Each point of the grid takes 1024 rows: it writes its rows of the input's gradient (twice, the second time in the
narrow format) and adds its rows' share to the gain's gradient, which the first point zeroes. -/

noncomputable section

open Idealize.ShloMosaic Idealize.ShloMosaic.TcCoe Idealize.SL.Sem
open Idealize.ShloMosaic.Pipeline (Dat)

namespace Cert.Kernel4Ideal.Value
open Cert.Kernel4Ideal Cert.Kernel4Ideal.Gen Cert.Ext

namespace R9

/-- `A` from row `o` on. -/
def rows (o : ℕ) (A : ℕ → ℕ → EReal) (i j : ℕ) : EReal := A (o + i) j

section Block
variable (x h r : FVec Ideal S1024x1024 .f32) (g : FVec Ideal S1x1024 .f32) (X H R : ℕ → ℕ → EReal) (N : ℕ → EReal)
variable (hX : Is2 (n := 1024) (m := 1024) x X) (hH : Is2 (n := 1024) (m := 1024) h H)
include hX

/-- The reciprocal root of each row's mean square. -/
theorem root (i : Fin 1024) : k9_pay4 (F := Ideal) x (ix2 i 0) = rr X i.val := by
  pointwise [k9_pay4]
  have hs := sum_fin _ (fun k => X i.val k * X i.val k) fun k : Fin 1024 =>
    congrArg₂ (fun a b : EReal => a * b) (hX (ix2 i k)) (hX (ix2 i k))
  rw [hs]
  rfl

include hH

/-- One block of rows. -/
theorem rowGrad (hN : Is2 (n := 1) (m := 1024) g (fun _ d => N d)) (hR : Is2 (n := 1024) (m := 1024) r R) :
    Is2 (n := 1024) (m := 1024) (k9_pay5 (F := Ideal) x h g r) (fun t d => normX X N H t d + R t d) := by
  have gn : ∀ a b, g (ix2 a b) = N b.val := fun a b => hN _
  have gr := root x X hX
  intro i
  pointwise [k9_pay5, k9_pay3]
  have hs := sum_fin _ (fun k => X (i 0).val k * (H (i 0).val k * N k)) fun k : Fin 1024 =>
    show x (ix2 (i 0) k) * (h (ix2 (i 0) k) * g (ix2 0 k)) = _ from
      congrArg₂ (fun a b : EReal => a * b) (hX (ix2 (i 0) k)) (congrArg₂ (fun a b : EReal => a * b) (hH (ix2 (i 0) k)) (gn 0 k))
  set_option backward.isDefEq.respectTransparency false in
  simp only [hs]
  set_option backward.isDefEq.respectTransparency false in
  simp only [gr, gn, hX i, hH i, hR i]
  rfl

/-- The rows' share of the gain's gradient. -/
theorem gainPart (a : FVec Ideal S1x1024 .f32) (i : S1x1024.Idx) :
    k9_pay1 (F := Ideal) x (k9_pay3 h) (k9_pay4 x) a i
      = a i + ∑ t ∈ Finset.range 1024, H t (i 1).val * X t (i 1).val * rr X t := by
  have gr := root x X hX
  pointwise [k9_pay1, k9_pay3]
  refine congrArg (fun b : EReal => a i + b) (sum_fin _ (fun t => H t (i 1).val * X t (i 1).val * rr X t) fun k => ?_)
  exact congrArg₂ (fun a b : EReal => a * b) (congrArg₂ (fun a b : EReal => a * b) (hH (ix2 k (i 1))) (hX (ix2 k (i 1)))) (gr k)

end Block

/-- Where each window's block sits. -/
theorem idx : ∀ t : Fin cfg9.N, win9_0.index t = ![t.val, 0] ∧ win9_1.index t = ![t.val, 0] ∧ win9_2.index t = ![0, 0]
    ∧ win9_3.index t = ![t.val, 0] ∧ win9_4.index t = ![t.val, 0] ∧ win9_5.index t = ![t.val, 0] ∧ win9_6.index t = ![0, 0] :=
  (by decide +kernel : ∀ t : Fin grid9.N, _)

variable (V : (c : Dev nD) → (b : Ref sig .tc) → Buf (Elt Ideal) ((c : Thread nD τ).loc b))
variable (c : Dev nD) (X H R : ℕ → ℕ → EReal) (N : ℕ → EReal)
    (hH : Is2 (n := 4096) (m := 1024) (V c (Pipeline.arrRef spec9 0)) H)
    (hX : Is2 (n := 4096) (m := 1024) (V c (Pipeline.arrRef spec9 1)) X)
    (hN : Is2 (n := 1) (m := 1024) (V c (Pipeline.arrRef spec9 2)) (fun _ d => N d))
    (hR : Is2 (n := 4096) (m := 1024) (V c (Pipeline.arrRef spec9 3)) R)

include hH in
theorem blk0 (t : Fin cfg9.N) : Is2 (n := 1024) (m := 1024) (iblk9 V c 0 t) (rows (t.val * 1024) H) := by
  intro x
  refine (hH (((cfg9.win 0).blk t).view.emb x)).trans ?_
  blk_simp [idx t]
  rfl

include hX in
theorem blk1 (t : Fin cfg9.N) : Is2 (n := 1024) (m := 1024) (iblk9 V c 1 t) (rows (t.val * 1024) X) := by
  intro x
  refine (hX (((cfg9.win 1).blk t).view.emb x)).trans ?_
  blk_simp [idx t]
  rfl

include hN in
theorem blk2 (t : Fin cfg9.N) : Is2 (n := 1) (m := 1024) (iblk9 V c 2 t) (fun _ d => N d) := by
  intro x
  refine (hN (((cfg9.win 2).blk t).view.emb x)).trans ?_
  blk_simp [idx t]

include hR in
theorem blk3 (t : Fin cfg9.N) : Is2 (n := 1024) (m := 1024) (iblk9 V c 3 t) (rows (t.val * 1024) R) := by
  intro x
  refine (hR (((cfg9.win 3).blk t).view.emb x)).trans ?_
  blk_simp [idx t]
  rfl

include hH hX in
/-- The gain's gradient after point `n`: the rows taken so far. -/
theorem gain : ∀ (n : ℕ) (hn : n < cfg9.N), Is2 (n := 1) (m := 1024) (outsAt9 V c n hn).2.2
    (fun _ d => ∑ t ∈ Finset.range (n * 1024 + 1024), H t d * X t d * rr X t) := by
  intro n
  induction n with
  | zero =>
    intro hn i
    rw [show outsAt9 V c 0 hn = _ from outsAt9_A V c ⟨0, hn⟩ rfl]
    frame_out
    refine (gainPart _ _ (rows (0 * 1024) X) (rows (0 * 1024) H) (blk1 V c X hX ⟨0, hn⟩) (blk0 V c H hH ⟨0, hn⟩) _ i).trans ?_
    rw [show k9_pay2 (F := Ideal) i = 0 by pointwise [k9_pay2], zero_add]
    have e : ∀ A : ℕ → ℕ → EReal, rows (0 * 1024) A = A := fun A => by funext i j; simp [rows]
    simp only [e, Nat.zero_mul, Nat.zero_add]
  | succ n ih =>
    intro hn i
    have h4 : n + 1 < 4 := lt_of_lt_of_eq hn N_9
    rw [show outsAt9 V c (n + 1) hn = _ from outsAt9_B V c ⟨n + 1, hn⟩ (by show ¬ (n + 1) % 4 = 0; omega)]
    frame_out
    refine (gainPart _ _ (rows ((n + 1) * 1024) X) (rows ((n + 1) * 1024) H) (blk1 V c X hX ⟨n + 1, hn⟩) (blk0 V c H hH ⟨n + 1, hn⟩) _ i).trans ?_
    refine (congrArg (fun b : EReal => b + _) (ih (by omega) i)).trans ?_
    rw [show n * 1024 + 1024 = (n + 1) * 1024 by ring]
    exact (Finset.sum_range_add (fun t => H t (i 1).val * X t (i 1).val * rr X t) ((n + 1) * 1024) 1024).symm

include hH hX in
/-- The gradient of the gain. -/
theorem final6 : Is2 (n := 1) (m := 1024) ((dat9 V c).arrAt 6 cfg9.N) (fun _ d => normN X H d) := by
  intro i
  refine (congrFun ((dat9 V c).arrAt_eq_of_covers 6 (fun i => ((normN X H (i 1 : ℕ) : EReal)))
    (by decide +kernel) fun t hf y => ?_) i)
  blk_simp
  rw [after9_6]
  have h3 : t.val = 3 := by
    have h := (flush9_6 t).mp hf
    have := lt_of_lt_of_eq t.isLt N_9
    omega
  refine (gain V c X H hH hX t.val t.isLt y).trans ?_
  rw [h3]
  blk_simp [idx t]
  rfl

section Rows
include hH hX hN hR

/-- What the body leaves of the rows of point `t`, in either format. -/
theorem rowsLeft (t : Fin cfg9.N) :
    Is2 (n := 1024) (m := 1024) (outsAt9 V c t.val t.isLt).1
      (fun i d => normX (rows (t.val * 1024) X) N (rows (t.val * 1024) H) i d + rows (t.val * 1024) R i d)
    ∧ Is2 (n := 1024) (m := 1024) (outsAt9 V c t.val t.isLt).2.1
      (fun i d => normX (rows (t.val * 1024) X) N (rows (t.val * 1024) H) i d + rows (t.val * 1024) R i d) := by
  have h := rowGrad _ _ _ _ (rows (t.val * 1024) X) (rows (t.val * 1024) H) (rows (t.val * 1024) R) N
    (blk1 V c X hX t) (blk0 V c H hH t) (blk2 V c N hN t) (blk3 V c R hR t)
  by_cases h0 : t.val % 4 = 0
  · rw [outsAt9_A V c t h0]
    constructor
    · intro i
      frame_out
      exact h i
    · intro i
      frame_out
      exact h i
  · rw [outsAt9_B V c t h0]
    constructor
    · intro i
      frame_out
      exact h i
    · intro i
      frame_out
      exact h i

/-- The gradient in the input, with the cotangent the layer passes through added. -/
theorem final4 : Is2 (n := 4096) (m := 1024) ((dat9 V c).arrAt 4 cfg9.N) (fun t d => normX X N H t d + R t d) := by
  intro i
  refine (congrFun ((dat9 V c).arrAt_eq_of_covers 4 (fun i => ((normX X N H (i 0 : ℕ) (i 1 : ℕ) + R (i 0 : ℕ) (i 1 : ℕ) : EReal)))
    (by decide +kernel) fun t hf y => ?_) i)
  blk_simp
  rw [after9_4]
  refine ((rowsLeft V c X H R N hH hX hN hR t).1 y).trans ?_
  blk_simp [idx t]
  rfl

/-- The same in the narrow format. -/
theorem final5 : Is2 (n := 4096) (m := 1024) ((dat9 V c).arrAt 5 cfg9.N) (fun t d => normX X N H t d + R t d) := by
  intro i
  refine (congrFun ((dat9 V c).arrAt_eq_of_covers 5 (fun i => ((normX X N H (i 0 : ℕ) (i 1 : ℕ) + R (i 0 : ℕ) (i 1 : ℕ) : EReal)))
    (by decide +kernel) fun t hf y => ?_) i)
  blk_simp
  rw [after9_5]
  refine ((rowsLeft V c X H R N hH hX hN hR t).2 y).trans ?_
  blk_simp [idx t]
  rfl

end Rows

end R9

end Cert.Kernel4Ideal.Value
-- ==== Proof.MChain.lean ====
module

public import proofs.«01_k».proof.Proof.MHost
public import proofs.«01_k».proof.Proof.M0
public import proofs.«01_k».proof.Proof.M1
public import proofs.«01_k».proof.Proof.M2
public import proofs.«01_k».proof.Proof.M3
public import proofs.«01_k».proof.Proof.M4
public import proofs.«01_k».proof.Proof.M5
public import proofs.«01_k».proof.Proof.M6
public import proofs.«01_k».proof.Proof.M7
public import proofs.«01_k».proof.Proof.M8
public import proofs.«01_k».proof.Proof.M9

@[expose] public section

set_option maxRecDepth 16384

/-! # What each buffer of the mixing layer holds where a region reads it, and at the end -/

noncomputable section

open Idealize.ShloMosaic Idealize.ShloMosaic.TcCoe Idealize.SL.Sem

namespace Cert.Kernel4Ideal.Value
open Cert.Kernel4Ideal Cert.Kernel4Ideal.Gen Cert.Ext

variable (m : (ℓ : Loc nD τ sig) → Buf (Elt Ideal) ℓ) (ρ : Dev nD → PrngReg) (c : Dev nD) (p : Mixing)

/-! ## Region 0 -/

theorem at5_v0 (h : Launched m c p) : Is2 (n := 1) (m := 1024) (W5 m ρ c (Proc.devRef .tc main_v0)) (fun _ d => p.N d) :=
  Is2.of_eq (W5_of m ρ c main_v0 (by decide)) (Is2.of_eq (W4_of m ρ c main_v0 (by decide)) (Is2.of_eq (W3_of m ρ c main_v0 (by decide)) (Is2.of_eq (W2_of m ρ c main_v0 (by decide)) (at1_v0 m ρ c p h))))
theorem at6_v31 (h : Launched m c p) : Is2 (n := 4096) (m := 1024) (W6 m ρ c (Proc.devRef .tc main_v31)) p.h :=
  Is2.of_eq (W6_arr m ρ c 2) (R0.final (V5 m ρ) c p.X p.N (at5_arg0 m ρ c p h) (at5_v0 m ρ c p h))

/-! ## Region 1 -/

theorem at6_v8 (h : Launched m c p) : Is2 (n := 2176) (m := 1024) (W6 m ρ c (Proc.devRef .tc main_v8)) p.w :=
  Is2.of_eq (W6_of m ρ c main_v8 (by decide +kernel)) (Is2.of_eq (W5_of m ρ c main_v8 (by decide)) (Is2.of_eq (W4_of m ρ c main_v8 (by decide)) (Is2.of_eq (W3_of m ρ c main_v8 (by decide)) (Is2.of_eq (W2_of m ρ c main_v8 (by decide)) (at1_v8 m ρ c p h)))))
theorem at7_v32 (h : Launched m c p) : Is2 (n := 4096) (m := 2176) (W7 m ρ c (Proc.devRef .tc main_v32)) p.proj :=
  (Is2.of_eq (W7_arr m ρ c 2) (R1.final (V6 m ρ) c p.h p.w (at6_v31 m ρ c p h) (at6_v8 m ρ c p h))).within (fun _ => rfl) fun i => p.call_proj _ _

theorem at7_v15 (h : Launched m c p) : Is2 (n := 1536) (m := 1024) (W7 m ρ c (Proc.devRef .tc main_v15)) p.wo :=
  Is2.of_eq (W7_of m ρ c main_v15 (by decide +kernel)) (Is2.of_eq (W6_of m ρ c main_v15 (by decide +kernel)) (Is2.of_eq (W5_of m ρ c main_v15 (by decide)) (Is2.of_eq (W4_of m ρ c main_v15 (by decide)) (at3_v15 m ρ c p h))))
theorem at8_v33 (h : Launched m c p) : Is2 (n := 512) (m := 1024) (W8 m ρ c (Proc.devRef .tc main_v33)) p.woB := by
  intro i
  unfold_abbrev_sides
  after_results
  pointwise
  refine (at7_v15 m ρ c p h _).trans (congrArg (fun r : EReal => (r : EReal)) ?_)
  show p.wo (1024 + (i 0 : ℕ)) (i 1 : ℕ) = _
  unfold Mixing.wo
  rw [if_neg (by omega), Nat.add_sub_cancel_left]

/-! ## Region 2 -/

theorem at8_v20 (h : Launched m c p) : Is2 (n := 4096) (m := 512) (W8 m ρ c (Proc.devRef .tc main_v20)) p.B :=
  Is2.of_eq (W8_of m ρ c main_v20 (by decide)) (Is2.of_eq (W7_of m ρ c main_v20 (by decide +kernel)) (Is2.of_eq (W6_of m ρ c main_v20 (by decide +kernel)) (at5_v20 m ρ c p h)))
theorem at8_arg0 (h : Launched m c p) : Is2 (n := 4096) (m := 1024) (W8 m ρ c (Proc.devRef .tc main_arg0)) p.X :=
  Is2.of_eq (W8_of m ρ c main_arg0 (by decide)) (Is2.of_eq (W7_of m ρ c main_arg0 (by decide +kernel)) (Is2.of_eq (W6_of m ρ c main_arg0 (by decide +kernel)) (at5_arg0 m ρ c p h)))
theorem at9_v34 (h : Launched m c p) : Is2 (n := 4096) (m := 1024) (W9 m ρ c (Proc.devRef .tc main_v34)) (fun t d => mul 512 p.B p.woB t d + p.X t d) :=
  Is2.of_eq (W9_arr m ρ c 3) (R2.final (V8 m ρ) c p.B p.woB p.X (at8_v20 m ρ c p h) (at8_v33 m ρ c p h) (at8_arg0 m ρ c p h))

theorem at9_v15 (h : Launched m c p) : Is2 (n := 1536) (m := 1024) (W9 m ρ c (Proc.devRef .tc main_v15)) p.wo :=
  Is2.of_eq (W9_of m ρ c main_v15 (by decide +kernel)) (Is2.of_eq (W8_of m ρ c main_v15 (by decide)) (at7_v15 m ρ c p h))
theorem at10_v35 (h : Launched m c p) : Is2 (n := 1024) (m := 1024) (W10 m ρ c (Proc.devRef .tc main_v35)) p.woA := by
  intro i
  unfold_abbrev_sides
  after_results
  pointwise
  refine (at9_v15 m ρ c p h _).trans (congrArg (fun r : EReal => (r : EReal)) ?_)
  show p.wo (i 0 : ℕ) (i 1 : ℕ) = _
  exact if_pos (i 0).isLt

/-! ## Region 3 -/

theorem at10_v19 (h : Launched m c p) : Is2 (n := 4096) (m := 1024) (W10 m ρ c (Proc.devRef .tc main_v19)) p.o :=
  Is2.of_eq (W10_of m ρ c main_v19 (by decide)) (Is2.of_eq (W9_of m ρ c main_v19 (by decide +kernel)) (Is2.of_eq (W8_of m ρ c main_v19 (by decide)) (Is2.of_eq (W7_of m ρ c main_v19 (by decide +kernel)) (Is2.of_eq (W6_of m ρ c main_v19 (by decide +kernel)) (at5_v19 m ρ c p h)))))
theorem at10_v34 (h : Launched m c p) : Is2 (n := 4096) (m := 1024) (W10 m ρ c (Proc.devRef .tc main_v34)) (fun t d => mul 512 p.B p.woB t d + p.X t d) :=
  Is2.of_eq (W10_of m ρ c main_v34 (by decide)) (at9_v34 m ρ c p h)
theorem at11_v36 (h : Launched m c p) : Is2 (n := 4096) (m := 1024) (W11 m ρ c (Proc.devRef .tc main_v36)) p.y :=
  (Is2.of_eq (W11_arr m ρ c 3) (R3.final (V10 m ρ) c p.o p.woA _ (at10_v19 m ρ c p h) (at10_v35 m ρ c p h) (at10_v34 m ρ c p h))).within (fun _ => rfl) fun i => p.call_y _ _

/-! ## Region 4 -/

theorem at11_v21 (h : Launched m c p) : Is2 (n := 4096) (m := 1024) (W11 m ρ c (Proc.devRef .tc main_v21)) p.G :=
  Is2.of_eq (W11_of m ρ c main_v21 (by decide +kernel)) (Is2.of_eq (W10_of m ρ c main_v21 (by decide)) (Is2.of_eq (W9_of m ρ c main_v21 (by decide +kernel)) (Is2.of_eq (W8_of m ρ c main_v21 (by decide)) (Is2.of_eq (W7_of m ρ c main_v21 (by decide +kernel)) (Is2.of_eq (W6_of m ρ c main_v21 (by decide +kernel)) (at5_v21 m ρ c p h))))))
theorem at11_v15 (h : Launched m c p) : Is2 (n := 1536) (m := 1024) (W11 m ρ c (Proc.devRef .tc main_v15)) p.wo :=
  Is2.of_eq (W11_of m ρ c main_v15 (by decide +kernel)) (Is2.of_eq (W10_of m ρ c main_v15 (by decide)) (at9_v15 m ρ c p h))
theorem at12_v37 (h : Launched m c p) : Is2 (n := 4096) (m := 1536) (W12 m ρ c (Proc.devRef .tc main_v37)) p.dmix :=
  (Is2.of_eq (W12_arr m ρ c 2) (R4.final (V11 m ρ) c p.G p.wo (at11_v21 m ρ c p h) (at11_v15 m ρ c p h))).within (fun _ => rfl) fun i => p.call_dmix _ _

/-! ## Region 5 -/

theorem at12_v19 (h : Launched m c p) : Is2 (n := 4096) (m := 1024) (W12 m ρ c (Proc.devRef .tc main_v19)) p.o :=
  Is2.of_eq (W12_of m ρ c main_v19 (by decide +kernel)) (Is2.of_eq (W11_of m ρ c main_v19 (by decide +kernel)) (at10_v19 m ρ c p h))
theorem at12_v21 (h : Launched m c p) : Is2 (n := 4096) (m := 1024) (W12 m ρ c (Proc.devRef .tc main_v21)) p.G :=
  Is2.of_eq (W12_of m ρ c main_v21 (by decide +kernel)) (at11_v21 m ρ c p h)
theorem at13_v38 (h : Launched m c p) : Is2 (n := 1024) (m := 1024) (W13 m ρ c (Proc.devRef .tc main_v38)) p.dOa :=
  (Is2.of_eq (W13_arr m ρ c 2) (R5.final (V12 m ρ) c p.o p.G (at12_v19 m ρ c p h) (at12_v21 m ρ c p h))).within (fun _ => rfl) fun i => p.call_dOa _ _ (i 0).isLt

/-! ## Region 6 -/

theorem at13_v20 (h : Launched m c p) : Is2 (n := 4096) (m := 512) (W13 m ρ c (Proc.devRef .tc main_v20)) p.B :=
  Is2.of_eq (W13_of m ρ c main_v20 (by decide +kernel)) (Is2.of_eq (W12_of m ρ c main_v20 (by decide +kernel)) (Is2.of_eq (W11_of m ρ c main_v20 (by decide +kernel)) (Is2.of_eq (W10_of m ρ c main_v20 (by decide)) (Is2.of_eq (W9_of m ρ c main_v20 (by decide +kernel)) (at8_v20 m ρ c p h)))))
theorem at13_v21 (h : Launched m c p) : Is2 (n := 4096) (m := 1024) (W13 m ρ c (Proc.devRef .tc main_v21)) p.G :=
  Is2.of_eq (W13_of m ρ c main_v21 (by decide +kernel)) (at12_v21 m ρ c p h)
theorem at14_v39 (h : Launched m c p) : Is2 (n := 512) (m := 1024) (W14 m ρ c (Proc.devRef .tc main_v39)) p.dOb :=
  (Is2.of_eq (W14_arr m ρ c 2) (R6.final (V13 m ρ) c p.B p.G (at13_v20 m ρ c p h) (at13_v21 m ρ c p h))).within (fun _ => rfl) fun i => p.call_dOb _ _

/-! ## Region 7 -/

theorem at14_v30 (h : Launched m c p) : Is2 (n := 4096) (m := 2176) (W14 m ρ c (Proc.devRef .tc main_v30)) p.dp :=
  Is2.of_eq (W14_of m ρ c main_v30 (by decide +kernel)) (Is2.of_eq (W13_of m ρ c main_v30 (by decide +kernel)) (Is2.of_eq (W12_of m ρ c main_v30 (by decide +kernel)) (Is2.of_eq (W11_of m ρ c main_v30 (by decide +kernel)) (Is2.of_eq (W10_of m ρ c main_v30 (by decide)) (Is2.of_eq (W9_of m ρ c main_v30 (by decide +kernel)) (Is2.of_eq (W8_of m ρ c main_v30 (by decide)) (Is2.of_eq (W7_of m ρ c main_v30 (by decide +kernel)) (Is2.of_eq (W6_of m ρ c main_v30 (by decide +kernel)) (at5_v30 m ρ c p h)))))))))
theorem at14_v8 (h : Launched m c p) : Is2 (n := 2176) (m := 1024) (W14 m ρ c (Proc.devRef .tc main_v8)) p.w :=
  Is2.of_eq (W14_of m ρ c main_v8 (by decide +kernel)) (Is2.of_eq (W13_of m ρ c main_v8 (by decide +kernel)) (Is2.of_eq (W12_of m ρ c main_v8 (by decide +kernel)) (Is2.of_eq (W11_of m ρ c main_v8 (by decide +kernel)) (Is2.of_eq (W10_of m ρ c main_v8 (by decide)) (Is2.of_eq (W9_of m ρ c main_v8 (by decide +kernel)) (Is2.of_eq (W8_of m ρ c main_v8 (by decide)) (Is2.of_eq (W7_of m ρ c main_v8 (by decide +kernel)) (at6_v8 m ρ c p h))))))))
theorem at15_v40 (h : Launched m c p) : Is2 (n := 4096) (m := 1024) (W15 m ρ c (Proc.devRef .tc main_v40)) p.dh :=
  (Is2.of_eq (W15_arr m ρ c 2) (R7.final (V14 m ρ) c p.dp p.w (at14_v30 m ρ c p h) (at14_v8 m ρ c p h))).within (fun _ => rfl) fun i => p.call_dh _ _

/-! ## Region 8 -/

theorem at15_v30 (h : Launched m c p) : Is2 (n := 4096) (m := 2176) (W15 m ρ c (Proc.devRef .tc main_v30)) p.dp :=
  Is2.of_eq (W15_of m ρ c main_v30 (by decide +kernel)) (at14_v30 m ρ c p h)
theorem at15_v31 (h : Launched m c p) : Is2 (n := 4096) (m := 1024) (W15 m ρ c (Proc.devRef .tc main_v31)) p.h :=
  Is2.of_eq (W15_of m ρ c main_v31 (by decide +kernel)) (Is2.of_eq (W14_of m ρ c main_v31 (by decide +kernel)) (Is2.of_eq (W13_of m ρ c main_v31 (by decide +kernel)) (Is2.of_eq (W12_of m ρ c main_v31 (by decide +kernel)) (Is2.of_eq (W11_of m ρ c main_v31 (by decide +kernel)) (Is2.of_eq (W10_of m ρ c main_v31 (by decide)) (Is2.of_eq (W9_of m ρ c main_v31 (by decide +kernel)) (Is2.of_eq (W8_of m ρ c main_v31 (by decide)) (Is2.of_eq (W7_of m ρ c main_v31 (by decide +kernel)) (at6_v31 m ρ c p h)))))))))
theorem at16_v41 (h : Launched m c p) : Is2 (n := 2176) (m := 1024) (W16 m ρ c (Proc.devRef .tc main_v41)) p.gW :=
  (Is2.of_eq (W16_arr m ρ c 2) (R8.final (V15 m ρ) c p.dp p.h (at15_v30 m ρ c p h) (at15_v31 m ρ c p h))).within (fun _ => rfl) fun i => p.call_gW _ _

/-! ## Region 9 -/

theorem at16_v40 (h : Launched m c p) : Is2 (n := 4096) (m := 1024) (W16 m ρ c (Proc.devRef .tc main_v40)) p.dh :=
  Is2.of_eq (W16_of m ρ c main_v40 (by decide +kernel)) (at15_v40 m ρ c p h)
theorem at16_arg0 (h : Launched m c p) : Is2 (n := 4096) (m := 1024) (W16 m ρ c (Proc.devRef .tc main_arg0)) p.X :=
  Is2.of_eq (W16_of m ρ c main_arg0 (by decide +kernel)) (Is2.of_eq (W15_of m ρ c main_arg0 (by decide +kernel)) (Is2.of_eq (W14_of m ρ c main_arg0 (by decide +kernel)) (Is2.of_eq (W13_of m ρ c main_arg0 (by decide +kernel)) (Is2.of_eq (W12_of m ρ c main_arg0 (by decide +kernel)) (Is2.of_eq (W11_of m ρ c main_arg0 (by decide +kernel)) (Is2.of_eq (W10_of m ρ c main_arg0 (by decide)) (Is2.of_eq (W9_of m ρ c main_arg0 (by decide +kernel)) (at8_arg0 m ρ c p h))))))))
theorem at16_v0 (h : Launched m c p) : Is2 (n := 1) (m := 1024) (W16 m ρ c (Proc.devRef .tc main_v0)) (fun _ d => p.N d) :=
  Is2.of_eq (W16_of m ρ c main_v0 (by decide +kernel)) (Is2.of_eq (W15_of m ρ c main_v0 (by decide +kernel)) (Is2.of_eq (W14_of m ρ c main_v0 (by decide +kernel)) (Is2.of_eq (W13_of m ρ c main_v0 (by decide +kernel)) (Is2.of_eq (W12_of m ρ c main_v0 (by decide +kernel)) (Is2.of_eq (W11_of m ρ c main_v0 (by decide +kernel)) (Is2.of_eq (W10_of m ρ c main_v0 (by decide)) (Is2.of_eq (W9_of m ρ c main_v0 (by decide +kernel)) (Is2.of_eq (W8_of m ρ c main_v0 (by decide)) (Is2.of_eq (W7_of m ρ c main_v0 (by decide +kernel)) (Is2.of_eq (W6_of m ρ c main_v0 (by decide +kernel)) (at5_v0 m ρ c p h)))))))))))
theorem at16_arg7 (h : Launched m c p) : Is2 (n := 4096) (m := 1024) (W16 m ρ c (Proc.devRef .tc main_arg7)) p.G :=
  Is2.of_eq (W16_of m ρ c main_arg7 (by decide +kernel)) (Is2.of_eq (W15_of m ρ c main_arg7 (by decide +kernel)) (Is2.of_eq (W14_of m ρ c main_arg7 (by decide +kernel)) (Is2.of_eq (W13_of m ρ c main_arg7 (by decide +kernel)) (Is2.of_eq (W12_of m ρ c main_arg7 (by decide +kernel)) (Is2.of_eq (W11_of m ρ c main_arg7 (by decide +kernel)) (Is2.of_eq (W10_of m ρ c main_arg7 (by decide)) (Is2.of_eq (W9_of m ρ c main_arg7 (by decide +kernel)) (Is2.of_eq (W8_of m ρ c main_arg7 (by decide)) (Is2.of_eq (W7_of m ρ c main_arg7 (by decide +kernel)) (Is2.of_eq (W6_of m ρ c main_arg7 (by decide +kernel)) (at5_arg7 m ρ c p h)))))))))))
theorem at17_v42_0 (h : Launched m c p) : Is2 (n := 4096) (m := 1024) (W17 m ρ c (Proc.devRef .tc main_v42_0)) p.dx :=
  Is2.of_eq (W17_arr m ρ c 4) (R9.final4 (V16 m ρ) c p.X p.dh p.G p.N (at16_v40 m ρ c p h) (at16_arg0 m ρ c p h) (at16_v0 m ρ c p h) (at16_arg7 m ρ c p h))
theorem at17_v42_1 (h : Launched m c p) : Is2 (n := 4096) (m := 1024) (W17 m ρ c (Proc.devRef .tc main_v42_1)) p.dx :=
  Is2.of_eq (W17_arr m ρ c 5) (R9.final5 (V16 m ρ) c p.X p.dh p.G p.N (at16_v40 m ρ c p h) (at16_arg0 m ρ c p h) (at16_v0 m ρ c p h) (at16_arg7 m ρ c p h))
theorem at17_v42_2 (h : Launched m c p) : Is2 (n := 1) (m := 1024) (W17 m ρ c (Proc.devRef .tc main_v42_2)) (fun _ d => p.dn d) :=
  Is2.of_eq (W17_arr m ρ c 6) (R9.final6 (V16 m ρ) c p.X p.dh (at16_v40 m ρ c p h) (at16_arg0 m ρ c p h))

/-! ## The end -/

theorem at17_v32 (h : Launched m c p) : Is2 (n := 4096) (m := 2176) (W17 m ρ c (Proc.devRef .tc main_v32)) p.proj :=
  Is2.of_eq (W17_of m ρ c main_v32 (by decide +kernel)) (Is2.of_eq (W16_of m ρ c main_v32 (by decide +kernel)) (Is2.of_eq (W15_of m ρ c main_v32 (by decide +kernel)) (Is2.of_eq (W14_of m ρ c main_v32 (by decide +kernel)) (Is2.of_eq (W13_of m ρ c main_v32 (by decide +kernel)) (Is2.of_eq (W12_of m ρ c main_v32 (by decide +kernel)) (Is2.of_eq (W11_of m ρ c main_v32 (by decide +kernel)) (Is2.of_eq (W10_of m ρ c main_v32 (by decide)) (Is2.of_eq (W9_of m ρ c main_v32 (by decide +kernel)) (Is2.of_eq (W8_of m ρ c main_v32 (by decide)) (at7_v32 m ρ c p h))))))))))
theorem at17_v36 (h : Launched m c p) : Is2 (n := 4096) (m := 1024) (W17 m ρ c (Proc.devRef .tc main_v36)) p.y :=
  Is2.of_eq (W17_of m ρ c main_v36 (by decide +kernel)) (Is2.of_eq (W16_of m ρ c main_v36 (by decide +kernel)) (Is2.of_eq (W15_of m ρ c main_v36 (by decide +kernel)) (Is2.of_eq (W14_of m ρ c main_v36 (by decide +kernel)) (Is2.of_eq (W13_of m ρ c main_v36 (by decide +kernel)) (Is2.of_eq (W12_of m ρ c main_v36 (by decide +kernel)) (at11_v36 m ρ c p h))))))
theorem at17_v37 (h : Launched m c p) : Is2 (n := 4096) (m := 1536) (W17 m ρ c (Proc.devRef .tc main_v37)) p.dmix :=
  Is2.of_eq (W17_of m ρ c main_v37 (by decide +kernel)) (Is2.of_eq (W16_of m ρ c main_v37 (by decide +kernel)) (Is2.of_eq (W15_of m ρ c main_v37 (by decide +kernel)) (Is2.of_eq (W14_of m ρ c main_v37 (by decide +kernel)) (Is2.of_eq (W13_of m ρ c main_v37 (by decide +kernel)) (at12_v37 m ρ c p h)))))
theorem at17_v38 (h : Launched m c p) : Is2 (n := 1024) (m := 1024) (W17 m ρ c (Proc.devRef .tc main_v38)) p.dOa :=
  Is2.of_eq (W17_of m ρ c main_v38 (by decide +kernel)) (Is2.of_eq (W16_of m ρ c main_v38 (by decide +kernel)) (Is2.of_eq (W15_of m ρ c main_v38 (by decide +kernel)) (Is2.of_eq (W14_of m ρ c main_v38 (by decide +kernel)) (at13_v38 m ρ c p h))))
theorem at17_v39 (h : Launched m c p) : Is2 (n := 512) (m := 1024) (W17 m ρ c (Proc.devRef .tc main_v39)) p.dOb :=
  Is2.of_eq (W17_of m ρ c main_v39 (by decide +kernel)) (Is2.of_eq (W16_of m ρ c main_v39 (by decide +kernel)) (Is2.of_eq (W15_of m ρ c main_v39 (by decide +kernel)) (at14_v39 m ρ c p h)))
theorem at17_v41 (h : Launched m c p) : Is2 (n := 2176) (m := 1024) (W17 m ρ c (Proc.devRef .tc main_v41)) p.gW :=
  Is2.of_eq (W17_of m ρ c main_v41 (by decide +kernel)) (at16_v41 m ρ c p h)

end Cert.Kernel4Ideal.Value

end
-- ==== Proof.MRun.lean ====
module

public import proofs.«01_k».proof.Proof.Gen.Kernel4Ideal.Frame

@[expose] public section

set_option maxRecDepth 16384

/-! # The run of the ends of a mixing layer, with their nine results at the contents the last region leaves -/

noncomputable section

namespace Cert.Kernel4Ideal.Value

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends, with each result at the contents of the last boundary and every argument as launched. -/
theorem run : θ_run defs (onTc (τ := τ) (main (F := F))) ⟨m, fun _ => 0, ρ⟩ (fun r => ∀ c : Dev nD,
      r.2.mem ((c.tc : Thread nD τ).loc main_v32) = W17 m ρ c (Proc.devRef .tc main_v32)
      ∧ r.2.mem ((c.tc : Thread nD τ).loc main_v36) = W17 m ρ c (Proc.devRef .tc main_v36)
      ∧ r.2.mem ((c.tc : Thread nD τ).loc main_v37) = W17 m ρ c (Proc.devRef .tc main_v37)
      ∧ r.2.mem ((c.tc : Thread nD τ).loc main_v38) = W17 m ρ c (Proc.devRef .tc main_v38)
      ∧ r.2.mem ((c.tc : Thread nD τ).loc main_v39) = W17 m ρ c (Proc.devRef .tc main_v39)
      ∧ r.2.mem ((c.tc : Thread nD τ).loc main_v41) = W17 m ρ c (Proc.devRef .tc main_v41)
      ∧ r.2.mem ((c.tc : Thread nD τ).loc main_v42_0) = W17 m ρ c (Proc.devRef .tc main_v42_0)
      ∧ r.2.mem ((c.tc : Thread nD τ).loc main_v42_1) = W17 m ρ c (Proc.devRef .tc main_v42_1)
      ∧ r.2.mem ((c.tc : Thread nD τ).loc main_v42_2) = W17 m ρ c (Proc.devRef .tc main_v42_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h _ => fun c =>
      ⟨h c _ (mem_uc main_v32 (by decide)),
       h c _ (mem_uc main_v36 (by decide)),
       h c _ (mem_uc main_v37 (by decide)),
       h c _ (mem_uc main_v38 (by decide)),
       h c _ (mem_uc main_v39 (by decide)),
       h c _ (mem_uc main_v41 (by decide)),
       h c _ (mem_uc main_v42_0 (by decide)),
       h c _ (mem_uc main_v42_1 (by decide)),
       h c _ (mem_uc main_v42_2 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c)⟩)

end Cert.Kernel4Ideal.Value

end
-- ==== Proof.Latent.lean ====
module

public import proofs.«01_k».proof.Proof.Mixed

@[expose] public section

set_option maxRecDepth 16384

/-! # The products behind the latents

The queries' product has 768 columns, eight heads of 96; the calls take and give each head's 96 before 32 of zeros
(`front`). -/

noncomputable section

open Idealize.ShloMosaic

namespace Cert.Ext

/-- The columns of head `h`, 96 of them. -/
def cut96 (f : ℕ → ℕ → EReal) (r h d : ℕ) : EReal := f r (h * 96 + d)
/-- Each head's 96 columns before 32 zeros. -/
def front (f : ℕ → ℕ → EReal) : ℕ → ℕ → EReal := wide 0 96 (cut96 f)

/-- A weighted sum of rows so laid out. -/
theorem front_sum (K : ℕ) (c : ℕ → EReal) (f : ℕ → ℕ → EReal) (j : ℕ) :
    ∑ k ∈ Finset.range K, c k * front f k j = front (fun _ j => ∑ k ∈ Finset.range K, c k * f k j) 0 j := by
  unfold front wide cut96
  split_ifs <;> simp

/-- The inner product of two rows so laid out. -/
theorem front_dot (f g : ℕ → ℕ → EReal) (r s : ℕ) :
    ∑ j ∈ Finset.range 1024, front f r j * front g s j = ∑ j ∈ Finset.range 768, f r j * g s j := by
  have key : ∀ n : ℕ, ∑ j ∈ Finset.range (n * 128), front f r j * front g s j = ∑ j ∈ Finset.range (n * 96), f r j * g s j := by
    intro n
    induction n with
    | zero => simp
    | succ n ih =>
      have w : ∀ j ∈ Finset.range 96, front f r (n * 128 + j) * front g s (n * 128 + j) = f r (n * 96 + j) * g s (n * 96 + j) := fun j hj => by
        have h := Finset.mem_range.mp hj
        unfold front
        rw [wide_at _ _ _ _ _ _ (by omega), wide_at _ _ _ _ _ _ (by omega), if_pos (by omega), if_pos (by omega)]
        rfl
      have z : ∀ j ∈ Finset.range 32, front f r (n * 128 + 96 + j) * front g s (n * 128 + 96 + j) = 0 := fun j hj => by
        have h := Finset.mem_range.mp hj
        unfold front
        rw [Nat.add_assoc, wide_at _ _ _ _ _ _ (by omega), wide_at _ _ _ _ _ _ (by omega), if_neg (by omega), if_neg (by omega), mul_zero]
      rw [show (n + 1) * 128 = n * 128 + 96 + 32 by ring, show (n + 1) * 96 = n * 96 + 96 by ring]
      simp only [Finset.sum_range_add]
      rw [ih, Finset.sum_congr rfl w, Finset.sum_congr rfl z, Finset.sum_const_zero, add_zero]
  exact key 8

/-- The arguments: the normalised latents of the queries and of the keys and values, the two matrices, and the gradients
of the two products. -/
structure Latents where
  C : ℕ → ℕ → EReal
  V : ℕ → ℕ → EReal
  U : ℕ → ℕ → EReal
  K : ℕ → ℕ → EReal
  Q : ℕ → ℕ → EReal
  D : ℕ → ℕ → EReal

namespace Latents
variable (p : Latents)

/-- The queries' matrix, the keys' and values' matrix and the queries' gradient as the calls take them. -/
def u (j k : ℕ) : EReal := front p.U k j
def kT : ℕ → ℕ → EReal := across p.K
def dq : ℕ → ℕ → EReal := front p.Q
/-- The two products. -/
def q : ℕ → ℕ → EReal := front (mul 256 p.C p.U)
def kv : ℕ → ℕ → EReal := mul 256 p.V p.K
/-- The gradients in the latents. -/
def dC : ℕ → ℕ → EReal := mulT 768 p.Q p.U
def dV : ℕ → ℕ → EReal := mulT 1024 p.D p.K
/-- The gradients of the matrices, transposed. -/
def dU (j k : ℕ) : EReal := front (across (tMul 4096 p.Q p.C)) k j
def dK : ℕ → ℕ → EReal := tMul 4096 p.D p.V

theorem call_q (t j : ℕ) : mulT 256 p.C p.u t j = p.q t j := front_sum _ _ _ _
theorem call_kv (t j : ℕ) : mulT 256 p.V p.kT t j = p.kv t j := rfl
theorem call_dC (t k : ℕ) : mul 1024 p.dq p.u t k = p.dC t k := front_dot _ _ _ _
theorem call_dV (t k : ℕ) : mul 1024 p.D p.kT t k = p.dV t k := rfl
theorem call_dU (j k : ℕ) : tMul 4096 p.dq p.C j k = p.dU j k := by
  have e : tMul 4096 p.dq p.C j k = ∑ t ∈ Finset.range 4096, p.C t k * front p.Q t j := Finset.sum_congr rfl fun _ _ => mul_comm _ _
  rw [e, front_sum]
  unfold dU front wide cut96
  split_ifs
  · exact Finset.sum_congr rfl fun _ _ => mul_comm _ _
  · rfl

end Latents

/-! ## Arrays in the calls' layout -/

section
variable {m : ℕ} {f : ℕ → ℕ → EReal}

/-- A matrix of 768 columns as eight heads. -/
theorem heads96 {A : (⟨2, ![m, 768]⟩ : Shape).Idx → EReal} (hA : Is2 A f) (hc : (⟨2, ![m, 768]⟩ : Shape).ShapeCasts ⟨3, ![m, 8, 96]⟩) :
    Is3 (shapeCast ⟨3, ![m, 8, 96]⟩ A hc) (cut96 f) := fun i => by
  have h1 : (i 1 : ℕ) < 8 := (i 1).isLt
  have h2 : (i 2 : ℕ) < 96 := (i 2).isLt
  let k : (⟨2, ![m, 768]⟩ : Shape).Idx := fun q => match q with
    | ⟨0, _⟩ => ⟨(i 0 : ℕ), (i 0).isLt⟩
    | ⟨1, _⟩ => ⟨(i 1 : ℕ) * 96 + (i 2 : ℕ), by show (i 1 : ℕ) * 96 + (i 2 : ℕ) < 768; omega⟩
  rw [shapeCast_apply A hc i k (by
    rw [Shape.rowMajor_val_three, Shape.rowMajor_val_two]
    show (i 0 : ℕ) * 768 + ((i 1 : ℕ) * 96 + (i 2 : ℕ)) = ((i 0 : ℕ) * 8 + (i 1 : ℕ)) * 96 + (i 2 : ℕ)
    omega)]
  exact hA k

/-- A matrix of 768 rows as eight heads. -/
theorem rowHeads96 {A : (⟨2, ![768, m]⟩ : Shape).Idx → EReal} (hA : Is2 A f) (hc : (⟨2, ![768, m]⟩ : Shape).ShapeCasts ⟨3, ![8, 96, m]⟩) :
    Is3 (shapeCast ⟨3, ![8, 96, m]⟩ A hc) (fun h d j => f (h * 96 + d) j) := fun i => by
  have h0 : (i 0 : ℕ) < 8 := (i 0).isLt
  have h1 : (i 1 : ℕ) < 96 := (i 1).isLt
  let k : (⟨2, ![768, m]⟩ : Shape).Idx := fun q => match q with
    | ⟨0, _⟩ => ⟨(i 0 : ℕ) * 96 + (i 1 : ℕ), by show (i 0 : ℕ) * 96 + (i 1 : ℕ) < 768; omega⟩
    | ⟨1, _⟩ => ⟨(i 2 : ℕ), (i 2).isLt⟩
  rw [shapeCast_apply A hc i k (by
    rw [Shape.rowMajor_val_three, Shape.rowMajor_val_two]
    rfl)]
  exact hA k

/-- Each head's rows before 32 rows of zeros. -/
theorem rowPad96 {A : (⟨3, ![8, 96, m]⟩ : Shape).Idx → EReal} {g : ℕ → ℕ → ℕ → EReal} (hA : Is3 A g) {u : Shape} {z : u.Idx → EReal}
    (hp : (⟨3, ![8, 96, m]⟩ : Shape).Pads ![0, 0, 0] ![0, 32, 0] ![0, 0, 0] ⟨3, ![8, 128, m]⟩) (hu : 0 < u.numel)
    (hz : z (Shape.Idx.first hu) = 0) :
    Is3 (Idealize.ShloMosaic.pad ⟨3, ![8, 128, m]⟩ ![0, 0, 0] ![0, 32, 0] ![0, 0, 0] A z hp hu)
      (fun h d j => if 0 ≤ d ∧ d - 0 < 96 then g h (d - 0) j else 0) := fun i => by
  show _ = ((if 0 ≤ (i 1 : ℕ) ∧ (i 1 : ℕ) - 0 < 96 then g (i 0 : ℕ) ((i 1 : ℕ) - 0) (i 2 : ℕ) else 0 : EReal) : EReal)
  by_cases hi : 0 ≤ (i 1 : ℕ) ∧ (i 1 : ℕ) - 0 < 96
  · rw [if_pos hi]
    let k : (⟨3, ![8, 96, m]⟩ : Shape).Idx := fun q => match q with
      | ⟨0, _⟩ => ⟨(i 0 : ℕ), (i 0).isLt⟩
      | ⟨1, _⟩ => ⟨(i 1 : ℕ) - 0, hi.2⟩
      | ⟨2, _⟩ => ⟨(i 2 : ℕ), (i 2).isLt⟩
    rw [pad_apply_of_inside _ _ _ A z hp hu i k fun q => by
      match q with
      | ⟨0, _⟩ => show (i 0 : ℕ) = 0 + (i 0 : ℕ) * 1; omega
      | ⟨1, _⟩ => show (i 1 : ℕ) = 0 + ((i 1 : ℕ) - 0) * 1; omega
      | ⟨2, _⟩ => show (i 2 : ℕ) = 0 + (i 2 : ℕ) * 1; omega]
    exact hA k
  · rw [if_neg hi, pad_apply_of_not_inside _ _ _ A z hp hu i (1 : Fin 3) fun hq => hi ?_]
    · exact hz
    · have h2 : ((i 1 : ℕ) - 0) / (0 + 1) < 96 := hq.2.2
      exact ⟨Nat.zero_le _, by omega⟩

end

end Cert.Ext

end
-- ==== Proof.Ref5.lean ====
module

public import proofs.«01_k».proof.Proof.Gen.Reference5Ideal.Run
public import proofs.«01_k».proof.Proof.Gen.Reference5Ideal.Read
public import proofs.«01_k».proof.Proof.Latent

@[expose] public section

set_option maxRecDepth 16384

/-! # The reference of the products behind the latents, line by line -/

noncomputable section

open Idealize.ShloMosaic

namespace Cert.Reference5Ideal.Value
open Cert.Reference5Ideal Cert.Reference5Ideal.Gen Cert.Reference5Ideal.Read Cert.Ext

/-- The six arguments hold the functions of `p`. -/
structure Given (x0 : (⟨S4096x256, .f32⟩ : BufTy).Contents (Elt Ideal)) (x1 : (⟨S4096x256, .f32⟩ : BufTy).Contents (Elt Ideal)) (x2 : (⟨S256x768, .f32⟩ : BufTy).Contents (Elt Ideal)) (x3 : (⟨S256x1024, .f32⟩ : BufTy).Contents (Elt Ideal)) (x4 : (⟨S4096x768, .f32⟩ : BufTy).Contents (Elt Ideal)) (x5 : (⟨S4096x1024, .f32⟩ : BufTy).Contents (Elt Ideal))
    (p : Latents) : Prop where
  hC : Is2 (n := 4096) (m := 256) x0 p.C
  hV : Is2 (n := 4096) (m := 256) x1 p.V
  hU : Is2 (n := 256) (m := 768) x2 p.U
  hK : Is2 (n := 256) (m := 1024) x3 p.K
  hQ : Is2 (n := 4096) (m := 768) x4 p.Q
  hD : Is2 (n := 4096) (m := 1024) x5 p.D

variable {x0 : (⟨S4096x256, .f32⟩ : BufTy).Contents (Elt Ideal)} {x1 : (⟨S4096x256, .f32⟩ : BufTy).Contents (Elt Ideal)} {x2 : (⟨S256x768, .f32⟩ : BufTy).Contents (Elt Ideal)} {x3 : (⟨S256x1024, .f32⟩ : BufTy).Contents (Elt Ideal)} {x4 : (⟨S4096x768, .f32⟩ : BufTy).Contents (Elt Ideal)} {x5 : (⟨S4096x1024, .f32⟩ : BufTy).Contents (Elt Ideal)}
  {p : Latents}

section
variable (L : Given x0 x1 x2 x3 x4 x5 p)
include L

/-- The queries' product, each head's columns before zeros. -/
theorem queries : Is2 (n := 4096) (m := 1024) (val_main_v10 (F := Ideal) x0 x2) p.q := by
  have h0 : Is2 (n := 4096) (m := 768) (val_main_v0 (F := Ideal) x0 x2) (mul 256 p.C p.U) :=
    L.hC.dot L.hU lidx_main_v0 ridx_main_v0 (val_main_v0_apply x0 x2) (fun i j k => p.C i k * p.U k j) (fun _ _ => rfl) (fun _ => rfl)
  exact (heads96 h0 _).wide pads_S4096x8x96_S4096x8x128_000_000_0320 h_S_ (pad_zero32 _ rfl _) shapeCasts_S4096x8x128_S4096x1024
/-- The keys' and values' product. -/
theorem keysValues : Is2 (n := 4096) (m := 1024) (val_main_v1 (F := Ideal) x1 x3) p.kv :=
  L.hV.dot L.hK lidx_main_v1 ridx_main_v1 (val_main_v1_apply x1 x3) (fun i j k => p.V i k * p.K k j) (fun _ _ => rfl) (fun _ => rfl)
/-- The gradients in the latents. -/
theorem gradC : Is2 (n := 4096) (m := 256) (val_main_v7 (F := Ideal) x2 x4) p.dC :=
  L.hQ.dot L.hU lidx_main_v7 ridx_main_v7 (val_main_v7_apply x2 x4) (fun t k j => p.Q t j * p.U k j) (fun _ _ => rfl) (fun _ => rfl)
theorem gradV : Is2 (n := 4096) (m := 256) (val_main_v4 (F := Ideal) x3 x5) p.dV :=
  L.hD.dot L.hK lidx_main_v4 ridx_main_v4 (val_main_v4_apply x3 x5) (fun t k j => p.D t j * p.K k j) (fun _ _ => rfl) (fun _ => rfl)
/-- The gradient of the queries' matrix, each head's columns before zeros, transposed. -/
theorem gradU : Is2 (n := 1024) (m := 256) (val_main_v15 (F := Ideal) x0 x4) p.dU := by
  have h5 : Is2 (n := 768) (m := 256) (val_main_v5 (F := Ideal) x0 x4) (tMul 4096 p.Q p.C) :=
    L.hQ.dot L.hC lidx_main_v5 ridx_main_v5 (val_main_v5_apply x0 x4) (fun j k t => p.Q t j * p.C t k) (fun _ _ => rfl) (fun _ => rfl)
  have h6 : Is2 (n := 256) (m := 768) (val_main_v6 (F := Ideal) x0 x4) (across (tMul 4096 p.Q p.C)) :=
    h5.read idx_main_v6 (val_main_v6_apply x0 x4) (fun _ => rfl)
  have h13 : Is2 (n := 256) (m := 1024) (val_main_v13 (F := Ideal) x0 x4) (front (across (tMul 4096 p.Q p.C))) :=
    (heads96 h6 _).wide pads_S256x8x96_S256x8x128_000_000_0320 h_S_ (pad_zero32 _ rfl _) shapeCasts_S256x8x128_S256x1024
  exact h13.read idx_main_v14 (val_main_v14_apply x0 x4) (fun _ => rfl)
/-- The gradient of the keys' and values' matrix, transposed. -/
theorem gradK : Is2 (n := 1024) (m := 256) (val_main_v17 (F := Ideal) x1 x5) p.dK := by
  have h2 : Is2 (n := 1024) (m := 256) (val_main_v2 (F := Ideal) x1 x5) p.dK :=
    L.hD.dot L.hV lidx_main_v2 ridx_main_v2 (val_main_v2_apply x1 x5) (fun j k t => p.D t j * p.V t k) (fun _ _ => rfl) (fun _ => rfl)
  have h3 : Is2 (n := 256) (m := 1024) (val_main_v3 (F := Ideal) x1 x5) (fun k j => p.dK j k) :=
    h2.read idx_main_v3 (val_main_v3_apply x1 x5) (fun _ => rfl)
  exact h3.read idx_main_v16 (val_main_v16_apply x1 x5) (fun _ => rfl)

end

end Cert.Reference5Ideal.Value

end
-- ==== Proof.LRun.lean ====
module

public import proofs.«01_k».proof.Proof.Gen.Kernel5Ideal.Frame

@[expose] public section

set_option maxRecDepth 16384

/-! # The run of the products behind the latents, with their six results at the contents the last region leaves -/

noncomputable section

namespace Cert.Kernel5Ideal.Value

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends, with each result at the contents of the last boundary and every argument as launched. -/
theorem run : θ_run defs (onTc (τ := τ) (main (F := F))) ⟨m, fun _ => 0, ρ⟩ (fun r => ∀ c : Dev nD,
      r.2.mem ((c.tc : Thread nD τ).loc main_v14) = W11 m ρ c (Proc.devRef .tc main_v14)
      ∧ r.2.mem ((c.tc : Thread nD τ).loc main_v15) = W11 m ρ c (Proc.devRef .tc main_v15)
      ∧ r.2.mem ((c.tc : Thread nD τ).loc main_v16) = W11 m ρ c (Proc.devRef .tc main_v16)
      ∧ r.2.mem ((c.tc : Thread nD τ).loc main_v17) = W11 m ρ c (Proc.devRef .tc main_v17)
      ∧ r.2.mem ((c.tc : Thread nD τ).loc main_v18) = W11 m ρ c (Proc.devRef .tc main_v18)
      ∧ r.2.mem ((c.tc : Thread nD τ).loc main_v19) = W11 m ρ c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h _ => fun c =>
      ⟨h c _ (mem_uc main_v14 (by decide)),
       h c _ (mem_uc main_v15 (by decide)),
       h c _ (mem_uc main_v16 (by decide)),
       h c _ (mem_uc main_v17 (by decide)),
       h c _ (mem_uc main_v18 (by decide)),
       h c _ (mem_uc main_v19 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c)⟩)

end Cert.Kernel5Ideal.Value

end
-- ==== Proof.LHost.lean ====
module

public import proofs.«01_k».proof.Proof.Gen.Kernel5Ideal.Frame
public import proofs.«01_k».proof.Proof.Latent
public import Idealize.ShloMosaic.Lib.ValueLayout
public import Idealize.ShloMosaic.Lib.Claim
public import Idealize.ShloMosaic.Lib.Pipeline.ValueKit

@[expose] public section

set_option maxRecDepth 16384

/-! # The launch of the products behind the latents: what the arguments hold, and what the host's lines make of them -/

noncomputable section

open Idealize.ShloMosaic Idealize.ShloMosaic.TcCoe Idealize.SL.Sem

namespace Cert.Kernel5Ideal.Value
open Cert.Kernel5Ideal Cert.Kernel5Ideal.Gen Cert.Ext

variable (m : (ℓ : Loc nD τ sig) → Buf (Elt Ideal) ℓ) (ρ : Dev nD → PrngReg) (c : Dev nD) (p : Latents)

/-- The six arguments hold the functions of `p`. -/
structure Launched : Prop where
  hC : Is2 (n := 4096) (m := 256) (m ((c : Thread nD τ).loc main_arg0)) p.C
  hV : Is2 (n := 4096) (m := 256) (m ((c : Thread nD τ).loc main_arg1)) p.V
  hU : Is2 (n := 256) (m := 768) (m ((c : Thread nD τ).loc main_arg2)) p.U
  hK : Is2 (n := 256) (m := 1024) (m ((c : Thread nD τ).loc main_arg3)) p.K
  hQ : Is2 (n := 4096) (m := 768) (m ((c : Thread nD τ).loc main_arg4)) p.Q
  hD : Is2 (n := 4096) (m := 1024) (m ((c : Thread nD τ).loc main_arg5)) p.D

/-- The queries' matrix, transposed, each head's rows before rows of zeros. -/
theorem at5_v4 (h : Launched m c p) : Is2 (n := 1024) (m := 256) (W5 m ρ c (Proc.devRef .tc main_v4)) p.u := by
  intro i
  unfold_abbrev_sides
  after_results
  exact rowFlat (rowPad96 (rowHeads96 (turned (f := p.U) h.hU transposes_S256x768_S768x256_1_0) shapeCasts_S768x256_S8x96x256)
    pads_S8x96x256_S8x128x256_000_0320_000 h_S_ (pad_zero16 _ rfl _)) shapeCasts_S8x128x256_S1024x256 i
/-- The keys' and values' matrix, transposed. -/
theorem at5_v6 (h : Launched m c p) : Is2 (n := 1024) (m := 256) (W5 m ρ c (Proc.devRef .tc main_v6)) p.kT := by
  intro i
  unfold_abbrev_sides
  after_results
  exact turned (f := p.K) h.hK transposes_S256x1024_S1024x256_1_0 i
theorem at5_v7 (h : Launched m c p) : Is2 (n := 4096) (m := 256) (W5 m ρ c (Proc.devRef .tc main_v7)) p.C := by
  intro i
  unfold_abbrev_sides
  after_results
  exact h.hC i
theorem at5_v8 (h : Launched m c p) : Is2 (n := 4096) (m := 256) (W5 m ρ c (Proc.devRef .tc main_v8)) p.V := by
  intro i
  unfold_abbrev_sides
  after_results
  exact h.hV i
theorem at5_v9 (h : Launched m c p) : Is2 (n := 4096) (m := 1024) (W5 m ρ c (Proc.devRef .tc main_v9)) p.D := by
  intro i
  unfold_abbrev_sides
  after_results
  exact h.hD i
/-- The gradient of the queries' product, each head's columns before zeros. -/
theorem at5_v13 (h : Launched m c p) : Is2 (n := 4096) (m := 1024) (W5 m ρ c (Proc.devRef .tc main_v13)) p.dq := by
  intro i
  unfold_abbrev_sides
  after_results
  exact (heads96 (f := p.Q) h.hQ shapeCasts_S4096x768_S4096x8x96).wide pads_S4096x8x96_S4096x8x128_000_000_0320 h_S_ (pad_zero16 _ rfl _)
    shapeCasts_S4096x8x128_S4096x1024 i

end Cert.Kernel5Ideal.Value

end
-- ==== Proof.L0.lean ====
module

public import proofs.«01_k».proof.Proof.Gen.Kernel5Ideal.Frame
public import proofs.«01_k».proof.Proof.Extended

@[expose] public section

set_option maxRecDepth 16384

/-! # The product behind the latents of the queries -/

noncomputable section

open Idealize.ShloMosaic Idealize.ShloMosaic.TcCoe Idealize.SL.Sem
open Idealize.ShloMosaic.Pipeline (Dat)

namespace Cert.Kernel5Ideal.Value
open Cert.Kernel5Ideal Cert.Kernel5Ideal.Gen Cert.Ext

variable (V : (c : Dev nD) → (b : Ref sig .tc) → Buf (Elt Ideal) ((c : Thread nD τ).loc b))

namespace R0

/-- Where each window's block sits. -/
theorem idx : ∀ t : Fin cfg0.N, win0_0.index t = ![t.val, 0] ∧ win0_1.index t = ![0, 0] ∧ win0_2.index t = ![t.val, 0] :=
  (by decide +kernel : ∀ t : Fin grid0.N, _)

/-- The array after the region, from what its operands hold. -/
theorem final (c : Dev nD) (A B : ℕ → ℕ → EReal)
    (hA : Is2 (n := 4096) (m := 256) (V c (Pipeline.arrRef spec0 0)) A)
    (hB : Is2 (n := 1024) (m := 256) (V c (Pipeline.arrRef spec0 1)) B) :
    Is2 (n := 4096) (m := 1024) ((dat0 V c).arrAt 2 cfg0.N) (mulT 256 A B) := by
  intro i
  refine congrFun ((dat0 V c).arrAt_eq_of_covers 2 (fun i => ((mulT 256 A B (i 0 : ℕ) (i 1 : ℕ) : EReal)))
    (by decide +kernel) fun t _ y => ?_) i
  blk_simp
  rw [after0_2]; frame_out
  pointwise [k0_pay1]
  have h0 : ∀ x, iblk0 V c 0 t x = (A (t.val * 1024 + (x 0).val) ((x 1).val)) := by
    intro x
    refine (hA (((cfg0.win 0).blk t).view.emb x)).trans ?_
    blk_simp [idx t]
  have h1 : ∀ x, iblk0 V c 1 t x = (B ((x 0).val) ((x 1).val)) := by
    intro x
    refine (hB (((cfg0.win 1).blk t).view.emb x)).trans ?_
    blk_simp [idx t]
  refine (sum_fin _ (fun k => A (t.val * 1024 + (y 0).val) k * B ((y 1).val) k) fun k => ?_).trans ?_
  · rw [h0, h1]; rfl
  · blk_simp [idx t]
    rfl

end R0

end Cert.Kernel5Ideal.Value
-- ==== Proof.L1.lean ====
module

public import proofs.«01_k».proof.Proof.Gen.Kernel5Ideal.Frame
public import proofs.«01_k».proof.Proof.Extended

@[expose] public section

set_option maxRecDepth 16384

/-! # The product behind the latents of the keys and values -/

noncomputable section

open Idealize.ShloMosaic Idealize.ShloMosaic.TcCoe Idealize.SL.Sem
open Idealize.ShloMosaic.Pipeline (Dat)

namespace Cert.Kernel5Ideal.Value
open Cert.Kernel5Ideal Cert.Kernel5Ideal.Gen Cert.Ext

variable (V : (c : Dev nD) → (b : Ref sig .tc) → Buf (Elt Ideal) ((c : Thread nD τ).loc b))

namespace R1

/-- Where each window's block sits. -/
theorem idx : ∀ t : Fin cfg1.N, win1_0.index t = ![t.val, 0] ∧ win1_1.index t = ![0, 0] ∧ win1_2.index t = ![t.val, 0] :=
  (by decide +kernel : ∀ t : Fin grid1.N, _)

/-- The array after the region, from what its operands hold. -/
theorem final (c : Dev nD) (A B : ℕ → ℕ → EReal)
    (hA : Is2 (n := 4096) (m := 256) (V c (Pipeline.arrRef spec1 0)) A)
    (hB : Is2 (n := 1024) (m := 256) (V c (Pipeline.arrRef spec1 1)) B) :
    Is2 (n := 4096) (m := 1024) ((dat1 V c).arrAt 2 cfg1.N) (mulT 256 A B) := by
  intro i
  refine congrFun ((dat1 V c).arrAt_eq_of_covers 2 (fun i => ((mulT 256 A B (i 0 : ℕ) (i 1 : ℕ) : EReal)))
    (by decide +kernel) fun t _ y => ?_) i
  blk_simp
  rw [after1_2]; frame_out
  pointwise [k1_pay1]
  have h0 : ∀ x, iblk1 V c 0 t x = (A (t.val * 1024 + (x 0).val) ((x 1).val)) := by
    intro x
    refine (hA (((cfg1.win 0).blk t).view.emb x)).trans ?_
    blk_simp [idx t]
  have h1 : ∀ x, iblk1 V c 1 t x = (B ((x 0).val) ((x 1).val)) := by
    intro x
    refine (hB (((cfg1.win 1).blk t).view.emb x)).trans ?_
    blk_simp [idx t]
  refine (sum_fin _ (fun k => A (t.val * 1024 + (y 0).val) k * B ((y 1).val) k) fun k => ?_).trans ?_
  · rw [h0, h1]; rfl
  · blk_simp [idx t]
    rfl

end R1

end Cert.Kernel5Ideal.Value
-- ==== Proof.L2.lean ====
module

public import proofs.«01_k».proof.Proof.Gen.Kernel5Ideal.Frame
public import proofs.«01_k».proof.Proof.Extended

@[expose] public section

set_option maxRecDepth 16384

/-! # The gradient in the queries' latents -/

noncomputable section

open Idealize.ShloMosaic Idealize.ShloMosaic.TcCoe Idealize.SL.Sem
open Idealize.ShloMosaic.Pipeline (Dat)

namespace Cert.Kernel5Ideal.Value
open Cert.Kernel5Ideal Cert.Kernel5Ideal.Gen Cert.Ext

variable (V : (c : Dev nD) → (b : Ref sig .tc) → Buf (Elt Ideal) ((c : Thread nD τ).loc b))

namespace R2

/-- Where each window's block sits. -/
theorem idx : ∀ t : Fin cfg2.N, win2_0.index t = ![t.val, 0] ∧ win2_1.index t = ![0, 0] ∧ win2_2.index t = ![t.val, 0] :=
  (by decide +kernel : ∀ t : Fin grid2.N, _)

/-- The array after the region, from what its operands hold. -/
theorem final (c : Dev nD) (A B : ℕ → ℕ → EReal)
    (hA : Is2 (n := 4096) (m := 1024) (V c (Pipeline.arrRef spec2 0)) A)
    (hB : Is2 (n := 1024) (m := 256) (V c (Pipeline.arrRef spec2 1)) B) :
    Is2 (n := 4096) (m := 256) ((dat2 V c).arrAt 2 cfg2.N) (mul 1024 A B) := by
  intro i
  refine congrFun ((dat2 V c).arrAt_eq_of_covers 2 (fun i => ((mul 1024 A B (i 0 : ℕ) (i 1 : ℕ) : EReal)))
    (by decide +kernel) fun t _ y => ?_) i
  blk_simp
  rw [after2_2]; frame_out
  pointwise [k2_pay1]
  have h0 : ∀ x, iblk2 V c 0 t x = (A (t.val * 1024 + (x 0).val) ((x 1).val)) := by
    intro x
    refine (hA (((cfg2.win 0).blk t).view.emb x)).trans ?_
    blk_simp [idx t]
  have h1 : ∀ x, iblk2 V c 1 t x = (B ((x 0).val) ((x 1).val)) := by
    intro x
    refine (hB (((cfg2.win 1).blk t).view.emb x)).trans ?_
    blk_simp [idx t]
  refine (sum_fin _ (fun k => A (t.val * 1024 + (y 0).val) k * B k ((y 1).val)) fun k => ?_).trans ?_
  · rw [h0, h1]; rfl
  · blk_simp [idx t]
    rfl

end R2

end Cert.Kernel5Ideal.Value
-- ==== Proof.L3.lean ====
module

public import proofs.«01_k».proof.Proof.Gen.Kernel5Ideal.Frame
public import proofs.«01_k».proof.Proof.Extended

@[expose] public section

set_option maxRecDepth 16384

/-! # The gradient of the queries' matrix -/

noncomputable section

open Idealize.ShloMosaic Idealize.ShloMosaic.TcCoe Idealize.SL.Sem
open Idealize.ShloMosaic.Pipeline (Dat)

namespace Cert.Kernel5Ideal.Value
open Cert.Kernel5Ideal Cert.Kernel5Ideal.Gen Cert.Ext

variable (V : (c : Dev nD) → (b : Ref sig .tc) → Buf (Elt Ideal) ((c : Thread nD τ).loc b))

namespace R3

/-- Where each window's block sits. -/
theorem idx : ∀ t : Fin cfg3.N, win3_0.index t = ![0, 0] ∧ win3_1.index t = ![0, 0] ∧ win3_2.index t = ![0, 0] :=
  (by decide +kernel : ∀ t : Fin grid3.N, _)

/-- The array after the region, from what its operands hold. -/
theorem final (c : Dev nD) (A B : ℕ → ℕ → EReal)
    (hA : Is2 (n := 4096) (m := 1024) (V c (Pipeline.arrRef spec3 0)) A)
    (hB : Is2 (n := 4096) (m := 256) (V c (Pipeline.arrRef spec3 1)) B) :
    Is2 (n := 1024) (m := 256) ((dat3 V c).arrAt 2 cfg3.N) (tMul 4096 A B) := by
  intro i
  refine congrFun ((dat3 V c).arrAt_eq_of_covers 2 (fun i => ((tMul 4096 A B (i 0 : ℕ) (i 1 : ℕ) : EReal)))
    (by decide +kernel) fun t _ y => ?_) i
  blk_simp
  rw [after3_2]; frame_out
  pointwise [k3_pay1]
  have h0 : ∀ x, iblk3 V c 0 t x = (A ((x 0).val) ((x 1).val)) := by
    intro x
    refine (hA (((cfg3.win 0).blk t).view.emb x)).trans ?_
    blk_simp [idx t]
  have h1 : ∀ x, iblk3 V c 1 t x = (B ((x 0).val) ((x 1).val)) := by
    intro x
    refine (hB (((cfg3.win 1).blk t).view.emb x)).trans ?_
    blk_simp [idx t]
  refine (sum_fin _ (fun k => A k ((y 0).val) * B k ((y 1).val)) fun k => ?_).trans ?_
  · rw [h0, h1]; rfl
  · blk_simp [idx t]
    rfl

end R3

end Cert.Kernel5Ideal.Value
-- ==== Proof.L4.lean ====
module

public import proofs.«01_k».proof.Proof.Gen.Kernel5Ideal.Frame
public import proofs.«01_k».proof.Proof.Extended

@[expose] public section

set_option maxRecDepth 16384

/-! # The gradient in the latents of the keys and values -/

noncomputable section

open Idealize.ShloMosaic Idealize.ShloMosaic.TcCoe Idealize.SL.Sem
open Idealize.ShloMosaic.Pipeline (Dat)

namespace Cert.Kernel5Ideal.Value
open Cert.Kernel5Ideal Cert.Kernel5Ideal.Gen Cert.Ext

variable (V : (c : Dev nD) → (b : Ref sig .tc) → Buf (Elt Ideal) ((c : Thread nD τ).loc b))

namespace R4

/-- Where each window's block sits. -/
theorem idx : ∀ t : Fin cfg4.N, win4_0.index t = ![t.val, 0] ∧ win4_1.index t = ![0, 0] ∧ win4_2.index t = ![t.val, 0] :=
  (by decide +kernel : ∀ t : Fin grid4.N, _)

/-- The array after the region, from what its operands hold. -/
theorem final (c : Dev nD) (A B : ℕ → ℕ → EReal)
    (hA : Is2 (n := 4096) (m := 1024) (V c (Pipeline.arrRef spec4 0)) A)
    (hB : Is2 (n := 1024) (m := 256) (V c (Pipeline.arrRef spec4 1)) B) :
    Is2 (n := 4096) (m := 256) ((dat4 V c).arrAt 2 cfg4.N) (mul 1024 A B) := by
  intro i
  refine congrFun ((dat4 V c).arrAt_eq_of_covers 2 (fun i => ((mul 1024 A B (i 0 : ℕ) (i 1 : ℕ) : EReal)))
    (by decide +kernel) fun t _ y => ?_) i
  blk_simp
  rw [after4_2]; frame_out
  pointwise [k4_pay1]
  have h0 : ∀ x, iblk4 V c 0 t x = (A (t.val * 1024 + (x 0).val) ((x 1).val)) := by
    intro x
    refine (hA (((cfg4.win 0).blk t).view.emb x)).trans ?_
    blk_simp [idx t]
  have h1 : ∀ x, iblk4 V c 1 t x = (B ((x 0).val) ((x 1).val)) := by
    intro x
    refine (hB (((cfg4.win 1).blk t).view.emb x)).trans ?_
    blk_simp [idx t]
  refine (sum_fin _ (fun k => A (t.val * 1024 + (y 0).val) k * B k ((y 1).val)) fun k => ?_).trans ?_
  · rw [h0, h1]; rfl
  · blk_simp [idx t]
    rfl

end R4

end Cert.Kernel5Ideal.Value
-- ==== Proof.L5.lean ====
module

public import proofs.«01_k».proof.Proof.Gen.Kernel5Ideal.Frame
public import proofs.«01_k».proof.Proof.Extended

@[expose] public section

set_option maxRecDepth 16384

/-! # The gradient of the keys' and values' matrix -/

noncomputable section

open Idealize.ShloMosaic Idealize.ShloMosaic.TcCoe Idealize.SL.Sem
open Idealize.ShloMosaic.Pipeline (Dat)

namespace Cert.Kernel5Ideal.Value
open Cert.Kernel5Ideal Cert.Kernel5Ideal.Gen Cert.Ext

variable (V : (c : Dev nD) → (b : Ref sig .tc) → Buf (Elt Ideal) ((c : Thread nD τ).loc b))

namespace R5

/-- Where each window's block sits. -/
theorem idx : ∀ t : Fin cfg5.N, win5_0.index t = ![0, 0] ∧ win5_1.index t = ![0, 0] ∧ win5_2.index t = ![0, 0] :=
  (by decide +kernel : ∀ t : Fin grid5.N, _)

/-- The array after the region, from what its operands hold. -/
theorem final (c : Dev nD) (A B : ℕ → ℕ → EReal)
    (hA : Is2 (n := 4096) (m := 1024) (V c (Pipeline.arrRef spec5 0)) A)
    (hB : Is2 (n := 4096) (m := 256) (V c (Pipeline.arrRef spec5 1)) B) :
    Is2 (n := 1024) (m := 256) ((dat5 V c).arrAt 2 cfg5.N) (tMul 4096 A B) := by
  intro i
  refine congrFun ((dat5 V c).arrAt_eq_of_covers 2 (fun i => ((tMul 4096 A B (i 0 : ℕ) (i 1 : ℕ) : EReal)))
    (by decide +kernel) fun t _ y => ?_) i
  blk_simp
  rw [after5_2]; frame_out
  pointwise [k5_pay1]
  have h0 : ∀ x, iblk5 V c 0 t x = (A ((x 0).val) ((x 1).val)) := by
    intro x
    refine (hA (((cfg5.win 0).blk t).view.emb x)).trans ?_
    blk_simp [idx t]
  have h1 : ∀ x, iblk5 V c 1 t x = (B ((x 0).val) ((x 1).val)) := by
    intro x
    refine (hB (((cfg5.win 1).blk t).view.emb x)).trans ?_
    blk_simp [idx t]
  refine (sum_fin _ (fun k => A k ((y 0).val) * B k ((y 1).val)) fun k => ?_).trans ?_
  · rw [h0, h1]; rfl
  · blk_simp [idx t]
    rfl

end R5

end Cert.Kernel5Ideal.Value
-- ==== Proof.LChain.lean ====
module

public import proofs.«01_k».proof.Proof.LHost
public import proofs.«01_k».proof.Proof.L0
public import proofs.«01_k».proof.Proof.L1
public import proofs.«01_k».proof.Proof.L2
public import proofs.«01_k».proof.Proof.L3
public import proofs.«01_k».proof.Proof.L4
public import proofs.«01_k».proof.Proof.L5

@[expose] public section

set_option maxRecDepth 16384

/-! # What each buffer of the products behind the latents holds where a region reads it, and at the end -/

noncomputable section

open Idealize.ShloMosaic Idealize.ShloMosaic.TcCoe Idealize.SL.Sem

namespace Cert.Kernel5Ideal.Value
open Cert.Kernel5Ideal Cert.Kernel5Ideal.Gen Cert.Ext

variable (m : (ℓ : Loc nD τ sig) → Buf (Elt Ideal) ℓ) (ρ : Dev nD → PrngReg) (c : Dev nD) (p : Latents)

/-! ## Region 0 -/

theorem at6_v14 (h : Launched m c p) : Is2 (n := 4096) (m := 1024) (W6 m ρ c (Proc.devRef .tc main_v14)) p.q :=
  (Is2.of_eq (W6_arr m ρ c 2) (R0.final (V5 m ρ) c p.C p.u (at5_v7 m ρ c p h) (at5_v4 m ρ c p h))).within (fun _ => rfl) fun i => p.call_q _ _

/-! ## Region 1 -/

theorem at6_v8 (h : Launched m c p) : Is2 (n := 4096) (m := 256) (W6 m ρ c (Proc.devRef .tc main_v8)) p.V :=
  Is2.of_eq (W6_of m ρ c main_v8 (by decide +kernel)) (at5_v8 m ρ c p h)
theorem at6_v6 (h : Launched m c p) : Is2 (n := 1024) (m := 256) (W6 m ρ c (Proc.devRef .tc main_v6)) p.kT :=
  Is2.of_eq (W6_of m ρ c main_v6 (by decide +kernel)) (at5_v6 m ρ c p h)
theorem at7_v15 (h : Launched m c p) : Is2 (n := 4096) (m := 1024) (W7 m ρ c (Proc.devRef .tc main_v15)) p.kv :=
  (Is2.of_eq (W7_arr m ρ c 2) (R1.final (V6 m ρ) c p.V p.kT (at6_v8 m ρ c p h) (at6_v6 m ρ c p h))).within (fun _ => rfl) fun i => p.call_kv _ _

/-! ## Region 2 -/

theorem at7_v13 (h : Launched m c p) : Is2 (n := 4096) (m := 1024) (W7 m ρ c (Proc.devRef .tc main_v13)) p.dq :=
  Is2.of_eq (W7_of m ρ c main_v13 (by decide +kernel)) (Is2.of_eq (W6_of m ρ c main_v13 (by decide +kernel)) (at5_v13 m ρ c p h))
theorem at7_v4 (h : Launched m c p) : Is2 (n := 1024) (m := 256) (W7 m ρ c (Proc.devRef .tc main_v4)) p.u :=
  Is2.of_eq (W7_of m ρ c main_v4 (by decide +kernel)) (Is2.of_eq (W6_of m ρ c main_v4 (by decide +kernel)) (at5_v4 m ρ c p h))
theorem at8_v16 (h : Launched m c p) : Is2 (n := 4096) (m := 256) (W8 m ρ c (Proc.devRef .tc main_v16)) p.dC :=
  (Is2.of_eq (W8_arr m ρ c 2) (R2.final (V7 m ρ) c p.dq p.u (at7_v13 m ρ c p h) (at7_v4 m ρ c p h))).within (fun _ => rfl) fun i => p.call_dC _ _

/-! ## Region 3 -/

theorem at8_v13 (h : Launched m c p) : Is2 (n := 4096) (m := 1024) (W8 m ρ c (Proc.devRef .tc main_v13)) p.dq :=
  Is2.of_eq (W8_of m ρ c main_v13 (by decide +kernel)) (at7_v13 m ρ c p h)
theorem at8_v7 (h : Launched m c p) : Is2 (n := 4096) (m := 256) (W8 m ρ c (Proc.devRef .tc main_v7)) p.C :=
  Is2.of_eq (W8_of m ρ c main_v7 (by decide +kernel)) (Is2.of_eq (W7_of m ρ c main_v7 (by decide +kernel)) (Is2.of_eq (W6_of m ρ c main_v7 (by decide +kernel)) (at5_v7 m ρ c p h)))
theorem at9_v17 (h : Launched m c p) : Is2 (n := 1024) (m := 256) (W9 m ρ c (Proc.devRef .tc main_v17)) p.dU :=
  (Is2.of_eq (W9_arr m ρ c 2) (R3.final (V8 m ρ) c p.dq p.C (at8_v13 m ρ c p h) (at8_v7 m ρ c p h))).within (fun _ => rfl) fun i => p.call_dU _ _

/-! ## Region 4 -/

theorem at9_v9 (h : Launched m c p) : Is2 (n := 4096) (m := 1024) (W9 m ρ c (Proc.devRef .tc main_v9)) p.D :=
  Is2.of_eq (W9_of m ρ c main_v9 (by decide +kernel)) (Is2.of_eq (W8_of m ρ c main_v9 (by decide +kernel)) (Is2.of_eq (W7_of m ρ c main_v9 (by decide +kernel)) (Is2.of_eq (W6_of m ρ c main_v9 (by decide +kernel)) (at5_v9 m ρ c p h))))
theorem at9_v6 (h : Launched m c p) : Is2 (n := 1024) (m := 256) (W9 m ρ c (Proc.devRef .tc main_v6)) p.kT :=
  Is2.of_eq (W9_of m ρ c main_v6 (by decide +kernel)) (Is2.of_eq (W8_of m ρ c main_v6 (by decide +kernel)) (Is2.of_eq (W7_of m ρ c main_v6 (by decide +kernel)) (at6_v6 m ρ c p h)))
theorem at10_v18 (h : Launched m c p) : Is2 (n := 4096) (m := 256) (W10 m ρ c (Proc.devRef .tc main_v18)) p.dV :=
  (Is2.of_eq (W10_arr m ρ c 2) (R4.final (V9 m ρ) c p.D p.kT (at9_v9 m ρ c p h) (at9_v6 m ρ c p h))).within (fun _ => rfl) fun i => p.call_dV _ _

/-! ## Region 5 -/

theorem at10_v9 (h : Launched m c p) : Is2 (n := 4096) (m := 1024) (W10 m ρ c (Proc.devRef .tc main_v9)) p.D :=
  Is2.of_eq (W10_of m ρ c main_v9 (by decide +kernel)) (at9_v9 m ρ c p h)
theorem at10_v8 (h : Launched m c p) : Is2 (n := 4096) (m := 256) (W10 m ρ c (Proc.devRef .tc main_v8)) p.V :=
  Is2.of_eq (W10_of m ρ c main_v8 (by decide +kernel)) (Is2.of_eq (W9_of m ρ c main_v8 (by decide +kernel)) (Is2.of_eq (W8_of m ρ c main_v8 (by decide +kernel)) (Is2.of_eq (W7_of m ρ c main_v8 (by decide +kernel)) (at6_v8 m ρ c p h))))
theorem at11_v19 (h : Launched m c p) : Is2 (n := 1024) (m := 256) (W11 m ρ c (Proc.devRef .tc main_v19)) p.dK :=
  Is2.of_eq (W11_arr m ρ c 2) (R5.final (V10 m ρ) c p.D p.V (at10_v9 m ρ c p h) (at10_v8 m ρ c p h))

/-! ## The end -/

theorem at11_v14 (h : Launched m c p) : Is2 (n := 4096) (m := 1024) (W11 m ρ c (Proc.devRef .tc main_v14)) p.q :=
  Is2.of_eq (W11_of m ρ c main_v14 (by decide +kernel)) (Is2.of_eq (W10_of m ρ c main_v14 (by decide +kernel)) (Is2.of_eq (W9_of m ρ c main_v14 (by decide +kernel)) (Is2.of_eq (W8_of m ρ c main_v14 (by decide +kernel)) (Is2.of_eq (W7_of m ρ c main_v14 (by decide +kernel)) (at6_v14 m ρ c p h)))))
theorem at11_v15 (h : Launched m c p) : Is2 (n := 4096) (m := 1024) (W11 m ρ c (Proc.devRef .tc main_v15)) p.kv :=
  Is2.of_eq (W11_of m ρ c main_v15 (by decide +kernel)) (Is2.of_eq (W10_of m ρ c main_v15 (by decide +kernel)) (Is2.of_eq (W9_of m ρ c main_v15 (by decide +kernel)) (Is2.of_eq (W8_of m ρ c main_v15 (by decide +kernel)) (at7_v15 m ρ c p h))))
theorem at11_v16 (h : Launched m c p) : Is2 (n := 4096) (m := 256) (W11 m ρ c (Proc.devRef .tc main_v16)) p.dC :=
  Is2.of_eq (W11_of m ρ c main_v16 (by decide +kernel)) (Is2.of_eq (W10_of m ρ c main_v16 (by decide +kernel)) (Is2.of_eq (W9_of m ρ c main_v16 (by decide +kernel)) (at8_v16 m ρ c p h)))
theorem at11_v17 (h : Launched m c p) : Is2 (n := 1024) (m := 256) (W11 m ρ c (Proc.devRef .tc main_v17)) p.dU :=
  Is2.of_eq (W11_of m ρ c main_v17 (by decide +kernel)) (Is2.of_eq (W10_of m ρ c main_v17 (by decide +kernel)) (at9_v17 m ρ c p h))
theorem at11_v18 (h : Launched m c p) : Is2 (n := 4096) (m := 256) (W11 m ρ c (Proc.devRef .tc main_v18)) p.dV :=
  Is2.of_eq (W11_of m ρ c main_v18 (by decide +kernel)) (at10_v18 m ρ c p h)

end Cert.Kernel5Ideal.Value

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.RefBackward
public import proofs.«01_k».proof.Proof.Chain
public import proofs.«01_k».proof.Proof.KRun
public import proofs.«01_k».proof.Proof.Finite
public import proofs.«01_k».proof.Proof.Gen.Kernel2
public import proofs.«01_k».proof.Proof.Gen.Kernel2.Frame
public import proofs.«01_k».proof.Proof.Ref2
public import proofs.«01_k».proof.Proof.FChain
public import proofs.«01_k».proof.Proof.FRun
public import proofs.«01_k».proof.Proof.Finite2
public import proofs.«01_k».proof.Proof.Gen.Kernel3
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference3Ideal.Read
public import proofs.«01_k».proof.Proof.Gen.Pre_finite3
public import proofs.«01_k».proof.Proof.Ref3
public import proofs.«01_k».proof.Proof.SChain
public import proofs.«01_k».proof.Proof.SRun
public import proofs.«01_k».proof.Proof.Finite3
public import proofs.«01_k».proof.Proof.Gen.Kernel4
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Reference4Ideal.Read
public import proofs.«01_k».proof.Proof.Ref4
public import proofs.«01_k».proof.Proof.MChain
public import proofs.«01_k».proof.Proof.MRun
public import Idealize.ShloMosaic.Adequacy
public import Idealize.ShloMosaic.Init
public import proofs.«01_k».proof.Proof.Gen.Kernel5
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Reference5Ideal.Read
public import proofs.«01_k».proof.Proof.Ref5
public import proofs.«01_k».proof.Proof.LRun
public import proofs.«01_k».proof.Proof.LChain

@[expose] public section

noncomputable section

namespace Cert.Proof

open Idealize.ShloMosaic Idealize.SL.Sem

/-- The reference runs, leaves its arguments and, declaring no semaphore, leaves every counter at zero. -/
theorem referenceFrame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0) ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1) ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2) ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3) ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4) ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0) :=
  (θ_run _ _ _).mono (fun r h => ⟨fun c => (h c).2.2.2.2.2.2.2.2.2, sem_eq_zero_of_no_sems (by decide) r.2⟩) (Cert.ReferenceIdeal.Value.run (F := Ideal) m g)

/-- From arguments holding the same reals the two programs end with the same results. -/
theorem algebraic : Cert.algebraic_KernelIdeal_ReferenceIdeal_pre_finite := by
  intro m g m' g' hpre hargs
  choose p hp using Cert.Finite.launched m hpre
  have G : ∀ c : Dev Cert.KernelIdeal.nD, Cert.ReferenceIdeal.Value.Given (StableHlo.launchContents m' c (Proc.devRef .tc Cert.ReferenceIdeal.main_arg0))
      (StableHlo.launchContents m' c (Proc.devRef .tc Cert.ReferenceIdeal.main_arg1)) (StableHlo.launchContents m' c (Proc.devRef .tc Cert.ReferenceIdeal.main_arg2))
      (StableHlo.launchContents m' c (Proc.devRef .tc Cert.ReferenceIdeal.main_arg3)) (StableHlo.launchContents m' c (Proc.devRef .tc Cert.ReferenceIdeal.main_arg4))
      (StableHlo.launchContents m' c (Proc.devRef .tc Cert.ReferenceIdeal.main_arg5)) (p c) := fun c => by
    obtain ⟨e0, e1, e2, e3, e4, e5⟩ := hargs c
    obtain ⟨h0, h1, h2, h3, h4, h5⟩ := hp c
    exact ⟨Cert.Layer.Is2.of_eq e0 h0, fun i => (congrFun e1 i).trans (h1 i), Cert.Layer.Is2.of_eq e2 h2, Cert.Layer.Is2.of_eq e3 h3, Cert.Layer.Is2.of_eq e4 h4, Cert.Layer.Is2.of_eq e5 h5⟩
  refine ⟨fun c => Cert.KernelIdeal.Gen.W15 m g c (Proc.devRef .tc Cert.KernelIdeal.main_v12),
    fun c => Cert.KernelIdeal.Gen.W15 m g c (Proc.devRef .tc Cert.KernelIdeal.main_v21_0),
    fun c => Cert.KernelIdeal.Gen.W15 m g c (Proc.devRef .tc Cert.KernelIdeal.main_v21_1),
    fun c => Cert.KernelIdeal.Gen.W15 m g c (Proc.devRef .tc Cert.KernelIdeal.main_v21_2),
    fun c => Cert.KernelIdeal.Gen.W15 m g c (Proc.devRef .tc Cert.KernelIdeal.main_v17),
    fun c => Cert.KernelIdeal.Gen.W15 m g c (Proc.devRef .tc Cert.KernelIdeal.main_v18),
    fun c => Cert.KernelIdeal.Gen.W15 m g c (Proc.devRef .tc Cert.KernelIdeal.main_v16_2),
    fun c => Cert.KernelIdeal.Gen.W15 m g c (Proc.devRef .tc Cert.KernelIdeal.main_v16_3),
    fun c => Cert.KernelIdeal.Gen.W15 m g c (Proc.devRef .tc Cert.KernelIdeal.main_v15),
    Cert.KernelIdeal.Value.run (F := Ideal) m g, (θ_run _ _ _).mono (fun r h c => ?_) (Cert.ReferenceIdeal.Value.run (F := Ideal) m' g')⟩
  obtain ⟨r0, r1, r2, r3, r4, r5, r6, r7, r8, rest⟩ := h c
  refine ⟨r0.trans ((Cert.ReferenceIdeal.Read.val_main_v45_eq _).trans ((Cert.ReferenceIdeal.Value.output (G c)).ext (Cert.KernelIdeal.Value.at15_v12 m g c (p c) (hp c)))),
    r1.trans ((Cert.ReferenceIdeal.Read.val_main_v110_eq _).trans ((Cert.ReferenceIdeal.Value.gradX (G c)).ext (Cert.KernelIdeal.Value.at15_v21_0 m g c (p c) (hp c)))),
    r2.trans ((Cert.ReferenceIdeal.Read.val_main_v111_eq _).trans ((Cert.ReferenceIdeal.Value.gradX' (G c)).ext (Cert.KernelIdeal.Value.at15_v21_1 m g c (p c) (hp c)))),
    r3.trans ((Cert.ReferenceIdeal.Read.val_main_v112_eq _).trans ((Cert.ReferenceIdeal.Value.gradGain (G c)).ext (Cert.KernelIdeal.Value.at15_v21_2 m g c (p c) (hp c)))),
    r4.trans ((Cert.ReferenceIdeal.Read.val_main_v115_eq _).trans ((Cert.ReferenceIdeal.Value.gradUpGate (G c)).ext (Cert.KernelIdeal.Value.at15_v17 m g c (p c) (hp c)))),
    r5.trans ((Cert.ReferenceIdeal.Read.val_main_v118_eq _).trans ((Cert.ReferenceIdeal.Value.gradUpValue (G c)).ext (Cert.KernelIdeal.Value.at15_v18 m g c (p c) (hp c)))),
    r6.trans ((Cert.ReferenceIdeal.Read.val_main_v119_eq _).trans ((Cert.ReferenceIdeal.Value.gradTapsGate (G c)).ext (Cert.KernelIdeal.Value.at15_v16_2 m g c (p c) (hp c)))),
    r7.trans ((Cert.ReferenceIdeal.Read.val_main_v120_eq _).trans ((Cert.ReferenceIdeal.Value.gradTapsValue (G c)).ext (Cert.KernelIdeal.Value.at15_v16_3 m g c (p c) (hp c)))),
    r8.trans ((Cert.ReferenceIdeal.Read.val_main_v121_eq _).trans ((Cert.ReferenceIdeal.Value.gradDown (G c)).ext (Cert.KernelIdeal.Value.at15_v15 m g c (p c) (hp c)))), rest⟩

/-- So does the attention's reference. -/
theorem referenceFrame2 (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0) ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1) ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2) ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0) :=
  (θ_run _ _ _).mono (fun r h => ⟨fun c => (h c).2.2.2.2, sem_eq_zero_of_no_sems (by decide) r.2⟩) (Cert.Reference2Ideal.Value.run (F := Ideal) m g)

/-- The four named constants are the values the table gives them. -/
theorem preserves2 : Cert.preserves_Kernel2_Kernel2Ideal :=
  ⟨IdealRules.named_const.statement _ _ _ _ _ rfl, IdealRules.named_const.statement _ _ _ _ _ rfl,
    IdealRules.named_const.statement _ _ _ _ _ rfl, IdealRules.named_const.statement _ _ _ _ _ rfl⟩

/-- From arguments holding the same reals the attention's two programs end with the same results. -/
theorem algebraic2 : Cert.algebraic_Kernel2Ideal_Reference2Ideal_pre_finite2 := by
  intro m g m' g' hpre hargs
  choose p hp using Cert.Finite.launched2 m hpre
  have G : ∀ c : Dev Cert.Kernel2Ideal.nD, Cert.Reference2Ideal.Value.Given (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (p c) := fun c => by
    obtain ⟨e0, e1, e2, e3⟩ := hargs c
    obtain ⟨h0, h1, h2, h3⟩ := hp c
    exact ⟨fun i => (congrFun e0 i).trans (h0 i), fun i => (congrFun e1 i).trans (h1 i), fun i => (congrFun e2 i).trans (h2 i), fun i => (congrFun e3 i).trans (h3 i)⟩
  refine ⟨fun c => Cert.Kernel2Ideal.Gen.W13 m g c (Proc.devRef .tc Cert.Kernel2Ideal.main_v16_0),
    fun c => Cert.Kernel2Ideal.Gen.W13 m g c (Proc.devRef .tc Cert.Kernel2Ideal.main_v17_0),
    fun c => Cert.Kernel2Ideal.Gen.W13 m g c (Proc.devRef .tc Cert.Kernel2Ideal.main_v20_0),
    fun c => Cert.Kernel2Ideal.Gen.W13 m g c (Proc.devRef .tc Cert.Kernel2Ideal.main_v20_1),
    Cert.Kernel2Ideal.Value.run (F := Ideal) m g, (θ_run _ _ _).mono (fun r h c => ?_) (Cert.Reference2Ideal.Value.run (F := Ideal) m' g')⟩
  obtain ⟨r0, r1, r2, r3, rest⟩ := h c
  have kv := Cert.Kernel2Ideal.Value.result_kv m g c (p c) (hp c)
  exact ⟨r0.trans ((Cert.Reference2Ideal.Read.val_main_v68_eq _ _).trans ((Cert.Reference2Ideal.Value.result_o (G c)).ext (Cert.Kernel2Ideal.Value.result_o m g c (p c) (hp c)))),
    r1.trans ((Cert.Reference2Ideal.Read.val_main_v70_eq _ _).trans ((Cert.Reference2Ideal.Value.result_dq (G c)).ext (Cert.Kernel2Ideal.Value.result_dq m g c (p c) (hp c)))),
    r2.trans ((Cert.Reference2Ideal.Read.val_main_v72_eq _ _).trans ((Cert.Reference2Ideal.Value.result_dk (G c)).ext kv.1)),
    r3.trans ((Cert.Reference2Ideal.Read.val_main_v74_eq _ _).trans ((Cert.Reference2Ideal.Value.result_dv (G c)).ext kv.2)), rest⟩

/-- So does the gated layer's reference. -/
theorem referenceFrame3 (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0) :=
  (θ_run _ _ _).mono (fun r h => ⟨fun c => (h c).2.2.2.2.2.2.2.2.2.2.2.2, sem_eq_zero_of_no_sems (by decide) r.2⟩) (Cert.Reference3Ideal.Value.run (F := Ideal) m g)

/-- The gated layer's two named constants round to the literals they stand for. -/
theorem preserves3 : Cert.preserves_Kernel3_Kernel3Ideal :=
  ⟨IdealRules.named_const.statement _ _ _ _ _ rfl, IdealRules.named_const.statement _ _ _ _ _ rfl⟩

/-- The gated layer's two programs end with the same results. -/
theorem algebraic3 : Cert.algebraic_Kernel3Ideal_Reference3Ideal_pre_finite3 := by
  intro m g m' g' hpre hargs
  choose p hp using Cert.Finite.launched3 m hpre
  have G : ∀ c : Dev Cert.Kernel3Ideal.nD, Cert.Reference3Ideal.Value.Given (StableHlo.launchContents m' c (Proc.devRef .tc Cert.Reference3Ideal.main_arg0))
      (StableHlo.launchContents m' c (Proc.devRef .tc Cert.Reference3Ideal.main_arg1))
      (StableHlo.launchContents m' c (Proc.devRef .tc Cert.Reference3Ideal.main_arg2))
      (StableHlo.launchContents m' c (Proc.devRef .tc Cert.Reference3Ideal.main_arg3))
      (StableHlo.launchContents m' c (Proc.devRef .tc Cert.Reference3Ideal.main_arg4))
      (StableHlo.launchContents m' c (Proc.devRef .tc Cert.Reference3Ideal.main_arg5))
      (StableHlo.launchContents m' c (Proc.devRef .tc Cert.Reference3Ideal.main_arg6))
      (StableHlo.launchContents m' c (Proc.devRef .tc Cert.Reference3Ideal.main_arg7)) (p c) := fun c => by
    obtain ⟨e0, e1, e2, e3, e4, e5, e6, e7⟩ := hargs c
    obtain ⟨h0, h1, h2, h3, h4, h5, h6, h7⟩ := hp c
    exact ⟨fun i => (congrFun e0 i).trans (h0 i), fun i => (congrFun e1 i).trans (h1 i), fun i => (congrFun e2 i).trans (h2 i), fun i => (congrFun e3 i).trans (h3 i), fun i => (congrFun e4 i).trans (h4 i), fun i => (congrFun e5 i).trans (h5 i), fun i => (congrFun e6 i).trans (h6 i), fun i => (congrFun e7 i).trans (h7 i)⟩
  refine ⟨fun c => Cert.Kernel3Ideal.Gen.W17 m g c (Proc.devRef .tc Cert.Kernel3Ideal.main_v8_0),
    fun c => Cert.Kernel3Ideal.Gen.W17 m g c (Proc.devRef .tc Cert.Kernel3Ideal.main_v8_1),
    fun c => Cert.Kernel3Ideal.Gen.W17 m g c (Proc.devRef .tc Cert.Kernel3Ideal.main_v12),
    fun c => Cert.Kernel3Ideal.Gen.W17 m g c (Proc.devRef .tc Cert.Kernel3Ideal.main_v16),
    fun c => Cert.Kernel3Ideal.Gen.W17 m g c (Proc.devRef .tc Cert.Kernel3Ideal.main_v17),
    fun c => Cert.Kernel3Ideal.Gen.W17 m g c (Proc.devRef .tc Cert.Kernel3Ideal.main_v18_0),
    fun c => Cert.Kernel3Ideal.Gen.W17 m g c (Proc.devRef .tc Cert.Kernel3Ideal.main_v18_1),
    fun c => Cert.Kernel3Ideal.Gen.W17 m g c (Proc.devRef .tc Cert.Kernel3Ideal.main_v18_2),
    fun c => Cert.Kernel3Ideal.Gen.W17 m g c (Proc.devRef .tc Cert.Kernel3Ideal.main_v21),
    fun c => Cert.Kernel3Ideal.Gen.W17 m g c (Proc.devRef .tc Cert.Kernel3Ideal.main_v22_0),
    fun c => Cert.Kernel3Ideal.Gen.W17 m g c (Proc.devRef .tc Cert.Kernel3Ideal.main_v22_1),
    fun c => Cert.Kernel3Ideal.Gen.W17 m g c (Proc.devRef .tc Cert.Kernel3Ideal.main_v22_2),
    Cert.Kernel3Ideal.Value.run (F := Ideal) m g, (θ_run _ _ _).mono (fun r h c => ?_) (Cert.Reference3Ideal.Value.run (F := Ideal) m' g')⟩
  obtain ⟨r0, r1, r2, r3, r4, r5, r6, r7, r8, r9, r10, r11, rest⟩ := h c
  exact ⟨r0.trans ((Cert.Reference3Ideal.Read.val_main_v16_eq _).trans ((Cert.Reference3Ideal.Value.proj (G c)).ext (Cert.Kernel3Ideal.Value.at17_v8_0 m g c (p c) (hp c)))),
    r1.trans ((Cert.Reference3Ideal.Read.val_main_v107_eq _).trans ((Cert.Reference3Ideal.Value.proj' (G c)).ext (Cert.Kernel3Ideal.Value.at17_v8_1 m g c (p c) (hp c)))),
    r2.trans ((Cert.Reference3Ideal.Read.val_main_v56_eq _).trans ((Cert.Reference3Ideal.Value.output (G c)).ext (Cert.Kernel3Ideal.Value.at17_v12 m g c (p c) (hp c)))),
    r3.trans ((Cert.Reference3Ideal.Read.val_main_v110_eq _).trans ((Cert.Reference3Ideal.Value.gradPa (G c)).ext (Cert.Kernel3Ideal.Value.at17_v16 m g c (p c) (hp c)))),
    r4.trans ((Cert.Reference3Ideal.Read.val_main_v113_eq _).trans ((Cert.Reference3Ideal.Value.gradPb (G c)).ext (Cert.Kernel3Ideal.Value.at17_v17 m g c (p c) (hp c)))),
    r5.trans ((Cert.Reference3Ideal.Read.val_main_v114_eq _).trans ((Cert.Reference3Ideal.Value.gradZ' (G c)).ext (Cert.Kernel3Ideal.Value.at17_v18_0 m g c (p c) (hp c)))),
    r6.trans ((Cert.Reference3Ideal.Read.val_main_v78_eq _).trans ((Cert.Reference3Ideal.Value.gradSkip (G c)).ext (Cert.Kernel3Ideal.Value.at17_v18_1 m g c (p c) (hp c)))),
    r7.trans ((Cert.Reference3Ideal.Read.val_main_v115_eq _).trans ((Cert.Reference3Ideal.Value.gradD (G c)).ext (Cert.Kernel3Ideal.Value.at17_v18_2 m g c (p c) (hp c)))),
    r8.trans ((Cert.Reference3Ideal.Read.val_main_v116_eq _).trans ((Cert.Reference3Ideal.Value.gradW (G c)).ext (Cert.Kernel3Ideal.Value.at17_v21 m g c (p c) (hp c)))),
    r9.trans ((Cert.Reference3Ideal.Read.val_main_v106_eq _).trans ((Cert.Reference3Ideal.Value.gradX (G c)).ext (Cert.Kernel3Ideal.Value.at17_v22_0 m g c (p c) (hp c)))),
    r10.trans ((Cert.Reference3Ideal.Read.val_main_v117_eq _).trans ((Cert.Reference3Ideal.Value.gradX' (G c)).ext (Cert.Kernel3Ideal.Value.at17_v22_1 m g c (p c) (hp c)))),
    r11.trans ((Cert.Reference3Ideal.Read.val_main_v118_eq _).trans ((Cert.Reference3Ideal.Value.gradGain (G c)).ext (Cert.Kernel3Ideal.Value.at17_v22_2 m g c (p c) (hp c)))), rest⟩

/-- So does the reference of a mixing layer's ends. -/
theorem referenceFrame4 (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0) :=
  (θ_run _ _ _).mono (fun r h => ⟨fun c => (h c).2.2.2.2.2.2.2.2.2, sem_eq_zero_of_no_sems (by decide) r.2⟩) (Cert.Reference4Ideal.Value.run (F := Ideal) m g)

/-- The two programs of a mixing layer's ends end with the same results. -/
theorem algebraic4 : Cert.algebraic_Kernel4Ideal_Reference4Ideal := by
  intro m g m' g' _ hargs
  let p : Dev Cert.Kernel4Ideal.nD → Cert.Ext.Mixing := fun c =>
    ⟨Cert.Ext.fun2 (n := 4096) (m := 1024) (m ((c.tc : Thread Cert.Kernel4Ideal.nD Cert.Kernel4Ideal.τ).loc Cert.Kernel4Ideal.main_arg0)),
     Cert.Ext.fun1 (n := 1024) (m ((c.tc : Thread Cert.Kernel4Ideal.nD Cert.Kernel4Ideal.τ).loc Cert.Kernel4Ideal.main_arg1)),
     Cert.Ext.fun2 (n := 1024) (m := 2080) (m ((c.tc : Thread Cert.Kernel4Ideal.nD Cert.Kernel4Ideal.τ).loc Cert.Kernel4Ideal.main_arg2)),
     Cert.Ext.fun2 (n := 4096) (m := 512) (m ((c.tc : Thread Cert.Kernel4Ideal.nD Cert.Kernel4Ideal.τ).loc Cert.Kernel4Ideal.main_arg3)),
     Cert.Ext.fun2 (n := 4096) (m := 512) (m ((c.tc : Thread Cert.Kernel4Ideal.nD Cert.Kernel4Ideal.τ).loc Cert.Kernel4Ideal.main_arg4)),
     Cert.Ext.fun2 (n := 1024) (m := 1024) (m ((c.tc : Thread Cert.Kernel4Ideal.nD Cert.Kernel4Ideal.τ).loc Cert.Kernel4Ideal.main_arg5)),
     Cert.Ext.fun2 (n := 4096) (m := 2080) (m ((c.tc : Thread Cert.Kernel4Ideal.nD Cert.Kernel4Ideal.τ).loc Cert.Kernel4Ideal.main_arg6)),
     Cert.Ext.fun2 (n := 4096) (m := 1024) (m ((c.tc : Thread Cert.Kernel4Ideal.nD Cert.Kernel4Ideal.τ).loc Cert.Kernel4Ideal.main_arg7))⟩
  have hp : ∀ c, Cert.Kernel4Ideal.Value.Launched m c (p c) := fun c =>
    ⟨Cert.Ext.is_fun2 _, Cert.Ext.is_fun1 _, Cert.Ext.is_fun2 _, Cert.Ext.is_fun2 _, Cert.Ext.is_fun2 _, Cert.Ext.is_fun2 _, Cert.Ext.is_fun2 _, Cert.Ext.is_fun2 _⟩
  have G : ∀ c : Dev Cert.Kernel4Ideal.nD, Cert.Reference4Ideal.Value.Given (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1))
      (m' ((c.tc : Thread Cert.Reference4Ideal.nD Cert.Reference4Ideal.τ).loc Cert.Reference4Ideal.main_arg2))
      (m' ((c.tc : Thread Cert.Reference4Ideal.nD Cert.Reference4Ideal.τ).loc Cert.Reference4Ideal.main_arg3))
      (m' ((c.tc : Thread Cert.Reference4Ideal.nD Cert.Reference4Ideal.τ).loc Cert.Reference4Ideal.main_arg4))
      (m' ((c.tc : Thread Cert.Reference4Ideal.nD Cert.Reference4Ideal.τ).loc Cert.Reference4Ideal.main_arg5))
      (m' ((c.tc : Thread Cert.Reference4Ideal.nD Cert.Reference4Ideal.τ).loc Cert.Reference4Ideal.main_arg6))
      (m' ((c.tc : Thread Cert.Reference4Ideal.nD Cert.Reference4Ideal.τ).loc Cert.Reference4Ideal.main_arg7)) (p c) := fun c => by
    obtain ⟨e0, e1, e2, e3, e4, e5, e6, e7⟩ := hargs c
    obtain ⟨h0, h1, h2, h3, h4, h5, h6, h7⟩ := hp c
    exact ⟨fun i => (congrFun e0 i).trans (h0 i), fun i => (congrFun e1 i).trans (h1 i), fun i => (congrFun e2 i).trans (h2 i), fun i => (congrFun e3 i).trans (h3 i), fun i => (congrFun e4 i).trans (h4 i), fun i => (congrFun e5 i).trans (h5 i), fun i => (congrFun e6 i).trans (h6 i), fun i => (congrFun e7 i).trans (h7 i)⟩
  refine ⟨fun c => Cert.Kernel4Ideal.Gen.W17 m g c (Proc.devRef .tc Cert.Kernel4Ideal.main_v32),
    fun c => Cert.Kernel4Ideal.Gen.W17 m g c (Proc.devRef .tc Cert.Kernel4Ideal.main_v36),
    fun c => Cert.Kernel4Ideal.Gen.W17 m g c (Proc.devRef .tc Cert.Kernel4Ideal.main_v37),
    fun c => Cert.Kernel4Ideal.Gen.W17 m g c (Proc.devRef .tc Cert.Kernel4Ideal.main_v38),
    fun c => Cert.Kernel4Ideal.Gen.W17 m g c (Proc.devRef .tc Cert.Kernel4Ideal.main_v39),
    fun c => Cert.Kernel4Ideal.Gen.W17 m g c (Proc.devRef .tc Cert.Kernel4Ideal.main_v41),
    fun c => Cert.Kernel4Ideal.Gen.W17 m g c (Proc.devRef .tc Cert.Kernel4Ideal.main_v42_0),
    fun c => Cert.Kernel4Ideal.Gen.W17 m g c (Proc.devRef .tc Cert.Kernel4Ideal.main_v42_1),
    fun c => Cert.Kernel4Ideal.Gen.W17 m g c (Proc.devRef .tc Cert.Kernel4Ideal.main_v42_2),
    Cert.Kernel4Ideal.Value.run (F := Ideal) m g, (θ_run _ _ _).mono (fun r h c => ?_) (Cert.Reference4Ideal.Value.run (F := Ideal) m' g')⟩
  obtain ⟨r0, r1, r2, r3, r4, r5, r6, r7, r8, rest⟩ := h c
  exact ⟨r0.trans ((Cert.Reference4Ideal.Read.val_main_v55_eq _ _ _).trans ((Cert.Reference4Ideal.Value.projParts (G c)).ext (Cert.Kernel4Ideal.Value.at17_v32 m g c (p c) (hp c)))),
    r1.trans ((Cert.Reference4Ideal.Read.val_main_v19_eq _ _ _ _).trans ((Cert.Reference4Ideal.Value.output (G c)).ext (Cert.Kernel4Ideal.Value.at17_v36 m g c (p c) (hp c)))),
    r2.trans ((Cert.Reference4Ideal.Read.val_main_v59_eq _ _).trans ((Cert.Reference4Ideal.Value.gradMix (G c)).ext (Cert.Kernel4Ideal.Value.at17_v37 m g c (p c) (hp c)))),
    r3.trans ((Cert.Reference4Ideal.Read.val_main_v66_eq _ _ _).trans ((Cert.Reference4Ideal.Value.gradOa (G c)).ext (Cert.Kernel4Ideal.Value.at17_v38 m g c (p c) (hp c)))),
    r4.trans ((Cert.Reference4Ideal.Read.val_main_v68_eq _ _ _).trans ((Cert.Reference4Ideal.Value.gradOb (G c)).ext (Cert.Kernel4Ideal.Value.at17_v39 m g c (p c) (hp c)))),
    r5.trans ((Cert.Reference4Ideal.Read.val_main_v76_eq _ _ _).trans ((Cert.Reference4Ideal.Value.gradWParts (G c)).ext (Cert.Kernel4Ideal.Value.at17_v41 m g c (p c) (hp c)))),
    r6.trans ((Cert.Reference4Ideal.Read.val_main_v49_eq _ _).trans ((Cert.Reference4Ideal.Value.gradX (G c)).ext (Cert.Kernel4Ideal.Value.at17_v42_0 m g c (p c) (hp c)))),
    r7.trans ((Cert.Reference4Ideal.Read.val_main_v77_eq _ _).trans ((Cert.Reference4Ideal.Value.gradX' (G c)).ext (Cert.Kernel4Ideal.Value.at17_v42_1 m g c (p c) (hp c)))),
    r8.trans ((Cert.Reference4Ideal.Read.val_main_v78_eq _ _ _).trans ((Cert.Reference4Ideal.Value.gradGain (G c)).ext (Cert.Kernel4Ideal.Value.at17_v42_2 m g c (p c) (hp c)))), rest⟩

/-- The reference of the products behind the latents leaves its arguments and its semaphores as launched. -/
theorem referenceFrame5 (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0) :=
  (θ_run _ _ _).mono (fun r h => ⟨fun c => (h c).2.2.2.2.2.2, sem_eq_zero_of_no_sems (by decide) r.2⟩) (Cert.Reference5Ideal.Value.run (F := Ideal) m g)

/-- The two programs of the products behind the latents end with the same results. -/
theorem algebraic5 : Cert.algebraic_Kernel5Ideal_Reference5Ideal := by
  intro m g m' g' _ hargs
  let p : Dev Cert.Kernel5Ideal.nD → Cert.Ext.Latents := fun c =>
    ⟨Cert.Ext.fun2 (n := 4096) (m := 256) (m ((c.tc : Thread Cert.Kernel5Ideal.nD Cert.Kernel5Ideal.τ).loc Cert.Kernel5Ideal.main_arg0)),
     Cert.Ext.fun2 (n := 4096) (m := 256) (m ((c.tc : Thread Cert.Kernel5Ideal.nD Cert.Kernel5Ideal.τ).loc Cert.Kernel5Ideal.main_arg1)),
     Cert.Ext.fun2 (n := 256) (m := 768) (m ((c.tc : Thread Cert.Kernel5Ideal.nD Cert.Kernel5Ideal.τ).loc Cert.Kernel5Ideal.main_arg2)),
     Cert.Ext.fun2 (n := 256) (m := 1024) (m ((c.tc : Thread Cert.Kernel5Ideal.nD Cert.Kernel5Ideal.τ).loc Cert.Kernel5Ideal.main_arg3)),
     Cert.Ext.fun2 (n := 4096) (m := 768) (m ((c.tc : Thread Cert.Kernel5Ideal.nD Cert.Kernel5Ideal.τ).loc Cert.Kernel5Ideal.main_arg4)),
     Cert.Ext.fun2 (n := 4096) (m := 1024) (m ((c.tc : Thread Cert.Kernel5Ideal.nD Cert.Kernel5Ideal.τ).loc Cert.Kernel5Ideal.main_arg5))⟩
  have hp : ∀ c, Cert.Kernel5Ideal.Value.Launched m c (p c) := fun c =>
    ⟨Cert.Ext.is_fun2 _, Cert.Ext.is_fun2 _, Cert.Ext.is_fun2 _, Cert.Ext.is_fun2 _, Cert.Ext.is_fun2 _, Cert.Ext.is_fun2 _⟩
  have G : ∀ c : Dev Cert.Kernel5Ideal.nD, Cert.Reference5Ideal.Value.Given (m' ((c.tc : Thread Cert.Reference5Ideal.nD Cert.Reference5Ideal.τ).loc Cert.Reference5Ideal.main_arg0))
      (m' ((c.tc : Thread Cert.Reference5Ideal.nD Cert.Reference5Ideal.τ).loc Cert.Reference5Ideal.main_arg1))
      (m' ((c.tc : Thread Cert.Reference5Ideal.nD Cert.Reference5Ideal.τ).loc Cert.Reference5Ideal.main_arg2))
      (m' ((c.tc : Thread Cert.Reference5Ideal.nD Cert.Reference5Ideal.τ).loc Cert.Reference5Ideal.main_arg3))
      (m' ((c.tc : Thread Cert.Reference5Ideal.nD Cert.Reference5Ideal.τ).loc Cert.Reference5Ideal.main_arg4))
      (m' ((c.tc : Thread Cert.Reference5Ideal.nD Cert.Reference5Ideal.τ).loc Cert.Reference5Ideal.main_arg5)) (p c) := fun c => by
    obtain ⟨e0, e1, e2, e3, e4, e5⟩ := hargs c
    obtain ⟨h0, h1, h2, h3, h4, h5⟩ := hp c
    exact ⟨fun i => (congrFun e0 i).trans (h0 i), fun i => (congrFun e1 i).trans (h1 i), fun i => (congrFun e2 i).trans (h2 i), fun i => (congrFun e3 i).trans (h3 i), fun i => (congrFun e4 i).trans (h4 i), fun i => (congrFun e5 i).trans (h5 i)⟩
  refine ⟨fun c => Cert.Kernel5Ideal.Gen.W11 m g c (Proc.devRef .tc Cert.Kernel5Ideal.main_v14),
    fun c => Cert.Kernel5Ideal.Gen.W11 m g c (Proc.devRef .tc Cert.Kernel5Ideal.main_v15),
    fun c => Cert.Kernel5Ideal.Gen.W11 m g c (Proc.devRef .tc Cert.Kernel5Ideal.main_v16),
    fun c => Cert.Kernel5Ideal.Gen.W11 m g c (Proc.devRef .tc Cert.Kernel5Ideal.main_v17),
    fun c => Cert.Kernel5Ideal.Gen.W11 m g c (Proc.devRef .tc Cert.Kernel5Ideal.main_v18),
    fun c => Cert.Kernel5Ideal.Gen.W11 m g c (Proc.devRef .tc Cert.Kernel5Ideal.main_v19),
    Cert.Kernel5Ideal.Value.run (F := Ideal) m g, (θ_run _ _ _).mono (fun r h c => ?_) (Cert.Reference5Ideal.Value.run (F := Ideal) m' g')⟩
  obtain ⟨r0, r1, r2, r3, r4, r5, rest⟩ := h c
  exact ⟨r0.trans ((Cert.Reference5Ideal.Read.val_main_v10_eq _ _).trans ((Cert.Reference5Ideal.Value.queries (G c)).ext (Cert.Kernel5Ideal.Value.at11_v14 m g c (p c) (hp c)))),
    r1.trans ((Cert.Reference5Ideal.Read.val_main_v1_eq _ _).trans ((Cert.Reference5Ideal.Value.keysValues (G c)).ext (Cert.Kernel5Ideal.Value.at11_v15 m g c (p c) (hp c)))),
    r2.trans ((Cert.Reference5Ideal.Read.val_main_v7_eq _ _).trans ((Cert.Reference5Ideal.Value.gradC (G c)).ext (Cert.Kernel5Ideal.Value.at11_v16 m g c (p c) (hp c)))),
    r3.trans ((Cert.Reference5Ideal.Read.val_main_v15_eq _ _).trans ((Cert.Reference5Ideal.Value.gradU (G c)).ext (Cert.Kernel5Ideal.Value.at11_v17 m g c (p c) (hp c)))),
    r4.trans ((Cert.Reference5Ideal.Read.val_main_v4_eq _ _).trans ((Cert.Reference5Ideal.Value.gradV (G c)).ext (Cert.Kernel5Ideal.Value.at11_v18 m g c (p c) (hp c)))),
    r5.trans ((Cert.Reference5Ideal.Read.val_main_v17_eq _ _).trans ((Cert.Reference5Ideal.Value.gradK (G c)).ext (Cert.Kernel5Ideal.Value.at11_v19 m g c (p c) (hp c)))), rest⟩

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Finite.facts, Cert.Pre_finite2.Gen.facts, Cert.Pre_finite3.Gen.facts,
  fun m ρ _ => Cert.Kernel.Gen.frame m ρ, fun m ρ _ => Cert.KernelIdeal.Gen.frame m ρ, fun m ρ _ => Cert.KernelIdeal.Gen.frame m ρ,
  fun m ρ _ => referenceFrame m ρ, fun m ρ _ => referenceFrame m ρ,
  fun m ρ _ => Cert.Kernel2.Gen.frame m ρ, fun m ρ _ => Cert.Kernel2Ideal.Gen.frame m ρ, fun m ρ _ => Cert.Kernel2Ideal.Gen.frame m ρ,
  fun m ρ _ => referenceFrame2 m ρ, fun m ρ _ => referenceFrame2 m ρ,
  fun m ρ _ => Cert.Kernel3.Gen.frame m ρ, fun m ρ _ => Cert.Kernel3Ideal.Gen.frame m ρ, fun m ρ _ => Cert.Kernel3Ideal.Gen.frame m ρ,
  fun m ρ _ => referenceFrame3 m ρ, fun m ρ _ => referenceFrame3 m ρ,
  fun m ρ _ => Cert.Kernel4.Gen.frame m ρ, fun m ρ _ => Cert.Kernel4Ideal.Gen.frame m ρ, fun m ρ _ => referenceFrame4 m ρ,
  fun m ρ _ => Cert.Kernel5.Gen.frame m ρ, fun m ρ _ => Cert.Kernel5Ideal.Gen.frame m ρ, fun m ρ _ => referenceFrame5 m ρ, trivial, algebraic, preserves2, algebraic2, preserves3, algebraic3,
  trivial, algebraic4, trivial, algebraic5⟩

end Cert.Proof

end
